-- ==== Defs.lean ====
def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxIdeal_up_dx_finite [hPre_up_dx_finite : Cert.Pre_up_dx_finite.Facts] (m : (ℓ : Loc Cert.UpDxIdeal.nD Cert.UpDxIdeal.τ Cert.UpDxIdeal.sig) → Buf (Elt Ideal) ℓ) : Prop :=
  ∀ c : Dev Cert.UpDxIdeal.nD,
    (Cert.Pre_up_dx_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).1 = (fun _ => 1#1)
    ∧ (Cert.Pre_up_dx_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.1 = (fun _ => 1#1)
    ∧ (Cert.Pre_up_dx_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.2.1 = (fun _ => 1#1)
    ∧ (Cert.Pre_up_dx_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.2.2 = (fun _ => 1#1)

def Pre_UpDxRefIdeal (m : (ℓ : Loc Cert.UpDxRefIdeal.nD Cert.UpDxRefIdeal.τ Cert.UpDxRefIdeal.sig) → Buf (Elt Ideal) ℓ) : Prop :=
  True

def Pre_UpDxRefIdeal_up_dx_finite [hPre_up_dx_finite : Cert.Pre_up_dx_finite.Facts] (m : (ℓ : Loc Cert.UpDxRefIdeal.nD Cert.UpDxRefIdeal.τ Cert.UpDxRefIdeal.sig) → Buf (Elt Ideal) ℓ) : Prop :=
  ∀ c : Dev Cert.UpDxRefIdeal.nD,
    (Cert.Pre_up_dx_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).1 = (fun _ => 1#1)
    ∧ (Cert.Pre_up_dx_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.1 = (fun _ => 1#1)
    ∧ (Cert.Pre_up_dx_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.2.1 = (fun _ => 1#1)
    ∧ (Cert.Pre_up_dx_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.2.2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_in_dx_finite [hPre_in_dx_finite : Cert.Pre_in_dx_finite.Facts] (m : (ℓ : Loc Cert.InDxIdeal.nD Cert.InDxIdeal.τ Cert.InDxIdeal.sig) → Buf (Elt Ideal) ℓ) : Prop :=
  ∀ c : Dev Cert.InDxIdeal.nD,
    (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.2 = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_in_dx_finite [hPre_in_dx_finite : Cert.Pre_in_dx_finite.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).1 = (fun _ => 1#1)
    ∧ (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.1 = (fun _ => 1#1)
    ∧ (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.1 = (fun _ => 1#1)
    ∧ (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Gm (m : (ℓ : Loc Cert.Gm.nD Cert.Gm.τ Cert.Gm.sig) → Buf (Elt Bits) ℓ) : Prop :=
  True

def Pre_GmIdeal (m : (ℓ : Loc Cert.GmIdeal.nD Cert.GmIdeal.τ Cert.GmIdeal.sig) → Buf (Elt Ideal) ℓ) : Prop :=
  True

def Pre_GmIdeal_gm_finite [hPre_gm_finite : Cert.Pre_gm_finite.Facts] (m : (ℓ : Loc Cert.GmIdeal.nD Cert.GmIdeal.τ Cert.GmIdeal.sig) → Buf (Elt Ideal) ℓ) : Prop :=
  ∀ c : Dev Cert.GmIdeal.nD,
    (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).1 = (fun _ => 1#1)
    ∧ (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.1 = (fun _ => 1#1)
    ∧ (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.1 = (fun _ => 1#1)
    ∧ (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.1 = (fun _ => 1#1)
    ∧ (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.2.1 = (fun _ => 1#1)
    ∧ (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.2.2.1 = (fun _ => 1#1)
    ∧ (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.2.2.2 = (fun _ => 1#1)

def Pre_GmRefIdeal (m : (ℓ : Loc Cert.GmRefIdeal.nD Cert.GmRefIdeal.τ Cert.GmRefIdeal.sig) → Buf (Elt Ideal) ℓ) : Prop :=
  True

def Pre_GmRefIdeal_gm_finite [hPre_gm_finite : Cert.Pre_gm_finite.Facts] (m : (ℓ : Loc Cert.GmRefIdeal.nD Cert.GmRefIdeal.τ Cert.GmRefIdeal.sig) → Buf (Elt Ideal) ℓ) : Prop :=
  ∀ c : Dev Cert.GmRefIdeal.nD,
    (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))).1 = (fun _ => 1#1)
    ∧ (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))).2.1 = (fun _ => 1#1)
    ∧ (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))).2.2.1 = (fun _ => 1#1)
    ∧ (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))).2.2.2.1 = (fun _ => 1#1)
    ∧ (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))).2.2.2.2.1 = (fun _ => 1#1)
    ∧ (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))).2.2.2.2.2.1 = (fun _ => 1#1)
    ∧ (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_GmFwd (m : (ℓ : Loc Cert.GmFwd.nD Cert.GmFwd.τ Cert.GmFwd.sig) → Buf (Elt Bits) ℓ) : Prop :=
  True

def Pre_GmFwdIdeal (m : (ℓ : Loc Cert.GmFwdIdeal.nD Cert.GmFwdIdeal.τ Cert.GmFwdIdeal.sig) → Buf (Elt Ideal) ℓ) : Prop :=
  True

def Pre_GmFwdRefIdeal (m : (ℓ : Loc Cert.GmFwdRefIdeal.nD Cert.GmFwdRefIdeal.τ Cert.GmFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxIdeal_pre_up_dx_finite [hUpDxIdeal : Cert.UpDxIdeal.Facts] [hPre_up_dx_finite : Cert.Pre_up_dx_finite.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal_up_dx_finite m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_UpDxRefIdeal_pre_up_dx_finite [hUpDxRefIdeal : Cert.UpDxRefIdeal.Facts] [hPre_up_dx_finite : Cert.Pre_up_dx_finite.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal_up_dx_finite m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_in_dx_finite [hInDxIdeal : Cert.InDxIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_in_dx_finite m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_in_dx_finite [hInDxRefIdeal : Cert.InDxRefIdeal.Facts] [hPre_in_dx_finite : Cert.Pre_in_dx_finite.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_in_dx_finite m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Gm [hGm : Cert.Gm.Facts] : Prop :=
  ∀ (m : (ℓ : Loc Cert.Gm.nD Cert.Gm.τ Cert.Gm.sig) → Buf (Elt Bits) ℓ) (g : Dev Cert.Gm.nD → PrngReg), Pre_Gm m →
    θ_run (Cert.Gm.defs (F := Bits)) (onTc (τ := Cert.Gm.τ) (Cert.Gm.main (F := Bits))) ⟨m, fun _ => 0, g⟩ (fun r => (∀ c : Dev Cert.Gm.nD,
      r.2.mem ((c.tc : Thread Cert.Gm.nD Cert.Gm.τ).loc Cert.Gm.main_arg0) = m ((c.tc : Thread Cert.Gm.nD Cert.Gm.τ).loc Cert.Gm.main_arg0)
      ∧ r.2.mem ((c.tc : Thread Cert.Gm.nD Cert.Gm.τ).loc Cert.Gm.main_arg1) = m ((c.tc : Thread Cert.Gm.nD Cert.Gm.τ).loc Cert.Gm.main_arg1)
      ∧ r.2.mem ((c.tc : Thread Cert.Gm.nD Cert.Gm.τ).loc Cert.Gm.main_arg2) = m ((c.tc : Thread Cert.Gm.nD Cert.Gm.τ).loc Cert.Gm.main_arg2)
      ∧ r.2.mem ((c.tc : Thread Cert.Gm.nD Cert.Gm.τ).loc Cert.Gm.main_arg3) = m ((c.tc : Thread Cert.Gm.nD Cert.Gm.τ).loc Cert.Gm.main_arg3)
      ∧ r.2.mem ((c.tc : Thread Cert.Gm.nD Cert.Gm.τ).loc Cert.Gm.main_arg4) = m ((c.tc : Thread Cert.Gm.nD Cert.Gm.τ).loc Cert.Gm.main_arg4)
      ∧ r.2.mem ((c.tc : Thread Cert.Gm.nD Cert.Gm.τ).loc Cert.Gm.main_arg5) = m ((c.tc : Thread Cert.Gm.nD Cert.Gm.τ).loc Cert.Gm.main_arg5)
      ∧ r.2.mem ((c.tc : Thread Cert.Gm.nD Cert.Gm.τ).loc Cert.Gm.main_arg6) = m ((c.tc : Thread Cert.Gm.nD Cert.Gm.τ).loc Cert.Gm.main_arg6))
      ∧ r.2.sem = fun _ => 0)

def quiescent_GmIdeal [hGmIdeal : Cert.GmIdeal.Facts] : Prop :=
  ∀ (m : (ℓ : Loc Cert.GmIdeal.nD Cert.GmIdeal.τ Cert.GmIdeal.sig) → Buf (Elt Ideal) ℓ) (g : Dev Cert.GmIdeal.nD → PrngReg), Pre_GmIdeal m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5)
      ∧ r.2.mem ((c.tc : Thread Cert.GmIdeal.nD Cert.GmIdeal.τ).loc Cert.GmIdeal.main_arg6) = m ((c.tc : Thread Cert.GmIdeal.nD Cert.GmIdeal.τ).loc Cert.GmIdeal.main_arg6))
      ∧ r.2.sem = fun _ => 0)

def quiescent_GmIdeal_pre_gm_finite [hGmIdeal : Cert.GmIdeal.Facts] [hPre_gm_finite : Cert.Pre_gm_finite.Facts] : Prop :=
  ∀ (m : (ℓ : Loc Cert.GmIdeal.nD Cert.GmIdeal.τ Cert.GmIdeal.sig) → Buf (Elt Ideal) ℓ) (g : Dev Cert.GmIdeal.nD → PrngReg), Pre_GmIdeal_gm_finite m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5)
      ∧ r.2.mem ((c.tc : Thread Cert.GmIdeal.nD Cert.GmIdeal.τ).loc Cert.GmIdeal.main_arg6) = m ((c.tc : Thread Cert.GmIdeal.nD Cert.GmIdeal.τ).loc Cert.GmIdeal.main_arg6))
      ∧ r.2.sem = fun _ => 0)

def quiescent_GmRefIdeal [hGmRefIdeal : Cert.GmRefIdeal.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5)
      ∧ r.2.mem ((c.tc : Thread Cert.GmRefIdeal.nD Cert.GmRefIdeal.τ).loc Cert.GmRefIdeal.main_arg6) = m ((c.tc : Thread Cert.GmRefIdeal.nD Cert.GmRefIdeal.τ).loc Cert.GmRefIdeal.main_arg6))
      ∧ r.2.sem = fun _ => 0)

def quiescent_GmRefIdeal_pre_gm_finite [hGmRefIdeal : Cert.GmRefIdeal.Facts] [hPre_gm_finite : Cert.Pre_gm_finite.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal_gm_finite m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5)
      ∧ r.2.mem ((c.tc : Thread Cert.GmRefIdeal.nD Cert.GmRefIdeal.τ).loc Cert.GmRefIdeal.main_arg6) = m ((c.tc : Thread Cert.GmRefIdeal.nD Cert.GmRefIdeal.τ).loc Cert.GmRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_GmFwd [hGmFwd : Cert.GmFwd.Facts] : Prop :=
  ∀ (m : (ℓ : Loc Cert.GmFwd.nD Cert.GmFwd.τ Cert.GmFwd.sig) → Buf (Elt Bits) ℓ) (g : Dev Cert.GmFwd.nD → PrngReg), Pre_GmFwd m →
    θ_run (Cert.GmFwd.defs (F := Bits)) (onTc (τ := Cert.GmFwd.τ) (Cert.GmFwd.main (F := Bits))) ⟨m, fun _ => 0, g⟩ (fun r => (∀ c : Dev Cert.GmFwd.nD,
      r.2.mem ((c.tc : Thread Cert.GmFwd.nD Cert.GmFwd.τ).loc Cert.GmFwd.main_arg0) = m ((c.tc : Thread Cert.GmFwd.nD Cert.GmFwd.τ).loc Cert.GmFwd.main_arg0)
      ∧ r.2.mem ((c.tc : Thread Cert.GmFwd.nD Cert.GmFwd.τ).loc Cert.GmFwd.main_arg1) = m ((c.tc : Thread Cert.GmFwd.nD Cert.GmFwd.τ).loc Cert.GmFwd.main_arg1)
      ∧ r.2.mem ((c.tc : Thread Cert.GmFwd.nD Cert.GmFwd.τ).loc Cert.GmFwd.main_arg2) = m ((c.tc : Thread Cert.GmFwd.nD Cert.GmFwd.τ).loc Cert.GmFwd.main_arg2)
      ∧ r.2.mem ((c.tc : Thread Cert.GmFwd.nD Cert.GmFwd.τ).loc Cert.GmFwd.main_arg3) = m ((c.tc : Thread Cert.GmFwd.nD Cert.GmFwd.τ).loc Cert.GmFwd.main_arg3)
      ∧ r.2.mem ((c.tc : Thread Cert.GmFwd.nD Cert.GmFwd.τ).loc Cert.GmFwd.main_arg4) = m ((c.tc : Thread Cert.GmFwd.nD Cert.GmFwd.τ).loc Cert.GmFwd.main_arg4)
      ∧ r.2.mem ((c.tc : Thread Cert.GmFwd.nD Cert.GmFwd.τ).loc Cert.GmFwd.main_arg5) = m ((c.tc : Thread Cert.GmFwd.nD Cert.GmFwd.τ).loc Cert.GmFwd.main_arg5))
      ∧ r.2.sem = fun _ => 0)

def quiescent_GmFwdIdeal [hGmFwdIdeal : Cert.GmFwdIdeal.Facts] : Prop :=
  ∀ (m : (ℓ : Loc Cert.GmFwdIdeal.nD Cert.GmFwdIdeal.τ Cert.GmFwdIdeal.sig) → Buf (Elt Ideal) ℓ) (g : Dev Cert.GmFwdIdeal.nD → PrngReg), Pre_GmFwdIdeal m →
    θ_run (Cert.GmFwdIdeal.defs (F := Ideal)) (onTc (τ := Cert.GmFwdIdeal.τ) (Cert.GmFwdIdeal.main (F := Ideal))) ⟨m, fun _ => 0, g⟩ (fun r => (∀ c : Dev Cert.GmFwdIdeal.nD,
      r.2.mem ((c.tc : Thread Cert.GmFwdIdeal.nD Cert.GmFwdIdeal.τ).loc Cert.GmFwdIdeal.main_arg0) = m ((c.tc : Thread Cert.GmFwdIdeal.nD Cert.GmFwdIdeal.τ).loc Cert.GmFwdIdeal.main_arg0)
      ∧ r.2.mem ((c.tc : Thread Cert.GmFwdIdeal.nD Cert.GmFwdIdeal.τ).loc Cert.GmFwdIdeal.main_arg1) = m ((c.tc : Thread Cert.GmFwdIdeal.nD Cert.GmFwdIdeal.τ).loc Cert.GmFwdIdeal.main_arg1)
      ∧ r.2.mem ((c.tc : Thread Cert.GmFwdIdeal.nD Cert.GmFwdIdeal.τ).loc Cert.GmFwdIdeal.main_arg2) = m ((c.tc : Thread Cert.GmFwdIdeal.nD Cert.GmFwdIdeal.τ).loc Cert.GmFwdIdeal.main_arg2)
      ∧ r.2.mem ((c.tc : Thread Cert.GmFwdIdeal.nD Cert.GmFwdIdeal.τ).loc Cert.GmFwdIdeal.main_arg3) = m ((c.tc : Thread Cert.GmFwdIdeal.nD Cert.GmFwdIdeal.τ).loc Cert.GmFwdIdeal.main_arg3)
      ∧ r.2.mem ((c.tc : Thread Cert.GmFwdIdeal.nD Cert.GmFwdIdeal.τ).loc Cert.GmFwdIdeal.main_arg4) = m ((c.tc : Thread Cert.GmFwdIdeal.nD Cert.GmFwdIdeal.τ).loc Cert.GmFwdIdeal.main_arg4)
      ∧ r.2.mem ((c.tc : Thread Cert.GmFwdIdeal.nD Cert.GmFwdIdeal.τ).loc Cert.GmFwdIdeal.main_arg5) = m ((c.tc : Thread Cert.GmFwdIdeal.nD Cert.GmFwdIdeal.τ).loc Cert.GmFwdIdeal.main_arg5))
      ∧ r.2.sem = fun _ => 0)

def quiescent_GmFwdRefIdeal [hGmFwdRefIdeal : Cert.GmFwdRefIdeal.Facts] : Prop :=
  ∀ (m : (ℓ : Loc Cert.GmFwdRefIdeal.nD Cert.GmFwdRefIdeal.τ Cert.GmFwdRefIdeal.sig) → Buf (Elt Ideal) ℓ) (g : Dev Cert.GmFwdRefIdeal.nD → PrngReg), Pre_GmFwdRefIdeal m →
    θ_run (Cert.GmFwdRefIdeal.defs (F := Ideal)) (onTc (τ := Cert.GmFwdRefIdeal.τ) (Cert.GmFwdRefIdeal.main (F := Ideal))) ⟨m, fun _ => 0, g⟩ (fun r => (∀ c : Dev Cert.GmFwdRefIdeal.nD,
      r.2.mem ((c.tc : Thread Cert.GmFwdRefIdeal.nD Cert.GmFwdRefIdeal.τ).loc Cert.GmFwdRefIdeal.main_arg0) = m ((c.tc : Thread Cert.GmFwdRefIdeal.nD Cert.GmFwdRefIdeal.τ).loc Cert.GmFwdRefIdeal.main_arg0)
      ∧ r.2.mem ((c.tc : Thread Cert.GmFwdRefIdeal.nD Cert.GmFwdRefIdeal.τ).loc Cert.GmFwdRefIdeal.main_arg1) = m ((c.tc : Thread Cert.GmFwdRefIdeal.nD Cert.GmFwdRefIdeal.τ).loc Cert.GmFwdRefIdeal.main_arg1)
      ∧ r.2.mem ((c.tc : Thread Cert.GmFwdRefIdeal.nD Cert.GmFwdRefIdeal.τ).loc Cert.GmFwdRefIdeal.main_arg2) = m ((c.tc : Thread Cert.GmFwdRefIdeal.nD Cert.GmFwdRefIdeal.τ).loc Cert.GmFwdRefIdeal.main_arg2)
      ∧ r.2.mem ((c.tc : Thread Cert.GmFwdRefIdeal.nD Cert.GmFwdRefIdeal.τ).loc Cert.GmFwdRefIdeal.main_arg3) = m ((c.tc : Thread Cert.GmFwdRefIdeal.nD Cert.GmFwdRefIdeal.τ).loc Cert.GmFwdRefIdeal.main_arg3)
      ∧ r.2.mem ((c.tc : Thread Cert.GmFwdRefIdeal.nD Cert.GmFwdRefIdeal.τ).loc Cert.GmFwdRefIdeal.main_arg4) = m ((c.tc : Thread Cert.GmFwdRefIdeal.nD Cert.GmFwdRefIdeal.τ).loc Cert.GmFwdRefIdeal.main_arg4)
      ∧ r.2.mem ((c.tc : Thread Cert.GmFwdRefIdeal.nD Cert.GmFwdRefIdeal.τ).loc Cert.GmFwdRefIdeal.main_arg5) = m ((c.tc : Thread Cert.GmFwdRefIdeal.nD Cert.GmFwdRefIdeal.τ).loc Cert.GmFwdRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7)
      ∧ r.2.mem ((c.tc : Thread Cert.LruFwd.nD Cert.LruFwd.τ).loc Cert.LruFwd.main_arg8) = m ((c.tc : Thread Cert.LruFwd.nD Cert.LruFwd.τ).loc Cert.LruFwd.main_arg8))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7)
      ∧ r.2.mem ((c.tc : Thread Cert.LruFwdIdeal.nD Cert.LruFwdIdeal.τ).loc Cert.LruFwdIdeal.main_arg8) = m ((c.tc : Thread Cert.LruFwdIdeal.nD Cert.LruFwdIdeal.τ).loc Cert.LruFwdIdeal.main_arg8))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7)
      ∧ r.2.mem ((c.tc : Thread Cert.LruFwdRefIdeal.nD Cert.LruFwdRefIdeal.τ).loc Cert.LruFwdRefIdeal.main_arg8) = m ((c.tc : Thread Cert.LruFwdRefIdeal.nD Cert.LruFwdRefIdeal.τ).loc Cert.LruFwdRefIdeal.main_arg8))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def preserves_UpDx_UpDxIdeal : Prop :=
  True

def algebraic_UpDxIdeal_UpDxRefIdeal_pre_up_dx_finite [hUpDxIdeal : Cert.UpDxIdeal.Facts] [hUpDxRefIdeal : Cert.UpDxRefIdeal.Facts] [hPre_up_dx_finite : Cert.Pre_up_dx_finite.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal_up_dx_finite m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v7_0)) (v1 : (c : Dev Cert.UpDxIdeal.nD) → Buf (Elt Ideal) ((c.tc : Thread Cert.UpDxIdeal.nD Cert.UpDxIdeal.τ).loc Cert.UpDxIdeal.main_v7_1)) (v2 : (c : Dev Cert.UpDxIdeal.nD) → Buf (Elt Ideal) ((c.tc : Thread Cert.UpDxIdeal.nD Cert.UpDxIdeal.τ).loc Cert.UpDxIdeal.main_v7_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v7_0) = v0 c
          ∧ r.2.mem ((c.tc : Thread Cert.UpDxIdeal.nD Cert.UpDxIdeal.τ).loc Cert.UpDxIdeal.main_v7_1) = v1 c
          ∧ r.2.mem ((c.tc : Thread Cert.UpDxIdeal.nD Cert.UpDxIdeal.τ).loc Cert.UpDxIdeal.main_v7_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v40) = v0 c
          ∧ r.2.mem ((c.tc : Thread Cert.UpDxRefIdeal.nD Cert.UpDxRefIdeal.τ).loc Cert.UpDxRefIdeal.main_v42) = v1 c
          ∧ r.2.mem ((c.tc : Thread Cert.UpDxRefIdeal.nD Cert.UpDxRefIdeal.τ).loc Cert.UpDxRefIdeal.main_v41) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDx_InDxIdeal : Prop :=
  True

def algebraic_InDxIdeal_InDxRefIdeal_pre_in_dx_finite [hInDxIdeal : Cert.InDxIdeal.Facts] [hInDxRefIdeal : Cert.InDxRefIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_in_dx_finite m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v4_0)) (v1 : (c : Dev Cert.InDxIdeal.nD) → Buf (Elt Ideal) ((c.tc : Thread Cert.InDxIdeal.nD Cert.InDxIdeal.τ).loc Cert.InDxIdeal.main_v5)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v4_0) = v0 c
          ∧ r.2.mem ((c.tc : Thread Cert.InDxIdeal.nD Cert.InDxIdeal.τ).loc Cert.InDxIdeal.main_v5) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v40) = v0 c
          ∧ r.2.mem ((c.tc : Thread Cert.InDxRefIdeal.nD Cert.InDxRefIdeal.τ).loc Cert.InDxRefIdeal.main_v41) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v4_0)) (v1 : (c : Dev Cert.LossIdeal.nD) → Buf (Elt Ideal) ((c.tc : Thread Cert.LossIdeal.nD Cert.LossIdeal.τ).loc Cert.LossIdeal.main_v4_1)) (v2 : (c : Dev Cert.LossIdeal.nD) → Buf (Elt Ideal) ((c.tc : Thread Cert.LossIdeal.nD Cert.LossIdeal.τ).loc Cert.LossIdeal.main_v4_2)) (v3 : (c : Dev Cert.LossIdeal.nD) → Buf (Elt Ideal) ((c.tc : Thread Cert.LossIdeal.nD Cert.LossIdeal.τ).loc Cert.LossIdeal.main_v4_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4_0) = v0 c
          ∧ r.2.mem ((c.tc : Thread Cert.LossIdeal.nD Cert.LossIdeal.τ).loc Cert.LossIdeal.main_v4_1) = v1 c
          ∧ r.2.mem ((c.tc : Thread Cert.LossIdeal.nD Cert.LossIdeal.τ).loc Cert.LossIdeal.main_v4_2) = v2 c
          ∧ r.2.mem ((c.tc : Thread Cert.LossIdeal.nD Cert.LossIdeal.τ).loc Cert.LossIdeal.main_v4_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Gm_GmIdeal : Prop :=
  IdealRules.named_const.Statement Cert.GmIdeal.κ "root_cube" .f32 0x3D122279#32 (((6693141 / 8388608) * (12003091 / 268435456) : ℝ) : EReal)
  ∧ IdealRules.named_const.Statement Cert.GmIdeal.κ "six_root_cube" .f32 0x3E5B33B6#32 (((6 * (6693141 / 8388608)) * (12003091 / 268435456) : ℝ) : EReal)

def algebraic_GmIdeal_GmRefIdeal_on_gm_written_pre_gm_finite [hGmIdeal : Cert.GmIdeal.Facts] [hGmRefIdeal : Cert.GmRefIdeal.Facts] [hPre_gm_finite : Cert.Pre_gm_finite.Facts] [hOn_gm_written : Cert.On_gm_written.Facts] : Prop :=
  ∀ (m : (ℓ : Loc Cert.GmIdeal.nD Cert.GmIdeal.τ Cert.GmIdeal.sig) → Buf (Elt Ideal) ℓ) (g : Dev Cert.GmIdeal.nD → PrngReg)
    (m' : (ℓ : Loc Cert.GmRefIdeal.nD Cert.GmRefIdeal.τ Cert.GmRefIdeal.sig) → Buf (Elt Ideal) ℓ) (g' : Dev Cert.GmRefIdeal.nD → PrngReg), Pre_GmIdeal_gm_finite m →
    (∀ c : Dev Cert.GmIdeal.nD,
      m' ((c.tc : Thread Cert.GmRefIdeal.nD Cert.GmRefIdeal.τ).loc Cert.GmRefIdeal.main_arg0) = m ((c.tc : Thread Cert.GmIdeal.nD Cert.GmIdeal.τ).loc Cert.GmIdeal.main_arg0)
      ∧ m' ((c.tc : Thread Cert.GmRefIdeal.nD Cert.GmRefIdeal.τ).loc Cert.GmRefIdeal.main_arg1) = m ((c.tc : Thread Cert.GmIdeal.nD Cert.GmIdeal.τ).loc Cert.GmIdeal.main_arg1)
      ∧ m' ((c.tc : Thread Cert.GmRefIdeal.nD Cert.GmRefIdeal.τ).loc Cert.GmRefIdeal.main_arg2) = m ((c.tc : Thread Cert.GmIdeal.nD Cert.GmIdeal.τ).loc Cert.GmIdeal.main_arg2)
      ∧ m' ((c.tc : Thread Cert.GmRefIdeal.nD Cert.GmRefIdeal.τ).loc Cert.GmRefIdeal.main_arg3) = m ((c.tc : Thread Cert.GmIdeal.nD Cert.GmIdeal.τ).loc Cert.GmIdeal.main_arg3)
      ∧ m' ((c.tc : Thread Cert.GmRefIdeal.nD Cert.GmRefIdeal.τ).loc Cert.GmRefIdeal.main_arg4) = m ((c.tc : Thread Cert.GmIdeal.nD Cert.GmIdeal.τ).loc Cert.GmIdeal.main_arg4)
      ∧ m' ((c.tc : Thread Cert.GmRefIdeal.nD Cert.GmRefIdeal.τ).loc Cert.GmRefIdeal.main_arg5) = m ((c.tc : Thread Cert.GmIdeal.nD Cert.GmIdeal.τ).loc Cert.GmIdeal.main_arg5)
      ∧ m' ((c.tc : Thread Cert.GmRefIdeal.nD Cert.GmRefIdeal.τ).loc Cert.GmRefIdeal.main_arg6) = m ((c.tc : Thread Cert.GmIdeal.nD Cert.GmIdeal.τ).loc Cert.GmIdeal.main_arg6)) →
    ∃ (v0 : (c : Dev Cert.GmIdeal.nD) → Buf (Elt Ideal) ((c.tc : Thread Cert.GmIdeal.nD Cert.GmIdeal.τ).loc Cert.GmIdeal.main_v4_0)) (v1 : (c : Dev Cert.GmIdeal.nD) → Buf (Elt Ideal) ((c.tc : Thread Cert.GmIdeal.nD Cert.GmIdeal.τ).loc Cert.GmIdeal.main_v4_1)) (v2 : (c : Dev Cert.GmIdeal.nD) → Buf (Elt Ideal) ((c.tc : Thread Cert.GmIdeal.nD Cert.GmIdeal.τ).loc Cert.GmIdeal.main_v4_2)) (v3 : (c : Dev Cert.GmIdeal.nD) → Buf (Elt Ideal) ((c.tc : Thread Cert.GmIdeal.nD Cert.GmIdeal.τ).loc Cert.GmIdeal.main_v4_3)) (v4 : (c : Dev Cert.GmIdeal.nD) → Buf (Elt Ideal) ((c.tc : Thread Cert.GmIdeal.nD Cert.GmIdeal.τ).loc Cert.GmIdeal.main_v4_4)) (v5 : (c : Dev Cert.GmIdeal.nD) → Buf (Elt Ideal) ((c.tc : Thread Cert.GmIdeal.nD Cert.GmIdeal.τ).loc Cert.GmIdeal.main_v4_5)),
      θ_run (Cert.GmIdeal.defs (F := Ideal)) (onTc (τ := Cert.GmIdeal.τ) (Cert.GmIdeal.main (F := Ideal))) ⟨m, fun _ => 0, g⟩ (fun r => ∀ c : Dev Cert.GmIdeal.nD,
          (∀ i : (⟨2, ![8192, 4096]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).1 i = 1#1 → r.2.mem ((c.tc : Thread Cert.GmIdeal.nD Cert.GmIdeal.τ).loc Cert.GmIdeal.main_v4_0) i = v0 c i)
          ∧ (∀ i : (⟨2, ![1, 1024]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.1 i = 1#1 → r.2.mem ((c.tc : Thread Cert.GmIdeal.nD Cert.GmIdeal.τ).loc Cert.GmIdeal.main_v4_1) i = v1 c i)
          ∧ (∀ i : (⟨2, ![1, 1024]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.1 i = 1#1 → r.2.mem ((c.tc : Thread Cert.GmIdeal.nD Cert.GmIdeal.τ).loc Cert.GmIdeal.main_v4_2) i = v2 c i)
          ∧ (∀ i : (⟨3, ![8, 128, 128]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.1 i = 1#1 → r.2.mem ((c.tc : Thread Cert.GmIdeal.nD Cert.GmIdeal.τ).loc Cert.GmIdeal.main_v4_3) i = v3 c i)
          ∧ (∀ i : (⟨3, ![8, 128, 128]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.2.1 i = 1#1 → r.2.mem ((c.tc : Thread Cert.GmIdeal.nD Cert.GmIdeal.τ).loc Cert.GmIdeal.main_v4_4) i = v4 c i)
          ∧ (∀ i : (⟨2, ![1, 1024]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.2.2 i = 1#1 → r.2.mem ((c.tc : Thread Cert.GmIdeal.nD Cert.GmIdeal.τ).loc Cert.GmIdeal.main_v4_5) i = v5 c i)
          ∧ r.2.mem ((c.tc : Thread Cert.GmIdeal.nD Cert.GmIdeal.τ).loc Cert.GmIdeal.main_arg0) = m ((c.tc : Thread Cert.GmIdeal.nD Cert.GmIdeal.τ).loc Cert.GmIdeal.main_arg0)
          ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
          ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
          ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
          ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
          ∧ r.2.mem ((c.tc : Thread Cert.GmIdeal.nD Cert.GmIdeal.τ).loc Cert.GmIdeal.main_arg5) = m ((c.tc : Thread Cert.GmIdeal.nD Cert.GmIdeal.τ).loc Cert.GmIdeal.main_arg5)
          ∧ r.2.mem ((c.tc : Thread Cert.GmIdeal.nD Cert.GmIdeal.τ).loc Cert.GmIdeal.main_arg6) = m ((c.tc : Thread Cert.GmIdeal.nD Cert.GmIdeal.τ).loc Cert.GmIdeal.main_arg6))
      ∧ θ_run (Cert.GmRefIdeal.defs (F := Ideal)) (onTc (τ := Cert.GmRefIdeal.τ) (Cert.GmRefIdeal.main (F := Ideal))) ⟨m', fun _ => 0, g'⟩ (fun r => ∀ c : Dev Cert.GmRefIdeal.nD,
          (∀ i : (⟨2, ![8192, 4096]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).1 i = 1#1 → r.2.mem ((c.tc : Thread Cert.GmRefIdeal.nD Cert.GmRefIdeal.τ).loc Cert.GmRefIdeal.main_v168) i = v0 c i)
          ∧ (∀ i : (⟨2, ![1, 1024]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.1 i = 1#1 → r.2.mem ((c.tc : Thread Cert.GmRefIdeal.nD Cert.GmRefIdeal.τ).loc Cert.GmRefIdeal.main_v152) i = v1 c i)
          ∧ (∀ i : (⟨2, ![1, 1024]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.1 i = 1#1 → r.2.mem ((c.tc : Thread Cert.GmRefIdeal.nD Cert.GmRefIdeal.τ).loc Cert.GmRefIdeal.main_v151) i = v2 c i)
          ∧ (∀ i : (⟨3, ![8, 128, 128]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.1 i = 1#1 → r.2.mem ((c.tc : Thread Cert.GmRefIdeal.nD Cert.GmRefIdeal.τ).loc Cert.GmRefIdeal.main_v169) i = v3 c i)
          ∧ (∀ i : (⟨3, ![8, 128, 128]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.2.1 i = 1#1 → r.2.mem ((c.tc : Thread Cert.GmRefIdeal.nD Cert.GmRefIdeal.τ).loc Cert.GmRefIdeal.main_v172) i = v4 c i)
          ∧ (∀ i : (⟨2, ![1, 1024]⟩ : Shape).Idx, (Cert.On_gm_written.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))).2.2.2.2.2 i = 1#1 → r.2.mem ((c.tc : Thread Cert.GmRefIdeal.nD Cert.GmRefIdeal.τ).loc Cert.GmRefIdeal.main_v104) i = v5 c i)
          ∧ r.2.mem ((c.tc : Thread Cert.GmRefIdeal.nD Cert.GmRefIdeal.τ).loc Cert.GmRefIdeal.main_arg0) = m' ((c.tc : Thread Cert.GmRefIdeal.nD Cert.GmRefIdeal.τ).loc Cert.GmRefIdeal.main_arg0)
          ∧ r.2.mem ((c.tc : Thread Cert.GmRefIdeal.nD Cert.GmRefIdeal.τ).loc Cert.GmRefIdeal.main_arg1) = m' ((c.tc : Thread Cert.GmRefIdeal.nD Cert.GmRefIdeal.τ).loc Cert.GmRefIdeal.main_arg1)
          ∧ r.2.mem ((c.tc : Thread Cert.GmRefIdeal.nD Cert.GmRefIdeal.τ).loc Cert.GmRefIdeal.main_arg2) = m' ((c.tc : Thread Cert.GmRefIdeal.nD Cert.GmRefIdeal.τ).loc Cert.GmRefIdeal.main_arg2)
          ∧ r.2.mem ((c.tc : Thread Cert.GmRefIdeal.nD Cert.GmRefIdeal.τ).loc Cert.GmRefIdeal.main_arg3) = m' ((c.tc : Thread Cert.GmRefIdeal.nD Cert.GmRefIdeal.τ).loc Cert.GmRefIdeal.main_arg3)
          ∧ r.2.mem ((c.tc : Thread Cert.GmRefIdeal.nD Cert.GmRefIdeal.τ).loc Cert.GmRefIdeal.main_arg4) = m' ((c.tc : Thread Cert.GmRefIdeal.nD Cert.GmRefIdeal.τ).loc Cert.GmRefIdeal.main_arg4)
          ∧ r.2.mem ((c.tc : Thread Cert.GmRefIdeal.nD Cert.GmRefIdeal.τ).loc Cert.GmRefIdeal.main_arg5) = m' ((c.tc : Thread Cert.GmRefIdeal.nD Cert.GmRefIdeal.τ).loc Cert.GmRefIdeal.main_arg5)
          ∧ r.2.mem ((c.tc : Thread Cert.GmRefIdeal.nD Cert.GmRefIdeal.τ).loc Cert.GmRefIdeal.main_arg6) = m' ((c.tc : Thread Cert.GmRefIdeal.nD Cert.GmRefIdeal.τ).loc Cert.GmRefIdeal.main_arg6))

def preserves_Ffn_FfnIdeal : Prop :=
  IdealRules.named_const.Statement Cert.FfnIdeal.κ "root_cube" .f32 0x3D122279#32 (((6693141 / 8388608) * (12003091 / 268435456) : ℝ) : EReal)
  ∧ IdealRules.named_const.Statement Cert.FfnIdeal.κ "six_root_cube" .f32 0x3E5B33B6#32 (((6 * (6693141 / 8388608)) * (12003091 / 268435456) : ℝ) : EReal)

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)) (v2 : (c : Dev Cert.FfnIdeal.nD) → Buf (Elt Ideal) ((c.tc : Thread Cert.FfnIdeal.nD Cert.FfnIdeal.τ).loc Cert.FfnIdeal.main_v11_2)) (v3 : (c : Dev Cert.FfnIdeal.nD) → Buf (Elt Ideal) ((c.tc : Thread Cert.FfnIdeal.nD Cert.FfnIdeal.τ).loc Cert.FfnIdeal.main_v11_3)) (v4 : (c : Dev Cert.FfnIdeal.nD) → Buf (Elt Ideal) ((c.tc : Thread Cert.FfnIdeal.nD Cert.FfnIdeal.τ).loc Cert.FfnIdeal.main_v11_4)) (v5 : (c : Dev Cert.FfnIdeal.nD) → Buf (Elt Ideal) ((c.tc : Thread Cert.FfnIdeal.nD Cert.FfnIdeal.τ).loc Cert.FfnIdeal.main_v6_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_v11_2) = v2 c
          ∧ r.2.mem ((c.tc : Thread Cert.FfnIdeal.nD Cert.FfnIdeal.τ).loc Cert.FfnIdeal.main_v11_3) = v3 c
          ∧ r.2.mem ((c.tc : Thread Cert.FfnIdeal.nD Cert.FfnIdeal.τ).loc Cert.FfnIdeal.main_v11_4) = v4 c
          ∧ r.2.mem ((c.tc : Thread Cert.FfnIdeal.nD Cert.FfnIdeal.τ).loc Cert.FfnIdeal.main_v6_2) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v112) = v0 c
          ∧ r.2.mem ((c.tc : Thread Cert.FfnRefIdeal.nD Cert.FfnRefIdeal.τ).loc Cert.FfnRefIdeal.main_v114) = v1 c
          ∧ r.2.mem ((c.tc : Thread Cert.FfnRefIdeal.nD Cert.FfnRefIdeal.τ).loc Cert.FfnRefIdeal.main_v116) = v2 c
          ∧ r.2.mem ((c.tc : Thread Cert.FfnRefIdeal.nD Cert.FfnRefIdeal.τ).loc Cert.FfnRefIdeal.main_v117) = v3 c
          ∧ r.2.mem ((c.tc : Thread Cert.FfnRefIdeal.nD Cert.FfnRefIdeal.τ).loc Cert.FfnRefIdeal.main_v118) = v4 c
          ∧ r.2.mem ((c.tc : Thread Cert.FfnRefIdeal.nD Cert.FfnRefIdeal.τ).loc Cert.FfnRefIdeal.main_v119) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_GmFwd_GmFwdIdeal : Prop :=
  IdealRules.named_const.Statement Cert.GmFwdIdeal.κ "root_cube" .f32 0x3D122279#32 (((6693141 / 8388608) * (12003091 / 268435456) : ℝ) : EReal)

def algebraic_GmFwdIdeal_GmFwdRefIdeal_on_gm_fwd_written [hGmFwdIdeal : Cert.GmFwdIdeal.Facts] [hGmFwdRefIdeal : Cert.GmFwdRefIdeal.Facts] [hOn_gm_fwd_written : Cert.On_gm_fwd_written.Facts] : Prop :=
  ∀ (m : (ℓ : Loc Cert.GmFwdIdeal.nD Cert.GmFwdIdeal.τ Cert.GmFwdIdeal.sig) → Buf (Elt Ideal) ℓ) (g : Dev Cert.GmFwdIdeal.nD → PrngReg)
    (m' : (ℓ : Loc Cert.GmFwdRefIdeal.nD Cert.GmFwdRefIdeal.τ Cert.GmFwdRefIdeal.sig) → Buf (Elt Ideal) ℓ) (g' : Dev Cert.GmFwdRefIdeal.nD → PrngReg), Pre_GmFwdIdeal m →
    (∀ c : Dev Cert.GmFwdIdeal.nD,
      m' ((c.tc : Thread Cert.GmFwdRefIdeal.nD Cert.GmFwdRefIdeal.τ).loc Cert.GmFwdRefIdeal.main_arg0) = m ((c.tc : Thread Cert.GmFwdIdeal.nD Cert.GmFwdIdeal.τ).loc Cert.GmFwdIdeal.main_arg0)
      ∧ m' ((c.tc : Thread Cert.GmFwdRefIdeal.nD Cert.GmFwdRefIdeal.τ).loc Cert.GmFwdRefIdeal.main_arg1) = m ((c.tc : Thread Cert.GmFwdIdeal.nD Cert.GmFwdIdeal.τ).loc Cert.GmFwdIdeal.main_arg1)
      ∧ m' ((c.tc : Thread Cert.GmFwdRefIdeal.nD Cert.GmFwdRefIdeal.τ).loc Cert.GmFwdRefIdeal.main_arg2) = m ((c.tc : Thread Cert.GmFwdIdeal.nD Cert.GmFwdIdeal.τ).loc Cert.GmFwdIdeal.main_arg2)
      ∧ m' ((c.tc : Thread Cert.GmFwdRefIdeal.nD Cert.GmFwdRefIdeal.τ).loc Cert.GmFwdRefIdeal.main_arg3) = m ((c.tc : Thread Cert.GmFwdIdeal.nD Cert.GmFwdIdeal.τ).loc Cert.GmFwdIdeal.main_arg3)
      ∧ m' ((c.tc : Thread Cert.GmFwdRefIdeal.nD Cert.GmFwdRefIdeal.τ).loc Cert.GmFwdRefIdeal.main_arg4) = m ((c.tc : Thread Cert.GmFwdIdeal.nD Cert.GmFwdIdeal.τ).loc Cert.GmFwdIdeal.main_arg4)
      ∧ m' ((c.tc : Thread Cert.GmFwdRefIdeal.nD Cert.GmFwdRefIdeal.τ).loc Cert.GmFwdRefIdeal.main_arg5) = m ((c.tc : Thread Cert.GmFwdIdeal.nD Cert.GmFwdIdeal.τ).loc Cert.GmFwdIdeal.main_arg5)) →
    ∃ (v0 : (c : Dev Cert.GmFwdIdeal.nD) → Buf (Elt Ideal) ((c.tc : Thread Cert.GmFwdIdeal.nD Cert.GmFwdIdeal.τ).loc Cert.GmFwdIdeal.main_v4)),
      θ_run (Cert.GmFwdIdeal.defs (F := Ideal)) (onTc (τ := Cert.GmFwdIdeal.τ) (Cert.GmFwdIdeal.main (F := Ideal))) ⟨m, fun _ => 0, g⟩ (fun r => ∀ c : Dev Cert.GmFwdIdeal.nD,
          (∀ i : (⟨2, ![8192, 2048]⟩ : Shape).Idx, (Cert.On_gm_fwd_written.fn (F := Ideal) (m ((c.tc : Thread Cert.GmFwdIdeal.nD Cert.GmFwdIdeal.τ).loc Cert.GmFwdIdeal.main_arg0)) (m ((c.tc : Thread Cert.GmFwdIdeal.nD Cert.GmFwdIdeal.τ).loc Cert.GmFwdIdeal.main_arg1)) (m ((c.tc : Thread Cert.GmFwdIdeal.nD Cert.GmFwdIdeal.τ).loc Cert.GmFwdIdeal.main_arg2)) (m ((c.tc : Thread Cert.GmFwdIdeal.nD Cert.GmFwdIdeal.τ).loc Cert.GmFwdIdeal.main_arg3)) (m ((c.tc : Thread Cert.GmFwdIdeal.nD Cert.GmFwdIdeal.τ).loc Cert.GmFwdIdeal.main_arg4)) (m ((c.tc : Thread Cert.GmFwdIdeal.nD Cert.GmFwdIdeal.τ).loc Cert.GmFwdIdeal.main_arg5))) i = 1#1 → r.2.mem ((c.tc : Thread Cert.GmFwdIdeal.nD Cert.GmFwdIdeal.τ).loc Cert.GmFwdIdeal.main_v4) i = v0 c i)
          ∧ r.2.mem ((c.tc : Thread Cert.GmFwdIdeal.nD Cert.GmFwdIdeal.τ).loc Cert.GmFwdIdeal.main_arg0) = m ((c.tc : Thread Cert.GmFwdIdeal.nD Cert.GmFwdIdeal.τ).loc Cert.GmFwdIdeal.main_arg0)
          ∧ r.2.mem ((c.tc : Thread Cert.GmFwdIdeal.nD Cert.GmFwdIdeal.τ).loc Cert.GmFwdIdeal.main_arg1) = m ((c.tc : Thread Cert.GmFwdIdeal.nD Cert.GmFwdIdeal.τ).loc Cert.GmFwdIdeal.main_arg1)
          ∧ r.2.mem ((c.tc : Thread Cert.GmFwdIdeal.nD Cert.GmFwdIdeal.τ).loc Cert.GmFwdIdeal.main_arg2) = m ((c.tc : Thread Cert.GmFwdIdeal.nD Cert.GmFwdIdeal.τ).loc Cert.GmFwdIdeal.main_arg2)
          ∧ r.2.mem ((c.tc : Thread Cert.GmFwdIdeal.nD Cert.GmFwdIdeal.τ).loc Cert.GmFwdIdeal.main_arg3) = m ((c.tc : Thread Cert.GmFwdIdeal.nD Cert.GmFwdIdeal.τ).loc Cert.GmFwdIdeal.main_arg3)
          ∧ r.2.mem ((c.tc : Thread Cert.GmFwdIdeal.nD Cert.GmFwdIdeal.τ).loc Cert.GmFwdIdeal.main_arg4) = m ((c.tc : Thread Cert.GmFwdIdeal.nD Cert.GmFwdIdeal.τ).loc Cert.GmFwdIdeal.main_arg4)
          ∧ r.2.mem ((c.tc : Thread Cert.GmFwdIdeal.nD Cert.GmFwdIdeal.τ).loc Cert.GmFwdIdeal.main_arg5) = m ((c.tc : Thread Cert.GmFwdIdeal.nD Cert.GmFwdIdeal.τ).loc Cert.GmFwdIdeal.main_arg5))
      ∧ θ_run (Cert.GmFwdRefIdeal.defs (F := Ideal)) (onTc (τ := Cert.GmFwdRefIdeal.τ) (Cert.GmFwdRefIdeal.main (F := Ideal))) ⟨m', fun _ => 0, g'⟩ (fun r => ∀ c : Dev Cert.GmFwdRefIdeal.nD,
          (∀ i : (⟨2, ![8192, 2048]⟩ : Shape).Idx, (Cert.On_gm_fwd_written.fn (F := Ideal) (m ((c.tc : Thread Cert.GmFwdIdeal.nD Cert.GmFwdIdeal.τ).loc Cert.GmFwdIdeal.main_arg0)) (m ((c.tc : Thread Cert.GmFwdIdeal.nD Cert.GmFwdIdeal.τ).loc Cert.GmFwdIdeal.main_arg1)) (m ((c.tc : Thread Cert.GmFwdIdeal.nD Cert.GmFwdIdeal.τ).loc Cert.GmFwdIdeal.main_arg2)) (m ((c.tc : Thread Cert.GmFwdIdeal.nD Cert.GmFwdIdeal.τ).loc Cert.GmFwdIdeal.main_arg3)) (m ((c.tc : Thread Cert.GmFwdIdeal.nD Cert.GmFwdIdeal.τ).loc Cert.GmFwdIdeal.main_arg4)) (m ((c.tc : Thread Cert.GmFwdIdeal.nD Cert.GmFwdIdeal.τ).loc Cert.GmFwdIdeal.main_arg5))) i = 1#1 → r.2.mem ((c.tc : Thread Cert.GmFwdRefIdeal.nD Cert.GmFwdRefIdeal.τ).loc Cert.GmFwdRefIdeal.main_v71) i = v0 c i)
          ∧ r.2.mem ((c.tc : Thread Cert.GmFwdRefIdeal.nD Cert.GmFwdRefIdeal.τ).loc Cert.GmFwdRefIdeal.main_arg0) = m' ((c.tc : Thread Cert.GmFwdRefIdeal.nD Cert.GmFwdRefIdeal.τ).loc Cert.GmFwdRefIdeal.main_arg0)
          ∧ r.2.mem ((c.tc : Thread Cert.GmFwdRefIdeal.nD Cert.GmFwdRefIdeal.τ).loc Cert.GmFwdRefIdeal.main_arg1) = m' ((c.tc : Thread Cert.GmFwdRefIdeal.nD Cert.GmFwdRefIdeal.τ).loc Cert.GmFwdRefIdeal.main_arg1)
          ∧ r.2.mem ((c.tc : Thread Cert.GmFwdRefIdeal.nD Cert.GmFwdRefIdeal.τ).loc Cert.GmFwdRefIdeal.main_arg2) = m' ((c.tc : Thread Cert.GmFwdRefIdeal.nD Cert.GmFwdRefIdeal.τ).loc Cert.GmFwdRefIdeal.main_arg2)
          ∧ r.2.mem ((c.tc : Thread Cert.GmFwdRefIdeal.nD Cert.GmFwdRefIdeal.τ).loc Cert.GmFwdRefIdeal.main_arg3) = m' ((c.tc : Thread Cert.GmFwdRefIdeal.nD Cert.GmFwdRefIdeal.τ).loc Cert.GmFwdRefIdeal.main_arg3)
          ∧ r.2.mem ((c.tc : Thread Cert.GmFwdRefIdeal.nD Cert.GmFwdRefIdeal.τ).loc Cert.GmFwdRefIdeal.main_arg4) = m' ((c.tc : Thread Cert.GmFwdRefIdeal.nD Cert.GmFwdRefIdeal.τ).loc Cert.GmFwdRefIdeal.main_arg4)
          ∧ r.2.mem ((c.tc : Thread Cert.GmFwdRefIdeal.nD Cert.GmFwdRefIdeal.τ).loc Cert.GmFwdRefIdeal.main_arg5) = m' ((c.tc : Thread Cert.GmFwdRefIdeal.nD Cert.GmFwdRefIdeal.τ).loc Cert.GmFwdRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_LruFwd_LruFwdIdeal : Prop :=
  IdealRules.named_const.Statement Cert.LruFwdIdeal.κ "root_cube" .f32 0x3D122279#32 (((6693141 / 8388608) * (12003091 / 268435456) : ℝ) : EReal)

def preserves_Lru_LruIdeal : Prop :=
  IdealRules.named_const.Statement Cert.LruIdeal.κ "root_cube" .f32 0x3D122279#32 (((6693141 / 8388608) * (12003091 / 268435456) : ℝ) : EReal)
  ∧ IdealRules.named_const.Statement Cert.LruIdeal.κ "six_root_cube" .f32 0x3E5B33B6#32 (((6 * (6693141 / 8388608)) * (12003091 / 268435456) : ℝ) : EReal)

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v11) = v0 c
          ∧ r.2.mem ((c.tc : Thread Cert.AdamRefIdeal.nD Cert.AdamRefIdeal.τ).loc Cert.AdamRefIdeal.main_v35) = v1 c
          ∧ r.2.mem ((c.tc : Thread Cert.AdamRefIdeal.nD Cert.AdamRefIdeal.τ).loc Cert.AdamRefIdeal.main_v16) = v2 c
          ∧ r.2.mem ((c.tc : Thread Cert.AdamRefIdeal.nD Cert.AdamRefIdeal.τ).loc Cert.AdamRefIdeal.main_v22) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v12) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def Claim : Prop :=
  ∃ (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hLoss : Cert.Loss.Facts) (hLossIdeal : Cert.LossIdeal.Facts) (hLossRefIdeal : Cert.LossRefIdeal.Facts) (hGm : Cert.Gm.Facts) (hGmIdeal : Cert.GmIdeal.Facts) (hGmRefIdeal : Cert.GmRefIdeal.Facts) (hFfn : Cert.Ffn.Facts) (hFfnIdeal : Cert.FfnIdeal.Facts) (hFfnRefIdeal : Cert.FfnRefIdeal.Facts) (hGmFwd : Cert.GmFwd.Facts) (hGmFwdIdeal : Cert.GmFwdIdeal.Facts) (hGmFwdRefIdeal : Cert.GmFwdRefIdeal.Facts) (hNorm : Cert.Norm.Facts) (hNormIdeal : Cert.NormIdeal.Facts) (hNormRefIdeal : Cert.NormRefIdeal.Facts) (hLruFwd : Cert.LruFwd.Facts) (hLruFwdIdeal : Cert.LruFwdIdeal.Facts) (hLruFwdRefIdeal : Cert.LruFwdRefIdeal.Facts) (hLru : Cert.Lru.Facts) (hLruIdeal : Cert.LruIdeal.Facts) (hLruRefIdeal : Cert.LruRefIdeal.Facts) (hAdam : Cert.Adam.Facts) (hAdamIdeal : Cert.AdamIdeal.Facts) (hAdamRefIdeal : Cert.AdamRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hPre_up_dx_finite : Cert.Pre_up_dx_finite.Facts) (hPre_in_dx_finite : Cert.Pre_in_dx_finite.Facts) (hPre_loss_finite : Cert.Pre_loss_finite.Facts) (hPre_gm_finite : Cert.Pre_gm_finite.Facts) (hPre_ffn_finite : Cert.Pre_ffn_finite.Facts) (hOn_gm_written : Cert.On_gm_written.Facts) (hOn_gm_fwd_written : Cert.On_gm_fwd_written.Facts),
    quiescent_UpDx (hUpDx := hUpDx)
    ∧ quiescent_UpDxIdeal (hUpDxIdeal := hUpDxIdeal)
    ∧ quiescent_UpDxIdeal_pre_up_dx_finite (hUpDxIdeal := hUpDxIdeal) (hPre_up_dx_finite := hPre_up_dx_finite)
    ∧ quiescent_UpDxRefIdeal (hUpDxRefIdeal := hUpDxRefIdeal)
    ∧ quiescent_UpDxRefIdeal_pre_up_dx_finite (hUpDxRefIdeal := hUpDxRefIdeal) (hPre_up_dx_finite := hPre_up_dx_finite)
    ∧ quiescent_InDx (hInDx := hInDx)
    ∧ quiescent_InDxIdeal (hInDxIdeal := hInDxIdeal)
    ∧ quiescent_InDxIdeal_pre_in_dx_finite (hInDxIdeal := hInDxIdeal) (hPre_in_dx_finite := hPre_in_dx_finite)
    ∧ quiescent_InDxRefIdeal (hInDxRefIdeal := hInDxRefIdeal)
    ∧ quiescent_InDxRefIdeal_pre_in_dx_finite (hInDxRefIdeal := hInDxRefIdeal) (hPre_in_dx_finite := hPre_in_dx_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Gm (hGm := hGm)
    ∧ quiescent_GmIdeal (hGmIdeal := hGmIdeal)
    ∧ quiescent_GmIdeal_pre_gm_finite (hGmIdeal := hGmIdeal) (hPre_gm_finite := hPre_gm_finite)
    ∧ quiescent_GmRefIdeal (hGmRefIdeal := hGmRefIdeal)
    ∧ quiescent_GmRefIdeal_pre_gm_finite (hGmRefIdeal := hGmRefIdeal) (hPre_gm_finite := hPre_gm_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_GmFwd (hGmFwd := hGmFwd)
    ∧ quiescent_GmFwdIdeal (hGmFwdIdeal := hGmFwdIdeal)
    ∧ quiescent_GmFwdRefIdeal (hGmFwdRefIdeal := hGmFwdRefIdeal)
    ∧ quiescent_Norm (hNorm := hNorm)
    ∧ quiescent_NormIdeal (hNormIdeal := hNormIdeal)
    ∧ quiescent_NormRefIdeal (hNormRefIdeal := hNormRefIdeal)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ quiescent_Lru (hLru := hLru)
    ∧ quiescent_LruIdeal (hLruIdeal := hLruIdeal)
    ∧ quiescent_LruRefIdeal (hLruRefIdeal := hLruRefIdeal)
    ∧ quiescent_Adam (hAdam := hAdam)
    ∧ quiescent_AdamIdeal (hAdamIdeal := hAdamIdeal)
    ∧ quiescent_AdamRefIdeal (hAdamRefIdeal := hAdamRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ preserves_UpDx_UpDxIdeal
    ∧ algebraic_UpDxIdeal_UpDxRefIdeal_pre_up_dx_finite (hUpDxIdeal := hUpDxIdeal) (hUpDxRefIdeal := hUpDxRefIdeal) (hPre_up_dx_finite := hPre_up_dx_finite)
    ∧ preserves_InDx_InDxIdeal
    ∧ algebraic_InDxIdeal_InDxRefIdeal_pre_in_dx_finite (hInDxIdeal := hInDxIdeal) (hInDxRefIdeal := hInDxRefIdeal) (hPre_in_dx_finite := hPre_in_dx_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Gm_GmIdeal
    ∧ algebraic_GmIdeal_GmRefIdeal_on_gm_written_pre_gm_finite (hGmIdeal := hGmIdeal) (hGmRefIdeal := hGmRefIdeal) (hPre_gm_finite := hPre_gm_finite) (hOn_gm_written := hOn_gm_written)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_GmFwd_GmFwdIdeal
    ∧ algebraic_GmFwdIdeal_GmFwdRefIdeal_on_gm_fwd_written (hGmFwdIdeal := hGmFwdIdeal) (hGmFwdRefIdeal := hGmFwdRefIdeal) (hOn_gm_fwd_written := hOn_gm_fwd_written)
    ∧ preserves_Norm_NormIdeal
    ∧ algebraic_NormIdeal_NormRefIdeal (hNormIdeal := hNormIdeal) (hNormRefIdeal := hNormRefIdeal)
    ∧ preserves_LruFwd_LruFwdIdeal
    ∧ preserves_Lru_LruIdeal
    ∧ preserves_Adam_AdamIdeal
    ∧ algebraic_AdamIdeal_AdamRefIdeal (hAdamIdeal := hAdamIdeal) (hAdamRefIdeal := hAdamRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
-- ==== On_gm_fwd_written.lean ====
abbrev S8192x4096 : Shape := ⟨2, ![8192, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x4096 .f32) (main_arg1 : FVec F S1x1024 .f32) (main_arg2 : FVec F S1x1024 .f32) (main_arg3 : FVec F S1x8x128x128 .f32) (main_arg4 : FVec F S1x8x128 .f32) (main_arg5 : FVec F S1x1024 .f32) : IVec S8192x2048 1 :=
  let main_v0 : IVec S8192x2048 32 := iotaInDim S8192x2048 32 1
  let main_c : IVec S_ 32 := constantI S_ 32 1024#32
  let main_v1 : IVec S8192x2048 32 := broadcastInDim S8192x2048 ![] bcast_S_S8192x2048 main_c
  let main_v2 : IVec S8192x2048 1 := cmpi .slt main_v0 main_v1
  main_v2
-- ==== On_gm_written.lean ====
abbrev S8192x4096 : Shape := ⟨2, ![8192, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S_ : Shape := ⟨0, ![]⟩
abbrev S8x128x128 : Shape := ⟨3, ![8, 128, 128]⟩

class Facts : Prop where
  bcast_S_S8192x4096 : S_.BroadcastsInDim S8192x4096 (![] : Fin 0 → Fin S8192x4096.rank)
  bcast_S_S1x1024 : S_.BroadcastsInDim S1x1024 (![] : Fin 0 → Fin S1x1024.rank)
  bcast_S_S8x128x128 : S_.BroadcastsInDim S8x128x128 (![] : Fin 0 → Fin S8x128x128.rank)

variable [Facts]

def fn {F : FTy → Type} [FloatOps F] (main_arg0 : FVec F S8192x4096 .f32) (main_arg1 : FVec F S1x1024 .f32) (main_arg2 : FVec F S1x1024 .f32) (main_arg3 : FVec F S1x8x128x128 .f32) (main_arg4 : FVec F S1x8x128 .f32) (main_arg5 : FVec F S1x1024 .f32) (main_arg6 : FVec F S8192x2048 .f32) : IVec S8192x4096 1 × IVec S1x1024 1 × IVec S1x1024 1 × IVec S8x128x128 1 × IVec S8x128x128 1 × IVec S1x1024 1 :=
  let main_v0 : IVec S8192x4096 32 := iotaInDim S8192x4096 32 1
  let main_c : IVec S_ 32 := constantI S_ 32 2048#32
  let main_v1 : IVec S8192x4096 32 := broadcastInDim S8192x4096 ![] bcast_S_S8192x4096 main_c
  let main_v2 : IVec S8192x4096 1 := cmpi .slt main_v0 main_v1
  let main_c_0 : IVec S_ 1 := constantI S_ 1 1#1
  let main_v3 : IVec S1x1024 1 := broadcastInDim S1x1024 ![] bcast_S_S1x1024 main_c_0
  let main_c_1 : IVec S_ 1 := constantI S_ 1 1#1
  let main_v4 : IVec S1x1024 1 := broadcastInDim S1x1024 ![] bcast_S_S1x1024 main_c_1
  let main_c_2 : IVec S_ 1 := constantI S_ 1 1#1
  let main_v5 : IVec S8x128x128 1 := broadcastInDim S8x128x128 ![] bcast_S_S8x128x128 main_c_2
  let main_c_3 : IVec S_ 1 := constantI S_ 1 1#1
  let main_v6 : IVec S8x128x128 1 := broadcastInDim S8x128x128 ![] bcast_S_S8x128x128 main_c_3
  let main_c_4 : IVec S_ 1 := constantI S_ 1 1#1
  let main_v7 : IVec S1x1024 1 := broadcastInDim S1x1024 ![] bcast_S_S1x1024 main_c_4
  (main_v2, main_v3, main_v4, main_v5, main_v6, main_v7)
-- ==== Pre_ffn_finite.lean ====
abbrev S8192x2048 : Shape := ⟨2, ![8192, 2048]⟩
abbrev S1x2048x12288 : Shape := ⟨3, ![1, 2048, 12288]⟩
abbrev S1x3x12288 : Shape := ⟨3, ![1, 3, 12288]⟩
abbrev S1x12288 : Shape := ⟨2, ![1, 12288]⟩
abbrev S1x6144x2048 : Shape := ⟨3, ![1, 6144, 2048]⟩
abbrev S_ : Shape := ⟨0, ![]⟩

class Facts : Prop where
  bcast_S_S8192x2048 : S_.BroadcastsInDim S8192x2048 (![] : Fin 0 → Fin S8192x2048.rank)
  bcast_S_S1x2048x12288 : S_.BroadcastsInDim S1x2048x12288 (![] : Fin 0 → Fin S1x2048x12288.rank)
  bcast_S_S1x3x12288 : S_.BroadcastsInDim S1x3x12288 (![] : Fin 0 → Fin S1x3x12288.rank)
  bcast_S_S1x12288 : S_.BroadcastsInDim S1x12288 (![] : Fin 0 → Fin S1x12288.rank)
  bcast_S_S1x6144x2048 : S_.BroadcastsInDim S1x6144x2048 (![] : Fin 0 → Fin S1x6144x2048.rank)

variable [Facts]

def fn {F : FTy → Type} [FloatOps F] (main_arg0 : FVec F S8192x2048 .f32) (main_arg1 : FVec F S1x2048x12288 .f32) (main_arg2 : FVec F S1x3x12288 .f32) (main_arg3 : FVec F S1x12288 .f32) (main_arg4 : FVec F S1x6144x2048 .f32) (main_arg5 : FVec F S8192x2048 .f32) : IVec S8192x2048 1 × IVec S1x2048x12288 1 × IVec S1x3x12288 1 × IVec S1x12288 1 × IVec S1x6144x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048x12288 .f32 := Host.absf main_arg1
  let main_cst_0 : FVec F S_ .f32 := constant S_ .f32 0x7F800000#32
  let main_v4 : FVec F S1x2048x12288 .f32 := broadcastInDim S1x2048x12288 ![] bcast_S_S1x2048x12288 main_cst_0
  let main_v5 : IVec S1x2048x12288 1 := cmpf .olt main_v3 main_v4
  let main_v6 : FVec F S1x3x12288 .f32 := Host.absf main_arg2
  let main_cst_1 : FVec F S_ .f32 := constant S_ .f32 0x7F800000#32
  let main_v7 : FVec F S1x3x12288 .f32 := broadcastInDim S1x3x12288 ![] bcast_S_S1x3x12288 main_cst_1
  let main_v8 : IVec S1x3x12288 1 := cmpf .olt main_v6 main_v7
  let main_v9 : FVec F S1x12288 .f32 := Host.absf main_arg3
  let main_cst_2 : FVec F S_ .f32 := constant S_ .f32 0x7F800000#32
  let main_v10 : FVec F S1x12288 .f32 := broadcastInDim S1x12288 ![] bcast_S_S1x12288 main_cst_2
  let main_v11 : IVec S1x12288 1 := cmpf .olt main_v9 main_v10
  let main_v12 : FVec F S1x6144x2048 .f32 := Host.absf main_arg4
  let main_cst_3 : FVec F S_ .f32 := constant S_ .f32 0x7F800000#32
  let main_v13 : FVec F S1x6144x2048 .f32 := broadcastInDim S1x6144x2048 ![] bcast_S_S1x6144x2048 main_cst_3
  let main_v14 : IVec S1x6144x2048 1 := cmpf .olt main_v12 main_v13
  let main_v15 : FVec F S8192x2048 .f32 := Host.absf main_arg5
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_v15 main_v16
  (main_v2, main_v5, main_v8, main_v11, main_v14, main_v17)
-- ==== Pre_gm_finite.lean ====
abbrev S8192x4096 : Shape := ⟨2, ![8192, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S_ : Shape := ⟨0, ![]⟩

class Facts : Prop where
  bcast_S_S8192x4096 : S_.BroadcastsInDim S8192x4096 (![] : Fin 0 → Fin S8192x4096.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S8192x2048 : S_.BroadcastsInDim S8192x2048 (![] : Fin 0 → Fin S8192x2048.rank)

variable [Facts]

def fn_part1 {F : FTy → Type} [FloatOps F] (main_arg6 : FVec F S8192x2048 .f32) (main_v2 : IVec S8192x4096 1) (main_v5 : IVec S1x1024 1) (main_v8 : IVec S1x1024 1) (main_v11 : IVec S1x8x128x128 1) (main_v14 : IVec S1x8x128 1) (main_v17 : IVec S1x1024 1) : IVec S8192x4096 1 × IVec S1x1024 1 × IVec S1x1024 1 × IVec S1x8x128x128 1 × IVec S1x8x128 1 × IVec S1x1024 1 × IVec S8192x2048 1 :=
  let main_v18 : FVec F S8192x2048 .f32 := Host.absf main_arg6
  let main_cst_5 : FVec F S_ .f32 := constant S_ .f32 0x7F800000#32
  let main_v19 : FVec F S8192x2048 .f32 := broadcastInDim S8192x2048 ![] bcast_S_S8192x2048 main_cst_5
  let main_v20 : IVec S8192x2048 1 := cmpf .olt main_v18 main_v19
  (main_v2, main_v5, main_v8, main_v11, main_v14, main_v17, main_v20)

def fn {F : FTy → Type} [FloatOps F] (main_arg0 : FVec F S8192x4096 .f32) (main_arg1 : FVec F S1x1024 .f32) (main_arg2 : FVec F S1x1024 .f32) (main_arg3 : FVec F S1x8x128x128 .f32) (main_arg4 : FVec F S1x8x128 .f32) (main_arg5 : FVec F S1x1024 .f32) (main_arg6 : FVec F S8192x2048 .f32) : IVec S8192x4096 1 × IVec S1x1024 1 × IVec S1x1024 1 × IVec S1x8x128x128 1 × IVec S1x8x128 1 × IVec S1x1024 1 × IVec S8192x2048 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x8x128x128 .f32 := Host.absf main_arg3
  let main_cst_2 : FVec F S_ .f32 := constant S_ .f32 0x7F800000#32
  let main_v10 : FVec F S1x8x128x128 .f32 := broadcastInDim S1x8x128x128 ![] bcast_S_S1x8x128x128 main_cst_2
  let main_v11 : IVec S1x8x128x128 1 := cmpf .olt main_v9 main_v10
  let main_v12 : FVec F S1x8x128 .f32 := Host.absf main_arg4
  let main_cst_3 : FVec F S_ .f32 := constant S_ .f32 0x7F800000#32
  let main_v13 : FVec F S1x8x128 .f32 := broadcastInDim S1x8x128 ![] bcast_S_S1x8x128 main_cst_3
  let main_v14 : IVec S1x8x128 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_in_dx_finite.lean ====
abbrev S8192x2048 : Shape := ⟨2, ![8192, 2048]⟩
abbrev S1x2048 : Shape := ⟨2, ![1, 2048]⟩
abbrev S1x2048x4096 : Shape := ⟨3, ![1, 2048, 4096]⟩
abbrev S8192x4096 : Shape := ⟨2, ![8192, 4096]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S_S1x2048x4096 : S_.BroadcastsInDim S1x2048x4096 (![] : Fin 0 → Fin S1x2048x4096.rank)
  bcast_S_S8192x4096 : S_.BroadcastsInDim S8192x4096 (![] : Fin 0 → Fin S8192x4096.rank)

variable [Facts]

def fn {F : FTy → Type} [FloatOps F] (main_arg0 : FVec F S8192x2048 .f32) (main_arg1 : FVec F S1x2048 .f32) (main_arg2 : FVec F S1x2048x4096 .f32) (main_arg3 : FVec F S8192x4096 .f32) (main_arg4 : FVec F S8192x2048 .f32) : IVec S8192x2048 1 × IVec S1x2048 1 × IVec S1x2048x4096 1 × IVec S8192x4096 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x4096 .f32 := Host.absf main_arg2
  let main_cst_1 : FVec F S_ .f32 := constant S_ .f32 0x7F800000#32
  let main_v7 : FVec F S1x2048x4096 .f32 := broadcastInDim S1x2048x4096 ![] bcast_S_S1x2048x4096 main_cst_1
  let main_v8 : IVec S1x2048x4096 1 := cmpf .olt main_v6 main_v7
  let main_v9 : FVec F S8192x4096 .f32 := Host.absf main_arg3
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== Pre_loss_finite.lean ====
abbrev S8192x2048 : Shape := ⟨2, ![8192, 2048]⟩
abbrev S8192x6144 : Shape := ⟨2, ![8192, 6144]⟩
abbrev S1x6144x2048 : Shape := ⟨3, ![1, 6144, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S8192x6144 : S_.BroadcastsInDim S8192x6144 (![] : Fin 0 → Fin S8192x6144.rank)
  bcast_S_S1x6144x2048 : S_.BroadcastsInDim S1x6144x2048 (![] : Fin 0 → Fin S1x6144x2048.rank)
  bcast_S_S2048 : S_.BroadcastsInDim S2048 (![] : Fin 0 → Fin S2048.rank)

variable [Facts]

def fn {F : FTy → Type} [FloatOps F] (main_arg0 : FVec F S8192x2048 .f32) (main_arg1 : FVec F S8192x6144 .f32) (main_arg2 : FVec F S1x6144x2048 .f32) (main_arg3 : FVec F S2048 .f32) (main_arg4 : FVec F S8192x2048 .f32) : IVec S8192x2048 1 × IVec S8192x6144 1 × IVec S1x6144x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x6144 .f32 := Host.absf main_arg1
  let main_cst_0 : FVec F S_ .f32 := constant S_ .f32 0x7F800000#32
  let main_v4 : FVec F S8192x6144 .f32 := broadcastInDim S8192x6144 ![] bcast_S_S8192x6144 main_cst_0
  let main_v5 : IVec S8192x6144 1 := cmpf .olt main_v3 main_v4
  let main_v6 : FVec F S1x6144x2048 .f32 := Host.absf main_arg2
  let main_cst_1 : FVec F S_ .f32 := constant S_ .f32 0x7F800000#32
  let main_v7 : FVec F S1x6144x2048 .f32 := broadcastInDim S1x6144x2048 ![] bcast_S_S1x6144x2048 main_cst_1
  let main_v8 : IVec S1x6144x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_up_dx_finite.lean ====
abbrev S8192x2048 : Shape := ⟨2, ![8192, 2048]⟩
abbrev S1x2048 : Shape := ⟨2, ![1, 2048]⟩
abbrev S1x2048x12288 : Shape := ⟨3, ![1, 2048, 12288]⟩
abbrev S8192x12288 : Shape := ⟨2, ![8192, 12288]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S_S1x2048x12288 : S_.BroadcastsInDim S1x2048x12288 (![] : Fin 0 → Fin S1x2048x12288.rank)
  bcast_S_S8192x12288 : S_.BroadcastsInDim S8192x12288 (![] : Fin 0 → Fin S8192x12288.rank)

variable [Facts]

def fn {F : FTy → Type} [FloatOps F] (main_arg0 : FVec F S8192x2048 .f32) (main_arg1 : FVec F S1x2048 .f32) (main_arg2 : FVec F S1x2048x12288 .f32) (main_arg3 : FVec F S8192x12288 .f32) (main_arg4 : FVec F S8192x2048 .f32) : IVec S8192x2048 1 × IVec S1x2048 1 × IVec S1x2048x12288 1 × IVec S8192x12288 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x12288 .f32 := Host.absf main_arg2
  let main_cst_1 : FVec F S_ .f32 := constant S_ .f32 0x7F800000#32
  let main_v7 : FVec F S1x2048x12288 .f32 := broadcastInDim S1x2048x12288 ![] bcast_S_S1x2048x12288 main_cst_1
  let main_v8 : IVec S1x2048x12288 1 := cmpf .olt main_v6 main_v7
  let main_v9 : FVec F S8192x12288 .f32 := Host.absf main_arg3
  let main_cst_2 : FVec F S_ .f32 := constant S_ .f32 0x7F800000#32
  let main_v10 : FVec F S8192x12288 .f32 := broadcastInDim S8192x12288 ![] bcast_S_S8192x12288 main_cst_2
  let main_v11 : IVec S8192x12288 1 := cmpf .olt main_v9 main_v10
  (main_v2, main_v5, main_v8, main_v11)
-- ==== UpDx.lean ====
abbrev S8192x2048 : Shape := ⟨2, ![8192, 2048]⟩
abbrev S1x2048 : Shape := ⟨2, ![1, 2048]⟩
abbrev S1x2048x12288 : Shape := ⟨3, ![1, 2048, 12288]⟩
abbrev S8192x12288 : Shape := ⟨2, ![8192, 12288]⟩
abbrev S8192x2x6144 : Shape := ⟨3, ![8192, 2, 6144]⟩
abbrev S2x8192x6144 : Shape := ⟨3, ![2, 8192, 6144]⟩
abbrev S2048x12288 : Shape := ⟨2, ![2048, 12288]⟩
abbrev S2048x8x1536 : Shape := ⟨3, ![2048, 8, 1536]⟩
abbrev S8x2048x1536 : Shape := ⟨3, ![8, 2048, 1536]⟩
abbrev S1x512x1536 : Shape := ⟨3, ![1, 512, 1536]⟩
abbrev S1x2048x1536 : Shape := ⟨3, ![1, 2048, 1536]⟩
abbrev S512x2048 : Shape := ⟨2, ![512, 2048]⟩
abbrev S512x1536 : Shape := ⟨2, ![512, 1536]⟩
abbrev S2048x1536 : Shape := ⟨2, ![2048, 1536]⟩
abbrev S512 : Shape := ⟨1, ![512]⟩
abbrev S512x1 : Shape := ⟨2, ![512, 1]⟩
abbrev S2048 : Shape := ⟨1, ![2048]⟩

abbrev nBuf : Space → Nat
  | .hbm => 15
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x12288, .f32⟩
  | .hbm, ⟨3, _⟩ => ⟨S8192x12288, .f32⟩
  | .hbm, ⟨4, _⟩ => ⟨S8192x2048, .f32⟩
  | .hbm, ⟨5, _⟩ => ⟨S8192x2x6144, .f32⟩
  | .hbm, ⟨6, _⟩ => ⟨S2x8192x6144, .f32⟩
  | .hbm, ⟨7, _⟩ => ⟨S2x8192x6144, .bf16⟩
  | .hbm, ⟨8, _⟩ => ⟨S2048x12288, .f32⟩
  | .hbm, ⟨9, _⟩ => ⟨S2048x8x1536, .f32⟩
  | .hbm, ⟨10, _⟩ => ⟨S8x2048x1536, .f32⟩
  | .hbm, ⟨11, _⟩ => ⟨S8x2048x1536, .bf16⟩
  | .hbm, ⟨12, _⟩ => ⟨S8192x2048, .f32⟩
  | .hbm, ⟨13, _⟩ => ⟨S8192x2048, .bf16⟩
  | .hbm, ⟨14, _⟩ => ⟨S1x2048, .f32⟩
  | .local _ .vmem, ⟨0, _⟩ => ⟨S1x512x1536, .bf16⟩
  | .local _ .vmem, ⟨1, _⟩ => ⟨S1x512x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDxRefIdeal.lean ====
abbrev S8192x2048 : Shape := ⟨2, ![8192, 2048]⟩
abbrev S1x2048 : Shape := ⟨2, ![1, 2048]⟩
abbrev S1x2048x12288 : Shape := ⟨3, ![1, 2048, 12288]⟩
abbrev S8192x12288 : Shape := ⟨2, ![8192, 12288]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x12288 : Shape := ⟨2, ![2048, 12288]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x12288, .f32⟩
  | .hbm, ⟨3, _⟩ => ⟨S8192x12288, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2048x12288, .f32⟩
  | .hbm, ⟨27, _⟩ => ⟨S8192x12288, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== InDx.lean ====
abbrev S8192x2048 : Shape := ⟨2, ![8192, 2048]⟩
abbrev S1x2048 : Shape := ⟨2, ![1, 2048]⟩
abbrev S1x2048x4096 : Shape := ⟨3, ![1, 2048, 4096]⟩
abbrev S8192x4096 : Shape := ⟨2, ![8192, 4096]⟩
abbrev S2048x4096 : Shape := ⟨2, ![2048, 4096]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x4096, .f32⟩
  | .hbm, ⟨3, _⟩ => ⟨S8192x4096, .f32⟩
  | .hbm, ⟨4, _⟩ => ⟨S8192x2048, .f32⟩
  | .hbm, ⟨5, _⟩ => ⟨S8192x4096, .bf16⟩
  | .hbm, ⟨6, _⟩ => ⟨S2048x4096, .f32⟩
  | .hbm, ⟨7, _⟩ => ⟨S2048x4096, .bf16⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S1x2048, .f32⟩
  | .hbm, ⟨12, _⟩ => ⟨S1x2048, .f32⟩
  | .local _ .vmem, ⟨0, _⟩ => ⟨S256x4096, .bf16⟩
  | .local _ .vmem, ⟨1, _⟩ => ⟨S256x4096, .bf16⟩
  | .local _ .vmem, ⟨2, _⟩ => ⟨S2048x4096, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x4096, .bf16⟩
  | .local _ .vmem, ⟨12, _⟩ => ⟨S256x4096, .bf16⟩
  | .local _ .vmem, ⟨13, _⟩ => ⟨S2048x4096, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== InDxRefIdeal.lean ====
abbrev S8192x2048 : Shape := ⟨2, ![8192, 2048]⟩
abbrev S1x2048 : Shape := ⟨2, ![1, 2048]⟩
abbrev S1x2048x4096 : Shape := ⟨3, ![1, 2048, 4096]⟩
abbrev S8192x4096 : Shape := ⟨2, ![8192, 4096]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x4096 : Shape := ⟨2, ![2048, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x4096, .f32⟩
  | .hbm, ⟨3, _⟩ => ⟨S8192x4096, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2048x4096, .f32⟩
  | .hbm, ⟨27, _⟩ => ⟨S8192x4096, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Loss.lean ====
abbrev S8192x2048 : Shape := ⟨2, ![8192, 2048]⟩
abbrev S8192x6144 : Shape := ⟨2, ![8192, 6144]⟩
abbrev S1x6144x2048 : Shape := ⟨3, ![1, 6144, 2048]⟩
abbrev S2048 : Shape := ⟨1, ![2048]⟩
abbrev S6144x2048 : Shape := ⟨2, ![6144, 2048]⟩
abbrev S1x2048 : Shape := ⟨2, ![1, 2048]⟩
abbrev S8x128 : Shape := ⟨2, ![8, 128]⟩
abbrev S512x2048 : Shape := ⟨2, ![512, 2048]⟩
abbrev S512x768 : Shape := ⟨2, ![512, 768]⟩
abbrev S768x2048 : Shape := ⟨2, ![768, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S1x6144x2048, .f32⟩
  | .hbm, ⟨3, _⟩ => ⟨S2048, .f32⟩
  | .hbm, ⟨4, _⟩ => ⟨S8192x2048, .f32⟩
  | .hbm, ⟨5, _⟩ => ⟨S8192x6144, .bf16⟩
  | .hbm, ⟨6, _⟩ => ⟨S6144x2048, .f32⟩
  | .hbm, ⟨7, _⟩ => ⟨S6144x2048, .bf16⟩
  | .hbm, ⟨8, _⟩ => ⟨S1x2048, .f32⟩
  | .hbm, ⟨9, _⟩ => ⟨S8192x2048, .f32⟩
  | .hbm, ⟨10, _⟩ => ⟨S8192x2048, .bf16⟩
  | .hbm, ⟨11, _⟩ => ⟨S8x128, .f32⟩
  | .hbm, ⟨12, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x768, .bf16⟩
  | .local _ .vmem, ⟨3, _⟩ => ⟨S512x768, .bf16⟩
  | .local _ .vmem, ⟨4, _⟩ => ⟨S768x2048, .bf16⟩
  | .local _ .vmem, ⟨5, _⟩ => ⟨S768x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S8x128, .f32⟩
  | .local _ .vmem, ⟨14, _⟩ => ⟨S1x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S8192x2048 : Shape := ⟨2, ![8192, 2048]⟩
abbrev S8192x6144 : Shape := ⟨2, ![8192, 6144]⟩
abbrev S1x6144x2048 : Shape := ⟨3, ![1, 6144, 2048]⟩
abbrev S2048 : Shape := ⟨1, ![2048]⟩
abbrev S6144x2048 : Shape := ⟨2, ![6144, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x128 : Shape := ⟨2, ![8, 128]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S1x6144x2048, .f32⟩
  | .hbm, ⟨3, _⟩ => ⟨S2048, .f32⟩
  | .hbm, ⟨4, _⟩ => ⟨S8192x2048, .f32⟩
  | .hbm, ⟨5, _⟩ => ⟨S6144x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .bf16⟩
  | .hbm, ⟨77, _⟩ => ⟨S8x128, .f32⟩
  | .hbm, ⟨78, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Gm.lean ====
abbrev S8192x4096 : Shape := ⟨2, ![8192, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S8x128 : Shape := ⟨2, ![8, 128]⟩
abbrev S8x128x1 : Shape := ⟨3, ![8, 128, 1]⟩
abbrev S8x128x128 : Shape := ⟨3, ![8, 128, 128]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S1024 : Shape := ⟨1, ![1024]⟩
abbrev S128 : Shape := ⟨1, ![128]⟩
abbrev S128x1 : Shape := ⟨2, ![128, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x1024, .f32⟩
  | .hbm, ⟨6, _⟩ => ⟨S8192x2048, .f32⟩
  | .hbm, ⟨7, _⟩ => ⟨S8x128, .f32⟩
  | .hbm, ⟨8, _⟩ => ⟨S8x128x1, .f32⟩
  | .hbm, ⟨9, _⟩ => ⟨S8x128x128, .f32⟩
  | .hbm, ⟨10, _⟩ => ⟨S8x128x128, .f32⟩
  | .hbm, ⟨11, _⟩ => ⟨S8192x4096, .bf16⟩
  | .hbm, ⟨12, _⟩ => ⟨S1x1024, .f32⟩
  | .hbm, ⟨13, _⟩ => ⟨S1x1024, .f32⟩
  | .hbm, ⟨14, _⟩ => ⟨S8x128x128, .f32⟩
  | .hbm, ⟨15, _⟩ => ⟨S8x128x128, .f32⟩
  | .hbm, ⟨16, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x128, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | .local _ .vmem, ⟨11, _⟩ => ⟨S1x1024, .f32⟩
  | .local _ .vmem, ⟨12, _⟩ => ⟨S1x1024, .f32⟩
  | .local _ .vmem, ⟨13, _⟩ => ⟨S8x128x128, .f32⟩
  | .local _ .vmem, ⟨14, _⟩ => ⟨S8x128x128, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GmIdeal.lean ====
variable {F : FTy → Type} [FloatOps F] [Named F]
def κ : String → Option EReal := fun
  | "root_cube" => some (((6693141 / 8388608) * (12003091 / 268435456) : ℝ) : EReal)
  | "six_root_cube" => some (((6 * (6693141 / 8388608)) * (12003091 / 268435456) : ℝ) : EReal)
  | _ => none
-- ==== GmRefIdeal.lean ====
abbrev S8192x4096 : Shape := ⟨2, ![8192, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S_ : Shape := ⟨0, ![]⟩
abbrev S8192x1024 : Shape := ⟨2, ![8192, 1024]⟩
abbrev S1024 : Shape := ⟨1, ![1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩
abbrev S8x128x1 : Shape := ⟨3, ![8, 128, 1]⟩

abbrev nBuf : Space → Nat
  | .hbm => 234
  | .vmem => 0
  | .smem => 0
  | _ => 0

abbrev hbmTy0_0 (i : Nat) : BufTy := match i % 128 with
  | 0 => ⟨S8192x4096, .f32⟩
  | 1 => ⟨S1x1024, .f32⟩
  | 2 => ⟨S1x1024, .f32⟩
  | 3 => ⟨S1x8x128x128, .f32⟩
  | 4 => ⟨S1x8x128, .f32⟩
  | 5 => ⟨S1x1024, .f32⟩
  | 6 => ⟨S8192x2048, .f32⟩
  | 7 => ⟨S8192x2048, .f32⟩
  | 8 => ⟨S8192x2048, .f32⟩
  | 9 => ⟨S8192x2048, .f32⟩
  | 10 => ⟨S8192x2048, .f32⟩
  | 11 => ⟨S_, .f32⟩
  | 12 => ⟨S8192x2048, .f32⟩
  | 13 => ⟨S8192x2048, .f32⟩
  | 14 => ⟨S_, .f32⟩
  | 15 => ⟨S8192x2048, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S_, .f32⟩
  | 26 => ⟨S8192x2048, .f32⟩
  | 27 => ⟨S8192x2048, .f32⟩
  | 28 => ⟨S8192x2048, .f32⟩
  | 29 => ⟨S_, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S8192x2048, .f32⟩
  | 36 => ⟨S8192x1024, .f32⟩
  | 37 => ⟨S8192x1024, .f32⟩
  | 38 => ⟨S1024, .f32⟩
  | 39 => ⟨S1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S64x128x8x128, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S1x128x128, .i1⟩
  | 84 => ⟨S8x128x128, .f32⟩
  | 85 => ⟨S_, .f32⟩
  | 86 => ⟨S8x128x128, .i1⟩
  | 87 => ⟨S8x128x128, .f32⟩
  | 88 => ⟨S8x128x128, .f32⟩
  | 89 => ⟨S_, .f32⟩
  | 90 => ⟨S8x128x128, .f32⟩
  | 91 => ⟨S8x64x128x128, .f32⟩
  | 92 => ⟨S64x128x8x128, .f32⟩
  | 93 => ⟨S8x128, .f32⟩
  | 94 => ⟨S128x8, .f32⟩
  | 95 => ⟨S1x128x8x1, .f32⟩
  | 96 => ⟨S64x128x8x128, .f32⟩
  | 97 => ⟨S64x128x8x128, .f32⟩
  | 98 => ⟨S8192x1024, .f32⟩
  | 99 => ⟨S8192x1024, .f32⟩
  | 100 => ⟨S1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x1024, .f32⟩
  | 117 => ⟨S8192x1024, .f32⟩
  | 118 => ⟨S1x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x4096, .f32⟩

abbrev hbmTy0_1 (i : Nat) : BufTy := match i % 128 with
  | 0 => ⟨S_, .f32⟩
  | 1 => ⟨S1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S64x128x8x128, .f32⟩
  | 23 => ⟨S_, .f32⟩
  | 24 => ⟨S128x8, .f32⟩
  | 25 => ⟨S1x128x8x1, .f32⟩
  | 26 => ⟨S_, .f32⟩
  | 27 => ⟨S128x8, .f32⟩
  | 28 => ⟨S8x128, .f32⟩
  | 29 => ⟨S1x8x128, .f32⟩
  | 30 => ⟨S8x64x128x128, .f32⟩
  | 31 => ⟨S8x128x128, .f32⟩
  | 32 => ⟨S8x64x128x128, .f32⟩
  | 33 => ⟨S64x128x8x128, .f32⟩
  | 34 => ⟨S_, .f32⟩
  | 35 => ⟨S8x128x128, .f32⟩
  | 36 => ⟨S8x128x128, .f32⟩
  | 37 => ⟨S1x8x128x128, .f32⟩
  | 38 => ⟨S8192x1024, .f32⟩
  | 39 => ⟨S_, .f32⟩
  | 40 => ⟨S1024, .f32⟩
  | 41 => ⟨S1x1024, .f32⟩
  | 42 => ⟨S_, .f32⟩
  | 43 => ⟨S1024, .f32⟩
  | 44 => ⟨S8192x1024, .f32⟩
  | 45 => ⟨S_, .f32⟩
  | 46 => ⟨S1024, .f32⟩
  | 47 => ⟨S1x1024, .f32⟩
  | 48 => ⟨S8192x1024, .f32⟩
  | 49 => ⟨S8192x1024, .f32⟩
  | 50 => ⟨S_, .f32⟩
  | 51 => ⟨S1024, .f32⟩
  | 52 => ⟨S8192x1024, .f32⟩
  | 53 => ⟨S_, .f32⟩
  | 54 => ⟨S8192, .f32⟩
  | 55 => ⟨S8192x1, .f32⟩
  | 56 => ⟨S8192x1024, .f32⟩
  | 57 => ⟨S8192x1024, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192, .f32⟩
  | 78 => ⟨S8192x1024, .f32⟩
  | 79 => ⟨S8192x1024, .f32⟩
  | 80 => ⟨S1x1024, .f32⟩
  | 81 => ⟨S1x1024, .f32⟩
  | 82 => ⟨S8192x2048, .f32⟩
  | 83 => ⟨S8192x2048, .f32⟩
  | 84 => ⟨S8192x2048, .f32⟩
  | 85 => ⟨S_, .f32⟩
  | 86 => ⟨S8192x2048, .f32⟩
  | 87 => ⟨S8192x2048, .f32⟩
  | 88 => ⟨S8192x2048, .f32⟩
  | 89 => ⟨S_, .f32⟩
  | 90 => ⟨S8192x2048, .f32⟩
  | 91 => ⟨S8192x2048, .f32⟩
  | 92 => ⟨S8192x2048, .f32⟩
  | 93 => ⟨S_, .f32⟩
  | 94 => ⟨S8192x2048, .f32⟩
  | 95 => ⟨S8192x2048, .f32⟩
  | 96 => ⟨S8192x2048, .f32⟩
  | 97 => ⟨S8192x2048, .f32⟩
  | 98 => ⟨S_, .f32⟩
  | 99 => ⟨S8192x2048, .f32⟩
  | 100 => ⟨S8192x4096, .f32⟩
  | 101 => ⟨S8192x4096, .bf16⟩
  | 102 => ⟨S8x128x128, .f32⟩
  | 103 => ⟨S8x128, .f32⟩
  | 104 => ⟨S8x128x1, .f32⟩
  | 105 => ⟨S8x128x128, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56_1 : Ref sig .tc := ⟨.hbm, 86, rfl⟩
abbrev main_call1_v1 : Ref sig .tc := ⟨.hbm, 87, rfl⟩
abbrev main_v56_0 : Ref sig .tc := ⟨.hbm, 88, rfl⟩
abbrev main_call1_cst : Ref sig .tc := ⟨.hbm, 89, rfl⟩
abbrev main_v56_2 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_v97 : Ref sig .tc := ⟨.hbm, 139, rfl⟩
abbrev main_cst_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_22 : Ref sig .tc := ⟨.hbm, 151, rfl⟩
abbrev main_v108 : Ref sig .tc := ⟨.hbm, 152, rfl⟩
abbrev main_v109 : Ref sig .tc := ⟨.hbm, 153, rfl⟩
abbrev main_cst_23 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call2_cst : Ref sig .tc := ⟨.hbm, 162, rfl⟩
abbrev main_call2_v0 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_24 : Ref sig .tc := ⟨.hbm, 167, rfl⟩
abbrev main_v120 : Ref sig .tc := ⟨.hbm, 168, rfl⟩
abbrev main_v121 : Ref sig .tc := ⟨.hbm, 169, rfl⟩
abbrev main_cst_25 : Ref sig .tc := ⟨.hbm, 170, rfl⟩
abbrev main_v122 : Ref sig .tc := ⟨.hbm, 171, rfl⟩
abbrev main_v123 : Ref sig .tc := ⟨.hbm, 172, rfl⟩
abbrev main_cst_26 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_27 : Ref sig .tc := ⟨.hbm, 178, rfl⟩
abbrev main_v128 : Ref sig .tc := ⟨.hbm, 179, rfl⟩
abbrev main_v129 : Ref sig .tc := ⟨.hbm, 180, rfl⟩
abbrev main_cst_28 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_29 : Ref sig .tc := ⟨.hbm, 187, rfl⟩
abbrev main_v135 : Ref sig .tc := ⟨.hbm, 188, rfl⟩
abbrev main_v136 : Ref sig .tc := ⟨.hbm, 189, rfl⟩
abbrev main_cst_30 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_31 : Ref sig .tc := ⟨.hbm, 198, rfl⟩
abbrev main_v144 : Ref sig .tc := ⟨.hbm, 199, rfl⟩
abbrev main_v145 : Ref sig .tc := ⟨.hbm, 200, rfl⟩
abbrev main_cst_32 : Ref sig .tc := ⟨.hbm, 201, rfl⟩
abbrev main_v146 : Ref sig .tc := ⟨.hbm, 202, rfl⟩
abbrev main_v147 : Ref sig .tc := ⟨.hbm, 203, rfl⟩
abbrev main_cst_33 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_34 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_35 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_36 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_cst_37 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩

abbrev nD : Nat := 1
abbrev τ : Topo := Topo.v7x

variable {F : FTy → Type} [FloatOps F]
-- ==== Ffn.lean ====
abbrev S8192x2048 : Shape := ⟨2, ![8192, 2048]⟩
abbrev S1x2048x12288 : Shape := ⟨3, ![1, 2048, 12288]⟩
abbrev S1x3x12288 : Shape := ⟨3, ![1, 3, 12288]⟩
abbrev S1x12288 : Shape := ⟨2, ![1, 12288]⟩
abbrev S1x6144x2048 : Shape := ⟨3, ![1, 6144, 2048]⟩
abbrev S2048x12288 : Shape := ⟨2, ![2048, 12288]⟩
abbrev S2048x8x1536 : Shape := ⟨3, ![2048, 8, 1536]⟩
abbrev S8x2048x1536 : Shape := ⟨3, ![8, 2048, 1536]⟩
abbrev S3x12288 : Shape := ⟨2, ![3, 12288]⟩
abbrev S2x8192x6144 : Shape := ⟨3, ![2, 8192, 6144]⟩
abbrev S8192x6144 : Shape := ⟨2, ![8192, 6144]⟩
abbrev S512x2048 : Shape := ⟨2, ![512, 2048]⟩
abbrev S16x2048 : Shape := ⟨2, ![16, 2048]⟩
abbrev S1x2048x1536 : Shape := ⟨3, ![1, 2048, 1536]⟩
abbrev S3x1536 : Shape := ⟨2, ![3, 1536]⟩
abbrev S1x1536 : Shape := ⟨2, ![1, 1536]⟩
abbrev S2x512x1536 : Shape := ⟨3, ![2, 512, 1536]⟩
abbrev S512x1536 : Shape := ⟨2, ![512, 1536]⟩
abbrev S528x2048 : Shape := ⟨2, ![528, 2048]⟩
abbrev S2048x1536 : Shape := ⟨2, ![2048, 1536]⟩
abbrev S528x1536 : Shape := ⟨2, ![528, 1536]⟩
abbrev S1x512x1536 : Shape := ⟨3, ![1, 512, 1536]⟩
abbrev S8x1536 : Shape := ⟨2, ![8, 1536]⟩
abbrev S520x1536 : Shape := ⟨2, ![520, 1536]⟩
abbrev S6144x2048 : Shape := ⟨2, ![6144, 2048]⟩
abbrev S3x6144 : Shape := ⟨2, ![3, 6144]⟩
abbrev S1x6144 : Shape := ⟨2, ![1, 6144]⟩
abbrev S1536x2048 : Shape := ⟨2, ![1536, 2048]⟩
abbrev S1x16x1536 : Shape := ⟨3, ![1, 16, 1536]⟩
abbrev S16x1536 : Shape := ⟨2, ![16, 1536]⟩
abbrev S1536 : Shape := ⟨1, ![1536]⟩

abbrev nBuf : Space → Nat
  | .hbm => 24
  | .vmem => 54
  | .smem => 0
  | _ => 0

abbrev bufTy : (tb : Table) → Fin (tcTables nBuf tb) → BufTy
  | .hbm, ⟨0, _⟩ => ⟨S8192x2048, .f32⟩
  | .hbm, ⟨1, _⟩ => ⟨S1x2048x12288, .f32⟩
  | .hbm, ⟨2, _⟩ => ⟨S1x3x12288, .f32⟩
  | .hbm, ⟨3, _⟩ => ⟨S1x12288, .f32⟩
  | .hbm, ⟨4, _⟩ => ⟨S1x6144x2048, .f32⟩
  | .hbm, ⟨5, _⟩ => ⟨S8192x2048, .f32⟩
  | .hbm, ⟨6, _⟩ => ⟨S2048x12288, .f32⟩
  | .hbm, ⟨7, _⟩ => ⟨S2048x8x1536, .f32⟩
  | .hbm, ⟨8, _⟩ => ⟨S8x2048x1536, .f32⟩
  | .hbm, ⟨9, _⟩ => ⟨S8x2048x1536, .bf16⟩
  | .hbm, ⟨10, _⟩ => ⟨S8192x2048, .bf16⟩
  | .hbm, ⟨11, _⟩ => ⟨S3x12288, .f32⟩
  | .hbm, ⟨12, _⟩ => ⟨S2x8192x6144, .bf16⟩
  | .hbm, ⟨13, _⟩ => ⟨S2x8192x6144, .bf16⟩
  | .hbm, ⟨14, _⟩ => ⟨S8192x6144, .bf16⟩
  | .hbm, ⟨15, _⟩ => ⟨S8192x2048, .bf16⟩
  | .hbm, ⟨16, _⟩ => ⟨S6144x2048, .f32⟩
  | .hbm, ⟨17, _⟩ => ⟨S6144x2048, .bf16⟩
  | .hbm, ⟨18, _⟩ => ⟨S3x12288, .f32⟩
  | .hbm, ⟨19, _⟩ => ⟨S2x8192x6144, .bf16⟩
  | .hbm, ⟨20, _⟩ => ⟨S3x6144, .f32⟩
  | .hbm, ⟨21, _⟩ => ⟨S3x6144, .f32⟩
  | .hbm, ⟨22, _⟩ => ⟨S1x6144, .f32⟩
  | .hbm, ⟨23, _⟩ => ⟨S1x6144, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x1536, .bf16⟩
  | .local _ .vmem, ⟨5, _⟩ => ⟨S1x2048x1536, .bf16⟩
  | .local _ .vmem, ⟨6, _⟩ => ⟨S1x2048x1536, .bf16⟩
  | .local _ .vmem, ⟨7, _⟩ => ⟨S1x2048x1536, .bf16⟩
  | .local _ .vmem, ⟨8, _⟩ => ⟨S3x1536, .f32⟩
  | .local _ .vmem, ⟨9, _⟩ => ⟨S3x1536, .f32⟩
  | .local _ .vmem, ⟨10, _⟩ => ⟨S3x1536, .f32⟩
  | .local _ .vmem, ⟨11, _⟩ => ⟨S3x1536, .f32⟩
  | .local _ .vmem, ⟨12, _⟩ => ⟨S1x1536, .f32⟩
  | .local _ .vmem, ⟨13, _⟩ => ⟨S1x1536, .f32⟩
  | .local _ .vmem, ⟨14, _⟩ => ⟨S1x1536, .f32⟩
  | .local _ .vmem, ⟨15, _⟩ => ⟨S1x1536, .f32⟩
  | .local _ .vmem, ⟨16, _⟩ => ⟨S2x512x1536, .bf16⟩
  | .local _ .vmem, ⟨17, _⟩ => ⟨S2x512x1536, .bf16⟩
  | .local _ .vmem, ⟨18, _⟩ => ⟨S2x512x1536, .bf16⟩
  | .local _ .vmem, ⟨19, _⟩ => ⟨S2x512x1536, .bf16⟩
  | .local _ .vmem, ⟨20, _⟩ => ⟨S512x1536, .bf16⟩
  | .local _ .vmem, ⟨21, _⟩ => ⟨S512x1536, .bf16⟩
  | .local _ .vmem, ⟨22, _⟩ => ⟨S512x2048, .bf16⟩
  | .local _ .vmem, ⟨23, _⟩ => ⟨S512x2048, .bf16⟩
  | .local _ .vmem, ⟨24, _⟩ => ⟨S16x2048, .bf16⟩
  | .local _ .vmem, ⟨25, _⟩ => ⟨S16x2048, .bf16⟩
  | .local _ .vmem, ⟨26, _⟩ => ⟨S1536x2048, .bf16⟩
  | .local _ .vmem, ⟨27, _⟩ => ⟨S1536x2048, .bf16⟩
  | .local _ .vmem, ⟨28, _⟩ => ⟨S1x512x1536, .bf16⟩
  | .local _ .vmem, ⟨29, _⟩ => ⟨S1x512x1536, .bf16⟩
  | .local _ .vmem, ⟨30, _⟩ => ⟨S1x512x1536, .bf16⟩
  | .local _ .vmem, ⟨31, _⟩ => ⟨S1x512x1536, .bf16⟩
  | .local _ .vmem, ⟨32, _⟩ => ⟨S1x512x1536, .bf16⟩
  | .local _ .vmem, ⟨33, _⟩ => ⟨S1x512x1536, .bf16⟩
  | .local _ .vmem, ⟨34, _⟩ => ⟨S1x512x1536, .bf16⟩
  | .local _ .vmem, ⟨35, _⟩ => ⟨S1x512x1536, .bf16⟩
  | .local _ .vmem, ⟨36, _⟩ => ⟨S1x16x1536, .bf16⟩
  | .local _ .vmem, ⟨37, _⟩ => ⟨S1x16x1536, .bf16⟩
  | .local _ .vmem, ⟨38, _⟩ => ⟨S1x16x1536, .bf16⟩
  | .local _ .vmem, ⟨39, _⟩ => ⟨S1x16x1536, .bf16⟩
  | .local _ .vmem, ⟨40, _⟩ => ⟨S3x1536, .f32⟩
  | .local _ .vmem, ⟨41, _⟩ => ⟨S3x1536, .f32⟩
  | .local _ .vmem, ⟨42, _⟩ => ⟨S3x1536, .f32⟩
  | .local _ .vmem, ⟨43, _⟩ => ⟨S3x1536, .f32⟩
  | .local _ .vmem, ⟨44, _⟩ => ⟨S2x512x1536, .bf16⟩
  | .local _ .vmem, ⟨45, _⟩ => ⟨S2x512x1536, .bf16⟩
  | .local _ .vmem, ⟨46, _⟩ => ⟨S3x1536, .f32⟩
  | .local _ .vmem, ⟨47, _⟩ => ⟨S3x1536, .f32⟩
  | .local _ .vmem, ⟨48, _⟩ => ⟨S3x1536, .f32⟩
  | .local _ .vmem, ⟨49, _⟩ => ⟨S3x1536, .f32⟩
  | .local _ .vmem, ⟨50, _⟩ => ⟨S1x1536, .f32⟩
  | .local _ .vmem, ⟨51, _⟩ => ⟨S1x1536, .f32⟩
  | .local _ .vmem, ⟨52, _⟩ => ⟨S1x1536, .f32⟩
  | .local _ .vmem, ⟨53, _⟩ => ⟨S1x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc1_stg15_0 : Ref sig .tc := ⟨.vmem, 52, rfl⟩
abbrev cc1_stg15_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_6 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![c1_i32_0.toNat, v2.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1536x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1536 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1536 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x1536 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x1536 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x16x1536 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x16x1536 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S3x1536 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S3x1536 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S2x512x1536 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S3x1536 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S3x1536 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1x1536 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1x1536 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]
-- ==== FfnIdeal.lean ====
variable {F : FTy → Type} [FloatOps F] [Named F]
def κ : String → Option EReal := fun
  | "root_cube" => some (((6693141 / 8388608) * (12003091 / 268435456) : ℝ) : EReal)
  | "six_root_cube" => some (((6 * (6693141 / 8388608)) * (12003091 / 268435456) : ℝ) : EReal)
  | _ => none
-- ==== FfnRefIdeal.lean ====
abbrev S8192x2048 : Shape := ⟨2, ![8192, 2048]⟩
abbrev S1x2048x12288 : Shape := ⟨3, ![1, 2048, 12288]⟩
abbrev S1x3x12288 : Shape := ⟨3, ![1, 3, 12288]⟩
abbrev S1x12288 : Shape := ⟨2, ![1, 12288]⟩
abbrev S1x6144x2048 : Shape := ⟨3, ![1, 6144, 2048]⟩
abbrev S2048x12288 : Shape := ⟨2, ![2048, 12288]⟩
abbrev S8192x12288 : Shape := ⟨2, ![8192, 12288]⟩
abbrev S3x12288 : Shape := ⟨2, ![3, 12288]⟩
abbrev S12288 : Shape := ⟨1, ![12288]⟩
abbrev S_ : Shape := ⟨0, ![]⟩
abbrev S2x12288 : Shape := ⟨2, ![2, 12288]⟩
abbrev S8194x12288 : Shape := ⟨2, ![8194, 12288]⟩
abbrev S8192x6144 : Shape := ⟨2, ![8192, 6144]⟩
abbrev S6144x2048 : Shape := ⟨2, ![6144, 2048]⟩
abbrev S8192x2x6144 : Shape := ⟨3, ![8192, 2, 6144]⟩
abbrev S2x8192x6144 : Shape := ⟨3, ![2, 8192, 6144]⟩
abbrev S1x3x6144 : Shape := ⟨3, ![1, 3, 6144]⟩
abbrev S3x6144 : Shape := ⟨2, ![3, 6144]⟩
abbrev S1x6144 : Shape := ⟨2, ![1, 6144]⟩

abbrev nBuf : Space → Nat
  | .hbm => 152
  | .vmem => 0
  | .smem => 0
  | _ => 0

abbrev hbmTy0_0 (i : Nat) : BufTy := match i % 128 with
  | 0 => ⟨S8192x2048, .f32⟩
  | 1 => ⟨S1x2048x12288, .f32⟩
  | 2 => ⟨S1x3x12288, .f32⟩
  | 3 => ⟨S1x12288, .f32⟩
  | 4 => ⟨S1x6144x2048, .f32⟩
  | 5 => ⟨S8192x2048, .f32⟩
  | 6 => ⟨S2048x12288, .f32⟩
  | 7 => ⟨S8192x12288, .f32⟩
  | 8 => ⟨S3x12288, .f32⟩
  | 9 => ⟨S12288, .f32⟩
  | 10 => ⟨S_, .f32⟩
  | 11 => ⟨S2x12288, .f32⟩
  | 12 => ⟨S8194x12288, .f32⟩
  | 13 => ⟨S_, .f32⟩
  | 14 => ⟨S2x12288, .f32⟩
  | 15 => ⟨S8192x12288, .f32⟩
  | 16 => ⟨S1x12288, .f32⟩
  | 17 => ⟨S12288, .f32⟩
  | 18 => ⟨S1x12288, .f32⟩
  | 19 => ⟨S8192x12288, .f32⟩
  | 20 => ⟨S8192x12288, .f32⟩
  | 21 => ⟨S1x12288, .f32⟩
  | 22 => ⟨S8192x12288, .f32⟩
  | 23 => ⟨S8192x12288, .f32⟩
  | 24 => ⟨S8192x12288, .f32⟩
  | 25 => ⟨S1x12288, .f32⟩
  | 26 => ⟨S12288, .f32⟩
  | 27 => ⟨S1x12288, .f32⟩
  | 28 => ⟨S8192x12288, .f32⟩
  | 29 => ⟨S8192x12288, .f32⟩
  | 30 => ⟨S8192x12288, .f32⟩
  | 31 => ⟨S8192x12288, .f32⟩
  | 32 => ⟨S1x12288, .f32⟩
  | 33 => ⟨S12288, .f32⟩
  | 34 => ⟨S1x12288, .f32⟩
  | 35 => ⟨S8192x12288, .f32⟩
  | 36 => ⟨S8192x12288, .f32⟩
  | 37 => ⟨S8192x12288, .f32⟩
  | 38 => ⟨S8192x6144, .f32⟩
  | 39 => ⟨S8192x6144, .f32⟩
  | 40 => ⟨S8192x6144, .f32⟩
  | 41 => ⟨S8192x6144, .f32⟩
  | 42 => ⟨S8192x6144, .f32⟩
  | 43 => ⟨S_, .f32⟩
  | 44 => ⟨S8192x6144, .f32⟩
  | 45 => ⟨S8192x6144, .f32⟩
  | 46 => ⟨S_, .f32⟩
  | 47 => ⟨S8192x6144, .f32⟩
  | 48 => ⟨S8192x6144, .f32⟩
  | 49 => ⟨S8192x6144, .f32⟩
  | 50 => ⟨S_, .f32⟩
  | 51 => ⟨S8192x6144, .f32⟩
  | 52 => ⟨S8192x6144, .f32⟩
  | 53 => ⟨S8192x6144, .f32⟩
  | 54 => ⟨S_, .f32⟩
  | 55 => ⟨S8192x6144, .f32⟩
  | 56 => ⟨S8192x6144, .f32⟩
  | 57 => ⟨S_, .f32⟩
  | 58 => ⟨S8192x6144, .f32⟩
  | 59 => ⟨S8192x6144, .f32⟩
  | 60 => ⟨S8192x6144, .f32⟩
  | 61 => ⟨S_, .f32⟩
  | 62 => ⟨S8192x6144, .f32⟩
  | 63 => ⟨S8192x6144, .f32⟩
  | 64 => ⟨S_, .f32⟩
  | 65 => ⟨S8192x6144, .f32⟩
  | 66 => ⟨S8192x6144, .f32⟩
  | 67 => ⟨S8192x6144, .f32⟩
  | 68 => ⟨S8192x6144, .f32⟩
  | 69 => ⟨S6144x2048, .f32⟩
  | 70 => ⟨S8192x2048, .f32⟩
  | 71 => ⟨S8192x6144, .f32⟩
  | 72 => ⟨S8192x6144, .f32⟩
  | 73 => ⟨S8192x6144, .f32⟩
  | 74 => ⟨S8192x6144, .f32⟩
  | 75 => ⟨S8192x6144, .f32⟩
  | 76 => ⟨S_, .f32⟩
  | 77 => ⟨S8192x6144, .f32⟩
  | 78 => ⟨S8192x6144, .f32⟩
  | 79 => ⟨S8192x6144, .f32⟩
  | 80 => ⟨S_, .f32⟩
  | 81 => ⟨S8192x6144, .f32⟩
  | 82 => ⟨S8192x6144, .f32⟩
  | 83 => ⟨S8192x6144, .f32⟩
  | 84 => ⟨S_, .f32⟩
  | 85 => ⟨S8192x6144, .f32⟩
  | 86 => ⟨S8192x6144, .f32⟩
  | 87 => ⟨S8192x6144, .f32⟩
  | 88 => ⟨S8192x6144, .f32⟩
  | 89 => ⟨S8192x12288, .f32⟩
  | 90 => ⟨S8192x12288, .f32⟩
  | 91 => ⟨S_, .f32⟩
  | 92 => ⟨S12288, .f32⟩
  | 93 => ⟨S1x12288, .f32⟩
  | 94 => ⟨S8192x12288, .f32⟩
  | 95 => ⟨S8192x12288, .f32⟩
  | 96 => ⟨S_, .f32⟩
  | 97 => ⟨S12288, .f32⟩
  | 98 => ⟨S1x12288, .f32⟩
  | 99 => ⟨S_, .f32⟩
  | 100 => ⟨S3x12288, .f32⟩
  | 101 => ⟨S_, .f32⟩
  | 102 => ⟨S8194x12288, .f32⟩
  | 103 => ⟨S8192x12288, .f32⟩
  | 104 => ⟨S_, .f32⟩
  | 105 => ⟨S12288, .f32⟩
  | 106 => ⟨S1x12288, .f32⟩
  | 107 => ⟨S8192x12288, .f32⟩
  | 108 => ⟨S8192x12288, .f32⟩
  | 109 => ⟨S_, .f32⟩
  | 110 => ⟨S12288, .f32⟩
  | 111 => ⟨S1x12288, .f32⟩
  | 112 => ⟨S_, .f32⟩
  | 113 => ⟨S3x12288, .f32⟩
  | 114 => ⟨S3x12288, .f32⟩
  | 115 => ⟨S_, .f32⟩
  | 116 => ⟨S8194x12288, .f32⟩
  | 117 => ⟨S8194x12288, .f32⟩
  | 118 => ⟨S_, .f32⟩
  | 119 => ⟨S12288, .f32⟩
  | 120 => ⟨S1x12288, .f32⟩
  | 121 => ⟨S_, .f32⟩
  | 122 => ⟨S12288, .f32⟩
  | 123 => ⟨S8192x12288, .f32⟩
  | 124 => ⟨S_, .f32⟩
  | 125 => ⟨S12288, .f32⟩
  | 126 => ⟨S1x12288, .f32⟩
  | 127 => ⟨S8192x12288, .f32⟩
  | _ => ⟨S8192x2048, .f32⟩

abbrev hbmTy0_1 (i : Nat) : BufTy := match i % 128 with
  | 0 => ⟨S8192x12288, .f32⟩
  | 1 => ⟨S_, .f32⟩
  | 2 => ⟨S12288, .f32⟩
  | 3 => ⟨S1x12288, .f32⟩
  | 4 => ⟨S_, .f32⟩
  | 5 => ⟨S3x12288, .f32⟩
  | 6 => ⟨S3x12288, .f32⟩
  | 7 => ⟨S_, .f32⟩
  | 8 => ⟨S8194x12288, .f32⟩
  | 9 => ⟨S8194x12288, .f32⟩
  | 10 => ⟨S2x12288, .f32⟩
  | 11 => ⟨S8192x12288, .f32⟩
  | 12 => ⟨S1x12288, .f32⟩
  | 13 => ⟨S1x3x12288, .f32⟩
  | 14 => ⟨S8192x2x6144, .f32⟩
  | 15 => ⟨S2x8192x6144, .f32⟩
  | 16 => ⟨S2x8192x6144, .bf16⟩
  | 17 => ⟨S1x3x6144, .f32⟩
  | 18 => ⟨S3x6144, .f32⟩
  | 19 => ⟨S1x3x6144, .f32⟩
  | 20 => ⟨S3x6144, .f32⟩
  | 21 => ⟨S1x6144, .f32⟩
  | 22 => ⟨S1x6144, .f32⟩
  | 23 => ⟨S8192x6144, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_16 : Ref sig .tc := ⟨.hbm, 109, rfl⟩
abbrev main_v86 : Ref sig .tc := ⟨.hbm, 110, rfl⟩
abbrev main_v87 : Ref sig .tc := ⟨.hbm, 111, rfl⟩
abbrev main_cst_17 : Ref sig .tc := ⟨.hbm, 112, rfl⟩
abbrev main_v88 : Ref sig .tc := ⟨.hbm, 113, rfl⟩
abbrev main_v89 : Ref sig .tc := ⟨.hbm, 114, rfl⟩
abbrev main_cst_18 : Ref sig .tc := ⟨.hbm, 115, rfl⟩
abbrev main_v90 : Ref sig .tc := ⟨.hbm, 116, rfl⟩
abbrev main_v91 : Ref sig .tc := ⟨.hbm, 117, rfl⟩
abbrev main_cst_19 : Ref sig .tc := ⟨.hbm, 118, rfl⟩
abbrev main_v92 : Ref sig .tc := ⟨.hbm, 119, rfl⟩
abbrev main_v93 : Ref sig .tc := ⟨.hbm, 120, rfl⟩
abbrev main_cst_20 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_22 : Ref sig .tc := ⟨.hbm, 129, rfl⟩
abbrev main_v100 : Ref sig .tc := ⟨.hbm, 130, rfl⟩
abbrev main_v101 : Ref sig .tc := ⟨.hbm, 131, rfl⟩
abbrev main_cst_23 : Ref sig .tc := ⟨.hbm, 132, rfl⟩
abbrev main_v102 : Ref sig .tc := ⟨.hbm, 133, rfl⟩
abbrev main_v103 : Ref sig .tc := ⟨.hbm, 134, rfl⟩
abbrev main_cst_24 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩

abbrev nD : Nat := 1
abbrev τ : Topo := Topo.v7x

variable {F : FTy → Type} [FloatOps F]
-- ==== GmFwd.lean ====
abbrev S8192x4096 : Shape := ⟨2, ![8192, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8x128 : Shape := ⟨2, ![8, 128]⟩
abbrev S8x128x1 : Shape := ⟨3, ![8, 128, 1]⟩
abbrev S8x128x128 : Shape := ⟨3, ![8, 128, 128]⟩
abbrev S8192x2048 : Shape := ⟨2, ![8192, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩

abbrev nBuf : Space → Nat
  | .hbm => 11
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x1024, .f32⟩
  | .hbm, ⟨6, _⟩ => ⟨S8x128, .f32⟩
  | .hbm, ⟨7, _⟩ => ⟨S8x128x1, .f32⟩
  | .hbm, ⟨8, _⟩ => ⟨S8x128x128, .f32⟩
  | .hbm, ⟨9, _⟩ => ⟨S8x128x128, .f32⟩
  | .hbm, ⟨10, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S1x1024, .f32⟩
  | .local _ .vmem, ⟨4, _⟩ => ⟨S8x128x128, .f32⟩
  | .local _ .vmem, ⟨5, _⟩ => ⟨S8x128x128, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmFwdIdeal.lean ====
variable {F : FTy → Type} [FloatOps F] [Named F]
def κ : String → Option EReal := fun
  | "root_cube" => some (((6693141 / 8388608) * (12003091 / 268435456) : ℝ) : EReal)
  | "six_root_cube" => some (((6 * (6693141 / 8388608)) * (12003091 / 268435456) : ℝ) : EReal)
  | _ => none
-- ==== GmFwdRefIdeal.lean ====
abbrev S8192x4096 : Shape := ⟨2, ![8192, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S_ : Shape := ⟨0, ![]⟩
abbrev S8192x1024 : Shape := ⟨2, ![8192, 1024]⟩
abbrev S1024 : Shape := ⟨1, ![1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x1024, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x1024, .f32⟩
  | .hbm, ⟨25, _⟩ => ⟨S8192x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S64x128x8x128, .f32⟩
  | .hbm, ⟨56, _⟩ => ⟨S_, .i1⟩
  | .hbm, ⟨57, _⟩ => ⟨S128x128, .i1⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S1x128x128, .i1⟩
  | .hbm, ⟨68, _⟩ => ⟨S8x128x128, .f32⟩
  | .hbm, ⟨69, _⟩ => ⟨S_, .f32⟩
  | .hbm, ⟨70, _⟩ => ⟨S8x128x128, .i1⟩
  | .hbm, ⟨71, _⟩ => ⟨S8x128x128, .f32⟩
  | .hbm, ⟨72, _⟩ => ⟨S8x128x128, .f32⟩
  | .hbm, ⟨73, _⟩ => ⟨S8x64x128x128, .f32⟩
  | .hbm, ⟨74, _⟩ => ⟨S64x128x8x128, .f32⟩
  | .hbm, ⟨75, _⟩ => ⟨S8x128, .f32⟩
  | .hbm, ⟨76, _⟩ => ⟨S128x8, .f32⟩
  | .hbm, ⟨77, _⟩ => ⟨S1x128x8x1, .f32⟩
  | .hbm, ⟨78, _⟩ => ⟨S64x128x8x128, .f32⟩
  | .hbm, ⟨79, _⟩ => ⟨S64x128x8x128, .f32⟩
  | .hbm, ⟨80, _⟩ => ⟨S8192x1024, .f32⟩
  | .hbm, ⟨81, _⟩ => ⟨S8192x1024, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x2048, .f32⟩
  | .hbm, ⟨102, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LruFwd.lean ====
abbrev S8192x4096 : Shape := ⟨2, ![8192, 4096]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S8192x2048 : Shape := ⟨2, ![8192, 2048]⟩
abbrev S4x1024 : Shape := ⟨2, ![4, 1024]⟩
abbrev S8x128x128 : Shape := ⟨3, ![8, 128, 128]⟩
abbrev S8192x1024 : Shape := ⟨2, ![8192, 1024]⟩
abbrev S6x8192x1024 : Shape := ⟨3, ![6, 8192, 1024]⟩
abbrev S256x1024 : Shape := ⟨2, ![256, 1024]⟩
abbrev S6x256x1024 : Shape := ⟨3, ![6, 256, 1024]⟩
abbrev S8x1024 : Shape := ⟨2, ![8, 1024]⟩
abbrev S264x1024 : Shape := ⟨2, ![264, 1024]⟩
abbrev S256x128 : Shape := ⟨2, ![256, 128]⟩
abbrev S1x128x128 : Shape := ⟨3, ![1, 128, 128]⟩
abbrev S128x128 : Shape := ⟨2, ![128, 128]⟩
abbrev S1x256x1024 : Shape := ⟨3, ![1, 256, 1024]⟩
abbrev S256 : Shape := ⟨1, ![256]⟩
abbrev S256x1 : Shape := ⟨2, ![256, 1]⟩

abbrev nBuf : Space → Nat
  | .hbm => 19
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S1x4x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x8x128x128, .f32⟩
  | .hbm, ⟨6, _⟩ => ⟨S1x8x128, .f32⟩
  | .hbm, ⟨7, _⟩ => ⟨S1x1024, .f32⟩
  | .hbm, ⟨8, _⟩ => ⟨S1x1024, .f32⟩
  | .hbm, ⟨9, _⟩ => ⟨S_, .bf16⟩
  | .hbm, ⟨10, _⟩ => ⟨S8192x2048, .bf16⟩
  | .hbm, ⟨11, _⟩ => ⟨S4x1024, .f32⟩
  | .hbm, ⟨12, _⟩ => ⟨S8x128x128, .f32⟩
  | .hbm, ⟨13, _⟩ => ⟨S1x1024, .f32⟩
  | .hbm, ⟨14, _⟩ => ⟨S8x128x128, .f32⟩
  | .hbm, ⟨15, _⟩ => ⟨S1x1024, .f32⟩
  | .hbm, ⟨16, _⟩ => ⟨S8192x2048, .bf16⟩
  | .hbm, ⟨17, _⟩ => ⟨S8192x1024, .f32⟩
  | .hbm, ⟨18, _⟩ => ⟨S6x8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .f32⟩
  | .local _ .vmem, ⟨7, _⟩ => ⟨S1x1024, .f32⟩
  | .local _ .vmem, ⟨8, _⟩ => ⟨S8x128x128, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S6x256x1024, .f32⟩
  | .local _ .vmem, ⟨17, _⟩ => ⟨S6x256x1024, .f32⟩
  | .local _ .vmem, ⟨18, _⟩ => ⟨S8x1024, .f32⟩
  | .local _ .vmem, ⟨19, _⟩ => ⟨S8x1024, .f32⟩
  | .local _ .vmem, ⟨20, _⟩ => ⟨S256x1024, .f32⟩
  | .local _ .vmem, ⟨21, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_134 : BitVec 32 := 0#32
  let c32_i32 : BitVec 32 := 32#32
  let v251 : BitVec 32 := Scalar.addi c0_i32_134 c32_i32
  let c1_i32_135 : BitVec 32 := 1#32
  ⟨c0_i32_134, v251, c1_i32_135⟩
def k0_mult1 (k0_t1 : Fin k0_t1_loop.trips) : BitVec 32 :=
  let c0_i32_134 : BitVec 32 := 0#32
  let c1_i32_135 : BitVec 32 := 1#32
  let arg19 : BitVec 32 := Scf.iv c0_i32_134 c1_i32_135 k0_t1
  let c8_i32 : BitVec 32 := 8#32
  let v287 : BitVec 32 := Scalar.muli arg19 c8_i32
  v287
def k0_off1 (k0_t1 : Fin k0_t1_loop.trips) : Fin 2 → Nat :=
  let c0_i32_134 : BitVec 32 := 0#32
  let c1_i32_135 : BitVec 32 := 1#32
  let arg19 : BitVec 32 := Scf.iv c0_i32_134 c1_i32_135 k0_t1
  let c8_i32 : BitVec 32 := 8#32
  let v287 : BitVec 32 := Scalar.muli arg19 c8_i32
  let v288 : BitVec 32 := v287
  let v289 : Index := Scalar.indexCast v288
  let c0_154 : Index := 0#32
  ![v289.toNat, 0]
def k0_off2 (k0_t1 : Fin k0_t1_loop.trips) : Fin 2 → Nat :=
  let c0_i32_134 : BitVec 32 := 0#32
  let c1_i32_135 : BitVec 32 := 1#32
  let arg19 : BitVec 32 := Scf.iv c0_i32_134 c1_i32_135 k0_t1
  let c8_i32 : BitVec 32 := 8#32
  let v287 : BitVec 32 := Scalar.muli arg19 c8_i32
  let v288 : BitVec 32 := v287
  let c7_i32_157 : BitVec 32 := 7#32
  let v297 : BitVec 32 := Scalar.addi v288 c7_i32_157
  let v298 : Index := Scalar.indexCast v297
  let c0_158 : Index := 0#32
  ![v298.toNat, 0]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S6x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LruFwdIdeal.lean ====
variable {F : FTy → Type} [FloatOps F] [Named F]
def κ : String → Option EReal := fun
  | "root_cube" => some (((6693141 / 8388608) * (12003091 / 268435456) : ℝ) : EReal)
  | "six_root_cube" => some (((6 * (6693141 / 8388608)) * (12003091 / 268435456) : ℝ) : EReal)
  | _ => none
-- ==== LruFwdRefIdeal.lean ====
abbrev S8192x4096 : Shape := ⟨2, ![8192, 4096]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S4x1024 : Shape := ⟨2, ![4, 1024]⟩
abbrev S1024 : Shape := ⟨1, ![1024]⟩
abbrev S_ : Shape := ⟨0, ![]⟩
abbrev S8195x1024 : Shape := ⟨2, ![8195, 1024]⟩
abbrev S8x128x128 : Shape := ⟨3, ![8, 128, 128]⟩
abbrev S8x128 : Shape := ⟨2, ![8, 128]⟩
abbrev S8192x8x128 : Shape := ⟨3, ![8192, 8, 128]⟩
abbrev S8x128x8192 : Shape := ⟨3, ![8, 128, 8192]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S0x1024 : Shape := ⟨2, ![0, 1024]⟩
abbrev S3x1024 : Shape := ⟨2, ![3, 1024]⟩
abbrev S7x1024 : Shape := ⟨2, ![7, 1024]⟩
abbrev S15x1024 : Shape := ⟨2, ![15, 1024]⟩
abbrev S31x1024 : Shape := ⟨2, ![31, 1024]⟩
abbrev S63x1024 : Shape := ⟨2, ![63, 1024]⟩
abbrev S127x1024 : Shape := ⟨2, ![127, 1024]⟩
abbrev S255x1024 : Shape := ⟨2, ![255, 1024]⟩
abbrev S511x1024 : Shape := ⟨2, ![511, 1024]⟩
abbrev S1023x1024 : Shape := ⟨2, ![1023, 1024]⟩
abbrev S2047x1024 : Shape := ⟨2, ![2047, 1024]⟩
abbrev S4095x1024 : Shape := ⟨2, ![4095, 1024]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 513
  | .vmem => 0
  | .smem => 0
  | _ => 0

abbrev hbmTy0_0 (i : Nat) : BufTy := match i % 128 with
  | 0 => ⟨S8192x4096, .f32⟩
  | 1 => ⟨S1x4x1024, .f32⟩
  | 2 => ⟨S1x1024, .f32⟩
  | 3 => ⟨S1x8x128x128, .f32⟩
  | 4 => ⟨S1x8x128, .f32⟩
  | 5 => ⟨S1x8x128x128, .f32⟩
  | 6 => ⟨S1x8x128, .f32⟩
  | 7 => ⟨S1x1024, .f32⟩
  | 8 => ⟨S1x1024, .f32⟩
  | 9 => ⟨S8192x1024, .f32⟩
  | 10 => ⟨S4x1024, .f32⟩
  | 11 => ⟨S1024, .f32⟩
  | 12 => ⟨S_, .i32⟩
  | 13 => ⟨S_, .f32⟩
  | 14 => ⟨S8195x1024, .f32⟩
  | 15 => ⟨S8192x1024, .f32⟩
  | 16 => ⟨S1x1024, .f32⟩
  | 17 => ⟨S1024, .f32⟩
  | 18 => ⟨S1x1024, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S1x1024, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S1x1024, .f32⟩
  | 33 => ⟨S1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S1x1024, .f32⟩
  | 40 => ⟨S1024, .f32⟩
  | 41 => ⟨S1x1024, .f32⟩
  | 42 => ⟨S8192x1024, .f32⟩
  | 43 => ⟨S8192x1024, .f32⟩
  | 44 => ⟨S8192x1024, .f32⟩
  | 45 => ⟨S8x128x128, .f32⟩
  | 46 => ⟨S8x128, .f32⟩
  | 47 => ⟨S8x128x128, .f32⟩
  | 48 => ⟨S8x128, .f32⟩
  | 49 => ⟨S1024, .f32⟩
  | 50 => ⟨S8192x8x128, .f32⟩
  | 51 => ⟨S8x128x8192, .f32⟩
  | 52 => ⟨S8192x8x128, .f32⟩
  | 53 => ⟨S1x8x128, .f32⟩
  | 54 => ⟨S8192x8x128, .f32⟩
  | 55 => ⟨S8192x8x128, .f32⟩
  | 56 => ⟨S8192x8x128, .f32⟩
  | 57 => ⟨S8192x8x128, .f32⟩
  | 58 => ⟨S_, .f32⟩
  | 59 => ⟨S8192x8x128, .f32⟩
  | 60 => ⟨S8192x8x128, .f32⟩
  | 61 => ⟨S_, .f32⟩
  | 62 => ⟨S8192x8x128, .f32⟩
  | 63 => ⟨S8192x8x128, .f32⟩
  | 64 => ⟨S8192x1024, .f32⟩
  | 65 => ⟨S8x128x8192, .f32⟩
  | 66 => ⟨S8192x8x128, .f32⟩
  | 67 => ⟨S1x8x128, .f32⟩
  | 68 => ⟨S8192x8x128, .f32⟩
  | 69 => ⟨S8192x8x128, .f32⟩
  | 70 => ⟨S8192x8x128, .f32⟩
  | 71 => ⟨S8192x8x128, .f32⟩
  | 72 => ⟨S_, .f32⟩
  | 73 => ⟨S8192x8x128, .f32⟩
  | 74 => ⟨S8192x8x128, .f32⟩
  | 75 => ⟨S_, .f32⟩
  | 76 => ⟨S8192x8x128, .f32⟩
  | 77 => ⟨S8192x8x128, .f32⟩
  | 78 => ⟨S8192x1024, .f32⟩
  | 79 => ⟨S_, .f32⟩
  | 80 => ⟨S8192x1024, .f32⟩
  | 81 => ⟨S8192x1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S1024, .f32⟩
  | 88 => ⟨S1024, .i1⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1x1024, .f32⟩
  | 98 => ⟨S8192x1024, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S1024x1024, .f32⟩
  | 124 => ⟨S1024x1024, .f32⟩
  | 125 => ⟨S1024x1024, .f32⟩
  | 126 => ⟨S1024x1024, .f32⟩
  | 127 => ⟨S1024x1024, .f32⟩
  | _ => ⟨S8192x4096, .f32⟩

abbrev hbmTy0_1 (i : Nat) : BufTy := match i % 128 with
  | 0 => ⟨S1024x1024, .f32⟩
  | 1 => ⟨S1024x1024, .f32⟩
  | 2 => ⟨S512x1024, .f32⟩
  | 3 => ⟨S512x1024, .f32⟩
  | 4 => ⟨S512x1024, .f32⟩
  | 5 => ⟨S512x1024, .f32⟩
  | 6 => ⟨S512x1024, .f32⟩
  | 7 => ⟨S512x1024, .f32⟩
  | 8 => ⟨S512x1024, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S256x1024, .f32⟩
  | 15 => ⟨S256x1024, .f32⟩
  | 16 => ⟨S128x1024, .f32⟩
  | 17 => ⟨S128x1024, .f32⟩
  | 18 => ⟨S128x1024, .f32⟩
  | 19 => ⟨S128x1024, .f32⟩
  | 20 => ⟨S128x1024, .f32⟩
  | 21 => ⟨S128x1024, .f32⟩
  | 22 => ⟨S128x1024, .f32⟩
  | 23 => ⟨S64x1024, .f32⟩
  | 24 => ⟨S64x1024, .f32⟩
  | 25 => ⟨S64x1024, .f32⟩
  | 26 => ⟨S64x1024, .f32⟩
  | 27 => ⟨S64x1024, .f32⟩
  | 28 => ⟨S64x1024, .f32⟩
  | 29 => ⟨S64x1024, .f32⟩
  | 30 => ⟨S32x1024, .f32⟩
  | 31 => ⟨S32x1024, .f32⟩
  | 32 => ⟨S32x1024, .f32⟩
  | 33 => ⟨S32x1024, .f32⟩
  | 34 => ⟨S32x1024, .f32⟩
  | 35 => ⟨S32x1024, .f32⟩
  | 36 => ⟨S32x1024, .f32⟩
  | 37 => ⟨S16x1024, .f32⟩
  | 38 => ⟨S16x1024, .f32⟩
  | 39 => ⟨S16x1024, .f32⟩
  | 40 => ⟨S16x1024, .f32⟩
  | 41 => ⟨S16x1024, .f32⟩
  | 42 => ⟨S16x1024, .f32⟩
  | 43 => ⟨S16x1024, .f32⟩
  | 44 => ⟨S8x1024, .f32⟩
  | 45 => ⟨S8x1024, .f32⟩
  | 46 => ⟨S8x1024, .f32⟩
  | 47 => ⟨S8x1024, .f32⟩
  | 48 => ⟨S8x1024, .f32⟩
  | 49 => ⟨S8x1024, .f32⟩
  | 50 => ⟨S8x1024, .f32⟩
  | 51 => ⟨S4x1024, .f32⟩
  | 52 => ⟨S4x1024, .f32⟩
  | 53 => ⟨S4x1024, .f32⟩
  | 54 => ⟨S4x1024, .f32⟩
  | 55 => ⟨S4x1024, .f32⟩
  | 56 => ⟨S4x1024, .f32⟩
  | 57 => ⟨S4x1024, .f32⟩
  | 58 => ⟨S2x1024, .f32⟩
  | 59 => ⟨S2x1024, .f32⟩
  | 60 => ⟨S2x1024, .f32⟩
  | 61 => ⟨S2x1024, .f32⟩
  | 62 => ⟨S2x1024, .f32⟩
  | 63 => ⟨S2x1024, .f32⟩
  | 64 => ⟨S2x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S0x1024, .f32⟩
  | 73 => ⟨S0x1024, .f32⟩
  | 74 => ⟨S0x1024, .f32⟩
  | 75 => ⟨S0x1024, .f32⟩
  | 76 => ⟨S0x1024, .f32⟩
  | 77 => ⟨S0x1024, .f32⟩
  | 78 => ⟨S0x1024, .f32⟩
  | 79 => ⟨S1x1024, .f32⟩
  | 80 => ⟨S1x1024, .f32⟩
  | 81 => ⟨S1x1024, .f32⟩
  | 82 => ⟨S1x1024, .f32⟩
  | 83 => ⟨S_, .f32⟩
  | 84 => ⟨S2x1024, .f32⟩
  | 85 => ⟨S_, .f32⟩
  | 86 => ⟨S2x1024, .f32⟩
  | 87 => ⟨S2x1024, .f32⟩
  | 88 => ⟨S_, .f32⟩
  | 89 => ⟨S2x1024, .f32⟩
  | 90 => ⟨S_, .f32⟩
  | 91 => ⟨S2x1024, .f32⟩
  | 92 => ⟨S2x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S2x1024, .f32⟩
  | 102 => ⟨S1x1024, .f32⟩
  | 103 => ⟨S2x1024, .f32⟩
  | 104 => ⟨S_, .f32⟩
  | 105 => ⟨S4x1024, .f32⟩
  | 106 => ⟨S_, .f32⟩
  | 107 => ⟨S4x1024, .f32⟩
  | 108 => ⟨S4x1024, .f32⟩
  | 109 => ⟨S_, .f32⟩
  | 110 => ⟨S4x1024, .f32⟩
  | 111 => ⟨S_, .f32⟩
  | 112 => ⟨S4x1024, .f32⟩
  | 113 => ⟨S4x1024, .f32⟩
  | 114 => ⟨S3x1024, .f32⟩
  | 115 => ⟨S3x1024, .f32⟩
  | 116 => ⟨S3x1024, .f32⟩
  | 117 => ⟨S3x1024, .f32⟩
  | 118 => ⟨S3x1024, .f32⟩
  | 119 => ⟨S3x1024, .f32⟩
  | 120 => ⟨S3x1024, .f32⟩
  | 121 => ⟨S1x1024, .f32⟩
  | 122 => ⟨S4x1024, .f32⟩
  | 123 => ⟨S1x1024, .f32⟩
  | 124 => ⟨S4x1024, .f32⟩
  | 125 => ⟨S_, .f32⟩
  | 126 => ⟨S8x1024, .f32⟩
  | 127 => ⟨S_, .f32⟩
  | _ => ⟨S8192x4096, .f32⟩

abbrev hbmTy0_2 (i : Nat) : BufTy := match i % 128 with
  | 0 => ⟨S8x1024, .f32⟩
  | 1 => ⟨S8x1024, .f32⟩
  | 2 => ⟨S_, .f32⟩
  | 3 => ⟨S8x1024, .f32⟩
  | 4 => ⟨S_, .f32⟩
  | 5 => ⟨S8x1024, .f32⟩
  | 6 => ⟨S8x1024, .f32⟩
  | 7 => ⟨S7x1024, .f32⟩
  | 8 => ⟨S7x1024, .f32⟩
  | 9 => ⟨S7x1024, .f32⟩
  | 10 => ⟨S7x1024, .f32⟩
  | 11 => ⟨S7x1024, .f32⟩
  | 12 => ⟨S7x1024, .f32⟩
  | 13 => ⟨S7x1024, .f32⟩
  | 14 => ⟨S1x1024, .f32⟩
  | 15 => ⟨S8x1024, .f32⟩
  | 16 => ⟨S1x1024, .f32⟩
  | 17 => ⟨S8x1024, .f32⟩
  | 18 => ⟨S_, .f32⟩
  | 19 => ⟨S16x1024, .f32⟩
  | 20 => ⟨S_, .f32⟩
  | 21 => ⟨S16x1024, .f32⟩
  | 22 => ⟨S16x1024, .f32⟩
  | 23 => ⟨S_, .f32⟩
  | 24 => ⟨S16x1024, .f32⟩
  | 25 => ⟨S_, .f32⟩
  | 26 => ⟨S16x1024, .f32⟩
  | 27 => ⟨S16x1024, .f32⟩
  | 28 => ⟨S15x1024, .f32⟩
  | 29 => ⟨S15x1024, .f32⟩
  | 30 => ⟨S15x1024, .f32⟩
  | 31 => ⟨S15x1024, .f32⟩
  | 32 => ⟨S15x1024, .f32⟩
  | 33 => ⟨S15x1024, .f32⟩
  | 34 => ⟨S15x1024, .f32⟩
  | 35 => ⟨S1x1024, .f32⟩
  | 36 => ⟨S16x1024, .f32⟩
  | 37 => ⟨S1x1024, .f32⟩
  | 38 => ⟨S16x1024, .f32⟩
  | 39 => ⟨S_, .f32⟩
  | 40 => ⟨S32x1024, .f32⟩
  | 41 => ⟨S_, .f32⟩
  | 42 => ⟨S32x1024, .f32⟩
  | 43 => ⟨S32x1024, .f32⟩
  | 44 => ⟨S_, .f32⟩
  | 45 => ⟨S32x1024, .f32⟩
  | 46 => ⟨S_, .f32⟩
  | 47 => ⟨S32x1024, .f32⟩
  | 48 => ⟨S32x1024, .f32⟩
  | 49 => ⟨S31x1024, .f32⟩
  | 50 => ⟨S31x1024, .f32⟩
  | 51 => ⟨S31x1024, .f32⟩
  | 52 => ⟨S31x1024, .f32⟩
  | 53 => ⟨S31x1024, .f32⟩
  | 54 => ⟨S31x1024, .f32⟩
  | 55 => ⟨S31x1024, .f32⟩
  | 56 => ⟨S1x1024, .f32⟩
  | 57 => ⟨S32x1024, .f32⟩
  | 58 => ⟨S1x1024, .f32⟩
  | 59 => ⟨S32x1024, .f32⟩
  | 60 => ⟨S_, .f32⟩
  | 61 => ⟨S64x1024, .f32⟩
  | 62 => ⟨S_, .f32⟩
  | 63 => ⟨S64x1024, .f32⟩
  | 64 => ⟨S64x1024, .f32⟩
  | 65 => ⟨S_, .f32⟩
  | 66 => ⟨S64x1024, .f32⟩
  | 67 => ⟨S_, .f32⟩
  | 68 => ⟨S64x1024, .f32⟩
  | 69 => ⟨S64x1024, .f32⟩
  | 70 => ⟨S63x1024, .f32⟩
  | 71 => ⟨S63x1024, .f32⟩
  | 72 => ⟨S63x1024, .f32⟩
  | 73 => ⟨S63x1024, .f32⟩
  | 74 => ⟨S63x1024, .f32⟩
  | 75 => ⟨S63x1024, .f32⟩
  | 76 => ⟨S63x1024, .f32⟩
  | 77 => ⟨S1x1024, .f32⟩
  | 78 => ⟨S64x1024, .f32⟩
  | 79 => ⟨S1x1024, .f32⟩
  | 80 => ⟨S64x1024, .f32⟩
  | 81 => ⟨S_, .f32⟩
  | 82 => ⟨S128x1024, .f32⟩
  | 83 => ⟨S_, .f32⟩
  | 84 => ⟨S128x1024, .f32⟩
  | 85 => ⟨S128x1024, .f32⟩
  | 86 => ⟨S_, .f32⟩
  | 87 => ⟨S128x1024, .f32⟩
  | 88 => ⟨S_, .f32⟩
  | 89 => ⟨S128x1024, .f32⟩
  | 90 => ⟨S128x1024, .f32⟩
  | 91 => ⟨S127x1024, .f32⟩
  | 92 => ⟨S127x1024, .f32⟩
  | 93 => ⟨S127x1024, .f32⟩
  | 94 => ⟨S127x1024, .f32⟩
  | 95 => ⟨S127x1024, .f32⟩
  | 96 => ⟨S127x1024, .f32⟩
  | 97 => ⟨S127x1024, .f32⟩
  | 98 => ⟨S1x1024, .f32⟩
  | 99 => ⟨S128x1024, .f32⟩
  | 100 => ⟨S1x1024, .f32⟩
  | 101 => ⟨S128x1024, .f32⟩
  | 102 => ⟨S_, .f32⟩
  | 103 => ⟨S256x1024, .f32⟩
  | 104 => ⟨S_, .f32⟩
  | 105 => ⟨S256x1024, .f32⟩
  | 106 => ⟨S256x1024, .f32⟩
  | 107 => ⟨S_, .f32⟩
  | 108 => ⟨S256x1024, .f32⟩
  | 109 => ⟨S_, .f32⟩
  | 110 => ⟨S256x1024, .f32⟩
  | 111 => ⟨S256x1024, .f32⟩
  | 112 => ⟨S255x1024, .f32⟩
  | 113 => ⟨S255x1024, .f32⟩
  | 114 => ⟨S255x1024, .f32⟩
  | 115 => ⟨S255x1024, .f32⟩
  | 116 => ⟨S255x1024, .f32⟩
  | 117 => ⟨S255x1024, .f32⟩
  | 118 => ⟨S255x1024, .f32⟩
  | 119 => ⟨S1x1024, .f32⟩
  | 120 => ⟨S256x1024, .f32⟩
  | 121 => ⟨S1x1024, .f32⟩
  | 122 => ⟨S256x1024, .f32⟩
  | 123 => ⟨S_, .f32⟩
  | 124 => ⟨S512x1024, .f32⟩
  | 125 => ⟨S_, .f32⟩
  | 126 => ⟨S512x1024, .f32⟩
  | 127 => ⟨S512x1024, .f32⟩
  | _ => ⟨S8192x4096, .f32⟩

abbrev hbmTy0_3 (i : Nat) : BufTy := match i % 128 with
  | 0 => ⟨S_, .f32⟩
  | 1 => ⟨S512x1024, .f32⟩
  | 2 => ⟨S_, .f32⟩
  | 3 => ⟨S512x1024, .f32⟩
  | 4 => ⟨S512x1024, .f32⟩
  | 5 => ⟨S511x1024, .f32⟩
  | 6 => ⟨S511x1024, .f32⟩
  | 7 => ⟨S511x1024, .f32⟩
  | 8 => ⟨S511x1024, .f32⟩
  | 9 => ⟨S511x1024, .f32⟩
  | 10 => ⟨S511x1024, .f32⟩
  | 11 => ⟨S511x1024, .f32⟩
  | 12 => ⟨S1x1024, .f32⟩
  | 13 => ⟨S512x1024, .f32⟩
  | 14 => ⟨S1x1024, .f32⟩
  | 15 => ⟨S512x1024, .f32⟩
  | 16 => ⟨S_, .f32⟩
  | 17 => ⟨S1024x1024, .f32⟩
  | 18 => ⟨S_, .f32⟩
  | 19 => ⟨S1024x1024, .f32⟩
  | 20 => ⟨S1024x1024, .f32⟩
  | 21 => ⟨S_, .f32⟩
  | 22 => ⟨S1024x1024, .f32⟩
  | 23 => ⟨S_, .f32⟩
  | 24 => ⟨S1024x1024, .f32⟩
  | 25 => ⟨S1024x1024, .f32⟩
  | 26 => ⟨S1023x1024, .f32⟩
  | 27 => ⟨S1023x1024, .f32⟩
  | 28 => ⟨S1023x1024, .f32⟩
  | 29 => ⟨S1023x1024, .f32⟩
  | 30 => ⟨S1023x1024, .f32⟩
  | 31 => ⟨S1023x1024, .f32⟩
  | 32 => ⟨S1023x1024, .f32⟩
  | 33 => ⟨S1x1024, .f32⟩
  | 34 => ⟨S1024x1024, .f32⟩
  | 35 => ⟨S1x1024, .f32⟩
  | 36 => ⟨S1024x1024, .f32⟩
  | 37 => ⟨S_, .f32⟩
  | 38 => ⟨S2048x1024, .f32⟩
  | 39 => ⟨S_, .f32⟩
  | 40 => ⟨S2048x1024, .f32⟩
  | 41 => ⟨S2048x1024, .f32⟩
  | 42 => ⟨S_, .f32⟩
  | 43 => ⟨S2048x1024, .f32⟩
  | 44 => ⟨S_, .f32⟩
  | 45 => ⟨S2048x1024, .f32⟩
  | 46 => ⟨S2048x1024, .f32⟩
  | 47 => ⟨S2047x1024, .f32⟩
  | 48 => ⟨S2047x1024, .f32⟩
  | 49 => ⟨S2047x1024, .f32⟩
  | 50 => ⟨S2047x1024, .f32⟩
  | 51 => ⟨S2047x1024, .f32⟩
  | 52 => ⟨S2047x1024, .f32⟩
  | 53 => ⟨S2047x1024, .f32⟩
  | 54 => ⟨S1x1024, .f32⟩
  | 55 => ⟨S2048x1024, .f32⟩
  | 56 => ⟨S1x1024, .f32⟩
  | 57 => ⟨S2048x1024, .f32⟩
  | 58 => ⟨S_, .f32⟩
  | 59 => ⟨S4096x1024, .f32⟩
  | 60 => ⟨S_, .f32⟩
  | 61 => ⟨S4096x1024, .f32⟩
  | 62 => ⟨S4096x1024, .f32⟩
  | 63 => ⟨S_, .f32⟩
  | 64 => ⟨S4096x1024, .f32⟩
  | 65 => ⟨S_, .f32⟩
  | 66 => ⟨S4096x1024, .f32⟩
  | 67 => ⟨S4096x1024, .f32⟩
  | 68 => ⟨S4095x1024, .f32⟩
  | 69 => ⟨S4095x1024, .f32⟩
  | 70 => ⟨S4095x1024, .f32⟩
  | 71 => ⟨S4095x1024, .f32⟩
  | 72 => ⟨S4095x1024, .f32⟩
  | 73 => ⟨S4095x1024, .f32⟩
  | 74 => ⟨S4095x1024, .f32⟩
  | 75 => ⟨S1x1024, .f32⟩
  | 76 => ⟨S4096x1024, .f32⟩
  | 77 => ⟨S1x1024, .f32⟩
  | 78 => ⟨S4096x1024, .f32⟩
  | 79 => ⟨S_, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S8192x1024, .f32⟩
  | 107 => ⟨S8192x1024, .f32⟩
  | 108 => ⟨S1024, .f32⟩
  | 109 => ⟨S8192x1024, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x1, .f32⟩
  | 120 => ⟨S8192x1024, .f32⟩
  | 121 => ⟨S8192x1024, .f32⟩
  | 122 => ⟨S1x1024, .f32⟩
  | 123 => ⟨S8192x1024, .f32⟩
  | 124 => ⟨S8192x1024, .f32⟩
  | 125 => ⟨S_, .f32⟩
  | 126 => ⟨S8192x1024, .f32⟩
  | 127 => ⟨S8192x2048, .f32⟩
  | _ => ⟨S8192x4096, .f32⟩

abbrev hbmTy0_4 (i : Nat) : BufTy := match i % 128 with
  | 0 => ⟨S8192x2048, .bf16⟩
  | _ => ⟨S8192x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_1 : Ref sig .tc := ⟨.hbm, 72, rfl⟩
abbrev main_v59 : Ref sig .tc := ⟨.hbm, 73, rfl⟩
abbrev main_v60 : Ref sig .tc := ⟨.hbm, 74, rfl⟩
abbrev main_cst_2 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_3 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_4 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_cst_5 : Ref sig .tc := ⟨.hbm, 211, rfl⟩
abbrev main_v181 : Ref sig .tc := ⟨.hbm, 212, rfl⟩
abbrev main_cst_6 : Ref sig .tc := ⟨.hbm, 213, rfl⟩
abbrev main_v182 : Ref sig .tc := ⟨.hbm, 214, rfl⟩
abbrev main_v183 : Ref sig .tc := ⟨.hbm, 215, rfl⟩
abbrev main_cst_7 : Ref sig .tc := ⟨.hbm, 216, rfl⟩
abbrev main_v184 : Ref sig .tc := ⟨.hbm, 217, rfl⟩
abbrev main_cst_8 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_cst_9 : Ref sig .tc := ⟨.hbm, 232, rfl⟩
abbrev main_v198 : Ref sig .tc := ⟨.hbm, 233, rfl⟩
abbrev main_cst_10 : Ref sig .tc := ⟨.hbm, 234, rfl⟩
abbrev main_v199 : Ref sig .tc := ⟨.hbm, 235, rfl⟩
abbrev main_v200 : Ref sig .tc := ⟨.hbm, 236, rfl⟩
abbrev main_cst_11 : Ref sig .tc := ⟨.hbm, 237, rfl⟩
abbrev main_v201 : Ref sig .tc := ⟨.hbm, 238, rfl⟩
abbrev main_cst_12 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_cst_13 : Ref sig .tc := ⟨.hbm, 253, rfl⟩
abbrev main_v215 : Ref sig .tc := ⟨.hbm, 254, rfl⟩
abbrev main_cst_14 : Ref sig .tc := ⟨.hbm, 255, rfl⟩
abbrev main_v216 : Ref sig .tc := ⟨.hbm, 256, rfl⟩
abbrev main_v217 : Ref sig .tc := ⟨.hbm, 257, rfl⟩
abbrev main_cst_15 : Ref sig .tc := ⟨.hbm, 258, rfl⟩
abbrev main_v218 : Ref sig .tc := ⟨.hbm, 259, rfl⟩
abbrev main_cst_16 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_cst_17 : Ref sig .tc := ⟨.hbm, 274, rfl⟩
abbrev main_v232 : Ref sig .tc := ⟨.hbm, 275, rfl⟩
abbrev main_cst_18 : Ref sig .tc := ⟨.hbm, 276, rfl⟩
abbrev main_v233 : Ref sig .tc := ⟨.hbm, 277, rfl⟩
abbrev main_v234 : Ref sig .tc := ⟨.hbm, 278, rfl⟩
abbrev main_cst_19 : Ref sig .tc := ⟨.hbm, 279, rfl⟩
abbrev main_v235 : Ref sig .tc := ⟨.hbm, 280, rfl⟩
abbrev main_cst_20 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_cst_21 : Ref sig .tc := ⟨.hbm, 295, rfl⟩
abbrev main_v249 : Ref sig .tc := ⟨.hbm, 296, rfl⟩
abbrev main_cst_22 : Ref sig .tc := ⟨.hbm, 297, rfl⟩
abbrev main_v250 : Ref sig .tc := ⟨.hbm, 298, rfl⟩
abbrev main_v251 : Ref sig .tc := ⟨.hbm, 299, rfl⟩
abbrev main_cst_23 : Ref sig .tc := ⟨.hbm, 300, rfl⟩
abbrev main_v252 : Ref sig .tc := ⟨.hbm, 301, rfl⟩
abbrev main_cst_24 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_cst_25 : Ref sig .tc := ⟨.hbm, 316, rfl⟩
abbrev main_v266 : Ref sig .tc := ⟨.hbm, 317, rfl⟩
abbrev main_cst_26 : Ref sig .tc := ⟨.hbm, 318, rfl⟩
abbrev main_v267 : Ref sig .tc := ⟨.hbm, 319, rfl⟩
abbrev main_v268 : Ref sig .tc := ⟨.hbm, 320, rfl⟩
abbrev main_cst_27 : Ref sig .tc := ⟨.hbm, 321, rfl⟩
abbrev main_v269 : Ref sig .tc := ⟨.hbm, 322, rfl⟩
abbrev main_cst_28 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_cst_29 : Ref sig .tc := ⟨.hbm, 337, rfl⟩
abbrev main_v283 : Ref sig .tc := ⟨.hbm, 338, rfl⟩
abbrev main_cst_30 : Ref sig .tc := ⟨.hbm, 339, rfl⟩
abbrev main_v284 : Ref sig .tc := ⟨.hbm, 340, rfl⟩
abbrev main_v285 : Ref sig .tc := ⟨.hbm, 341, rfl⟩
abbrev main_cst_31 : Ref sig .tc := ⟨.hbm, 342, rfl⟩
abbrev main_v286 : Ref sig .tc := ⟨.hbm, 343, rfl⟩
abbrev main_cst_32 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_cst_33 : Ref sig .tc := ⟨.hbm, 358, rfl⟩
abbrev main_v300 : Ref sig .tc := ⟨.hbm, 359, rfl⟩
abbrev main_cst_34 : Ref sig .tc := ⟨.hbm, 360, rfl⟩
abbrev main_v301 : Ref sig .tc := ⟨.hbm, 361, rfl⟩
abbrev main_v302 : Ref sig .tc := ⟨.hbm, 362, rfl⟩
abbrev main_cst_35 : Ref sig .tc := ⟨.hbm, 363, rfl⟩
abbrev main_v303 : Ref sig .tc := ⟨.hbm, 364, rfl⟩
abbrev main_cst_36 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_v314 : Ref sig .tc := ⟨.hbm, 376, rfl⟩
abbrev main_v315 : Ref sig .tc := ⟨.hbm, 377, rfl⟩
abbrev main_v316 : Ref sig .tc := ⟨.hbm, 378, rfl⟩
abbrev main_cst_37 : Ref sig .tc := ⟨.hbm, 379, rfl⟩
abbrev main_v317 : Ref sig .tc := ⟨.hbm, 380, rfl⟩
abbrev main_cst_38 : Ref sig .tc := ⟨.hbm, 381, rfl⟩
abbrev main_v318 : Ref sig .tc := ⟨.hbm, 382, rfl⟩
abbrev main_v319 : Ref sig .tc := ⟨.hbm, 383, rfl⟩
abbrev main_cst_39 : Ref sig .tc := ⟨.hbm, 384, rfl⟩
abbrev main_v320 : Ref sig .tc := ⟨.hbm, 385, rfl⟩
abbrev main_cst_40 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_cst_41 : Ref sig .tc := ⟨.hbm, 400, rfl⟩
abbrev main_v334 : Ref sig .tc := ⟨.hbm, 401, rfl⟩
abbrev main_cst_42 : Ref sig .tc := ⟨.hbm, 402, rfl⟩
abbrev main_v335 : Ref sig .tc := ⟨.hbm, 403, rfl⟩
abbrev main_v336 : Ref sig .tc := ⟨.hbm, 404, rfl⟩
abbrev main_cst_43 : Ref sig .tc := ⟨.hbm, 405, rfl⟩
abbrev main_v337 : Ref sig .tc := ⟨.hbm, 406, rfl⟩
abbrev main_cst_44 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_cst_45 : Ref sig .tc := ⟨.hbm, 421, rfl⟩
abbrev main_v351 : Ref sig .tc := ⟨.hbm, 422, rfl⟩
abbrev main_cst_46 : Ref sig .tc := ⟨.hbm, 423, rfl⟩
abbrev main_v352 : Ref sig .tc := ⟨.hbm, 424, rfl⟩
abbrev main_v353 : Ref sig .tc := ⟨.hbm, 425, rfl⟩
abbrev main_cst_47 : Ref sig .tc := ⟨.hbm, 426, rfl⟩
abbrev main_v354 : Ref sig .tc := ⟨.hbm, 427, rfl⟩
abbrev main_cst_48 : Ref sig .tc := ⟨.hbm, 428, rfl⟩
abbrev main_v355 : Ref sig .tc := ⟨.hbm, 429, rfl⟩
abbrev main_v356 : Ref sig .tc := ⟨.hbm, 430, rfl⟩
abbrev main_v357 : Ref sig .tc := ⟨.hbm, 431, rfl⟩
abbrev main_v358 : Ref sig .tc := ⟨.hbm, 432, rfl⟩
abbrev main_v359 : Ref sig .tc := ⟨.hbm, 433, rfl⟩
abbrev main_v360 : Ref sig .tc := ⟨.hbm, 434, rfl⟩
abbrev main_v361 : Ref sig .tc := ⟨.hbm, 435, rfl⟩
abbrev main_v362 : Ref sig .tc := ⟨.hbm, 436, rfl⟩
abbrev main_v363 : Ref sig .tc := ⟨.hbm, 437, rfl⟩
abbrev main_v364 : Ref sig .tc := ⟨.hbm, 438, rfl⟩
abbrev main_v365 : Ref sig .tc := ⟨.hbm, 439, rfl⟩
abbrev main_v366 : Ref sig .tc := ⟨.hbm, 440, rfl⟩
abbrev main_v367 : Ref sig .tc := ⟨.hbm, 441, rfl⟩
abbrev main_cst_49 : Ref sig .tc := ⟨.hbm, 442, rfl⟩
abbrev main_v368 : Ref sig .tc := ⟨.hbm, 443, rfl⟩
abbrev main_cst_50 : Ref sig .tc := ⟨.hbm, 444, rfl⟩
abbrev main_v369 : Ref sig .tc := ⟨.hbm, 445, rfl⟩
abbrev main_v370 : Ref sig .tc := ⟨.hbm, 446, rfl⟩
abbrev main_cst_51 : Ref sig .tc := ⟨.hbm, 447, rfl⟩
abbrev main_v371 : Ref sig .tc := ⟨.hbm, 448, rfl⟩
abbrev main_cst_52 : Ref sig .tc := ⟨.hbm, 449, rfl⟩
abbrev main_v372 : Ref sig .tc := ⟨.hbm, 450, rfl⟩
abbrev main_v373 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_v381 : Ref sig .tc := ⟨.hbm, 459, rfl⟩
abbrev main_v382 : Ref sig .tc := ⟨.hbm, 460, rfl⟩
abbrev main_v383 : Ref sig .tc := ⟨.hbm, 461, rfl⟩
abbrev main_v384 : Ref sig .tc := ⟨.hbm, 462, rfl⟩
abbrev main_cst_53 : Ref sig .tc := ⟨.hbm, 463, rfl⟩
abbrev main_v385 : Ref sig .tc := ⟨.hbm, 464, rfl⟩
abbrev main_cst_54 : Ref sig .tc := ⟨.hbm, 465, rfl⟩
abbrev main_v386 : Ref sig .tc := ⟨.hbm, 466, rfl⟩
abbrev main_v387 : Ref sig .tc := ⟨.hbm, 467, rfl⟩
abbrev main_cst_55 : Ref sig .tc := ⟨.hbm, 468, rfl⟩
abbrev main_v388 : Ref sig .tc := ⟨.hbm, 469, rfl⟩
abbrev main_cst_56 : Ref sig .tc := ⟨.hbm, 470, rfl⟩
abbrev main_v389 : Ref sig .tc := ⟨.hbm, 471, rfl⟩
abbrev main_v390 : Ref sig .tc := ⟨.hbm, 472, rfl⟩
abbrev main_v391 : Ref sig .tc := ⟨.hbm, 473, rfl⟩
abbrev main_v392 : Ref sig .tc := ⟨.hbm, 474, rfl⟩
abbrev main_v393 : Ref sig .tc := ⟨.hbm, 475, rfl⟩
abbrev main_cst_57 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_cst_58 : Ref sig .tc := ⟨.hbm, 480, rfl⟩
abbrev main_v397 : Ref sig .tc := ⟨.hbm, 481, rfl⟩
abbrev main_v398 : Ref sig .tc := ⟨.hbm, 482, rfl⟩
abbrev main_v399 : Ref sig .tc := ⟨.hbm, 483, rfl⟩
abbrev main_cst_59 : Ref sig .tc := ⟨.hbm, 484, rfl⟩
abbrev main_v400 : Ref sig .tc := ⟨.hbm, 485, rfl⟩
abbrev main_v401 : Ref sig .tc := ⟨.hbm, 486, rfl⟩
abbrev main_cst_60 : Ref sig .tc := ⟨.hbm, 487, rfl⟩
abbrev main_v402 : Ref sig .tc := ⟨.hbm, 488, rfl⟩
abbrev main_v403 : Ref sig .tc := ⟨.hbm, 489, rfl⟩
abbrev main_v404 : Ref sig .tc := ⟨.hbm, 490, rfl⟩
abbrev main_v405 : Ref sig .tc := ⟨.hbm, 491, rfl⟩
abbrev main_v406 : Ref sig .tc := ⟨.hbm, 492, rfl⟩
abbrev main_v407 : Ref sig .tc := ⟨.hbm, 493, rfl⟩
abbrev main_cst_61 : Ref sig .tc := ⟨.hbm, 494, rfl⟩
abbrev main_v408 : Ref sig .tc := ⟨.hbm, 495, rfl⟩
abbrev main_v409 : Ref sig .tc := ⟨.hbm, 496, rfl⟩
abbrev main_cst_62 : Ref sig .tc := ⟨.hbm, 497, rfl⟩
abbrev main_v410 : Ref sig .tc := ⟨.hbm, 498, rfl⟩
abbrev main_v411 : Ref sig .tc := ⟨.hbm, 499, rfl⟩
abbrev main_cst_63 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_cst_64 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩

abbrev nD : Nat := 1
abbrev τ : Topo := Topo.v7x

variable {F : FTy → Type} [FloatOps F]
-- ==== Lru.lean ====
abbrev S8192x4096 : Shape := ⟨2, ![8192, 4096]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S_ : Shape := ⟨0, ![]⟩
abbrev S8192x1024 : Shape := ⟨2, ![8192, 1024]⟩
abbrev S4x1024 : Shape := ⟨2, ![4, 1024]⟩
abbrev S1024 : Shape := ⟨1, ![1024]⟩
abbrev S8195x1024 : Shape := ⟨2, ![8195, 1024]⟩
abbrev S8192x8x128 : Shape := ⟨3, ![8192, 8, 128]⟩
abbrev S8x128x128 : Shape := ⟨3, ![8, 128, 128]⟩
abbrev S8x128x8192 : Shape := ⟨3, ![8, 128, 8192]⟩
abbrev S8x128 : Shape := ⟨2, ![8, 128]⟩
abbrev S8191x1024 : Shape := ⟨2, ![8191, 1024]⟩
abbrev S2x1024 : Shape := ⟨2, ![2, 1024]⟩
abbrev S8190x1024 : Shape := ⟨2, ![8190, 1024]⟩
abbrev S8188x1024 : Shape := ⟨2, ![8188, 1024]⟩
abbrev S8x1024 : Shape := ⟨2, ![8, 1024]⟩
abbrev S8184x1024 : Shape := ⟨2, ![8184, 1024]⟩
abbrev S16x1024 : Shape := ⟨2, ![16, 1024]⟩
abbrev S8176x1024 : Shape := ⟨2, ![8176, 1024]⟩
abbrev S32x1024 : Shape := ⟨2, ![32, 1024]⟩
abbrev S8160x1024 : Shape := ⟨2, ![8160, 1024]⟩
abbrev S64x1024 : Shape := ⟨2, ![64, 1024]⟩
abbrev S8128x1024 : Shape := ⟨2, ![8128, 1024]⟩
abbrev S128x1024 : Shape := ⟨2, ![128, 1024]⟩
abbrev S8064x1024 : Shape := ⟨2, ![8064, 1024]⟩
abbrev S256x1024 : Shape := ⟨2, ![256, 1024]⟩
abbrev S7936x1024 : Shape := ⟨2, ![7936, 1024]⟩
abbrev S512x1024 : Shape := ⟨2, ![512, 1024]⟩
abbrev S7680x1024 : Shape := ⟨2, ![7680, 1024]⟩
abbrev S1024x1024 : Shape := ⟨2, ![1024, 1024]⟩
abbrev S7168x1024 : Shape := ⟨2, ![7168, 1024]⟩
abbrev S2048x1024 : Shape := ⟨2, ![2048, 1024]⟩
abbrev S6144x1024 : Shape := ⟨2, ![6144, 1024]⟩
abbrev S4096x1024 : Shape := ⟨2, ![4096, 1024]⟩
abbrev S1x8192x1024 : Shape := ⟨3, ![1, 8192, 1024]⟩
abbrev S6x8192x1024 : Shape := ⟨3, ![6, 8192, 1024]⟩
abbrev S6x256x1024 : Shape := ⟨3, ![6, 256, 1024]⟩
abbrev S256x2048 : Shape := ⟨2, ![256, 2048]⟩
abbrev S4x16x1024 : Shape := ⟨3, ![4, 16, 1024]⟩
abbrev S1x256x1024 : Shape := ⟨3, ![1, 256, 1024]⟩
abbrev S16x128 : Shape := ⟨2, ![16, 128]⟩
abbrev S16x256 : Shape := ⟨2, ![16, 256]⟩
abbrev S1x256 : Shape := ⟨2, ![1, 256]⟩
abbrev S16 : Shape := ⟨1, ![16]⟩
abbrev S16x1 : Shape := ⟨2, ![16, 1]⟩
abbrev S1x16x256 : Shape := ⟨3, ![1, 16, 256]⟩
abbrev S1x16x1024 : Shape := ⟨3, ![1, 16, 1024]⟩
abbrev S264x1024 : Shape := ⟨2, ![264, 1024]⟩
abbrev S1x128x128 : Shape := ⟨3, ![1, 128, 128]⟩
abbrev S128x128 : Shape := ⟨2, ![128, 128]⟩
abbrev S256x128 : Shape := ⟨2, ![256, 128]⟩

abbrev nBuf : Space → Nat
  | .hbm => 276
  | .vmem => 37
  | .smem => 0
  | _ => 0

abbrev hbmTy0_0 (i : Nat) : BufTy := match i % 128 with
  | 0 => ⟨S8192x4096, .f32⟩
  | 1 => ⟨S1x4x1024, .f32⟩
  | 2 => ⟨S1x1024, .f32⟩
  | 3 => ⟨S1x8x128x128, .f32⟩
  | 4 => ⟨S1x8x128, .f32⟩
  | 5 => ⟨S1x8x128x128, .f32⟩
  | 6 => ⟨S1x8x128, .f32⟩
  | 7 => ⟨S1x1024, .f32⟩
  | 8 => ⟨S1x1024, .f32⟩
  | 9 => ⟨S8192x2048, .f32⟩
  | 10 => ⟨S_, .bf16⟩
  | 11 => ⟨S8192x4096, .bf16⟩
  | 12 => ⟨S8192x1024, .f32⟩
  | 13 => ⟨S4x1024, .f32⟩
  | 14 => ⟨S1024, .f32⟩
  | 15 => ⟨S_, .i32⟩
  | 16 => ⟨S_, .f32⟩
  | 17 => ⟨S8195x1024, .f32⟩
  | 18 => ⟨S8192x1024, .f32⟩
  | 19 => ⟨S1x1024, .f32⟩
  | 20 => ⟨S1024, .f32⟩
  | 21 => ⟨S1x1024, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S1x1024, .f32⟩
  | 29 => ⟨S1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S8192x8x128, .f32⟩
  | 49 => ⟨S8x128x128, .f32⟩
  | 50 => ⟨S8x128x8192, .f32⟩
  | 51 => ⟨S8192x8x128, .f32⟩
  | 52 => ⟨S8x128, .f32⟩
  | 53 => ⟨S1x8x128, .f32⟩
  | 54 => ⟨S8192x8x128, .f32⟩
  | 55 => ⟨S8192x8x128, .f32⟩
  | 56 => ⟨S8192x8x128, .f32⟩
  | 57 => ⟨S8192x8x128, .f32⟩
  | 58 => ⟨S_, .f32⟩
  | 59 => ⟨S8192x8x128, .f32⟩
  | 60 => ⟨S8192x8x128, .f32⟩
  | 61 => ⟨S_, .f32⟩
  | 62 => ⟨S8192x8x128, .f32⟩
  | 63 => ⟨S8192x8x128, .f32⟩
  | 64 => ⟨S8192x1024, .f32⟩
  | 65 => ⟨S8x128x128, .f32⟩
  | 66 => ⟨S8x128x8192, .f32⟩
  | 67 => ⟨S8192x8x128, .f32⟩
  | 68 => ⟨S8x128, .f32⟩
  | 69 => ⟨S1x8x128, .f32⟩
  | 70 => ⟨S8192x8x128, .f32⟩
  | 71 => ⟨S8192x8x128, .f32⟩
  | 72 => ⟨S8192x8x128, .f32⟩
  | 73 => ⟨S8192x8x128, .f32⟩
  | 74 => ⟨S_, .f32⟩
  | 75 => ⟨S8192x8x128, .f32⟩
  | 76 => ⟨S8192x8x128, .f32⟩
  | 77 => ⟨S_, .f32⟩
  | 78 => ⟨S8192x8x128, .f32⟩
  | 79 => ⟨S8192x8x128, .f32⟩
  | 80 => ⟨S8192x1024, .f32⟩
  | 81 => ⟨S_, .f32⟩
  | 82 => ⟨S8192x1024, .f32⟩
  | 83 => ⟨S8192x1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S1024, .f32⟩
  | 91 => ⟨S1024, .i1⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1x1024, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S1x1024, .f32⟩
  | 114 => ⟨S8191x1024, .f32⟩
  | 115 => ⟨S8192x1024, .f32⟩
  | 116 => ⟨S_, .f32⟩
  | 117 => ⟨S1x1024, .f32⟩
  | 118 => ⟨S8191x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S2x1024, .f32⟩
  | 125 => ⟨S8190x1024, .f32⟩
  | 126 => ⟨S8192x1024, .f32⟩
  | 127 => ⟨S_, .f32⟩
  | _ => ⟨S8192x4096, .f32⟩

abbrev hbmTy0_1 (i : Nat) : BufTy := match i % 128 with
  | 0 => ⟨S2x1024, .f32⟩
  | 1 => ⟨S8190x1024, .f32⟩
  | 2 => ⟨S8192x1024, .f32⟩
  | 3 => ⟨S8192x1024, .f32⟩
  | 4 => ⟨S8192x1024, .f32⟩
  | 5 => ⟨S8192x1024, .f32⟩
  | 6 => ⟨S_, .f32⟩
  | 7 => ⟨S4x1024, .f32⟩
  | 8 => ⟨S8188x1024, .f32⟩
  | 9 => ⟨S8192x1024, .f32⟩
  | 10 => ⟨S_, .f32⟩
  | 11 => ⟨S4x1024, .f32⟩
  | 12 => ⟨S8188x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S8x1024, .f32⟩
  | 19 => ⟨S8184x1024, .f32⟩
  | 20 => ⟨S8192x1024, .f32⟩
  | 21 => ⟨S_, .f32⟩
  | 22 => ⟨S8x1024, .f32⟩
  | 23 => ⟨S8184x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S16x1024, .f32⟩
  | 30 => ⟨S8176x1024, .f32⟩
  | 31 => ⟨S8192x1024, .f32⟩
  | 32 => ⟨S_, .f32⟩
  | 33 => ⟨S16x1024, .f32⟩
  | 34 => ⟨S8176x1024, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S32x1024, .f32⟩
  | 41 => ⟨S8160x1024, .f32⟩
  | 42 => ⟨S8192x1024, .f32⟩
  | 43 => ⟨S_, .f32⟩
  | 44 => ⟨S32x1024, .f32⟩
  | 45 => ⟨S8160x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S64x1024, .f32⟩
  | 52 => ⟨S8128x1024, .f32⟩
  | 53 => ⟨S8192x1024, .f32⟩
  | 54 => ⟨S_, .f32⟩
  | 55 => ⟨S64x1024, .f32⟩
  | 56 => ⟨S8128x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S128x1024, .f32⟩
  | 63 => ⟨S8064x1024, .f32⟩
  | 64 => ⟨S8192x1024, .f32⟩
  | 65 => ⟨S_, .f32⟩
  | 66 => ⟨S128x1024, .f32⟩
  | 67 => ⟨S8064x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S256x1024, .f32⟩
  | 74 => ⟨S7936x1024, .f32⟩
  | 75 => ⟨S8192x1024, .f32⟩
  | 76 => ⟨S_, .f32⟩
  | 77 => ⟨S256x1024, .f32⟩
  | 78 => ⟨S7936x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S512x1024, .f32⟩
  | 85 => ⟨S7680x1024, .f32⟩
  | 86 => ⟨S8192x1024, .f32⟩
  | 87 => ⟨S_, .f32⟩
  | 88 => ⟨S512x1024, .f32⟩
  | 89 => ⟨S7680x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S1024x1024, .f32⟩
  | 96 => ⟨S7168x1024, .f32⟩
  | 97 => ⟨S8192x1024, .f32⟩
  | 98 => ⟨S_, .f32⟩
  | 99 => ⟨S1024x1024, .f32⟩
  | 100 => ⟨S7168x1024, .f32⟩
  | 101 => ⟨S8192x1024, .f32⟩
  | 102 => ⟨S8192x1024, .f32⟩
  | 103 => ⟨S8192x1024, .f32⟩
  | 104 => ⟨S8192x1024, .f32⟩
  | 105 => ⟨S_, .f32⟩
  | 106 => ⟨S2048x1024, .f32⟩
  | 107 => ⟨S6144x1024, .f32⟩
  | 108 => ⟨S8192x1024, .f32⟩
  | 109 => ⟨S_, .f32⟩
  | 110 => ⟨S2048x1024, .f32⟩
  | 111 => ⟨S6144x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S4096x1024, .f32⟩
  | 118 => ⟨S4096x1024, .f32⟩
  | 119 => ⟨S8192x1024, .f32⟩
  | 120 => ⟨S_, .f32⟩
  | 121 => ⟨S4096x1024, .f32⟩
  | 122 => ⟨S4096x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x4096, .f32⟩

abbrev hbmTy0_2 (i : Nat) : BufTy := match i % 128 with
  | 0 => ⟨S8192x1024, .f32⟩
  | 1 => ⟨S1x8192x1024, .f32⟩
  | 2 => ⟨S1x8192x1024, .f32⟩
  | 3 => ⟨S1x8192x1024, .f32⟩
  | 4 => ⟨S1x8192x1024, .f32⟩
  | 5 => ⟨S1x8192x1024, .f32⟩
  | 6 => ⟨S1x8192x1024, .f32⟩
  | 7 => ⟨S6x8192x1024, .f32⟩
  | 8 => ⟨S4x1024, .f32⟩
  | 9 => ⟨S8x128x128, .f32⟩
  | 10 => ⟨S8x128x128, .f32⟩
  | 11 => ⟨S8192x4096, .bf16⟩
  | 12 => ⟨S4x1024, .f32⟩
  | 13 => ⟨S1x1024, .f32⟩
  | 14 => ⟨S8x128x128, .f32⟩
  | 15 => ⟨S1x1024, .f32⟩
  | 16 => ⟨S8x128x128, .f32⟩
  | 17 => ⟨S1x1024, .f32⟩
  | 18 => ⟨S1x1024, .f32⟩
  | 19 => ⟨S1x1024, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x256x1024, .f32⟩
  | .local _ .vmem, ⟨5, _⟩ => ⟨S6x256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S256x1024, .f32⟩
  | .local _ .vmem, ⟨11, _⟩ => ⟨S256x1024, .f32⟩
  | .local _ .vmem, ⟨12, _⟩ => ⟨S4x1024, .f32⟩
  | .local _ .vmem, ⟨13, _⟩ => ⟨S8x128x128, .f32⟩
  | .local _ .vmem, ⟨14, _⟩ => ⟨S8x128x128, .f32⟩
  | .local _ .vmem, ⟨15, _⟩ => ⟨S1x1024, .f32⟩
  | .local _ .vmem, ⟨16, _⟩ => ⟨S1x1024, .f32⟩
  | .local _ .vmem, ⟨17, _⟩ => ⟨S256x2048, .bf16⟩
  | .local _ .vmem, ⟨18, _⟩ => ⟨S256x2048, .bf16⟩
  | .local _ .vmem, ⟨19, _⟩ => ⟨S4x1024, .f32⟩
  | .local _ .vmem, ⟨20, _⟩ => ⟨S1x1024, .f32⟩
  | .local _ .vmem, ⟨21, _⟩ => ⟨S8x128x128, .f32⟩
  | .local _ .vmem, ⟨22, _⟩ => ⟨S1x1024, .f32⟩
  | .local _ .vmem, ⟨23, _⟩ => ⟨S8x128x128, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .bf16⟩
  | .local _ .vmem, ⟨35, _⟩ => ⟨S256x1024, .bf16⟩
  | .local _ .vmem, ⟨36, _⟩ => ⟨S4x16x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_0 : Ref sig .tc := ⟨.hbm, 58, rfl⟩
abbrev main_v45 : Ref sig .tc := ⟨.hbm, 59, rfl⟩
abbrev main_v46 : Ref sig .tc := ⟨.hbm, 60, rfl⟩
abbrev main_cst_1 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_2 : Ref sig .tc := ⟨.hbm, 74, rfl⟩
abbrev main_v59 : Ref sig .tc := ⟨.hbm, 75, rfl⟩
abbrev main_v60 : Ref sig .tc := ⟨.hbm, 76, rfl⟩
abbrev main_cst_3 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_4 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_5 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_6 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_7 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_8 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_9 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_10 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_11 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_12 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_13 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_14 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_15 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_16 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_17 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_18 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_19 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_20 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_21 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_22 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_23 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_24 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_cst_25 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_26 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_27 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_28 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_29 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_30 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_31 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209_0 : Ref sig .tc := ⟨.hbm, 267, rfl⟩
abbrev main_v209_1 : Ref sig .tc := ⟨.hbm, 268, rfl⟩
abbrev main_v209_2 : Ref sig .tc := ⟨.hbm, 269, rfl⟩
abbrev main_v209_3 : Ref sig .tc := ⟨.hbm, 270, rfl⟩
abbrev main_v209_4 : Ref sig .tc := ⟨.hbm, 271, rfl⟩
abbrev main_v209_5 : Ref sig .tc := ⟨.hbm, 272, rfl⟩
abbrev main_v209_6 : Ref sig .tc := ⟨.hbm, 273, rfl⟩
abbrev main_v209_7 : Ref sig .tc := ⟨.hbm, 274, rfl⟩
abbrev main_v209_8 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_26 : BitVec 32 := 0#32
  let c16_i32 : BitVec 32 := 16#32
  let v42 : BitVec 32 := Scalar.addi c0_i32_26 c16_i32
  let c1_i32 : BitVec 32 := 1#32
  ⟨c0_i32_26, v42, c1_i32⟩
def k0_mult1 (k0_t1 : Fin k0_t1_loop.trips) : BitVec 32 :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  v449
def k0_off1 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v453 : Index := Scalar.indexCast v450
  let c0_314 : Index := 0#32
  ![v453.toNat, 0]
def k0_off2 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v490 : Index := Scalar.indexCast v450
  let c256 : Index := 256#32
  ![v490.toNat, 256]
def k0_off3 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v527 : Index := Scalar.indexCast v450
  let c512 : Index := 512#32
  ![v527.toNat, 512]
def k0_off4 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v564 : Index := Scalar.indexCast v450
  let c768 : Index := 768#32
  ![v564.toNat, 768]
def k0_off5 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v668 : Index := Scalar.indexCast v450
  let c0_369 : Index := 0#32
  ![v668.toNat, 0]
def k0_off6 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v724 : Index := Scalar.indexCast v450
  let c256_387 : Index := 256#32
  ![v724.toNat, 256]
def k0_off7 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v780 : Index := Scalar.indexCast v450
  let c512_405 : Index := 512#32
  ![v780.toNat, 512]
def k0_off8 (k0_t1 : Fin k0_t1_loop.trips) : Fin 2 → Nat :=
  let c0_i32_26 : BitVec 32 := 0#32
  let c1_i32 : BitVec 32 := 1#32
  let arg32 : BitVec 32 := Scf.iv c0_i32_26 c1_i32 k0_t1
  let c16_i32_311 : BitVec 32 := 16#32
  let v449 : BitVec 32 := Scalar.muli arg32 c16_i32_311
  let v450 : BitVec 32 := v449
  let v836 : Index := Scalar.indexCast v450
  let c768_423 : Index := 768#32
  ![v836.toNat, 768]
@[reducible] def k0_t2_loop : Scf.Loop 32 :=
  let c0_i32_56 : BitVec 32 := 0#32
  let c32_i32 : BitVec 32 := 32#32
  let v101 : BitVec 32 := Scalar.addi c0_i32_56 c32_i32
  let c1_i32_57 : BitVec 32 := 1#32
  ⟨c0_i32_56, v101, c1_i32_57⟩
def k0_mult2 (k0_t2 : Fin k0_t2_loop.trips) : BitVec 32 :=
  let c31_i32_311 : BitVec 32 := 31#32
  let c0_i32_56 : BitVec 32 := 0#32
  let c1_i32_57 : BitVec 32 := 1#32
  let arg32 : BitVec 32 := Scf.iv c0_i32_56 c1_i32_57 k0_t2
  let v449 : BitVec 32 := Scalar.subi c31_i32_311 arg32
  let c8_i32 : BitVec 32 := 8#32
  let v450 : BitVec 32 := Scalar.muli v449 c8_i32
  v450
def k0_off9 (k0_t2 : Fin k0_t2_loop.trips) : Fin 2 → Nat :=
  let c31_i32_311 : BitVec 32 := 31#32
  let c0_i32_56 : BitVec 32 := 0#32
  let c1_i32_57 : BitVec 32 := 1#32
  let arg32 : BitVec 32 := Scf.iv c0_i32_56 c1_i32_57 k0_t2
  let v449 : BitVec 32 := Scalar.subi c31_i32_311 arg32
  let c8_i32 : BitVec 32 := 8#32
  let v450 : BitVec 32 := Scalar.muli v449 c8_i32
  let v451 : BitVec 32 := v450
  let v452 : Index := Scalar.indexCast v451
  let c0_312 : Index := 0#32
  ![v452.toNat, 0]
def k0_off10 (k0_t2 : Fin k0_t2_loop.trips) : Fin 2 → Nat :=
  let c31_i32_311 : BitVec 32 := 31#32
  let c0_i32_56 : BitVec 32 := 0#32
  let c1_i32_57 : BitVec 32 := 1#32
  let arg32 : BitVec 32 := Scf.iv c0_i32_56 c1_i32_57 k0_t2
  let v449 : BitVec 32 := Scalar.subi c31_i32_311 arg32
  let c8_i32 : BitVec 32 := 8#32
  let v450 : BitVec 32 := Scalar.muli v449 c8_i32
  let v451 : BitVec 32 := v450
  let v462 : Index := Scalar.indexCast v451
  let c0_315 : Index := 0#32
  ![v462.toNat, 0]
@[reducible] def k0_t3_loop : Scf.Loop 32 :=
  let c0_i32_67 : BitVec 32 := 0#32
  let c16_i32_68 : BitVec 32 := 16#32
  let v118 : BitVec 32 := Scalar.addi c0_i32_67 c16_i32_68
  let c1_i32_69 : BitVec 32 := 1#32
  ⟨c0_i32_67, v118, c1_i32_69⟩
def k0_mult3 (k0_t3 : Fin k0_t3_loop.trips) : BitVec 32 :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  v449
def k0_off11 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v453 : Index := Scalar.indexCast v450
  let c0_314 : Index := 0#32
  ![v453.toNat, 0]
def k0_off12 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let c1_i32_312 : BitVec 32 := 1#32
  let v451 : BitVec 32 := Scalar.subi v450 c1_i32_312
  let c0_i32_313 : BitVec 32 := 0#32
  let v452 : BitVec 32 := Scalar.maxsi v451 c0_i32_313
  let v457 : Index := Scalar.indexCast v452
  let c0_316 : Index := 0#32
  ![v457.toNat, 0]
def k0_off13 (k0_t3 : Fin k0_t3_loop.trips) : Fin 3 → Nat :=
  let c0_320 : Index := 0#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v470 : Index := Scalar.indexCast v450
  let c0_321 : Index := 0#32
  ![0, v470.toNat, 0]
def k0_off14 (k0_t3 : Fin k0_t3_loop.trips) : Fin 3 → Nat :=
  let c1_322 : Index := 1#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v473 : Index := Scalar.indexCast v450
  let c0_323 : Index := 0#32
  ![1, v473.toNat, 0]
def k0_off15 (k0_t3 : Fin k0_t3_loop.trips) : Fin 3 → Nat :=
  let c2_324 : Index := 2#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v476 : Index := Scalar.indexCast v450
  let c0_325 : Index := 0#32
  ![2, v476.toNat, 0]
def k0_off16 (k0_t3 : Fin k0_t3_loop.trips) : Fin 3 → Nat :=
  let c3_326 : Index := 3#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v479 : Index := Scalar.indexCast v450
  let c0_327 : Index := 0#32
  ![3, v479.toNat, 0]
def k0_off17 (k0_t3 : Fin k0_t3_loop.trips) : Fin 3 → Nat :=
  let c4_328 : Index := 4#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v482 : Index := Scalar.indexCast v450
  let c0_329 : Index := 0#32
  ![4, v482.toNat, 0]
def k0_off18 (k0_t3 : Fin k0_t3_loop.trips) : Fin 3 → Nat :=
  let c5_330 : Index := 5#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v485 : Index := Scalar.indexCast v450
  let c0_331 : Index := 0#32
  ![5, v485.toNat, 0]
def k0_off19 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v541 : Index := Scalar.indexCast v450
  let c256 : Index := 256#32
  ![v541.toNat, 256]
def k0_off20 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let c1_i32_312 : BitVec 32 := 1#32
  let v451 : BitVec 32 := Scalar.subi v450 c1_i32_312
  let c0_i32_313 : BitVec 32 := 0#32
  let v452 : BitVec 32 := Scalar.maxsi v451 c0_i32_313
  let v545 : Index := Scalar.indexCast v452
  let c256_356 : Index := 256#32
  ![v545.toNat, 256]
def k0_off21 (k0_t3 : Fin k0_t3_loop.trips) : Fin 3 → Nat :=
  let c0_360 : Index := 0#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v558 : Index := Scalar.indexCast v450
  let c256_361 : Index := 256#32
  ![0, v558.toNat, 256]
def k0_off22 (k0_t3 : Fin k0_t3_loop.trips) : Fin 3 → Nat :=
  let c1_362 : Index := 1#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v561 : Index := Scalar.indexCast v450
  let c256_363 : Index := 256#32
  ![1, v561.toNat, 256]
def k0_off23 (k0_t3 : Fin k0_t3_loop.trips) : Fin 3 → Nat :=
  let c2_364 : Index := 2#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v564 : Index := Scalar.indexCast v450
  let c256_365 : Index := 256#32
  ![2, v564.toNat, 256]
def k0_off24 (k0_t3 : Fin k0_t3_loop.trips) : Fin 3 → Nat :=
  let c3_366 : Index := 3#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v567 : Index := Scalar.indexCast v450
  let c256_367 : Index := 256#32
  ![3, v567.toNat, 256]
def k0_off25 (k0_t3 : Fin k0_t3_loop.trips) : Fin 3 → Nat :=
  let c4_368 : Index := 4#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v570 : Index := Scalar.indexCast v450
  let c256_369 : Index := 256#32
  ![4, v570.toNat, 256]
def k0_off26 (k0_t3 : Fin k0_t3_loop.trips) : Fin 3 → Nat :=
  let c5_370 : Index := 5#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v573 : Index := Scalar.indexCast v450
  let c256_371 : Index := 256#32
  ![5, v573.toNat, 256]
def k0_off27 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v629 : Index := Scalar.indexCast v450
  let c512 : Index := 512#32
  ![v629.toNat, 512]
def k0_off28 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let c1_i32_312 : BitVec 32 := 1#32
  let v451 : BitVec 32 := Scalar.subi v450 c1_i32_312
  let c0_i32_313 : BitVec 32 := 0#32
  let v452 : BitVec 32 := Scalar.maxsi v451 c0_i32_313
  let v633 : Index := Scalar.indexCast v452
  let c512_396 : Index := 512#32
  ![v633.toNat, 512]
def k0_off29 (k0_t3 : Fin k0_t3_loop.trips) : Fin 3 → Nat :=
  let c0_400 : Index := 0#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v646 : Index := Scalar.indexCast v450
  let c512_401 : Index := 512#32
  ![0, v646.toNat, 512]
def k0_off30 (k0_t3 : Fin k0_t3_loop.trips) : Fin 3 → Nat :=
  let c1_402 : Index := 1#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v649 : Index := Scalar.indexCast v450
  let c512_403 : Index := 512#32
  ![1, v649.toNat, 512]
def k0_off31 (k0_t3 : Fin k0_t3_loop.trips) : Fin 3 → Nat :=
  let c2_404 : Index := 2#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v652 : Index := Scalar.indexCast v450
  let c512_405 : Index := 512#32
  ![2, v652.toNat, 512]
def k0_off32 (k0_t3 : Fin k0_t3_loop.trips) : Fin 3 → Nat :=
  let c3_406 : Index := 3#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v655 : Index := Scalar.indexCast v450
  let c512_407 : Index := 512#32
  ![3, v655.toNat, 512]
def k0_off33 (k0_t3 : Fin k0_t3_loop.trips) : Fin 3 → Nat :=
  let c4_408 : Index := 4#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v658 : Index := Scalar.indexCast v450
  let c512_409 : Index := 512#32
  ![4, v658.toNat, 512]
def k0_off34 (k0_t3 : Fin k0_t3_loop.trips) : Fin 3 → Nat :=
  let c5_410 : Index := 5#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v661 : Index := Scalar.indexCast v450
  let c512_411 : Index := 512#32
  ![5, v661.toNat, 512]
def k0_off35 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v717 : Index := Scalar.indexCast v450
  let c768 : Index := 768#32
  ![v717.toNat, 768]
def k0_off36 (k0_t3 : Fin k0_t3_loop.trips) : Fin 2 → Nat :=
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let c1_i32_312 : BitVec 32 := 1#32
  let v451 : BitVec 32 := Scalar.subi v450 c1_i32_312
  let c0_i32_313 : BitVec 32 := 0#32
  let v452 : BitVec 32 := Scalar.maxsi v451 c0_i32_313
  let v721 : Index := Scalar.indexCast v452
  let c768_436 : Index := 768#32
  ![v721.toNat, 768]
def k0_off37 (k0_t3 : Fin k0_t3_loop.trips) : Fin 3 → Nat :=
  let c0_440 : Index := 0#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v734 : Index := Scalar.indexCast v450
  let c768_441 : Index := 768#32
  ![0, v734.toNat, 768]
def k0_off38 (k0_t3 : Fin k0_t3_loop.trips) : Fin 3 → Nat :=
  let c1_442 : Index := 1#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v737 : Index := Scalar.indexCast v450
  let c768_443 : Index := 768#32
  ![1, v737.toNat, 768]
def k0_off39 (k0_t3 : Fin k0_t3_loop.trips) : Fin 3 → Nat :=
  let c2_444 : Index := 2#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v740 : Index := Scalar.indexCast v450
  let c768_445 : Index := 768#32
  ![2, v740.toNat, 768]
def k0_off40 (k0_t3 : Fin k0_t3_loop.trips) : Fin 3 → Nat :=
  let c3_446 : Index := 3#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v743 : Index := Scalar.indexCast v450
  let c768_447 : Index := 768#32
  ![3, v743.toNat, 768]
def k0_off41 (k0_t3 : Fin k0_t3_loop.trips) : Fin 3 → Nat :=
  let c4_448 : Index := 4#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v746 : Index := Scalar.indexCast v450
  let c768_449 : Index := 768#32
  ![4, v746.toNat, 768]
def k0_off42 (k0_t3 : Fin k0_t3_loop.trips) : Fin 3 → Nat :=
  let c5_450 : Index := 5#32
  let c0_i32_67 : BitVec 32 := 0#32
  let c1_i32_69 : BitVec 32 := 1#32
  let arg32 : BitVec 32 := Scf.iv c0_i32_67 c1_i32_69 k0_t3
  let c16_i32_311 : BitVec 32 := 16#32
  let v449 : BitVec 32 := Scalar.muli arg32 c16_i32_311
  let v450 : BitVec 32 := v449
  let v749 : Index := Scalar.indexCast v450
  let c768_451 : Index := 768#32
  ![5, v749.toNat, 768]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== LruIdeal.lean ====
variable {F : FTy → Type} [FloatOps F] [Named F]
def κ : String → Option EReal := fun
  | "root_cube" => some (((6693141 / 8388608) * (12003091 / 268435456) : ℝ) : EReal)
  | "six_root_cube" => some (((6 * (6693141 / 8388608)) * (12003091 / 268435456) : ℝ) : EReal)
  | _ => none
-- ==== LruRefIdeal.lean ====
abbrev S8192x4096 : Shape := ⟨2, ![8192, 4096]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S8192x1024 : Shape := ⟨2, ![8192, 1024]⟩
abbrev S4x1024 : Shape := ⟨2, ![4, 1024]⟩
abbrev S1024 : Shape := ⟨1, ![1024]⟩
abbrev S_ : Shape := ⟨0, ![]⟩
abbrev S3x1024 : Shape := ⟨2, ![3, 1024]⟩
abbrev S8195x1024 : Shape := ⟨2, ![8195, 1024]⟩
abbrev S8x128x128 : Shape := ⟨3, ![8, 128, 128]⟩
abbrev S8x128 : Shape := ⟨2, ![8, 128]⟩
abbrev S8192x8x128 : Shape := ⟨3, ![8192, 8, 128]⟩
abbrev S8x128x8192 : Shape := ⟨3, ![8, 128, 8192]⟩
abbrev S8191x1024 : Shape := ⟨2, ![8191, 1024]⟩
abbrev S2x1024 : Shape := ⟨2, ![2, 1024]⟩
abbrev S8190x1024 : Shape := ⟨2, ![8190, 1024]⟩
abbrev S8188x1024 : Shape := ⟨2, ![8188, 1024]⟩
abbrev S8x1024 : Shape := ⟨2, ![8, 1024]⟩
abbrev S8184x1024 : Shape := ⟨2, ![8184, 1024]⟩
abbrev S16x1024 : Shape := ⟨2, ![16, 1024]⟩
abbrev S8176x1024 : Shape := ⟨2, ![8176, 1024]⟩
abbrev S32x1024 : Shape := ⟨2, ![32, 1024]⟩
abbrev S8160x1024 : Shape := ⟨2, ![8160, 1024]⟩
abbrev S64x1024 : Shape := ⟨2, ![64, 1024]⟩
abbrev S8128x1024 : Shape := ⟨2, ![8128, 1024]⟩
abbrev S128x1024 : Shape := ⟨2, ![128, 1024]⟩
abbrev S8064x1024 : Shape := ⟨2, ![8064, 1024]⟩
abbrev S256x1024 : Shape := ⟨2, ![256, 1024]⟩
abbrev S7936x1024 : Shape := ⟨2, ![7936, 1024]⟩
abbrev S512x1024 : Shape := ⟨2, ![512, 1024]⟩
abbrev S7680x1024 : Shape := ⟨2, ![7680, 1024]⟩
abbrev S1024x1024 : Shape := ⟨2, ![1024, 1024]⟩
abbrev S7168x1024 : Shape := ⟨2, ![7168, 1024]⟩
abbrev S2048x1024 : Shape := ⟨2, ![2048, 1024]⟩
abbrev S6144x1024 : Shape := ⟨2, ![6144, 1024]⟩
abbrev S4096x1024 : Shape := ⟨2, ![4096, 1024]⟩
abbrev S8192 : Shape := ⟨1, ![8192]⟩
abbrev S8192x1 : Shape := ⟨2, ![8192, 1]⟩
abbrev S8x8192x128 : Shape := ⟨3, ![8, 8192, 128]⟩

abbrev nBuf : Space → Nat
  | .hbm => 766
  | .vmem => 0
  | .smem => 0
  | _ => 0

abbrev hbmTy0_0 (i : Nat) : BufTy := match i % 128 with
  | 0 => ⟨S8192x4096, .f32⟩
  | 1 => ⟨S1x4x1024, .f32⟩
  | 2 => ⟨S1x1024, .f32⟩
  | 3 => ⟨S1x8x128x128, .f32⟩
  | 4 => ⟨S1x8x128, .f32⟩
  | 5 => ⟨S1x8x128x128, .f32⟩
  | 6 => ⟨S1x8x128, .f32⟩
  | 7 => ⟨S1x1024, .f32⟩
  | 8 => ⟨S1x1024, .f32⟩
  | 9 => ⟨S8192x2048, .f32⟩
  | 10 => ⟨S8192x1024, .f32⟩
  | 11 => ⟨S8192x1024, .f32⟩
  | 12 => ⟨S4x1024, .f32⟩
  | 13 => ⟨S1024, .f32⟩
  | 14 => ⟨S_, .f32⟩
  | 15 => ⟨S3x1024, .f32⟩
  | 16 => ⟨S8195x1024, .f32⟩
  | 17 => ⟨S_, .f32⟩
  | 18 => ⟨S3x1024, .f32⟩
  | 19 => ⟨S8192x1024, .f32⟩
  | 20 => ⟨S1x1024, .f32⟩
  | 21 => ⟨S1024, .f32⟩
  | 22 => ⟨S1x1024, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S1024, .f32⟩
  | 45 => ⟨S1x1024, .f32⟩
  | 46 => ⟨S8192x1024, .f32⟩
  | 47 => ⟨S8192x1024, .f32⟩
  | 48 => ⟨S8192x1024, .f32⟩
  | 49 => ⟨S8x128x128, .f32⟩
  | 50 => ⟨S8x128, .f32⟩
  | 51 => ⟨S8x128x128, .f32⟩
  | 52 => ⟨S8x128, .f32⟩
  | 53 => ⟨S1024, .f32⟩
  | 54 => ⟨S8192x8x128, .f32⟩
  | 55 => ⟨S8x128x8192, .f32⟩
  | 56 => ⟨S8192x8x128, .f32⟩
  | 57 => ⟨S1x8x128, .f32⟩
  | 58 => ⟨S8192x8x128, .f32⟩
  | 59 => ⟨S8192x8x128, .f32⟩
  | 60 => ⟨S8192x8x128, .f32⟩
  | 61 => ⟨S8192x8x128, .f32⟩
  | 62 => ⟨S_, .f32⟩
  | 63 => ⟨S8192x8x128, .f32⟩
  | 64 => ⟨S8192x8x128, .f32⟩
  | 65 => ⟨S_, .f32⟩
  | 66 => ⟨S8192x8x128, .f32⟩
  | 67 => ⟨S8192x8x128, .f32⟩
  | 68 => ⟨S_, .f32⟩
  | 69 => ⟨S8192x8x128, .f32⟩
  | 70 => ⟨S8192x8x128, .f32⟩
  | 71 => ⟨S8192x8x128, .f32⟩
  | 72 => ⟨S8192x1024, .f32⟩
  | 73 => ⟨S8x128x8192, .f32⟩
  | 74 => ⟨S8192x8x128, .f32⟩
  | 75 => ⟨S1x8x128, .f32⟩
  | 76 => ⟨S8192x8x128, .f32⟩
  | 77 => ⟨S8192x8x128, .f32⟩
  | 78 => ⟨S8192x8x128, .f32⟩
  | 79 => ⟨S8192x8x128, .f32⟩
  | 80 => ⟨S_, .f32⟩
  | 81 => ⟨S8192x8x128, .f32⟩
  | 82 => ⟨S8192x8x128, .f32⟩
  | 83 => ⟨S_, .f32⟩
  | 84 => ⟨S8192x8x128, .f32⟩
  | 85 => ⟨S8192x8x128, .f32⟩
  | 86 => ⟨S_, .f32⟩
  | 87 => ⟨S8192x8x128, .f32⟩
  | 88 => ⟨S8192x8x128, .f32⟩
  | 89 => ⟨S8192x8x128, .f32⟩
  | 90 => ⟨S8192x1024, .f32⟩
  | 91 => ⟨S_, .f32⟩
  | 92 => ⟨S8192x1024, .f32⟩
  | 93 => ⟨S8192x1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S1024, .f32⟩
  | 100 => ⟨S1024, .i1⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S_, .f32⟩
  | 110 => ⟨S1024, .f32⟩
  | 111 => ⟨S1024, .i1⟩
  | 112 => ⟨S_, .f32⟩
  | 113 => ⟨S1024, .f32⟩
  | 114 => ⟨S1024, .f32⟩
  | 115 => ⟨S_, .f32⟩
  | 116 => ⟨S1024, .f32⟩
  | 117 => ⟨S1024, .i1⟩
  | 118 => ⟨S_, .f32⟩
  | 119 => ⟨S1024, .f32⟩
  | 120 => ⟨S1024, .f32⟩
  | 121 => ⟨S1024, .f32⟩
  | 122 => ⟨S1024, .f32⟩
  | 123 => ⟨S_, .f32⟩
  | 124 => ⟨S_, .f32⟩
  | 125 => ⟨S_, .i1⟩
  | 126 => ⟨S_, .f32⟩
  | 127 => ⟨S_, .f32⟩
  | _ => ⟨S8192x4096, .f32⟩

abbrev hbmTy0_1 (i : Nat) : BufTy := match i % 128 with
  | 0 => ⟨S_, .f32⟩
  | 1 => ⟨S_, .f32⟩
  | 2 => ⟨S1024, .f32⟩
  | 3 => ⟨S1024, .i1⟩
  | 4 => ⟨S_, .f32⟩
  | 5 => ⟨S1024, .f32⟩
  | 6 => ⟨S1024, .f32⟩
  | 7 => ⟨S1024, .f32⟩
  | 8 => ⟨S1024, .f32⟩
  | 9 => ⟨S1024, .f32⟩
  | 10 => ⟨S_, .f32⟩
  | 11 => ⟨S1024, .f32⟩
  | 12 => ⟨S1024, .f32⟩
  | 13 => ⟨S1x1024, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S1x1024, .f32⟩
  | 31 => ⟨S8191x1024, .f32⟩
  | 32 => ⟨S8192x1024, .f32⟩
  | 33 => ⟨S_, .f32⟩
  | 34 => ⟨S1x1024, .f32⟩
  | 35 => ⟨S_, .f32⟩
  | 36 => ⟨S1x1024, .f32⟩
  | 37 => ⟨S8191x1024, .f32⟩
  | 38 => ⟨S8192x1024, .f32⟩
  | 39 => ⟨S_, .f32⟩
  | 40 => ⟨S1x1024, .f32⟩
  | 41 => ⟨S8192x1024, .f32⟩
  | 42 => ⟨S8192x1024, .f32⟩
  | 43 => ⟨S8192x1024, .f32⟩
  | 44 => ⟨S_, .f32⟩
  | 45 => ⟨S2x1024, .f32⟩
  | 46 => ⟨S8190x1024, .f32⟩
  | 47 => ⟨S8192x1024, .f32⟩
  | 48 => ⟨S_, .f32⟩
  | 49 => ⟨S2x1024, .f32⟩
  | 50 => ⟨S_, .f32⟩
  | 51 => ⟨S2x1024, .f32⟩
  | 52 => ⟨S8190x1024, .f32⟩
  | 53 => ⟨S8192x1024, .f32⟩
  | 54 => ⟨S_, .f32⟩
  | 55 => ⟨S2x1024, .f32⟩
  | 56 => ⟨S8192x1024, .f32⟩
  | 57 => ⟨S8192x1024, .f32⟩
  | 58 => ⟨S8192x1024, .f32⟩
  | 59 => ⟨S_, .f32⟩
  | 60 => ⟨S4x1024, .f32⟩
  | 61 => ⟨S8188x1024, .f32⟩
  | 62 => ⟨S8192x1024, .f32⟩
  | 63 => ⟨S_, .f32⟩
  | 64 => ⟨S4x1024, .f32⟩
  | 65 => ⟨S_, .f32⟩
  | 66 => ⟨S4x1024, .f32⟩
  | 67 => ⟨S8188x1024, .f32⟩
  | 68 => ⟨S8192x1024, .f32⟩
  | 69 => ⟨S_, .f32⟩
  | 70 => ⟨S4x1024, .f32⟩
  | 71 => ⟨S8192x1024, .f32⟩
  | 72 => ⟨S8192x1024, .f32⟩
  | 73 => ⟨S8192x1024, .f32⟩
  | 74 => ⟨S_, .f32⟩
  | 75 => ⟨S8x1024, .f32⟩
  | 76 => ⟨S8184x1024, .f32⟩
  | 77 => ⟨S8192x1024, .f32⟩
  | 78 => ⟨S_, .f32⟩
  | 79 => ⟨S8x1024, .f32⟩
  | 80 => ⟨S_, .f32⟩
  | 81 => ⟨S8x1024, .f32⟩
  | 82 => ⟨S8184x1024, .f32⟩
  | 83 => ⟨S8192x1024, .f32⟩
  | 84 => ⟨S_, .f32⟩
  | 85 => ⟨S8x1024, .f32⟩
  | 86 => ⟨S8192x1024, .f32⟩
  | 87 => ⟨S8192x1024, .f32⟩
  | 88 => ⟨S8192x1024, .f32⟩
  | 89 => ⟨S_, .f32⟩
  | 90 => ⟨S16x1024, .f32⟩
  | 91 => ⟨S8176x1024, .f32⟩
  | 92 => ⟨S8192x1024, .f32⟩
  | 93 => ⟨S_, .f32⟩
  | 94 => ⟨S16x1024, .f32⟩
  | 95 => ⟨S_, .f32⟩
  | 96 => ⟨S16x1024, .f32⟩
  | 97 => ⟨S8176x1024, .f32⟩
  | 98 => ⟨S8192x1024, .f32⟩
  | 99 => ⟨S_, .f32⟩
  | 100 => ⟨S16x1024, .f32⟩
  | 101 => ⟨S8192x1024, .f32⟩
  | 102 => ⟨S8192x1024, .f32⟩
  | 103 => ⟨S8192x1024, .f32⟩
  | 104 => ⟨S_, .f32⟩
  | 105 => ⟨S32x1024, .f32⟩
  | 106 => ⟨S8160x1024, .f32⟩
  | 107 => ⟨S8192x1024, .f32⟩
  | 108 => ⟨S_, .f32⟩
  | 109 => ⟨S32x1024, .f32⟩
  | 110 => ⟨S_, .f32⟩
  | 111 => ⟨S32x1024, .f32⟩
  | 112 => ⟨S8160x1024, .f32⟩
  | 113 => ⟨S8192x1024, .f32⟩
  | 114 => ⟨S_, .f32⟩
  | 115 => ⟨S32x1024, .f32⟩
  | 116 => ⟨S8192x1024, .f32⟩
  | 117 => ⟨S8192x1024, .f32⟩
  | 118 => ⟨S8192x1024, .f32⟩
  | 119 => ⟨S_, .f32⟩
  | 120 => ⟨S64x1024, .f32⟩
  | 121 => ⟨S8128x1024, .f32⟩
  | 122 => ⟨S8192x1024, .f32⟩
  | 123 => ⟨S_, .f32⟩
  | 124 => ⟨S64x1024, .f32⟩
  | 125 => ⟨S_, .f32⟩
  | 126 => ⟨S64x1024, .f32⟩
  | 127 => ⟨S8128x1024, .f32⟩
  | _ => ⟨S8192x4096, .f32⟩

abbrev hbmTy0_2 (i : Nat) : BufTy := match i % 128 with
  | 0 => ⟨S8192x1024, .f32⟩
  | 1 => ⟨S_, .f32⟩
  | 2 => ⟨S64x1024, .f32⟩
  | 3 => ⟨S8192x1024, .f32⟩
  | 4 => ⟨S8192x1024, .f32⟩
  | 5 => ⟨S8192x1024, .f32⟩
  | 6 => ⟨S_, .f32⟩
  | 7 => ⟨S128x1024, .f32⟩
  | 8 => ⟨S8064x1024, .f32⟩
  | 9 => ⟨S8192x1024, .f32⟩
  | 10 => ⟨S_, .f32⟩
  | 11 => ⟨S128x1024, .f32⟩
  | 12 => ⟨S_, .f32⟩
  | 13 => ⟨S128x1024, .f32⟩
  | 14 => ⟨S8064x1024, .f32⟩
  | 15 => ⟨S8192x1024, .f32⟩
  | 16 => ⟨S_, .f32⟩
  | 17 => ⟨S128x1024, .f32⟩
  | 18 => ⟨S8192x1024, .f32⟩
  | 19 => ⟨S8192x1024, .f32⟩
  | 20 => ⟨S8192x1024, .f32⟩
  | 21 => ⟨S_, .f32⟩
  | 22 => ⟨S256x1024, .f32⟩
  | 23 => ⟨S7936x1024, .f32⟩
  | 24 => ⟨S8192x1024, .f32⟩
  | 25 => ⟨S_, .f32⟩
  | 26 => ⟨S256x1024, .f32⟩
  | 27 => ⟨S_, .f32⟩
  | 28 => ⟨S256x1024, .f32⟩
  | 29 => ⟨S7936x1024, .f32⟩
  | 30 => ⟨S8192x1024, .f32⟩
  | 31 => ⟨S_, .f32⟩
  | 32 => ⟨S256x1024, .f32⟩
  | 33 => ⟨S8192x1024, .f32⟩
  | 34 => ⟨S8192x1024, .f32⟩
  | 35 => ⟨S8192x1024, .f32⟩
  | 36 => ⟨S_, .f32⟩
  | 37 => ⟨S512x1024, .f32⟩
  | 38 => ⟨S7680x1024, .f32⟩
  | 39 => ⟨S8192x1024, .f32⟩
  | 40 => ⟨S_, .f32⟩
  | 41 => ⟨S512x1024, .f32⟩
  | 42 => ⟨S_, .f32⟩
  | 43 => ⟨S512x1024, .f32⟩
  | 44 => ⟨S7680x1024, .f32⟩
  | 45 => ⟨S8192x1024, .f32⟩
  | 46 => ⟨S_, .f32⟩
  | 47 => ⟨S512x1024, .f32⟩
  | 48 => ⟨S8192x1024, .f32⟩
  | 49 => ⟨S8192x1024, .f32⟩
  | 50 => ⟨S8192x1024, .f32⟩
  | 51 => ⟨S_, .f32⟩
  | 52 => ⟨S1024x1024, .f32⟩
  | 53 => ⟨S7168x1024, .f32⟩
  | 54 => ⟨S8192x1024, .f32⟩
  | 55 => ⟨S_, .f32⟩
  | 56 => ⟨S1024x1024, .f32⟩
  | 57 => ⟨S_, .f32⟩
  | 58 => ⟨S1024x1024, .f32⟩
  | 59 => ⟨S7168x1024, .f32⟩
  | 60 => ⟨S8192x1024, .f32⟩
  | 61 => ⟨S_, .f32⟩
  | 62 => ⟨S1024x1024, .f32⟩
  | 63 => ⟨S8192x1024, .f32⟩
  | 64 => ⟨S8192x1024, .f32⟩
  | 65 => ⟨S8192x1024, .f32⟩
  | 66 => ⟨S_, .f32⟩
  | 67 => ⟨S2048x1024, .f32⟩
  | 68 => ⟨S6144x1024, .f32⟩
  | 69 => ⟨S8192x1024, .f32⟩
  | 70 => ⟨S_, .f32⟩
  | 71 => ⟨S2048x1024, .f32⟩
  | 72 => ⟨S_, .f32⟩
  | 73 => ⟨S2048x1024, .f32⟩
  | 74 => ⟨S6144x1024, .f32⟩
  | 75 => ⟨S8192x1024, .f32⟩
  | 76 => ⟨S_, .f32⟩
  | 77 => ⟨S2048x1024, .f32⟩
  | 78 => ⟨S8192x1024, .f32⟩
  | 79 => ⟨S8192x1024, .f32⟩
  | 80 => ⟨S8192x1024, .f32⟩
  | 81 => ⟨S_, .f32⟩
  | 82 => ⟨S4096x1024, .f32⟩
  | 83 => ⟨S4096x1024, .f32⟩
  | 84 => ⟨S8192x1024, .f32⟩
  | 85 => ⟨S_, .f32⟩
  | 86 => ⟨S4096x1024, .f32⟩
  | 87 => ⟨S_, .f32⟩
  | 88 => ⟨S4096x1024, .f32⟩
  | 89 => ⟨S4096x1024, .f32⟩
  | 90 => ⟨S8192x1024, .f32⟩
  | 91 => ⟨S_, .f32⟩
  | 92 => ⟨S4096x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S8192x1024, .f32⟩
  | 125 => ⟨S1024, .f32⟩
  | 126 => ⟨S8192x1024, .f32⟩
  | 127 => ⟨S_, .f32⟩
  | _ => ⟨S8192x4096, .f32⟩

abbrev hbmTy0_3 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192x1, .f32⟩
  | 7 => ⟨S8192x1, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S_, .f32⟩
  | 26 => ⟨S1024, .f32⟩
  | 27 => ⟨S8192x1024, .f32⟩
  | 28 => ⟨S_, .f32⟩
  | 29 => ⟨S8192, .f32⟩
  | 30 => ⟨S8192x1, .f32⟩
  | 31 => ⟨S8192x1024, .f32⟩
  | 32 => ⟨S8192x1024, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S4096x1024, .f32⟩
  | 65 => ⟨S4096x1024, .f32⟩
  | 66 => ⟨S_, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S2048x1024, .f32⟩
  | 75 => ⟨S6144x1024, .f32⟩
  | 76 => ⟨S_, .f32⟩
  | 77 => ⟨S8192x1024, .f32⟩
  | 78 => ⟨S8192x1024, .f32⟩
  | 79 => ⟨S2048x1024, .f32⟩
  | 80 => ⟨S6144x1024, .f32⟩
  | 81 => ⟨S_, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S1024x1024, .f32⟩
  | 90 => ⟨S7168x1024, .f32⟩
  | 91 => ⟨S_, .f32⟩
  | 92 => ⟨S8192x1024, .f32⟩
  | 93 => ⟨S8192x1024, .f32⟩
  | 94 => ⟨S1024x1024, .f32⟩
  | 95 => ⟨S7168x1024, .f32⟩
  | 96 => ⟨S_, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S512x1024, .f32⟩
  | 105 => ⟨S7680x1024, .f32⟩
  | 106 => ⟨S_, .f32⟩
  | 107 => ⟨S8192x1024, .f32⟩
  | 108 => ⟨S8192x1024, .f32⟩
  | 109 => ⟨S512x1024, .f32⟩
  | 110 => ⟨S7680x1024, .f32⟩
  | 111 => ⟨S_, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S256x1024, .f32⟩
  | 120 => ⟨S7936x1024, .f32⟩
  | 121 => ⟨S_, .f32⟩
  | 122 => ⟨S8192x1024, .f32⟩
  | 123 => ⟨S8192x1024, .f32⟩
  | 124 => ⟨S256x1024, .f32⟩
  | 125 => ⟨S7936x1024, .f32⟩
  | 126 => ⟨S_, .f32⟩
  | 127 => ⟨S8192x1024, .f32⟩
  | _ => ⟨S8192x4096, .f32⟩

abbrev hbmTy0_4 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S128x1024, .f32⟩
  | 7 => ⟨S8064x1024, .f32⟩
  | 8 => ⟨S_, .f32⟩
  | 9 => ⟨S8192x1024, .f32⟩
  | 10 => ⟨S8192x1024, .f32⟩
  | 11 => ⟨S128x1024, .f32⟩
  | 12 => ⟨S8064x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S64x1024, .f32⟩
  | 22 => ⟨S8128x1024, .f32⟩
  | 23 => ⟨S_, .f32⟩
  | 24 => ⟨S8192x1024, .f32⟩
  | 25 => ⟨S8192x1024, .f32⟩
  | 26 => ⟨S64x1024, .f32⟩
  | 27 => ⟨S8128x1024, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S32x1024, .f32⟩
  | 37 => ⟨S8160x1024, .f32⟩
  | 38 => ⟨S_, .f32⟩
  | 39 => ⟨S8192x1024, .f32⟩
  | 40 => ⟨S8192x1024, .f32⟩
  | 41 => ⟨S32x1024, .f32⟩
  | 42 => ⟨S8160x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S16x1024, .f32⟩
  | 52 => ⟨S8176x1024, .f32⟩
  | 53 => ⟨S_, .f32⟩
  | 54 => ⟨S8192x1024, .f32⟩
  | 55 => ⟨S8192x1024, .f32⟩
  | 56 => ⟨S16x1024, .f32⟩
  | 57 => ⟨S8176x1024, .f32⟩
  | 58 => ⟨S_, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8x1024, .f32⟩
  | 67 => ⟨S8184x1024, .f32⟩
  | 68 => ⟨S_, .f32⟩
  | 69 => ⟨S8192x1024, .f32⟩
  | 70 => ⟨S8192x1024, .f32⟩
  | 71 => ⟨S8x1024, .f32⟩
  | 72 => ⟨S8184x1024, .f32⟩
  | 73 => ⟨S_, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S4x1024, .f32⟩
  | 82 => ⟨S8188x1024, .f32⟩
  | 83 => ⟨S_, .f32⟩
  | 84 => ⟨S8192x1024, .f32⟩
  | 85 => ⟨S8192x1024, .f32⟩
  | 86 => ⟨S4x1024, .f32⟩
  | 87 => ⟨S8188x1024, .f32⟩
  | 88 => ⟨S_, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S2x1024, .f32⟩
  | 97 => ⟨S8190x1024, .f32⟩
  | 98 => ⟨S_, .f32⟩
  | 99 => ⟨S8192x1024, .f32⟩
  | 100 => ⟨S8192x1024, .f32⟩
  | 101 => ⟨S2x1024, .f32⟩
  | 102 => ⟨S8190x1024, .f32⟩
  | 103 => ⟨S_, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S1x1024, .f32⟩
  | 112 => ⟨S8191x1024, .f32⟩
  | 113 => ⟨S_, .f32⟩
  | 114 => ⟨S8192x1024, .f32⟩
  | 115 => ⟨S8192x1024, .f32⟩
  | 116 => ⟨S1x1024, .f32⟩
  | 117 => ⟨S8191x1024, .f32⟩
  | 118 => ⟨S_, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x4096, .f32⟩

abbrev hbmTy0_5 (i : Nat) : BufTy := match i % 128 with
  | 0 => ⟨S_, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S_, .f32⟩
  | 12 => ⟨S1024, .f32⟩
  | 13 => ⟨S1024, .f32⟩
  | 14 => ⟨S1024, .f32⟩
  | 15 => ⟨S_, .f32⟩
  | 16 => ⟨S8192x1024, .f32⟩
  | 17 => ⟨S8192x1024, .f32⟩
  | 18 => ⟨S8192x8x128, .f32⟩
  | 19 => ⟨S8192x8x128, .f32⟩
  | 20 => ⟨S_, .f32⟩
  | 21 => ⟨S8x128, .f32⟩
  | 22 => ⟨S1x8x128, .f32⟩
  | 23 => ⟨S_, .f32⟩
  | 24 => ⟨S8x128, .f32⟩
  | 25 => ⟨S8x128x8192, .f32⟩
  | 26 => ⟨S8x8192x128, .f32⟩
  | 27 => ⟨S8192x8x128, .f32⟩
  | 28 => ⟨S8x128x128, .f32⟩
  | 29 => ⟨S8x128x128, .f32⟩
  | 30 => ⟨S8192x8x128, .f32⟩
  | 31 => ⟨S8192x8x128, .f32⟩
  | 32 => ⟨S_, .f32⟩
  | 33 => ⟨S8x128, .f32⟩
  | 34 => ⟨S1x8x128, .f32⟩
  | 35 => ⟨S_, .f32⟩
  | 36 => ⟨S8x128, .f32⟩
  | 37 => ⟨S8x128x8192, .f32⟩
  | 38 => ⟨S8x8192x128, .f32⟩
  | 39 => ⟨S8192x8x128, .f32⟩
  | 40 => ⟨S8192x8x128, .f32⟩
  | 41 => ⟨S8x128x128, .f32⟩
  | 42 => ⟨S8x128x128, .f32⟩
  | 43 => ⟨S8192x1024, .f32⟩
  | 44 => ⟨S8192x1024, .f32⟩
  | 45 => ⟨S1x1024, .f32⟩
  | 46 => ⟨S1x8x128, .f32⟩
  | 47 => ⟨S1x8x128x128, .f32⟩
  | 48 => ⟨S1x8x128, .f32⟩
  | 49 => ⟨S1x8x128x128, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S_, .f32⟩
  | 60 => ⟨S4x1024, .f32⟩
  | 61 => ⟨S_, .f32⟩
  | 62 => ⟨S8195x1024, .f32⟩
  | 63 => ⟨S8192x1024, .f32⟩
  | 64 => ⟨S_, .f32⟩
  | 65 => ⟨S1024, .f32⟩
  | 66 => ⟨S1x1024, .f32⟩
  | 67 => ⟨S8192x1024, .f32⟩
  | 68 => ⟨S8192x1024, .f32⟩
  | 69 => ⟨S_, .f32⟩
  | 70 => ⟨S1024, .f32⟩
  | 71 => ⟨S1x1024, .f32⟩
  | 72 => ⟨S_, .f32⟩
  | 73 => ⟨S4x1024, .f32⟩
  | 74 => ⟨S4x1024, .f32⟩
  | 75 => ⟨S_, .f32⟩
  | 76 => ⟨S8195x1024, .f32⟩
  | 77 => ⟨S8195x1024, .f32⟩
  | 78 => ⟨S8192x1024, .f32⟩
  | 79 => ⟨S_, .f32⟩
  | 80 => ⟨S1024, .f32⟩
  | 81 => ⟨S1x1024, .f32⟩
  | 82 => ⟨S8192x1024, .f32⟩
  | 83 => ⟨S8192x1024, .f32⟩
  | 84 => ⟨S_, .f32⟩
  | 85 => ⟨S1024, .f32⟩
  | 86 => ⟨S1x1024, .f32⟩
  | 87 => ⟨S_, .f32⟩
  | 88 => ⟨S4x1024, .f32⟩
  | 89 => ⟨S4x1024, .f32⟩
  | 90 => ⟨S_, .f32⟩
  | 91 => ⟨S8195x1024, .f32⟩
  | 92 => ⟨S8195x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S_, .f32⟩
  | 105 => ⟨S1024, .f32⟩
  | 106 => ⟨S1x1024, .f32⟩
  | 107 => ⟨S_, .f32⟩
  | 108 => ⟨S4x1024, .f32⟩
  | 109 => ⟨S4x1024, .f32⟩
  | 110 => ⟨S_, .f32⟩
  | 111 => ⟨S8195x1024, .f32⟩
  | 112 => ⟨S8195x1024, .f32⟩
  | 113 => ⟨S3x1024, .f32⟩
  | 114 => ⟨S8192x1024, .f32⟩
  | 115 => ⟨S1x1024, .f32⟩
  | 116 => ⟨S1x4x1024, .f32⟩
  | 117 => ⟨S_, .f32⟩
  | 118 => ⟨S8192x2048, .f32⟩
  | 119 => ⟨S8192x4096, .f32⟩
  | 120 => ⟨S8192x4096, .bf16⟩
  | 121 => ⟨S4x1024, .f32⟩
  | 122 => ⟨S8x128x128, .f32⟩
  | 123 => ⟨S1x1024, .f32⟩
  | 124 => ⟨S8x128x128, .f32⟩
  | 125 => ⟨S1x1024, .f32⟩
  | _ => ⟨S8192x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_1 : Ref sig .tc := ⟨.hbm, 62, rfl⟩
abbrev main_v50 : Ref sig .tc := ⟨.hbm, 63, rfl⟩
abbrev main_v51 : Ref sig .tc := ⟨.hbm, 64, rfl⟩
abbrev main_cst_2 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_4 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_cst_6 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_v76_0 : Ref sig .tc := ⟨.hbm, 108, rfl⟩
abbrev main_call0_cst_0 : Ref sig .tc := ⟨.hbm, 109, rfl⟩
abbrev main_call0_v13 : Ref sig .tc := ⟨.hbm, 110, rfl⟩
abbrev main_call0_v14 : Ref sig .tc := ⟨.hbm, 111, rfl⟩
abbrev main_call0_cst_1 : Ref sig .tc := ⟨.hbm, 112, rfl⟩
abbrev main_call0_v15 : Ref sig .tc := ⟨.hbm, 113, rfl⟩
abbrev main_call0_v16 : Ref sig .tc := ⟨.hbm, 114, rfl⟩
abbrev main_call0_cst_2 : Ref sig .tc := ⟨.hbm, 115, rfl⟩
abbrev main_call0_v17 : Ref sig .tc := ⟨.hbm, 116, rfl⟩
abbrev main_call0_v18 : Ref sig .tc := ⟨.hbm, 117, rfl⟩
abbrev main_call0_cst_3 : Ref sig .tc := ⟨.hbm, 118, rfl⟩
abbrev main_call0_v19 : Ref sig .tc := ⟨.hbm, 119, rfl⟩
abbrev main_call0_v20 : Ref sig .tc := ⟨.hbm, 120, rfl⟩
abbrev main_call0_v21 : Ref sig .tc := ⟨.hbm, 121, rfl⟩
abbrev main_v76_1 : Ref sig .tc := ⟨.hbm, 122, rfl⟩
abbrev main_call0_cst_4 : Ref sig .tc := ⟨.hbm, 123, rfl⟩
abbrev main_call0_cst_5 : Ref sig .tc := ⟨.hbm, 124, rfl⟩
abbrev main_call0_v23 : Ref sig .tc := ⟨.hbm, 125, rfl⟩
abbrev main_call0_cst_6 : Ref sig .tc := ⟨.hbm, 126, rfl⟩
abbrev main_call0_cst_7 : Ref sig .tc := ⟨.hbm, 127, rfl⟩
abbrev main_call0_v24 : Ref sig .tc := ⟨.hbm, 128, rfl⟩
abbrev main_call0_cst_8 : Ref sig .tc := ⟨.hbm, 129, rfl⟩
abbrev main_call0_v25 : Ref sig .tc := ⟨.hbm, 130, rfl⟩
abbrev main_call0_v26 : Ref sig .tc := ⟨.hbm, 131, rfl⟩
abbrev main_call0_cst_9 : Ref sig .tc := ⟨.hbm, 132, rfl⟩
abbrev main_call0_v27 : Ref sig .tc := ⟨.hbm, 133, rfl⟩
abbrev main_call0_v28 : Ref sig .tc := ⟨.hbm, 134, rfl⟩
abbrev main_call0_v29 : Ref sig .tc := ⟨.hbm, 135, rfl⟩
abbrev main_call0_v30 : Ref sig .tc := ⟨.hbm, 136, rfl⟩
abbrev main_call0_v31 : Ref sig .tc := ⟨.hbm, 137, rfl⟩
abbrev main_call0_cst_10 : Ref sig .tc := ⟨.hbm, 138, rfl⟩
abbrev main_call0_v32 : Ref sig .tc := ⟨.hbm, 139, rfl⟩
abbrev main_v76_2 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_cst_8 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_9 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_10 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_11 : Ref sig .tc := ⟨.hbm, 161, rfl⟩
abbrev main_v94 : Ref sig .tc := ⟨.hbm, 162, rfl⟩
abbrev main_cst_12 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_13 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_cst_14 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_cst_15 : Ref sig .tc := ⟨.hbm, 176, rfl⟩
abbrev main_v105 : Ref sig .tc := ⟨.hbm, 177, rfl⟩
abbrev main_cst_16 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_cst_17 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_cst_18 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_cst_19 : Ref sig .tc := ⟨.hbm, 191, rfl⟩
abbrev main_v116 : Ref sig .tc := ⟨.hbm, 192, rfl⟩
abbrev main_cst_20 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_cst_21 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_cst_22 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_cst_23 : Ref sig .tc := ⟨.hbm, 206, rfl⟩
abbrev main_v127 : Ref sig .tc := ⟨.hbm, 207, rfl⟩
abbrev main_cst_24 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_25 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_26 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_27 : Ref sig .tc := ⟨.hbm, 221, rfl⟩
abbrev main_v138 : Ref sig .tc := ⟨.hbm, 222, rfl⟩
abbrev main_cst_28 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_29 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_cst_30 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_cst_31 : Ref sig .tc := ⟨.hbm, 236, rfl⟩
abbrev main_v149 : Ref sig .tc := ⟨.hbm, 237, rfl⟩
abbrev main_cst_32 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_cst_33 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_cst_34 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_cst_35 : Ref sig .tc := ⟨.hbm, 251, rfl⟩
abbrev main_v160 : Ref sig .tc := ⟨.hbm, 252, rfl⟩
abbrev main_cst_36 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_cst_37 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_cst_38 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_cst_39 : Ref sig .tc := ⟨.hbm, 266, rfl⟩
abbrev main_v171 : Ref sig .tc := ⟨.hbm, 267, rfl⟩
abbrev main_cst_40 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_cst_41 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_cst_42 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_cst_43 : Ref sig .tc := ⟨.hbm, 281, rfl⟩
abbrev main_v182 : Ref sig .tc := ⟨.hbm, 282, rfl⟩
abbrev main_cst_44 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_cst_45 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_cst_46 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_cst_47 : Ref sig .tc := ⟨.hbm, 296, rfl⟩
abbrev main_v193 : Ref sig .tc := ⟨.hbm, 297, rfl⟩
abbrev main_cst_48 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_cst_49 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_cst_50 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_cst_51 : Ref sig .tc := ⟨.hbm, 311, rfl⟩
abbrev main_v204 : Ref sig .tc := ⟨.hbm, 312, rfl⟩
abbrev main_cst_52 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_cst_53 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_cst_54 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_cst_55 : Ref sig .tc := ⟨.hbm, 326, rfl⟩
abbrev main_v215 : Ref sig .tc := ⟨.hbm, 327, rfl⟩
abbrev main_cst_56 : Ref sig .tc := ⟨.hbm, 328, rfl⟩
abbrev main_v216 : Ref sig .tc := ⟨.hbm, 329, rfl⟩
abbrev main_v217 : Ref sig .tc := ⟨.hbm, 330, rfl⟩
abbrev main_v218 : Ref sig .tc := ⟨.hbm, 331, rfl⟩
abbrev main_cst_57 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_cst_58 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_cst_59 : Ref sig .tc := ⟨.hbm, 341, rfl⟩
abbrev main_v226 : Ref sig .tc := ⟨.hbm, 342, rfl⟩
abbrev main_cst_60 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩
abbrev main_cst_61 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_cst_62 : Ref sig .tc := ⟨.hbm, 355, rfl⟩
abbrev main_v237 : Ref sig .tc := ⟨.hbm, 356, rfl⟩
abbrev main_v238 : Ref sig .tc := ⟨.hbm, 357, rfl⟩
abbrev main_cst_63 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_cst_64 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_cst_65 : Ref sig .tc := ⟨.hbm, 366, rfl⟩
abbrev main_v245 : Ref sig .tc := ⟨.hbm, 367, rfl⟩
abbrev main_v246 : Ref sig .tc := ⟨.hbm, 368, rfl⟩
abbrev main_cst_66 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_cst_67 : Ref sig .tc := ⟨.hbm, 373, rfl⟩
abbrev main_v250 : Ref sig .tc := ⟨.hbm, 374, rfl⟩
abbrev main_v251 : Ref sig .tc := ⟨.hbm, 375, rfl⟩
abbrev main_cst_68 : Ref sig .tc := ⟨.hbm, 376, rfl⟩
abbrev main_v252 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_cst_69 : Ref sig .tc := ⟨.hbm, 383, rfl⟩
abbrev main_v258 : Ref sig .tc := ⟨.hbm, 384, rfl⟩
abbrev main_v259 : Ref sig .tc := ⟨.hbm, 385, rfl⟩
abbrev main_cst_70 : Ref sig .tc := ⟨.hbm, 386, rfl⟩
abbrev main_v260 : Ref sig .tc := ⟨.hbm, 387, rfl⟩
abbrev main_v261 : Ref sig .tc := ⟨.hbm, 388, rfl⟩
abbrev main_cst_71 : Ref sig .tc := ⟨.hbm, 389, rfl⟩
abbrev main_v262 : Ref sig .tc := ⟨.hbm, 390, rfl⟩
abbrev main_v263 : Ref sig .tc := ⟨.hbm, 391, rfl⟩
abbrev main_v264 : Ref sig .tc := ⟨.hbm, 392, rfl⟩
abbrev main_v265 : Ref sig .tc := ⟨.hbm, 393, rfl⟩
abbrev main_cst_72 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_v274 : Ref sig .tc := ⟨.hbm, 403, rfl⟩
abbrev main_cst_73 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_cst_74 : Ref sig .tc := ⟨.hbm, 409, rfl⟩
abbrev main_v279 : Ref sig .tc := ⟨.hbm, 410, rfl⟩
abbrev main_v280 : Ref sig .tc := ⟨.hbm, 411, rfl⟩
abbrev main_cst_75 : Ref sig .tc := ⟨.hbm, 412, rfl⟩
abbrev main_v281 : Ref sig .tc := ⟨.hbm, 413, rfl⟩
abbrev main_v282 : Ref sig .tc := ⟨.hbm, 414, rfl⟩
abbrev main_v283 : Ref sig .tc := ⟨.hbm, 415, rfl⟩
abbrev main_v284 : Ref sig .tc := ⟨.hbm, 416, rfl⟩
abbrev main_v285 : Ref sig .tc := ⟨.hbm, 417, rfl⟩
abbrev main_cst_76 : Ref sig .tc := ⟨.hbm, 418, rfl⟩
abbrev main_v286 : Ref sig .tc := ⟨.hbm, 419, rfl⟩
abbrev main_v287 : Ref sig .tc := ⟨.hbm, 420, rfl⟩
abbrev main_cst_77 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_cst_78 : Ref sig .tc := ⟨.hbm, 433, rfl⟩
abbrev main_v299 : Ref sig .tc := ⟨.hbm, 434, rfl⟩
abbrev main_v300 : Ref sig .tc := ⟨.hbm, 435, rfl⟩
abbrev main_v301 : Ref sig .tc := ⟨.hbm, 436, rfl⟩
abbrev main_cst_79 : Ref sig .tc := ⟨.hbm, 437, rfl⟩
abbrev main_v302 : Ref sig .tc := ⟨.hbm, 438, rfl⟩
abbrev main_v303 : Ref sig .tc := ⟨.hbm, 439, rfl⟩
abbrev main_v304 : Ref sig .tc := ⟨.hbm, 440, rfl⟩
abbrev main_cst_80 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_cst_81 : Ref sig .tc := ⟨.hbm, 450, rfl⟩
abbrev main_v313 : Ref sig .tc := ⟨.hbm, 451, rfl⟩
abbrev main_v314 : Ref sig .tc := ⟨.hbm, 452, rfl⟩
abbrev main_v315 : Ref sig .tc := ⟨.hbm, 453, rfl⟩
abbrev main_v316 : Ref sig .tc := ⟨.hbm, 454, rfl⟩
abbrev main_v317 : Ref sig .tc := ⟨.hbm, 455, rfl⟩
abbrev main_v318 : Ref sig .tc := ⟨.hbm, 456, rfl⟩
abbrev main_v319 : Ref sig .tc := ⟨.hbm, 457, rfl⟩
abbrev main_v320 : Ref sig .tc := ⟨.hbm, 458, rfl⟩
abbrev main_v321 : Ref sig .tc := ⟨.hbm, 459, rfl⟩
abbrev main_cst_82 : Ref sig .tc := ⟨.hbm, 460, rfl⟩
abbrev main_v322 : Ref sig .tc := ⟨.hbm, 461, rfl⟩
abbrev main_v323 : Ref sig .tc := ⟨.hbm, 462, rfl⟩
abbrev main_v324 : Ref sig .tc := ⟨.hbm, 463, rfl⟩
abbrev main_v325 : Ref sig .tc := ⟨.hbm, 464, rfl⟩
abbrev main_cst_83 : Ref sig .tc := ⟨.hbm, 465, rfl⟩
abbrev main_v326 : Ref sig .tc := ⟨.hbm, 466, rfl⟩
abbrev main_v327 : Ref sig .tc := ⟨.hbm, 467, rfl⟩
abbrev main_v328 : Ref sig .tc := ⟨.hbm, 468, rfl⟩
abbrev main_v329 : Ref sig .tc := ⟨.hbm, 469, rfl⟩
abbrev main_v330 : Ref sig .tc := ⟨.hbm, 470, rfl⟩
abbrev main_v331 : Ref sig .tc := ⟨.hbm, 471, rfl⟩
abbrev main_v332 : Ref sig .tc := ⟨.hbm, 472, rfl⟩
abbrev main_v333 : Ref sig .tc := ⟨.hbm, 473, rfl⟩
abbrev main_v334 : Ref sig .tc := ⟨.hbm, 474, rfl⟩
abbrev main_cst_84 : Ref sig .tc := ⟨.hbm, 475, rfl⟩
abbrev main_v335 : Ref sig .tc := ⟨.hbm, 476, rfl⟩
abbrev main_v336 : Ref sig .tc := ⟨.hbm, 477, rfl⟩
abbrev main_v337 : Ref sig .tc := ⟨.hbm, 478, rfl⟩
abbrev main_v338 : Ref sig .tc := ⟨.hbm, 479, rfl⟩
abbrev main_cst_85 : Ref sig .tc := ⟨.hbm, 480, rfl⟩
abbrev main_v339 : Ref sig .tc := ⟨.hbm, 481, rfl⟩
abbrev main_v340 : Ref sig .tc := ⟨.hbm, 482, rfl⟩
abbrev main_v341 : Ref sig .tc := ⟨.hbm, 483, rfl⟩
abbrev main_v342 : Ref sig .tc := ⟨.hbm, 484, rfl⟩
abbrev main_v343 : Ref sig .tc := ⟨.hbm, 485, rfl⟩
abbrev main_v344 : Ref sig .tc := ⟨.hbm, 486, rfl⟩
abbrev main_v345 : Ref sig .tc := ⟨.hbm, 487, rfl⟩
abbrev main_v346 : Ref sig .tc := ⟨.hbm, 488, rfl⟩
abbrev main_v347 : Ref sig .tc := ⟨.hbm, 489, rfl⟩
abbrev main_cst_86 : Ref sig .tc := ⟨.hbm, 490, rfl⟩
abbrev main_v348 : Ref sig .tc := ⟨.hbm, 491, rfl⟩
abbrev main_v349 : Ref sig .tc := ⟨.hbm, 492, rfl⟩
abbrev main_v350 : Ref sig .tc := ⟨.hbm, 493, rfl⟩
abbrev main_v351 : Ref sig .tc := ⟨.hbm, 494, rfl⟩
abbrev main_cst_87 : Ref sig .tc := ⟨.hbm, 495, rfl⟩
abbrev main_v352 : Ref sig .tc := ⟨.hbm, 496, rfl⟩
abbrev main_v353 : Ref sig .tc := ⟨.hbm, 497, rfl⟩
abbrev main_v354 : Ref sig .tc := ⟨.hbm, 498, rfl⟩
abbrev main_v355 : Ref sig .tc := ⟨.hbm, 499, rfl⟩
abbrev main_v356 : Ref sig .tc := ⟨.hbm, 500, rfl⟩
abbrev main_v357 : Ref sig .tc := ⟨.hbm, 501, rfl⟩
abbrev main_v358 : Ref sig .tc := ⟨.hbm, 502, rfl⟩
abbrev main_v359 : Ref sig .tc := ⟨.hbm, 503, rfl⟩
abbrev main_v360 : Ref sig .tc := ⟨.hbm, 504, rfl⟩
abbrev main_cst_88 : Ref sig .tc := ⟨.hbm, 505, rfl⟩
abbrev main_v361 : Ref sig .tc := ⟨.hbm, 506, rfl⟩
abbrev main_v362 : Ref sig .tc := ⟨.hbm, 507, rfl⟩
abbrev main_v363 : Ref sig .tc := ⟨.hbm, 508, rfl⟩
abbrev main_v364 : Ref sig .tc := ⟨.hbm, 509, rfl⟩
abbrev main_cst_89 : Ref sig .tc := ⟨.hbm, 510, rfl⟩
abbrev main_v365 : Ref sig .tc := ⟨.hbm, 511, rfl⟩
abbrev main_v366 : Ref sig .tc := ⟨.hbm, 512, rfl⟩
abbrev main_v367 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_v371 : Ref sig .tc := ⟨.hbm, 517, rfl⟩
abbrev main_v372 : Ref sig .tc := ⟨.hbm, 518, rfl⟩
abbrev main_v373 : Ref sig .tc := ⟨.hbm, 519, rfl⟩
abbrev main_cst_90 : Ref sig .tc := ⟨.hbm, 520, rfl⟩
abbrev main_v374 : Ref sig .tc := ⟨.hbm, 521, rfl⟩
abbrev main_v375 : Ref sig .tc := ⟨.hbm, 522, rfl⟩
abbrev main_v376 : Ref sig .tc := ⟨.hbm, 523, rfl⟩
abbrev main_v377 : Ref sig .tc := ⟨.hbm, 524, rfl⟩
abbrev main_cst_91 : Ref sig .tc := ⟨.hbm, 525, rfl⟩
abbrev main_v378 : Ref sig .tc := ⟨.hbm, 526, rfl⟩
abbrev main_v379 : Ref sig .tc := ⟨.hbm, 527, rfl⟩
abbrev main_v380 : Ref sig .tc := ⟨.hbm, 528, rfl⟩
abbrev main_v381 : Ref sig .tc := ⟨.hbm, 529, rfl⟩
abbrev main_v382 : Ref sig .tc := ⟨.hbm, 530, rfl⟩
abbrev main_v383 : Ref sig .tc := ⟨.hbm, 531, rfl⟩
abbrev main_v384 : Ref sig .tc := ⟨.hbm, 532, rfl⟩
abbrev main_v385 : Ref sig .tc := ⟨.hbm, 533, rfl⟩
abbrev main_v386 : Ref sig .tc := ⟨.hbm, 534, rfl⟩
abbrev main_cst_92 : Ref sig .tc := ⟨.hbm, 535, rfl⟩
abbrev main_v387 : Ref sig .tc := ⟨.hbm, 536, rfl⟩
abbrev main_v388 : Ref sig .tc := ⟨.hbm, 537, rfl⟩
abbrev main_v389 : Ref sig .tc := ⟨.hbm, 538, rfl⟩
abbrev main_v390 : Ref sig .tc := ⟨.hbm, 539, rfl⟩
abbrev main_cst_93 : Ref sig .tc := ⟨.hbm, 540, rfl⟩
abbrev main_v391 : Ref sig .tc := ⟨.hbm, 541, rfl⟩
abbrev main_v392 : Ref sig .tc := ⟨.hbm, 542, rfl⟩
abbrev main_v393 : Ref sig .tc := ⟨.hbm, 543, rfl⟩
abbrev main_v394 : Ref sig .tc := ⟨.hbm, 544, rfl⟩
abbrev main_v395 : Ref sig .tc := ⟨.hbm, 545, rfl⟩
abbrev main_v396 : Ref sig .tc := ⟨.hbm, 546, rfl⟩
abbrev main_v397 : Ref sig .tc := ⟨.hbm, 547, rfl⟩
abbrev main_v398 : Ref sig .tc := ⟨.hbm, 548, rfl⟩
abbrev main_v399 : Ref sig .tc := ⟨.hbm, 549, rfl⟩
abbrev main_cst_94 : Ref sig .tc := ⟨.hbm, 550, rfl⟩
abbrev main_v400 : Ref sig .tc := ⟨.hbm, 551, rfl⟩
abbrev main_v401 : Ref sig .tc := ⟨.hbm, 552, rfl⟩
abbrev main_v402 : Ref sig .tc := ⟨.hbm, 553, rfl⟩
abbrev main_v403 : Ref sig .tc := ⟨.hbm, 554, rfl⟩
abbrev main_cst_95 : Ref sig .tc := ⟨.hbm, 555, rfl⟩
abbrev main_v404 : Ref sig .tc := ⟨.hbm, 556, rfl⟩
abbrev main_v405 : Ref sig .tc := ⟨.hbm, 557, rfl⟩
abbrev main_v406 : Ref sig .tc := ⟨.hbm, 558, rfl⟩
abbrev main_v407 : Ref sig .tc := ⟨.hbm, 559, rfl⟩
abbrev main_v408 : Ref sig .tc := ⟨.hbm, 560, rfl⟩
abbrev main_v409 : Ref sig .tc := ⟨.hbm, 561, rfl⟩
abbrev main_v410 : Ref sig .tc := ⟨.hbm, 562, rfl⟩
abbrev main_v411 : Ref sig .tc := ⟨.hbm, 563, rfl⟩
abbrev main_v412 : Ref sig .tc := ⟨.hbm, 564, rfl⟩
abbrev main_cst_96 : Ref sig .tc := ⟨.hbm, 565, rfl⟩
abbrev main_v413 : Ref sig .tc := ⟨.hbm, 566, rfl⟩
abbrev main_v414 : Ref sig .tc := ⟨.hbm, 567, rfl⟩
abbrev main_v415 : Ref sig .tc := ⟨.hbm, 568, rfl⟩
abbrev main_v416 : Ref sig .tc := ⟨.hbm, 569, rfl⟩
abbrev main_cst_97 : Ref sig .tc := ⟨.hbm, 570, rfl⟩
abbrev main_v417 : Ref sig .tc := ⟨.hbm, 571, rfl⟩
abbrev main_v418 : Ref sig .tc := ⟨.hbm, 572, rfl⟩
abbrev main_v419 : Ref sig .tc := ⟨.hbm, 573, rfl⟩
abbrev main_v420 : Ref sig .tc := ⟨.hbm, 574, rfl⟩
abbrev main_v421 : Ref sig .tc := ⟨.hbm, 575, rfl⟩
abbrev main_v422 : Ref sig .tc := ⟨.hbm, 576, rfl⟩
abbrev main_v423 : Ref sig .tc := ⟨.hbm, 577, rfl⟩
abbrev main_v424 : Ref sig .tc := ⟨.hbm, 578, rfl⟩
abbrev main_v425 : Ref sig .tc := ⟨.hbm, 579, rfl⟩
abbrev main_cst_98 : Ref sig .tc := ⟨.hbm, 580, rfl⟩
abbrev main_v426 : Ref sig .tc := ⟨.hbm, 581, rfl⟩
abbrev main_v427 : Ref sig .tc := ⟨.hbm, 582, rfl⟩
abbrev main_v428 : Ref sig .tc := ⟨.hbm, 583, rfl⟩
abbrev main_v429 : Ref sig .tc := ⟨.hbm, 584, rfl⟩
abbrev main_cst_99 : Ref sig .tc := ⟨.hbm, 585, rfl⟩
abbrev main_v430 : Ref sig .tc := ⟨.hbm, 586, rfl⟩
abbrev main_v431 : Ref sig .tc := ⟨.hbm, 587, rfl⟩
abbrev main_v432 : Ref sig .tc := ⟨.hbm, 588, rfl⟩
abbrev main_v433 : Ref sig .tc := ⟨.hbm, 589, rfl⟩
abbrev main_v434 : Ref sig .tc := ⟨.hbm, 590, rfl⟩
abbrev main_v435 : Ref sig .tc := ⟨.hbm, 591, rfl⟩
abbrev main_v436 : Ref sig .tc := ⟨.hbm, 592, rfl⟩
abbrev main_v437 : Ref sig .tc := ⟨.hbm, 593, rfl⟩
abbrev main_v438 : Ref sig .tc := ⟨.hbm, 594, rfl⟩
abbrev main_cst_100 : Ref sig .tc := ⟨.hbm, 595, rfl⟩
abbrev main_v439 : Ref sig .tc := ⟨.hbm, 596, rfl⟩
abbrev main_v440 : Ref sig .tc := ⟨.hbm, 597, rfl⟩
abbrev main_v441 : Ref sig .tc := ⟨.hbm, 598, rfl⟩
abbrev main_v442 : Ref sig .tc := ⟨.hbm, 599, rfl⟩
abbrev main_cst_101 : Ref sig .tc := ⟨.hbm, 600, rfl⟩
abbrev main_v443 : Ref sig .tc := ⟨.hbm, 601, rfl⟩
abbrev main_v444 : Ref sig .tc := ⟨.hbm, 602, rfl⟩
abbrev main_v445 : Ref sig .tc := ⟨.hbm, 603, rfl⟩
abbrev main_v446 : Ref sig .tc := ⟨.hbm, 604, rfl⟩
abbrev main_v447 : Ref sig .tc := ⟨.hbm, 605, rfl⟩
abbrev main_v448 : Ref sig .tc := ⟨.hbm, 606, rfl⟩
abbrev main_v449 : Ref sig .tc := ⟨.hbm, 607, rfl⟩
abbrev main_v450 : Ref sig .tc := ⟨.hbm, 608, rfl⟩
abbrev main_v451 : Ref sig .tc := ⟨.hbm, 609, rfl⟩
abbrev main_cst_102 : Ref sig .tc := ⟨.hbm, 610, rfl⟩
abbrev main_v452 : Ref sig .tc := ⟨.hbm, 611, rfl⟩
abbrev main_v453 : Ref sig .tc := ⟨.hbm, 612, rfl⟩
abbrev main_v454 : Ref sig .tc := ⟨.hbm, 613, rfl⟩
abbrev main_v455 : Ref sig .tc := ⟨.hbm, 614, rfl⟩
abbrev main_cst_103 : Ref sig .tc := ⟨.hbm, 615, rfl⟩
abbrev main_v456 : Ref sig .tc := ⟨.hbm, 616, rfl⟩
abbrev main_v457 : Ref sig .tc := ⟨.hbm, 617, rfl⟩
abbrev main_v458 : Ref sig .tc := ⟨.hbm, 618, rfl⟩
abbrev main_v459 : Ref sig .tc := ⟨.hbm, 619, rfl⟩
abbrev main_v460 : Ref sig .tc := ⟨.hbm, 620, rfl⟩
abbrev main_v461 : Ref sig .tc := ⟨.hbm, 621, rfl⟩
abbrev main_v462 : Ref sig .tc := ⟨.hbm, 622, rfl⟩
abbrev main_v463 : Ref sig .tc := ⟨.hbm, 623, rfl⟩
abbrev main_v464 : Ref sig .tc := ⟨.hbm, 624, rfl⟩
abbrev main_cst_104 : Ref sig .tc := ⟨.hbm, 625, rfl⟩
abbrev main_v465 : Ref sig .tc := ⟨.hbm, 626, rfl⟩
abbrev main_v466 : Ref sig .tc := ⟨.hbm, 627, rfl⟩
abbrev main_v467 : Ref sig .tc := ⟨.hbm, 628, rfl⟩
abbrev main_v468 : Ref sig .tc := ⟨.hbm, 629, rfl⟩
abbrev main_cst_105 : Ref sig .tc := ⟨.hbm, 630, rfl⟩
abbrev main_v469 : Ref sig .tc := ⟨.hbm, 631, rfl⟩
abbrev main_v470 : Ref sig .tc := ⟨.hbm, 632, rfl⟩
abbrev main_v471 : Ref sig .tc := ⟨.hbm, 633, rfl⟩
abbrev main_v472 : Ref sig .tc := ⟨.hbm, 634, rfl⟩
abbrev main_v473 : Ref sig .tc := ⟨.hbm, 635, rfl⟩
abbrev main_v474 : Ref sig .tc := ⟨.hbm, 636, rfl⟩
abbrev main_v475 : Ref sig .tc := ⟨.hbm, 637, rfl⟩
abbrev main_v476 : Ref sig .tc := ⟨.hbm, 638, rfl⟩
abbrev main_v477 : Ref sig .tc := ⟨.hbm, 639, rfl⟩
abbrev main_cst_106 : Ref sig .tc := ⟨.hbm, 640, rfl⟩
abbrev main_v478 : Ref sig .tc := ⟨.hbm, 641, rfl⟩
abbrev main_v479 : Ref sig .tc := ⟨.hbm, 642, rfl⟩
abbrev main_v480 : Ref sig .tc := ⟨.hbm, 643, rfl⟩
abbrev main_v481 : Ref sig .tc := ⟨.hbm, 644, rfl⟩
abbrev main_v482 : Ref sig .tc := ⟨.hbm, 645, rfl⟩
abbrev main_cst_107 : Ref sig .tc := ⟨.hbm, 646, rfl⟩
abbrev main_v483 : Ref sig .tc := ⟨.hbm, 647, rfl⟩
abbrev main_v484 : Ref sig .tc := ⟨.hbm, 648, rfl⟩
abbrev main_v485 : Ref sig .tc := ⟨.hbm, 649, rfl⟩
abbrev main_v486 : Ref sig .tc := ⟨.hbm, 650, rfl⟩
abbrev main_cst_108 : Ref sig .tc := ⟨.hbm, 651, rfl⟩
abbrev main_v487 : Ref sig .tc := ⟨.hbm, 652, rfl⟩
abbrev main_v488 : Ref sig .tc := ⟨.hbm, 653, rfl⟩
abbrev main_v489 : Ref sig .tc := ⟨.hbm, 654, rfl⟩
abbrev main_cst_109 : Ref sig .tc := ⟨.hbm, 655, rfl⟩
abbrev main_v490 : Ref sig .tc := ⟨.hbm, 656, rfl⟩
abbrev main_v491 : Ref sig .tc := ⟨.hbm, 657, rfl⟩
abbrev main_v492 : Ref sig .tc := ⟨.hbm, 658, rfl⟩
abbrev main_v493 : Ref sig .tc := ⟨.hbm, 659, rfl⟩
abbrev main_cst_110 : Ref sig .tc := ⟨.hbm, 660, rfl⟩
abbrev main_v494 : Ref sig .tc := ⟨.hbm, 661, rfl⟩
abbrev main_v495 : Ref sig .tc := ⟨.hbm, 662, rfl⟩
abbrev main_cst_111 : Ref sig .tc := ⟨.hbm, 663, rfl⟩
abbrev main_v496 : Ref sig .tc := ⟨.hbm, 664, rfl⟩
abbrev main_v497 : Ref sig .tc := ⟨.hbm, 665, rfl⟩
abbrev main_v498 : Ref sig .tc := ⟨.hbm, 666, rfl⟩
abbrev main_v499 : Ref sig .tc := ⟨.hbm, 667, rfl⟩
abbrev main_v500 : Ref sig .tc := ⟨.hbm, 668, rfl⟩
abbrev main_v501 : Ref sig .tc := ⟨.hbm, 669, rfl⟩
abbrev main_v502 : Ref sig .tc := ⟨.hbm, 670, rfl⟩
abbrev main_v503 : Ref sig .tc := ⟨.hbm, 671, rfl⟩
abbrev main_cst_112 : Ref sig .tc := ⟨.hbm, 672, rfl⟩
abbrev main_v504 : Ref sig .tc := ⟨.hbm, 673, rfl⟩
abbrev main_v505 : Ref sig .tc := ⟨.hbm, 674, rfl⟩
abbrev main_cst_113 : Ref sig .tc := ⟨.hbm, 675, rfl⟩
abbrev main_v506 : Ref sig .tc := ⟨.hbm, 676, rfl⟩
abbrev main_v507 : Ref sig .tc := ⟨.hbm, 677, rfl⟩
abbrev main_v508 : Ref sig .tc := ⟨.hbm, 678, rfl⟩
abbrev main_v509 : Ref sig .tc := ⟨.hbm, 679, rfl⟩
abbrev main_v510 : Ref sig .tc := ⟨.hbm, 680, rfl⟩
abbrev main_v511 : Ref sig .tc := ⟨.hbm, 681, rfl⟩
abbrev main_v512 : Ref sig .tc := ⟨.hbm, 682, rfl⟩
abbrev main_v513 : Ref sig .tc := ⟨.hbm, 683, rfl⟩
abbrev main_v514 : Ref sig .tc := ⟨.hbm, 684, rfl⟩
abbrev main_v515 : Ref sig .tc := ⟨.hbm, 685, rfl⟩
abbrev main_v516 : Ref sig .tc := ⟨.hbm, 686, rfl⟩
abbrev main_v517 : Ref sig .tc := ⟨.hbm, 687, rfl⟩
abbrev main_v518 : Ref sig .tc := ⟨.hbm, 688, rfl⟩
abbrev main_v519 : Ref sig .tc := ⟨.hbm, 689, rfl⟩
abbrev main_v520 : Ref sig .tc := ⟨.hbm, 690, rfl⟩
abbrev main_cst_114 : Ref sig .tc := ⟨.hbm, 691, rfl⟩
abbrev main_v521 : Ref sig .tc := ⟨.hbm, 692, rfl⟩
abbrev main_v522 : Ref sig .tc := ⟨.hbm, 693, rfl⟩
abbrev main_v523 : Ref sig .tc := ⟨.hbm, 694, rfl⟩
abbrev main_v524 : Ref sig .tc := ⟨.hbm, 695, rfl⟩
abbrev main_cst_115 : Ref sig .tc := ⟨.hbm, 696, rfl⟩
abbrev main_v525 : Ref sig .tc := ⟨.hbm, 697, rfl⟩
abbrev main_v526 : Ref sig .tc := ⟨.hbm, 698, rfl⟩
abbrev main_cst_116 : Ref sig .tc := ⟨.hbm, 699, rfl⟩
abbrev main_v527 : Ref sig .tc := ⟨.hbm, 700, rfl⟩
abbrev main_cst_117 : Ref sig .tc := ⟨.hbm, 701, rfl⟩
abbrev main_v528 : Ref sig .tc := ⟨.hbm, 702, rfl⟩
abbrev main_v529 : Ref sig .tc := ⟨.hbm, 703, rfl⟩
abbrev main_cst_118 : Ref sig .tc := ⟨.hbm, 704, rfl⟩
abbrev main_v530 : Ref sig .tc := ⟨.hbm, 705, rfl⟩
abbrev main_v531 : Ref sig .tc := ⟨.hbm, 706, rfl⟩
abbrev main_v532 : Ref sig .tc := ⟨.hbm, 707, rfl⟩
abbrev main_v533 : Ref sig .tc := ⟨.hbm, 708, rfl⟩
abbrev main_cst_119 : Ref sig .tc := ⟨.hbm, 709, rfl⟩
abbrev main_v534 : Ref sig .tc := ⟨.hbm, 710, rfl⟩
abbrev main_v535 : Ref sig .tc := ⟨.hbm, 711, rfl⟩
abbrev main_cst_120 : Ref sig .tc := ⟨.hbm, 712, rfl⟩
abbrev main_v536 : Ref sig .tc := ⟨.hbm, 713, rfl⟩
abbrev main_v537 : Ref sig .tc := ⟨.hbm, 714, rfl⟩
abbrev main_cst_121 : Ref sig .tc := ⟨.hbm, 715, rfl⟩
abbrev main_v538 : Ref sig .tc := ⟨.hbm, 716, rfl⟩
abbrev main_v539 : Ref sig .tc := ⟨.hbm, 717, rfl⟩
abbrev main_v540 : Ref sig .tc := ⟨.hbm, 718, rfl⟩
abbrev main_cst_122 : Ref sig .tc := ⟨.hbm, 719, rfl⟩
abbrev main_v541 : Ref sig .tc := ⟨.hbm, 720, rfl⟩
abbrev main_v542 : Ref sig .tc := ⟨.hbm, 721, rfl⟩
abbrev main_v543 : Ref sig .tc := ⟨.hbm, 722, rfl⟩
abbrev main_v544 : Ref sig .tc := ⟨.hbm, 723, rfl⟩
abbrev main_cst_123 : Ref sig .tc := ⟨.hbm, 724, rfl⟩
abbrev main_v545 : Ref sig .tc := ⟨.hbm, 725, rfl⟩
abbrev main_v546 : Ref sig .tc := ⟨.hbm, 726, rfl⟩
abbrev main_cst_124 : Ref sig .tc := ⟨.hbm, 727, rfl⟩
abbrev main_v547 : Ref sig .tc := ⟨.hbm, 728, rfl⟩
abbrev main_v548 : Ref sig .tc := ⟨.hbm, 729, rfl⟩
abbrev main_cst_125 : Ref sig .tc := ⟨.hbm, 730, rfl⟩
abbrev main_v549 : Ref sig .tc := ⟨.hbm, 731, rfl⟩
abbrev main_v550 : Ref sig .tc := ⟨.hbm, 732, rfl⟩
abbrev main_cst_126 : Ref sig .tc := ⟨.hbm, 733, rfl⟩
abbrev main_v551 : Ref sig .tc := ⟨.hbm, 734, rfl⟩
abbrev main_v552 : Ref sig .tc := ⟨.hbm, 735, rfl⟩
abbrev main_cst_127 : Ref sig .tc := ⟨.hbm, 736, rfl⟩
abbrev main_v553 : Ref sig .tc := ⟨.hbm, 737, rfl⟩
abbrev main_v554 : Ref sig .tc := ⟨.hbm, 738, rfl⟩
abbrev main_cst_128 : Ref sig .tc := ⟨.hbm, 739, rfl⟩
abbrev main_v555 : Ref sig .tc := ⟨.hbm, 740, rfl⟩
abbrev main_v556 : Ref sig .tc := ⟨.hbm, 741, rfl⟩
abbrev main_v557 : Ref sig .tc := ⟨.hbm, 742, rfl⟩
abbrev main_v558 : Ref sig .tc := ⟨.hbm, 743, rfl⟩
abbrev main_cst_129 : Ref sig .tc := ⟨.hbm, 744, rfl⟩
abbrev main_v559 : Ref sig .tc := ⟨.hbm, 745, rfl⟩
abbrev main_v560 : Ref sig .tc := ⟨.hbm, 746, rfl⟩
abbrev main_cst_130 : Ref sig .tc := ⟨.hbm, 747, rfl⟩
abbrev main_v561 : Ref sig .tc := ⟨.hbm, 748, rfl⟩
abbrev main_v562 : Ref sig .tc := ⟨.hbm, 749, rfl⟩
abbrev main_cst_131 : Ref sig .tc := ⟨.hbm, 750, rfl⟩
abbrev main_v563 : Ref sig .tc := ⟨.hbm, 751, rfl⟩
abbrev main_v564 : Ref sig .tc := ⟨.hbm, 752, rfl⟩
abbrev main_v565 : Ref sig .tc := ⟨.hbm, 753, rfl⟩
abbrev main_v566 : Ref sig .tc := ⟨.hbm, 754, rfl⟩
abbrev main_v567 : Ref sig .tc := ⟨.hbm, 755, rfl⟩
abbrev main_v568 : Ref sig .tc := ⟨.hbm, 756, rfl⟩
abbrev main_cst_132 : Ref sig .tc := ⟨.hbm, 757, rfl⟩
abbrev main_v569 : Ref sig .tc := ⟨.hbm, 758, rfl⟩
abbrev main_v570 : Ref sig .tc := ⟨.hbm, 759, rfl⟩
abbrev main_v571 : Ref sig .tc := ⟨.hbm, 760, rfl⟩
abbrev main_v572 : Ref sig .tc := ⟨.hbm, 761, rfl⟩
abbrev main_v573 : Ref sig .tc := ⟨.hbm, 762, rfl⟩
abbrev main_v574 : Ref sig .tc := ⟨.hbm, 763, rfl⟩
abbrev main_v575 : Ref sig .tc := ⟨.hbm, 764, rfl⟩
abbrev main_v576 : Ref sig .tc := ⟨.hbm, 765, rfl⟩

abbrev nD : Nat := 1
abbrev τ : Topo := Topo.v7x

variable {F : FTy → Type} [FloatOps F]
-- ==== Adam.lean ====
abbrev S2048x1536 : Shape := ⟨2, ![2048, 1536]⟩
abbrev S3x2048x1536 : Shape := ⟨3, ![3, 2048, 1536]⟩
abbrev S64x1536 : Shape := ⟨2, ![64, 1536]⟩
abbrev S1x64x1536 : Shape := ⟨3, ![1, 64, 1536]⟩

abbrev nBuf : Space → Nat
  | .hbm => 9
  | .vmem => 22
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S3x2048x1536, .bf16⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S1x64x1536, .bf16⟩
  | .local _ .vmem, ⟨9, _⟩ => ⟨S1x64x1536, .bf16⟩
  | .local _ .vmem, ⟨10, _⟩ => ⟨S1x64x1536, .bf16⟩
  | .local _ .vmem, ⟨11, _⟩ => ⟨S1x64x1536, .bf16⟩
  | .local _ .vmem, ⟨12, _⟩ => ⟨S1x64x1536, .bf16⟩
  | .local _ .vmem, ⟨13, _⟩ => ⟨S1x64x1536, .bf16⟩
  | .local _ .vmem, ⟨14, _⟩ => ⟨S64x1536, .f32⟩
  | .local _ .vmem, ⟨15, _⟩ => ⟨S64x1536, .f32⟩
  | .local _ .vmem, ⟨16, _⟩ => ⟨S64x1536, .f32⟩
  | .local _ .vmem, ⟨17, _⟩ => ⟨S64x1536, .f32⟩
  | .local _ .vmem, ⟨18, _⟩ => ⟨S64x1536, .f32⟩
  | .local _ .vmem, ⟨19, _⟩ => ⟨S64x1536, .f32⟩
  | .local _ .vmem, ⟨20, _⟩ => ⟨S64x1536, .f32⟩
  | .local _ .vmem, ⟨21, _⟩ => ⟨S64x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamRefIdeal.lean ====
abbrev S2048x1536 : Shape := ⟨2, ![2048, 1536]⟩
abbrev S3x2048x1536 : Shape := ⟨3, ![3, 2048, 1536]⟩
abbrev S1x2048x1536 : Shape := ⟨3, ![1, 2048, 1536]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S3x2048x1536, .bf16⟩
  | .hbm, ⟨5, _⟩ => ⟨S1x2048x1536, .bf16⟩
  | .hbm, ⟨6, _⟩ => ⟨S2048x1536, .bf16⟩
  | .hbm, ⟨7, _⟩ => ⟨S2048x1536, .f32⟩
  | .hbm, ⟨8, _⟩ => ⟨S2048x1536, .f32⟩
  | .hbm, ⟨9, _⟩ => ⟨S1x2048x1536, .bf16⟩
  | .hbm, ⟨10, _⟩ => ⟨S2048x1536, .bf16⟩
  | .hbm, ⟨11, _⟩ => ⟨S2048x1536, .f32⟩
  | .hbm, ⟨12, _⟩ => ⟨S2048x1536, .f32⟩
  | .hbm, ⟨13, _⟩ => ⟨S1x2048x1536, .bf16⟩
  | .hbm, ⟨14, _⟩ => ⟨S2048x1536, .bf16⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S_, .f32⟩
  | .hbm, ⟨21, _⟩ => ⟨S2048x1536, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S_, .f32⟩
  | .hbm, ⟨40, _⟩ => ⟨S2048x1536, .f32⟩
  | .hbm, ⟨41, _⟩ => ⟨S2048x1536, .f32⟩
  | .hbm, ⟨42, _⟩ => ⟨S2048x1536, .f32⟩
  | .hbm, ⟨43, _⟩ => ⟨S_, .f32⟩
  | .hbm, ⟨44, _⟩ => ⟨S2048x1536, .f32⟩
  | .hbm, ⟨45, _⟩ => ⟨S2048x1536, .f32⟩
  | .hbm, ⟨46, _⟩ => ⟨S2048x1536, .f32⟩
  | .hbm, ⟨47, _⟩ => ⟨S_, .f32⟩
  | .hbm, ⟨48, _⟩ => ⟨S2048x1536, .f32⟩
  | .hbm, ⟨49, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== DownDw.lean ====
abbrev S8192x6144 : Shape := ⟨2, ![8192, 6144]⟩
abbrev S8192x2048 : Shape := ⟨2, ![8192, 2048]⟩
abbrev S6144x2048 : Shape := ⟨2, ![6144, 2048]⟩
abbrev S2048x768 : Shape := ⟨2, ![2048, 768]⟩
abbrev S2048x2048 : Shape := ⟨2, ![2048, 2048]⟩
abbrev S768x2048 : Shape := ⟨2, ![768, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S6144x2048, .f32⟩
  | .local _ .vmem, ⟨0, _⟩ => ⟨S2048x768, .bf16⟩
  | .local _ .vmem, ⟨1, _⟩ => ⟨S2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S768x2048, .f32⟩
  | .local _ .vmem, ⟨5, _⟩ => ⟨S768x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDwRefIdeal.lean ====
abbrev S8192x6144 : Shape := ⟨2, ![8192, 6144]⟩
abbrev S8192x2048 : Shape := ⟨2, ![8192, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S_, .f32⟩
  | .hbm, ⟨3, _⟩ => ⟨S6144x2048, .f32⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S2048x6144, .f32⟩
  | .hbm, ⟨8, _⟩ => ⟨S6144x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S8192x2048 : Shape := ⟨2, ![8192, 2048]⟩
abbrev S2x8192x6144 : Shape := ⟨3, ![2, 8192, 6144]⟩
abbrev S8x2048x1536 : Shape := ⟨3, ![8, 2048, 1536]⟩
abbrev S2048x2048 : Shape := ⟨2, ![2048, 2048]⟩
abbrev S1x2048x768 : Shape := ⟨3, ![1, 2048, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x8192x6144, .bf16⟩
  | .hbm, ⟨2, _⟩ => ⟨S8x2048x1536, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x768, .f32⟩
  | .local _ .vmem, ⟨5, _⟩ => ⟨S1x2048x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpDwRefIdeal.lean ====
abbrev S8192x2048 : Shape := ⟨2, ![8192, 2048]⟩
abbrev S2x8192x6144 : Shape := ⟨3, ![2, 8192, 6144]⟩
abbrev S_ : Shape := ⟨0, ![]⟩
abbrev S2048x12288 : Shape := ⟨2, ![2048, 12288]⟩
abbrev S8192x12288 : Shape := ⟨2, ![8192, 12288]⟩
abbrev S1x8192x6144 : Shape := ⟨3, ![1, 8192, 6144]⟩
abbrev S8192x6144 : Shape := ⟨2, ![8192, 6144]⟩
abbrev S12288x2048 : Shape := ⟨2, ![12288, 2048]⟩
abbrev S2048x8x1536 : Shape := ⟨3, ![2048, 8, 1536]⟩
abbrev S8x2048x1536 : Shape := ⟨3, ![8, 2048, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x6144, .bf16⟩
  | .hbm, ⟨2, _⟩ => ⟨S_, .f32⟩
  | .hbm, ⟨3, _⟩ => ⟨S2048x12288, .f32⟩
  | .hbm, ⟨4, _⟩ => ⟨S8192x2048, .f32⟩
  | .hbm, ⟨5, _⟩ => ⟨S8192x12288, .f32⟩
  | .hbm, ⟨6, _⟩ => ⟨S1x8192x6144, .bf16⟩
  | .hbm, ⟨7, _⟩ => ⟨S8192x6144, .bf16⟩
  | .hbm, ⟨8, _⟩ => ⟨S1x8192x6144, .bf16⟩
  | .hbm, ⟨9, _⟩ => ⟨S8192x6144, .bf16⟩
  | .hbm, ⟨10, _⟩ => ⟨S8192x12288, .bf16⟩
  | .hbm, ⟨11, _⟩ => ⟨S8192x12288, .f32⟩
  | .hbm, ⟨12, _⟩ => ⟨S12288x2048, .f32⟩
  | .hbm, ⟨13, _⟩ => ⟨S2048x12288, .f32⟩
  | .hbm, ⟨14, _⟩ => ⟨S2048x8x1536, .f32⟩
  | .hbm, ⟨15, _⟩ => ⟨S8x2048x1536, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.Sums.lean ====
/- Sums over the first so many positions of an axis: what an accumulator holds part of the way through it. -/
module

public import Mathlib.Algebra.BigOperators.Fin
public import Mathlib.Algebra.BigOperators.Intervals

@[expose] public section

namespace Cert.Sums

variable {M : Type*} [AddCommMonoid M] {N : ℕ}

/-- The sum of `f` over the positions of its axis below `n`. -/
def upto (f : Fin N → M) (n : ℕ) : M := ∑ i ∈ Finset.range n, if h : i < N then f ⟨i, h⟩ else 0

theorem upto_zero (f : Fin N → M) : upto f 0 = 0 := rfl

/-- A block of `B` further positions adds its own sum. -/
theorem upto_add (f : Fin N → M) (n B : ℕ) (h : n + B ≤ N) :
    upto f (n + B) = upto f n + ∑ j : Fin B, f ⟨n + j.val, by omega⟩ := by
  unfold upto
  rw [Finset.sum_range_add, Finset.sum_range (n := B)]
  refine congrArg _ (Finset.sum_congr rfl fun j _ => ?_)
  rw [dif_pos (by omega)]

/-- All of the positions: the whole sum. -/
theorem upto_all (f : Fin N → M) : upto f N = ∑ j, f j := by
  unfold upto
  rw [Finset.sum_range]
  exact Finset.sum_congr rfl fun j _ => dif_pos j.isLt

end Cert.Sums
-- ==== Proof.Reals.lean ====
/- Extended reals that are real numbers: the arithmetic of finite arrays, read back in the reals. -/
module

public import Idealize.ShloMosaic.PureOps.Ideal
public import Idealize.ShloMosaic.Lib.ValueIdx

@[expose] public section

noncomputable section

open Idealize.ShloMosaic

namespace Cert.Reals

/-- The value is a real number. -/
def IsReal (x : EReal) : Prop := ∃ r : ℝ, x = (r : EReal)

theorem isReal_coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_sum {ι : Type*} (s : Finset ι) (f : ι → ℝ) : ((∑ i ∈ s, f i : ℝ) : EReal) = ∑ i ∈ s, (f i : EReal) := by
  induction s using Finset.cons_induction with
  | empty => exact EReal.coe_zero
  | cons a s h ih => rw [Finset.sum_cons, Finset.sum_cons, EReal.coe_add, ih]

theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- Entries of magnitude below the infinity word are real numbers. -/
theorem isReal_of_mask {T U : Shape} {dims : Fin U.rank → Fin T.rank} (hb : U.BroadcastsInDim T dims) (x : FVec Ideal T .f32)
    (h : cmpf .olt (Host.absf x) (broadcastInDim T dims hb (constant U .f32 0x7F800000#32)) = fun _ => 1#1) (i : T.Idx) : IsReal (x i) := by
  have e : Ideal.cmp .olt (max (x i) (-(x i))) (Ideal.ofBits FTy.f32 0x7F800000#32) = 1#1 := congrFun h i
  have top : Ideal.ofBits FTy.f32 0x7F800000#32 = ⊤ := by simp [Ideal.ofBits, Ideal.ieee]
  rw [top] at e
  have lt : max (x i) (-(x i)) < ⊤ := by
    by_contra hn
    simp [Ideal.cmp, hn] at e
  generalize x i = y at lt ⊢
  induction y using EReal.rec with
  | bot => simp at lt
  | top => simp at lt
  | coe r => exact ⟨r, rfl⟩

/-! ## The literals -/

theorem lit_2048 : Ideal.ofBits FTy.f32 1157627904#32 = ((2048 : ℝ) : EReal) := by
  simp [Ideal.ofBits, Ideal.ieee, -EReal.coe_mul]; norm_num

theorem lit_2048_pos : ∃ r : ℝ, 0 < r ∧ Ideal.ofBits FTy.f32 1157627904#32 = (r : EReal) := ⟨2048, by norm_num, lit_2048⟩

theorem lit_neg_half : Ideal.ofBits FTy.f32 3204448256#32 = ((-1 / 2 : ℝ) : EReal) := by
  simp [Ideal.ofBits, Ideal.ieee, -EReal.coe_mul]; norm_num

theorem lit_half : Ideal.ofBits FTy.f32 1056964608#32 = ((1 / 2 : ℝ) : EReal) := by
  simp [Ideal.ofBits, Ideal.ieee, -EReal.coe_mul]; norm_num

theorem lit_two : Ideal.ofBits FTy.f32 1073741824#32 = ((2 : ℝ) : EReal) := by
  simp [Ideal.ofBits, Ideal.ieee, -EReal.coe_mul]; norm_num

theorem lit_step : Ideal.ofBits FTy.f32 973078528#32 = ((1 / 2048 : ℝ) : EReal) := by
  simp [Ideal.ofBits, Ideal.ieee, -EReal.coe_mul]; norm_num

/-- The guard added to a mean square, a positive number. -/
theorem lit_eps : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

end Cert.Reals

end
-- ==== Proof.RowNorm.lean ====
/- The gradient of a root-mean-square normalisation, row by row: the form the kernels compute from the normalised row, and
   the form reverse differentiation of the forward lines gives, agree on rows of real numbers. -/
module

public import proofs.«01_k».proof.Proof.Reals

@[expose] public section

noncomputable section

open Idealize.ShloMosaic

namespace Cert.RowNorm

open Cert.Reals

variable {N : ℕ}

/-- The words of the row width and of the guard. -/
abbrev width : EReal := Ideal.ofBits FTy.f32 1157627904#32
abbrev eps : EReal := Ideal.ofBits FTy.f32 897988541#32

/-- A row's mean square over the width `d`, with the guard `e` added. -/
def meanSq (d e : EReal) (x : Fin N → EReal) : EReal := Ideal.div (∑ k, x k * x k) d + e

/-- The reciprocal root mean square of a row. -/
def rrms (d e : EReal) (x : Fin N → EReal) : EReal := Ideal.rsqrt (meanSq d e x)

/-- The row's gradient as the kernel forms it: the scaled incoming gradient less its share along the normalised row. -/
def grad (d e : EReal) (x g a : Fin N → EReal) (k : Fin N) : EReal :=
  rrms d e x * (a k * g k - x k * rrms d e x * Ideal.div (∑ j, a j * g j * (x j * rrms d e x)) d)

/-- The gradient reaching the mean square, `h` standing for minus one half. -/
def back (d e h : EReal) (x g a : Fin N → EReal) : EReal :=
  Ideal.div ((∑ j, x j * (a j * g j)) * (h * Ideal.div (rrms d e x) (meanSq d e x))) d

variable {d e : ℝ}

theorem meanSq_coe (hd : d ≠ 0) (x : Fin N → ℝ) :
    meanSq (d : EReal) (e : EReal) (fun k => (x k : EReal)) = (((∑ k, x k * x k) / d + e : ℝ) : EReal) := by
  unfold meanSq
  simp only [← EReal.coe_mul, ← coe_sum]
  rw [Ideal.div_coe hd, ← EReal.coe_mul, ← EReal.coe_add, mul_one_div]

theorem meanSq_pos (hd : 0 < d) (he : 0 < e) (x : Fin N → ℝ) : 0 < (∑ k, x k * x k) / d + e :=
  add_pos_of_nonneg_of_pos (div_nonneg (Finset.sum_nonneg fun k _ => mul_self_nonneg (x k)) hd.le) he

theorem rrms_coe (hd : 0 < d) (he : 0 < e) (x : Fin N → ℝ) :
    rrms (d : EReal) (e : EReal) (fun k => (x k : EReal)) = (((√((∑ k, x k * x k) / d + e))⁻¹ : ℝ) : EReal) := by
  have h := meanSq_pos hd he x
  unfold rrms
  rw [meanSq_coe hd.ne', Ideal.rsqrt_coe, if_neg (not_lt.mpr h.le), if_neg h.ne']

/-- A row of real numbers has a real reciprocal root mean square. -/
theorem rrms_real {d e : EReal} (hd : ∃ r : ℝ, 0 < r ∧ d = (r : EReal)) (he : ∃ r : ℝ, 0 < r ∧ e = (r : EReal)) {x : Fin N → EReal}
    (hx : ∀ k, IsReal (x k)) : IsReal (rrms d e x) := by
  obtain ⟨d, hd, rfl⟩ := hd
  obtain ⟨e, he, rfl⟩ := he
  choose x' hx using hx
  obtain rfl : x = fun k => (x' k : EReal) := funext hx
  rw [rrms_coe hd he]
  exact isReal_coe _

/-- The two forms agree on real rows, whatever is added in front. -/
theorem grad_eq {d e h : EReal} (hd : ∃ r : ℝ, 0 < r ∧ d = (r : EReal)) (he : ∃ r : ℝ, 0 < r ∧ e = (r : EReal)) (hh : h = ((-1 / 2 : ℝ) : EReal)) {x g a : Fin N → EReal} (hx : ∀ k, IsReal (x k)) (hg : ∀ k, IsReal (g k))
    (ha : ∀ k, IsReal (a k)) (y : EReal) (k : Fin N) :
    y + grad d e x g a k
      = y + a k * g k * rrms d e x + x k * back d e h x g a + back d e h x g a * x k := by
  obtain ⟨d, hd, rfl⟩ := hd
  obtain ⟨e, he, rfl⟩ := he
  subst hh
  choose x' hx using hx
  choose g' hg using hg
  choose a' ha using ha
  obtain rfl : x = fun k => (x' k : EReal) := funext hx
  obtain rfl : g = fun k => (g' k : EReal) := funext hg
  obtain rfl : a = fun k => (a' k : EReal) := funext ha
  have hv := meanSq_pos hd he x'
  unfold grad back
  simp only [rrms_coe hd he, meanSq_coe hd.ne', ← EReal.coe_mul, ← coe_sum, Ideal.div_coe hv.ne', Ideal.div_coe hd.ne', ← EReal.coe_sub]
  rw [add_assoc, add_assoc, ← EReal.coe_add, ← EReal.coe_add]
  refine congrArg (fun r : ℝ => y + (r : EReal)) ?_
  set v := (∑ k, x' k * x' k) / d + e
  have hs : (√v)⁻¹ * (√v)⁻¹ = v⁻¹ := by rw [← mul_inv, Real.mul_self_sqrt hv.le]
  have e1 : ∑ j, a' j * g' j * (x' j * (√v)⁻¹) = (∑ j, x' j * (a' j * g' j)) * (√v)⁻¹ := by
    rw [Finset.sum_mul]; exact Finset.sum_congr rfl fun j _ => by ring
  rw [e1]
  generalize (∑ j, x' j * (a' j * g' j)) = s
  generalize (√v)⁻¹ = r at hs ⊢
  linear_combination (-(x' k) * s * r * (1 / d)) * hs

end Cert.RowNorm

end
-- ==== Proof.UpDxCases.lean ====
/- What the five kinds of grid point of the first-layer FFN's input gradient leave behind, each as the body's own
   payload of the blocks it reads: the accumulator after a point, and at a row tile's last point the gradient, its
   narrowed copy and the running scale gradient. -/
module

public import proofs.«01_k».proof.Proof.Gen.UpDxIdeal.Value
public import Idealize.ShloMosaic.Lib.Pipeline.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.UpDxIdeal.Cases

open Cert.UpDxIdeal Cert.UpDxIdeal.Gen

variable {F : FTy → Type} [FloatOps F]

/-- Two zero offsets are the zero offsets. -/
theorem off2 : (![0, 0] : Fin 2 → Nat) = fun _ => 0 := funext fun a => by fin_cases a <;> rfl

/-- Three zero offsets are the zero offsets. -/
theorem off3 : (![0, 0, 0] : Fin 3 → Nat) = fun _ => 0 := funext fun a => by fin_cases a <;> rfl

section Points

variable (c : Dev nD) (i : grid0.Coords) (a2 : Memref sig .tc .vmem S1x512x1536 .bf16) (h2 : a2.IsWhole)
    (a3 : Memref sig .tc .vmem S1x2048x1536 .bf16) (h3 : a3.IsWhole) (a4 : Memref sig .tc .vmem S512x2048 .f32) (h4 : a4.IsWhole)
    (a5 : Memref sig .tc .vmem S512x2048 .f32) (h5 : a5.IsWhole) (a6 : Memref sig .tc .vmem S1x2048 .f32) (h6 : a6.IsWhole)
    (a7 : Memref sig .tc .vmem S512x2048 .f32) (h7 : a7.IsWhole) (a8 : Memref sig .tc .vmem S512x2048 .bf16) (h8 : a8.IsWhole)
    (a9 : Memref sig .tc .vmem S1x2048 .f32) (h9 : a9.IsWhole) (a10 : Memref sig .tc .vmem S512x2048 .f32) (h10 : a10.IsWhole)
    (x0 : Vec F S1x512x1536 .bf16) (x1 : Vec F S1x2048x1536 .bf16) (x2 x3 : Vec F S512x2048 .f32) (x4 : Vec F S1x2048 .f32)

/-- The first point of the grid starts the accumulator from zero and adds its block's products. -/
theorem acc_A (hc0 : cond0_0 i) (hc1 : cond0_1 i) (hc2 : ¬cond0_2 i) :
    sout0_A_0 c i a2 h2 a3 h3 a4 h4 a5 h5 a6 h6 a7 h7 a8 h8 a9 h9 a10 h10 hc0 hc1 hc2 x0 x1 x2 x3 x4 = k0_pay3 k0_pay2 x0 x1 := by
  unfold sout0_A_0
  rw [View.read_writes_eq_canon _ _ _ (scover0_A_0 c i a2 h2 a3 h3 a4 h4 a5 h5 a6 h6 a7 h7 a8 h8 a9 h9 a10 h10 hc0 hc1 hc2 x0 x1 x2 x3 x4)]
  unfold kernelRun0_A
  dsimp only
  sl_unfold_words
  rw [View.canon_cons_unit_zero (S := S512x2048) off2]
  simp only [View.readAt_eq_ld, h2.read_unread, h3.read_unread, h4.read_unread, h5.read_unread, h6.read_unread, h9.read_unread, h10.read_unread,
    View.ld_unit_zero (S := S512x2048) off2, View.ld_unit_zero (S := S1x2048) off2, View.ld_unit_zero (S := S1x512x1536) off3,
    View.ld_unit_zero (S := S1x2048x1536) off3, View.readCov_unit_zero (S := S512x2048) _ off2, View.readCov_unit_zero (S := S1x2048) _ off2]

/-- The first point of a later row tile does the same. -/
theorem acc_D (hc0 : ¬cond0_0 i) (hc1 : cond0_1 i) (hc2 : ¬cond0_2 i) :
    sout0_D_0 c i a2 h2 a3 h3 a4 h4 a5 h5 a6 h6 a7 h7 a8 h8 a9 h9 a10 h10 hc0 hc1 hc2 x0 x1 x2 x3 x4 = k0_pay3 k0_pay2 x0 x1 := by
  unfold sout0_D_0
  rw [View.read_writes_eq_canon _ _ _ (scover0_D_0 c i a2 h2 a3 h3 a4 h4 a5 h5 a6 h6 a7 h7 a8 h8 a9 h9 a10 h10 hc0 hc1 hc2 x0 x1 x2 x3 x4)]
  unfold kernelRun0_D
  dsimp only
  sl_unfold_words
  rw [View.canon_cons_unit_zero (S := S512x2048) off2]
  simp only [View.readAt_eq_ld, h2.read_unread, h3.read_unread, h4.read_unread, h5.read_unread, h6.read_unread, h9.read_unread, h10.read_unread,
    View.ld_unit_zero (S := S512x2048) off2, View.ld_unit_zero (S := S1x2048) off2, View.ld_unit_zero (S := S1x512x1536) off3,
    View.ld_unit_zero (S := S1x2048x1536) off3, View.readCov_unit_zero (S := S512x2048) _ off2, View.readCov_unit_zero (S := S1x2048) _ off2]

/-- A point in the middle of a row tile adds its block's products to what the point before left. -/
theorem acc_B (hc0 : ¬cond0_0 i) (hc1 : ¬cond0_1 i) (hc2 : ¬cond0_2 i) (acc : Vec F S512x2048 .f32) :
    sout0_B_0 c i a2 h2 a3 h3 a4 h4 a5 h5 a6 h6 a7 h7 a8 h8 a9 h9 a10 h10 hc0 hc1 hc2 x0 x1 x2 x3 x4 acc = k0_pay3 acc x0 x1 := by
  unfold sout0_B_0
  rw [View.read_writes_eq_canon _ _ _ (scover0_B_0 c i a2 h2 a3 h3 a4 h4 a5 h5 a6 h6 a7 h7 a8 h8 a9 h9 a10 h10 hc0 hc1 hc2 x0 x1 x2 x3 x4 acc)]
  unfold kernelRun0_B
  dsimp only
  sl_unfold_words
  rw [View.canon_unit_zero off2]
  simp only [View.readAt_eq_ld, h2.read_unread, h3.read_unread, h4.read_unread, h5.read_unread, h6.read_unread, h9.read_unread, h10.read_unread,
    View.ld_unit_zero (S := S512x2048) off2, View.ld_unit_zero (S := S1x2048) off2, View.ld_unit_zero (S := S1x512x1536) off3,
    View.ld_unit_zero (S := S1x2048x1536) off3, View.readCov_unit_zero (S := S512x2048) _ off2, View.readCov_unit_zero (S := S1x2048) _ off2]

/-- So does the last point of a row tile. -/
theorem acc_C (hc0 : ¬cond0_0 i) (hc1 : ¬cond0_1 i) (hc2 : cond0_2 i) (dg : Vec F S1x2048 .f32) (acc : Vec F S512x2048 .f32) :
    sout0_C_0 c i a2 h2 a3 h3 a4 h4 a5 h5 a6 h6 a7 h7 a8 h8 a9 h9 a10 h10 hc0 hc1 hc2 x0 x1 x2 x3 x4 dg acc = k0_pay3 acc x0 x1 := by
  unfold sout0_C_0
  rw [View.read_writes_eq_canon _ _ _ (scover0_C_0 c i a2 h2 a3 h3 a4 h4 a5 h5 a6 h6 a7 h7 a8 h8 a9 h9 a10 h10 hc0 hc1 hc2 x0 x1 x2 x3 x4 dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread,
    View.ld_unit_zero (S := S512x2048) off2, View.ld_unit_zero (S := S1x2048) off2, View.ld_unit_zero (S := S1x512x1536) off3,
    View.ld_unit_zero (S := S1x2048x1536) off3, View.readCov_unit_zero (S := S512x2048) _ off2, View.readCov_unit_zero (S := S1x2048) _ off2]

/-- At a row tile's last point the gradient's block is the normalisation's gradient of the finished accumulator, added to
    the gradient that arrived. -/
theorem dx_C (hc0 : ¬cond0_0 i) (hc1 : ¬cond0_1 i) (hc2 : cond0_2 i) (dg : Vec F S1x2048 .f32) (acc : Vec F S512x2048 .f32) :
    out0_C_5 c i a2 h2 a3 h3 a4 h4 a5 h5 a6 h6 a7 h7 a8 h8 a9 h9 a10 h10 hc0 hc1 hc2 x0 x1 x2 x3 x4 dg acc = k0_pay7 (k0_pay3 acc x0 x1) x3 x4 x2 := by
  unfold out0_C_5
  rw [View.read_writes_eq_canon _ _ _ (cover0_C_5 c i a2 h2 a3 h3 a4 h4 a5 h5 a6 h6 a7 h7 a8 h8 a9 h9 a10 h10 hc0 hc1 hc2 x0 x1 x2 x3 x4 dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread,
    View.ld_unit_zero (S := S512x2048) off2, View.ld_unit_zero (S := S1x2048) off2, View.ld_unit_zero (S := S1x512x1536) off3,
    View.ld_unit_zero (S := S1x2048x1536) off3, View.readCov_unit_zero (S := S512x2048) _ off2, View.readCov_unit_zero (S := S1x2048) _ off2]

/-- The second result is that block, narrowed. -/
theorem dxb_C (hc0 : ¬cond0_0 i) (hc1 : ¬cond0_1 i) (hc2 : cond0_2 i) (dg : Vec F S1x2048 .f32) (acc : Vec F S512x2048 .f32) :
    out0_C_6 c i a2 h2 a3 h3 a4 h4 a5 h5 a6 h6 a7 h7 a8 h8 a9 h9 a10 h10 hc0 hc1 hc2 x0 x1 x2 x3 x4 dg acc = k0_pay8 (k0_pay3 acc x0 x1) x3 x4 x2 := by
  unfold out0_C_6
  rw [View.read_writes_eq_canon _ _ _ (cover0_C_6 c i a2 h2 a3 h3 a4 h4 a5 h5 a6 h6 a7 h7 a8 h8 a9 h9 a10 h10 hc0 hc1 hc2 x0 x1 x2 x3 x4 dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread,
    View.ld_unit_zero (S := S512x2048) off2, View.ld_unit_zero (S := S1x2048) off2, View.ld_unit_zero (S := S1x512x1536) off3,
    View.ld_unit_zero (S := S1x2048x1536) off3, View.readCov_unit_zero (S := S512x2048) _ off2, View.readCov_unit_zero (S := S1x2048) _ off2]

/-- The running scale gradient gains the row tile's column sums. -/
theorem dg_C (hc0 : ¬cond0_0 i) (hc1 : ¬cond0_1 i) (hc2 : cond0_2 i) (dg : Vec F S1x2048 .f32) (acc : Vec F S512x2048 .f32) :
    out0_C_7 c i a2 h2 a3 h3 a4 h4 a5 h5 a6 h6 a7 h7 a8 h8 a9 h9 a10 h10 hc0 hc1 hc2 x0 x1 x2 x3 x4 dg acc = k0_pay6 (k0_pay3 acc x0 x1) x3 dg := by
  unfold out0_C_7
  rw [View.read_writes_eq_canon _ _ _ (cover0_C_7 c i a2 h2 a3 h3 a4 h4 a5 h5 a6 h6 a7 h7 a8 h8 a9 h9 a10 h10 hc0 hc1 hc2 x0 x1 x2 x3 x4 dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread,
    View.ld_unit_zero (S := S512x2048) off2, View.ld_unit_zero (S := S1x2048) off2, View.ld_unit_zero (S := S1x512x1536) off3,
    View.ld_unit_zero (S := S1x2048x1536) off3, View.readCov_unit_zero (S := S512x2048) _ off2, View.readCov_unit_zero (S := S1x2048) _ off2]

/-- The first point of the grid clears the running scale gradient. -/
theorem dg_A (hc0 : cond0_0 i) (hc1 : cond0_1 i) (hc2 : ¬cond0_2 i) :
    out0_A_7 c i a2 h2 a3 h3 a4 h4 a5 h5 a6 h6 a7 h7 a8 h8 a9 h9 a10 h10 hc0 hc1 hc2 x0 x1 x2 x3 x4 = k0_pay1 := by
  unfold out0_A_7
  rw [View.read_writes_eq_canon _ _ _ (cover0_A_7 c i a2 h2 a3 h3 a4 h4 a5 h5 a6 h6 a7 h7 a8 h8 a9 h9 a10 h10 hc0 hc1 hc2 x0 x1 x2 x3 x4)]
  unfold kernelRun0_A
  dsimp only
  sl_unfold_words
  rw [View.canon_unit_zero off2]

end Points

end Cert.UpDxIdeal.Cases

end
-- ==== Proof.UpDxBlocks.lean ====
/- What the input blocks of the first-layer FFN's input gradient hold: at grid point `t`, row tile `t / 8` and column
   block `t % 8`, each entry is an entry of the arrays the program is given. -/
module

public import proofs.«01_k».proof.Proof.UpDxCases
public import Idealize.ShloMosaic.Lib.Pointwise

@[expose] public section

set_option maxRecDepth 16384

noncomputable section

open Idealize.ShloMosaic Idealize.ShloMosaic.TcCoe Idealize.SL.Sem

namespace Cert.UpDxIdeal.Blocks

open Cert.UpDxIdeal Cert.UpDxIdeal.Gen

variable (m : (ℓ : Loc nD τ sig) → Buf (Elt Ideal) ℓ) (c : Dev nD)

/-- The argument arrays, at their shapes: the normalised rows' input, the scale, the weight, the incoming gradients of the
    product and of the residual. -/
abbrev xs : FVec Ideal S8192x2048 .f32 := m ((c : Thread nD τ).loc main_arg0)
abbrev gs : FVec Ideal S1x2048 .f32 := m ((c : Thread nD τ).loc main_arg1)
abbrev ws : FVec Ideal S1x2048x12288 .f32 := m ((c : Thread nD τ).loc main_arg2)
abbrev us : FVec Ideal S8192x12288 .f32 := m ((c : Thread nD τ).loc main_arg3)
abbrev rs : FVec Ideal S8192x2048 .f32 := m ((c : Thread nD τ).loc main_arg4)

/-- The block indices of the two cut operands, over the whole grid. -/
theorem index0 : ∀ t : Fin cfg0.N, win0_0.index t 0 = t.val % 8 / 4 ∧ win0_0.index t 1 = t.val / 8 ∧ win0_0.index t 2 = t.val % 4 := by
  decide +kernel
theorem index1 : ∀ t : Fin cfg0.N, win0_1.index t 0 = t.val % 8 ∧ win0_1.index t 1 = 0 ∧ win0_1.index t 2 = 0 := by
  decide +kernel
theorem index2 : ∀ t : Fin cfg0.N, win0_2.index t 0 = t.val / 8 ∧ win0_2.index t 1 = 0 := by decide +kernel
theorem index3 : ∀ t : Fin cfg0.N, win0_3.index t 0 = t.val / 8 ∧ win0_3.index t 1 = 0 := by decide +kernel
theorem index4 : ∀ t : Fin cfg0.N, win0_4.index t 0 = 0 ∧ win0_4.index t 1 = 0 := by decide +kernel

/-- The incoming gradient as the region finds it: its columns cut in two halves. -/
theorem cut_us (h : Fin 2) (r : Fin 8192) (j : Fin 6144) :
    V m c main_v2 (ix3 h r j) = us m c (ix2 r ⟨6144 * h.val + j.val, by omega⟩) := by
  have e : V m c main_v2 = truncf .bf16 (transpose S2x8192x6144 [1, 0, 2]
      (shapeCast S8192x2x6144 (us m c) shapeCasts_S8192x12288_S8192x2x6144) transposes_S8192x2x6144_S2x8192x6144_1_0_2) bitsLt_bf16_f32 := by
    show StableHlo.after hostOps0 _ (Proc.devRef .tc main_v2) = _
    after_results
    rfl
  rw [e]
  pointwise []
  exact congrArg (fun n => us m c (ix2 r n)) (Fin.ext (by show h.val * 6144 + j.val = 6144 * h.val + j.val; omega))

/-- The weight as the region finds it: its columns cut in eight blocks. -/
theorem cut_ws (s : Fin 8) (k : Fin 2048) (j : Fin 1536) :
    V m c main_v6 (ix3 s k j) = ws m c (ix3 0 k ⟨1536 * s.val + j.val, by omega⟩) := by
  have e : V m c main_v6 = truncf .bf16 (transpose S8x2048x1536 [1, 0, 2]
      (shapeCast S2048x8x1536 (shapeCast S2048x12288 (ws m c) shapeCasts_S1x2048x12288_S2048x12288) shapeCasts_S2048x12288_S2048x8x1536)
      transposes_S2048x8x1536_S8x2048x1536_1_0_2) bitsLt_bf16_f32 := by
    show StableHlo.after hostOps0 _ (Proc.devRef .tc main_v6) = _
    after_results
    rfl
  rw [e]
  pointwise []
  exact congrArg (fun n => ws m c (ix3 0 k n)) (Fin.ext (by show s.val * 1536 + j.val = 1536 * s.val + j.val; omega))

variable (t : Fin cfg0.N)

theorem tile_lt : t.val / 8 < 16 := by
  have h : t.val < 128 := N_0 ▸ t.isLt
  omega

/-- Row `r` of point `t`'s row tile. -/
abbrev row (r : Fin 512) : Fin 8192 := ⟨512 * (t.val / 8) + r.val, by have := tile_lt t; omega⟩

/-- Column `j` of point `t`'s column block. -/
abbrev col (j : Fin 1536) : Fin 12288 := ⟨1536 * (t.val % 8) + j.val, by omega⟩

theorem block0 (r : Fin 512) (j : Fin 1536) : iblk m c 0 t (ix3 0 r j) = us m c (ix2 (row t r) (col t j)) := by
  obtain ⟨e0, e1, e2⟩ := index0 t
  have e : iblk m c 0 t (ix3 0 r j) = V m c main_v2 (ix3 ⟨t.val % 8 / 4, by omega⟩ (row t r) ⟨1536 * (t.val % 4) + j.val, by omega⟩) := by
    unfold iblk
    rw [View.read_apply]
    show V m c main_v2 _ = _
    refine congrArg (V m c main_v2) (funext fun a => Fin.ext ?_)
    match a with
    | ⟨0, _⟩ => show win0_0.index t 0 * 1 + 1 * 0 = t.val % 8 / 4; rw [e0]; omega
    | ⟨1, _⟩ => show win0_0.index t 1 * 512 + 1 * r.val = 512 * (t.val / 8) + r.val; rw [e1]; omega
    | ⟨2, _⟩ => show win0_0.index t 2 * 1536 + 1 * j.val = 1536 * (t.val % 4) + j.val; rw [e2]; omega
  rw [e, cut_us]
  refine congrArg (fun n => us m c (ix2 (row t r) n)) (Fin.ext ?_)
  show 6144 * (t.val % 8 / 4) + (1536 * (t.val % 4) + j.val) = 1536 * (t.val % 8) + j.val
  omega

theorem block1 (k : Fin 2048) (j : Fin 1536) : iblk m c 1 t (ix3 0 k j) = ws m c (ix3 0 k (col t j)) := by
  obtain ⟨e0, e1, e2⟩ := index1 t
  refine Eq.trans ?_ (cut_ws m c ⟨t.val % 8, by omega⟩ k j)
  unfold iblk
  rw [View.read_apply]
  show V m c main_v6 _ = _
  refine congrArg (V m c main_v6) (funext fun a => Fin.ext ?_)
  match a with
  | ⟨0, _⟩ => show win0_1.index t 0 * 1 + 1 * 0 = t.val % 8; rw [e0]; omega
  | ⟨1, _⟩ => show win0_1.index t 1 * 2048 + 1 * k.val = k.val; rw [e1]; omega
  | ⟨2, _⟩ => show win0_1.index t 2 * 1536 + 1 * j.val = j.val; rw [e2]; omega

theorem block2 (r : Fin 512) (k : Fin 2048) : iblk m c 2 t (ix2 r k) = rs m c (ix2 (row t r) k) := by
  obtain ⟨e0, e1⟩ := index2 t
  unfold iblk
  rw [View.read_apply]
  show V m c main_arg4 _ = _
  rw [V_main_arg4]
  refine congrArg (rs m c) (funext fun a => Fin.ext ?_)
  match a with
  | ⟨0, _⟩ => show win0_2.index t 0 * 512 + 1 * r.val = 512 * (t.val / 8) + r.val; rw [e0]; omega
  | ⟨1, _⟩ => show win0_2.index t 1 * 2048 + 1 * k.val = k.val; rw [e1]; omega

theorem block3 (r : Fin 512) (k : Fin 2048) : iblk m c 3 t (ix2 r k) = xs m c (ix2 (row t r) k) := by
  obtain ⟨e0, e1⟩ := index3 t
  unfold iblk
  rw [View.read_apply]
  show V m c main_arg0 _ = _
  rw [V_main_arg0]
  refine congrArg (xs m c) (funext fun a => Fin.ext ?_)
  match a with
  | ⟨0, _⟩ => show win0_3.index t 0 * 512 + 1 * r.val = 512 * (t.val / 8) + r.val; rw [e0]; omega
  | ⟨1, _⟩ => show win0_3.index t 1 * 2048 + 1 * k.val = k.val; rw [e1]; omega

theorem block4 (k : Fin 2048) : iblk m c 4 t (ix2 0 k) = gs m c (ix2 0 k) := by
  obtain ⟨e0, e1⟩ := index4 t
  unfold iblk
  rw [View.read_apply]
  show V m c main_arg1 _ = _
  rw [V_main_arg1]
  refine congrArg (gs m c) (funext fun a => Fin.ext ?_)
  match a with
  | ⟨0, _⟩ => show win0_4.index t 0 * 1 + 1 * 0 = 0; rw [e0]
  | ⟨1, _⟩ => show win0_4.index t 1 * 2048 + 1 * k.val = k.val; rw [e1]; omega

end Cert.UpDxIdeal.Blocks

end
-- ==== Proof.UpDxFold.lean ====
/- The three carried values of the first-layer FFN's input gradient in closed form: the accumulator holds the products of
   the column blocks met so far in its row tile, the scale gradient the row tiles finished so far, and a row tile's last
   point leaves the gradient of the whole product. -/
module

public import proofs.«01_k».proof.Proof.Sums
public import proofs.«01_k».proof.Proof.RowNorm
public import proofs.«01_k».proof.Proof.UpDxBlocks

@[expose] public section

set_option maxRecDepth 16384

noncomputable section

open Idealize.ShloMosaic Idealize.ShloMosaic.TcCoe Idealize.SL.Sem

namespace Cert.UpDxIdeal.Fold

open Cert.UpDxIdeal Cert.UpDxIdeal.Gen Cert.UpDxIdeal.Cases Cert.UpDxIdeal.Blocks Cert.Sums
open Cert.RowNorm (width eps)

variable (m : (ℓ : Loc nD τ sig) → Buf (Elt Ideal) ℓ) (c : Dev nD)

/-! ## One point -/

theorem acc_first (t : Fin cfg0.N) (h : t.val % 8 = 0) :
    (outsAt0 m c t.val t.isLt).2.2.2 = k0_pay3 (k0_pay2 (F := Ideal)) (iblk m c 0 t) (iblk m c 1 t) := by
  by_cases h0 : t.val % 128 = 0
  · rw [outsAt0_A m c t h0 h (by omega)]; dsimp only; rw [acc_A]
  · rw [outsAt0_D m c t h0 h (by omega)]; dsimp only; rw [acc_D]

theorem acc_next (n : ℕ) (hn : n + 1 < cfg0.N) (h : ¬(n + 1) % 8 = 0) :
    (outsAt0 m c (n + 1) hn).2.2.2
      = k0_pay3 (F := Ideal) (outsAt0 m c n (Nat.lt_of_succ_lt hn)).2.2.2 (iblk m c 0 ⟨n + 1, hn⟩) (iblk m c 1 ⟨n + 1, hn⟩) := by
  by_cases h2 : (n + 1) % 8 = 7
  · rw [outsAt0_C m c ⟨n + 1, hn⟩ (by dsimp only; omega) h h2]; dsimp only; rw [acc_C]; rfl
  · rw [outsAt0_B m c ⟨n + 1, hn⟩ (by dsimp only; omega) h h2]; dsimp only; rw [acc_B]; rfl

theorem dg_first (hn : 0 < cfg0.N) : (outsAt0 m c 0 hn).2.2.1 = k0_pay1 (F := Ideal) := by
  rw [outsAt0_A m c ⟨0, hn⟩ rfl rfl (by dsimp only; omega)]; dsimp only; rw [dg_A]

theorem dg_keep (n : ℕ) (hn : n + 1 < cfg0.N) (h : ¬(n + 1) % 8 = 7) :
    (outsAt0 m c (n + 1) hn).2.2.1 = (outsAt0 m c n (Nat.lt_of_succ_lt hn)).2.2.1 := by
  have hN : n + 1 < 128 := N_0 ▸ hn
  by_cases h1 : (n + 1) % 8 = 0
  · rw [outsAt0_D m c ⟨n + 1, hn⟩ (by dsimp only; omega) h1 h]; rfl
  · rw [outsAt0_B m c ⟨n + 1, hn⟩ (by dsimp only; omega) h1 h]; rfl

/-- A row tile's last point, from the finished accumulator. -/
theorem last (n : ℕ) (hn : n + 1 < cfg0.N) (h : (n + 1) % 8 = 7) :
    (outsAt0 m c (n + 1) hn).1 = k0_pay7 (F := Ideal) (outsAt0 m c (n + 1) hn).2.2.2 (iblk m c 3 ⟨n + 1, hn⟩) (iblk m c 4 ⟨n + 1, hn⟩) (iblk m c 2 ⟨n + 1, hn⟩)
      ∧ (outsAt0 m c (n + 1) hn).2.1 = k0_pay8 (F := Ideal) (outsAt0 m c (n + 1) hn).2.2.2 (iblk m c 3 ⟨n + 1, hn⟩) (iblk m c 4 ⟨n + 1, hn⟩) (iblk m c 2 ⟨n + 1, hn⟩)
      ∧ (outsAt0 m c (n + 1) hn).2.2.1 = k0_pay6 (F := Ideal) (outsAt0 m c (n + 1) hn).2.2.2 (iblk m c 3 ⟨n + 1, hn⟩) (outsAt0 m c n (Nat.lt_of_succ_lt hn)).2.2.1 := by
  rw [acc_next m c n hn (by omega), outsAt0_C m c ⟨n + 1, hn⟩ (by dsimp only; omega) (by dsimp only; omega) h]
  dsimp only
  exact ⟨by rw [dx_C]; rfl, by rw [dxb_C]; rfl, by rw [dg_C]; rfl⟩

/-! ## The fold -/

theorem pay2_apply (i : S512x2048.Idx) : k0_pay2 (F := Ideal) i = 0 := by
  pointwise [k0_pay2]

theorem pay3_apply (a : Vec Ideal S512x2048 .f32) (d : Vec Ideal S1x512x1536 .bf16) (w : Vec Ideal S1x2048x1536 .bf16)
    (r : Fin 512) (k : Fin 2048) : k0_pay3 a d w (ix2 r k) = a (ix2 r k) + ∑ j, d (ix3 0 r j) * w (ix3 0 k j) := by
  pointwise [k0_pay3]

/-- The product of the incoming gradient's row `r` with the weight's row `k`, by columns. -/
abbrev terms (r : Fin 8192) (k : Fin 2048) (j : Fin 12288) : EReal := us m c (ix2 r j) * ws m c (ix3 0 k j)

/-- The row of the incoming gradient times the weight's transpose. -/
abbrev prod (r : Fin 8192) (k : Fin 2048) : EReal := ∑ j, terms m c r k j

/-- A point's blocks of the incoming gradient and of the weight. -/
abbrev cts (t : Fin cfg0.N) : Vec Ideal S1x512x1536 .bf16 := iblk m c 0 t
abbrev wts (t : Fin cfg0.N) : Vec Ideal S1x2048x1536 .bf16 := iblk m c 1 t

theorem block_sum (t : Fin cfg0.N) (r : Fin 512) (k : Fin 2048) :
    ∑ j : Fin 1536, cts m c t (ix3 0 r j) * wts m c t (ix3 0 k j) = ∑ j, terms m c (row t r) k (col t j) :=
  Finset.sum_congr rfl fun j _ => congrArg₂ (· * ·) (block0 m c t r j) (block1 m c t k j)

theorem acc_apply : ∀ (n : ℕ) (hn : n < cfg0.N) (r : Fin 512) (k : Fin 2048),
    (outsAt0 m c n hn).2.2.2 (ix2 r k) = upto (terms m c (row ⟨n, hn⟩ r) k) (1536 * (n % 8) + 1536) := by
  have start (t : Fin cfg0.N) (h : t.val % 8 = 0) (r : Fin 512) (k : Fin 2048) :
      (outsAt0 m c t.val t.isLt).2.2.2 (ix2 r k) = upto (terms m c (row t r) k) (1536 * (t.val % 8) + 1536) := by
    rw [acc_first m c t h, pay3_apply, pay2_apply, block_sum, upto_add _ _ _ (by omega)]
    refine congrArg (· + _) ?_
    rw [show 1536 * (t.val % 8) = 0 by omega]
    exact (upto_zero _).symm
  intro n
  induction n with
  | zero => exact fun hn r k => start ⟨0, hn⟩ rfl r k
  | succ n ih =>
    intro hn r k
    by_cases h : (n + 1) % 8 = 0
    · exact start ⟨n + 1, hn⟩ h r k
    · rw [acc_next m c n hn h, pay3_apply, ih, upto_add _ (1536 * ((n + 1) % 8)) _ (by omega), block_sum]
      have e : row ⟨n, Nat.lt_of_succ_lt hn⟩ r = row ⟨n + 1, hn⟩ r := Fin.ext (by show 512 * (n / 8) + r.val = 512 * ((n + 1) / 8) + r.val; omega)
      rw [e, show 1536 * (n % 8) + 1536 = 1536 * ((n + 1) % 8) by omega]

theorem acc_last (n : ℕ) (hn : n < cfg0.N) (h : n % 8 = 7) (r : Fin 512) (k : Fin 2048) :
    (outsAt0 m c n hn).2.2.2 (ix2 r k) = prod m c (row ⟨n, hn⟩ r) k := by
  rw [acc_apply, h]; exact upto_all _

/-- The reciprocal root mean square of a row. -/
abbrev rms (r : Fin 8192) : EReal := RowNorm.rrms width eps fun j : Fin 2048 => xs m c (ix2 r j)

theorem pay1_apply (i : S1x2048.Idx) : k0_pay1 (F := Ideal) i = 0 := by
  pointwise [k0_pay1]

theorem pay6_apply (a x : Vec Ideal S512x2048 .f32) (g : Vec Ideal S1x2048 .f32) (k : Fin 2048) :
    k0_pay6 a x g (ix2 0 k) = g (ix2 0 k) + ∑ r : Fin 512, a (ix2 r k) * (x (ix2 r k) * RowNorm.rrms width eps fun j => x (ix2 r j)) := by
  pointwise [k0_pay6, k0_pay5, k0_pay4]
  rfl

/-- The scale gradient's term of row `r`. -/
abbrev scaled (k : Fin 2048) (r : Fin 8192) : EReal := prod m c r k * (xs m c (ix2 r k) * rms m c r)

theorem dg_apply : ∀ (n : ℕ) (hn : n < cfg0.N) (k : Fin 2048),
    (outsAt0 m c n hn).2.2.1 (ix2 0 k) = upto (scaled m c k) (512 * ((n + 1) / 8)) := by
  intro n
  induction n with
  | zero => intro hn k; rw [dg_first, pay1_apply]; exact (upto_zero _).symm
  | succ n ih =>
    intro hn k
    have hN : n + 1 < 128 := N_0 ▸ hn
    by_cases h : (n + 1) % 8 = 7
    · rw [(last m c n hn h).2.2, pay6_apply, ih, show 512 * ((n + 1 + 1) / 8) = 512 * ((n + 1) / 8) + 512 by omega, upto_add _ _ _ (by omega)]
      refine congrArg _ (Finset.sum_congr rfl fun r _ => ?_)
      rw [acc_last m c _ hn h, block3]
      simp only [block3]
    · rw [dg_keep m c n hn h, ih, show (n + 1 + 1) / 8 = (n + 1) / 8 by omega]

/-- The gradient of a normalised row as the kernel forms it, over the row's products `a`, the scale `g`, the row's entries
    `x` and the incoming residual gradient `y`. -/
theorem pay7_apply (a x y : Vec Ideal S512x2048 .f32) (g : Vec Ideal S1x2048 .f32) (r : Fin 512) (k : Fin 2048) :
    k0_pay7 a x g y (ix2 r k)
      = y (ix2 r k) + RowNorm.grad width eps (fun j => x (ix2 r j)) (fun j => g (ix2 0 j)) (fun j => a (ix2 r j)) k := by
  pointwise [k0_pay7, k0_pay5, k0_pay4]
  rfl

/-- The gradient of row `r`. -/
abbrev gradient (r : Fin 8192) (k : Fin 2048) : EReal :=
  rs m c (ix2 r k) + RowNorm.grad width eps (fun j => xs m c (ix2 r j)) (fun j => gs m c (ix2 0 j)) (prod m c r) k

theorem pay7_last (n : ℕ) (hn : n + 1 < cfg0.N) (h : (n + 1) % 8 = 7) (r : Fin 512) (k : Fin 2048) :
    k0_pay7 (F := Ideal) (outsAt0 m c (n + 1) hn).2.2.2 (iblk m c 3 ⟨n + 1, hn⟩) (iblk m c 4 ⟨n + 1, hn⟩) (iblk m c 2 ⟨n + 1, hn⟩) (ix2 r k)
      = gradient m c (row ⟨n + 1, hn⟩ r) k := by
  rw [pay7_apply, block2]
  simp only [block3, block4, acc_last m c _ hn h]

theorem dx_apply (n : ℕ) (hn : n + 1 < cfg0.N) (h : (n + 1) % 8 = 7) (r : Fin 512) (k : Fin 2048) :
    (outsAt0 m c (n + 1) hn).1 (ix2 r k) = gradient m c (row ⟨n + 1, hn⟩ r) k := by
  rw [(last m c n hn h).1, pay7_last m c n hn h]

theorem dxb_apply (n : ℕ) (hn : n + 1 < cfg0.N) (h : (n + 1) % 8 = 7) (r : Fin 512) (k : Fin 2048) :
    (outsAt0 m c (n + 1) hn).2.1 (ix2 r k) = gradient m c (row ⟨n + 1, hn⟩ r) k := by
  rw [(last m c n hn h).2.1]
  exact pay7_last m c n hn h r k

/-! ## The arrays -/

open Cert.UpDxIdeal.Value in
theorem array5 (r : Fin 8192) (k : Fin 2048) : G5 m c (ix2 r k) = gradient m c r k := by
  have hp : pt5Of (ix2 r k) = 8 * (r.val / 512) + 6 + 1 := by
    show 8 * (1 * (r.val / 512 - 0) + 1 * (k.val / 2048 - 0)) + 7 = _
    omega
  have hn : 8 * (r.val / 512) + 6 + 1 < cfg0.N := lt_of_lt_of_eq (by omega) N_0.symm
  have hl : loc5Of (ix2 r k) = ix2 ⟨r.val % 512, by omega⟩ k := funext fun a => Fin.ext <| match a with
    | ⟨0, _⟩ => rfl
    | ⟨1, _⟩ => Nat.mod_eq_of_lt k.isLt
  unfold G5
  rw [dif_pos (by rw [hp]; exact hn), fold0_congr m c _ _ _ (by omega) hp, ← outsAt0_sweep m c _ hn, hl, dx_apply m c _ hn (by omega)]
  exact congrArg (fun r => gradient m c r k) (Fin.ext (by show 512 * ((8 * (r.val / 512) + 6 + 1) / 8) + r.val % 512 = r.val; omega))

open Cert.UpDxIdeal.Value in
theorem array6 (r : Fin 8192) (k : Fin 2048) : G6 m c (ix2 r k) = gradient m c r k := by
  have hp : pt6Of (ix2 r k) = 8 * (r.val / 512) + 6 + 1 := by
    show 8 * (1 * (r.val / 512 - 0) + 1 * (k.val / 2048 - 0)) + 7 = _
    omega
  have hn : 8 * (r.val / 512) + 6 + 1 < cfg0.N := lt_of_lt_of_eq (by omega) N_0.symm
  have hl : loc6Of (ix2 r k) = ix2 ⟨r.val % 512, by omega⟩ k := funext fun a => Fin.ext <| match a with
    | ⟨0, _⟩ => rfl
    | ⟨1, _⟩ => Nat.mod_eq_of_lt k.isLt
  unfold G6
  rw [dif_pos (by rw [hp]; exact hn), fold0_congr m c _ _ _ (by omega) hp, ← outsAt0_sweep m c _ hn, hl, dxb_apply m c _ hn (by omega)]
  exact congrArg (fun r => gradient m c r k) (Fin.ext (by show 512 * ((8 * (r.val / 512) + 6 + 1) / 8) + r.val % 512 = r.val; omega))

/-- The scale gradient, summed over the rows. -/
abbrev scaleGradient (k : Fin 2048) : EReal := ∑ r, scaled m c k r

open Cert.UpDxIdeal.Value in
theorem array7 (k : Fin 2048) : G7 m c (ix2 0 k) = scaleGradient m c k := by
  have hn : 127 < cfg0.N := lt_of_lt_of_eq (by decide) N_0.symm
  rw [G7_last, ← outsAt0_sweep m c _ hn]
  exact (dg_apply m c 127 hn k).trans (upto_all (scaled m c k))

end Cert.UpDxIdeal.Fold

end
-- ==== Proof.UpDxEq.lean ====
/- The first-layer FFN's input gradient: the entries of the reference's results, and their agreement with the kernel's. -/
module

public import proofs.«01_k».proof.Proof.UpDxFold
public import proofs.«01_k».proof.Proof.Gen.UpDxRefIdeal.Run
public import proofs.«01_k».proof.Proof.Gen.UpDxRefIdeal.Read

@[expose] public section

set_option maxRecDepth 16384

noncomputable section

open Idealize.ShloMosaic Idealize.ShloMosaic.TcCoe Idealize.SL.Sem

namespace Cert.UpDxRefIdeal.Entries

open Cert.UpDxRefIdeal Cert.UpDxRefIdeal.Gen Cert.UpDxRefIdeal.Read Cert.Reals
open Cert.RowNorm (width eps)

variable (x y : FVec Ideal S8192x2048 .f32) (g : FVec Ideal S1x2048 .f32) (w : FVec Ideal S1x2048x12288 .f32) (u : FVec Ideal S8192x12288 .f32)

/-- The product of the incoming gradient with the weight's transpose. -/
abbrev prod (r : Fin 8192) (k : Fin 2048) : EReal := ∑ j : Fin 12288, u (ix2 r j) * w (ix3 0 k j)

/-- The gradient reaching a row's mean square. -/
abbrev back (r : Fin 8192) : EReal :=
  RowNorm.back width eps (Ideal.ofBits FTy.f32 3204448256#32) (fun j => x (ix2 r j)) (fun j => g (ix2 0 j)) (prod w u r)

theorem dx_apply (r : Fin 8192) (k : Fin 2048) : val_main_v40 (F := Ideal) x g w u y (ix2 r k)
    = y (ix2 r k) + prod w u r k * g (ix2 0 k) * RowNorm.rrms width eps (fun j => x (ix2 r j)) + x (ix2 r k) * back x g w u r
      + back x g w u r * x (ix2 r k) := by
  pointwise [val_main_v0, val_main_v1, val_main_cst, val_main_v2, val_main_v3, val_main_cst_0, val_main_v4, val_main_v5, val_main_cst_1, val_main_v6, val_main_v7,
    val_main_v8, val_main_v9, val_main_cst_2, val_main_v10, val_main_v11, val_main_v12, val_main_v13, val_main_v14, val_main_v15, val_main_v16,
    val_main_v17, val_main_v18, val_main_v19, val_main_v20, val_main_cst_3, val_main_v21, val_main_v22, val_main_v23, val_main_v24, val_main_cst_4,
    val_main_v25, val_main_v26, val_main_cst_5, val_main_v27, val_main_v28, val_main_v29, val_main_v30, val_main_v31, val_main_v32, val_main_cst_6,
    val_main_v33, val_main_v34, val_main_cst_7, val_main_v35, val_main_v36, val_main_v37, val_main_v38, val_main_v39, val_main_v40, val_main_v41,
    val_main_v42]
  simp only [Fin.sum_univ_one]
  rfl

theorem dg_apply (k : Fin 2048) : val_main_v41 (F := Ideal) x w u (ix2 0 k)
    = ∑ r : Fin 8192, prod w u r k * (x (ix2 r k) * RowNorm.rrms width eps fun j => x (ix2 r j)) := by
  pointwise [val_main_v0, val_main_v1, val_main_cst, val_main_v2, val_main_v3, val_main_cst_0, val_main_v4, val_main_v5, val_main_cst_1, val_main_v6, val_main_v7,
    val_main_v8, val_main_v9, val_main_cst_2, val_main_v10, val_main_v11, val_main_v12, val_main_v13, val_main_v14, val_main_v15, val_main_v16,
    val_main_v17, val_main_v18, val_main_v19, val_main_v20, val_main_cst_3, val_main_v21, val_main_v22, val_main_v23, val_main_v24, val_main_cst_4,
    val_main_v25, val_main_v26, val_main_cst_5, val_main_v27, val_main_v28, val_main_v29, val_main_v30, val_main_v31, val_main_v32, val_main_cst_6,
    val_main_v33, val_main_v34, val_main_cst_7, val_main_v35, val_main_v36, val_main_v37, val_main_v38, val_main_v39, val_main_v40, val_main_v41,
    val_main_v42]
  simp only [Fin.sum_univ_one]
  exact Finset.sum_congr rfl fun r _ => mul_comm _ _

/-- The reference's gradient in the kernel's form, on finite rows. -/
theorem dx_eq (hx : ∀ i, IsReal (x i)) (hg : ∀ i, IsReal (g i)) (hw : ∀ i, IsReal (w i)) (hu : ∀ i, IsReal (u i)) (r : Fin 8192) (k : Fin 2048) :
    val_main_v40 (F := Ideal) x g w u y (ix2 r k)
      = y (ix2 r k) + RowNorm.grad width eps (fun j => x (ix2 r j)) (fun j => g (ix2 0 j)) (prod w u r) k := by
  rw [dx_apply]
  have key := RowNorm.grad_eq (x := fun j => x (ix2 r j)) (g := fun j => g (ix2 0 j)) (a := prod w u r) lit_2048_pos lit_eps lit_neg_half
    (fun j => hx (ix2 r j)) (fun j => hg (ix2 0 j)) (fun j => IsReal.sum fun _ => (hu _).mul (hw _)) (y (ix2 r k)) k
  exact key.symm

end Cert.UpDxRefIdeal.Entries

end
-- ==== Proof.UpDxClaim.lean ====
/- The value claim of the first-layer FFN's input gradient: both programs run, and end with the same three arrays. -/
module

public import proofs.«01_k».proof.Defs
public import proofs.«01_k».proof.Proof.UpDxEq
public import proofs.«01_k».proof.Proof.Gen.Pre_up_dx_finite

@[expose] public section

set_option maxRecDepth 16384

noncomputable section

open Idealize.ShloMosaic Idealize.ShloMosaic.TcCoe Idealize.SL.Sem

namespace Cert.UpDxClaim

open Cert.Reals Cert.UpDxIdeal.Blocks Cert.UpDxIdeal.Fold

variable {m : (ℓ : Loc Cert.UpDxIdeal.nD Cert.UpDxIdeal.τ Cert.UpDxIdeal.sig) → Buf (Elt Ideal) ℓ}

/-- The precondition read at the arrays. -/
theorem finite (h : Cert.Pre_UpDxIdeal_up_dx_finite (hPre_up_dx_finite := Cert.Pre_up_dx_finite.Gen.facts) m) (c : Dev Cert.UpDxIdeal.nD) :
    (∀ i, IsReal (xs m c i)) ∧ (∀ i, IsReal (gs m c i)) ∧ (∀ i, IsReal (ws m c i)) ∧ ∀ i, IsReal (us m c i) := by
  obtain ⟨h0, h1, h2, h3⟩ := h c
  exact ⟨isReal_of_mask _ _ h0, isReal_of_mask _ _ h1, isReal_of_mask _ _ h2, isReal_of_mask _ _ h3⟩

theorem value : Cert.algebraic_UpDxIdeal_UpDxRefIdeal_pre_up_dx_finite (hUpDxIdeal := Cert.UpDxIdeal.Gen.facts)
    (hUpDxRefIdeal := Cert.UpDxRefIdeal.Gen.facts) (hPre_up_dx_finite := Cert.Pre_up_dx_finite.Gen.facts) := by
  intro m g m' g' hp hm
  have dx (c : Dev Cert.UpDxIdeal.nD) (r : Fin 8192) (k : Fin 2048) :
      Cert.UpDxRefIdeal.Read.val_main_v40 (F := Ideal) (xs m c) (gs m c) (ws m c) (us m c) (rs m c) (ix2 r k) = gradient m c r k := by
    obtain ⟨hx, hg, hw, hu⟩ := finite hp c
    exact Cert.UpDxRefIdeal.Entries.dx_eq _ _ _ _ _ hx hg hw hu r k
  refine ⟨Cert.UpDxIdeal.Value.G5 m, Cert.UpDxIdeal.Value.G6 m, Cert.UpDxIdeal.Value.G7 m, Cert.UpDxIdeal.Value.run m g, ?_⟩
  refine (θ_run _ _ _).mono (fun r h c => ?_) (Cert.UpDxRefIdeal.Value.run (F := Ideal) m' g')
  obtain ⟨e0, e1, e2, ha⟩ := h c
  obtain ⟨a0, a1, a2, a3, a4⟩ := hm c
  refine ⟨e0.trans ?_, e1.trans ?_, e2.trans ?_, ha⟩
  · rw [Cert.UpDxRefIdeal.Read.val_main_v40_eq, a0, a1, a2, a3, a4]
    funext i
    rw [eq_ix2 i]
    exact (dx c _ _).trans (array5 m c _ _).symm
  · rw [Cert.UpDxRefIdeal.Read.val_main_v42_eq, a0, a1, a2, a3, a4]
    funext i
    rw [eq_ix2 i]
    exact (dx c _ _).trans (array6 m c _ _).symm
  · refine (Cert.UpDxRefIdeal.Read.val_main_v41_eq _ _ _).trans ?_
    rw [a0, a2, a3]
    funext i
    obtain ⟨k, rfl⟩ : ∃ k : Fin 2048, i = ix2 0 k := ⟨i 1, (eq_ix2 i).trans (congrArg (fun z : Fin 1 => ix2 z (i 1)) (Subsingleton.elim _ _))⟩
    exact (Cert.UpDxRefIdeal.Entries.dg_apply _ _ _ k).trans (array7 m c k).symm

theorem frame_ref : Cert.quiescent_UpDxRefIdeal (hUpDxRefIdeal := Cert.UpDxRefIdeal.Gen.facts) := fun m g _ =>
  (θ_run _ _ _).mono (fun r h => ⟨fun c => (h c).2.2.2, sem_eq_zero_of_no_sems (by decide) r.2⟩) (Cert.UpDxRefIdeal.Value.run m g)

end Cert.UpDxClaim

end
-- ==== Proof.InDxCases.lean ====
/- What the grid points of the input projection's gradient leave behind, in each of its two regions: the gradient's block
   and the running scale gradient, each the body's own payload of the blocks it reads. -/
module

public import proofs.«01_k».proof.Proof.Gen.InDxIdeal.Frame
public import Idealize.ShloMosaic.Lib.Pipeline.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.InDxIdeal.Cases

open Cert.InDxIdeal Cert.InDxIdeal.Gen

variable {F : FTy → Type} [FloatOps F]

/-- Two zero offsets are the zero offsets. -/
theorem off2 : (![0, 0] : Fin 2 → Nat) = fun _ => 0 := funext fun a => by fin_cases a <;> rfl

/-- The gradient's block, from the blocks of the incoming gradient, the weight, the residual gradient, the rows and the
    scale. -/
abbrev dx0 (x0 : Vec F S256x4096 .bf16) (x1 : Vec F S2048x4096 .bf16) (x2 x3 : Vec F S256x2048 .f32) (x4 : Vec F S1x2048 .f32) : FVec F S256x2048 .f32 :=
  k0_pay1 (k0_pay4 x3) (k0_pay5 x3) (k0_pay7 x0 x1 x4) x2 (k0_pay8 x0 x1 x3 x4) k0_pay9
abbrev dx1 (x0 : Vec F S256x4096 .bf16) (x1 : Vec F S2048x4096 .bf16) (x2 x3 : Vec F S256x2048 .f32) (x4 : Vec F S1x2048 .f32) : FVec F S256x2048 .f32 :=
  k1_pay1 (k1_pay4 x3) (k1_pay5 x3) (k1_pay7 x0 x1 x4) x2 (k1_pay8 x0 x1 x3 x4) k1_pay9

section Points

variable (c : Dev nD) (a1 : Memref sig .tc .vmem S256x4096 .bf16) (h1 : a1.IsWhole)
    (a2 : Memref sig .tc .vmem S2048x4096 .bf16) (h2 : a2.IsWhole) (a3 : Memref sig .tc .vmem S256x2048 .f32) (h3 : a3.IsWhole)
    (a4 : Memref sig .tc .vmem S256x2048 .f32) (h4 : a4.IsWhole) (a5 : Memref sig .tc .vmem S1x2048 .f32) (h5 : a5.IsWhole)
    (a6 : Memref sig .tc .vmem S256x2048 .f32) (h6 : a6.IsWhole) (a7 : Memref sig .tc .vmem S1x2048 .f32) (h7 : a7.IsWhole)
    (x0 : Vec F S256x4096 .bf16) (x1 : Vec F S2048x4096 .bf16) (x2 x3 : Vec F S256x2048 .f32) (x4 : Vec F S1x2048 .f32)

/-- The first point of the region leaves the gradient of its rows. -/
theorem dx0_A (i : grid0.Coords) (hc : cond0_0 i) :
    out0_A_5 c i a1 h1 a2 h2 a3 h3 a4 h4 a5 h5 a6 h6 a7 h7 hc x0 x1 x2 x3 x4 = dx0 x0 x1 x2 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

/-- The first point of the region starts the scale gradient from zero. -/
theorem dg0_A (i : grid0.Coords) (hc : cond0_0 i) :
    out0_A_6 c i a1 h1 a2 h2 a3 h3 a4 h4 a5 h5 a6 h6 a7 h7 hc x0 x1 x2 x3 x4 = k0_pay6 x0 x1 x3 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x2048) off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

/-- A later point leaves the gradient of its rows. -/
theorem dx0_B (i : grid0.Coords) (hc : ¬cond0_0 i) (dg : Vec F S1x2048 .f32) :
    out0_B_5 c i a1 h1 a2 h2 a3 h3 a4 h4 a5 h5 a6 h6 a7 h7 hc x0 x1 x2 x3 x4 dg = dx0 x0 x1 x2 x3 x4 := by
  unfold out0_B_5
  rw [View.read_writes_eq_canon _ _ _ (cover0_B_5 c i a1 h1 a2 h2 a3 h3 a4 h4 a5 h5 a6 h6 a7 h7 hc x0 x1 x2 x3 x4 dg)]
  unfold kernelRun0_B
  dsimp only
  sl_unfold_words
  rw [View.canon_unit_zero off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

/-- A later point adds its rows' terms to the scale gradient. -/
theorem dg0_B (i : grid0.Coords) (hc : ¬cond0_0 i) (dg : Vec F S1x2048 .f32) :
    out0_B_6 c i a1 h1 a2 h2 a3 h3 a4 h4 a5 h5 a6 h6 a7 h7 hc x0 x1 x2 x3 x4 dg = k0_pay6 x0 x1 x3 dg := by
  unfold out0_B_6
  rw [View.read_writes_eq_canon _ _ _ (cover0_B_6 c i a1 h1 a2 h2 a3 h3 a4 h4 a5 h5 a6 h6 a7 h7 hc x0 x1 x2 x3 x4 dg)]
  unfold kernelRun0_B
  dsimp only
  sl_unfold_words
  rw [View.canon_unit_zero off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

/-- The first point of the region leaves the gradient of its rows. -/
theorem dx1_A (i : grid1.Coords) (hc : cond1_0 i) :
    out1_A_5 c i a1 h1 a2 h2 a3 h3 a4 h4 a5 h5 a6 h6 a7 h7 hc x0 x1 x2 x3 x4 = dx1 x0 x1 x2 x3 x4 := by
  unfold out1_A_5
  rw [View.read_writes_eq_canon _ _ _ (cover1_A_5 c i a1 h1 a2 h2 a3 h3 a4 h4 a5 h5 a6 h6 a7 h7 hc x0 x1 x2 x3 x4)]
  unfold kernelRun1_A
  dsimp only
  sl_unfold_words
  rw [View.canon_unit_zero off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

/-- The first point of the region starts the scale gradient from zero. -/
theorem dg1_A (i : grid1.Coords) (hc : cond1_0 i) :
    out1_A_6 c i a1 h1 a2 h2 a3 h3 a4 h4 a5 h5 a6 h6 a7 h7 hc x0 x1 x2 x3 x4 = k1_pay6 x0 x1 x3 k1_pay2 := by
  unfold out1_A_6
  rw [View.read_writes_eq_canon _ _ _ (cover1_A_6 c i a1 h1 a2 h2 a3 h3 a4 h4 a5 h5 a6 h6 a7 h7 hc x0 x1 x2 x3 x4)]
  unfold kernelRun1_A
  dsimp only
  sl_unfold_words
  rw [View.canon_cons_unit_zero (S := S1x2048) off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

/-- A later point leaves the gradient of its rows. -/
theorem dx1_B (i : grid1.Coords) (hc : ¬cond1_0 i) (dg : Vec F S1x2048 .f32) :
    out1_B_5 c i a1 h1 a2 h2 a3 h3 a4 h4 a5 h5 a6 h6 a7 h7 hc x0 x1 x2 x3 x4 dg = dx1 x0 x1 x2 x3 x4 := by
  unfold out1_B_5
  rw [View.read_writes_eq_canon _ _ _ (cover1_B_5 c i a1 h1 a2 h2 a3 h3 a4 h4 a5 h5 a6 h6 a7 h7 hc x0 x1 x2 x3 x4 dg)]
  unfold kernelRun1_B
  dsimp only
  sl_unfold_words
  rw [View.canon_unit_zero off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

/-- A later point adds its rows' terms to the scale gradient. -/
theorem dg1_B (i : grid1.Coords) (hc : ¬cond1_0 i) (dg : Vec F S1x2048 .f32) :
    out1_B_6 c i a1 h1 a2 h2 a3 h3 a4 h4 a5 h5 a6 h6 a7 h7 hc x0 x1 x2 x3 x4 dg = k1_pay6 x0 x1 x3 dg := by
  unfold out1_B_6
  rw [View.read_writes_eq_canon _ _ _ (cover1_B_6 c i a1 h1 a2 h2 a3 h3 a4 h4 a5 h5 a6 h6 a7 h7 hc x0 x1 x2 x3 x4 dg)]
  unfold kernelRun1_B
  dsimp only
  sl_unfold_words
  rw [View.canon_unit_zero off2]
  simp only [View.readAt_eq_ld, h1.read_unread, h2.read_unread, h3.read_unread, h4.read_unread, h5.read_unread, h7.read_unread,
    View.ld_unit_zero (S := S256x2048) off2, View.ld_unit_zero (S := S1x2048) off2, View.ld_unit_zero (S := S256x4096) off2,
    View.ld_unit_zero (S := S2048x4096) off2, View.readCov_unit_zero (S := S1x2048) _ off2]

end Points

end Cert.InDxIdeal.Cases

end
-- ==== Proof.InDxFold.lean ====
/- The two regions of the input projection's gradient in closed form: a point's blocks are rows of the given arrays, the
   running scale gradient holds the rows met so far, and each point leaves the gradient of its own rows. The first region
   takes the rows below 4096, the second the others. -/
module

public import proofs.«01_k».proof.Proof.Sums
public import proofs.«01_k».proof.Proof.RowNorm
public import proofs.«01_k».proof.Proof.InDxCases
public import Idealize.ShloMosaic.Lib.Pointwise

@[expose] public section

set_option maxRecDepth 16384

noncomputable section

open Idealize.ShloMosaic Idealize.ShloMosaic.TcCoe Idealize.SL.Sem

namespace Cert.InDxIdeal.Fold

open Cert.InDxIdeal Cert.InDxIdeal.Gen Cert.InDxIdeal.Cases Cert.Sums
open Cert.RowNorm (width eps)

variable (m : (ℓ : Loc nD τ sig) → Buf (Elt Ideal) ℓ) (c : Dev nD)

/-- The argument arrays, at their shapes: the normalised rows' input, the scale, the weight, the incoming gradients of the
    product and of the residual. -/
abbrev xs : FVec Ideal S8192x2048 .f32 := m ((c : Thread nD τ).loc main_arg0)
abbrev gs : FVec Ideal S1x2048 .f32 := m ((c : Thread nD τ).loc main_arg1)
abbrev ws : FVec Ideal S1x2048x4096 .f32 := m ((c : Thread nD τ).loc main_arg2)
abbrev us : FVec Ideal S8192x4096 .f32 := m ((c : Thread nD τ).loc main_arg3)
abbrev rs : FVec Ideal S8192x2048 .f32 := m ((c : Thread nD τ).loc main_arg4)

/-- The row of the incoming gradient times the weight's transpose. -/
abbrev prod (r : Fin 8192) (k : Fin 2048) : EReal := ∑ j : Fin 4096, us m c (ix2 r j) * ws m c (ix3 0 k j)

/-- The reciprocal root mean square of a row. -/
abbrev rms (r : Fin 8192) : EReal := RowNorm.rrms width eps fun j : Fin 2048 => xs m c (ix2 r j)

/-- The scale gradient's term of row `r`. -/
abbrev scaled (k : Fin 2048) (r : Fin 8192) : EReal := prod m c r k * (xs m c (ix2 r k) * rms m c r)

/-- The gradient of row `r`. -/
abbrev gradient (r : Fin 8192) (k : Fin 2048) : EReal :=
  rs m c (ix2 r k) + RowNorm.grad width eps (fun j => xs m c (ix2 r j)) (fun j => gs m c (ix2 0 j)) (prod m c r) k

/-! ## The payloads at an entry -/

theorem pay2_apply (i : S1x2048.Idx) : k0_pay2 (F := Ideal) i = 0 := by
  pointwise [k0_pay2]

theorem pay6_apply (a : Vec Ideal S256x4096 .bf16) (w : Vec Ideal S2048x4096 .bf16) (x : Vec Ideal S256x2048 .f32) (g : Vec Ideal S1x2048 .f32)
    (k : Fin 2048) : k0_pay6 a w x g (ix2 0 k)
      = g (ix2 0 k) + ∑ r : Fin 256, (∑ j : Fin 4096, a (ix2 r j) * w (ix2 k j)) * (x (ix2 r k) * RowNorm.rrms width eps fun j => x (ix2 r j)) := by
  pointwise [k0_pay6, k0_pay5, k0_pay4, k0_pay3]
  rfl

theorem dx_apply (a : Vec Ideal S256x4096 .bf16) (w : Vec Ideal S2048x4096 .bf16) (y x : Vec Ideal S256x2048 .f32) (g : Vec Ideal S1x2048 .f32)
    (r : Fin 256) (k : Fin 2048) : dx0 a w y x g (ix2 r k)
      = y (ix2 r k) + RowNorm.grad width eps (fun j => x (ix2 r j)) (fun j => g (ix2 0 j)) (fun k => ∑ j : Fin 4096, a (ix2 r j) * w (ix2 k j)) k := by
  pointwise [dx0, k0_pay1, k0_pay3, k0_pay4, k0_pay5, k0_pay7, k0_pay8, k0_pay9]
  rfl

/-- The second region's payloads are the first's. -/
theorem dx1_eq : dx1 (F := Ideal) = dx0 := rfl
theorem pay6_eq : k1_pay6 (F := Ideal) = k0_pay6 := rfl
theorem pay2_eq : k1_pay2 (F := Ideal) = k0_pay2 := rfl

/-! ## A region's points -/

/-- Row `r` of point `t`'s rows, in the first region and in the second. -/
abbrev row0 (t : Fin cfg0.N) (r : Fin 256) : Fin 8192 := ⟨256 * t.val + r.val, by have := lt_of_lt_of_eq t.isLt N_0; omega⟩
abbrev row1 (t : Fin cfg1.N) (r : Fin 256) : Fin 8192 := ⟨4096 + 256 * t.val + r.val, by have := lt_of_lt_of_eq t.isLt N_1; omega⟩

variable {V : (c : Dev nD) → (b : Ref sig .tc) → Buf (Elt Ideal) ((c : Thread nD τ).loc b)}

/-- What a region finds in the arrays its input windows read. -/
structure Entry (V : (c : Dev nD) → (b : Ref sig .tc) → Buf (Elt Ideal) ((c : Thread nD τ).loc b)) : Prop where
  ct : ∀ (r : Fin 8192) (j : Fin 4096), (V c main_v0 : FVec Ideal S8192x4096 .bf16) (ix2 r j) = us m c (ix2 r j)
  wt : ∀ (k : Fin 2048) (j : Fin 4096), (V c main_v2 : FVec Ideal S2048x4096 .bf16) (ix2 k j) = ws m c (ix3 0 k j)
  row : V c main_arg0 = xs m c
  scale : V c main_arg1 = gs m c
  res : V c main_arg4 = rs m c

variable {m c} (h : Entry m c V)
include h

theorem block0_0 (t : Fin cfg0.N) (r : Fin 256) (k : Fin 4096) : (iblk0 V c 0 t : Vec Ideal S256x4096 .bf16) (ix2 r k) = us m c (ix2 (row0 t r) k) := by
  have e : ∀ t : Fin cfg0.N, win0_0.index t 0 = t.val ∧ win0_0.index t 1 = 0 := by decide +kernel
  obtain ⟨e0, e1⟩ := e t
  refine Eq.trans ?_ (h.ct _ _ : V c main_v0 (ix2 (row0 t r) k) = _)
  unfold iblk0
  rw [View.read_apply]
  show V c main_v0 _ = _
  refine congrArg (V c main_v0) (funext fun a => Fin.ext ?_)
  match a with
  | ⟨0, _⟩ => show win0_0.index t 0 * 256 + 1 * r.val = 256 * t.val + r.val; rw [e0]; omega
  | ⟨1, _⟩ => show win0_0.index t 1 * 4096 + 1 * k.val = k.val; rw [e1]; omega

theorem block0_1 (t : Fin cfg0.N) (r : Fin 2048) (k : Fin 4096) : (iblk0 V c 1 t : Vec Ideal S2048x4096 .bf16) (ix2 r k) = ws m c (ix3 0 r k) := by
  have e : ∀ t : Fin cfg0.N, win0_1.index t 0 = 0 ∧ win0_1.index t 1 = 0 := by decide +kernel
  obtain ⟨e0, e1⟩ := e t
  refine Eq.trans ?_ (h.wt _ _ : V c main_v2 (ix2 r k) = _)
  unfold iblk0
  rw [View.read_apply]
  show V c main_v2 _ = _
  refine congrArg (V c main_v2) (funext fun a => Fin.ext ?_)
  match a with
  | ⟨0, _⟩ => show win0_1.index t 0 * 2048 + 1 * r.val = r.val; rw [e0]; omega
  | ⟨1, _⟩ => show win0_1.index t 1 * 4096 + 1 * k.val = k.val; rw [e1]; omega

theorem block0_2 (t : Fin cfg0.N) (r : Fin 256) (k : Fin 2048) : (iblk0 V c 2 t : Vec Ideal S256x2048 .f32) (ix2 r k) = rs m c (ix2 (row0 t r) k) := by
  have e : ∀ t : Fin cfg0.N, win0_2.index t 0 = t.val ∧ win0_2.index t 1 = 0 := by decide +kernel
  obtain ⟨e0, e1⟩ := e t
  refine Eq.trans ?_ (congrFun h.res _ : V c main_arg4 (ix2 (row0 t r) k) = _)
  unfold iblk0
  rw [View.read_apply]
  show V c main_arg4 _ = _
  refine congrArg (V c main_arg4) (funext fun a => Fin.ext ?_)
  match a with
  | ⟨0, _⟩ => show win0_2.index t 0 * 256 + 1 * r.val = 256 * t.val + r.val; rw [e0]; omega
  | ⟨1, _⟩ => show win0_2.index t 1 * 2048 + 1 * k.val = k.val; rw [e1]; omega

theorem block0_3 (t : Fin cfg0.N) (r : Fin 256) (k : Fin 2048) : (iblk0 V c 3 t : Vec Ideal S256x2048 .f32) (ix2 r k) = xs m c (ix2 (row0 t r) k) := by
  have e : ∀ t : Fin cfg0.N, win0_3.index t 0 = t.val ∧ win0_3.index t 1 = 0 := by decide +kernel
  obtain ⟨e0, e1⟩ := e t
  refine Eq.trans ?_ (congrFun h.row _ : V c main_arg0 (ix2 (row0 t r) k) = _)
  unfold iblk0
  rw [View.read_apply]
  show V c main_arg0 _ = _
  refine congrArg (V c main_arg0) (funext fun a => Fin.ext ?_)
  match a with
  | ⟨0, _⟩ => show win0_3.index t 0 * 256 + 1 * r.val = 256 * t.val + r.val; rw [e0]; omega
  | ⟨1, _⟩ => show win0_3.index t 1 * 2048 + 1 * k.val = k.val; rw [e1]; omega

theorem block0_4 (t : Fin cfg0.N) (r : Fin 1) (k : Fin 2048) : (iblk0 V c 4 t : Vec Ideal S1x2048 .f32) (ix2 r k) = gs m c (ix2 r k) := by
  have e : ∀ t : Fin cfg0.N, win0_4.index t 0 = 0 ∧ win0_4.index t 1 = 0 := by decide +kernel
  obtain ⟨e0, e1⟩ := e t
  refine Eq.trans ?_ (congrFun h.scale _ : V c main_arg1 (ix2 r k) = _)
  unfold iblk0
  rw [View.read_apply]
  show V c main_arg1 _ = _
  refine congrArg (V c main_arg1) (funext fun a => Fin.ext ?_)
  match a with
  | ⟨0, _⟩ => show win0_4.index t 0 * 1 + 1 * r.val = r.val; rw [e0]; omega
  | ⟨1, _⟩ => show win0_4.index t 1 * 2048 + 1 * k.val = k.val; rw [e1]; omega

/-- A point leaves the gradient of its rows. -/
theorem dx_at0 (t : Fin cfg0.N) (r : Fin 256) (k : Fin 2048) : (outsAt0 V c t.val t.isLt).1 (ix2 r k) = gradient m c (row0 t r) k := by
  have e : (outsAt0 V c t.val t.isLt).1 = dx0 (F := Ideal) (iblk0 V c 0 t) (iblk0 V c 1 t) (iblk0 V c 2 t) (iblk0 V c 3 t) (iblk0 V c 4 t) := by
    by_cases h0 : t.val % 16 = 0
    · rw [outsAt0_A V c t h0]; dsimp only; rw [dx0_A]
    · rw [outsAt0_B V c t h0]; dsimp only; rw [dx0_B]
  rw [e, dx_apply, block0_2 h]
  simp only [block0_0 h, block0_1 h, block0_3 h, block0_4 h]

/-- The scale gradient's terms of the region's rows. -/
theorem step0 (t : Fin cfg0.N) (g : Vec Ideal S1x2048 .f32) (k : Fin 2048) :
    k0_pay6 (F := Ideal) (iblk0 V c 0 t) (iblk0 V c 1 t) (iblk0 V c 3 t) g (ix2 0 k) = g (ix2 0 k) + ∑ r : Fin 256, scaled m c k (row0 t r) := by
  rw [pay6_apply]
  simp only [block0_0 h, block0_1 h, block0_3 h]

theorem dg_at0 : ∀ (n : ℕ) (hn : n < cfg0.N) (k : Fin 2048),
    (outsAt0 V c n hn).2 (ix2 0 k) = upto (fun r : Fin 4096 => scaled m c k ⟨r.val, by omega⟩) (256 * n + 256) := by
  intro n
  induction n with
  | zero =>
    intro hn k
    have e : (outsAt0 V c 0 hn).2 = k0_pay6 (F := Ideal) (iblk0 V c 0 ⟨0, hn⟩) (iblk0 V c 1 ⟨0, hn⟩) (iblk0 V c 3 ⟨0, hn⟩) (k0_pay2 (F := Ideal)) := by
      rw [outsAt0_A V c ⟨0, hn⟩ rfl]; dsimp only; rw [dg0_A]
    rw [e, step0 h, pay2_apply, upto_add _ _ _ (by omega)]
    refine congrArg₂ (· + ·) (upto_zero _).symm (Finset.sum_congr rfl fun r _ => congrArg (scaled m c k) (Fin.ext ?_))
    show 256 * 0 + r.val = (256 * 0 + r.val)
    omega
  | succ n ih =>
    intro hn k
    have hN : n + 1 < 16 := N_0 ▸ hn
    have e : (outsAt0 V c (n + 1) hn).2 = k0_pay6 (F := Ideal) (iblk0 V c 0 ⟨n + 1, hn⟩) (iblk0 V c 1 ⟨n + 1, hn⟩) (iblk0 V c 3 ⟨n + 1, hn⟩)
        (outsAt0 V c n (Nat.lt_of_succ_lt hn)).2 := by
      rw [outsAt0_B V c ⟨n + 1, hn⟩ (by dsimp only; omega)]; dsimp only; rw [dg0_B]; rfl
    rw [e, step0 h, ih, upto_add _ (256 * (n + 1)) _ (by omega)]
    refine congrArg₂ (· + ·) rfl (Finset.sum_congr rfl fun r _ => congrArg (scaled m c k) (Fin.ext ?_))
    show 256 * (n + 1) + r.val = (256 * (n + 1) + r.val)
    omega

theorem block1_0 (t : Fin cfg1.N) (r : Fin 256) (k : Fin 4096) : (iblk1 V c 0 t : Vec Ideal S256x4096 .bf16) (ix2 r k) = us m c (ix2 (row1 t r) k) := by
  have e : ∀ t : Fin cfg1.N, win1_0.index t 0 = t.val + 16 ∧ win1_0.index t 1 = 0 := by decide +kernel
  obtain ⟨e0, e1⟩ := e t
  refine Eq.trans ?_ (h.ct _ _ : V c main_v0 (ix2 (row1 t r) k) = _)
  unfold iblk1
  rw [View.read_apply]
  show V c main_v0 _ = _
  refine congrArg (V c main_v0) (funext fun a => Fin.ext ?_)
  match a with
  | ⟨0, _⟩ => show win1_0.index t 0 * 256 + 1 * r.val = 4096 + 256 * t.val + r.val; rw [e0]; omega
  | ⟨1, _⟩ => show win1_0.index t 1 * 4096 + 1 * k.val = k.val; rw [e1]; omega

theorem block1_1 (t : Fin cfg1.N) (r : Fin 2048) (k : Fin 4096) : (iblk1 V c 1 t : Vec Ideal S2048x4096 .bf16) (ix2 r k) = ws m c (ix3 0 r k) := by
  have e : ∀ t : Fin cfg1.N, win1_1.index t 0 = 0 ∧ win1_1.index t 1 = 0 := by decide +kernel
  obtain ⟨e0, e1⟩ := e t
  refine Eq.trans ?_ (h.wt _ _ : V c main_v2 (ix2 r k) = _)
  unfold iblk1
  rw [View.read_apply]
  show V c main_v2 _ = _
  refine congrArg (V c main_v2) (funext fun a => Fin.ext ?_)
  match a with
  | ⟨0, _⟩ => show win1_1.index t 0 * 2048 + 1 * r.val = r.val; rw [e0]; omega
  | ⟨1, _⟩ => show win1_1.index t 1 * 4096 + 1 * k.val = k.val; rw [e1]; omega

theorem block1_2 (t : Fin cfg1.N) (r : Fin 256) (k : Fin 2048) : (iblk1 V c 2 t : Vec Ideal S256x2048 .f32) (ix2 r k) = rs m c (ix2 (row1 t r) k) := by
  have e : ∀ t : Fin cfg1.N, win1_2.index t 0 = t.val + 16 ∧ win1_2.index t 1 = 0 := by decide +kernel
  obtain ⟨e0, e1⟩ := e t
  refine Eq.trans ?_ (congrFun h.res _ : V c main_arg4 (ix2 (row1 t r) k) = _)
  unfold iblk1
  rw [View.read_apply]
  show V c main_arg4 _ = _
  refine congrArg (V c main_arg4) (funext fun a => Fin.ext ?_)
  match a with
  | ⟨0, _⟩ => show win1_2.index t 0 * 256 + 1 * r.val = 4096 + 256 * t.val + r.val; rw [e0]; omega
  | ⟨1, _⟩ => show win1_2.index t 1 * 2048 + 1 * k.val = k.val; rw [e1]; omega

theorem block1_3 (t : Fin cfg1.N) (r : Fin 256) (k : Fin 2048) : (iblk1 V c 3 t : Vec Ideal S256x2048 .f32) (ix2 r k) = xs m c (ix2 (row1 t r) k) := by
  have e : ∀ t : Fin cfg1.N, win1_3.index t 0 = t.val + 16 ∧ win1_3.index t 1 = 0 := by decide +kernel
  obtain ⟨e0, e1⟩ := e t
  refine Eq.trans ?_ (congrFun h.row _ : V c main_arg0 (ix2 (row1 t r) k) = _)
  unfold iblk1
  rw [View.read_apply]
  show V c main_arg0 _ = _
  refine congrArg (V c main_arg0) (funext fun a => Fin.ext ?_)
  match a with
  | ⟨0, _⟩ => show win1_3.index t 0 * 256 + 1 * r.val = 4096 + 256 * t.val + r.val; rw [e0]; omega
  | ⟨1, _⟩ => show win1_3.index t 1 * 2048 + 1 * k.val = k.val; rw [e1]; omega

theorem block1_4 (t : Fin cfg1.N) (r : Fin 1) (k : Fin 2048) : (iblk1 V c 4 t : Vec Ideal S1x2048 .f32) (ix2 r k) = gs m c (ix2 r k) := by
  have e : ∀ t : Fin cfg1.N, win1_4.index t 0 = 0 ∧ win1_4.index t 1 = 0 := by decide +kernel
  obtain ⟨e0, e1⟩ := e t
  refine Eq.trans ?_ (congrFun h.scale _ : V c main_arg1 (ix2 r k) = _)
  unfold iblk1
  rw [View.read_apply]
  show V c main_arg1 _ = _
  refine congrArg (V c main_arg1) (funext fun a => Fin.ext ?_)
  match a with
  | ⟨0, _⟩ => show win1_4.index t 0 * 1 + 1 * r.val = r.val; rw [e0]; omega
  | ⟨1, _⟩ => show win1_4.index t 1 * 2048 + 1 * k.val = k.val; rw [e1]; omega

/-- A point leaves the gradient of its rows. -/
theorem dx_at1 (t : Fin cfg1.N) (r : Fin 256) (k : Fin 2048) : (outsAt1 V c t.val t.isLt).1 (ix2 r k) = gradient m c (row1 t r) k := by
  have e : (outsAt1 V c t.val t.isLt).1 = dx1 (F := Ideal) (iblk1 V c 0 t) (iblk1 V c 1 t) (iblk1 V c 2 t) (iblk1 V c 3 t) (iblk1 V c 4 t) := by
    by_cases h0 : t.val % 16 = 0
    · rw [outsAt1_A V c t h0]; dsimp only; rw [dx1_A]
    · rw [outsAt1_B V c t h0]; dsimp only; rw [dx1_B]
  rw [e, dx1_eq, dx_apply, block1_2 h]
  simp only [block1_0 h, block1_1 h, block1_3 h, block1_4 h]

/-- The scale gradient's terms of the region's rows. -/
theorem step1 (t : Fin cfg1.N) (g : Vec Ideal S1x2048 .f32) (k : Fin 2048) :
    k0_pay6 (F := Ideal) (iblk1 V c 0 t) (iblk1 V c 1 t) (iblk1 V c 3 t) g (ix2 0 k) = g (ix2 0 k) + ∑ r : Fin 256, scaled m c k (row1 t r) := by
  rw [pay6_apply]
  simp only [block1_0 h, block1_1 h, block1_3 h]

theorem dg_at1 : ∀ (n : ℕ) (hn : n < cfg1.N) (k : Fin 2048),
    (outsAt1 V c n hn).2 (ix2 0 k) = upto (fun r : Fin 4096 => scaled m c k ⟨4096 + r.val, by omega⟩) (256 * n + 256) := by
  intro n
  induction n with
  | zero =>
    intro hn k
    have e : (outsAt1 V c 0 hn).2 = k0_pay6 (F := Ideal) (iblk1 V c 0 ⟨0, hn⟩) (iblk1 V c 1 ⟨0, hn⟩) (iblk1 V c 3 ⟨0, hn⟩) (k0_pay2 (F := Ideal)) := by
      rw [outsAt1_A V c ⟨0, hn⟩ rfl]; dsimp only; rw [dg1_A]; rw [pay6_eq, pay2_eq]
    rw [e, step1 h, pay2_apply, upto_add _ _ _ (by omega)]
    refine congrArg₂ (· + ·) (upto_zero _).symm (Finset.sum_congr rfl fun r _ => congrArg (scaled m c k) (Fin.ext ?_))
    show 4096 + 256 * 0 + r.val = 4096 + (256 * 0 + r.val)
    omega
  | succ n ih =>
    intro hn k
    have hN : n + 1 < 16 := N_1 ▸ hn
    have e : (outsAt1 V c (n + 1) hn).2 = k0_pay6 (F := Ideal) (iblk1 V c 0 ⟨n + 1, hn⟩) (iblk1 V c 1 ⟨n + 1, hn⟩) (iblk1 V c 3 ⟨n + 1, hn⟩)
        (outsAt1 V c n (Nat.lt_of_succ_lt hn)).2 := by
      rw [outsAt1_B V c ⟨n + 1, hn⟩ (by dsimp only; omega)]; dsimp only; rw [dg1_B, pay6_eq]; rfl
    rw [e, step1 h, ih, upto_add _ (256 * (n + 1)) _ (by omega)]
    refine congrArg₂ (· + ·) rfl (Finset.sum_congr rfl fun r _ => congrArg (scaled m c k) (Fin.ext ?_))
    show 4096 + 256 * (n + 1) + r.val = 4096 + (256 * (n + 1) + r.val)
    omega

end Cert.InDxIdeal.Fold

end
-- ==== Proof.InDxRun.lean ====
/- The two regions of the input projection's gradient, one after the other: the arrays the program ends with. The second
   region writes its rows over the array the first one left, and the two scale gradients are added. -/
module

public import proofs.«01_k».proof.Proof.InDxFold

@[expose] public section

set_option maxRecDepth 16384

noncomputable section

open Idealize.ShloMosaic Idealize.ShloMosaic.TcCoe Idealize.SL.Sem

namespace Cert.InDxIdeal.Run

open Cert.InDxIdeal Cert.InDxIdeal.Gen Cert.InDxIdeal.Fold Cert.Sums
open Idealize Idealize.ShloMosaic.StableHlo Idealize.SL

section Region

variable {m : (ℓ : Loc nD τ sig) → Buf (Elt Ideal) ℓ} {c : Dev nD}
variable {V : (c : Dev nD) → (b : Ref sig .tc) → Buf (Elt Ideal) ((c : Thread nD τ).loc b)} (h : Entry m c V)

/-- The gradient of every row. -/
abbrev grads (m : (ℓ : Loc nD τ sig) → Buf (Elt Ideal) ℓ) (c : Dev nD) : FVec Ideal S8192x2048 .f32 := fun i => gradient m c (i 0) (i 1)

/-- The scale gradient of the first region's rows. -/
abbrev half0 (m : (ℓ : Loc nD τ sig) → Buf (Elt Ideal) ℓ) (c : Dev nD) : FVec Ideal S1x2048 .f32 := fun i =>
  ∑ r : Fin 4096, scaled m c (i 1) ⟨r.val, by omega⟩

/-- The scale gradient of the second region's rows. -/
abbrev half1 (m : (ℓ : Loc nD τ sig) → Buf (Elt Ideal) ℓ) (c : Dev nD) : FVec Ideal S1x2048 .f32 := fun i =>
  ∑ r : Fin 4096, scaled m c (i 1) ⟨4096 + r.val, by omega⟩

theorem index0_5 : ∀ t : Fin cfg0.N, win0_5.index t 0 = t.val ∧ win0_5.index t 1 = 0 := by decide +kernel
theorem index1_5 : ∀ t : Fin cfg1.N, win1_5.index t 0 = t.val + 16 ∧ win1_5.index t 1 = 0 := by decide +kernel
theorem index0_6 : ∀ t : Fin cfg0.N, win0_6.index t 0 = 0 ∧ win0_6.index t 1 = 0 := by decide +kernel
theorem index1_6 : ∀ t : Fin cfg1.N, win1_6.index t 0 = 0 ∧ win1_6.index t 1 = 0 := by decide +kernel

include h

theorem flushed0_5 (t : Fin cfg0.N) : (dat0 V c).flushed 5 t = ((cfg0.win 5).blk t).view.read (Elt Ideal) (grads m c) := by
  show (cfg0.win 5).cut (grid0.coords t) ((dat0 V c).after 5 t) = _
  rw [after0_5]
  obtain ⟨e0, e1⟩ := index0_5 t
  funext y
  rw [View.read_apply]
  have hl : (cfg0.win 5).xinj (grid0.coords t) y = ix2 (y 0) (y 1) := Shape.idx_ext₂ rfl rfl
  have hr : ((cfg0.win 5).blk t).view.emb y = ix2 (row0 t (y 0)) (y 1) := funext fun a => Fin.ext <| match a with
    | ⟨0, _⟩ => by show win0_5.index t 0 * 256 + 1 * (y 0).val = 256 * t.val + (y 0).val; rw [e0]; omega
    | ⟨1, _⟩ => by show win0_5.index t 1 * 2048 + 1 * (y 1).val = (y 1).val; rw [e1]; omega
  show (outsAt0 V c t.val t.isLt).1 ((cfg0.win 5).xinj (grid0.coords t) y) = grads m c (((cfg0.win 5).blk t).view.emb y)
  rw [hl, hr]
  exact dx_at0 h t (y 0) (y 1)

theorem flushed1_5 (t : Fin cfg1.N) : (dat1 V c).flushed 5 t = ((cfg1.win 5).blk t).view.read (Elt Ideal) (grads m c) := by
  show (cfg1.win 5).cut (grid1.coords t) ((dat1 V c).after 5 t) = _
  rw [after1_5]
  obtain ⟨e0, e1⟩ := index1_5 t
  funext y
  rw [View.read_apply]
  have hl : (cfg1.win 5).xinj (grid1.coords t) y = ix2 (y 0) (y 1) := Shape.idx_ext₂ rfl rfl
  have hr : ((cfg1.win 5).blk t).view.emb y = ix2 (row1 t (y 0)) (y 1) := funext fun a => Fin.ext <| match a with
    | ⟨0, _⟩ => by show win1_5.index t 0 * 256 + 1 * (y 0).val = 4096 + 256 * t.val + (y 0).val; rw [e0]; omega
    | ⟨1, _⟩ => by show win1_5.index t 1 * 2048 + 1 * (y 1).val = (y 1).val; rw [e1]; omega
  show (outsAt1 V c t.val t.isLt).1 ((cfg1.win 5).xinj (grid1.coords t) y) = grads m c (((cfg1.win 5).blk t).view.emb y)
  rw [hl, hr]
  exact dx_at1 h t (y 0) (y 1)

/-- The first region leaves the gradient of the rows below 4096. -/
theorem array0_5 (r : Fin 8192) (k : Fin 2048) (hr : r.val < 4096) :
    ((dat0 V c).arrAt 5 cfg0.N : FVec Ideal S8192x2048 .f32) (ix2 r k) = gradient m c r k := by
  have ht : r.val / 256 < cfg0.N := lt_of_lt_of_eq (by omega) N_0.symm
  obtain ⟨e0, e1⟩ := index0_5 ⟨r.val / 256, ht⟩
  refine (dat0 V c).arrAt_apply_of_mem 5 (grads m c) (fun t _ => flushed0_5 h t) cfg0.N ⟨r.val / 256, ht⟩ (ix2 r k) ht (flush0_5 _) ?_
  show ix2 r k ∈ ((View.whole main_v3_0).slice (win0_5.rect ⟨r.val / 256, ht⟩)).set
  rw [View.set_slice_whole, Rect.mem_set_unit]
  intro a
  match a with
  | ⟨0, _⟩ =>
    show win0_5.index ⟨r.val / 256, ht⟩ 0 * 256 ≤ r.val ∧ r.val < win0_5.index ⟨r.val / 256, ht⟩ 0 * 256 + 256
    rw [e0]; dsimp only; omega
  | ⟨1, _⟩ =>
    show win0_5.index ⟨r.val / 256, ht⟩ 1 * 2048 ≤ k.val ∧ k.val < win0_5.index ⟨r.val / 256, ht⟩ 1 * 2048 + 2048
    rw [e1]; omega

/-- The second region leaves the gradient of its rows and keeps the others as it found them. -/
theorem array1_5 (hV : ∀ (r : Fin 8192) (k : Fin 2048), r.val < 4096 → (V c main_v4_0 : FVec Ideal S8192x2048 .f32) (ix2 r k) = gradient m c r k)
    (r : Fin 8192) (k : Fin 2048) : ((dat1 V c).arrAt 5 cfg1.N : FVec Ideal S8192x2048 .f32) (ix2 r k) = gradient m c r k := by
  have mem (t : Fin cfg1.N) : ix2 r k ∈ ((cfg1.win 5).blk t).view.set ↔ 4096 + 256 * t.val ≤ r.val ∧ r.val < 4096 + 256 * t.val + 256 := by
    obtain ⟨e0, e1⟩ := index1_5 t
    show ix2 r k ∈ ((View.whole main_v4_0).slice (win1_5.rect t)).set ↔ _
    rw [View.set_slice_whole, Rect.mem_set_unit]
    constructor
    · intro hm
      have hm : win1_5.index t 0 * 256 ≤ r.val ∧ r.val < win1_5.index t 0 * 256 + 256 := hm 0
      omega
    · intro hm a
      match a with
      | ⟨0, _⟩ => show win1_5.index t 0 * 256 ≤ r.val ∧ r.val < win1_5.index t 0 * 256 + 256; omega
      | ⟨1, _⟩ => show win1_5.index t 1 * 2048 ≤ k.val ∧ k.val < win1_5.index t 1 * 2048 + 2048; omega
  by_cases hr : r.val < 4096
  · refine Eq.trans ?_ (hV r k hr)
    refine ((dat1 V c).arrAt_apply_of_forall_not_mem 5 cfg1.N (ix2 r k) fun t _ _ hm => ?_).trans (congrFun (A_eq1 V c 5) _)
    have := (mem t).mp hm
    omega
  · have ht : (r.val - 4096) / 256 < cfg1.N := lt_of_lt_of_eq (by omega) N_1.symm
    exact (dat1 V c).arrAt_apply_of_mem 5 (grads m c) (fun t _ => flushed1_5 h t) cfg1.N ⟨(r.val - 4096) / 256, ht⟩ (ix2 r k) ht (flush1_5 _)
      ((mem _).mpr (by dsimp only; omega))

theorem array0_6 : (dat0 V c).arrAt 6 cfg0.N = half0 m c := by
  refine (dat0 V c).arrAt_eq_of_cover 6 (half0 m c) (fun t hf => ?_) fun i => ?_
  · show (cfg0.win 6).cut (grid0.coords t) ((dat0 V c).after 6 t) = _
    rw [after0_6]
    have hm : t.val % 16 = 15 := (flush0_6 t).mp hf
    have ht : t.val < 16 := lt_of_lt_of_eq t.isLt N_0
    obtain ⟨e0, e1⟩ := index0_6 t
    funext y
    rw [View.read_apply]
    have hl : (cfg0.win 6).xinj (grid0.coords t) y = ix2 0 (y 1) := Shape.idx_ext₂ (by have h0 : (y 0).val < 1 := (y 0).isLt; show (y 0).val = 0; omega) rfl
    have hr : ((cfg0.win 6).blk t).view.emb y 1 = y 1 := Fin.ext (by
      show win0_6.index t 1 * 2048 + 1 * (y 1).val = (y 1).val; rw [e1]; omega)
    show (outsAt0 V c t.val t.isLt).2 ((cfg0.win 6).xinj (grid0.coords t) y) = ∑ r : Fin 4096, scaled m c (((cfg0.win 6).blk t).view.emb y 1) ⟨r.val, _⟩
    rw [hl, hr]
    refine (dg_at0 h t.val t.isLt (y 1)).trans ?_
    rw [show 256 * t.val + 256 = 4096 by omega]
    exact upto_all _
  · have ht : 15 < cfg0.N := lt_of_lt_of_eq (by decide) N_0.symm
    obtain ⟨e0, e1⟩ := index0_6 ⟨15, ht⟩
    refine ⟨⟨15, ht⟩, (flush0_6 _).mpr rfl, ?_⟩
    show i ∈ ((View.whole main_v3_1).slice (win0_6.rect ⟨15, ht⟩)).set
    rw [View.set_slice_whole, Rect.mem_set_unit]
    have h0 : (i 0).val < 1 := (i 0).isLt
    have h1 : (i 1).val < 2048 := (i 1).isLt
    intro a
    match a with
    | ⟨0, _⟩ => show win0_6.index ⟨15, ht⟩ 0 * 1 ≤ (i 0).val ∧ (i 0).val < win0_6.index ⟨15, ht⟩ 0 * 1 + 1; omega
    | ⟨1, _⟩ => show win0_6.index ⟨15, ht⟩ 1 * 2048 ≤ (i 1).val ∧ (i 1).val < win0_6.index ⟨15, ht⟩ 1 * 2048 + 2048; omega

theorem array1_6 : (dat1 V c).arrAt 6 cfg1.N = half1 m c := by
  refine (dat1 V c).arrAt_eq_of_cover 6 (half1 m c) (fun t hf => ?_) fun i => ?_
  · show (cfg1.win 6).cut (grid1.coords t) ((dat1 V c).after 6 t) = _
    rw [after1_6]
    have hm : t.val % 16 = 15 := (flush1_6 t).mp hf
    have ht : t.val < 16 := lt_of_lt_of_eq t.isLt N_1
    obtain ⟨e0, e1⟩ := index1_6 t
    funext y
    rw [View.read_apply]
    have hl : (cfg1.win 6).xinj (grid1.coords t) y = ix2 0 (y 1) := Shape.idx_ext₂ (by have h0 : (y 0).val < 1 := (y 0).isLt; show (y 0).val = 0; omega) rfl
    have hr : ((cfg1.win 6).blk t).view.emb y 1 = y 1 := Fin.ext (by
      show win1_6.index t 1 * 2048 + 1 * (y 1).val = (y 1).val; rw [e1]; omega)
    show (outsAt1 V c t.val t.isLt).2 ((cfg1.win 6).xinj (grid1.coords t) y) = ∑ r : Fin 4096, scaled m c (((cfg1.win 6).blk t).view.emb y 1) ⟨4096 + r.val, _⟩
    rw [hl, hr]
    refine (dg_at1 h t.val t.isLt (y 1)).trans ?_
    rw [show 256 * t.val + 256 = 4096 by omega]
    exact upto_all _
  · have ht : 15 < cfg1.N := lt_of_lt_of_eq (by decide) N_1.symm
    obtain ⟨e0, e1⟩ := index1_6 ⟨15, ht⟩
    refine ⟨⟨15, ht⟩, (flush1_6 _).mpr rfl, ?_⟩
    show i ∈ ((View.whole main_v4_1).slice (win1_6.rect ⟨15, ht⟩)).set
    rw [View.set_slice_whole, Rect.mem_set_unit]
    have h0 : (i 0).val < 1 := (i 0).isLt
    have h1 : (i 1).val < 2048 := (i 1).isLt
    intro a
    match a with
    | ⟨0, _⟩ => show win1_6.index ⟨15, ht⟩ 0 * 1 ≤ (i 0).val ∧ (i 0).val < win1_6.index ⟨15, ht⟩ 0 * 1 + 1; omega
    | ⟨1, _⟩ => show win1_6.index ⟨15, ht⟩ 1 * 2048 ≤ (i 1).val ∧ (i 1).val < win1_6.index ⟨15, ht⟩ 1 * 2048 + 2048; omega

end Region

variable (m : (ℓ : Loc nD τ sig) → Buf (Elt Ideal) ℓ) (ρ : Dev nD → PrngReg) (c : Dev nD)

/-! ## What each region finds -/

theorem entry0 : Entry m c (V1 m ρ) where
  ct r j := by
    have e : V1 m ρ c main_v0 = truncf .bf16 (us m c) bitsLt_bf16_f32 := by
      show StableHlo.after hostOps0 _ (Proc.devRef .tc main_v0) = _
      after_results
    rw [e]
    pointwise []
  wt k j := by
    have e : V1 m ρ c main_v2 = truncf .bf16 (shapeCast S2048x4096 (ws m c) shapeCasts_S1x2048x4096_S2048x4096) bitsLt_bf16_f32 := by
      show StableHlo.after hostOps0 _ (Proc.devRef .tc main_v2) = _
      after_results
      rfl
    rw [e]
    pointwise []
  row := W1_args m ρ c _ (by decide)
  scale := W1_args m ρ c _ (by decide)
  res := W1_args m ρ c _ (by decide)

/-- A buffer neither the first region nor the copy writes is the same when the second region is entered. -/
theorem kept (r : Ref sig .tc) (h : r ∉ hostOps1_W) (h' : ∀ w : Fin cfg0.W, Pipeline.arrRef spec0 w = r → (cfg0.win w).isOut = false) :
    V3 m ρ c r = V1 m ρ c r :=
  (W3_of m ρ c r h).trans (W2_of m ρ c r h')

theorem entry1 : Entry m c (V3 m ρ) where
  ct r j := by
    rw [kept m ρ c main_v0 (by decide) (by decide +kernel)]
    exact (entry0 m ρ c).ct r j
  wt k j := by
    rw [kept m ρ c main_v2 (by decide) (by decide +kernel)]
    exact (entry0 m ρ c).wt k j
  row := W3_args m ρ c _ (by decide)
  scale := W3_args m ρ c _ (by decide)
  res := W3_args m ρ c _ (by decide)

/-- The array the second region writes over holds the first region's rows. -/
theorem copied (r : Fin 8192) (k : Fin 2048) (hr : r.val < 4096) :
    (V3 m ρ c main_v4_0 : FVec Ideal S8192x2048 .f32) (ix2 r k) = gradient m c r k := by
  have e : V3 m ρ c main_v4_0 = (dat0 (V1 m ρ) c).arrAt 5 cfg0.N := by
    refine Eq.trans ?_ (W2_arr m ρ c 5)
    show StableHlo.after hostOps1 _ (Proc.devRef .tc main_v4_0) = _
    after_results
    rfl
  rw [e]
  exact array0_5 (entry0 m ρ c) r k hr

/-! ## What the program leaves -/

theorem final_dx (r : Fin 8192) (k : Fin 2048) : (W5 m ρ c (Proc.devRef .tc main_v4_0) : FVec Ideal S8192x2048 .f32) (ix2 r k) = gradient m c r k := by
  rw [W5_of m ρ c main_v4_0 (by decide)]
  refine (congrFun (W4_arr m ρ c 5) _).trans ?_
  exact array1_5 (entry1 m ρ c) (copied m ρ c) r k

theorem final_dg (k : Fin 2048) : (W5 m ρ c (Proc.devRef .tc main_v5) : FVec Ideal S1x2048 .f32) (ix2 0 k) = half0 m c (ix2 0 k) + half1 m c (ix2 0 k) := by
  have e : W5 m ρ c (Proc.devRef .tc main_v5) = addf (half0 m c) (half1 m c) := by
    have e0 : W4 m ρ c (Proc.devRef .tc main_v3_1) = half0 m c :=
      (W4_of m ρ c main_v3_1 (by decide +kernel)).trans <| (W3_of m ρ c main_v3_1 (by decide)).trans <|
        (W2_arr m ρ c 6).trans (array0_6 (entry0 m ρ c))
    have e1 : W4 m ρ c (Proc.devRef .tc main_v4_1) = half1 m c := (W4_arr m ρ c 6).trans (array1_6 (entry1 m ρ c))
    rw [← e0, ← e1]
    show StableHlo.after hostOps2 _ (Proc.devRef .tc main_v5) = _
    after_results
  rw [e]
  pointwise []

end Cert.InDxIdeal.Run

end
-- ==== Proof.InDxEq.lean ====
/- The input projection's gradient: the entries of the reference's results, and their agreement with the kernel's. -/
module

public import proofs.«01_k».proof.Proof.InDxFold
public import proofs.«01_k».proof.Proof.Gen.InDxRefIdeal.Run
public import proofs.«01_k».proof.Proof.Gen.InDxRefIdeal.Read

@[expose] public section

set_option maxRecDepth 16384

noncomputable section

open Idealize.ShloMosaic Idealize.ShloMosaic.TcCoe Idealize.SL.Sem

namespace Cert.InDxRefIdeal.Entries

open Cert.InDxRefIdeal Cert.InDxRefIdeal.Gen Cert.InDxRefIdeal.Read Cert.Reals
open Cert.RowNorm (width eps)

variable (x y : FVec Ideal S8192x2048 .f32) (g : FVec Ideal S1x2048 .f32) (w : FVec Ideal S1x2048x4096 .f32) (u : FVec Ideal S8192x4096 .f32)

/-- The product of the incoming gradient with the weight's transpose. -/
abbrev prod (r : Fin 8192) (k : Fin 2048) : EReal := ∑ j : Fin 4096, u (ix2 r j) * w (ix3 0 k j)

/-- The gradient reaching a row's mean square. -/
abbrev back (r : Fin 8192) : EReal :=
  RowNorm.back width eps (Ideal.ofBits FTy.f32 3204448256#32) (fun j => x (ix2 r j)) (fun j => g (ix2 0 j)) (prod w u r)

theorem dx_apply (r : Fin 8192) (k : Fin 2048) : val_main_v40 (F := Ideal) x g w u y (ix2 r k)
    = y (ix2 r k) + prod w u r k * g (ix2 0 k) * RowNorm.rrms width eps (fun j => x (ix2 r j)) + x (ix2 r k) * back x g w u r
      + back x g w u r * x (ix2 r k) := by
  pointwise [val_main_v0, val_main_v1, val_main_cst, val_main_v2, val_main_v3, val_main_cst_0, val_main_v4, val_main_v5, val_main_cst_1, val_main_v6, val_main_v7,
    val_main_v8, val_main_v9, val_main_cst_2, val_main_v10, val_main_v11, val_main_v12, val_main_v13, val_main_v14, val_main_v15, val_main_v16,
    val_main_v17, val_main_v18, val_main_v19, val_main_v20, val_main_cst_3, val_main_v21, val_main_v22, val_main_v23, val_main_v24, val_main_cst_4,
    val_main_v25, val_main_v26, val_main_cst_5, val_main_v27, val_main_v28, val_main_v29, val_main_v30, val_main_v31, val_main_v32, val_main_cst_6,
    val_main_v33, val_main_v34, val_main_cst_7, val_main_v35, val_main_v36, val_main_v37, val_main_v38, val_main_v39, val_main_v40, val_main_v41]
  simp only [Fin.sum_univ_one]
  rfl

theorem dg_apply (k : Fin 2048) : val_main_v41 (F := Ideal) x w u (ix2 0 k)
    = ∑ r : Fin 8192, prod w u r k * (x (ix2 r k) * RowNorm.rrms width eps fun j => x (ix2 r j)) := by
  pointwise [val_main_v0, val_main_v1, val_main_cst, val_main_v2, val_main_v3, val_main_cst_0, val_main_v4, val_main_v5, val_main_cst_1, val_main_v6, val_main_v7,
    val_main_v8, val_main_v9, val_main_cst_2, val_main_v10, val_main_v11, val_main_v12, val_main_v13, val_main_v14, val_main_v15, val_main_v16,
    val_main_v17, val_main_v18, val_main_v19, val_main_v20, val_main_cst_3, val_main_v21, val_main_v22, val_main_v23, val_main_v24, val_main_cst_4,
    val_main_v25, val_main_v26, val_main_cst_5, val_main_v27, val_main_v28, val_main_v29, val_main_v30, val_main_v31, val_main_v32, val_main_cst_6,
    val_main_v33, val_main_v34, val_main_cst_7, val_main_v35, val_main_v36, val_main_v37, val_main_v38, val_main_v39, val_main_v40, val_main_v41]
  simp only [Fin.sum_univ_one]
  exact Finset.sum_congr rfl fun r _ => mul_comm _ _

/-- The reference's gradient in the kernel's form, on finite rows. -/
theorem dx_eq (hx : ∀ i, IsReal (x i)) (hg : ∀ i, IsReal (g i)) (hw : ∀ i, IsReal (w i)) (hu : ∀ i, IsReal (u i)) (r : Fin 8192) (k : Fin 2048) :
    val_main_v40 (F := Ideal) x g w u y (ix2 r k)
      = y (ix2 r k) + RowNorm.grad width eps (fun j => x (ix2 r j)) (fun j => g (ix2 0 j)) (prod w u r) k := by
  rw [dx_apply]
  have key := RowNorm.grad_eq (x := fun j => x (ix2 r j)) (g := fun j => g (ix2 0 j)) (a := prod w u r) lit_2048_pos lit_eps lit_neg_half
    (fun j => hx (ix2 r j)) (fun j => hg (ix2 0 j)) (fun j => IsReal.sum fun _ => (hu _).mul (hw _)) (y (ix2 r k)) k
  exact key.symm

end Cert.InDxRefIdeal.Entries

end
-- ==== Proof.InDxClaim.lean ====
/- The value claim of the input projection's gradient: both programs run, and end with the same two arrays. -/
module

public import proofs.«01_k».proof.Defs
public import proofs.«01_k».proof.Proof.InDxRun
public import proofs.«01_k».proof.Proof.InDxEq
public import proofs.«01_k».proof.Proof.Gen.Pre_in_dx_finite

@[expose] public section

set_option maxRecDepth 16384

noncomputable section

namespace Cert.InDxIdeal.Run

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource model of the run. -/
abbrev Model := MT nD τ sig Unit (Elt Ideal) ℕ (UR sig nD τ) ℕ

variable (m : (ℓ : Loc nD τ sig) → Buf (Elt Ideal) ℓ) (ρ : Dev nD → PrngReg)

set_option backward.isDefEq.respectTransparency.types false in
/-- The frame's launch, read at the results as well: each result array ends with what the last boundary holds. -/
theorem run : θ_run defs (onTc (τ := τ) (main (F := Ideal))) ⟨m, fun _ => 0, ρ⟩ (fun r => ∀ c : Dev nD,
      r.2.mem ((c.tc : Thread nD τ).loc main_v4_0) = W5 m ρ c (Proc.devRef .tc main_v4_0)
      ∧ r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Model)
            ⊢ BI.own (emb₁ (initOf (Pipeline.cells cfgs cellOf_inj) (Pipeline.launchToks cfgs cellOf_inj))) from .rfl)
        iexact Hu
      iapply (show (BI.emp : sProp Model) ⊢ bigSep Finset.univ (fun _ : Dev nD => (BI.emp : sProp Model)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v4_0 (by decide)), h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.InDxIdeal.Run

open Idealize.ShloMosaic Idealize.ShloMosaic.TcCoe Idealize.SL.Sem

namespace Cert.InDxClaim

open Cert.Reals Cert.InDxIdeal.Fold Cert.InDxIdeal.Run

variable {m : (ℓ : Loc Cert.InDxIdeal.nD Cert.InDxIdeal.τ Cert.InDxIdeal.sig) → Buf (Elt Ideal) ℓ}

/-- The precondition read at the arrays. -/
theorem finite (h : Cert.Pre_InDxIdeal_in_dx_finite (hPre_in_dx_finite := Cert.Pre_in_dx_finite.Gen.facts) m) (c : Dev Cert.InDxIdeal.nD) :
    (∀ i, IsReal (xs m c i)) ∧ (∀ i, IsReal (gs m c i)) ∧ (∀ i, IsReal (ws m c i)) ∧ ∀ i, IsReal (us m c i) := by
  obtain ⟨h0, h1, h2, h3⟩ := h c
  exact ⟨isReal_of_mask _ _ h0, isReal_of_mask _ _ h1, isReal_of_mask _ _ h2, isReal_of_mask _ _ h3⟩

/-- The scale gradient over all rows is the two halves' sum. -/
theorem halves (c : Dev Cert.InDxIdeal.nD) (k : Fin 2048) :
    ∑ r : Fin 8192, scaled m c k r = half0 m c (ix2 0 k) + half1 m c (ix2 0 k) :=
  Fin.sum_univ_add (a := 4096) (b := 4096) (scaled m c k)

theorem value : Cert.algebraic_InDxIdeal_InDxRefIdeal_pre_in_dx_finite (hInDxIdeal := Cert.InDxIdeal.Gen.facts)
    (hInDxRefIdeal := Cert.InDxRefIdeal.Gen.facts) (hPre_in_dx_finite := Cert.Pre_in_dx_finite.Gen.facts) := by
  intro m g m' g' hp hm
  refine ⟨fun c => Cert.InDxIdeal.Gen.W5 m g c _, fun c => Cert.InDxIdeal.Gen.W5 m g c _, Cert.InDxIdeal.Run.run m g, ?_⟩
  refine (θ_run _ _ _).mono (fun r h c => ?_) (Cert.InDxRefIdeal.Value.run (F := Ideal) m' g')
  obtain ⟨e0, e1, ha⟩ := h c
  obtain ⟨a0, a1, a2, a3, a4⟩ := hm c
  refine ⟨e0.trans ?_, e1.trans ?_, ha⟩
  · obtain ⟨hx, hg, hw, hu⟩ := finite hp c
    rw [Cert.InDxRefIdeal.Read.val_main_v40_eq, a0, a1, a2, a3, a4]
    funext i
    rw [eq_ix2 i]
    exact (Cert.InDxRefIdeal.Entries.dx_eq _ _ _ _ _ hx hg hw hu _ _).trans (final_dx m g c _ _).symm
  · refine (Cert.InDxRefIdeal.Read.val_main_v41_eq _ _ _).trans ?_
    rw [a0, a2, a3]
    funext i
    obtain ⟨k, rfl⟩ : ∃ k : Fin 2048, i = ix2 0 k := ⟨i 1, (eq_ix2 i).trans (congrArg (fun z : Fin 1 => ix2 z (i 1)) (Subsingleton.elim _ _))⟩
    exact ((Cert.InDxRefIdeal.Entries.dg_apply _ _ _ k).trans (halves c k)).trans (final_dg m g c k).symm

theorem frame_ref : Cert.quiescent_InDxRefIdeal (hInDxRefIdeal := Cert.InDxRefIdeal.Gen.facts) := fun m g _ =>
  (θ_run _ _ _).mono (fun r h => ⟨fun c => (h c).2.2, sem_eq_zero_of_no_sems (by decide) r.2⟩) (Cert.InDxRefIdeal.Value.run m g)

end Cert.InDxClaim

end
-- ==== Proof.LossCases.lean ====
/- What the kinds of grid point of the loss's call leave behind, each as the body's own payload of the blocks it reads: the
   accumulator after a point, and at a row tile's last point the gradient, its narrowed copy, the running loss and the
   running scale gradient. -/
module

public import proofs.«01_k».proof.Proof.Gen.LossIdeal.Value
public import Idealize.ShloMosaic.Lib.Pipeline.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.LossIdeal.Cases

open Cert.LossIdeal Cert.LossIdeal.Gen

variable {F : FTy → Type} [FloatOps F]

/-- Two zero offsets are the zero offsets. -/
theorem off2 : (![0, 0] : Fin 2 → Nat) = fun _ => 0 := funext fun a => by fin_cases a <;> rfl

section Points

variable (c : Dev nD) (i : grid0.Coords) (a2 : Memref sig .tc .vmem S512x2048 .f32) (h2 : a2.IsWhole) (a3 : Memref sig .tc .vmem S512x768 .bf16) (h3 : a3.IsWhole) (a4 : Memref sig .tc .vmem S768x2048 .bf16) (h4 : a4.IsWhole)
    (a5 : Memref sig .tc .vmem S1x2048 .f32) (h5 : a5.IsWhole) (a6 : Memref sig .tc .vmem S512x2048 .f32) (h6 : a6.IsWhole) (a7 : Memref sig .tc .vmem S512x2048 .f32) (h7 : a7.IsWhole)
    (a8 : Memref sig .tc .vmem S512x2048 .bf16) (h8 : a8.IsWhole) (a9 : Memref sig .tc .vmem S8x128 .f32) (h9 : a9.IsWhole) (a10 : Memref sig .tc .vmem S1x2048 .f32) (h10 : a10.IsWhole)
    (a11 : Memref sig .tc .vmem S512x2048 .f32) (h11 : a11.IsWhole)
    (x0 : Vec F S512x2048 .f32) (x1 : Vec F S512x768 .bf16) (x2 : Vec F S768x2048 .bf16) (x3 : Vec F S1x2048 .f32) (x4 : Vec F S512x2048 .f32)

/-- The first point of the grid starts the accumulator from zero and adds its block's products. -/
theorem acc_A (hc0 : cond0_0 i) (hc1 : cond0_1 i) (hc2 : ¬cond0_2 i) :
    sout0_A_0 c i a2 h2 a3 h3 a4 h4 a5 h5 a6 h6 a7 h7 a8 h8 a9 h9 a10 h10 a11 h11 hc0 hc1 hc2 x0 x1 x2 x3 x4 = k0_pay4 k0_pay3 x1 x2 := by
  unfold sout0_A_0
  rw [View.read_writes_eq_canon _ _ _ (scover0_A_0 c i a2 h2 a3 h3 a4 h4 a5 h5 a6 h6 a7 h7 a8 h8 a9 h9 a10 h10 a11 h11 hc0 hc1 hc2 x0 x1 x2 x3 x4)]
  unfold kernelRun0_A
  dsimp only
  sl_unfold_words
  rw [View.canon_cons_unit_zero (S := S512x2048) off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- The first point of a later row tile does the same. -/
theorem acc_D (hc0 : ¬cond0_0 i) (hc1 : cond0_1 i) (hc2 : ¬cond0_2 i) :
    sout0_D_0 c i a2 h2 a3 h3 a4 h4 a5 h5 a6 h6 a7 h7 a8 h8 a9 h9 a10 h10 a11 h11 hc0 hc1 hc2 x0 x1 x2 x3 x4 = k0_pay4 k0_pay3 x1 x2 := by
  unfold sout0_D_0
  rw [View.read_writes_eq_canon _ _ _ (scover0_D_0 c i a2 h2 a3 h3 a4 h4 a5 h5 a6 h6 a7 h7 a8 h8 a9 h9 a10 h10 a11 h11 hc0 hc1 hc2 x0 x1 x2 x3 x4)]
  unfold kernelRun0_D
  dsimp only
  sl_unfold_words
  rw [View.canon_cons_unit_zero (S := S512x2048) off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- A point in the middle of a row tile adds its block's products to what the point before left. -/
theorem acc_B (hc0 : ¬cond0_0 i) (hc1 : ¬cond0_1 i) (hc2 : ¬cond0_2 i) (acc : Vec F S512x2048 .f32) :
    sout0_B_0 c i a2 h2 a3 h3 a4 h4 a5 h5 a6 h6 a7 h7 a8 h8 a9 h9 a10 h10 a11 h11 hc0 hc1 hc2 x0 x1 x2 x3 x4 acc = k0_pay4 acc x1 x2 := by
  unfold sout0_B_0
  rw [View.read_writes_eq_canon _ _ _ (scover0_B_0 c i a2 h2 a3 h3 a4 h4 a5 h5 a6 h6 a7 h7 a8 h8 a9 h9 a10 h10 a11 h11 hc0 hc1 hc2 x0 x1 x2 x3 x4 acc)]
  unfold kernelRun0_B
  dsimp only
  sl_unfold_words
  rw [View.canon_unit_zero off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- So does the last point of a row tile. -/
theorem acc_C (hc0 : ¬cond0_0 i) (hc1 : ¬cond0_1 i) (hc2 : cond0_2 i) (ls : Vec F S8x128 .f32) (dg : Vec F S1x2048 .f32) (acc : Vec F S512x2048 .f32) :
    sout0_C_0 c i a2 h2 a3 h3 a4 h4 a5 h5 a6 h6 a7 h7 a8 h8 a9 h9 a10 h10 a11 h11 hc0 hc1 hc2 x0 x1 x2 x3 x4 ls dg acc = k0_pay4 acc x1 x2 := by
  unfold sout0_C_0
  rw [View.read_writes_eq_canon _ _ _ (scover0_C_0 c i a2 h2 a3 h3 a4 h4 a5 h5 a6 h6 a7 h7 a8 h8 a9 h9 a10 h10 a11 h11 hc0 hc1 hc2 x0 x1 x2 x3 x4 ls dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- At a row tile's last point the gradient's block is the loss's gradient at the finished rows. -/
theorem dx_C (hc0 : ¬cond0_0 i) (hc1 : ¬cond0_1 i) (hc2 : cond0_2 i) (ls : Vec F S8x128 .f32) (dg : Vec F S1x2048 .f32) (acc : Vec F S512x2048 .f32) :
    out0_C_5 c i a2 h2 a3 h3 a4 h4 a5 h5 a6 h6 a7 h7 a8 h8 a9 h9 a10 h10 a11 h11 hc0 hc1 hc2 x0 x1 x2 x3 x4 ls dg acc = k0_pay6 (k0_pay9 x0 (k0_pay4 acc x1 x2)) (k0_pay10 x3) (k0_pay11 x0 (k0_pay4 acc x1 x2)) (k0_pay14 x0 (k0_pay4 acc x1 x2) x3 x4) := by
  unfold out0_C_5
  rw [View.read_writes_eq_canon _ _ _ (cover0_C_5 c i a2 h2 a3 h3 a4 h4 a5 h5 a6 h6 a7 h7 a8 h8 a9 h9 a10 h10 a11 h11 hc0 hc1 hc2 x0 x1 x2 x3 x4 ls dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- The second result is that block, narrowed. -/
theorem dxb_C (hc0 : ¬cond0_0 i) (hc1 : ¬cond0_1 i) (hc2 : cond0_2 i) (ls : Vec F S8x128 .f32) (dg : Vec F S1x2048 .f32) (acc : Vec F S512x2048 .f32) :
    out0_C_6 c i a2 h2 a3 h3 a4 h4 a5 h5 a6 h6 a7 h7 a8 h8 a9 h9 a10 h10 a11 h11 hc0 hc1 hc2 x0 x1 x2 x3 x4 ls dg acc = k0_pay7 (k0_pay9 x0 (k0_pay4 acc x1 x2)) (k0_pay10 x3) (k0_pay11 x0 (k0_pay4 acc x1 x2)) (k0_pay14 x0 (k0_pay4 acc x1 x2) x3 x4) := by
  unfold out0_C_6
  rw [View.read_writes_eq_canon _ _ _ (cover0_C_6 c i a2 h2 a3 h3 a4 h4 a5 h5 a6 h6 a7 h7 a8 h8 a9 h9 a10 h10 a11 h11 hc0 hc1 hc2 x0 x1 x2 x3 x4 ls dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- The running loss gains the row tile's loss. -/
theorem loss_C (hc0 : ¬cond0_0 i) (hc1 : ¬cond0_1 i) (hc2 : cond0_2 i) (ls : Vec F S8x128 .f32) (dg : Vec F S1x2048 .f32) (acc : Vec F S512x2048 .f32) :
    out0_C_7 c i a2 h2 a3 h3 a4 h4 a5 h5 a6 h6 a7 h7 a8 h8 a9 h9 a10 h10 a11 h11 hc0 hc1 hc2 x0 x1 x2 x3 x4 ls dg acc = k0_pay13 x0 (k0_pay4 acc x1 x2) x3 x4 ls := by
  unfold out0_C_7
  rw [View.read_writes_eq_canon _ _ _ (cover0_C_7 c i a2 h2 a3 h3 a4 h4 a5 h5 a6 h6 a7 h7 a8 h8 a9 h9 a10 h10 a11 h11 hc0 hc1 hc2 x0 x1 x2 x3 x4 ls dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- The running scale gradient gains the row tile's column sums. -/
theorem dg_C (hc0 : ¬cond0_0 i) (hc1 : ¬cond0_1 i) (hc2 : cond0_2 i) (ls : Vec F S8x128 .f32) (dg : Vec F S1x2048 .f32) (acc : Vec F S512x2048 .f32) :
    out0_C_8 c i a2 h2 a3 h3 a4 h4 a5 h5 a6 h6 a7 h7 a8 h8 a9 h9 a10 h10 a11 h11 hc0 hc1 hc2 x0 x1 x2 x3 x4 ls dg acc = k0_pay5 (k0_pay11 x0 (k0_pay4 acc x1 x2)) (k0_pay14 x0 (k0_pay4 acc x1 x2) x3 x4) dg := by
  unfold out0_C_8
  rw [View.read_writes_eq_canon _ _ _ (cover0_C_8 c i a2 h2 a3 h3 a4 h4 a5 h5 a6 h6 a7 h7 a8 h8 a9 h9 a10 h10 a11 h11 hc0 hc1 hc2 x0 x1 x2 x3 x4 ls dg acc)]
  unfold kernelRun0_C
  dsimp only
  sl_unfold_words
  rw [View.canon_unit_zero off2]
  simp only [View.readAt_eq_ld, h2.read_unread, h3.read_unread, h4.read_unread, h5.read_unread, h6.read_unread, h9.read_unread, h10.read_unread, h11.read_unread,
    View.ld_unit_zero (S := S512x2048) off2, View.ld_unit_zero (S := S1x2048) off2, View.ld_unit_zero (S := S512x768) off2,
    View.ld_unit_zero (S := S768x2048) off2, View.ld_unit_zero (S := S8x128) off2, View.readCov_unit_zero (S := S512x2048) _ off2,
    View.readCov_unit_zero (S := S1x2048) _ off2, View.readCov_unit_zero (S := S8x128) _ off2]

/-- The first point of the grid clears the running loss. -/
theorem loss_A (hc0 : cond0_0 i) (hc1 : cond0_1 i) (hc2 : ¬cond0_2 i) :
    out0_A_7 c i a2 h2 a3 h3 a4 h4 a5 h5 a6 h6 a7 h7 a8 h8 a9 h9 a10 h10 a11 h11 hc0 hc1 hc2 x0 x1 x2 x3 x4 = k0_pay1 := by
  unfold out0_A_7
  rw [View.read_writes_eq_canon _ _ _ (cover0_A_7 c i a2 h2 a3 h3 a4 h4 a5 h5 a6 h6 a7 h7 a8 h8 a9 h9 a10 h10 a11 h11 hc0 hc1 hc2 x0 x1 x2 x3 x4)]
  unfold kernelRun0_A
  dsimp only
  sl_unfold_words
  rw [View.canon_unit_zero off2]

/-- The first point of the grid clears the running scale gradient. -/
theorem dg_A (hc0 : cond0_0 i) (hc1 : cond0_1 i) (hc2 : ¬cond0_2 i) :
    out0_A_8 c i a2 h2 a3 h3 a4 h4 a5 h5 a6 h6 a7 h7 a8 h8 a9 h9 a10 h10 a11 h11 hc0 hc1 hc2 x0 x1 x2 x3 x4 = k0_pay2 := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4)]
  unfold kernelRun0_A
  dsimp only
  sl_unfold_words
  rw [View.canon_unit_zero off2]

end Points

end Cert.LossIdeal.Cases

end
-- ==== Proof.LossBlocks.lean ====
/- What the input blocks of the loss's call hold: at grid point `t`, row tile `t / 8` and block `t % 8` of the product's
   middle dimension, each entry is an entry of the arrays the program is given. -/
module

public import proofs.«01_k».proof.Proof.LossCases
public import Idealize.ShloMosaic.Lib.Pointwise

@[expose] public section

set_option maxRecDepth 16384

noncomputable section

open Idealize.ShloMosaic Idealize.ShloMosaic.TcCoe Idealize.SL.Sem

namespace Cert.LossIdeal.Blocks

open Cert.LossIdeal Cert.LossIdeal.Gen

variable (m : (ℓ : Loc nD τ sig) → Buf (Elt Ideal) ℓ) (c : Dev nD)

/-- The argument arrays, at their shapes: the residual stream, the gated product, the weight, the scale and the target. -/
abbrev xs : FVec Ideal S8192x2048 .f32 := m ((c : Thread nD τ).loc main_arg0)
abbrev fs : FVec Ideal S8192x6144 .f32 := m ((c : Thread nD τ).loc main_arg1)
abbrev ws : FVec Ideal S1x6144x2048 .f32 := m ((c : Thread nD τ).loc main_arg2)
abbrev gs : FVec Ideal S2048 .f32 := m ((c : Thread nD τ).loc main_arg3)
abbrev ts : FVec Ideal S8192x2048 .f32 := m ((c : Thread nD τ).loc main_arg4)

/-- The block indices, over the whole grid. -/
theorem index0 : ∀ t : Fin cfg0.N, win0_0.index t 0 = t.val / 8 ∧ win0_0.index t 1 = 0 := by decide +kernel
theorem index1 : ∀ t : Fin cfg0.N, win0_1.index t 0 = t.val / 8 ∧ win0_1.index t 1 = t.val % 8 := by decide +kernel
theorem index2 : ∀ t : Fin cfg0.N, win0_2.index t 0 = t.val % 8 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val / 8 ∧ win0_4.index t 1 = 0 := by decide +kernel

/-- The gated product as the region finds it. -/
theorem cut_fs (r : Fin 8192) (j : Fin 6144) : V m c main_v0 (ix2 r j) = fs m c (ix2 r j) := by
  have e : V m c main_v0 = truncf .bf16 (fs m c) bitsLt_bf16_f32 := by
    show StableHlo.after hostOps0 _ (Proc.devRef .tc main_v0) = _
    after_results
  rw [e]
  pointwise []

/-- The weight as the region finds it. -/
theorem cut_ws (j : Fin 6144) (k : Fin 2048) : V m c main_v2 (ix2 j k) = ws m c (ix3 0 j k) := by
  have e : V m c main_v2 = truncf .bf16 (shapeCast S6144x2048 (ws m c) shapeCasts_S1x6144x2048_S6144x2048) bitsLt_bf16_f32 := by
    show StableHlo.after hostOps0 _ (Proc.devRef .tc main_v2) = _
    after_results
    rfl
  rw [e]
  pointwise []

/-- The scale as the region finds it. -/
theorem cut_gs (k : Fin 2048) : V m c main_v3 (ix2 0 k) = gs m c (ix1 k) := by
  have e : V m c main_v3 = shapeCast S1x2048 (gs m c) shapeCasts_S2048_S1x2048 := by
    show StableHlo.after hostOps0 _ (Proc.devRef .tc main_v3) = _
    after_results
    rfl
  rw [e]
  pointwise []

variable (t : Fin cfg0.N)

theorem tile_lt : t.val / 8 < 16 := by
  have h : t.val < 128 := N_0 ▸ t.isLt
  omega

/-- Row `r` of point `t`'s row tile. -/
abbrev row (r : Fin 512) : Fin 8192 := ⟨512 * (t.val / 8) + r.val, by have := tile_lt t; omega⟩

/-- Entry `j` of point `t`'s block of the middle dimension. -/
abbrev col (j : Fin 768) : Fin 6144 := ⟨768 * (t.val % 8) + j.val, by omega⟩

theorem block0 (r : Fin 512) (k : Fin 2048) : iblk m c 0 t (ix2 r k) = xs m c (ix2 (row t r) k) := by
  obtain ⟨e0, e1⟩ := index0 t
  unfold iblk
  rw [View.read_apply]
  show V m c main_arg0 _ = _
  rw [V_main_arg0]
  refine congrArg (xs m c) (funext fun a => Fin.ext ?_)
  match a with
  | ⟨0, _⟩ => show win0_0.index t 0 * 512 + 1 * r.val = 512 * (t.val / 8) + r.val; rw [e0]; omega
  | ⟨1, _⟩ => show win0_0.index t 1 * 2048 + 1 * k.val = k.val; rw [e1]; omega

theorem block1 (r : Fin 512) (j : Fin 768) : iblk m c 1 t (ix2 r j) = fs m c (ix2 (row t r) (col t j)) := by
  obtain ⟨e0, e1⟩ := index1 t
  refine Eq.trans ?_ (cut_fs m c (row t r) (col t j))
  unfold iblk
  rw [View.read_apply]
  show V m c main_v0 _ = _
  refine congrArg (V m c main_v0) (funext fun a => Fin.ext ?_)
  match a with
  | ⟨0, _⟩ => show win0_1.index t 0 * 512 + 1 * r.val = 512 * (t.val / 8) + r.val; rw [e0]; omega
  | ⟨1, _⟩ => show win0_1.index t 1 * 768 + 1 * j.val = 768 * (t.val % 8) + j.val; rw [e1]; omega

theorem block2 (j : Fin 768) (k : Fin 2048) : iblk m c 2 t (ix2 j k) = ws m c (ix3 0 (col t j) k) := by
  obtain ⟨e0, e1⟩ := index2 t
  refine Eq.trans ?_ (cut_ws m c (col t j) k)
  unfold iblk
  rw [View.read_apply]
  show V m c main_v2 _ = _
  refine congrArg (V m c main_v2) (funext fun a => Fin.ext ?_)
  match a with
  | ⟨0, _⟩ => show win0_2.index t 0 * 768 + 1 * j.val = 768 * (t.val % 8) + j.val; rw [e0]; omega
  | ⟨1, _⟩ => show win0_2.index t 1 * 2048 + 1 * k.val = k.val; rw [e1]; omega

theorem block3 (k : Fin 2048) : iblk m c 3 t (ix2 0 k) = gs m c (ix1 k) := by
  obtain ⟨e0, e1⟩ := index3 t
  refine Eq.trans ?_ (cut_gs m c k)
  unfold iblk
  rw [View.read_apply]
  show V m c main_v3 _ = _
  refine congrArg (V m c main_v3) (funext fun a => Fin.ext ?_)
  match a with
  | ⟨0, _⟩ => show win0_3.index t 0 * 1 + 1 * 0 = 0; rw [e0]
  | ⟨1, _⟩ => show win0_3.index t 1 * 2048 + 1 * k.val = k.val; rw [e1]; omega

theorem block4 (r : Fin 512) (k : Fin 2048) : iblk m c 4 t (ix2 r k) = ts m c (ix2 (row t r) k) := by
  obtain ⟨e0, e1⟩ := index4 t
  unfold iblk
  rw [View.read_apply]
  show V m c main_arg4 _ = _
  rw [V_main_arg4]
  refine congrArg (ts m c) (funext fun a => Fin.ext ?_)
  match a with
  | ⟨0, _⟩ => show win0_4.index t 0 * 512 + 1 * r.val = 512 * (t.val / 8) + r.val; rw [e0]; omega
  | ⟨1, _⟩ => show win0_4.index t 1 * 2048 + 1 * k.val = k.val; rw [e1]; omega

end Cert.LossIdeal.Blocks

end
-- ==== Proof.LossFold.lean ====
/- The carried values of the loss's call in closed form: the accumulator holds the products of the blocks met so far in its
   row tile, the running loss and the running scale gradient the row tiles finished so far, and a row tile's last point
   leaves the loss's gradient at the finished rows. -/
module

public import proofs.«01_k».proof.Proof.Sums
public import proofs.«01_k».proof.Proof.RowNorm
public import proofs.«01_k».proof.Proof.LossBlocks

@[expose] public section

set_option maxRecDepth 16384

noncomputable section

open Idealize.ShloMosaic Idealize.ShloMosaic.TcCoe Idealize.SL.Sem

/-! ## One row -/

namespace Cert.RowLoss

open Cert.RowNorm (width eps)

/-- The words of one half and of one over the row width. -/
abbrev half : EReal := Ideal.ofBits FTy.f32 1056964608#32
abbrev step : EReal := Ideal.ofBits FTy.f32 973078528#32

variable (z g t : Fin 2048 → EReal)

/-- The normalised, scaled row less its target. -/
def diff (k : Fin 2048) : EReal := z k * RowNorm.rrms width eps z * g k - t k

/-- The row's mean squared difference. -/
def meanSq : EReal := Ideal.div (∑ k, diff z g t k * diff z g t k) width

/-- The gradient reaching the normalised, scaled row. -/
def pull (k : Fin 2048) : EReal := diff z g t k * step

/-- The gradient reaching the row. -/
def grad (k : Fin 2048) : EReal := RowNorm.grad width eps z g (pull z g t) k

/-- The row's term of the scale gradient. -/
def scale (k : Fin 2048) : EReal := pull z g t k * (z k * RowNorm.rrms width eps z)

end Cert.RowLoss

namespace Cert.LossIdeal.Fold

open Cert.LossIdeal Cert.LossIdeal.Gen Cert.LossIdeal.Cases Cert.LossIdeal.Blocks Cert.Sums
open Cert.RowLoss (half)

variable (m : (ℓ : Loc nD τ sig) → Buf (Elt Ideal) ℓ) (c : Dev nD)

/-! ## One point -/

theorem acc_first (t : Fin cfg0.N) (h : t.val % 8 = 0) :
    (outsAt0 m c t.val t.isLt).2.2.2.2 = k0_pay4 (k0_pay3 (F := Ideal)) (iblk m c 1 t) (iblk m c 2 t) := by
  by_cases h0 : t.val % 128 = 0
  · rw [outsAt0_A m c t h0 h (by omega)]; dsimp only; rw [acc_A]
  · rw [outsAt0_D m c t h0 h (by omega)]; dsimp only; rw [acc_D]

theorem acc_next (n : ℕ) (hn : n + 1 < cfg0.N) (h : ¬(n + 1) % 8 = 0) :
    (outsAt0 m c (n + 1) hn).2.2.2.2
      = k0_pay4 (F := Ideal) (outsAt0 m c n (Nat.lt_of_succ_lt hn)).2.2.2.2 (iblk m c 1 ⟨n + 1, hn⟩) (iblk m c 2 ⟨n + 1, hn⟩) := by
  by_cases h2 : (n + 1) % 8 = 7
  · rw [outsAt0_C m c ⟨n + 1, hn⟩ (by dsimp only; omega) h h2]; dsimp only; rw [acc_C]; rfl
  · rw [outsAt0_B m c ⟨n + 1, hn⟩ (by dsimp only; omega) h h2]; dsimp only; rw [acc_B]; rfl

theorem sums_first (hn : 0 < cfg0.N) :
    (outsAt0 m c 0 hn).2.2.1 = k0_pay1 (F := Ideal) ∧ (outsAt0 m c 0 hn).2.2.2.1 = k0_pay2 (F := Ideal) := by
  rw [outsAt0_A m c ⟨0, hn⟩ rfl rfl (by dsimp only; omega)]; dsimp only; rw [loss_A, dg_A]; exact ⟨rfl, rfl⟩

theorem sums_keep (n : ℕ) (hn : n + 1 < cfg0.N) (h : ¬(n + 1) % 8 = 7) :
    (outsAt0 m c (n + 1) hn).2.2.1 = (outsAt0 m c n (Nat.lt_of_succ_lt hn)).2.2.1
      ∧ (outsAt0 m c (n + 1) hn).2.2.2.1 = (outsAt0 m c n (Nat.lt_of_succ_lt hn)).2.2.2.1 := by
  have hN : n + 1 < 128 := N_0 ▸ hn
  by_cases h1 : (n + 1) % 8 = 0
  · rw [outsAt0_D m c ⟨n + 1, hn⟩ (by dsimp only; omega) h1 h]; exact ⟨rfl, rfl⟩
  · rw [outsAt0_B m c ⟨n + 1, hn⟩ (by dsimp only; omega) h1 h]; exact ⟨rfl, rfl⟩

/-- What a row tile's last point leaves in the gradient's block, over the rows `x + a`, the scale and the targets. -/
abbrev gradBlock (x a t : Vec Ideal S512x2048 .f32) (g : Vec Ideal S1x2048 .f32) : Vec Ideal S512x2048 .f32 :=
  k0_pay6 (k0_pay9 x a) (k0_pay10 g) (k0_pay11 x a) (k0_pay14 x a g t)

/-- The same block, narrowed. -/
abbrev narrowBlock (x a t : Vec Ideal S512x2048 .f32) (g : Vec Ideal S1x2048 .f32) : Vec Ideal S512x2048 .bf16 :=
  k0_pay7 (k0_pay9 x a) (k0_pay10 g) (k0_pay11 x a) (k0_pay14 x a g t)

/-- A row tile's last point, from the finished accumulator. -/
theorem last (n : ℕ) (hn : n + 1 < cfg0.N) (h : (n + 1) % 8 = 7) :
    (outsAt0 m c (n + 1) hn).1 = gradBlock (iblk m c 0 ⟨n + 1, hn⟩) (outsAt0 m c (n + 1) hn).2.2.2.2 (iblk m c 4 ⟨n + 1, hn⟩) (iblk m c 3 ⟨n + 1, hn⟩)
      ∧ (outsAt0 m c (n + 1) hn).2.1 = narrowBlock (iblk m c 0 ⟨n + 1, hn⟩) (outsAt0 m c (n + 1) hn).2.2.2.2 (iblk m c 4 ⟨n + 1, hn⟩) (iblk m c 3 ⟨n + 1, hn⟩)
      ∧ (outsAt0 m c (n + 1) hn).2.2.1 = k0_pay13 (F := Ideal) (iblk m c 0 ⟨n + 1, hn⟩) (outsAt0 m c (n + 1) hn).2.2.2.2 (iblk m c 3 ⟨n + 1, hn⟩) (iblk m c 4 ⟨n + 1, hn⟩) (outsAt0 m c n (Nat.lt_of_succ_lt hn)).2.2.1
      ∧ (outsAt0 m c (n + 1) hn).2.2.2.1 = k0_pay5 (F := Ideal) (k0_pay11 (iblk m c 0 ⟨n + 1, hn⟩) (outsAt0 m c (n + 1) hn).2.2.2.2) (k0_pay14 (iblk m c 0 ⟨n + 1, hn⟩) (outsAt0 m c (n + 1) hn).2.2.2.2 (iblk m c 3 ⟨n + 1, hn⟩) (iblk m c 4 ⟨n + 1, hn⟩)) (outsAt0 m c n (Nat.lt_of_succ_lt hn)).2.2.2.1 := by
  rw [acc_next m c n hn (by omega), outsAt0_C m c ⟨n + 1, hn⟩ (by dsimp only; omega) (by dsimp only; omega) h]
  dsimp only
  exact ⟨by rw [dx_C]; rfl, by rw [dxb_C]; rfl, by rw [loss_C]; rfl, by rw [dg_C]; rfl⟩

/-! ## The fold -/

theorem pay3_apply (i : S512x2048.Idx) : k0_pay3 (F := Ideal) i = 0 := by
  pointwise [k0_pay3]

theorem pay4_apply (a : Vec Ideal S512x2048 .f32) (d : Vec Ideal S512x768 .bf16) (w : Vec Ideal S768x2048 .bf16)
    (r : Fin 512) (k : Fin 2048) : k0_pay4 a d w (ix2 r k) = a (ix2 r k) + ∑ j, d (ix2 r j) * w (ix2 j k) := by
  pointwise [k0_pay4]

/-- The product of the gated product's row `r` with the weight's column `k`, by entries. -/
abbrev terms (r : Fin 8192) (k : Fin 2048) (j : Fin 6144) : EReal := fs m c (ix2 r j) * ws m c (ix3 0 j k)

/-- The gated product's row times the weight. -/
abbrev prod (r : Fin 8192) (k : Fin 2048) : EReal := ∑ j, terms m c r k j

/-- A point's blocks of the gated product and of the weight. -/
abbrev fts (t : Fin cfg0.N) : Vec Ideal S512x768 .bf16 := iblk m c 1 t
abbrev wts (t : Fin cfg0.N) : Vec Ideal S768x2048 .bf16 := iblk m c 2 t

theorem block_sum (t : Fin cfg0.N) (r : Fin 512) (k : Fin 2048) :
    ∑ j : Fin 768, fts m c t (ix2 r j) * wts m c t (ix2 j k) = ∑ j, terms m c (row t r) k (col t j) :=
  Finset.sum_congr rfl fun j _ => congrArg₂ (· * ·) (block1 m c t r j) (block2 m c t j k)

theorem acc_apply : ∀ (n : ℕ) (hn : n < cfg0.N) (r : Fin 512) (k : Fin 2048),
    (outsAt0 m c n hn).2.2.2.2 (ix2 r k) = upto (terms m c (row ⟨n, hn⟩ r) k) (768 * (n % 8) + 768) := by
  have start (t : Fin cfg0.N) (h : t.val % 8 = 0) (r : Fin 512) (k : Fin 2048) :
      (outsAt0 m c t.val t.isLt).2.2.2.2 (ix2 r k) = upto (terms m c (row t r) k) (768 * (t.val % 8) + 768) := by
    rw [acc_first m c t h, pay4_apply, pay3_apply, block_sum, upto_add _ _ _ (by omega)]
    refine congrArg (· + _) ?_
    rw [show 768 * (t.val % 8) = 0 by omega]
    exact (upto_zero _).symm
  intro n
  induction n with
  | zero => exact fun hn r k => start ⟨0, hn⟩ rfl r k
  | succ n ih =>
    intro hn r k
    by_cases h : (n + 1) % 8 = 0
    · exact start ⟨n + 1, hn⟩ h r k
    · rw [acc_next m c n hn h, pay4_apply, ih, upto_add _ (768 * ((n + 1) % 8)) _ (by omega), block_sum]
      have e : row ⟨n, Nat.lt_of_succ_lt hn⟩ r = row ⟨n + 1, hn⟩ r := Fin.ext (by show 512 * (n / 8) + r.val = 512 * ((n + 1) / 8) + r.val; omega)
      rw [e, show 768 * (n % 8) + 768 = 768 * ((n + 1) % 8) by omega]

theorem acc_last (n : ℕ) (hn : n < cfg0.N) (h : n % 8 = 7) (r : Fin 512) (k : Fin 2048) :
    (outsAt0 m c n hn).2.2.2.2 (ix2 r k) = prod m c (row ⟨n, hn⟩ r) k := by
  rw [acc_apply, h]; exact upto_all _

/-- The row the loss normalises, the scale, and the row's target. -/
abbrev zs (r : Fin 8192) (k : Fin 2048) : EReal := xs m c (ix2 r k) + prod m c r k
abbrev scales (k : Fin 2048) : EReal := gs m c (ix1 k)
abbrev goals (r : Fin 8192) (k : Fin 2048) : EReal := ts m c (ix2 r k)

theorem gradBlock_apply (x a t : Vec Ideal S512x2048 .f32) (g : Vec Ideal S1x2048 .f32) (r : Fin 512) (k : Fin 2048) :
    gradBlock x a t g (ix2 r k)
      = RowLoss.grad (fun j => x (ix2 r j) + a (ix2 r j)) (fun j => g (ix2 0 j)) (fun j => t (ix2 r j)) k := by
  pointwise [gradBlock, k0_pay6, k0_pay8, k0_pay9, k0_pay10, k0_pay11, k0_pay12, k0_pay14]
  rfl

theorem pay13_apply (x a t : Vec Ideal S512x2048 .f32) (g : Vec Ideal S1x2048 .f32) (l : Vec Ideal S8x128 .f32) (i : Fin 8) (j : Fin 128) :
    k0_pay13 x a g t l (ix2 i j)
      = l (ix2 i j) + half * ∑ r : Fin 512, RowLoss.meanSq (fun j => x (ix2 r j) + a (ix2 r j)) (fun j => g (ix2 0 j)) fun j => t (ix2 r j) := by
  pointwise [k0_pay8, k0_pay9, k0_pay10, k0_pay11, k0_pay12, k0_pay14, k0_pay13]
  simp only [Fin.sum_univ_one]
  rfl

theorem pay5_apply (x a t : Vec Ideal S512x2048 .f32) (g l : Vec Ideal S1x2048 .f32) (k : Fin 2048) :
    k0_pay5 (k0_pay11 x a) (k0_pay14 x a g t) l (ix2 0 k)
      = l (ix2 0 k) + ∑ r : Fin 512, RowLoss.scale (fun j => x (ix2 r j) + a (ix2 r j)) (fun j => g (ix2 0 j)) (fun j => t (ix2 r j)) k := by
  pointwise [k0_pay5, k0_pay8, k0_pay9, k0_pay10, k0_pay11, k0_pay12, k0_pay14]
  rfl

theorem pay1_apply (i : S8x128.Idx) : k0_pay1 (F := Ideal) i = 0 := by
  pointwise [k0_pay1]

theorem pay2_apply (i : S1x2048.Idx) : k0_pay2 (F := Ideal) i = 0 := by
  pointwise [k0_pay2]

/-- One half goes inside a sum. -/
theorem half_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih]
    have e : half = ((1 / 2 : ℝ) : EReal) := Cert.Reals.lit_half
    exact EReal.left_distrib_of_nonneg_of_ne_top (by rw [e]; exact EReal.coe_nonneg.mpr (by norm_num)) (by rw [e]; exact EReal.coe_ne_top _) _ _

/-- A row's share of the loss, and of the scale gradient. -/
abbrev share (r : Fin 8192) : EReal := half * RowLoss.meanSq (zs m c r) (scales m c) (goals m c r)
abbrev scaled (k : Fin 2048) (r : Fin 8192) : EReal := RowLoss.scale (zs m c r) (scales m c) (goals m c r) k

theorem sums_apply : ∀ (n : ℕ) (hn : n < cfg0.N),
    (∀ i j, (outsAt0 m c n hn).2.2.1 (ix2 i j) = upto (share m c) (512 * ((n + 1) / 8)))
      ∧ ∀ k, (outsAt0 m c n hn).2.2.2.1 (ix2 0 k) = upto (scaled m c k) (512 * ((n + 1) / 8)) := by
  intro n
  induction n with
  | zero =>
    intro hn
    rw [(sums_first m c hn).1, (sums_first m c hn).2]
    exact ⟨fun i j => (pay1_apply _).trans (upto_zero _).symm, fun k => (pay2_apply _).trans (upto_zero _).symm⟩
  | succ n ih =>
    intro hn
    have hN : n + 1 < 128 := N_0 ▸ hn
    obtain ⟨il, ig⟩ := ih (Nat.lt_of_succ_lt hn)
    by_cases h : (n + 1) % 8 = 7
    · obtain ⟨-, -, el, eg⟩ := last m c n hn h
      rw [el, eg, show 512 * ((n + 1 + 1) / 8) = 512 * ((n + 1) / 8) + 512 by omega]
      refine ⟨fun i j => ?_, fun k => ?_⟩
      · rw [pay13_apply, il, upto_add _ _ _ (by omega), half_sum]
        refine congrArg _ (Finset.sum_congr rfl fun r _ => ?_)
        simp only [block0, block3, block4, acc_last m c _ hn h]
      · rw [pay5_apply, ig, upto_add _ _ _ (by omega)]
        refine congrArg _ (Finset.sum_congr rfl fun r _ => ?_)
        simp only [block0, block3, block4, acc_last m c _ hn h]
    · obtain ⟨el, eg⟩ := sums_keep m c n hn h
      rw [el, eg, show (n + 1 + 1) / 8 = (n + 1) / 8 by omega]
      exact ⟨il, ig⟩

/-- The gradient of row `r`. -/
abbrev gradient (r : Fin 8192) (k : Fin 2048) : EReal := RowLoss.grad (zs m c r) (scales m c) (goals m c r) k

theorem gradBlock_last (n : ℕ) (hn : n + 1 < cfg0.N) (h : (n + 1) % 8 = 7) (r : Fin 512) (k : Fin 2048) :
    gradBlock (iblk m c 0 ⟨n + 1, hn⟩) (outsAt0 m c (n + 1) hn).2.2.2.2 (iblk m c 4 ⟨n + 1, hn⟩) (iblk m c 3 ⟨n + 1, hn⟩) (ix2 r k)
      = gradient m c (row ⟨n + 1, hn⟩ r) k := by
  rw [gradBlock_apply]
  simp only [block0, block3, block4, acc_last m c _ hn h]

theorem dx_apply (n : ℕ) (hn : n + 1 < cfg0.N) (h : (n + 1) % 8 = 7) (r : Fin 512) (k : Fin 2048) :
    (outsAt0 m c (n + 1) hn).1 (ix2 r k) = gradient m c (row ⟨n + 1, hn⟩ r) k := by
  rw [(last m c n hn h).1, gradBlock_last m c n hn h]

theorem dxb_apply (n : ℕ) (hn : n + 1 < cfg0.N) (h : (n + 1) % 8 = 7) (r : Fin 512) (k : Fin 2048) :
    (outsAt0 m c (n + 1) hn).2.1 (ix2 r k) = gradient m c (row ⟨n + 1, hn⟩ r) k := by
  rw [(last m c n hn h).2.1]
  exact gradBlock_last m c n hn h r k

/-! ## The arrays -/

open Cert.LossIdeal.Value in
theorem array5 (r : Fin 8192) (k : Fin 2048) : G5 m c (ix2 r k) = gradient m c r k := by
  have hp : pt5Of (ix2 r k) = 8 * (r.val / 512) + 6 + 1 := by
    show 8 * (1 * (r.val / 512 - 0) + 1 * (k.val / 2048 - 0)) + 7 = _
    omega
  have hn : 8 * (r.val / 512) + 6 + 1 < cfg0.N := lt_of_lt_of_eq (by omega) N_0.symm
  have hl : loc5Of (ix2 r k) = ix2 ⟨r.val % 512, by omega⟩ k := funext fun a => Fin.ext <| match a with
    | ⟨0, _⟩ => rfl
    | ⟨1, _⟩ => Nat.mod_eq_of_lt k.isLt
  unfold G5
  rw [dif_pos (by rw [hp]; exact hn), fold0_congr m c _ _ _ (by omega) hp, ← outsAt0_sweep m c _ hn, hl, dx_apply m c _ hn (by omega)]
  exact congrArg (fun r => gradient m c r k) (Fin.ext (by show 512 * ((8 * (r.val / 512) + 6 + 1) / 8) + r.val % 512 = r.val; omega))

open Cert.LossIdeal.Value in
theorem array6 (r : Fin 8192) (k : Fin 2048) : G6 m c (ix2 r k) = gradient m c r k := by
  have hp : pt6Of (ix2 r k) = 8 * (r.val / 512) + 6 + 1 := by
    show 8 * (1 * (r.val / 512 - 0) + 1 * (k.val / 2048 - 0)) + 7 = _
    omega
  have hn : 8 * (r.val / 512) + 6 + 1 < cfg0.N := lt_of_lt_of_eq (by omega) N_0.symm
  have hl : loc6Of (ix2 r k) = ix2 ⟨r.val % 512, by omega⟩ k := funext fun a => Fin.ext <| match a with
    | ⟨0, _⟩ => rfl
    | ⟨1, _⟩ => Nat.mod_eq_of_lt k.isLt
  unfold G6
  rw [dif_pos (by rw [hp]; exact hn), fold0_congr m c _ _ _ (by omega) hp, ← outsAt0_sweep m c _ hn, hl, dxb_apply m c _ hn (by omega)]
  exact congrArg (fun r => gradient m c r k) (Fin.ext (by show 512 * ((8 * (r.val / 512) + 6 + 1) / 8) + r.val % 512 = r.val; omega))

/-- The loss, summed over the rows, and the scale gradient. -/
abbrev loss : EReal := ∑ r, share m c r
abbrev scaleGradient (k : Fin 2048) : EReal := ∑ r, scaled m c k r

open Cert.LossIdeal.Value in
theorem array7 (i : Fin 8) (j : Fin 128) : G7 m c (ix2 i j) = loss m c := by
  have hn : 127 < cfg0.N := lt_of_lt_of_eq (by decide) N_0.symm
  rw [G7_last, ← outsAt0_sweep m c _ hn]
  exact ((sums_apply m c 127 hn).1 i j).trans (upto_all (share m c))

open Cert.LossIdeal.Value in
theorem array8 (k : Fin 2048) : G8 m c (ix2 0 k) = scaleGradient m c k := by
  have hn : 127 < cfg0.N := lt_of_lt_of_eq (by decide) N_0.symm
  rw [G8_last, ← outsAt0_sweep m c _ hn]
  exact ((sums_apply m c 127 hn).2 k).trans (upto_all (scaled m c k))

end Cert.LossIdeal.Fold

end
-- ==== Proof.LossEq.lean ====
/- The loss's call: the entries of the reference's results, and their agreement with the kernel's. -/
module

public import proofs.«01_k».proof.Proof.LossFold
public import proofs.«01_k».proof.Proof.Gen.LossRefIdeal.Run
public import proofs.«01_k».proof.Proof.Gen.LossRefIdeal.Read

@[expose] public section

set_option maxRecDepth 16384

noncomputable section

open Idealize.ShloMosaic Idealize.ShloMosaic.TcCoe Idealize.SL.Sem

namespace Cert.LossRefIdeal.Entries

open Cert.LossRefIdeal Cert.LossRefIdeal.Gen Cert.LossRefIdeal.Read Cert.Reals Cert.RowLoss
open Cert.RowNorm (width eps)

variable (x t : FVec Ideal S8192x2048 .f32) (f : FVec Ideal S8192x6144 .f32) (w : FVec Ideal S1x6144x2048 .f32) (g : FVec Ideal S2048 .f32)

/-- The row the loss normalises, the scale, and the row's target. -/
abbrev zs (r : Fin 8192) (k : Fin 2048) : EReal := x (ix2 r k) + ∑ j : Fin 6144, f (ix2 r j) * w (ix3 0 j k)
abbrev scales (k : Fin 2048) : EReal := g (ix1 k)
abbrev goals (r : Fin 8192) (k : Fin 2048) : EReal := t (ix2 r k)

/-- The gradient reaching the normalised, scaled row as reverse differentiation forms it: half the mean's share of twice the
    difference. -/
abbrev pull' (z g t : Fin 2048 → EReal) (k : Fin 2048) : EReal :=
  Ideal.div half width * (Ideal.ofBits FTy.f32 1073741824#32 * diff z g t k)

theorem pull_eq (z g t : Fin 2048 → EReal) : pull' z g t = pull z g t := by
  funext k
  unfold pull' pull
  generalize diff z g t k = d
  rw [show half = _ from lit_half, show width = _ from lit_2048, show step = _ from lit_step, lit_two, Ideal.div_coe (by norm_num), ← mul_assoc,
    ← EReal.coe_mul, ← EReal.coe_mul, mul_comm]
  exact congrArg (fun r : ℝ => d * (r : EReal)) (by norm_num)

/-- The gradient reaching a row's mean square. -/
abbrev back (r : Fin 8192) : EReal :=
  RowNorm.back width eps (Ideal.ofBits FTy.f32 3204448256#32) (zs x f w r) (scales g) (pull' (zs x f w r) (scales g) (goals t r))

theorem dx_apply (r : Fin 8192) (k : Fin 2048) : val_main_v53 (F := Ideal) x f w g t (ix2 r k)
    = pull' (zs x f w r) (scales g) (goals t r) k * scales g k * RowNorm.rrms width eps (zs x f w r) + zs x f w r k * back x t f w g r
      + back x t f w g r * zs x f w r k := by
  pointwise [val_main_v0, val_main_v1, val_main_v2, val_main_v3, val_main_cst, val_main_v4, val_main_v5, val_main_cst_0, val_main_v6, val_main_v7,
    val_main_cst_1, val_main_v8, val_main_v9, val_main_v10, val_main_v11, val_main_cst_2, val_main_v12, val_main_v13, val_main_v14,
    val_main_v15, val_main_v16, val_main_v17, val_main_v18, val_main_v19, val_main_v20, val_main_cst_3, val_main_v21, val_main_v22,
    val_main_cst_4, val_main_v23, val_main_cst_5, val_main_v24, val_main_v25, val_main_cst_6, val_main_v26, val_main_cst_7, val_main_v27,
    val_main_cst_8, val_main_cst_9, val_main_v28, val_main_v29, val_main_cst_10, val_main_v30, val_main_v31, val_main_v32, val_main_v33,
    val_main_v34, val_main_cst_11, val_main_v35, val_main_v36, val_main_v37, val_main_v38, val_main_cst_12, val_main_v39, val_main_v40,
    val_main_cst_13, val_main_v41, val_main_v42, val_main_v43, val_main_v44, val_main_v45, val_main_cst_14, val_main_v46, val_main_v47,
    val_main_cst_15, val_main_v48, val_main_v49, val_main_v50, val_main_v51, val_main_v52, val_main_v53, val_main_v54, val_main_v55,
    val_main_v56]
  simp only [Fin.sum_univ_one]
  rfl

theorem loss_apply (i : Fin 8) (j : Fin 128) : val_main_v55 (F := Ideal) x f w g t (ix2 i j)
    = half * ∑ r : Fin 8192, RowLoss.meanSq (zs x f w r) (scales g) (goals t r) := by
  pointwise [val_main_v0, val_main_v1, val_main_v2, val_main_v3, val_main_cst, val_main_v4, val_main_v5, val_main_cst_0, val_main_v6, val_main_v7,
    val_main_cst_1, val_main_v8, val_main_v9, val_main_v10, val_main_v11, val_main_cst_2, val_main_v12, val_main_v13, val_main_v14,
    val_main_v15, val_main_v16, val_main_v17, val_main_v18, val_main_v19, val_main_v20, val_main_cst_3, val_main_v21, val_main_v22,
    val_main_cst_4, val_main_v23, val_main_cst_5, val_main_v24, val_main_v25, val_main_cst_6, val_main_v26, val_main_cst_7, val_main_v27,
    val_main_cst_8, val_main_cst_9, val_main_v28, val_main_v29, val_main_cst_10, val_main_v30, val_main_v31, val_main_v32, val_main_v33,
    val_main_v34, val_main_cst_11, val_main_v35, val_main_v36, val_main_v37, val_main_v38, val_main_cst_12, val_main_v39, val_main_v40,
    val_main_cst_13, val_main_v41, val_main_v42, val_main_v43, val_main_v44, val_main_v45, val_main_cst_14, val_main_v46, val_main_v47,
    val_main_cst_15, val_main_v48, val_main_v49, val_main_v50, val_main_v51, val_main_v52, val_main_v53, val_main_v54, val_main_v55,
    val_main_v56]
  rfl

theorem dg_apply (k : Fin 2048) : val_main_v56 (F := Ideal) x f w g t (ix2 0 k)
    = ∑ r : Fin 8192, zs x f w r k * RowNorm.rrms width eps (zs x f w r) * pull' (zs x f w r) (scales g) (goals t r) k := by
  pointwise [val_main_v0, val_main_v1, val_main_v2, val_main_v3, val_main_cst, val_main_v4, val_main_v5, val_main_cst_0, val_main_v6, val_main_v7,
    val_main_cst_1, val_main_v8, val_main_v9, val_main_v10, val_main_v11, val_main_cst_2, val_main_v12, val_main_v13, val_main_v14,
    val_main_v15, val_main_v16, val_main_v17, val_main_v18, val_main_v19, val_main_v20, val_main_cst_3, val_main_v21, val_main_v22,
    val_main_cst_4, val_main_v23, val_main_cst_5, val_main_v24, val_main_v25, val_main_cst_6, val_main_v26, val_main_cst_7, val_main_v27,
    val_main_cst_8, val_main_cst_9, val_main_v28, val_main_v29, val_main_cst_10, val_main_v30, val_main_v31, val_main_v32, val_main_v33,
    val_main_v34, val_main_cst_11, val_main_v35, val_main_v36, val_main_v37, val_main_v38, val_main_cst_12, val_main_v39, val_main_v40,
    val_main_cst_13, val_main_v41, val_main_v42, val_main_v43, val_main_v44, val_main_v45, val_main_cst_14, val_main_v46, val_main_v47,
    val_main_cst_15, val_main_v48, val_main_v49, val_main_v50, val_main_v51, val_main_v52, val_main_v53, val_main_v54, val_main_v55,
    val_main_v56]
  simp only [Fin.sum_univ_one]
  exact Finset.sum_congr rfl fun r _ => rfl

/-- The reference's loss and scale gradient in the kernel's form. -/
theorem loss_eq (i : Fin 8) (j : Fin 128) : val_main_v55 (F := Ideal) x f w g t (ix2 i j)
    = ∑ r : Fin 8192, half * RowLoss.meanSq (zs x f w r) (scales g) (goals t r) :=
  (loss_apply x t f w g i j).trans (Cert.LossIdeal.Fold.half_sum _ _)

theorem dg_eq (k : Fin 2048) : val_main_v56 (F := Ideal) x f w g t (ix2 0 k)
    = ∑ r : Fin 8192, RowLoss.scale (zs x f w r) (scales g) (goals t r) k := by
  rw [dg_apply]
  exact Finset.sum_congr rfl fun r _ => (mul_comm _ _).trans (congrArg (· * _) (congrFun (pull_eq _ _ _) k))

/-- The reference's gradient in the kernel's form, on finite rows. -/
theorem dx_eq (hx : ∀ i, IsReal (x i)) (hf : ∀ i, IsReal (f i)) (hw : ∀ i, IsReal (w i)) (hg : ∀ i, IsReal (g i)) (ht : ∀ i, IsReal (t i))
    (r : Fin 8192) (k : Fin 2048) :
    val_main_v53 (F := Ideal) x f w g t (ix2 r k) = RowLoss.grad (zs x f w r) (scales g) (goals t r) k := by
  have hz (j : Fin 2048) : IsReal (zs x f w r j) := (hx _).add (IsReal.sum fun _ => (hf _).mul (hw _))
  have ha (j : Fin 2048) : IsReal (pull (zs x f w r) (scales g) (goals t r) j) := by
    unfold pull diff
    exact ((((hz j).mul (RowNorm.rrms_real lit_2048_pos lit_eps hz)).mul (hg _)).sub (ht _)).mul ⟨_, lit_step⟩
  rw [dx_apply]
  unfold back
  rw [pull_eq]
  have key := RowNorm.grad_eq (x := zs x f w r) (g := scales g) (a := pull (zs x f w r) (scales g) (goals t r)) lit_2048_pos lit_eps lit_neg_half
    hz (fun j => hg _) ha 0 k
  rw [zero_add, zero_add] at key
  exact key.symm

end Cert.LossRefIdeal.Entries

end
-- ==== Proof.LossClaim.lean ====
/- The value claim of the loss's call: both programs run, and end with the same four arrays. -/
module

public import proofs.«01_k».proof.Defs
public import proofs.«01_k».proof.Proof.LossEq
public import proofs.«01_k».proof.Proof.Gen.Pre_loss_finite

@[expose] public section

set_option maxRecDepth 16384

noncomputable section

open Idealize.ShloMosaic Idealize.ShloMosaic.TcCoe Idealize.SL.Sem

namespace Cert.LossClaim

open Cert.Reals Cert.LossIdeal.Blocks Cert.LossIdeal.Fold

variable {m : (ℓ : Loc Cert.LossIdeal.nD Cert.LossIdeal.τ Cert.LossIdeal.sig) → Buf (Elt Ideal) ℓ}

/-- The precondition read at the arrays. -/
theorem finite (h : Cert.Pre_LossIdeal_loss_finite (hPre_loss_finite := Cert.Pre_loss_finite.Gen.facts) m) (c : Dev Cert.LossIdeal.nD) :
    (∀ i, IsReal (xs m c i)) ∧ (∀ i, IsReal (fs m c i)) ∧ (∀ i, IsReal (ws m c i)) ∧ (∀ i, IsReal (gs m c i)) ∧ ∀ i, IsReal (ts m c i) := by
  obtain ⟨h0, h1, h2, h3, h4⟩ := h c
  exact ⟨isReal_of_mask _ _ h0, isReal_of_mask _ _ h1, isReal_of_mask _ _ h2, isReal_of_mask _ _ h3, isReal_of_mask _ _ h4⟩

theorem value : Cert.algebraic_LossIdeal_LossRefIdeal_pre_loss_finite (hLossIdeal := Cert.LossIdeal.Gen.facts)
    (hLossRefIdeal := Cert.LossRefIdeal.Gen.facts) (hPre_loss_finite := Cert.Pre_loss_finite.Gen.facts) := by
  intro m g m' g' hp hm
  have dx (c : Dev Cert.LossIdeal.nD) (r : Fin 8192) (k : Fin 2048) :
      Cert.LossRefIdeal.Read.val_main_v53 (F := Ideal) (xs m c) (fs m c) (ws m c) (gs m c) (ts m c) (ix2 r k) = gradient m c r k := by
    obtain ⟨hx, hf, hw, hg, ht⟩ := finite hp c
    exact Cert.LossRefIdeal.Entries.dx_eq _ _ _ _ _ hx hf hw hg ht r k
  refine ⟨Cert.LossIdeal.Value.G5 m, Cert.LossIdeal.Value.G6 m, Cert.LossIdeal.Value.G7 m, Cert.LossIdeal.Value.G8 m, Cert.LossIdeal.Value.run m g, ?_⟩
  refine (θ_run _ _ _).mono (fun r h c => ?_) (Cert.LossRefIdeal.Value.run (F := Ideal) m' g')
  obtain ⟨e0, e1, e2, e3, ha⟩ := h c
  obtain ⟨a0, a1, a2, a3, a4⟩ := hm c
  refine ⟨e0.trans ?_, e1.trans ?_, e2.trans ?_, e3.trans ?_, ha⟩
  · rw [Cert.LossRefIdeal.Read.val_main_v53_eq, a0, a1, a2, a3, a4]
    funext i
    rw [eq_ix2 i]
    exact (dx c _ _).trans (array5 m c _ _).symm
  · rw [Cert.LossRefIdeal.Read.val_main_v54_eq, a0, a1, a2, a3, a4]
    funext i
    rw [eq_ix2 i]
    exact (dx c _ _).trans (array6 m c _ _).symm
  · refine (Cert.LossRefIdeal.Read.val_main_v55_eq _ _ _ _ _).trans ?_
    rw [a0, a1, a2, a3, a4]
    funext i
    rw [eq_ix2 i]
    exact (Cert.LossRefIdeal.Entries.loss_eq _ _ _ _ _ _ _).trans (array7 m c _ _).symm
  · refine (Cert.LossRefIdeal.Read.val_main_v56_eq _ _ _ _ _).trans ?_
    rw [a0, a1, a2, a3, a4]
    funext i
    obtain ⟨k, rfl⟩ : ∃ k : Fin 2048, i = ix2 0 k := ⟨i 1, (eq_ix2 i).trans (congrArg (fun z : Fin 1 => ix2 z (i 1)) (Subsingleton.elim _ _))⟩
    exact (Cert.LossRefIdeal.Entries.dg_eq _ _ _ _ _ k).trans (array8 m c k).symm

theorem frame_ref : Cert.quiescent_LossRefIdeal (hLossRefIdeal := Cert.LossRefIdeal.Gen.facts) := fun m g _ =>
  (θ_run _ _ _).mono (fun r h => ⟨fun c => (h c).2.2.2.2, sem_eq_zero_of_no_sems (by decide) r.2⟩) (Cert.LossRefIdeal.Value.run m g)

end Cert.LossClaim

end
-- ==== Proof.Gate.lean ====
/- The spatially gated unit on rows: its forward values (the activation, the row normalisation, the causal mixing within a
   chunk of rows) and the gradients the kernel forms from them. A chunk is a family of rows; every definition is a formula
   over the chunk's rows and the weights. -/
module

public import proofs.«01_k».proof.Proof.RowNorm

@[expose] public section

noncomputable section

open Idealize.ShloMosaic

namespace Cert.Gate

open Cert.Reals

/-- The words of the row width and of the two guards. -/
abbrev width : EReal := Ideal.ofBits FTy.f32 1149239296#32
abbrev epsL : EReal := Ideal.ofBits FTy.f32 925353388#32
abbrev epsR : EReal := Ideal.ofBits FTy.f32 897988541#32
/-- The activation's words: one half, the root of two over pi and its double; and its folded constants. -/
abbrev half : EReal := Ideal.ofBits FTy.f32 1056964608#32
abbrev root : EReal := Ideal.ofBits FTy.f32 1061962282#32
abbrev twoRoot : EReal := Ideal.ofBits FTy.f32 1070350890#32
abbrev rootCube : EReal := (((6693141 / 8388608) * (12003091 / 268435456) : ℝ) : EReal)
abbrev sixRootCube : EReal := (((6 * (6693141 / 8388608)) * (12003091 / 268435456) : ℝ) : EReal)

/-- The activation's gate, the activation and its derivative. -/
def share (z : EReal) : EReal := half * Ideal.tanh (z * (rootCube * (z * z) + root)) + half
def act (z : EReal) : EReal := z * share z
def slope (z : EReal) : EReal := share z + act z * (1 - share z) * (sixRootCube * (z * z) + twoRoot)

section Rows

variable {N : ℕ}

/-- A row less its mean, the reciprocal root of its variance, and the normalised row. -/
def center (d : EReal) (v : Fin N → EReal) (j : Fin N) : EReal := v j - Ideal.div (∑ k, v k) d
def recip (d e : EReal) (v : Fin N → EReal) : EReal := Ideal.rsqrt (Ideal.div (∑ k, center d v k * center d v k) d + e)
def standard (d e : EReal) (v : Fin N → EReal) (j : Fin N) : EReal := center d v j * recip d e v

/-- The gradient of the row normalisation, `h` the gradient reaching the normalised row. -/
def rowGrad (d e : EReal) (v h : Fin N → EReal) (j : Fin N) : EReal :=
  recip d e v * (h j - Ideal.div (∑ k, h k) d - standard d e v j * Ideal.div (∑ k, h k * standard d e v k) d)

end Rows

/-- The two halves of a row of the wide input, the head of a column and its place in the head. -/
abbrev left (j : Fin 1024) : Fin 2048 := ⟨j.1, by omega⟩
abbrev right (j : Fin 1024) : Fin 2048 := ⟨1024 + j.1, by omega⟩
abbrev head (j : Fin 1024) : Fin 8 := ⟨j.1 / 128, by omega⟩
abbrev lane (j : Fin 1024) : Fin 128 := ⟨j.1 % 128, by omega⟩

/-- A row's gate and value halves, activated. -/
def gate (R : Fin 2048 → EReal) (j : Fin 1024) : EReal := act (R (left j))
def value (R : Fin 2048 → EReal) (j : Fin 1024) : EReal := act (R (right j))

variable (vg vb og : Fin 1024 → EReal) (w b : Fin 8 → Fin 128 → Fin 128 → EReal) (P : Fin 128 → Fin 2048 → EReal)
  (Y : Fin 128 → Fin 1024 → EReal)

/-- The normalised value row, scaled and shifted. -/
def normed (R : Fin 2048 → EReal) (j : Fin 1024) : EReal := standard width epsL (value R) j * vg j + vb j

/-- The mixed values: row `p` of a chunk takes the rows up to itself. -/
def mixed (p : Fin 128) (j : Fin 1024) : EReal :=
  (∑ s : Fin 128, if s ≤ p then w (head j) p s * normed vg vb (P s) j else 0) + b (head j) p (lane j)

/-- The gated row, and the gradient reaching it. -/
def gated (p : Fin 128) (j : Fin 1024) : EReal := gate (P p) j * mixed vg vb w b P p j
def pulled (p : Fin 128) (j : Fin 1024) : EReal := RowNorm.grad width epsR (gated vg vb w b P p) og (Y p) j

/-- The gradient reaching the mixed values, and through the mixing the normalised values. -/
def dmix (p : Fin 128) (j : Fin 1024) : EReal := pulled vg vb og w b P Y p j * gate (P p) j
def dnorm (s : Fin 128) (j : Fin 1024) : EReal :=
  ∑ p : Fin 128, if s ≤ p then w (head j) p s * dmix vg vb og w b P Y p j else 0

/-- The gradient of the wide input, by halves. -/
def dgate (p : Fin 128) (j : Fin 1024) : EReal := pulled vg vb og w b P Y p j * mixed vg vb w b P p j
def dvalue (p : Fin 128) (j : Fin 1024) : EReal :=
  rowGrad width epsL (value (P p)) (fun k => dnorm vg vb og w b P Y p k * vg k) j
def dwide (p : Fin 128) (k : Fin 2048) : EReal :=
  (if h : k.1 < 1024 then dgate vg vb og w b P Y p ⟨k.1, h⟩ else dvalue vg vb og w b P Y p ⟨k.1 - 1024, by omega⟩)
    * slope (P p k)

/-- What a row adds to the gradients of the two scales and the shift. -/
def dog (p : Fin 128) (j : Fin 1024) : EReal :=
  Y p j * (gated vg vb w b P p j * RowNorm.rrms width epsR (gated vg vb w b P p))
def dvg (p : Fin 128) (j : Fin 1024) : EReal := dnorm vg vb og w b P Y p j * standard width epsL (value (P p)) j

/-- Column `q` of head `h`. -/
abbrev col (h : Fin 8) (q : Fin 128) : Fin 1024 := ⟨128 * h.1 + q.1, by omega⟩

/-- What column `q` of head `h` of a chunk adds to the gradient of the mixing weight at rows `p` and `s`. -/
def dweight (h : Fin 8) (p s q : Fin 128) : EReal :=
  dmix vg vb og w b P Y p (col h q) * normed vg vb (P s) (col h q)

end Cert.Gate

end
-- ==== Proof.GateEq.lean ====
/- The gated unit's formulas against those that reverse differentiation of the forward lines gives: the activation and its
   derivative, and the gradients of the two row normalisations, on rows of real numbers. -/
module

public import proofs.«01_k».proof.Proof.Gate

@[expose] public section

noncomputable section

open Idealize.ShloMosaic

namespace Cert.Gate

open Cert.Reals

/-! ## The literals -/

theorem lit_width : width = ((1024 : ℝ) : EReal) := by
  simp [Ideal.ofBits, Ideal.ieee, -EReal.coe_mul]; norm_num
theorem lit_width_pos : ∃ r : ℝ, 0 < r ∧ width = (r : EReal) := ⟨1024, by norm_num, lit_width⟩
theorem lit_epsL : ∃ e : ℝ, 0 < e ∧ epsL = (e : EReal) := by
  refine ⟨10995116 * 2 ^ (-40 : ℤ), by positivity, ?_⟩
  simp [Ideal.ofBits, Ideal.ieee, -EReal.coe_mul]
theorem lit_root : root = ((6693141 / 8388608 : ℝ) : EReal) := by
  simp [Ideal.ofBits, Ideal.ieee, -EReal.coe_mul]; norm_num
theorem lit_twoRoot : twoRoot = ((2 * (6693141 / 8388608) : ℝ) : EReal) := by
  simp [Ideal.ofBits, Ideal.ieee, -EReal.coe_mul]; norm_num

/-- The words of three and of the activation's cubic coefficient. -/
abbrev three : EReal := Ideal.ofBits FTy.f32 1077936128#32
abbrev cube : EReal := Ideal.ofBits FTy.f32 1027024659#32

theorem lit_three : three = ((3 : ℝ) : EReal) := by
  simp [Ideal.ofBits, Ideal.ieee, -EReal.coe_mul]; norm_num
theorem lit_cube : cube = ((12003091 / 268435456 : ℝ) : EReal) := by
  simp [Ideal.ofBits, Ideal.ieee, -EReal.coe_mul]; norm_num

/-! ## The activation -/

/-- The hyperbolic tangent inside the forward line's activation; that activation, and what its reverse makes of the
    gradient `d` reaching it. -/
def bend (z : EReal) : EReal := Ideal.tanh (root * (z + cube * (z * z * z)))
def share' (z : EReal) : EReal := half * (1 + bend z)
def act' (z : EReal) : EReal := z * share' z
def actBack (z d : EReal) : EReal :=
  d * share' z + root * (half * (z * d) * ((1 + bend z) * (1 - bend z)))
    + cube * (root * (half * (z * d) * ((1 + bend z) * (1 - bend z)))) * (three * (z * z))

theorem bend_coe (z : ℝ) : bend (z : EReal) = ((Real.tanh (6693141 / 8388608 * (z + 12003091 / 268435456 * (z * z * z))) : ℝ) : EReal) := by
  unfold bend
  rw [lit_root, lit_cube]
  simp only [← EReal.coe_mul, ← EReal.coe_add, Ideal.tanh_coe]

theorem share_coe (z : ℝ) : share (z : EReal)
    = ((1 / 2 * Real.tanh (6693141 / 8388608 * (z + 12003091 / 268435456 * (z * z * z))) + 1 / 2 : ℝ) : EReal) := by
  unfold share
  rw [lit_root, show half = _ from lit_half]
  unfold rootCube
  simp only [← EReal.coe_mul, ← EReal.coe_add, Ideal.tanh_coe]
  refine congrArg (fun r : ℝ => ((1 / 2 * Real.tanh r + 1 / 2 : ℝ) : EReal)) (by ring)

theorem act_coe (z : ℝ) : act (z : EReal)
    = ((z * (1 / 2 * Real.tanh (6693141 / 8388608 * (z + 12003091 / 268435456 * (z * z * z))) + 1 / 2) : ℝ) : EReal) := by
  unfold act
  rw [share_coe, ← EReal.coe_mul]

theorem act_eq {z : EReal} (hz : IsReal z) : act' z = act z := by
  obtain ⟨z, rfl⟩ := hz
  rw [act_coe]
  unfold act' share'
  rw [bend_coe, show half = _ from lit_half, show (1 : EReal) = ((1 : ℝ) : EReal) from rfl]
  simp only [← EReal.coe_mul, ← EReal.coe_add]
  exact congrArg (fun r : ℝ => (r : EReal)) (by ring)

theorem act_real {z : EReal} (hz : IsReal z) : IsReal (act z) := by
  obtain ⟨z, rfl⟩ := hz
  rw [act_coe]
  exact isReal_coe _

theorem actBack_eq {z d : EReal} (hz : IsReal z) (hd : IsReal d) : actBack z d = d * slope z := by
  obtain ⟨z, rfl⟩ := hz
  obtain ⟨d, rfl⟩ := hd
  unfold actBack slope share'
  rw [act_coe, share_coe, bend_coe, lit_root, lit_cube, lit_three, lit_twoRoot, show half = _ from lit_half,
    show (1 : EReal) = ((1 : ℝ) : EReal) from rfl]
  unfold sixRootCube
  simp only [← EReal.coe_mul, ← EReal.coe_add, ← EReal.coe_sub]
  refine congrArg (fun r : ℝ => (r : EReal)) ?_
  generalize Real.tanh _ = T
  ring

/-! ## The row normalisation -/

variable {N : ℕ}

theorem center_coe {d : ℝ} (hd : d ≠ 0) (v : Fin N → ℝ) (j : Fin N) :
    center (d : EReal) (fun k => (v k : EReal)) j = ((v j - (∑ k, v k) * (1 / d) : ℝ) : EReal) := by
  unfold center
  simp only [← coe_sum]
  rw [Ideal.div_coe hd, ← EReal.coe_mul, ← EReal.coe_sub]

theorem center_real {d : EReal} (hd : ∃ r : ℝ, 0 < r ∧ d = (r : EReal)) {v : Fin N → EReal} (hv : ∀ k, IsReal (v k)) (j : Fin N) :
    IsReal (center d v j) := by
  obtain ⟨d, hd, rfl⟩ := hd
  choose v' hv using hv
  obtain rfl : v = fun k => (v' k : EReal) := funext hv
  rw [center_coe hd.ne']
  exact isReal_coe _

/-- The reciprocal root of a row's variance is that of its centred row's mean square. -/
theorem recip_eq (d e : EReal) (v : Fin N → EReal) : recip d e v = RowNorm.rrms d e (center d v) := rfl

theorem recip_real {d e : EReal} (hd : ∃ r : ℝ, 0 < r ∧ d = (r : EReal)) (he : ∃ r : ℝ, 0 < r ∧ e = (r : EReal)) {v : Fin N → EReal}
    (hv : ∀ k, IsReal (v k)) : IsReal (recip d e v) :=
  RowNorm.rrms_real hd he (center_real hd hv)

theorem standard_real {d e : EReal} (hd : ∃ r : ℝ, 0 < r ∧ d = (r : EReal)) (he : ∃ r : ℝ, 0 < r ∧ e = (r : EReal)) {v : Fin N → EReal}
    (hv : ∀ k, IsReal (v k)) (j : Fin N) : IsReal (standard d e v j) :=
  (center_real hd hv j).mul (recip_real hd he hv)

/-- What reverse differentiation gives for a row less its mean, `c` the centred row, `h` the gradient reaching the normalised
    one, `n` standing for minus one half. -/
def centerBack (d e n : EReal) (c h : Fin N → EReal) (j : Fin N) : EReal :=
  h j * RowNorm.rrms d e c + c j * Ideal.div ((∑ k, c k * h k) * (n * Ideal.div (RowNorm.rrms d e c) (RowNorm.meanSq d e c))) d
    + Ideal.div ((∑ k, c k * h k) * (n * Ideal.div (RowNorm.rrms d e c) (RowNorm.meanSq d e c))) d * c j

/-- The two forms of the row normalisation's gradient agree on real rows. -/
theorem rowGrad_eq [NeZero N] {d e n : EReal} (hd : d = ((N : ℝ) : EReal)) (he : ∃ r : ℝ, 0 < r ∧ e = (r : EReal)) (hn : n = ((-1 / 2 : ℝ) : EReal))
    {v h : Fin N → EReal} (hv : ∀ k, IsReal (v k)) (hh : ∀ k, IsReal (h k)) (j : Fin N) :
    centerBack d e n (center d v) h j + Ideal.div (∑ k, -centerBack d e n (center d v) h k) d = rowGrad d e v h j := by
  obtain ⟨e, he, rfl⟩ := he
  subst hd hn
  choose v' hv using hv
  choose h' hh using hh
  obtain rfl : v = fun k => (v' k : EReal) := funext hv
  obtain rfl : h = fun k => (h' k : EReal) := funext hh
  have hN : (0 : ℝ) < (N : ℝ) := Nat.cast_pos.mpr (Nat.pos_of_ne_zero (NeZero.ne N))
  obtain ⟨c, ec, zero⟩ : ∃ c : Fin N → ℝ, center ((N : ℝ) : EReal) (fun k => (v' k : EReal)) = (fun k => (c k : EReal)) ∧ ∑ k, c k = 0 := by
    refine ⟨fun k => v' k - (∑ k, v' k) * (1 / (N : ℝ)), funext fun k => center_coe hN.ne' v' k, ?_⟩
    rw [Finset.sum_sub_distrib, Finset.sum_const, Finset.card_univ, Fintype.card_fin, nsmul_eq_mul]
    field_simp
    ring
  unfold rowGrad standard centerBack
  rw [recip_eq, ec]
  have hV := RowNorm.meanSq_pos hN he c
  simp only [RowNorm.rrms_coe hN he, RowNorm.meanSq_coe hN.ne', ← EReal.coe_mul, ← coe_sum, Ideal.div_coe hV.ne', Ideal.div_coe hN.ne',
    ← EReal.coe_sub, ← EReal.coe_add, ← EReal.coe_neg]
  refine congrArg (fun r : ℝ => (r : EReal)) ?_
  set V := (∑ k, c k * c k) / (N : ℝ) + e
  have hs : (√V)⁻¹ * (√V)⁻¹ = V⁻¹ := by rw [← mul_inv, Real.mul_self_sqrt hV.le]
  have e1 : ∑ k, h' k * (c k * (√V)⁻¹) = (∑ k, c k * h' k) * (√V)⁻¹ := by
    rw [Finset.sum_mul]; exact Finset.sum_congr rfl fun k _ => by ring
  have e2 (a b : ℝ) : ∑ k, -(h' k * a + c k * b + b * c k) = -((∑ k, h' k) * a) := by
    rw [Finset.sum_neg_distrib, Finset.sum_add_distrib, Finset.sum_add_distrib, ← Finset.sum_mul, ← Finset.sum_mul, ← Finset.mul_sum, zero]
    ring
  rw [e1, e2]
  clear_value V
  generalize (∑ k, c k * h' k) = s
  generalize (√V)⁻¹ = r at hs ⊢
  generalize (∑ k, h' k) = H
  linear_combination (c j * s * r * (1 / (N : ℝ))) * hs

/-! ## The unit's rows -/

variable {vg vb og : Fin 1024 → EReal} {w b : Fin 8 → Fin 128 → Fin 128 → EReal} {P : Fin 128 → Fin 2048 → EReal}
  {Y : Fin 128 → Fin 1024 → EReal}

theorem gate_real (hP : ∀ p k, IsReal (P p k)) (p : Fin 128) (j : Fin 1024) : IsReal (gate (P p) j) := act_real (hP p _)
theorem value_real (hP : ∀ p k, IsReal (P p k)) (p : Fin 128) (j : Fin 1024) : IsReal (value (P p) j) := act_real (hP p _)

theorem sum_if_real {ι : Type*} [Fintype ι] (q : ι → Prop) [DecidablePred q] {f : ι → EReal} (h : ∀ i, IsReal (f i)) :
    IsReal (∑ i, if q i then f i else 0) :=
  IsReal.sum fun i => by
    by_cases hi : q i
    · rw [if_pos hi]; exact h i
    · rw [if_neg hi]; exact isReal_coe 0

theorem normed_real (hvg : ∀ j, IsReal (vg j)) (hvb : ∀ j, IsReal (vb j)) (hP : ∀ p k, IsReal (P p k)) (p : Fin 128) (j : Fin 1024) :
    IsReal (normed vg vb (P p) j) :=
  ((standard_real lit_width_pos lit_epsL (value_real hP p) j).mul (hvg j)).add (hvb j)

theorem mixed_real (hvg : ∀ j, IsReal (vg j)) (hvb : ∀ j, IsReal (vb j)) (hw : ∀ h p s, IsReal (w h p s)) (hb : ∀ h p s, IsReal (b h p s))
    (hP : ∀ p k, IsReal (P p k)) (p : Fin 128) (j : Fin 1024) : IsReal (mixed vg vb w b P p j) :=
  (sum_if_real _ fun s => (hw _ _ _).mul (normed_real hvg hvb hP s j)).add (hb _ _ _)

theorem gated_real (hvg : ∀ j, IsReal (vg j)) (hvb : ∀ j, IsReal (vb j)) (hw : ∀ h p s, IsReal (w h p s)) (hb : ∀ h p s, IsReal (b h p s))
    (hP : ∀ p k, IsReal (P p k)) (p : Fin 128) (j : Fin 1024) : IsReal (gated vg vb w b P p j) :=
  (gate_real hP p j).mul (mixed_real hvg hvb hw hb hP p j)

theorem pulled_real (hvg : ∀ j, IsReal (vg j)) (hvb : ∀ j, IsReal (vb j)) (hog : ∀ j, IsReal (og j)) (hw : ∀ h p s, IsReal (w h p s))
    (hb : ∀ h p s, IsReal (b h p s)) (hP : ∀ p k, IsReal (P p k)) (hY : ∀ p k, IsReal (Y p k)) (p : Fin 128) (j : Fin 1024) :
    IsReal (pulled vg vb og w b P Y p j) := by
  have hz := gated_real hvg hvb hw hb hP p
  have hr := RowNorm.rrms_real lit_width_pos lit_eps hz
  refine hr.mul (((hY p j).mul (hog j)).sub (((hz j).mul hr).mul ?_))
  have hs := IsReal.sum (s := Finset.univ) fun k => ((hY p k).mul (hog k)).mul ((hz k).mul hr)
  generalize RowNorm.rrms width epsR (gated vg vb w b P p) = r at hs ⊢
  rw [lit_width, Ideal.div_coe (by norm_num)]
  exact hs.mul (isReal_coe _)

theorem dmix_real (hvg : ∀ j, IsReal (vg j)) (hvb : ∀ j, IsReal (vb j)) (hog : ∀ j, IsReal (og j)) (hw : ∀ h p s, IsReal (w h p s))
    (hb : ∀ h p s, IsReal (b h p s)) (hP : ∀ p k, IsReal (P p k)) (hY : ∀ p k, IsReal (Y p k)) (p : Fin 128) (j : Fin 1024) :
    IsReal (dmix vg vb og w b P Y p j) :=
  (pulled_real hvg hvb hog hw hb hP hY p j).mul (gate_real hP p j)

theorem dnorm_real (hvg : ∀ j, IsReal (vg j)) (hvb : ∀ j, IsReal (vb j)) (hog : ∀ j, IsReal (og j)) (hw : ∀ h p s, IsReal (w h p s))
    (hb : ∀ h p s, IsReal (b h p s)) (hP : ∀ p k, IsReal (P p k)) (hY : ∀ p k, IsReal (Y p k)) (s : Fin 128) (j : Fin 1024) :
    IsReal (dnorm vg vb og w b P Y s j) :=
  sum_if_real _ fun p => (hw _ _ _).mul (dmix_real hvg hvb hog hw hb hP hY p j)

theorem div_width_real {x : EReal} (hx : IsReal x) : IsReal (Ideal.div x width) := by
  rw [lit_width, Ideal.div_coe (by norm_num)]
  exact hx.mul (isReal_coe _)

theorem rowGrad_real {v h : Fin 1024 → EReal} (hv : ∀ k, IsReal (v k)) (hh : ∀ k, IsReal (h k)) (j : Fin 1024) : IsReal (rowGrad width epsL v h j) := by
  have hs := standard_real lit_width_pos lit_epsL hv
  exact (recip_real lit_width_pos lit_epsL hv).mul (((hh j).sub (div_width_real (IsReal.sum hh))).sub
    ((hs j).mul (div_width_real (IsReal.sum fun k => (hh k).mul (hs k)))))

/-- The gradient reaching the activated input, by halves. -/
theorem halves_real (hvg : ∀ j, IsReal (vg j)) (hvb : ∀ j, IsReal (vb j)) (hog : ∀ j, IsReal (og j)) (hw : ∀ h p s, IsReal (w h p s))
    (hb : ∀ h p s, IsReal (b h p s)) (hP : ∀ p k, IsReal (P p k)) (hY : ∀ p k, IsReal (Y p k)) (p : Fin 128) (k : Fin 2048) :
    IsReal (if h : k.1 < 1024 then dgate vg vb og w b P Y p ⟨k.1, h⟩ else dvalue vg vb og w b P Y p ⟨k.1 - 1024, by omega⟩) := by
  split
  · exact (pulled_real hvg hvb hog hw hb hP hY p _).mul (mixed_real hvg hvb hw hb hP p _)
  · exact rowGrad_real (value_real hP p) (fun i => (dnorm_real hvg hvb hog hw hb hP hY p i).mul (hvg i)) _

end Cert.Gate

end
-- ==== Proof.GmTile.lean ====
/- The stages of the gated unit's tile, read from the body's own run values at an index: the normalised values, the mixed
   values it keeps in its scratch, the gradient that reaches them and what the mixing hands back. A tile is four chunks of
   128 rows. -/
module

public import proofs.«01_k».proof.Proof.Gen.GmIdeal.Value
public import proofs.«01_k».proof.Proof.Gate
public import Idealize.ShloMosaic.Lib.Pipeline.ValueKit
public import Idealize.ShloMosaic.Lib.Pointwise
public import Idealize.ShloMosaic.Lib.Tactic

@[expose] public section
set_option maxRecDepth 16384
noncomputable section
open Idealize.ShloMosaic Idealize.ShloMosaic.TcCoe Idealize.SL.Sem
namespace Cert.GmIdeal.Cases
open Cert.GmIdeal Cert.GmIdeal.Gen

/-! ### Rows, chunks, heads -/

/-- Two zero offsets are the zero offsets. -/
theorem off2 : (![0, 0] : Fin 2 → Nat) = fun _ => 0 := funext fun a => by fin_cases a <;> rfl

/-- Row `p` of a tile's chunk `k`; and a tile row's chunk and its place in it. -/
abbrev at4 (k : Fin 4) (p : Fin 128) : Fin 512 := ⟨128 * k.1 + p.1, by omega⟩
abbrev chunk (a : Fin 512) : Fin 4 := ⟨a.1 / 128, by omega⟩
abbrev place (a : Fin 512) : Fin 128 := ⟨a.1 % 128, by omega⟩

theorem at4_chunk (a : Fin 512) : at4 (chunk a) (place a) = a := Fin.ext (Nat.div_add_mod a.1 128)

theorem chunk_at4 (k : Fin 4) (p : Fin 128) : chunk (at4 k p) = k := Fin.ext (by show (128 * k.1 + p.1) / 128 = k.1; omega)
theorem place_at4 (k : Fin 4) (p : Fin 128) : place (at4 k p) = p := Fin.ext (by show (128 * k.1 + p.1) % 128 = p.1; omega)

/-- The rows of chunk `k` of a tile. -/
def rows {n : ℕ} (x : (⟨2, ![512, n]⟩ : Shape).Idx → EReal) (k : Fin 4) : Fin 128 → Fin n → EReal :=
  fun p j => x (ix2 (at4 k p) j)
/-- A one-row matrix as a row, and a stack of heads by head. -/
abbrev line {n : ℕ} (v : (⟨2, ![1, n]⟩ : Shape).Idx → EReal) : Fin n → EReal := fun j => v (ix2 0 j)
abbrev heads (w : S8x128x128.Idx → EReal) : Fin 8 → Fin 128 → Fin 128 → EReal := fun h p s => w (ix3 h p s)

/-- A whole-window load reads the block it was handed. -/
theorem whole2 {sg : RefSig} {S : Shape} {e : EltTy} (a : Memref sg .tc .vmem S e) (h : a.IsWhole) (x : Vec Ideal S e)
    (off : Fin S.rank → Nat) (ho : off = fun _ => 0) (inb : ∀ k, off k + S.size k ≤ S.size k) :
    View.readAt (Elt Ideal) a.view (Rect.unit off S.size inb).toLoadRect (h.unread x) = x := by
  subst ho
  rw [View.readAt_eq_ld, h.read_unread]
  exact View.ld_unit_zero rfl _ _

/-- One head's load reads that head. -/
theorem head_load {sg : RefSig} (a : Memref sg .tc .vmem S8x128x128 .f32) (h : a.IsWhole) (x : Vec Ideal S8x128x128 .f32) {o : ℕ} (u : Fin 8)
    (hu : u.1 = o) (inb : ∀ k : Fin 3, ![o, 0, 0] k + ![1, 128, 128] k ≤ S8x128x128.size k) (p s : Fin 128) :
    View.readAt (Elt Ideal) a.view (Rect.unit (s := S8x128x128) ![o, 0, 0] ![1, 128, 128] inb).toLoadRect (h.unread x)
      (ix3 (0 : Fin 1) p s) = x (ix3 u p s) := by
  subst hu
  rw [View.readAt_eq_ld, h.read_unread]
  refine congrArg x (funext fun k => Fin.ext ?_)
  fin_cases k
  · show u.1 + 1 * 0 = u.1; omega
  · show 0 + 1 * p.1 = p.1; omega
  · show 0 + 1 * s.1 = s.1; omega

/-- A covered load of the whole scratch reads what its stores left. -/
theorem whole_cov {sg : RefSig} (v : View sg .tc .vmem S512x1024 .f32) (L : List (View.Piece (Elt Ideal) S512x1024 .f32)) (inb) :
    v.readCov L (Rect.unit (s := S512x1024) ![0, 0] S512x1024.size inb).toLoadRect = View.canon L := by
  rw [View.readCov_eq_canon']
  refine funext fun j => congrArg _ (funext fun a => Fin.ext ?_)
  fin_cases a
  · show 0 + 1 * (j 0).1 = (j 0).1; omega
  · show 0 + 1 * (j 1).1 = (j 1).1; omega

/-- The body's mask keeps the entries on and under the diagonal. -/
theorem masked (p s : Fin 128) (x y : EReal) :
    Scalar.select (IntOp.cmpi CmpIPredicate.sge (BitVec.ofNat 32 p.1) (BitVec.ofNat 32 s.1)) x y = if s ≤ p then x else y := by
  have h : IntOp.cmpi CmpIPredicate.sge (BitVec.ofNat 32 p.1) (BitVec.ofNat 32 s.1) = BitVec.ofBool (decide (s ≤ p)) := by
    revert p s; decide
  rw [h]
  by_cases hs : s ≤ p <;> simp [hs, Scalar.select]

/-- The two folded constants of the activation. -/
theorem rootCube_eq : Named.named (F := Ideal) κ "root_cube" (φ := .f32) 1024598649#32 = Gate.rootCube :=
  IdealRules.named_const.ideal_named_scalar _ _ _ _ rfl
theorem sixRootCube_eq : Named.named (F := Ideal) κ "six_root_cube" (φ := .f32) 1046164406#32 = Gate.sixRootCube :=
  IdealRules.named_const.ideal_named_scalar _ _ _ _ rfl

section Tile

variable (c : Dev nD) (a1 : Memref sig .tc .vmem S512x2048 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S8x128x128 .f32) (h5 : a5.IsWhole) (a6 : Memref sig .tc .vmem S8x128x128 .f32) (h6 : a6.IsWhole) (a7 : Memref sig .tc .vmem S1x1024 .f32) (h7 : a7.IsWhole) (a8 : Memref sig .tc .vmem S512x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x128 .f32) (h12 : a12.IsWhole) (a13 : Memref sig .tc .vmem S1x1024 .f32) (h13 : a13.IsWhole) (a14 : Memref sig .tc .vmem S512x1024 .f32) (h14 : a14.IsWhole) (a15 : Memref sig .tc .vmem S512x1024 .f32) (h15 : a15.IsWhole)
  (x0 : Vec Ideal S512x2048 .f32) (x1 : Vec Ideal S512x1024 .f32) (x2 : Vec Ideal S1x1024 .f32) (x3 : Vec Ideal S1x1024 .f32) (x4 : Vec Ideal S8x128x128 .f32) (x5 : Vec Ideal S8x128x128 .f32) (x6 : Vec Ideal S1x1024 .f32) (xo8 : Vec Ideal S1x1024 .f32) (xo9 : Vec Ideal S1x1024 .f32) (xo10 : Vec Ideal S8x128x128 .f32) (xo11 : Vec Ideal S8x128x128 .f32) (xo12 : Vec Ideal S1x1024 .f32)

/-! ### The rows' own values -/

theorem gate_at (a : Fin 512) (j : Fin 1024) : kernelRun0_B.sl.r_3 (F := Ideal) c a1 h1 x0 (ix2 a j) = Gate.gate (fun k => x0 (ix2 a k)) j := by
  unfold kernelRun0_B.sl.r_3
  rw [whole2 a1 h1 x0 _ off2]
  pointwise [k0_pay16, k0_pay17, k0_pay18, k0_pay20]
  rw [rootCube_eq]
  rfl

theorem standard_at (a : Fin 512) (j : Fin 1024) :
    kernelRun0_B.sl.v44 (F := Ideal) c a1 h1 x0 (ix2 a j) = Gate.standard Gate.width Gate.epsL (Gate.value fun k => x0 (ix2 a k)) j := by
  sl_unfold_run_names
  rw [whole2 a1 h1 x0 _ off2]
  pointwise [k0_pay16, k0_pay17, k0_pay18, k0_pay21, k0_pay22, k0_pay23]
  rw [rootCube_eq]
  rfl

theorem normed_at (a : Fin 512) (j : Fin 1024) :
    kernelRun0_B.sl.v49 (F := Ideal) c a1 h1 a3 h3 a4 h4 x0 x2 x3 (ix2 a j) = Gate.normed (line x2) (line x3) (fun k => x0 (ix2 a k)) j := by
  sl_unfold_run_names
  rw [whole2 a1 h1 x0 _ off2, whole2 a3 h3 x2 _ off2, whole2 a4 h4 x3 _ off2]
  pointwise [k0_pay16, k0_pay17, k0_pay18, k0_pay21, k0_pay22, k0_pay23]
  rw [rootCube_eq]
  rfl

/-! ### The mixed values -/

theorem normed_row (a : Fin 512) (j : Fin 1024) (k : Fin 4) (s : Fin 128) (u : Fin 1024) (ha : a.1 = 128 * k.1 + s.1) (hj : j.1 = u.1) :
    kernelRun0_B.sl.v49 (F := Ideal) c a1 h1 a3 h3 a4 h4 x0 x2 x3 (ix2 a j) = Gate.normed (line x2) (line x3) (rows x0 k s) u := by
  obtain rfl : a = at4 k s := Fin.ext ha
  obtain rfl : j = u := Fin.ext hj
  exact normed_at ..

end Tile

end Cert.GmIdeal.Cases

end
-- ==== Proof.GmEntries.lean ====
/- The gated unit's backward call: the entries of the reference's values, row by row, in the unit's formulas. -/
module

public import proofs.«01_k».proof.Proof.GateEq
public import proofs.«01_k».proof.Proof.GmTile
public import proofs.«01_k».proof.Proof.Gen.GmRefIdeal.Read
public import Idealize.ShloMosaic.Lib.Pointwise

@[expose] public section

set_option maxRecDepth 16384

noncomputable section

open Idealize.ShloMosaic Idealize.ShloMosaic.TcCoe Idealize.SL.Sem

namespace Cert.GmRefIdeal.Entries

open Cert.GmRefIdeal Cert.GmRefIdeal.Gen Cert.GmRefIdeal.Read Cert.Reals
open Cert.GmIdeal.Cases (masked)
open Cert.Gate (half root three cube share' act' bend col)

variable (x0 : FVec Ideal S8192x4096 .f32) (x1 x2 : FVec Ideal S1x1024 .f32) (x3 : FVec Ideal S1x8x128x128 .f32)
  (x4 : FVec Ideal S1x8x128 .f32) (x5 : FVec Ideal S1x1024 .f32) (x6 : FVec Ideal S8192x2048 .f32)

/-- The place of row `p` of chunk `k` among all rows. -/
abbrev spot (k : Fin 64) (p : Fin 128) : Fin 8192 := ⟨128 * k.1 + p.1, by omega⟩

/-- The chunks of the wide input's first columns and of the cotangent's, and the weights by coordinates. -/
def wide (k : Fin 64) (p : Fin 128) (j : Fin 2048) : EReal := x0 (ix2 (spot k p) ⟨j.1, by omega⟩)
def cot (k : Fin 64) (p : Fin 128) (j : Fin 1024) : EReal := x6 (ix2 (spot k p) ⟨j.1, by omega⟩)
def line (v : FVec Ideal S1x1024 .f32) (j : Fin 1024) : EReal := v (ix2 0 j)
def wt (h : Fin 8) (p s : Fin 128) : EReal := x3 (ix4 0 h p s)
def bt (h : Fin 8) (p _q : Fin 128) : EReal := x4 (ix3 0 h p)

/-! ## The activation -/

theorem share_at (r : Fin 8192) (j : Fin 2048) : val_main_v20 (F := Ideal) x0 (ix2 r j) = share' (x0 (ix2 r ⟨j.1, by omega⟩)) := by
  pointwise [val_main_v0, val_main_v1, val_main_v2, val_main_v3, val_main_cst, val_main_v4, val_main_v5, val_main_cst_0, val_main_v6, val_main_v7,
    val_main_v8, val_main_cst_1, val_main_v9, val_main_v10, val_main_v11, val_main_cst_4, val_main_v17, val_main_v18, val_main_cst_5, val_main_v19, val_main_v20]
  rfl

theorem turn_at (r : Fin 8192) (j : Fin 2048) : val_main_v16 (F := Ideal) x0 (ix2 r j)
    = (1 + bend (x0 (ix2 r ⟨j.1, by omega⟩))) * (1 - bend (x0 (ix2 r ⟨j.1, by omega⟩))) := by
  pointwise [val_main_v0, val_main_v1, val_main_v2, val_main_cst_0, val_main_v6, val_main_v7,
    val_main_v8, val_main_cst_1, val_main_v9, val_main_v10, val_main_v11, val_main_cst_2, val_main_v12, val_main_v13, val_main_cst_3, val_main_v14, val_main_v15, val_main_v16]
  rfl

theorem square_at (r : Fin 8192) (j : Fin 2048) : val_main_v5 (F := Ideal) x0 (ix2 r j)
    = three * (x0 (ix2 r ⟨j.1, by omega⟩) * x0 (ix2 r ⟨j.1, by omega⟩)) := by
  pointwise [val_main_v0, val_main_v3, val_main_cst, val_main_v4, val_main_v5]

theorem act_at (r : Fin 8192) (j : Fin 2048) : val_main_v21 (F := Ideal) x0 (ix2 r j) = act' (x0 (ix2 r ⟨j.1, by omega⟩)) := by
  have e := share_at x0 r j
  pointwise [val_main_v0, val_main_v21]
  rw [e]; rfl

variable {x0} in
theorem gate_at (h0 : ∀ i, IsReal (x0 i)) (k : Fin 64) (p : Fin 128) (j : Fin 1024) :
    val_main_v22 (F := Ideal) x0 (ix2 (spot k p) j) = Gate.gate (wide x0 k p) j := by
  have e := act_at x0 (spot k p) ⟨j.1, by omega⟩
  rw [Gate.act_eq (h0 _)] at e
  pointwise [val_main_v22]
  exact e

variable {x0} in
theorem value_at (h0 : ∀ i, IsReal (x0 i)) (k : Fin 64) (p : Fin 128) (j : Fin 1024) :
    val_main_v23 (F := Ideal) x0 (ix2 (spot k p) j) = Gate.value (wide x0 k p) j := by
  have e := act_at x0 (spot k p) (Gate.right j)
  rw [Gate.act_eq (h0 _)] at e
  pointwise [val_main_v23]
  exact e

/-! ## The row normalisation and the mixing -/

variable {x0} in
theorem center_at (h0 : ∀ i, IsReal (x0 i)) (k : Fin 64) (p : Fin 128) (j : Fin 1024) :
    val_main_v31 (F := Ideal) x0 (ix2 (spot k p) j) = Gate.center Gate.width (Gate.value (wide x0 k p)) j := by
  pointwise [val_main_cst_6, val_main_v26, val_main_v27, val_main_cst_7, val_main_v28, val_main_v29, val_main_v30, val_main_v31]
  simp only [value_at h0]
  rfl

variable {x0} in
theorem var_at (h0 : ∀ i, IsReal (x0 i)) (k : Fin 64) (p : Fin 128) :
    val_main_v38 (F := Ideal) x0 (ix2 (spot k p) 0) = RowNorm.meanSq Gate.width Gate.epsL (Gate.center Gate.width (Gate.value (wide x0 k p))) := by
  pointwise [val_main_v32, val_main_cst_8, val_main_v33, val_main_v34, val_main_cst_9, val_main_v35, val_main_v36, val_main_cst_10, val_main_v37, val_main_v38]
  simp only [center_at h0]
  rfl

variable {x0} in
theorem recip_at (h0 : ∀ i, IsReal (x0 i)) (k : Fin 64) (p : Fin 128) :
    val_main_v39 (F := Ideal) x0 (ix2 (spot k p) 0) = Gate.recip Gate.width Gate.epsL (Gate.value (wide x0 k p)) := by
  pointwise [val_main_v39]
  rw [var_at h0]
  rfl

variable {x0} in
theorem standard_at (h0 : ∀ i, IsReal (x0 i)) (k : Fin 64) (p : Fin 128) (j : Fin 1024) :
    val_main_v44 (F := Ideal) x0 (ix2 (spot k p) j) = Gate.standard Gate.width Gate.epsL (Gate.value (wide x0 k p)) j := by
  pointwise [val_main_v43, val_main_v44]
  rw [recip_at h0, center_at h0]
  rfl

variable {x0} in
theorem normed_at (h0 : ∀ i, IsReal (x0 i)) (k : Fin 64) (p : Fin 128) (j : Fin 1024) :
    val_main_v50 (F := Ideal) x0 x1 x2 (ix2 (spot k p) j) = Gate.normed (line x1) (line x2) (wide x0 k p) j := by
  pointwise [val_main_v24, val_main_v25, val_main_v45, val_main_v46, val_main_v47, val_main_v48, val_main_v49, val_main_v50]
  rw [standard_at h0]
  rfl

/-- A column by its head and its place there, and a row by its chunk and its place. -/
theorem col_eq (k : Fin 64) (p : Fin 128) (h : Fin 8) (q : Fin 128) (i : S8192x1024.Idx)
    (e0 : (i 0).val = (((k.val * 128 + p.val) * 8 + h.val) * 128 + q.val) / 1024) (e1 : (i 1).val = (((k.val * 128 + p.val) * 8 + h.val) * 128 + q.val) % 1024) :
    i = ix2 (spot k p) (col h q) := by
  rw [eq_ix2 i]
  refine congrArg₂ ix2 (Fin.ext ?_) (Fin.ext ?_)
  · show (i 0).val = 128 * k.1 + p.1; omega
  · show (i 1).val = 128 * h.1 + q.1; omega

variable {x0} in
theorem parts_at (h0 : ∀ i, IsReal (x0 i)) (k : Fin 64) (p : Fin 128) (h : Fin 8) (q : Fin 128) :
    val_main_v51 (F := Ideal) x0 x1 x2 (ix4 k p h q) = Gate.normed (line x1) (line x2) (wide x0 k p) (col h q) := by
  rw [val_main_v51_apply, col_eq k p h q (idx_main_v51 (ix4 k p h q)) rfl rfl, normed_at x1 x2 h0]

/-- The causal mask, and the masked weights. -/
theorem mask_at (h : Fin 8) (p s : Fin 128) (x y : EReal) :
    Scalar.select (val_main_v56_1 (F := Ideal) (ix3 h p s)) x y = if s ≤ p then x else y := by
  pointwise [val_main_c, val_main_v52, val_main_call0_v0, val_main_call0_c, val_main_call0_v1, val_main_call0_v2, val_main_call0_v3, val_main_call0_v4,
    val_main_call0_c_0, val_main_call0_v5, val_main_v53, val_main_v54, val_main_v56_1]
  rw [show IntOp.addi (BitVec.ofNat 32 p.1) 0#32 = BitVec.ofNat 32 p.1 from BitVec.add_zero _, ← masked p s x y]
  generalize IntOp.cmpi CmpIPredicate.sge (BitVec.ofNat 32 p.1) (BitVec.ofNat 32 s.1) = c
  rcases BitVec.eq_zero_or_eq_one c with rfl | rfl <;> rfl

theorem weight_at (h : Fin 8) (p s : Fin 128) : val_main_v56_0 (F := Ideal) x3 (ix3 h p s) = if s ≤ p then wt x3 h p s else 0 := by
  have e := mask_at h p s (wt x3 h p s) 0
  pointwise [val_main_v55, val_main_cst_12, val_main_call1_v1, val_main_v56_0]
  exact e

/-- The place of a column among the heads' columns. -/
theorem split_eq (k : Fin 64) (p : Fin 128) (j : Fin 1024) (i : S64x128x8x128.Idx)
    (e0 : (i 0).val = ((128 * k.val + p.val) * 1024 + j.val) / 131072) (e1 : (i 1).val = ((128 * k.val + p.val) * 1024 + j.val) / 1024 % 128)
    (e2 : (i 2).val = ((128 * k.val + p.val) * 1024 + j.val) / 128 % 8) (e3 : (i 3).val = ((128 * k.val + p.val) * 1024 + j.val) % 128) :
    i = ix4 k p (Gate.head j) (Gate.lane j) := by
  rw [eq_ix4 i]
  have h0 : i 0 = k := Fin.ext (by omega)
  have h1 : i 1 = p := Fin.ext (by omega)
  have h2 : i 2 = Gate.head j := Fin.ext (by show (i 2).val = j.val / 128; omega)
  have h3 : i 3 = Gate.lane j := Fin.ext (by show (i 3).val = j.val % 128; omega)
  rw [h0, h1, h2, h3]

theorem col_split (j : Fin 1024) : col (Gate.head j) (Gate.lane j) = j := Fin.ext (by show 128 * (j.1 / 128) + j.1 % 128 = j.1; omega)

theorem width_nat : Gate.width = (((1024 : ℕ) : ℝ) : EReal) := by rw [Gate.lit_width]; norm_num

section Real

variable {x0 x1 x2 x3 x4 x5 x6} (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i))
include h0

theorem mixed_at (k : Fin 64) (p : Fin 128) (j : Fin 1024) :
    val_main_v64 (F := Ideal) x0 x1 x2 x3 x4 (ix2 (spot k p) j) = Gate.mixed (line x1) (line x2) (wt x3) (bt x4) (wide x0 k) p j := by
  rw [val_main_v64_apply, split_eq k p j (idx_main_v64 (ix2 (spot k p) j)) rfl rfl rfl rfl]
  pointwise [val_main_v57, val_main_v58, val_main_v59, val_main_v60, val_main_v61, val_main_v62, val_main_v63]
  simp only [parts_at x1 x2 h0, weight_at, col_split, mul_ite, mul_zero]
  refine congrArg (· + _) (Finset.sum_congr rfl fun s _ => ?_)
  rw [mul_comm]

theorem gated_at (k : Fin 64) (p : Fin 128) (j : Fin 1024) :
    val_main_v65 (F := Ideal) x0 x1 x2 x3 x4 (ix2 (spot k p) j) = Gate.gated (line x1) (line x2) (wt x3) (bt x4) (wide x0 k) p j := by
  pointwise [val_main_v65]
  rw [gate_at h0, mixed_at h0]
  rfl

/-! ## The gradient reaching the gated rows -/

theorem meanSq_at (k : Fin 64) (p : Fin 128) : val_main_v73 (F := Ideal) x0 x1 x2 x3 x4 (ix2 (spot k p) 0)
    = RowNorm.meanSq Gate.width Gate.epsR (Gate.gated (line x1) (line x2) (wt x3) (bt x4) (wide x0 k) p) := by
  pointwise [val_main_v67, val_main_cst_13, val_main_v68, val_main_v69, val_main_cst_14, val_main_v70, val_main_v71, val_main_cst_15, val_main_v72, val_main_v73]
  simp only [gated_at h0]
  rfl

theorem rrms_at (k : Fin 64) (p : Fin 128) : val_main_v74 (F := Ideal) x0 x1 x2 x3 x4 (ix2 (spot k p) 0)
    = RowNorm.rrms Gate.width Gate.epsR (Gate.gated (line x1) (line x2) (wt x3) (bt x4) (wide x0 k) p) := by
  pointwise [val_main_v74]
  rw [meanSq_at h0]
  rfl

theorem scaled_at (k : Fin 64) (p : Fin 128) (j : Fin 1024) : val_main_v79 (F := Ideal) x0 x1 x2 x3 x4 (ix2 (spot k p) j)
    = Gate.gated (line x1) (line x2) (wt x3) (bt x4) (wide x0 k) p j
      * RowNorm.rrms Gate.width Gate.epsR (Gate.gated (line x1) (line x2) (wt x3) (bt x4) (wide x0 k) p) := by
  pointwise [val_main_v78, val_main_v79]
  rw [gated_at h0, rrms_at h0]

omit h0 in
theorem cot_at (k : Fin 64) (p : Fin 128) (j : Fin 1024) : val_main_v83 (F := Ideal) x6 (ix2 (spot k p) j) = cot x6 k p j := by
  pointwise [val_main_v83]
  rfl

omit h0 in
theorem reach_at (k : Fin 64) (p : Fin 128) (j : Fin 1024) : val_main_v88 (F := Ideal) x5 x6 (ix2 (spot k p) j) = cot x6 k p j * line x5 j := by
  pointwise [val_main_v66, val_main_v80, val_main_v87, val_main_v88]
  rw [cot_at]
  rfl

theorem back_at (k : Fin 64) (p : Fin 128) : val_main_v98 (F := Ideal) x0 x1 x2 x3 x4 x5 x6 (ix1 (spot k p))
    = RowNorm.back Gate.width Gate.epsR (Ideal.ofBits FTy.f32 3204448256#32) (Gate.gated (line x1) (line x2) (wt x3) (bt x4) (wide x0 k) p) (line x5) (cot x6 k p) := by
  pointwise [val_main_v75, val_main_cst_16, val_main_v76, val_main_v77, val_main_v90, val_main_cst_19, val_main_v91, val_main_v92, val_main_v95, val_main_cst_20,
    val_main_v96, val_main_v97, val_main_cst_21, val_main_v98]
  simp only [Fin.sum_univ_one, gated_at h0, rrms_at h0, meanSq_at h0, reach_at]
  rfl

include h1 h2 h3 h4 h5 h6

theorem pulled_at (k : Fin 64) (p : Fin 128) (j : Fin 1024) : val_main_v103 (F := Ideal) x0 x1 x2 x3 x4 x5 x6 (ix2 (spot k p) j)
    = Gate.pulled (line x1) (line x2) (line x5) (wt x3) (bt x4) (wide x0 k) (cot x6 k) p j := by
  pointwise [val_main_v93, val_main_v94, val_main_v99, val_main_v100, val_main_v101, val_main_v102, val_main_v103]
  rw [back_at h0, gated_at h0, rrms_at h0, reach_at]
  have key := RowNorm.grad_eq (x := Gate.gated (line x1) (line x2) (wt x3) (bt x4) (wide x0 k) p) (g := line x5) (a := cot x6 k p) Gate.lit_width_pos lit_eps
    lit_neg_half (Gate.gated_real (fun _ => h1 _) (fun _ => h2 _) (fun _ _ _ => h3 _) (fun _ _ _ => h4 _) (fun _ _ => h0 _) p)
    (fun _ => h5 _) (fun _ => h6 _) 0 j
  rw [zero_add, zero_add] at key
  exact key.symm

theorem dmix_at (k : Fin 64) (p : Fin 128) (j : Fin 1024) : val_main_v105 (F := Ideal) x0 x1 x2 x3 x4 x5 x6 (ix2 (spot k p) j)
    = Gate.dmix (line x1) (line x2) (line x5) (wt x3) (bt x4) (wide x0 k) (cot x6 k) p j := by
  pointwise [val_main_v105]
  rw [pulled_at h0 h1 h2 h3 h4 h5 h6, gate_at h0]
  exact mul_comm _ _

theorem dgate_at (k : Fin 64) (p : Fin 128) (j : Fin 1024) : val_main_v106 (F := Ideal) x0 x1 x2 x3 x4 x5 x6 (ix2 (spot k p) j)
    = Gate.dgate (line x1) (line x2) (line x5) (wt x3) (bt x4) (wide x0 k) (cot x6 k) p j := by
  pointwise [val_main_v106]
  rw [pulled_at h0 h1 h2 h3 h4 h5 h6, mixed_at h0]
  rfl

theorem dparts_at (k : Fin 64) (p : Fin 128) (h : Fin 8) (q : Fin 128) : val_main_v107 (F := Ideal) x0 x1 x2 x3 x4 x5 x6 (ix4 k p h q)
    = Gate.dmix (line x1) (line x2) (line x5) (wt x3) (bt x4) (wide x0 k) (cot x6 k) p (col h q) := by
  rw [val_main_v107_apply, col_eq k p h q (idx_main_v107 (ix4 k p h q)) rfl rfl, dmix_at h0 h1 h2 h3 h4 h5 h6]

/-! ## The gradient reaching the normalised values and the wide input -/

theorem dnorm_at (k : Fin 64) (s : Fin 128) (j : Fin 1024) : val_main_v119 (F := Ideal) x0 x1 x2 x3 x4 x5 x6 (ix2 (spot k s) j)
    = Gate.dnorm (line x1) (line x2) (line x5) (wt x3) (bt x4) (wide x0 k) (cot x6 k) s j := by
  rw [val_main_v119_apply, split_eq k s j (idx_main_v119 (ix2 (spot k s) j)) rfl rfl rfl rfl]
  pointwise [val_main_v113, val_main_v115, val_main_v116]
  simp only [dparts_at h0 h1 h2 h3 h4 h5 h6, weight_at, col_split, mul_ite, mul_zero]
  exact Finset.sum_congr rfl fun p _ => by rw [mul_comm]

theorem norm_back_at (k : Fin 64) (p : Fin 128) (j : Fin 1024) : val_main_v142 (F := Ideal) x0 x1 x2 x3 x4 x5 x6 (ix2 (spot k p) j)
    = Gate.centerBack Gate.width Gate.epsL (Ideal.ofBits FTy.f32 3204448256#32) (Gate.center Gate.width (Gate.value (wide x0 k p)))
        (fun i => Gate.dnorm (line x1) (line x2) (line x5) (wt x3) (bt x4) (wide x0 k) (cot x6 k) p i * line x1 i) j := by
  pointwise [val_main_v24, val_main_v40, val_main_cst_11, val_main_v41, val_main_v42, val_main_v45, val_main_v126, val_main_v127, val_main_v129, val_main_cst_28, val_main_v130, val_main_v131, val_main_v132,
    val_main_v133, val_main_v134, val_main_cst_29, val_main_v135, val_main_v136, val_main_cst_30, val_main_v137, val_main_v138, val_main_v139, val_main_v140, val_main_v141,
    val_main_v142]
  simp only [Fin.sum_univ_one, center_at h0, recip_at h0, var_at h0, dnorm_at h0 h1 h2 h3 h4 h5 h6]
  rfl

theorem dvalue_at (k : Fin 64) (p : Fin 128) (j : Fin 1024) : val_main_v150 (F := Ideal) x0 x1 x2 x3 x4 x5 x6 (ix2 (spot k p) j)
    = Gate.dvalue (line x1) (line x2) (line x5) (wt x3) (bt x4) (wide x0 k) (cot x6 k) p j := by
  pointwise [val_main_v143, val_main_cst_31, val_main_v144, val_main_v145, val_main_cst_32, val_main_v146, val_main_v147, val_main_cst_33, val_main_v148, val_main_v149, val_main_v150]
  simp only [Fin.sum_univ_one, norm_back_at h0 h1 h2 h3 h4 h5 h6]
  have key := Gate.rowGrad_eq (d := Gate.width) (e := Gate.epsL) (n := Ideal.ofBits FTy.f32 3204448256#32) (v := Gate.value (wide x0 k p))
    (h := fun i => Gate.dnorm (line x1) (line x2) (line x5) (wt x3) (bt x4) (wide x0 k) (cot x6 k) p i * line x1 i) width_nat Gate.lit_epsL lit_neg_half
    (Gate.value_real (P := wide x0 k) (fun _ _ => h0 _) p)
    (fun i => (Gate.dnorm_real (fun _ => h1 _) (fun _ => h2 _) (fun _ => h5 _) (fun _ _ _ => h3 _) (fun _ _ _ => h4 _) (fun _ _ => h0 _)
      (fun _ _ => h6 _) p i).mul (h1 _)) j
  exact key

end Real

end Cert.GmRefIdeal.Entries

end
-- ==== Proof.GmMix.lean ====
/- The scratch the gated unit's tile mixes its values into, read at an index. -/
module

public import proofs.«01_k».proof.Proof.GmTile

@[expose] public section
set_option maxRecDepth 16384
noncomputable section
open Idealize.ShloMosaic Idealize.ShloMosaic.TcCoe Idealize.SL.Sem
namespace Cert.GmIdeal.Cases
open Cert.GmIdeal Cert.GmIdeal.Gen

section Tile

variable (c : Dev nD) (a1 : Memref sig .tc .vmem S512x2048 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S8x128x128 .f32) (h5 : a5.IsWhole) (a6 : Memref sig .tc .vmem S8x128x128 .f32) (h6 : a6.IsWhole) (a7 : Memref sig .tc .vmem S1x1024 .f32) (h7 : a7.IsWhole) (a8 : Memref sig .tc .vmem S512x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x128 .f32) (h12 : a12.IsWhole) (a13 : Memref sig .tc .vmem S1x1024 .f32) (h13 : a13.IsWhole) (a14 : Memref sig .tc .vmem S512x1024 .f32) (h14 : a14.IsWhole) (a15 : Memref sig .tc .vmem S512x1024 .f32) (h15 : a15.IsWhole)
  (x0 : Vec Ideal S512x2048 .f32) (x1 : Vec Ideal S512x1024 .f32) (x2 : Vec Ideal S1x1024 .f32) (x3 : Vec Ideal S1x1024 .f32) (x4 : Vec Ideal S8x128x128 .f32) (x5 : Vec Ideal S8x128x128 .f32) (x6 : Vec Ideal S1x1024 .f32) (xo8 : Vec Ideal S1x1024 .f32) (xo9 : Vec Ideal S1x1024 .f32) (xo10 : Vec Ideal S8x128x128 .f32) (xo11 : Vec Ideal S8x128x128 .f32) (xo12 : Vec Ideal S1x1024 .f32)

set_option maxHeartbeats 4000000 in
/-- The scratch the mixing fills holds, at every row and column, the mixed value of that row's chunk. -/
theorem mixed_canon (y : S512x1024.Idx) :
    View.canon (kernelRun0_B.sl.HS0_32 (F := Ideal) c a1 h1 a3 h3 a4 h4 a5 h5 a6 h6 x0 x2 x3 x4 x5) y
      = Gate.mixed (line x2) (line x3) (heads x4) (heads x5) (rows x0 (chunk (y 0))) (place (y 0)) (y 1) := by
  unfold kernelRun0_B.sl.HS0_32
  canon_tiles z hz
  all_goals
    obtain ⟨p, q, rfl⟩ : ∃ p q, z = ix2 p q := ⟨z 0, z 1, eq_ix2 z⟩
    have e0 : (ix2 p q 0).1 = p.1 := rfl
    have e1 : (ix2 p q 1).1 = q.1 := rfl
    pointwise [k0_pay27, kernelRun0_B.sl.r_6, kernelRun0_B.sl.cst_20, kernelRun0_B.sl.cst_21, kernelRun0_B.sl.v100, kernelRun0_B.sl.v101,
      kernelRun0_B.sl.v102, kernelRun0_B.sl.v103, kernelRun0_B.sl.v105, kernelRun0_B.sl.v106, kernelRun0_B.sl.v107,
      kernelRun0_B.sl.v108, kernelRun0_B.sl.v109, kernelRun0_B.sl.v110, kernelRun0_B.sl.v113, kernelRun0_B.sl.v114,
      kernelRun0_B.sl.v115, kernelRun0_B.sl.v116, kernelRun0_B.sl.v117, kernelRun0_B.sl.v120, kernelRun0_B.sl.v121,
      kernelRun0_B.sl.v122, kernelRun0_B.sl.v123, kernelRun0_B.sl.v124, kernelRun0_B.sl.v127, kernelRun0_B.sl.v128,
      kernelRun0_B.sl.v129, kernelRun0_B.sl.v130, kernelRun0_B.sl.v132, kernelRun0_B.sl.v134, kernelRun0_B.sl.v135,
      kernelRun0_B.sl.v136, kernelRun0_B.sl.v137, kernelRun0_B.sl.v138, kernelRun0_B.sl.v139, kernelRun0_B.sl.v140,
      kernelRun0_B.sl.v141, kernelRun0_B.sl.v142, kernelRun0_B.sl.v144, kernelRun0_B.sl.v145, kernelRun0_B.sl.v146,
      kernelRun0_B.sl.v147, kernelRun0_B.sl.v148, kernelRun0_B.sl.v149, kernelRun0_B.sl.v152, kernelRun0_B.sl.v153,
      kernelRun0_B.sl.v154, kernelRun0_B.sl.v155, kernelRun0_B.sl.v156, kernelRun0_B.sl.v159, kernelRun0_B.sl.v160,
      kernelRun0_B.sl.v161, kernelRun0_B.sl.v162, kernelRun0_B.sl.v163, kernelRun0_B.sl.v166, kernelRun0_B.sl.v167,
      kernelRun0_B.sl.v168, kernelRun0_B.sl.v169, kernelRun0_B.sl.v171, kernelRun0_B.sl.v173, kernelRun0_B.sl.v174,
      kernelRun0_B.sl.v175, kernelRun0_B.sl.v176, kernelRun0_B.sl.v177, kernelRun0_B.sl.v178, kernelRun0_B.sl.v179,
      kernelRun0_B.sl.v180, kernelRun0_B.sl.v181, kernelRun0_B.sl.v183, kernelRun0_B.sl.v184, kernelRun0_B.sl.v185,
      kernelRun0_B.sl.v186, kernelRun0_B.sl.v187, kernelRun0_B.sl.v188, kernelRun0_B.sl.v190, kernelRun0_B.sl.v191,
      kernelRun0_B.sl.v192, kernelRun0_B.sl.v193, kernelRun0_B.sl.v194, kernelRun0_B.sl.v195, kernelRun0_B.sl.v198,
      kernelRun0_B.sl.v199, kernelRun0_B.sl.v200, kernelRun0_B.sl.v201, kernelRun0_B.sl.v202, kernelRun0_B.sl.v205,
      kernelRun0_B.sl.v206, kernelRun0_B.sl.v207, kernelRun0_B.sl.v208, kernelRun0_B.sl.v210, kernelRun0_B.sl.v212,
      kernelRun0_B.sl.v213, kernelRun0_B.sl.v214, kernelRun0_B.sl.v215, kernelRun0_B.sl.v216, kernelRun0_B.sl.v217,
      kernelRun0_B.sl.v218, kernelRun0_B.sl.v219, kernelRun0_B.sl.v220, kernelRun0_B.sl.v222, kernelRun0_B.sl.v223,
      kernelRun0_B.sl.v224, kernelRun0_B.sl.v225, kernelRun0_B.sl.v226, kernelRun0_B.sl.v227, kernelRun0_B.sl.v230,
      kernelRun0_B.sl.v231, kernelRun0_B.sl.v232, kernelRun0_B.sl.v233, kernelRun0_B.sl.v234, kernelRun0_B.sl.v237,
      kernelRun0_B.sl.v238, kernelRun0_B.sl.v239, kernelRun0_B.sl.v240, kernelRun0_B.sl.v241, kernelRun0_B.sl.v244,
      kernelRun0_B.sl.v245, kernelRun0_B.sl.v246, kernelRun0_B.sl.v247, kernelRun0_B.sl.v249, kernelRun0_B.sl.v251,
      kernelRun0_B.sl.v252, kernelRun0_B.sl.v253, kernelRun0_B.sl.v254, kernelRun0_B.sl.v255, kernelRun0_B.sl.v256,
      kernelRun0_B.sl.v257, kernelRun0_B.sl.v258, kernelRun0_B.sl.v259, kernelRun0_B.sl.v261, kernelRun0_B.sl.v262,
      kernelRun0_B.sl.v263, kernelRun0_B.sl.v264, kernelRun0_B.sl.v265, kernelRun0_B.sl.v266, kernelRun0_B.sl.v269,
      kernelRun0_B.sl.v270, kernelRun0_B.sl.v271, kernelRun0_B.sl.v272, kernelRun0_B.sl.v273, kernelRun0_B.sl.v276,
      kernelRun0_B.sl.v277, kernelRun0_B.sl.v278, kernelRun0_B.sl.v279, kernelRun0_B.sl.v280, kernelRun0_B.sl.v283,
      kernelRun0_B.sl.v284, kernelRun0_B.sl.v285, kernelRun0_B.sl.v286, kernelRun0_B.sl.v288, kernelRun0_B.sl.v290,
      kernelRun0_B.sl.v291, kernelRun0_B.sl.v292, kernelRun0_B.sl.v293, kernelRun0_B.sl.v294, kernelRun0_B.sl.v295,
      kernelRun0_B.sl.v296, kernelRun0_B.sl.v297, kernelRun0_B.sl.v298, kernelRun0_B.sl.v300, kernelRun0_B.sl.v301,
      kernelRun0_B.sl.v302, kernelRun0_B.sl.v303, kernelRun0_B.sl.v304, kernelRun0_B.sl.v305, kernelRun0_B.sl.v308,
      kernelRun0_B.sl.v309, kernelRun0_B.sl.v310, kernelRun0_B.sl.v311, kernelRun0_B.sl.v312, kernelRun0_B.sl.v315,
      kernelRun0_B.sl.v316, kernelRun0_B.sl.v317, kernelRun0_B.sl.v318, kernelRun0_B.sl.v319, kernelRun0_B.sl.v322,
      kernelRun0_B.sl.v323, kernelRun0_B.sl.v324, kernelRun0_B.sl.v325, kernelRun0_B.sl.v327, kernelRun0_B.sl.v329,
      kernelRun0_B.sl.v330, kernelRun0_B.sl.v331, kernelRun0_B.sl.v332, kernelRun0_B.sl.v333, kernelRun0_B.sl.v334,
      kernelRun0_B.sl.v335, kernelRun0_B.sl.v336, kernelRun0_B.sl.v337, kernelRun0_B.sl.v339, kernelRun0_B.sl.v340,
      kernelRun0_B.sl.v341, kernelRun0_B.sl.v342, kernelRun0_B.sl.v343, kernelRun0_B.sl.v344, kernelRun0_B.sl.v347,
      kernelRun0_B.sl.v348, kernelRun0_B.sl.v349, kernelRun0_B.sl.v350, kernelRun0_B.sl.v351, kernelRun0_B.sl.v354,
      kernelRun0_B.sl.v355, kernelRun0_B.sl.v356, kernelRun0_B.sl.v357, kernelRun0_B.sl.v358, kernelRun0_B.sl.v361,
      kernelRun0_B.sl.v362, kernelRun0_B.sl.v363, kernelRun0_B.sl.v364, kernelRun0_B.sl.v50, kernelRun0_B.sl.v51,
      kernelRun0_B.sl.v54, kernelRun0_B.sl.v55, kernelRun0_B.sl.v56, kernelRun0_B.sl.v57, kernelRun0_B.sl.v58,
      kernelRun0_B.sl.v59, kernelRun0_B.sl.v60, kernelRun0_B.sl.v61, kernelRun0_B.sl.v62, kernelRun0_B.sl.v63,
      kernelRun0_B.sl.v64, kernelRun0_B.sl.v66, kernelRun0_B.sl.v67, kernelRun0_B.sl.v69, kernelRun0_B.sl.v70,
      kernelRun0_B.sl.v71, kernelRun0_B.sl.v74, kernelRun0_B.sl.v75, kernelRun0_B.sl.v76, kernelRun0_B.sl.v77,
      kernelRun0_B.sl.v78, kernelRun0_B.sl.v81, kernelRun0_B.sl.v82, kernelRun0_B.sl.v83, kernelRun0_B.sl.v84,
      kernelRun0_B.sl.v85, kernelRun0_B.sl.v88, kernelRun0_B.sl.v89, kernelRun0_B.sl.v90, kernelRun0_B.sl.v91,
      kernelRun0_B.sl.v93, kernelRun0_B.sl.v95, kernelRun0_B.sl.v96, kernelRun0_B.sl.v97, kernelRun0_B.sl.v98,
      kernelRun0_B.sl.v99]
    have hp : place (y 0) = p := Fin.ext (by show (y 0).1 % 128 = p.1; omega)
    have hq : Gate.lane (y 1) = q := Fin.ext (by show (y 1).1 % 128 = q.1; omega)
    rw [head_load a6 h6 x5 (Gate.head (y 1)) (by show (y 1).1 / 128 = _; omega)]
    unfold Gate.mixed
    rw [hp, hq]
    refine congrArg₂ (· + ·) ?_ rfl
    refine Finset.sum_congr rfl fun s _ => ?_
    rw [masked, head_load a5 h5 x4 (Gate.head (y 1)) (by show (y 1).1 / 128 = _; omega)]
    by_cases hs : s ≤ p
    · rw [if_pos hs, if_pos hs]
      refine congrArg₂ (· * ·) rfl ?_
      (try split_ifs) <;> first
        | (exfalso; omega)
        | exact normed_row _ _ _ _ _ _ _ _ _ _ _ _ _ _ _ (by show _ = 128 * ((y 0).1 / 128) + s.1; dsimp only; omega) (by dsimp only; omega)
    · rw [if_neg hs, if_neg hs]

end Tile

end Cert.GmIdeal.Cases

end
-- ==== Proof.GmGrad.lean ====
/- The gradients of the gated unit's tile at an index: the one that reaches the gated rows, its two factors, and what the
   mixing hands back to the normalised values. -/
module

public import proofs.«01_k».proof.Proof.GmMix

@[expose] public section
set_option maxRecDepth 16384
noncomputable section
open Idealize.ShloMosaic Idealize.ShloMosaic.TcCoe Idealize.SL.Sem
namespace Cert.GmIdeal.Cases
open Cert.GmIdeal Cert.GmIdeal.Gen

section Tile

variable (c : Dev nD) (a1 : Memref sig .tc .vmem S512x2048 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S8x128x128 .f32) (h5 : a5.IsWhole) (a6 : Memref sig .tc .vmem S8x128x128 .f32) (h6 : a6.IsWhole) (a7 : Memref sig .tc .vmem S1x1024 .f32) (h7 : a7.IsWhole) (a8 : Memref sig .tc .vmem S512x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x128 .f32) (h12 : a12.IsWhole) (a13 : Memref sig .tc .vmem S1x1024 .f32) (h13 : a13.IsWhole) (a14 : Memref sig .tc .vmem S512x1024 .f32) (h14 : a14.IsWhole) (a15 : Memref sig .tc .vmem S512x1024 .f32) (h15 : a15.IsWhole)
  (x0 : Vec Ideal S512x2048 .f32) (x1 : Vec Ideal S512x1024 .f32) (x2 : Vec Ideal S1x1024 .f32) (x3 : Vec Ideal S1x1024 .f32) (x4 : Vec Ideal S8x128x128 .f32) (x5 : Vec Ideal S8x128x128 .f32) (x6 : Vec Ideal S1x1024 .f32) (xo8 : Vec Ideal S1x1024 .f32) (xo9 : Vec Ideal S1x1024 .f32) (xo10 : Vec Ideal S8x128x128 .f32) (xo11 : Vec Ideal S8x128x128 .f32) (xo12 : Vec Ideal S1x1024 .f32)

theorem mixed_at (k : Fin 4) (p : Fin 128) (j : Fin 1024) :
    kernelRun0_B.sl.v365 (F := Ideal) c a1 h1 a3 h3 a4 h4 a5 h5 a6 h6 a14 x0 x2 x3 x4 x5 (ix2 (at4 k p) j)
      = Gate.mixed (line x2) (line x3) (heads x4) (heads x5) (rows x0 k) p j := by
  unfold kernelRun0_B.sl.v365
  rw [whole_cov, mixed_canon]
  show Gate.mixed _ _ _ _ (rows x0 (chunk (at4 k p))) (place (at4 k p)) j = _
  rw [chunk_at4, place_at4]

theorem gated_at (k : Fin 4) (p : Fin 128) (j : Fin 1024) :
    kernelRun0_B.sl.v366 (F := Ideal) c a1 h1 a3 h3 a4 h4 a5 h5 a6 h6 a14 x0 x2 x3 x4 x5 (ix2 (at4 k p) j)
      = Gate.gated (line x2) (line x3) (heads x4) (heads x5) (rows x0 k) p j :=
  congrArg₂ (· * ·) (gate_at ..) (mixed_at ..)

theorem unit_at (k : Fin 4) (p : Fin 128) (j : Fin 1024) :
    kernelRun0_B.sl.v376 (F := Ideal) c a1 h1 a3 h3 a4 h4 a5 h5 a6 h6 a14 x0 x2 x3 x4 x5 (ix2 (at4 k p) j)
      = Gate.gated (line x2) (line x3) (heads x4) (heads x5) (rows x0 k) p j * RowNorm.rrms Gate.width Gate.epsR (Gate.gated (line x2) (line x3) (heads x4) (heads x5) (rows x0 k) p) := by
  pointwise [kernelRun0_B.sl.cst_206, kernelRun0_B.sl.cst_207, kernelRun0_B.sl.v367, kernelRun0_B.sl.v368, kernelRun0_B.sl.v369,
      kernelRun0_B.sl.v370, kernelRun0_B.sl.v371, kernelRun0_B.sl.v372, kernelRun0_B.sl.v373, kernelRun0_B.sl.v374,
      kernelRun0_B.sl.v375, kernelRun0_B.sl.v376]
  simp only [gated_at]
  rfl

theorem root_at (k : Fin 4) (p : Fin 128) (j : Fin 1024) :
    kernelRun0_B.sl.v375 (F := Ideal) c a1 h1 a3 h3 a4 h4 a5 h5 a6 h6 a14 x0 x2 x3 x4 x5 (ix2 (at4 k p) j)
      = RowNorm.rrms Gate.width Gate.epsR (Gate.gated (line x2) (line x3) (heads x4) (heads x5) (rows x0 k) p) := by
  pointwise [kernelRun0_B.sl.cst_206, kernelRun0_B.sl.cst_207, kernelRun0_B.sl.v367, kernelRun0_B.sl.v368, kernelRun0_B.sl.v369,
      kernelRun0_B.sl.v370, kernelRun0_B.sl.v371, kernelRun0_B.sl.v372, kernelRun0_B.sl.v373, kernelRun0_B.sl.v374,
      kernelRun0_B.sl.v375]
  simp only [gated_at]
  rfl

theorem pulled_at (k : Fin 4) (p : Fin 128) (j : Fin 1024) :
    kernelRun0_B.sl.v397 (F := Ideal) c a1 h1 a2 h2 a3 h3 a4 h4 a5 h5 a6 h6 a7 h7 a14 x0 x1 x2 x3 x4 x5 x6 (ix2 (at4 k p) j)
      = Gate.pulled (line x2) (line x3) (line x6) (heads x4) (heads x5) (rows x0 k) (rows x1 k) p j := by
  unfold kernelRun0_B.sl.v397 kernelRun0_B.sl.v395 kernelRun0_B.sl.v394 kernelRun0_B.sl.v393 kernelRun0_B.sl.v392 kernelRun0_B.sl.v390 kernelRun0_B.sl.v389 kernelRun0_B.sl.v388 kernelRun0_B.sl.v387 kernelRun0_B.sl.v386
  rw [whole2 a2 h2 x1 _ off2, whole2 a7 h7 x6 _ off2]
  pointwise [kernelRun0_B.sl.v370, kernelRun0_B.sl.cst_206]
  simp only [unit_at, root_at]
  rfl

theorem dmix_at (k : Fin 4) (p : Fin 128) (j : Fin 1024) :
    kernelRun0_B.sl.v399 (F := Ideal) c a1 h1 a2 h2 a3 h3 a4 h4 a5 h5 a6 h6 a7 h7 a14 x0 x1 x2 x3 x4 x5 x6 (ix2 (at4 k p) j)
      = Gate.dmix (line x2) (line x3) (line x6) (heads x4) (heads x5) (rows x0 k) (rows x1 k) p j :=
  congrArg₂ (· * ·) (pulled_at ..) (gate_at ..)

theorem dgate_at (k : Fin 4) (p : Fin 128) (j : Fin 1024) :
    kernelRun0_B.sl.v398 (F := Ideal) c a1 h1 a2 h2 a3 h3 a4 h4 a5 h5 a6 h6 a7 h7 a14 x0 x1 x2 x3 x4 x5 x6 (ix2 (at4 k p) j)
      = Gate.dgate (line x2) (line x3) (line x6) (heads x4) (heads x5) (rows x0 k) (rows x1 k) p j :=
  congrArg₂ (· * ·) (pulled_at ..) (mixed_at ..)

theorem dmix_row (a : Fin 512) (j : Fin 1024) (k : Fin 4) (s : Fin 128) (u : Fin 1024) (ha : a.1 = 128 * k.1 + s.1) (hj : j.1 = u.1) :
    kernelRun0_B.sl.v399 (F := Ideal) c a1 h1 a2 h2 a3 h3 a4 h4 a5 h5 a6 h6 a7 h7 a14 x0 x1 x2 x3 x4 x5 x6 (ix2 a j) = Gate.dmix (line x2) (line x3) (line x6) (heads x4) (heads x5) (rows x0 k) (rows x1 k) s u := by
  obtain rfl : a = at4 k s := Fin.ext ha
  obtain rfl : j = u := Fin.ext hj
  exact dmix_at ..

set_option maxHeartbeats 4000000 in
/-- The scratch the mixing's gradient fills holds, at every row and column, what the row's chunk hands back. -/
theorem dnorm_canon (y : S512x1024.Idx) :
    View.canon (kernelRun0_B.sl.HS1_32 (F := Ideal) c a1 h1 a2 h2 a3 h3 a4 h4 a5 h5 a6 h6 a7 h7 a14 x0 x1 x2 x3 x4 x5 x6) y
      = Gate.dnorm (line x2) (line x3) (line x6) (heads x4) (heads x5) (rows x0 (chunk (y 0))) (rows x1 (chunk (y 0))) (place (y 0)) (y 1) := by
  unfold kernelRun0_B.sl.HS1_32
  canon_tiles z hz
  all_goals
    obtain ⟨p, q, rfl⟩ : ∃ p q, z = ix2 p q := ⟨z 0, z 1, eq_ix2 z⟩
    have e0 : (ix2 p q 0).1 = p.1 := rfl
    have e1 : (ix2 p q 1).1 = q.1 := rfl
    pointwise [kernelRun0_B.sl.cst_20, kernelRun0_B.sl.cst_21, kernelRun0_B.sl.v50, kernelRun0_B.sl.v51, kernelRun0_B.sl.v54,
      kernelRun0_B.sl.v55, kernelRun0_B.sl.v56, kernelRun0_B.sl.v57, kernelRun0_B.sl.v93, kernelRun0_B.sl.v95,
      kernelRun0_B.sl.v96, kernelRun0_B.sl.v132, kernelRun0_B.sl.v134, kernelRun0_B.sl.v135, kernelRun0_B.sl.v171,
      kernelRun0_B.sl.v173, kernelRun0_B.sl.v174, kernelRun0_B.sl.v210, kernelRun0_B.sl.v212, kernelRun0_B.sl.v213,
      kernelRun0_B.sl.v249, kernelRun0_B.sl.v251, kernelRun0_B.sl.v252, kernelRun0_B.sl.v288, kernelRun0_B.sl.v290,
      kernelRun0_B.sl.v291, kernelRun0_B.sl.v327, kernelRun0_B.sl.v329, kernelRun0_B.sl.v330, kernelRun0_B.sl.v400,
      kernelRun0_B.sl.v406, kernelRun0_B.sl.v407, kernelRun0_B.sl.v408, kernelRun0_B.sl.v409, kernelRun0_B.sl.v410,
      kernelRun0_B.sl.v416, kernelRun0_B.sl.v439, kernelRun0_B.sl.v442, kernelRun0_B.sl.v443, kernelRun0_B.sl.v446,
      kernelRun0_B.sl.v447, kernelRun0_B.sl.v450, kernelRun0_B.sl.v451, kernelRun0_B.sl.v454, kernelRun0_B.sl.v460,
      kernelRun0_B.sl.v461, kernelRun0_B.sl.v462, kernelRun0_B.sl.v463, kernelRun0_B.sl.v464, kernelRun0_B.sl.v470,
      kernelRun0_B.sl.v493, kernelRun0_B.sl.v496, kernelRun0_B.sl.v497, kernelRun0_B.sl.v500, kernelRun0_B.sl.v501,
      kernelRun0_B.sl.v504, kernelRun0_B.sl.v505, kernelRun0_B.sl.v508, kernelRun0_B.sl.v514, kernelRun0_B.sl.v515,
      kernelRun0_B.sl.v516, kernelRun0_B.sl.v517, kernelRun0_B.sl.v518, kernelRun0_B.sl.v524, kernelRun0_B.sl.v547,
      kernelRun0_B.sl.v550, kernelRun0_B.sl.v551, kernelRun0_B.sl.v554, kernelRun0_B.sl.v555, kernelRun0_B.sl.v558,
      kernelRun0_B.sl.v559, kernelRun0_B.sl.v562, kernelRun0_B.sl.v568, kernelRun0_B.sl.v569, kernelRun0_B.sl.v570,
      kernelRun0_B.sl.v571, kernelRun0_B.sl.v572, kernelRun0_B.sl.v578, kernelRun0_B.sl.v601, kernelRun0_B.sl.v604,
      kernelRun0_B.sl.v605, kernelRun0_B.sl.v608, kernelRun0_B.sl.v609, kernelRun0_B.sl.v612, kernelRun0_B.sl.v613,
      kernelRun0_B.sl.v616, kernelRun0_B.sl.v622, kernelRun0_B.sl.v623, kernelRun0_B.sl.v624, kernelRun0_B.sl.v625,
      kernelRun0_B.sl.v626, kernelRun0_B.sl.v632, kernelRun0_B.sl.v655, kernelRun0_B.sl.v658, kernelRun0_B.sl.v659,
      kernelRun0_B.sl.v662, kernelRun0_B.sl.v663, kernelRun0_B.sl.v666, kernelRun0_B.sl.v667, kernelRun0_B.sl.v670,
      kernelRun0_B.sl.v676, kernelRun0_B.sl.v677, kernelRun0_B.sl.v678, kernelRun0_B.sl.v679, kernelRun0_B.sl.v680,
      kernelRun0_B.sl.v686, kernelRun0_B.sl.v709, kernelRun0_B.sl.v712, kernelRun0_B.sl.v713, kernelRun0_B.sl.v716,
      kernelRun0_B.sl.v717, kernelRun0_B.sl.v720, kernelRun0_B.sl.v721, kernelRun0_B.sl.v724, kernelRun0_B.sl.v730,
      kernelRun0_B.sl.v731, kernelRun0_B.sl.v732, kernelRun0_B.sl.v733, kernelRun0_B.sl.v734, kernelRun0_B.sl.v740,
      kernelRun0_B.sl.v763, kernelRun0_B.sl.v766, kernelRun0_B.sl.v767, kernelRun0_B.sl.v770, kernelRun0_B.sl.v771,
      kernelRun0_B.sl.v774, kernelRun0_B.sl.v775, kernelRun0_B.sl.v778, kernelRun0_B.sl.v784, kernelRun0_B.sl.v785,
      kernelRun0_B.sl.v786, kernelRun0_B.sl.v787, kernelRun0_B.sl.v788, kernelRun0_B.sl.v794, kernelRun0_B.sl.v817,
      kernelRun0_B.sl.v820, kernelRun0_B.sl.v821, kernelRun0_B.sl.v824, kernelRun0_B.sl.v825, kernelRun0_B.sl.v828,
      kernelRun0_B.sl.v829, kernelRun0_B.sl.v832]
    have hp : place (y 0) = p := Fin.ext (by show (y 0).1 % 128 = p.1; omega)
    unfold Gate.dnorm
    rw [hp]
    refine Finset.sum_congr rfl fun s _ => ?_
    rw [masked, head_load a5 h5 x4 (Gate.head (y 1)) (by show (y 1).1 / 128 = _; omega)]
    by_cases hs : p ≤ s
    · rw [if_pos hs, if_pos hs]
      refine congrArg₂ (· * ·) rfl ?_
      (try split_ifs) <;> first
        | (exfalso; omega)
        | exact dmix_row (ha := by show _ = 128 * ((y 0).1 / 128) + s.1; dsimp only; omega) (hj := by dsimp only; omega) ..
    · rw [if_neg hs, if_neg hs]

theorem dnorm_at (k : Fin 4) (p : Fin 128) (j : Fin 1024) :
    kernelRun0_B.sl.v833 (F := Ideal) c a1 h1 a2 h2 a3 h3 a4 h4 a5 h5 a6 h6 a7 h7 a14 a15 x0 x1 x2 x3 x4 x5 x6 (ix2 (at4 k p) j)
      = Gate.dnorm (line x2) (line x3) (line x6) (heads x4) (heads x5) (rows x0 k) (rows x1 k) p j := by
  unfold kernelRun0_B.sl.v833
  rw [whole_cov, dnorm_canon]
  show Gate.dnorm _ _ _ _ _ (rows x0 (chunk (at4 k p))) (rows x1 (chunk (at4 k p))) (place (at4 k p)) j = _
  rw [chunk_at4, place_at4]

end Tile

end Cert.GmIdeal.Cases

end
-- ==== Proof.GmAdd.lean ====
/- What a tile adds to each head's gradients of the mixing weights and of the mixing shift. -/
module

public import proofs.«01_k».proof.Proof.GmGrad

@[expose] public section
set_option maxRecDepth 16384
noncomputable section
open Idealize.ShloMosaic Idealize.ShloMosaic.TcCoe Idealize.SL.Sem
namespace Cert.GmIdeal.Cases
open Cert.GmIdeal Cert.GmIdeal.Gen

section Tile

variable (c : Dev nD) (a1 : Memref sig .tc .vmem S512x2048 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S8x128x128 .f32) (h5 : a5.IsWhole) (a6 : Memref sig .tc .vmem S8x128x128 .f32) (h6 : a6.IsWhole) (a7 : Memref sig .tc .vmem S1x1024 .f32) (h7 : a7.IsWhole) (a8 : Memref sig .tc .vmem S512x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x128 .f32) (h12 : a12.IsWhole) (a13 : Memref sig .tc .vmem S1x1024 .f32) (h13 : a13.IsWhole) (a14 : Memref sig .tc .vmem S512x1024 .f32) (h14 : a14.IsWhole) (a15 : Memref sig .tc .vmem S512x1024 .f32) (h15 : a15.IsWhole)
  (x0 : Vec Ideal S512x2048 .f32) (x1 : Vec Ideal S512x1024 .f32) (x2 : Vec Ideal S1x1024 .f32) (x3 : Vec Ideal S1x1024 .f32) (x4 : Vec Ideal S8x128x128 .f32) (x5 : Vec Ideal S8x128x128 .f32) (x6 : Vec Ideal S1x1024 .f32) (xo8 : Vec Ideal S1x1024 .f32) (xo9 : Vec Ideal S1x1024 .f32) (xo10 : Vec Ideal S8x128x128 .f32) (xo11 : Vec Ideal S8x128x128 .f32) (xo12 : Vec Ideal S1x1024 .f32)

set_option maxHeartbeats 4000000 in
theorem dws_add (t s : Fin 128) :
    kernelRun0_B.sl.v421 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 0 t s (place n) else 0)
      ∧ kernelRun0_B.sl.v475 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 1 t s (place n) else 0)
      ∧ kernelRun0_B.sl.v529 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 2 t s (place n) else 0)
      ∧ kernelRun0_B.sl.v583 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 3 t s (place n) else 0)
      ∧ kernelRun0_B.sl.v637 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 4 t s (place n) else 0)
      ∧ kernelRun0_B.sl.v691 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 5 t s (place n) else 0)
      ∧ kernelRun0_B.sl.v745 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 6 t s (place n) else 0)
      ∧ kernelRun0_B.sl.v799 (F := Ideal) c a1 h1 a2 h2 a3 h3 a4 h4 a5 h5 a6 h6 a7 h7 a14 x0 x1 x2 x3 x4 x5 x6 (ix2 t s)
        = (if s ≤ t then ∑ n : Fin 512, Gate.dweight (line x2) (line x3) (line x6) (heads x4) (heads x5) (rows x0 (chunk n)) (rows x1 (chunk n)) 7 t s (place n) else 0) := by
  refine ⟨?_, ?_, ?_, ?_, ?_, ?_, ?_, ?_⟩
  all_goals
    pointwise [kernelRun0_B.sl.cst_20, kernelRun0_B.sl.cst_227, kernelRun0_B.sl.v50, kernelRun0_B.sl.v51, kernelRun0_B.sl.v55,
      kernelRun0_B.sl.v58, kernelRun0_B.sl.v59, kernelRun0_B.sl.v60, kernelRun0_B.sl.v61, kernelRun0_B.sl.v62,
      kernelRun0_B.sl.v97, kernelRun0_B.sl.v98, kernelRun0_B.sl.v99, kernelRun0_B.sl.v100, kernelRun0_B.sl.v101,
      kernelRun0_B.sl.v136, kernelRun0_B.sl.v137, kernelRun0_B.sl.v138, kernelRun0_B.sl.v139, kernelRun0_B.sl.v140,
      kernelRun0_B.sl.v175, kernelRun0_B.sl.v176, kernelRun0_B.sl.v177, kernelRun0_B.sl.v178, kernelRun0_B.sl.v179,
      kernelRun0_B.sl.v214, kernelRun0_B.sl.v215, kernelRun0_B.sl.v216, kernelRun0_B.sl.v217, kernelRun0_B.sl.v218,
      kernelRun0_B.sl.v253, kernelRun0_B.sl.v254, kernelRun0_B.sl.v255, kernelRun0_B.sl.v256, kernelRun0_B.sl.v257,
      kernelRun0_B.sl.v292, kernelRun0_B.sl.v293, kernelRun0_B.sl.v294, kernelRun0_B.sl.v295, kernelRun0_B.sl.v296,
      kernelRun0_B.sl.v331, kernelRun0_B.sl.v332, kernelRun0_B.sl.v333, kernelRun0_B.sl.v334, kernelRun0_B.sl.v335,
      kernelRun0_B.sl.v400, kernelRun0_B.sl.v406, kernelRun0_B.sl.v407, kernelRun0_B.sl.v408, kernelRun0_B.sl.v409,
      kernelRun0_B.sl.v410, kernelRun0_B.sl.v419, kernelRun0_B.sl.v421, kernelRun0_B.sl.v460, kernelRun0_B.sl.v461,
      kernelRun0_B.sl.v462, kernelRun0_B.sl.v463, kernelRun0_B.sl.v464, kernelRun0_B.sl.v473, kernelRun0_B.sl.v475,
      kernelRun0_B.sl.v514, kernelRun0_B.sl.v515, kernelRun0_B.sl.v516, kernelRun0_B.sl.v517, kernelRun0_B.sl.v518,
      kernelRun0_B.sl.v527, kernelRun0_B.sl.v529, kernelRun0_B.sl.v568, kernelRun0_B.sl.v569, kernelRun0_B.sl.v570,
      kernelRun0_B.sl.v571, kernelRun0_B.sl.v572, kernelRun0_B.sl.v581, kernelRun0_B.sl.v583, kernelRun0_B.sl.v622,
      kernelRun0_B.sl.v623, kernelRun0_B.sl.v624, kernelRun0_B.sl.v625, kernelRun0_B.sl.v626, kernelRun0_B.sl.v635,
      kernelRun0_B.sl.v637, kernelRun0_B.sl.v676, kernelRun0_B.sl.v677, kernelRun0_B.sl.v678, kernelRun0_B.sl.v679,
      kernelRun0_B.sl.v680, kernelRun0_B.sl.v689, kernelRun0_B.sl.v691, kernelRun0_B.sl.v730, kernelRun0_B.sl.v731,
      kernelRun0_B.sl.v732, kernelRun0_B.sl.v733, kernelRun0_B.sl.v734, kernelRun0_B.sl.v743, kernelRun0_B.sl.v745,
      kernelRun0_B.sl.v784, kernelRun0_B.sl.v785, kernelRun0_B.sl.v786, kernelRun0_B.sl.v787, kernelRun0_B.sl.v788,
      kernelRun0_B.sl.v797, kernelRun0_B.sl.v799]
    rw [masked]
    refine if_congr Iff.rfl (Finset.sum_congr rfl fun n _ => ?_) rfl
    have hn := n.isLt
    (try split_ifs) <;> first
      | (exfalso; omega)
      | exact congrArg₂ (· * ·)
          (dmix_row (k := chunk n) (s := t) (u := Gate.col _ (place n)) (ha := by show _ = 128 * (n.1 / 128) + t.1; dsimp only; omega)
            (hj := by show _ = 128 * _ + n.1 % 128; dsimp only; omega) ..)
          (normed_row (k := chunk n) (s := s) (u := Gate.col _ (place n)) (ha := by show _ = 128 * (n.1 / 128) + s.1; dsimp only; omega)
            (hj := by show _ = 128 * _ + n.1 % 128; dsimp only; omega) ..)

theorem dbs_add (t q : Fin 128) :
    kernelRun0_B.sl.v432 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 0 q)
      ∧ kernelRun0_B.sl.v486 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 1 q)
      ∧ kernelRun0_B.sl.v540 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 2 q)
      ∧ kernelRun0_B.sl.v594 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 3 q)
      ∧ kernelRun0_B.sl.v648 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 4 q)
      ∧ kernelRun0_B.sl.v702 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 5 q)
      ∧ kernelRun0_B.sl.v756 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 6 q)
      ∧ kernelRun0_B.sl.v810 (F := Ideal) c a1 h1 a2 h2 a3 h3 a4 h4 a5 h5 a6 h6 a7 h7 a14 x0 x1 x2 x3 x4 x5 x6 (ix2 t q) = ∑ k : Fin 4, Gate.dmix (line x2) (line x3) (line x6) (heads x4) (heads x5) (rows x0 k) (rows x1 k) t (Gate.col 7 q) := by
  refine ⟨?_, ?_, ?_, ?_, ?_, ?_, ?_, ?_⟩
  all_goals
    pointwise [kernelRun0_B.sl.v426, kernelRun0_B.sl.v427, kernelRun0_B.sl.v428, kernelRun0_B.sl.v429, kernelRun0_B.sl.v430,
      kernelRun0_B.sl.v431, kernelRun0_B.sl.v432, kernelRun0_B.sl.v480, kernelRun0_B.sl.v481, kernelRun0_B.sl.v482,
      kernelRun0_B.sl.v483, kernelRun0_B.sl.v484, kernelRun0_B.sl.v485, kernelRun0_B.sl.v486, kernelRun0_B.sl.v534,
      kernelRun0_B.sl.v535, kernelRun0_B.sl.v536, kernelRun0_B.sl.v537, kernelRun0_B.sl.v538, kernelRun0_B.sl.v539,
      kernelRun0_B.sl.v540, kernelRun0_B.sl.v588, kernelRun0_B.sl.v589, kernelRun0_B.sl.v590, kernelRun0_B.sl.v591,
      kernelRun0_B.sl.v592, kernelRun0_B.sl.v593, kernelRun0_B.sl.v594, kernelRun0_B.sl.v642, kernelRun0_B.sl.v643,
      kernelRun0_B.sl.v644, kernelRun0_B.sl.v645, kernelRun0_B.sl.v646, kernelRun0_B.sl.v647, kernelRun0_B.sl.v648,
      kernelRun0_B.sl.v696, kernelRun0_B.sl.v697, kernelRun0_B.sl.v698, kernelRun0_B.sl.v699, kernelRun0_B.sl.v700,
      kernelRun0_B.sl.v701, kernelRun0_B.sl.v702, kernelRun0_B.sl.v750, kernelRun0_B.sl.v751, kernelRun0_B.sl.v752,
      kernelRun0_B.sl.v753, kernelRun0_B.sl.v754, kernelRun0_B.sl.v755, kernelRun0_B.sl.v756, kernelRun0_B.sl.v804,
      kernelRun0_B.sl.v805, kernelRun0_B.sl.v806, kernelRun0_B.sl.v807, kernelRun0_B.sl.v808, kernelRun0_B.sl.v809,
      kernelRun0_B.sl.v810]
    rw [Fin.sum_univ_four]
    refine congrArg₂ (· + ·) (congrArg₂ (· + ·) (congrArg₂ (· + ·) ?_ ?_) ?_) ?_
    · exact dmix_row (ha := by dsimp only; simp) (hj := by dsimp only; simp) ..
    · exact dmix_row (ha := by dsimp only; simp) (hj := by dsimp only; simp) ..
    · exact dmix_row (ha := by dsimp only; simp) (hj := by dsimp only; simp) ..
    · exact dmix_row (ha := by dsimp only; simp) (hj := by dsimp only; simp) ..

end Tile

end Cert.GmIdeal.Cases

end
-- ==== Proof.GmSum.lean ====
/- What a tile adds to the sums over rows, and the tile's gradient of the wide input. -/
module

public import proofs.«01_k».proof.Proof.GmAdd

@[expose] public section
set_option maxRecDepth 16384
noncomputable section
open Idealize.ShloMosaic Idealize.ShloMosaic.TcCoe Idealize.SL.Sem
namespace Cert.GmIdeal.Cases
open Cert.GmIdeal Cert.GmIdeal.Gen

section Tile

variable (c : Dev nD) (a1 : Memref sig .tc .vmem S512x2048 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S8x128x128 .f32) (h5 : a5.IsWhole) (a6 : Memref sig .tc .vmem S8x128x128 .f32) (h6 : a6.IsWhole) (a7 : Memref sig .tc .vmem S1x1024 .f32) (h7 : a7.IsWhole) (a8 : Memref sig .tc .vmem S512x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x128 .f32) (h12 : a12.IsWhole) (a13 : Memref sig .tc .vmem S1x1024 .f32) (h13 : a13.IsWhole) (a14 : Memref sig .tc .vmem S512x1024 .f32) (h14 : a14.IsWhole) (a15 : Memref sig .tc .vmem S512x1024 .f32) (h15 : a15.IsWhole)
  (x0 : Vec Ideal S512x2048 .f32) (x1 : Vec Ideal S512x1024 .f32) (x2 : Vec Ideal S1x1024 .f32) (x3 : Vec Ideal S1x1024 .f32) (x4 : Vec Ideal S8x128x128 .f32) (x5 : Vec Ideal S8x128x128 .f32) (x6 : Vec Ideal S1x1024 .f32) (xo8 : Vec Ideal S1x1024 .f32) (xo9 : Vec Ideal S1x1024 .f32) (xo10 : Vec Ideal S8x128x128 .f32) (xo11 : Vec Ideal S8x128x128 .f32) (xo12 : Vec Ideal S1x1024 .f32)

theorem dnorm_row (a : Fin 512) (j : Fin 1024) :
    kernelRun0_B.sl.v833 (F := Ideal) c a1 h1 a2 h2 a3 h3 a4 h4 a5 h5 a6 h6 a7 h7 a14 a15 x0 x1 x2 x3 x4 x5 x6 (ix2 a j) = Gate.dnorm (line x2) (line x3) (line x6) (heads x4) (heads x5) (rows x0 (chunk a)) (rows x1 (chunk a)) (place a) j :=
  (congrArg (fun r => kernelRun0_B.sl.v833 (F := Ideal) c a1 h1 a2 h2 a3 h3 a4 h4 a5 h5 a6 h6 a7 h7 a14 a15 x0 x1 x2 x3 x4 x5 x6 (ix2 r j)) (at4_chunk a).symm).trans (dnorm_at ..)

theorem vg_add (j : Fin 1024) :
    kernelRun0_B.sl.v838 (F := Ideal) c a1 h1 a2 h2 a3 h3 a4 h4 a5 h5 a6 h6 a7 h7 a14 a15 x0 x1 x2 x3 x4 x5 x6 (ix2 0 j) = ∑ a : Fin 512, Gate.dvg (line x2) (line x3) (line x6) (heads x4) (heads x5) (rows x0 (chunk a)) (rows x1 (chunk a)) (place a) j := by
  pointwise [kernelRun0_B.sl.v838, kernelRun0_B.sl.v837, kernelRun0_B.sl.v836]
  refine Finset.sum_congr rfl fun a _ => congrArg₂ (· * ·) (dnorm_row ..) ?_
  refine (standard_at ..).trans ?_
  conv_lhs => rw [← at4_chunk a]
  rfl

theorem vb_add (l : Vec Ideal S1x1024 .f32) (j : Fin 1024) :
    k0_pay164 (kernelRun0_B.sl.v833 (F := Ideal) c a1 h1 a2 h2 a3 h3 a4 h4 a5 h5 a6 h6 a7 h7 a14 a15 x0 x1 x2 x3 x4 x5 x6) l (ix2 0 j) = l (ix2 0 j) + ∑ a : Fin 512, Gate.dnorm (line x2) (line x3) (line x6) (heads x4) (heads x5) (rows x0 (chunk a)) (rows x1 (chunk a)) (place a) j := by
  pointwise [k0_pay164]
  exact congrArg _ (Finset.sum_congr rfl fun a _ => dnorm_row ..)

theorem og_add (j : Fin 1024) :
    kernelRun0_B.sl.v382 (F := Ideal) c a1 h1 a2 h2 a3 h3 a4 h4 a5 h5 a6 h6 a14 x0 x1 x2 x3 x4 x5 (ix2 0 j)
      = ∑ a : Fin 512, Gate.dog (line x2) (line x3) (heads x4) (heads x5) (rows x0 (chunk a)) (rows x1 (chunk a)) (place a) j := by
  unfold kernelRun0_B.sl.v382 kernelRun0_B.sl.v381 kernelRun0_B.sl.v380
  rw [whole2 a2 h2 x1 _ off2]
  pointwise []
  refine Finset.sum_congr rfl fun a _ => ?_
  refine congrArg₂ (· * ·) (congrArg (fun r => x1 (ix2 r j)) (at4_chunk a).symm) ?_
  exact (congrArg (fun r => kernelRun0_B.sl.v376 (F := Ideal) c a1 h1 a3 h3 a4 h4 a5 h5 a6 h6 a14 x0 x2 x3 x4 x5 (ix2 r j)) (at4_chunk a).symm).trans (unit_at ..)

theorem recip_at (a : Fin 512) :
    kernelRun0_B.sl.v42 (F := Ideal) c a1 h1 x0 (ix2 a (0 : Fin 1)) = Gate.recip Gate.width Gate.epsL (Gate.value fun k => x0 (ix2 a k)) := by
  sl_unfold_run_names
  rw [whole2 a1 h1 x0 _ off2]
  pointwise [k0_pay16, k0_pay17, k0_pay18, k0_pay21, k0_pay22, k0_pay23]
  rw [rootCube_eq]
  rfl

theorem slope_at (a : Fin 512) (j : Fin 2048) :
    kernelRun0_B.sl.r_2 (F := Ideal) c a1 h1 x0 (ix2 a j) = Gate.slope (x0 (ix2 a j)) := by
  unfold kernelRun0_B.sl.r_2
  rw [whole2 a1 h1 x0 _ off2]
  pointwise [k0_pay16, k0_pay17, k0_pay18, k0_pay19]
  rw [rootCube_eq, sixRootCube_eq]
  rfl

theorem back_at (k : Fin 4) (p : Fin 128) (j : Fin 1024) :
    kernelRun0_B.sl.r_8 (F := Ideal) c a1 h1 x0 (ix2 (at4 k p) j) * kernelRun0_B.sl.r_7 (F := Ideal) c a1 h1 a2 h2 a3 h3 a4 h4 a5 h5 a6 h6 a7 h7 a14 a15 x0 x1 x2 x3 x4 x5 x6 (ix2 (at4 k p) j)
      = Gate.dvalue (line x2) (line x3) (line x6) (heads x4) (heads x5) (rows x0 k) (rows x1 k) p j := by
  unfold kernelRun0_B.sl.r_7 kernelRun0_B.sl.r_8 kernelRun0_B.sl.r
  rw [whole2 a3 h3 x2 _ off2]
  pointwise [k0_pay165, k0_pay166]
  simp only [dnorm_at, standard_at, recip_at]
  rfl

theorem wide_at (k : Fin 4) (p : Fin 128) (j : Fin 2048) :
    k0_pay1 (kernelRun0_B.sl.r_2 (F := Ideal) c a1 h1 x0) (kernelRun0_B.sl.v398 (F := Ideal) c a1 h1 a2 h2 a3 h3 a4 h4 a5 h5 a6 h6 a7 h7 a14 x0 x1 x2 x3 x4 x5 x6) (kernelRun0_B.sl.r_7 (F := Ideal) c a1 h1 a2 h2 a3 h3 a4 h4 a5 h5 a6 h6 a7 h7 a14 a15 x0 x1 x2 x3 x4 x5 x6)
        (kernelRun0_B.sl.r_8 (F := Ideal) c a1 h1 x0) (ix2 (at4 k p) j)
      = Gate.dwide (line x2) (line x3) (line x6) (heads x4) (heads x5) (rows x0 k) (rows x1 k) p j := by
  pointwise [k0_pay1]
  rw [slope_at]
  unfold Gate.dwide
  refine congrArg₂ (· * ·) ?_ rfl
  split_ifs
  · exact dgate_at ..
  all_goals first | exact back_at .. | (exfalso; simp_all)

end Tile

end Cert.GmIdeal.Cases

end
-- ==== Proof.GmOut.lean ====
/- What each kind of grid point leaves in the windows it writes: the tile of the wide gradient, and the running sums. -/
module

public import proofs.«01_k».proof.Proof.GmSum
public import Idealize.ShloMosaic.Lib.Pipeline.ReadBack

@[expose] public section
set_option maxRecDepth 16384
noncomputable section
open Idealize.ShloMosaic Idealize.ShloMosaic.TcCoe Idealize.SL.Sem
namespace Cert.GmIdeal.Cases
open Cert.GmIdeal Cert.GmIdeal.Gen

/-- A load of one head passes over a store into another. -/
theorem skip_head (v : View sig .tc .vmem S8x128x128 .f32) (L : List (View.Piece (Elt Ideal) S8x128x128 .f32)) (k o : ℕ) (inb inb')
    (w : Vec Ideal S1x128x128 .f32) (hne : k ≠ o) :
    v.readCov (⟨Rect.unit (s := S8x128x128) ![k, 0, 0] S1x128x128.size inb, w⟩ :: L) (Rect.unit (s := S8x128x128) ![o, 0, 0] S1x128x128.size inb').toLoadRect
      = v.readCov L (Rect.unit (s := S8x128x128) ![o, 0, 0] S1x128x128.size inb').toLoadRect :=
  View.readCov_skip _ _ _ _ _ (decide_eq_true ⟨0, by show 1 = 0 ∨ 1 = 0 ∨ k + 1 * (1 - 1) < o ∨ o + 1 * (1 - 1) < k; omega⟩)

/-- What stores into heads leave, read at a head. -/
theorem canon_head (v : View sig .tc .vmem S8x128x128 .f32) (L : List (View.Piece (Elt Ideal) S8x128x128 .f32)) {o : ℕ} (u : Fin 8) (hu : u.1 = o)
    (inb : ∀ k : Fin 3, ![o, 0, 0] k + ![1, 128, 128] k ≤ S8x128x128.size k) (p q : Fin 128) :
    View.canon L (ix3 u p q) = v.readCov L (Rect.unit (s := S8x128x128) ![o, 0, 0] S1x128x128.size inb).toLoadRect (ix3 (0 : Fin 1) p q) := by
  subst hu
  rw [View.readCov_eq_canon']
  refine congrArg (View.canon L) (funext fun k => Fin.ext ?_)
  fin_cases k
  · show u.1 = u.1 + 1 * 0; omega
  · show p.1 = 0 + 1 * p.1; omega
  · show q.1 = 0 + 1 * q.1; omega

/-- A load of one head of a freshly cleared stack. -/
theorem fresh_head (v : View sig .tc .vmem S8x128x128 .f32) (o : ℕ) (inb inb') (Z : Vec Ideal S8x128x128 .f32) (hZ : Z = fun _ => 0) (j : S1x128x128.Idx) :
    v.readCov [⟨Rect.unit (s := S8x128x128) ![0, 0, 0] S8x128x128.size inb, Z⟩] (Rect.unit (s := S8x128x128) ![o, 0, 0] S1x128x128.size inb').toLoadRect j = 0 := by
  subst hZ
  rw [View.readCov_fill _ _ _ _ _ (by decide)]

theorem zero13 : (k0_pay13 (F := Ideal)) = fun _ => 0 := funext fun j => by pointwise [k0_pay13]
theorem zero14 : (k0_pay14 (F := Ideal)) = fun _ => 0 := funext fun j => by pointwise [k0_pay14]
theorem zero11 : (k0_pay11 (F := Ideal)) = fun _ => 0 := funext fun j => by pointwise [k0_pay11]
theorem zero12 : (k0_pay12 (F := Ideal)) = fun _ => 0 := funext fun j => by pointwise [k0_pay12]
theorem zero15 : (k0_pay15 (F := Ideal)) = fun _ => 0 := funext fun j => by pointwise [k0_pay15]

section Tile

variable (c : Dev nD) (a1 : Memref sig .tc .vmem S512x2048 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S8x128x128 .f32) (h5 : a5.IsWhole) (a6 : Memref sig .tc .vmem S8x128x128 .f32) (h6 : a6.IsWhole) (a7 : Memref sig .tc .vmem S1x1024 .f32) (h7 : a7.IsWhole) (a8 : Memref sig .tc .vmem S512x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x128 .f32) (h12 : a12.IsWhole) (a13 : Memref sig .tc .vmem S1x1024 .f32) (h13 : a13.IsWhole) (a14 : Memref sig .tc .vmem S512x1024 .f32) (h14 : a14.IsWhole) (a15 : Memref sig .tc .vmem S512x1024 .f32) (h15 : a15.IsWhole)
  (x0 : Vec Ideal S512x2048 .f32) (x1 : Vec Ideal S512x1024 .f32) (x2 : Vec Ideal S1x1024 .f32) (x3 : Vec Ideal S1x1024 .f32) (x4 : Vec Ideal S8x128x128 .f32) (x5 : Vec Ideal S8x128x128 .f32) (x6 : Vec Ideal S1x1024 .f32) (xo8 : Vec Ideal S1x1024 .f32) (xo9 : Vec Ideal S1x1024 .f32) (xo10 : Vec Ideal S8x128x128 .f32) (xo11 : Vec Ideal S8x128x128 .f32) (xo12 : Vec Ideal S1x1024 .f32)

set_option maxHeartbeats 4000000 in
/-- A head's weight gradient after a tile: what was there, and what the tile adds. -/
theorem dws_tile (t s : Fin 128) :
    kernelRun0_B.sl.v425 (F := Ideal) c a1 h1 a2 h2 a3 h3 a4 h4 a5 h5 a6 h6 a7 h7 a11 h11 a14 x0 x1 x2 x3 x4 x5 x6 xo10 (ix3 0 t s)
        = xo10 (ix3 0 t s) + (if s ≤ t then ∑ n : Fin 512, Gate.dweight (line x2) (line x3) (line x6) (heads x4) (heads x5) (rows x0 (chunk n)) (rows x1 (chunk n)) 0 t s (place n) else 0)
      ∧ kernelRun0_B.sl.v479 (F := Ideal) c a1 h1 a2 h2 a3 h3 a4 h4 a5 h5 a6 h6 a7 h7 a11 h11 a14 x0 x1 x2 x3 x4 x5 x6 xo10 (ix3 0 t s)
        = xo10 (ix3 1 t s) + (if s ≤ t then ∑ n : Fin 512, Gate.dweight (line x2) (line x3) (line x6) (heads x4) (heads x5) (rows x0 (chunk n)) (rows x1 (chunk n)) 1 t s (place n) else 0)
      ∧ kernelRun0_B.sl.v533 (F := Ideal) c a1 h1 a2 h2 a3 h3 a4 h4 a5 h5 a6 h6 a7 h7 a11 h11 a14 x0 x1 x2 x3 x4 x5 x6 xo10 (ix3 0 t s)
        = xo10 (ix3 2 t s) + (if s ≤ t then ∑ n : Fin 512, Gate.dweight (line x2) (line x3) (line x6) (heads x4) (heads x5) (rows x0 (chunk n)) (rows x1 (chunk n)) 2 t s (place n) else 0)
      ∧ kernelRun0_B.sl.v587 (F := Ideal) c a1 h1 a2 h2 a3 h3 a4 h4 a5 h5 a6 h6 a7 h7 a11 h11 a14 x0 x1 x2 x3 x4 x5 x6 xo10 (ix3 0 t s)
        = xo10 (ix3 3 t s) + (if s ≤ t then ∑ n : Fin 512, Gate.dweight (line x2) (line x3) (line x6) (heads x4) (heads x5) (rows x0 (chunk n)) (rows x1 (chunk n)) 3 t s (place n) else 0)
      ∧ kernelRun0_B.sl.v641 (F := Ideal) c a1 h1 a2 h2 a3 h3 a4 h4 a5 h5 a6 h6 a7 h7 a11 h11 a14 x0 x1 x2 x3 x4 x5 x6 xo10 (ix3 0 t s)
        = xo10 (ix3 4 t s) + (if s ≤ t then ∑ n : Fin 512, Gate.dweight (line x2) (line x3) (line x6) (heads x4) (heads x5) (rows x0 (chunk n)) (rows x1 (chunk n)) 4 t s (place n) else 0)
      ∧ kernelRun0_B.sl.v695 (F := Ideal) c a1 h1 a2 h2 a3 h3 a4 h4 a5 h5 a6 h6 a7 h7 a11 h11 a14 x0 x1 x2 x3 x4 x5 x6 xo10 (ix3 0 t s)
        = xo10 (ix3 5 t s) + (if s ≤ t then ∑ n : Fin 512, Gate.dweight (line x2) (line x3) (line x6) (heads x4) (heads x5) (rows x0 (chunk n)) (rows x1 (chunk n)) 5 t s (place n) else 0)
      ∧ kernelRun0_B.sl.v749 (F := Ideal) c a1 h1 a2 h2 a3 h3 a4 h4 a5 h5 a6 h6 a7 h7 a11 h11 a14 x0 x1 x2 x3 x4 x5 x6 xo10 (ix3 0 t s)
        = xo10 (ix3 6 t s) + (if s ≤ t then ∑ n : Fin 512, Gate.dweight (line x2) (line x3) (line x6) (heads x4) (heads x5) (rows x0 (chunk n)) (rows x1 (chunk n)) 6 t s (place n) else 0)
      ∧ kernelRun0_B.sl.v803 (F := Ideal) c a1 h1 a2 h2 a3 h3 a4 h4 a5 h5 a6 h6 a7 h7 a11 h11 a14 x0 x1 x2 x3 x4 x5 x6 xo10 (ix3 0 t s)
        = xo10 (ix3 7 t s) + (if s ≤ t then ∑ n : Fin 512, Gate.dweight (line x2) (line x3) (line x6) (heads x4) (heads x5) (rows x0 (chunk n)) (rows x1 (chunk n)) 7 t s (place n) else 0) := by
  obtain ⟨e0, e1, e2, e3, e4, e5, e6, e7⟩ := dws_add c a1 h1 a2 h2 a3 h3 a4 h4 a5 h5 a6 h6 a7 h7 a14 x0 x1 x2 x3 x4 x5 x6 t s
  refine ⟨?_, ?_, ?_, ?_, ?_, ?_, ?_, ?_⟩
  all_goals
    pointwise [kernelRun0_B.sl.v418, kernelRun0_B.sl.v422, kernelRun0_B.sl.v425, kernelRun0_B.sl.v471, kernelRun0_B.sl.v472,
      kernelRun0_B.sl.v476, kernelRun0_B.sl.v479, kernelRun0_B.sl.v525, kernelRun0_B.sl.v526, kernelRun0_B.sl.v530,
      kernelRun0_B.sl.v533, kernelRun0_B.sl.v579, kernelRun0_B.sl.v580, kernelRun0_B.sl.v584, kernelRun0_B.sl.v587,
      kernelRun0_B.sl.v633, kernelRun0_B.sl.v634, kernelRun0_B.sl.v638, kernelRun0_B.sl.v641, kernelRun0_B.sl.v687,
      kernelRun0_B.sl.v688, kernelRun0_B.sl.v692, kernelRun0_B.sl.v695, kernelRun0_B.sl.v741, kernelRun0_B.sl.v742,
      kernelRun0_B.sl.v746, kernelRun0_B.sl.v749, kernelRun0_B.sl.v795, kernelRun0_B.sl.v796, kernelRun0_B.sl.v800,
      kernelRun0_B.sl.v803]
    simp only [e0, e1, e2, e3, e4, e5, e6, e7, head_load (o := 0) a11 h11 xo10 0 rfl, head_load (o := 1) a11 h11 xo10 1 rfl, head_load (o := 2) a11 h11 xo10 2 rfl, head_load (o := 3) a11 h11 xo10 3 rfl, head_load (o := 4) a11 h11 xo10 4 rfl, head_load (o := 5) a11 h11 xo10 5 rfl, head_load (o := 6) a11 h11 xo10 6 rfl, head_load (o := 7) a11 h11 xo10 7 rfl]

set_option maxHeartbeats 4000000 in
/-- A head's shift gradient after a tile, its columns still apart. -/
theorem dbs_tile (t s : Fin 128) :
    kernelRun0_B.sl.v438 (F := Ideal) c a1 h1 a2 h2 a3 h3 a4 h4 a5 h5 a6 h6 a7 h7 a12 h12 a14 x0 x1 x2 x3 x4 x5 x6 xo11 (ix3 0 t s)
        = xo11 (ix3 0 t s) + ∑ k : Fin 4, Gate.dmix (line x2) (line x3) (line x6) (heads x4) (heads x5) (rows x0 k) (rows x1 k) t (Gate.col 0 s)
      ∧ kernelRun0_B.sl.v492 (F := Ideal) c a1 h1 a2 h2 a3 h3 a4 h4 a5 h5 a6 h6 a7 h7 a12 h12 a14 x0 x1 x2 x3 x4 x5 x6 xo11 (ix3 0 t s)
        = xo11 (ix3 1 t s) + ∑ k : Fin 4, Gate.dmix (line x2) (line x3) (line x6) (heads x4) (heads x5) (rows x0 k) (rows x1 k) t (Gate.col 1 s)
      ∧ kernelRun0_B.sl.v546 (F := Ideal) c a1 h1 a2 h2 a3 h3 a4 h4 a5 h5 a6 h6 a7 h7 a12 h12 a14 x0 x1 x2 x3 x4 x5 x6 xo11 (ix3 0 t s)
        = xo11 (ix3 2 t s) + ∑ k : Fin 4, Gate.dmix (line x2) (line x3) (line x6) (heads x4) (heads x5) (rows x0 k) (rows x1 k) t (Gate.col 2 s)
      ∧ kernelRun0_B.sl.v600 (F := Ideal) c a1 h1 a2 h2 a3 h3 a4 h4 a5 h5 a6 h6 a7 h7 a12 h12 a14 x0 x1 x2 x3 x4 x5 x6 xo11 (ix3 0 t s)
        = xo11 (ix3 3 t s) + ∑ k : Fin 4, Gate.dmix (line x2) (line x3) (line x6) (heads x4) (heads x5) (rows x0 k) (rows x1 k) t (Gate.col 3 s)
      ∧ kernelRun0_B.sl.v654 (F := Ideal) c a1 h1 a2 h2 a3 h3 a4 h4 a5 h5 a6 h6 a7 h7 a12 h12 a14 x0 x1 x2 x3 x4 x5 x6 xo11 (ix3 0 t s)
        = xo11 (ix3 4 t s) + ∑ k : Fin 4, Gate.dmix (line x2) (line x3) (line x6) (heads x4) (heads x5) (rows x0 k) (rows x1 k) t (Gate.col 4 s)
      ∧ kernelRun0_B.sl.v708 (F := Ideal) c a1 h1 a2 h2 a3 h3 a4 h4 a5 h5 a6 h6 a7 h7 a12 h12 a14 x0 x1 x2 x3 x4 x5 x6 xo11 (ix3 0 t s)
        = xo11 (ix3 5 t s) + ∑ k : Fin 4, Gate.dmix (line x2) (line x3) (line x6) (heads x4) (heads x5) (rows x0 k) (rows x1 k) t (Gate.col 5 s)
      ∧ kernelRun0_B.sl.v762 (F := Ideal) c a1 h1 a2 h2 a3 h3 a4 h4 a5 h5 a6 h6 a7 h7 a12 h12 a14 x0 x1 x2 x3 x4 x5 x6 xo11 (ix3 0 t s)
        = xo11 (ix3 6 t s) + ∑ k : Fin 4, Gate.dmix (line x2) (line x3) (line x6) (heads x4) (heads x5) (rows x0 k) (rows x1 k) t (Gate.col 6 s)
      ∧ kernelRun0_B.sl.v816 (F := Ideal) c a1 h1 a2 h2 a3 h3 a4 h4 a5 h5 a6 h6 a7 h7 a12 h12 a14 x0 x1 x2 x3 x4 x5 x6 xo11 (ix3 0 t s)
        = xo11 (ix3 7 t s) + ∑ k : Fin 4, Gate.dmix (line x2) (line x3) (line x6) (heads x4) (heads x5) (rows x0 k) (rows x1 k) t (Gate.col 7 s) := by
  obtain ⟨e0, e1, e2, e3, e4, e5, e6, e7⟩ := dbs_add c a1 h1 a2 h2 a3 h3 a4 h4 a5 h5 a6 h6 a7 h7 a14 x0 x1 x2 x3 x4 x5 x6 t s
  refine ⟨?_, ?_, ?_, ?_, ?_, ?_, ?_, ?_⟩
  all_goals
    pointwise [kernelRun0_B.sl.v434, kernelRun0_B.sl.v435, kernelRun0_B.sl.v438, kernelRun0_B.sl.v487, kernelRun0_B.sl.v488,
      kernelRun0_B.sl.v489, kernelRun0_B.sl.v492, kernelRun0_B.sl.v541, kernelRun0_B.sl.v542, kernelRun0_B.sl.v543,
      kernelRun0_B.sl.v546, kernelRun0_B.sl.v595, kernelRun0_B.sl.v596, kernelRun0_B.sl.v597, kernelRun0_B.sl.v600,
      kernelRun0_B.sl.v649, kernelRun0_B.sl.v650, kernelRun0_B.sl.v651, kernelRun0_B.sl.v654, kernelRun0_B.sl.v703,
      kernelRun0_B.sl.v704, kernelRun0_B.sl.v705, kernelRun0_B.sl.v708, kernelRun0_B.sl.v757, kernelRun0_B.sl.v758,
      kernelRun0_B.sl.v759, kernelRun0_B.sl.v762, kernelRun0_B.sl.v811, kernelRun0_B.sl.v812, kernelRun0_B.sl.v813,
      kernelRun0_B.sl.v816]
    simp only [e0, e1, e2, e3, e4, e5, e6, e7, head_load (o := 0) a12 h12 xo11 0 rfl, head_load (o := 1) a12 h12 xo11 1 rfl, head_load (o := 2) a12 h12 xo11 2 rfl, head_load (o := 3) a12 h12 xo11 3 rfl, head_load (o := 4) a12 h12 xo11 4 rfl, head_load (o := 5) a12 h12 xo11 5 rfl, head_load (o := 6) a12 h12 xo11 6 rfl, head_load (o := 7) a12 h12 xo11 7 rfl]

/-! ### Grid points of kind A -/

theorem wide_A (i : grid0.Coords) (hc0 : cond0_0 i) (hc1 : ¬cond0_1 i) (a : Fin 512) (j : Fin 2048) :
    out0_A_7 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 (ix2 a j) = Gate.dwide (line x2) (line x3) (line x6) (heads x4) (heads x5) (rows x0 (chunk a)) (rows x1 (chunk a)) (place a) j := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 a15 h15 hc0 hc1 x0 x1 x2 x3 x4 x5 x6)]
  unfold kernelRun0_A
  dsimp only
  rw [View.canon_unit_zero off2]
  exact (congrArg (fun r => k0_pay1 (kernelRun0_B.sl.r_2 (F := Ideal) c a1 h1 x0) (kernelRun0_B.sl.v398 (F := Ideal) c a1 h1 a2 h2 a3 h3 a4 h4 a5 h5 a6 h6 a7 h7 a14 x0 x1 x2 x3 x4 x5 x6) (kernelRun0_B.sl.r_7 (F := Ideal) c a1 h1 a2 h2 a3 h3 a4 h4 a5 h5 a6 h6 a7 h7 a14 a15 x0 x1 x2 x3 x4 x5 x6)
    (kernelRun0_B.sl.r_8 (F := Ideal) c a1 h1 x0) (ix2 r j)) (at4_chunk a).symm).trans (wide_at ..)

theorem vg_A (i : grid0.Coords) (hc0 : cond0_0 i) (hc1 : ¬cond0_1 i) (j : Fin 1024) :
    out0_A_8 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 (ix2 0 j) = ∑ a : Fin 512, Gate.dvg (line x2) (line x3) (line x6) (heads x4) (heads x5) (rows x0 (chunk a)) (rows x1 (chunk a)) (place a) j := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 hc0 hc1 x0 x1 x2 x3 x4 x5 x6)]
  unfold kernelRun0_A
  dsimp only
  rw [View.canon_cons_unit_zero off2]
  refine (congrArg₂ (· + ·) (?_ : _ = (0 : EReal)) (vg_add ..)).trans (zero_add _)
  pointwise [kernelRun0_A.sl.v835]
  unfold kernelRun0_A.sl.v834 kernelRun0_A.sl.H8_1
  rw [View.readCov_unit_zero _ off2, zero11]

theorem vb_A (i : grid0.Coords) (hc0 : cond0_0 i) (hc1 : ¬cond0_1 i) (j : Fin 1024) :
    out0_A_9 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 (ix2 0 j) = ∑ a : Fin 512, Gate.dnorm (line x2) (line x3) (line x6) (heads x4) (heads x5) (rows x0 (chunk a)) (rows x1 (chunk a)) (place a) j := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 hc0 hc1 x0 x1 x2 x3 x4 x5 x6)]
  unfold kernelRun0_A
  dsimp only
  rw [View.canon_cons_unit_zero off2]
  unfold kernelRun0_A.sl.v841 kernelRun0_A.sl.H9_1
  rw [View.readCov_unit_zero _ off2, zero12]
  exact (vb_add ..).trans (zero_add _)

theorem og_A (i : grid0.Coords) (hc0 : cond0_0 i) (hc1 : ¬cond0_1 i) (j : Fin 1024) :
    out0_A_12 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 (ix2 0 j) = ∑ a : Fin 512, Gate.dog (line x2) (line x3) (heads x4) (heads x5) (rows x0 (chunk a)) (rows x1 (chunk a)) (place a) j := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc0 hc1 x0 x1 x2 x3 x4 x5 x6)]
  unfold kernelRun0_A
  dsimp only
  rw [View.canon_cons_unit_zero off2]
  refine (congrArg₂ (· + ·) (?_ : _ = (0 : EReal)) (og_add ..)).trans (zero_add _)
  pointwise [kernelRun0_A.sl.v379]
  unfold kernelRun0_A.sl.v378 kernelRun0_A.sl.H12_1
  rw [View.readCov_unit_zero _ off2, zero15]

set_option maxHeartbeats 4000000 in
/-- The first tile's head of the weight gradient starts from nothing. -/
theorem dws_fresh (t s : Fin 128) :
    kernelRun0_A.sl.v425 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 0 t s (place n) else 0)
      ∧ kernelRun0_A.sl.v479 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 1 t s (place n) else 0)
      ∧ kernelRun0_A.sl.v533 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 2 t s (place n) else 0)
      ∧ kernelRun0_A.sl.v587 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 3 t s (place n) else 0)
      ∧ kernelRun0_A.sl.v641 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 4 t s (place n) else 0)
      ∧ kernelRun0_A.sl.v695 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 5 t s (place n) else 0)
      ∧ kernelRun0_A.sl.v749 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 6 t s (place n) else 0)
      ∧ kernelRun0_A.sl.v803 (F := Ideal) c a1 h1 a2 h2 a3 h3 a4 h4 a5 h5 a6 h6 a7 h7 a11 a14 x0 x1 x2 x3 x4 x5 x6 (ix3 0 t s) = (if s ≤ t then ∑ n : Fin 512, Gate.dweight (line x2) (line x3) (line x6) (heads x4) (heads x5) (rows x0 (chunk n)) (rows x1 (chunk n)) 7 t s (place n) else 0) := by
  obtain ⟨e0, e1, e2, e3, e4, e5, e6, e7⟩ :
    kernelRun0_A.sl.v421 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 0 t s (place n) else 0) ∧ kernelRun0_A.sl.v475 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 1 t s (place n) else 0) ∧ kernelRun0_A.sl.v529 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 2 t s (place n) else 0) ∧ kernelRun0_A.sl.v583 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 3 t s (place n) else 0) ∧ kernelRun0_A.sl.v637 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 4 t s (place n) else 0) ∧ kernelRun0_A.sl.v691 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 5 t s (place n) else 0) ∧ kernelRun0_A.sl.v745 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 6 t s (place n) else 0) ∧ kernelRun0_A.sl.v799 (F := Ideal) c a1 h1 a2 h2 a3 h3 a4 h4 a5 h5 a6 h6 a7 h7 a14 x0 x1 x2 x3 x4 x5 x6 (ix2 t s) = (if s ≤ t then ∑ n : Fin 512, Gate.dweight (line x2) (line x3) (line x6) (heads x4) (heads x5) (rows x0 (chunk n)) (rows x1 (chunk n)) 7 t s (place n) else 0) :=
    dws_add c a1 h1 a2 h2 a3 h3 a4 h4 a5 h5 a6 h6 a7 h7 a14 x0 x1 x2 x3 x4 x5 x6 t s
  refine ⟨?_, ?_, ?_, ?_, ?_, ?_, ?_, ?_⟩
  all_goals
    pointwise [kernelRun0_A.sl.v418, kernelRun0_A.sl.v422, kernelRun0_A.sl.v425, kernelRun0_A.sl.v471, kernelRun0_A.sl.v472,
      kernelRun0_A.sl.v476, kernelRun0_A.sl.v479, kernelRun0_A.sl.v525, kernelRun0_A.sl.v526, kernelRun0_A.sl.v530,
      kernelRun0_A.sl.v533, kernelRun0_A.sl.v579, kernelRun0_A.sl.v580, kernelRun0_A.sl.v584, kernelRun0_A.sl.v587,
      kernelRun0_A.sl.v633, kernelRun0_A.sl.v634, kernelRun0_A.sl.v638, kernelRun0_A.sl.v641, kernelRun0_A.sl.v687,
      kernelRun0_A.sl.v688, kernelRun0_A.sl.v692, kernelRun0_A.sl.v695, kernelRun0_A.sl.v741, kernelRun0_A.sl.v742,
      kernelRun0_A.sl.v746, kernelRun0_A.sl.v749, kernelRun0_A.sl.v795, kernelRun0_A.sl.v796, kernelRun0_A.sl.v800,
      kernelRun0_A.sl.v803, kernelRun0_A.sl.v417, kernelRun0_A.sl.v471, kernelRun0_A.sl.v525, kernelRun0_A.sl.v579, kernelRun0_A.sl.v633, kernelRun0_A.sl.v687, kernelRun0_A.sl.v741, kernelRun0_A.sl.v795]
    simp only [e0, e1, e2, e3, e4, e5, e6, e7]
    refine (congrArg₂ (· + ·) (?_ : _ = (0 : EReal)) rfl).trans (zero_add _)
    (try unfold kernelRun0_A.sl.H10_8) <;> (try unfold kernelRun0_A.sl.H10_7) <;> (try unfold kernelRun0_A.sl.H10_6) <;> (try unfold kernelRun0_A.sl.H10_5) <;> (try unfold kernelRun0_A.sl.H10_4)
      <;> (try unfold kernelRun0_A.sl.H10_3) <;> (try unfold kernelRun0_A.sl.H10_2) <;> (try unfold kernelRun0_A.sl.H10_1)
    repeat refine (congrFun (skip_head _ _ _ _ _ _ _ (by decide)) _).trans ?_
    exact fresh_head _ _ _ _ _ zero13 _

set_option maxHeartbeats 4000000 in
/-- The first tile's head of the shift gradient likewise. -/
theorem dbs_fresh (t s : Fin 128) :
    kernelRun0_A.sl.v438 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 0 s)
      ∧ kernelRun0_A.sl.v492 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 1 s)
      ∧ kernelRun0_A.sl.v546 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 2 s)
      ∧ kernelRun0_A.sl.v600 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 3 s)
      ∧ kernelRun0_A.sl.v654 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 4 s)
      ∧ kernelRun0_A.sl.v708 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 5 s)
      ∧ kernelRun0_A.sl.v762 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 6 s)
      ∧ kernelRun0_A.sl.v816 (F := Ideal) c a1 h1 a2 h2 a3 h3 a4 h4 a5 h5 a6 h6 a7 h7 a12 a14 x0 x1 x2 x3 x4 x5 x6 (ix3 0 t s) = ∑ k : Fin 4, Gate.dmix (line x2) (line x3) (line x6) (heads x4) (heads x5) (rows x0 k) (rows x1 k) t (Gate.col 7 s) := by
  obtain ⟨e0, e1, e2, e3, e4, e5, e6, e7⟩ :
    kernelRun0_A.sl.v432 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 0 s) ∧ kernelRun0_A.sl.v486 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 1 s) ∧ kernelRun0_A.sl.v540 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 2 s) ∧ kernelRun0_A.sl.v594 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 3 s) ∧ kernelRun0_A.sl.v648 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 4 s) ∧ kernelRun0_A.sl.v702 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 5 s) ∧ kernelRun0_A.sl.v756 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 6 s) ∧ kernelRun0_A.sl.v810 (F := Ideal) c a1 h1 a2 h2 a3 h3 a4 h4 a5 h5 a6 h6 a7 h7 a14 x0 x1 x2 x3 x4 x5 x6 (ix2 t s) = ∑ k : Fin 4, Gate.dmix (line x2) (line x3) (line x6) (heads x4) (heads x5) (rows x0 k) (rows x1 k) t (Gate.col 7 s) :=
    dbs_add c a1 h1 a2 h2 a3 h3 a4 h4 a5 h5 a6 h6 a7 h7 a14 x0 x1 x2 x3 x4 x5 x6 t s
  refine ⟨?_, ?_, ?_, ?_, ?_, ?_, ?_, ?_⟩
  all_goals
    pointwise [kernelRun0_A.sl.v434, kernelRun0_A.sl.v435, kernelRun0_A.sl.v438, kernelRun0_A.sl.v487, kernelRun0_A.sl.v488,
      kernelRun0_A.sl.v489, kernelRun0_A.sl.v492, kernelRun0_A.sl.v541, kernelRun0_A.sl.v542, kernelRun0_A.sl.v543,
      kernelRun0_A.sl.v546, kernelRun0_A.sl.v595, kernelRun0_A.sl.v596, kernelRun0_A.sl.v597, kernelRun0_A.sl.v600,
      kernelRun0_A.sl.v649, kernelRun0_A.sl.v650, kernelRun0_A.sl.v651, kernelRun0_A.sl.v654, kernelRun0_A.sl.v703,
      kernelRun0_A.sl.v704, kernelRun0_A.sl.v705, kernelRun0_A.sl.v708, kernelRun0_A.sl.v757, kernelRun0_A.sl.v758,
      kernelRun0_A.sl.v759, kernelRun0_A.sl.v762, kernelRun0_A.sl.v811, kernelRun0_A.sl.v812, kernelRun0_A.sl.v813,
      kernelRun0_A.sl.v816, kernelRun0_A.sl.v433, kernelRun0_A.sl.v487, kernelRun0_A.sl.v541, kernelRun0_A.sl.v595, kernelRun0_A.sl.v649, kernelRun0_A.sl.v703, kernelRun0_A.sl.v757, kernelRun0_A.sl.v811]
    simp only [e0, e1, e2, e3, e4, e5, e6, e7]
    refine (congrArg₂ (· + ·) (?_ : _ = (0 : EReal)) rfl).trans (zero_add _)
    (try unfold kernelRun0_A.sl.H11_8) <;> (try unfold kernelRun0_A.sl.H11_7) <;> (try unfold kernelRun0_A.sl.H11_6) <;> (try unfold kernelRun0_A.sl.H11_5) <;> (try unfold kernelRun0_A.sl.H11_4)
      <;> (try unfold kernelRun0_A.sl.H11_3) <;> (try unfold kernelRun0_A.sl.H11_2) <;> (try unfold kernelRun0_A.sl.H11_1)
    repeat refine (congrFun (skip_head _ _ _ _ _ _ _ (by decide)) _).trans ?_
    exact fresh_head _ _ _ _ _ zero14 _

theorem ws_A (i : grid0.Coords) (hc0 : cond0_0 i) (hc1 : ¬cond0_1 i) (h : Fin 8) (t s : Fin 128) :
    out0_A_10 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 (ix3 h t s) = (if s ≤ t then ∑ n : Fin 512, Gate.dweight (line x2) (line x3) (line x6) (heads x4) (heads x5) (rows x0 (chunk n)) (rows x1 (chunk n)) h t s (place n) else 0) := by
  obtain ⟨e0, e1, e2, e3, e4, e5, e6, e7⟩ := dws_fresh c a1 h1 a2 h2 a3 h3 a4 h4 a5 h5 a6 h6 a7 h7 a11 a14 x0 x1 x2 x3 x4 x5 x6 t s
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc0 hc1 x0 x1 x2 x3 x4 x5 x6)]
  unfold kernelRun0_A
  dsimp only
  fin_cases h
  all_goals
    first
      | refine (canon_head a11.view _ (o := 0) _ rfl (by decide) _ _).trans ?_
      | refine (canon_head a11.view _ (o := 1) _ rfl (by decide) _ _).trans ?_
      | refine (canon_head a11.view _ (o := 2) _ rfl (by decide) _ _).trans ?_
      | refine (canon_head a11.view _ (o := 3) _ rfl (by decide) _ _).trans ?_
      | refine (canon_head a11.view _ (o := 4) _ rfl (by decide) _ _).trans ?_
      | refine (canon_head a11.view _ (o := 5) _ rfl (by decide) _ _).trans ?_
      | refine (canon_head a11.view _ (o := 6) _ rfl (by decide) _ _).trans ?_
      | refine (canon_head a11.view _ (o := 7) _ rfl (by decide) _ _).trans ?_

    try unfold kernelRun0_A.sl.H10_8 kernelRun0_A.sl.H10_7 kernelRun0_A.sl.H10_6 kernelRun0_A.sl.H10_5 kernelRun0_A.sl.H10_4 kernelRun0_A.sl.H10_3 kernelRun0_A.sl.H10_2
    repeat refine (congrFun (skip_head _ _ _ _ _ _ _ (by decide)) _).trans ?_
    refine (congrFun (View.readCov_cons_toLoadRect ..) _).trans ?_
    simp only [e0, e1, e2, e3, e4, e5, e6, e7]
    rfl

theorem bs_A (i : grid0.Coords) (hc0 : cond0_0 i) (hc1 : ¬cond0_1 i) (h : Fin 8) (t s : Fin 128) :
    out0_A_11 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 (ix3 h t s) = ∑ k : Fin 4, Gate.dmix (line x2) (line x3) (line x6) (heads x4) (heads x5) (rows x0 k) (rows x1 k) t (Gate.col h s) := by
  obtain ⟨e0, e1, e2, e3, e4, e5, e6, e7⟩ := dbs_fresh c a1 h1 a2 h2 a3 h3 a4 h4 a5 h5 a6 h6 a7 h7 a12 a14 x0 x1 x2 x3 x4 x5 x6 t s
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc0 hc1 x0 x1 x2 x3 x4 x5 x6)]
  unfold kernelRun0_A
  dsimp only
  fin_cases h
  all_goals
    first
      | refine (canon_head a12.view _ (o := 0) _ rfl (by decide) _ _).trans ?_
      | refine (canon_head a12.view _ (o := 1) _ rfl (by decide) _ _).trans ?_
      | refine (canon_head a12.view _ (o := 2) _ rfl (by decide) _ _).trans ?_
      | refine (canon_head a12.view _ (o := 3) _ rfl (by decide) _ _).trans ?_
      | refine (canon_head a12.view _ (o := 4) _ rfl (by decide) _ _).trans ?_
      | refine (canon_head a12.view _ (o := 5) _ rfl (by decide) _ _).trans ?_
      | refine (canon_head a12.view _ (o := 6) _ rfl (by decide) _ _).trans ?_
      | refine (canon_head a12.view _ (o := 7) _ rfl (by decide) _ _).trans ?_

    try unfold kernelRun0_A.sl.H11_8 kernelRun0_A.sl.H11_7 kernelRun0_A.sl.H11_6 kernelRun0_A.sl.H11_5 kernelRun0_A.sl.H11_4 kernelRun0_A.sl.H11_3 kernelRun0_A.sl.H11_2
    repeat refine (congrFun (skip_head _ _ _ _ _ _ _ (by decide)) _).trans ?_
    refine (congrFun (View.readCov_cons_toLoadRect ..) _).trans ?_
    simp only [e0, e1, e2, e3, e4, e5, e6, e7]
    rfl

/-! ### Grid points of kind B -/

theorem wide_B (i : grid0.Coords) (hc0 : ¬cond0_0 i) (hc1 : ¬cond0_1 i) (a : Fin 512) (j : Fin 2048) :
    out0_B_7 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 (ix2 a j) = Gate.dwide (line x2) (line x3) (line x6) (heads x4) (heads x5) (rows x0 (chunk a)) (rows x1 (chunk a)) (place a) j := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12)]
  unfold kernelRun0_B
  dsimp only
  rw [View.canon_unit_zero off2]
  exact (congrArg (fun r => k0_pay1 (kernelRun0_B.sl.r_2 (F := Ideal) c a1 h1 x0) (kernelRun0_B.sl.v398 (F := Ideal) c a1 h1 a2 h2 a3 h3 a4 h4 a5 h5 a6 h6 a7 h7 a14 x0 x1 x2 x3 x4 x5 x6) (kernelRun0_B.sl.r_7 (F := Ideal) c a1 h1 a2 h2 a3 h3 a4 h4 a5 h5 a6 h6 a7 h7 a14 a15 x0 x1 x2 x3 x4 x5 x6)
    (kernelRun0_B.sl.r_8 (F := Ideal) c a1 h1 x0) (ix2 r j)) (at4_chunk a).symm).trans (wide_at ..)

theorem vg_B (i : grid0.Coords) (hc0 : ¬cond0_0 i) (hc1 : ¬cond0_1 i) (j : Fin 1024) :
    out0_B_8 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 (ix2 0 j) = xo8 (ix2 0 j) + ∑ a : Fin 512, Gate.dvg (line x2) (line x3) (line x6) (heads x4) (heads x5) (rows x0 (chunk a)) (rows x1 (chunk a)) (place a) j := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12)]
  unfold kernelRun0_B
  dsimp only
  rw [View.canon_unit_zero off2]
  refine congrArg₂ (· + ·) ?_ (vg_add ..)
  pointwise [kernelRun0_B.sl.v835]
  rw [whole2 a9 h9 xo8 _ off2]

theorem vb_B (i : grid0.Coords) (hc0 : ¬cond0_0 i) (hc1 : ¬cond0_1 i) (j : Fin 1024) :
    out0_B_9 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 (ix2 0 j) = xo9 (ix2 0 j) + ∑ a : Fin 512, Gate.dnorm (line x2) (line x3) (line x6) (heads x4) (heads x5) (rows x0 (chunk a)) (rows x1 (chunk a)) (place a) j := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12)]
  unfold kernelRun0_B
  dsimp only
  rw [View.canon_unit_zero off2, whole2 a10 h10 xo9 _ off2]
  exact vb_add ..

theorem og_B (i : grid0.Coords) (hc0 : ¬cond0_0 i) (hc1 : ¬cond0_1 i) (j : Fin 1024) :
    out0_B_12 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 (ix2 0 j) = xo12 (ix2 0 j) + ∑ a : Fin 512, Gate.dog (line x2) (line x3) (heads x4) (heads x5) (rows x0 (chunk a)) (rows x1 (chunk a)) (place a) j := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12)]
  unfold kernelRun0_B
  dsimp only
  rw [View.canon_unit_zero off2]
  refine congrArg₂ (· + ·) ?_ (og_add ..)
  pointwise [kernelRun0_B.sl.v379]
  rw [whole2 a13 h13 xo12 _ off2]

theorem ws_B (i : grid0.Coords) (hc0 : ¬cond0_0 i) (hc1 : ¬cond0_1 i) (h : Fin 8) (t s : Fin 128) :
    out0_B_10 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 (ix3 h t s) = xo10 (ix3 h t s) + (if s ≤ t then ∑ n : Fin 512, Gate.dweight (line x2) (line x3) (line x6) (heads x4) (heads x5) (rows x0 (chunk n)) (rows x1 (chunk n)) h t s (place n) else 0) := by
  obtain ⟨e0, e1, e2, e3, e4, e5, e6, e7⟩ := dws_tile c a1 h1 a2 h2 a3 h3 a4 h4 a5 h5 a6 h6 a7 h7 a11 h11 a14 x0 x1 x2 x3 x4 x5 x6 xo10 t s
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12)]
  unfold kernelRun0_B
  dsimp only
  fin_cases h
  all_goals
    first
      | refine (canon_head a11.view _ (o := 0) _ rfl (by decide) _ _).trans ?_
      | refine (canon_head a11.view _ (o := 1) _ rfl (by decide) _ _).trans ?_
      | refine (canon_head a11.view _ (o := 2) _ rfl (by decide) _ _).trans ?_
      | refine (canon_head a11.view _ (o := 3) _ rfl (by decide) _ _).trans ?_
      | refine (canon_head a11.view _ (o := 4) _ rfl (by decide) _ _).trans ?_
      | refine (canon_head a11.view _ (o := 5) _ rfl (by decide) _ _).trans ?_
      | refine (canon_head a11.view _ (o := 6) _ rfl (by decide) _ _).trans ?_
      | refine (canon_head a11.view _ (o := 7) _ rfl (by decide) _ _).trans ?_

    repeat refine (congrFun (skip_head _ _ _ _ _ _ _ (by decide)) _).trans ?_
    refine (congrFun (View.readCov_cons_toLoadRect ..) _).trans ?_
    simp only [e0, e1, e2, e3, e4, e5, e6, e7]
    rfl

theorem bs_B (i : grid0.Coords) (hc0 : ¬cond0_0 i) (hc1 : ¬cond0_1 i) (h : Fin 8) (t s : Fin 128) :
    out0_B_11 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 (ix3 h t s) = xo11 (ix3 h t s) + ∑ k : Fin 4, Gate.dmix (line x2) (line x3) (line x6) (heads x4) (heads x5) (rows x0 k) (rows x1 k) t (Gate.col h s) := by
  obtain ⟨e0, e1, e2, e3, e4, e5, e6, e7⟩ := dbs_tile c a1 h1 a2 h2 a3 h3 a4 h4 a5 h5 a6 h6 a7 h7 a12 h12 a14 x0 x1 x2 x3 x4 x5 x6 xo11 t s
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12)]
  unfold kernelRun0_B
  dsimp only
  fin_cases h
  all_goals
    first
      | refine (canon_head a12.view _ (o := 0) _ rfl (by decide) _ _).trans ?_
      | refine (canon_head a12.view _ (o := 1) _ rfl (by decide) _ _).trans ?_
      | refine (canon_head a12.view _ (o := 2) _ rfl (by decide) _ _).trans ?_
      | refine (canon_head a12.view _ (o := 3) _ rfl (by decide) _ _).trans ?_
      | refine (canon_head a12.view _ (o := 4) _ rfl (by decide) _ _).trans ?_
      | refine (canon_head a12.view _ (o := 5) _ rfl (by decide) _ _).trans ?_
      | refine (canon_head a12.view _ (o := 6) _ rfl (by decide) _ _).trans ?_
      | refine (canon_head a12.view _ (o := 7) _ rfl (by decide) _ _).trans ?_

    repeat refine (congrFun (skip_head _ _ _ _ _ _ _ (by decide)) _).trans ?_
    refine (congrFun (View.readCov_cons_toLoadRect ..) _).trans ?_
    simp only [e0, e1, e2, e3, e4, e5, e6, e7]
    rfl

/-! ### The last grid point -/

set_option maxHeartbeats 4000000 in
theorem last_as_later (i i' : grid0.Coords) (hc0 : ¬cond0_0 i) (hc1 : cond0_1 i) (hd0 : ¬cond0_0 i') (hd1 : ¬cond0_1 i') :
    out0_C_7 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 = out0_B_7 (F := Ideal) c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12 ∧ out0_C_8 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 = out0_B_8 (F := Ideal) c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12 ∧ out0_C_9 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 = out0_B_9 (F := Ideal) c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12 ∧ out0_C_10 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 = out0_B_10 (F := Ideal) c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12 ∧ out0_C_12 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 = out0_B_12 (F := Ideal) c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12 := by
  refine ⟨?_, ?_, ?_, ?_, ?_⟩
  · unfold out0_C_7 out0_B_7
    rw [View.read_writes_eq_canon _ _ _ (cover0_C_7 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12), View.read_writes_eq_canon _ _ _ (cover0_B_7 c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12)]
    unfold kernelRun0_C kernelRun0_B
    dsimp only
    rfl
  · unfold out0_C_8 out0_B_8
    rw [View.read_writes_eq_canon _ _ _ (cover0_C_8 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12), View.read_writes_eq_canon _ _ _ (cover0_B_8 c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12)]
    unfold kernelRun0_C kernelRun0_B
    dsimp only
    rfl
  · unfold out0_C_9 out0_B_9
    rw [View.read_writes_eq_canon _ _ _ (cover0_C_9 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12), View.read_writes_eq_canon _ _ _ (cover0_B_9 c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12)]
    unfold kernelRun0_C kernelRun0_B
    dsimp only
    rfl
  · unfold out0_C_10 out0_B_10
    rw [View.read_writes_eq_canon _ _ _ (cover0_C_10 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12), View.read_writes_eq_canon _ _ _ (cover0_B_10 c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12)]
    unfold kernelRun0_C kernelRun0_B
    dsimp only
    rfl
  · unfold out0_C_12 out0_B_12
    rw [View.read_writes_eq_canon _ _ _ (cover0_C_12 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12), View.read_writes_eq_canon _ _ _ (cover0_B_12 c i' a1 h1 a2 h2 a3 h3 a4 h4 a5 h5 a6 h6 a7 h7 a8 h8 a9 h9 a10 h10 a11 h11 a12 h12 a13 h13 a14 h14 a15 h15 hd0 hd1 x0 x1 x2 x3 x4 x5 x6 xo8 xo9 xo10 xo11 xo12)]
    unfold kernelRun0_C kernelRun0_B
    dsimp only
    rfl

set_option maxHeartbeats 4000000 in
/-- The last tile closes each head's shift gradient: its columns are summed, the sum standing in every lane. -/
theorem bs_C (i : grid0.Coords) (hc0 : ¬cond0_0 i) (hc1 : cond0_1 i) (h : Fin 8) (t s : Fin 128) :
    out0_C_11 (F := Ideal) c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12 (ix3 h t s) = ∑ q : Fin 128, (xo11 (ix3 h t q) + ∑ k : Fin 4, Gate.dmix (line x2) (line x3) (line x6) (heads x4) (heads x5) (rows x0 k) (rows x1 k) t (Gate.col h q)) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 hc0 hc1 x0 x1 x2 x3 x4 x5 x6 xo8 xo9 xo10 xo11 xo12)]
  unfold kernelRun0_C
  dsimp only
  fin_cases h
  all_goals
    first
      | refine (canon_head a12.view _ (o := 0) _ rfl (by decide) _ _).trans ?_
      | refine (canon_head a12.view _ (o := 1) _ rfl (by decide) _ _).trans ?_
      | refine (canon_head a12.view _ (o := 2) _ rfl (by decide) _ _).trans ?_
      | refine (canon_head a12.view _ (o := 3) _ rfl (by decide) _ _).trans ?_
      | refine (canon_head a12.view _ (o := 4) _ rfl (by decide) _ _).trans ?_
      | refine (canon_head a12.view _ (o := 5) _ rfl (by decide) _ _).trans ?_
      | refine (canon_head a12.view _ (o := 6) _ rfl (by decide) _ _).trans ?_
      | refine (canon_head a12.view _ (o := 7) _ rfl (by decide) _ _).trans ?_

    ((try unfold kernelRun0_C.sl.H11_15) <;> (try unfold kernelRun0_C.sl.H11_14) <;> (try unfold kernelRun0_C.sl.H11_13) <;> (try unfold kernelRun0_C.sl.H11_12) <;> (try unfold kernelRun0_C.sl.H11_11) <;> (try unfold kernelRun0_C.sl.H11_10) <;> (try unfold kernelRun0_C.sl.H11_9))
    repeat refine (congrFun (skip_head _ _ _ _ _ _ _ (by decide)) _).trans ?_
    refine (congrFun (View.readCov_cons_toLoadRect ..) _).trans ?_
    pointwise [k0_pay2, k0_pay3, k0_pay4, k0_pay5, k0_pay6, k0_pay7, k0_pay8, k0_pay9, k0_pay10, kernelRun0_C.sl.r_9]
    refine Finset.sum_congr rfl fun q _ => ?_
    obtain ⟨e0, e1, e2, e3, e4, e5, e6, e7⟩ :
      kernelRun0_C.sl.v438 (F := Ideal) c a1 h1 a2 h2 a3 h3 a4 h4 a5 h5 a6 h6 a7 h7 a12 h12 a14 x0 x1 x2 x3 x4 x5 x6 xo11 (ix3 0 t q) = xo11 (ix3 0 t q) + ∑ k : Fin 4, Gate.dmix (line x2) (line x3) (line x6) (heads x4) (heads x5) (rows x0 k) (rows x1 k) t (Gate.col 0 q) ∧ kernelRun0_C.sl.v492 (F := Ideal) c a1 h1 a2 h2 a3 h3 a4 h4 a5 h5 a6 h6 a7 h7 a12 h12 a14 x0 x1 x2 x3 x4 x5 x6 xo11 (ix3 0 t q) = xo11 (ix3 1 t q) + ∑ k : Fin 4, Gate.dmix (line x2) (line x3) (line x6) (heads x4) (heads x5) (rows x0 k) (rows x1 k) t (Gate.col 1 q) ∧ kernelRun0_C.sl.v546 (F := Ideal) c a1 h1 a2 h2 a3 h3 a4 h4 a5 h5 a6 h6 a7 h7 a12 h12 a14 x0 x1 x2 x3 x4 x5 x6 xo11 (ix3 0 t q) = xo11 (ix3 2 t q) + ∑ k : Fin 4, Gate.dmix (line x2) (line x3) (line x6) (heads x4) (heads x5) (rows x0 k) (rows x1 k) t (Gate.col 2 q) ∧ kernelRun0_C.sl.v600 (F := Ideal) c a1 h1 a2 h2 a3 h3 a4 h4 a5 h5 a6 h6 a7 h7 a12 h12 a14 x0 x1 x2 x3 x4 x5 x6 xo11 (ix3 0 t q) = xo11 (ix3 3 t q) + ∑ k : Fin 4, Gate.dmix (line x2) (line x3) (line x6) (heads x4) (heads x5) (rows x0 k) (rows x1 k) t (Gate.col 3 q) ∧ kernelRun0_C.sl.v654 (F := Ideal) c a1 h1 a2 h2 a3 h3 a4 h4 a5 h5 a6 h6 a7 h7 a12 h12 a14 x0 x1 x2 x3 x4 x5 x6 xo11 (ix3 0 t q) = xo11 (ix3 4 t q) + ∑ k : Fin 4, Gate.dmix (line x2) (line x3) (line x6) (heads x4) (heads x5) (rows x0 k) (rows x1 k) t (Gate.col 4 q) ∧ kernelRun0_C.sl.v708 (F := Ideal) c a1 h1 a2 h2 a3 h3 a4 h4 a5 h5 a6 h6 a7 h7 a12 h12 a14 x0 x1 x2 x3 x4 x5 x6 xo11 (ix3 0 t q) = xo11 (ix3 5 t q) + ∑ k : Fin 4, Gate.dmix (line x2) (line x3) (line x6) (heads x4) (heads x5) (rows x0 k) (rows x1 k) t (Gate.col 5 q) ∧ kernelRun0_C.sl.v762 (F := Ideal) c a1 h1 a2 h2 a3 h3 a4 h4 a5 h5 a6 h6 a7 h7 a12 h12 a14 x0 x1 x2 x3 x4 x5 x6 xo11 (ix3 0 t q) = xo11 (ix3 6 t q) + ∑ k : Fin 4, Gate.dmix (line x2) (line x3) (line x6) (heads x4) (heads x5) (rows x0 k) (rows x1 k) t (Gate.col 6 q) ∧ kernelRun0_C.sl.v816 (F := Ideal) c a1 h1 a2 h2 a3 h3 a4 h4 a5 h5 a6 h6 a7 h7 a12 h12 a14 x0 x1 x2 x3 x4 x5 x6 xo11 (ix3 0 t q) = xo11 (ix3 7 t q) + ∑ k : Fin 4, Gate.dmix (line x2) (line x3) (line x6) (heads x4) (heads x5) (rows x0 k) (rows x1 k) t (Gate.col 7 q) :=
      dbs_tile c a1 h1 a2 h2 a3 h3 a4 h4 a5 h5 a6 h6 a7 h7 a12 h12 a14 x0 x1 x2 x3 x4 x5 x6 xo11 t q
    first
      | unfold kernelRun0_C.sl.v872
      | unfold kernelRun0_C.sl.v881
      | unfold kernelRun0_C.sl.v890
      | unfold kernelRun0_C.sl.v899
      | unfold kernelRun0_C.sl.v908
      | unfold kernelRun0_C.sl.v917
      | unfold kernelRun0_C.sl.v926
      | unfold kernelRun0_C.sl.v935
    ((try unfold kernelRun0_C.sl.H11_15) <;> (try unfold kernelRun0_C.sl.H11_14) <;> (try unfold kernelRun0_C.sl.H11_13) <;> (try unfold kernelRun0_C.sl.H11_12) <;> (try unfold kernelRun0_C.sl.H11_11) <;> (try unfold kernelRun0_C.sl.H11_10) <;> (try unfold kernelRun0_C.sl.H11_9) <;> (try unfold kernelRun0_C.sl.H11_8))
    repeat refine (congrFun (skip_head _ _ _ _ _ _ _ (by decide)) _).trans ?_
    refine (congrFun (View.readCov_cons_toLoadRect ..) _).trans ?_
    simp only [e0, e1, e2, e3, e4, e5, e6, e7]

end Tile

end Cert.GmIdeal.Cases

end
-- ==== Proof.GmBlocks.lean ====
/- What the input blocks of the gated unit's backward call hold: at grid point `t` the rows of the wide input and of the
   cotangent are rows `512 t` to `512 t + 511` of the arrays the program is given, and the weights are the arrays whole. -/
module

public import proofs.«01_k».proof.Proof.GmTile
public import Idealize.ShloMosaic.Lib.Pointwise

@[expose] public section
set_option maxRecDepth 16384
noncomputable section
open Idealize.ShloMosaic Idealize.ShloMosaic.TcCoe Idealize.SL.Sem

namespace Cert.GmIdeal.Blocks

open Cert.GmIdeal Cert.GmIdeal.Gen Cert.GmIdeal.Cases

variable (m : (ℓ : Loc nD τ sig) → Buf (Elt Ideal) ℓ) (c : Dev nD)

/-- The argument arrays, at their shapes: the wide input, the scale and shift of the row normalisation, the mixing weights
    and shifts, the scale of the gated rows' normalisation, the cotangent. -/
abbrev ps : FVec Ideal S8192x4096 .f32 := m ((c : Thread nD τ).loc main_arg0)
abbrev vgs : FVec Ideal S1x1024 .f32 := m ((c : Thread nD τ).loc main_arg1)
abbrev vbs : FVec Ideal S1x1024 .f32 := m ((c : Thread nD τ).loc main_arg2)
abbrev wss : FVec Ideal S1x8x128x128 .f32 := m ((c : Thread nD τ).loc main_arg3)
abbrev bss : FVec Ideal S1x8x128 .f32 := m ((c : Thread nD τ).loc main_arg4)
abbrev ogs : FVec Ideal S1x1024 .f32 := m ((c : Thread nD τ).loc main_arg5)
abbrev ys : FVec Ideal S8192x2048 .f32 := m ((c : Thread nD τ).loc main_arg6)

/-- The place of row `p` of chunk `k` among all rows, and a row's chunk and its place there. -/
abbrev spot (k : Fin 64) (p : Fin 128) : Fin 8192 := ⟨128 * k.1 + p.1, by omega⟩
abbrev chunkOf (r : Fin 8192) : Fin 64 := ⟨r.1 / 128, by omega⟩
abbrev placeOf (r : Fin 8192) : Fin 128 := ⟨r.1 % 128, by omega⟩

/-- The chunks of the wide input's first columns and of the cotangent's. -/
def wide (k : Fin 64) (p : Fin 128) (j : Fin 2048) : EReal := ps m c (ix2 (spot k p) ⟨j.1, by omega⟩)
def cot (k : Fin 64) (p : Fin 128) (j : Fin 1024) : EReal := ys m c (ix2 (spot k p) ⟨j.1, by omega⟩)

/-- The weights by coordinates. -/
def vg (j : Fin 1024) : EReal := vgs m c (ix2 0 j)
def vb (j : Fin 1024) : EReal := vbs m c (ix2 0 j)
def og (j : Fin 1024) : EReal := ogs m c (ix2 0 j)
def wt (h : Fin 8) (p s : Fin 128) : EReal := wss m c (ix4 0 h p s)
def bt (h : Fin 8) (p _q : Fin 128) : EReal := bss m c (ix3 0 h p)

variable (t : Fin cfg0.N)

theorem point_lt : t.val < 16 := N_0 ▸ t.isLt

/-- Chunk `k` and row `a` of point `t`'s tile among all chunks and rows. -/
abbrev tileChunk (k : Fin 4) : Fin 64 := ⟨4 * t.val + k.1, by have := point_lt t; omega⟩
abbrev tileRow (a : Fin 512) : Fin 8192 := ⟨512 * t.val + a.1, by have := point_lt t; omega⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 ∧ win0_4.index t 2 = 0 := by decide +kernel
theorem index5 : ∀ t : Fin cfg0.N, win0_5.index t 0 = 0 ∧ win0_5.index t 1 = 0 ∧ win0_5.index t 2 = 0 := by decide +kernel
theorem index6 : ∀ t : Fin cfg0.N, win0_6.index t 0 = 0 ∧ win0_6.index t 1 = 0 := by decide +kernel

/-- The mixing weights and shifts as the region finds them. -/
theorem given_ws (h : Fin 8) (p s : Fin 128) : V m c main_v3 (ix3 h p s) = wt m c h p s := by
  have e : V m c main_v3 = shapeCast S8x128x128 (wss m c) shapeCasts_S1x8x128x128_S8x128x128 := by
    show StableHlo.after hostOps0 _ (Proc.devRef .tc main_v3) = _
    after_results
    rfl
  rw [e]
  pointwise []
  rfl

theorem given_bs (h : Fin 8) (p q : Fin 128) : V m c main_v2 (ix3 h p q) = bt m c h p q := by
  have e : ∃ h1 h2 h3, V m c main_v2 = broadcastInDim S8x128x128 ![0, 1, 2] h1
      (broadcastInDim S8x128x1 ![0, 1] h2 (shapeCast S8x128 (bss m c) h3)) := by
    refine ⟨?_, ?_, ?_, ?_⟩
    rotate_left 3
    · show StableHlo.after hostOps0 _ (Proc.devRef .tc main_v2) = _
      after_results
      rfl
  obtain ⟨h1, h2, h3, e⟩ := e
  rw [e]
  pointwise []
  rfl

theorem rows0 (k : Fin 4) : rows (iblk m c 0 t) k = wide m c (tileChunk t k) := by
  obtain ⟨e0, e1⟩ := index0 t
  funext p j
  show iblk m c 0 t (ix2 (at4 k p) j) = _
  unfold iblk
  rw [View.read_apply]
  show V m c main_arg0 _ = _
  rw [V_main_arg0]
  refine congrArg (ps m c) (funext fun a => Fin.ext ?_)
  match a with
  | ⟨0, _⟩ => show win0_0.index t 0 * 512 + 1 * (128 * k.1 + p.1) = 128 * (4 * t.val + k.1) + p.1; rw [e0]; omega
  | ⟨1, _⟩ => show win0_0.index t 1 * 2048 + 1 * j.1 = j.1; rw [e1]; omega

theorem rows1 (k : Fin 4) : rows (iblk m c 1 t) k = cot m c (tileChunk t k) := by
  obtain ⟨e0, e1⟩ := index1 t
  funext p j
  show iblk m c 1 t (ix2 (at4 k p) j) = _
  unfold iblk
  rw [View.read_apply]
  show V m c main_arg6 _ = _
  rw [V_main_arg6]
  refine congrArg (ys m c) (funext fun a => Fin.ext ?_)
  match a with
  | ⟨0, _⟩ => show win0_1.index t 0 * 512 + 1 * (128 * k.1 + p.1) = 128 * (4 * t.val + k.1) + p.1; rw [e0]; omega
  | ⟨1, _⟩ => show win0_1.index t 1 * 1024 + 1 * j.1 = j.1; rw [e1]; omega

theorem line2 : line (iblk m c 2 t) = vg m c := by
  obtain ⟨e0, e1⟩ := index2 t
  funext j
  show iblk m c 2 t (ix2 0 j) = _
  unfold iblk
  rw [View.read_apply]
  show V m c main_arg1 _ = _
  rw [V_main_arg1]
  refine congrArg (vgs m c) (funext fun a => Fin.ext ?_)
  match a with
  | ⟨0, _⟩ => show win0_2.index t 0 * 1 + 1 * 0 = 0; rw [e0]
  | ⟨1, _⟩ => show win0_2.index t 1 * 1024 + 1 * j.1 = j.1; rw [e1]; omega

theorem line3 : line (iblk m c 3 t) = vb m c := by
  obtain ⟨e0, e1⟩ := index3 t
  funext j
  show iblk m c 3 t (ix2 0 j) = _
  unfold iblk
  rw [View.read_apply]
  show V m c main_arg2 _ = _
  rw [V_main_arg2]
  refine congrArg (vbs m c) (funext fun a => Fin.ext ?_)
  match a with
  | ⟨0, _⟩ => show win0_3.index t 0 * 1 + 1 * 0 = 0; rw [e0]
  | ⟨1, _⟩ => show win0_3.index t 1 * 1024 + 1 * j.1 = j.1; rw [e1]; omega

theorem line6 : line (iblk m c 6 t) = og m c := by
  obtain ⟨e0, e1⟩ := index6 t
  funext j
  show iblk m c 6 t (ix2 0 j) = _
  unfold iblk
  rw [View.read_apply]
  show V m c main_arg5 _ = _
  rw [V_main_arg5]
  refine congrArg (ogs m c) (funext fun a => Fin.ext ?_)
  match a with
  | ⟨0, _⟩ => show win0_6.index t 0 * 1 + 1 * 0 = 0; rw [e0]
  | ⟨1, _⟩ => show win0_6.index t 1 * 1024 + 1 * j.1 = j.1; rw [e1]; omega

theorem heads4 : heads (iblk m c 4 t) = wt m c := by
  obtain ⟨e0, e1, e2⟩ := index4 t
  funext h p s
  rw [← given_ws]
  show iblk m c 4 t (ix3 h p s) = _
  unfold iblk
  rw [View.read_apply]
  show V m c main_v3 _ = _
  refine congrArg (V m c main_v3) (funext fun a => Fin.ext ?_)
  match a with
  | ⟨0, _⟩ => show win0_4.index t 0 * 8 + 1 * h.1 = h.1; rw [e0]; omega
  | ⟨1, _⟩ => show win0_4.index t 1 * 128 + 1 * p.1 = p.1; rw [e1]; omega
  | ⟨2, _⟩ => show win0_4.index t 2 * 128 + 1 * s.1 = s.1; rw [e2]; omega

theorem heads5 : heads (iblk m c 5 t) = bt m c := by
  obtain ⟨e0, e1, e2⟩ := index5 t
  funext h p s
  rw [← given_bs]
  show iblk m c 5 t (ix3 h p s) = _
  unfold iblk
  rw [View.read_apply]
  show V m c main_v2 _ = _
  refine congrArg (V m c main_v2) (funext fun a => Fin.ext ?_)
  match a with
  | ⟨0, _⟩ => show win0_5.index t 0 * 8 + 1 * h.1 = h.1; rw [e0]; omega
  | ⟨1, _⟩ => show win0_5.index t 1 * 128 + 1 * p.1 = p.1; rw [e1]; omega
  | ⟨2, _⟩ => show win0_5.index t 2 * 128 + 1 * s.1 = s.1; rw [e2]; omega

/-- A tile's row by its chunk and place. -/
theorem chunk_row (a : Fin 512) : tileChunk t (chunk a) = chunkOf (tileRow t a) :=
  Fin.ext (by show 4 * t.val + a.1 / 128 = (512 * t.val + a.1) / 128; omega)
theorem place_row (a : Fin 512) : place a = placeOf (tileRow t a) :=
  Fin.ext (by show a.1 % 128 = (512 * t.val + a.1) % 128; omega)

end Cert.GmIdeal.Blocks

end
-- ==== Proof.GmFold.lean ====
/- The running sums of the gated unit's backward call: after grid point `n` they hold the terms of the rows met so far, and
   after the last point those of all rows. -/
module

public import proofs.«01_k».proof.Proof.Sums
public import proofs.«01_k».proof.Proof.GmOut
public import proofs.«01_k».proof.Proof.GmBlocks
public import proofs.«01_k».proof.Proof.Gen.GmIdeal.Value

@[expose] public section
set_option maxRecDepth 16384
noncomputable section
open Idealize.ShloMosaic Idealize.ShloMosaic.TcCoe Idealize.SL.Sem

namespace Cert.GmIdeal.Fold

open Cert.GmIdeal Cert.GmIdeal.Gen Cert.GmIdeal.Cases Cert.GmIdeal.Blocks Cert.Sums

variable (m : (ℓ : Loc nD τ sig) → Buf (Elt Ideal) ℓ) (c : Dev nD)

/-! ## The terms -/

/-- What row `r` adds to the gradients of the two scales and the shift, at column `j`. -/
def vgTerm (j : Fin 1024) (r : Fin 8192) : EReal :=
  Gate.dvg (vg m c) (vb m c) (og m c) (wt m c) (bt m c) (wide m c (chunkOf r)) (cot m c (chunkOf r)) (placeOf r) j
def vbTerm (j : Fin 1024) (r : Fin 8192) : EReal :=
  Gate.dnorm (vg m c) (vb m c) (og m c) (wt m c) (bt m c) (wide m c (chunkOf r)) (cot m c (chunkOf r)) (placeOf r) j
def ogTerm (j : Fin 1024) (r : Fin 8192) : EReal :=
  Gate.dog (vg m c) (vb m c) (wt m c) (bt m c) (wide m c (chunkOf r)) (cot m c (chunkOf r)) (placeOf r) j

/-- What column `r % 128` of chunk `r / 128` adds to the gradient of a mixing weight. -/
def wsTerm (h : Fin 8) (p s : Fin 128) (r : Fin 8192) : EReal :=
  if s ≤ p then
    Gate.dweight (vg m c) (vb m c) (og m c) (wt m c) (bt m c) (wide m c (chunkOf r)) (cot m c (chunkOf r)) h p s (placeOf r)
  else 0

/-- What chunk `k` adds to column `q` of the gradient of a mixing shift. -/
def bsTerm (h : Fin 8) (p q : Fin 128) (k : Fin 64) : EReal :=
  Gate.dmix (vg m c) (vb m c) (og m c) (wt m c) (bt m c) (wide m c k) (cot m c k) p (Gate.col h q)

/-- Row `r` of the gradient of the wide input. -/
def wideRow (r : Fin 8192) (j : Fin 2048) : EReal :=
  Gate.dwide (vg m c) (vb m c) (og m c) (wt m c) (bt m c) (wide m c (chunkOf r)) (cot m c (chunkOf r)) (placeOf r) j

/-! ## One point -/

variable (t : Fin cfg0.N)

theorem tile_wide (a : Fin 512) (j : Fin 2048) :
    Gate.dwide (line (iblk m c 2 t)) (line (iblk m c 3 t)) (line (iblk m c 6 t)) (heads (iblk m c 4 t)) (heads (iblk m c 5 t))
      (rows (iblk m c 0 t) (chunk a)) (rows (iblk m c 1 t) (chunk a)) (place a) j = wideRow m c (tileRow t a) j := by
  rw [line2, line3, line6, heads4, heads5, rows0, rows1, chunk_row, place_row t]; rfl

theorem tile_vg (j : Fin 1024) :
    (∑ a : Fin 512, Gate.dvg (line (iblk m c 2 t)) (line (iblk m c 3 t)) (line (iblk m c 6 t)) (heads (iblk m c 4 t)) (heads (iblk m c 5 t))
      (rows (iblk m c 0 t) (chunk a)) (rows (iblk m c 1 t) (chunk a)) (place a) j) = ∑ a, vgTerm m c j (tileRow t a) :=
  Finset.sum_congr rfl fun a _ => by rw [line2, line3, line6, heads4, heads5, rows0, rows1, chunk_row, place_row t]; rfl

theorem tile_vb (j : Fin 1024) :
    (∑ a : Fin 512, Gate.dnorm (line (iblk m c 2 t)) (line (iblk m c 3 t)) (line (iblk m c 6 t)) (heads (iblk m c 4 t)) (heads (iblk m c 5 t))
      (rows (iblk m c 0 t) (chunk a)) (rows (iblk m c 1 t) (chunk a)) (place a) j) = ∑ a, vbTerm m c j (tileRow t a) :=
  Finset.sum_congr rfl fun a _ => by rw [line2, line3, line6, heads4, heads5, rows0, rows1, chunk_row, place_row t]; rfl

theorem tile_og (j : Fin 1024) :
    (∑ a : Fin 512, Gate.dog (line (iblk m c 2 t)) (line (iblk m c 3 t)) (heads (iblk m c 4 t)) (heads (iblk m c 5 t))
      (rows (iblk m c 0 t) (chunk a)) (rows (iblk m c 1 t) (chunk a)) (place a) j) = ∑ a, ogTerm m c j (tileRow t a) :=
  Finset.sum_congr rfl fun a _ => by rw [line2, line3, heads4, heads5, rows0, rows1, chunk_row, place_row t]; rfl

theorem tile_ws (h : Fin 8) (p s : Fin 128) :
    (if s ≤ p then ∑ a : Fin 512, Gate.dweight (line (iblk m c 2 t)) (line (iblk m c 3 t)) (line (iblk m c 6 t)) (heads (iblk m c 4 t)) (heads (iblk m c 5 t))
      (rows (iblk m c 0 t) (chunk a)) (rows (iblk m c 1 t) (chunk a)) h p s (place a) else 0) = ∑ a, wsTerm m c h p s (tileRow t a) := by
  unfold wsTerm
  split
  · exact Finset.sum_congr rfl fun a _ => by rw [line2, line3, line6, heads4, heads5, rows0, rows1, chunk_row, place_row t]
  · exact Finset.sum_const_zero.symm

theorem tile_bs (h : Fin 8) (p q : Fin 128) :
    (∑ k : Fin 4, Gate.dmix (line (iblk m c 2 t)) (line (iblk m c 3 t)) (line (iblk m c 6 t)) (heads (iblk m c 4 t)) (heads (iblk m c 5 t))
      (rows (iblk m c 0 t) k) (rows (iblk m c 1 t) k) p (Gate.col h q)) = ∑ k, bsTerm m c h p q (tileChunk t k) :=
  Finset.sum_congr rfl fun k _ => by rw [line2, line3, line6, heads4, heads5, rows0, rows1]; rfl

/-- The first point. -/
theorem first (h0 : t.val % 16 = 0) :
    (∀ a j, (outsAt0 m c t.val t.isLt).1 (ix2 a j) = wideRow m c (tileRow t a) j)
      ∧ (∀ j, (outsAt0 m c t.val t.isLt).2.1 (ix2 0 j) = ∑ a, vgTerm m c j (tileRow t a))
      ∧ (∀ j, (outsAt0 m c t.val t.isLt).2.2.1 (ix2 0 j) = ∑ a, vbTerm m c j (tileRow t a))
      ∧ (∀ j, (outsAt0 m c t.val t.isLt).2.2.2.2.2 (ix2 0 j) = ∑ a, ogTerm m c j (tileRow t a))
      ∧ (∀ h p s, (outsAt0 m c t.val t.isLt).2.2.2.1 (ix3 h p s) = ∑ a, wsTerm m c h p s (tileRow t a))
      ∧ (∀ h p q, (outsAt0 m c t.val t.isLt).2.2.2.2.1 (ix3 h p q) = ∑ k, bsTerm m c h p q (tileChunk t k)) := by
  rw [outsAt0_A m c t h0 (by omega)]
  dsimp only
  exact ⟨fun a j => (wide_A ..).trans (tile_wide m c t a j), fun j => (vg_A ..).trans (tile_vg m c t j), fun j => (vb_A ..).trans (tile_vb m c t j),
    fun j => (og_A ..).trans (tile_og m c t j), fun h p s => (ws_A ..).trans (tile_ws m c t h p s), fun h p q => (bs_A ..).trans (tile_bs m c t h p q)⟩

/-- A point between the first and the last. -/
theorem next (n : ℕ) (hn : n + 1 < cfg0.N) (h1 : ¬(n + 1) % 16 = 15) :
    (∀ a j, (outsAt0 m c (n + 1) hn).1 (ix2 a j) = wideRow m c (tileRow ⟨n + 1, hn⟩ a) j)
      ∧ (∀ j, (outsAt0 m c (n + 1) hn).2.1 (ix2 0 j) = (outsAt0 m c n (Nat.lt_of_succ_lt hn)).2.1 (ix2 0 j) + ∑ a, vgTerm m c j (tileRow ⟨n + 1, hn⟩ a))
      ∧ (∀ j, (outsAt0 m c (n + 1) hn).2.2.1 (ix2 0 j) = (outsAt0 m c n (Nat.lt_of_succ_lt hn)).2.2.1 (ix2 0 j) + ∑ a, vbTerm m c j (tileRow ⟨n + 1, hn⟩ a))
      ∧ (∀ j, (outsAt0 m c (n + 1) hn).2.2.2.2.2 (ix2 0 j) = (outsAt0 m c n (Nat.lt_of_succ_lt hn)).2.2.2.2.2 (ix2 0 j) + ∑ a, ogTerm m c j (tileRow ⟨n + 1, hn⟩ a))
      ∧ (∀ h p s, (outsAt0 m c (n + 1) hn).2.2.2.1 (ix3 h p s) = (outsAt0 m c n (Nat.lt_of_succ_lt hn)).2.2.2.1 (ix3 h p s) + ∑ a, wsTerm m c h p s (tileRow ⟨n + 1, hn⟩ a))
      ∧ (∀ h p q, (outsAt0 m c (n + 1) hn).2.2.2.2.1 (ix3 h p q) = (outsAt0 m c n (Nat.lt_of_succ_lt hn)).2.2.2.2.1 (ix3 h p q) + ∑ k, bsTerm m c h p q (tileChunk ⟨n + 1, hn⟩ k)) := by
  have hN : n + 1 < 16 := N_0 ▸ hn
  rw [outsAt0_B m c ⟨n + 1, hn⟩ (by dsimp only; omega) h1]
  dsimp only
  exact ⟨fun a j => (wide_B ..).trans (tile_wide m c ⟨n + 1, hn⟩ a j), fun j => (vg_B ..).trans (congrArg _ (tile_vg m c ⟨n + 1, hn⟩ j)),
    fun j => (vb_B ..).trans (congrArg _ (tile_vb m c ⟨n + 1, hn⟩ j)), fun j => (og_B ..).trans (congrArg _ (tile_og m c ⟨n + 1, hn⟩ j)),
    fun h p s => (ws_B ..).trans (congrArg _ (tile_ws m c ⟨n + 1, hn⟩ h p s)), fun h p q => (bs_B ..).trans (congrArg _ (tile_bs m c ⟨n + 1, hn⟩ h p q))⟩

/-- The second point, of the kind between the first and the last. -/
def second : Fin cfg0.N := ⟨1, lt_of_lt_of_eq (by decide : 1 < 16) N_0.symm⟩
theorem second_kind : ¬cond0_0 (grid0.coords second) ∧ ¬cond0_1 (grid0.coords second) :=
  ⟨fun h => absurd ((hcond0_0 second).mp h) (by decide), fun h => absurd ((hcond0_1 second).mp h) (by decide)⟩

/-- The last point. -/
theorem last (n : ℕ) (hn : n + 1 < cfg0.N) (h1 : (n + 1) % 16 = 15) :
    (∀ a j, (outsAt0 m c (n + 1) hn).1 (ix2 a j) = wideRow m c (tileRow ⟨n + 1, hn⟩ a) j)
      ∧ (∀ j, (outsAt0 m c (n + 1) hn).2.1 (ix2 0 j) = (outsAt0 m c n (Nat.lt_of_succ_lt hn)).2.1 (ix2 0 j) + ∑ a, vgTerm m c j (tileRow ⟨n + 1, hn⟩ a))
      ∧ (∀ j, (outsAt0 m c (n + 1) hn).2.2.1 (ix2 0 j) = (outsAt0 m c n (Nat.lt_of_succ_lt hn)).2.2.1 (ix2 0 j) + ∑ a, vbTerm m c j (tileRow ⟨n + 1, hn⟩ a))
      ∧ (∀ j, (outsAt0 m c (n + 1) hn).2.2.2.2.2 (ix2 0 j) = (outsAt0 m c n (Nat.lt_of_succ_lt hn)).2.2.2.2.2 (ix2 0 j) + ∑ a, ogTerm m c j (tileRow ⟨n + 1, hn⟩ a))
      ∧ (∀ h p s, (outsAt0 m c (n + 1) hn).2.2.2.1 (ix3 h p s) = (outsAt0 m c n (Nat.lt_of_succ_lt hn)).2.2.2.1 (ix3 h p s) + ∑ a, wsTerm m c h p s (tileRow ⟨n + 1, hn⟩ a))
      ∧ (∀ h p s, (outsAt0 m c (n + 1) hn).2.2.2.2.1 (ix3 h p s) = ∑ q, ((outsAt0 m c n (Nat.lt_of_succ_lt hn)).2.2.2.2.1 (ix3 h p q) + ∑ k, bsTerm m c h p q (tileChunk ⟨n + 1, hn⟩ k))) := by
  have hN : n + 1 < 16 := N_0 ▸ hn
  rw [outsAt0_C m c ⟨n + 1, hn⟩ (by dsimp only; omega) h1]
  dsimp only
  refine ⟨fun a j => (congrFun (last_as_later (i' := grid0.coords second) (hd0 := second_kind.1) (hd1 := second_kind.2) ..).1 _).trans ((wide_B ..).trans (tile_wide m c ⟨n + 1, hn⟩ a j)),
    fun j => (congrFun (last_as_later (i' := grid0.coords second) (hd0 := second_kind.1) (hd1 := second_kind.2) ..).2.1 _).trans ((vg_B ..).trans (congrArg _ (tile_vg m c ⟨n + 1, hn⟩ j))),
    fun j => (congrFun (last_as_later (i' := grid0.coords second) (hd0 := second_kind.1) (hd1 := second_kind.2) ..).2.2.1 _).trans ((vb_B ..).trans (congrArg _ (tile_vb m c ⟨n + 1, hn⟩ j))),
    fun j => (congrFun (last_as_later (i' := grid0.coords second) (hd0 := second_kind.1) (hd1 := second_kind.2) ..).2.2.2.2 _).trans ((og_B ..).trans (congrArg _ (tile_og m c ⟨n + 1, hn⟩ j))),
    fun h p s => (congrFun (last_as_later (i' := grid0.coords second) (hd0 := second_kind.1) (hd1 := second_kind.2) ..).2.2.2.1 _).trans ((ws_B ..).trans (congrArg _ (tile_ws m c ⟨n + 1, hn⟩ h p s))),
    fun h p s => (bs_C ..).trans (Finset.sum_congr rfl fun q _ => congrArg _ (tile_bs m c ⟨n + 1, hn⟩ h p q))⟩

/-! ## The fold -/

theorem rows_add (f : Fin 8192 → EReal) (n : ℕ) (hn : n < cfg0.N) :
    upto f (512 * n) + ∑ a, f (tileRow ⟨n, hn⟩ a) = upto f (512 * (n + 1)) := by
  have h : n < 16 := N_0 ▸ hn
  rw [show 512 * (n + 1) = 512 * n + 512 by omega, upto_add f (512 * n) 512 (by omega)]

theorem chunks_add (f : Fin 64 → EReal) (n : ℕ) (hn : n < cfg0.N) :
    upto f (4 * n) + ∑ k, f (tileChunk ⟨n, hn⟩ k) = upto f (4 * (n + 1)) := by
  have h : n < 16 := N_0 ▸ hn
  rw [show 4 * (n + 1) = 4 * n + 4 by omega, upto_add f (4 * n) 4 (by omega)]

theorem wide_apply (n : ℕ) (hn : n < cfg0.N) (a : Fin 512) (j : Fin 2048) :
    (outsAt0 m c n hn).1 (ix2 a j) = wideRow m c (tileRow ⟨n, hn⟩ a) j := by
  cases n with
  | zero => exact (first m c ⟨0, hn⟩ rfl).1 a j
  | succ n =>
    by_cases h1 : (n + 1) % 16 = 15
    · exact (last m c n hn h1).1 a j
    · exact (next m c n hn h1).1 a j

theorem sums_apply : ∀ (n : ℕ) (hn : n < cfg0.N),
    (∀ j, (outsAt0 m c n hn).2.1 (ix2 0 j) = upto (vgTerm m c j) (512 * (n + 1)))
      ∧ (∀ j, (outsAt0 m c n hn).2.2.1 (ix2 0 j) = upto (vbTerm m c j) (512 * (n + 1)))
      ∧ (∀ j, (outsAt0 m c n hn).2.2.2.2.2 (ix2 0 j) = upto (ogTerm m c j) (512 * (n + 1)))
      ∧ (∀ h p s, (outsAt0 m c n hn).2.2.2.1 (ix3 h p s) = upto (wsTerm m c h p s) (512 * (n + 1)))
      ∧ (n < 15 → ∀ h p q, (outsAt0 m c n hn).2.2.2.2.1 (ix3 h p q) = upto (bsTerm m c h p q) (4 * (n + 1))) := by
  intro n
  induction n with
  | zero =>
    intro hn
    obtain ⟨_, e8, e9, e12, e10, e11⟩ := first m c ⟨0, hn⟩ rfl
    have z {N : ℕ} (f : Fin N → EReal) (x : EReal) : x = upto f 0 + x := (zero_add x).symm
    exact ⟨fun j => (e8 j).trans ((z _ _).trans (rows_add _ 0 hn)), fun j => (e9 j).trans ((z _ _).trans (rows_add _ 0 hn)),
      fun j => (e12 j).trans ((z _ _).trans (rows_add _ 0 hn)), fun h p s => (e10 h p s).trans ((z _ _).trans (rows_add _ 0 hn)),
      fun _ h p q => (e11 h p q).trans ((z _ _).trans (chunks_add _ 0 hn))⟩
  | succ n ih =>
    intro hn
    obtain ⟨i8, i9, i12, i10, i11⟩ := ih (Nat.lt_of_succ_lt hn)
    by_cases h1 : (n + 1) % 16 = 15
    · obtain ⟨_, e8, e9, e12, e10, _⟩ := last m c n hn h1
      exact ⟨fun j => (e8 j).trans ((congrArg (· + _) (i8 j)).trans (rows_add _ (n + 1) hn)),
        fun j => (e9 j).trans ((congrArg (· + _) (i9 j)).trans (rows_add _ (n + 1) hn)),
        fun j => (e12 j).trans ((congrArg (· + _) (i12 j)).trans (rows_add _ (n + 1) hn)),
        fun h p s => (e10 h p s).trans ((congrArg (· + _) (i10 h p s)).trans (rows_add _ (n + 1) hn)),
        fun hlt => absurd h1 (by omega)⟩
    · obtain ⟨_, e8, e9, e12, e10, e11⟩ := next m c n hn h1
      exact ⟨fun j => (e8 j).trans ((congrArg (· + _) (i8 j)).trans (rows_add _ (n + 1) hn)),
        fun j => (e9 j).trans ((congrArg (· + _) (i9 j)).trans (rows_add _ (n + 1) hn)),
        fun j => (e12 j).trans ((congrArg (· + _) (i12 j)).trans (rows_add _ (n + 1) hn)),
        fun h p s => (e10 h p s).trans ((congrArg (· + _) (i10 h p s)).trans (rows_add _ (n + 1) hn)),
        fun hlt h p q => (e11 h p q).trans ((congrArg (· + _) (i11 (by omega) h p q)).trans (chunks_add _ (n + 1) hn))⟩

/-- The last point, and what its sums hold. -/
def final : Fin cfg0.N := ⟨15, lt_of_lt_of_eq (by decide : 15 < 16) N_0.symm⟩

theorem shift_final (n : ℕ) (hn : n < cfg0.N) (h15 : n = 15) (h : Fin 8) (p s : Fin 128) :
    (outsAt0 m c n hn).2.2.2.2.1 (ix3 h p s) = ∑ q, ∑ k, bsTerm m c h p q k := by
  cases n with
  | zero => omega
  | succ n =>
    refine ((last m c n hn (by omega)).2.2.2.2.2 h p s).trans (Finset.sum_congr rfl fun q _ => ?_)
    refine (congrArg (· + _) ((sums_apply m c n (Nat.lt_of_succ_lt hn)).2.2.2.2 (by omega) h p q)).trans ?_
    refine (chunks_add _ (n + 1) hn).trans ?_
    rw [h15]
    exact upto_all _

/-! ## The arrays after the run -/

theorem array_vg : (dats m 0 c).arrAt 8 cfg0.N = fun i => ∑ r, vgTerm m c (i 1) r := by
  refine (dats m 0 c).arrAt_eq_of_after_last 8 final (by decide +kernel) _ fun j => ?_
  obtain ⟨u, v, rfl⟩ : ∃ (u : Fin 1) (v : Fin 1024), j = ix2 u v := ⟨j 0, j 1, eq_ix2 j⟩
  obtain rfl : u = 0 := by omega
  rw [after0_8]
  exact ((sums_apply m c 15 final.isLt).1 v).trans (upto_all _)

theorem array_vb : (dats m 0 c).arrAt 9 cfg0.N = fun i => ∑ r, vbTerm m c (i 1) r := by
  refine (dats m 0 c).arrAt_eq_of_after_last 9 final (by decide +kernel) _ fun j => ?_
  obtain ⟨u, v, rfl⟩ : ∃ (u : Fin 1) (v : Fin 1024), j = ix2 u v := ⟨j 0, j 1, eq_ix2 j⟩
  obtain rfl : u = 0 := by omega
  rw [after0_9]
  exact ((sums_apply m c 15 final.isLt).2.1 v).trans (upto_all _)

theorem array_og : (dats m 0 c).arrAt 12 cfg0.N = fun i => ∑ r, ogTerm m c (i 1) r := by
  refine (dats m 0 c).arrAt_eq_of_after_last 12 final (by decide +kernel) _ fun j => ?_
  obtain ⟨u, v, rfl⟩ : ∃ (u : Fin 1) (v : Fin 1024), j = ix2 u v := ⟨j 0, j 1, eq_ix2 j⟩
  obtain rfl : u = 0 := by omega
  rw [after0_12]
  exact ((sums_apply m c 15 final.isLt).2.2.1 v).trans (upto_all _)

theorem array_ws : (dats m 0 c).arrAt 10 cfg0.N = fun i => ∑ r, wsTerm m c (i 0) (i 1) (i 2) r := by
  refine (dats m 0 c).arrAt_eq_of_after_last 10 final (by decide +kernel) _ fun j => ?_
  obtain ⟨u, v, w, rfl⟩ : ∃ (u : Fin 8) (v w : Fin 128), j = ix3 u v w := ⟨j 0, j 1, j 2, eq_ix3 j⟩
  rw [after0_10]
  exact ((sums_apply m c 15 final.isLt).2.2.2.1 u v w).trans (upto_all _)

theorem array_bs : (dats m 0 c).arrAt 11 cfg0.N = fun i => ∑ q, ∑ k, bsTerm m c (i 0) (i 1) q k := by
  refine (dats m 0 c).arrAt_eq_of_after_last 11 final (by decide +kernel) _ fun j => ?_
  obtain ⟨u, v, w, rfl⟩ : ∃ (u : Fin 8) (v w : Fin 128), j = ix3 u v w := ⟨j 0, j 1, j 2, eq_ix3 j⟩
  rw [after0_11]
  exact shift_final m c 15 final.isLt rfl u v w

/-- Every tile of the wide gradient is written back, into its rows and the first columns. -/
theorem index7 : ∀ t : Fin cfg0.N, (cfg0.win 7).flush t = true ∧ win0_7.index t 0 = t.val ∧ win0_7.index t 1 = 0 := by decide +kernel

theorem array_wide (r : Fin 8192) (j : Fin 2048) :
    (dats m 0 c).arrAt 7 cfg0.N (ix2 r ⟨j.1, by omega⟩) = wideRow m c r j := by
  have ht : r.1 / 512 < cfg0.N := lt_of_lt_of_eq (by omega : r.1 / 512 < 16) N_0.symm
  obtain ⟨hf, e0, e1⟩ := index7 ⟨r.1 / 512, ht⟩
  have e := congrFun (Value.blocks7 m c ⟨r.1 / 512, ht⟩ hf) (ix2 (⟨r.1 % 512, by omega⟩ : Fin 512) j)
  rw [View.read_apply, Value.flushed7] at e
  refine Eq.trans (congrArg ((dats m 0 c).arrAt 7 cfg0.N) (funext fun a => Fin.ext ?_)) (e.trans ?_)
  · match a with
    | ⟨0, _⟩ => show r.1 = win0_7.index ⟨r.1 / 512, ht⟩ 0 * 512 + 1 * (r.1 % 512); rw [e0]; dsimp only; omega
    | ⟨1, _⟩ => show j.1 = win0_7.index ⟨r.1 / 512, ht⟩ 1 * 2048 + 1 * j.1; rw [e1]; omega
  · refine (wide_apply m c (r.1 / 512) ht ⟨r.1 % 512, by omega⟩ j).trans (congrArg (wideRow m c · j) (Fin.ext ?_))
    show 512 * (r.1 / 512) + r.1 % 512 = r.1
    omega

end Cert.GmIdeal.Fold

end
-- ==== Proof.GmEq.lean ====
/- The gated unit's backward call: the reference's results in the kernel's form. -/
module

public import proofs.«01_k».proof.Proof.GmEntries
public import proofs.«01_k».proof.Proof.GmFold
public import Idealize.ShloMosaic.Lib.TwoAxisContraction

@[expose] public section

set_option maxRecDepth 16384

noncomputable section

open Idealize.ShloMosaic Idealize.ShloMosaic.TcCoe Idealize.SL.Sem

namespace Cert.GmRefIdeal.Entries

open Cert.GmRefIdeal Cert.GmRefIdeal.Gen Cert.GmRefIdeal.Read Cert.Reals
open Cert.Gate (col)
open Cert.GmIdeal.Blocks (chunkOf placeOf)

variable {x0 : FVec Ideal S8192x4096 .f32} {x1 x2 : FVec Ideal S1x1024 .f32} {x3 : FVec Ideal S1x8x128x128 .f32}
  {x4 : FVec Ideal S1x8x128 .f32} {x5 : FVec Ideal S1x1024 .f32} {x6 : FVec Ideal S8192x2048 .f32}

theorem chunk_spot (k : Fin 64) (p : Fin 128) : chunkOf (spot k p) = k := Fin.ext (by show (128 * k.1 + p.1) / 128 = k.1; omega)
theorem place_spot (k : Fin 64) (p : Fin 128) : placeOf (spot k p) = p := Fin.ext (by show (128 * k.1 + p.1) % 128 = p.1; omega)
theorem spot_of (r : Fin 8192) : spot (chunkOf r) (placeOf r) = r := Fin.ext (by show 128 * (r.1 / 128) + r.1 % 128 = r.1; omega)

/-- A sum over all rows is a sum over the chunks and the rows of each. -/
theorem sum_rows {M : Type*} [AddCommMonoid M] (f : Fin 8192 → M) : ∑ k : Fin 64, ∑ p : Fin 128, f (spot k p) = ∑ r, f r := by
  rw [← Finset.sum_product']
  refine Finset.sum_nbij' (fun a : Fin 64 × Fin 128 => spot a.1 a.2) (fun r => (chunkOf r, placeOf r)) (fun _ _ => Finset.mem_univ _)
    (fun _ _ => Finset.mem_univ _) (fun a _ => ?_) (fun r _ => spot_of r) (fun _ _ => rfl)
  exact Prod.ext (chunk_spot _ _) (place_spot _ _)

/-- A sum over the entries that agree with `(p, q)` on the two middle axes. -/
theorem sum_ends {a b c d : ℕ} (h : (⟨4, ![a, b, c, d]⟩ : Shape).ReducesTo [0, 3] ⟨2, ![b, c]⟩) (v : (⟨4, ![a, b, c, d]⟩ : Shape).Idx → EReal)
    (p : Fin b) (q : Fin c) : ∑ i ∈ Finset.univ.filter (fun i => h.drop i = ix2 p q), v i = ∑ x : Fin a, ∑ y : Fin d, v (ix4 x p q y) := by
  refine (Finset.sum_filter_eq_sum_of_fiber _ (fun k : Fin a × Fin d => ix4 k.1 p q k.2) (fun _ _ e => Prod.ext (congrFun e 0) (congrFun e 3))
    (fun i => ⟨fun e => ⟨(i 0, i 3), ?_⟩, ?_⟩) v).trans ?_
  · funext t; apply Fin.ext
    match t with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext t; apply Fin.ext
    match t with
    | ⟨0, _⟩ => rfl
    | ⟨1, _⟩ => rfl
  · simp only [Fintype.sum_prod_type]

section Real

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i))
include h0

theorem dog_eq (j : Fin 1024) : val_main_v104 (F := Ideal) x0 x1 x2 x3 x4 x6 (ix2 0 j)
    = ∑ r : Fin 8192, Gate.dog (line x1) (line x2) (wt x3) (bt x4) (wide x0 (chunkOf r)) (cot x6 (chunkOf r)) (placeOf r) j := by
  pointwise [val_main_v84, val_main_cst_17, val_main_v85, val_main_v86, val_main_cst_18, val_main_v89, val_main_v104]
  simp only [Fin.sum_univ_one]
  refine Finset.sum_congr rfl fun r _ => ?_
  rw [← spot_of r, scaled_at h0, cot_at, spot_of]
  exact mul_comm _ _

include h1 h2 h3 h4 h5 h6

theorem dvb_eq (j : Fin 1024) : val_main_v151 (F := Ideal) x0 x1 x2 x3 x4 x5 x6 (ix2 0 j)
    = ∑ r : Fin 8192, Gate.dnorm (line x1) (line x2) (line x5) (wt x3) (bt x4) (wide x0 (chunkOf r)) (cot x6 (chunkOf r)) (placeOf r) j := by
  pointwise [val_main_cst_24, val_main_v120, val_main_v121, val_main_cst_25, val_main_v122, val_main_v151]
  simp only [Fin.sum_univ_one]
  refine Finset.sum_congr rfl fun r _ => ?_
  rw [← spot_of r, dnorm_at h0 h1 h2 h3 h4 h5 h6, spot_of]

theorem dvg_eq (j : Fin 1024) : val_main_v152 (F := Ideal) x0 x1 x2 x3 x4 x5 x6 (ix2 0 j)
    = ∑ r : Fin 8192, Gate.dvg (line x1) (line x2) (line x5) (wt x3) (bt x4) (wide x0 (chunkOf r)) (cot x6 (chunkOf r)) (placeOf r) j := by
  pointwise [val_main_v123, val_main_cst_26, val_main_v124, val_main_v125, val_main_cst_27, val_main_v128, val_main_v152]
  simp only [Fin.sum_univ_one]
  refine Finset.sum_congr rfl fun r _ => ?_
  rw [← spot_of r, dnorm_at h0 h1 h2 h3 h4 h5 h6, standard_at h0, spot_of]
  exact mul_comm _ _

theorem dws_eq (h : Fin 8) (p s : Fin 128) : val_main_v169 (F := Ideal) x0 x1 x2 x3 x4 x5 x6 (ix3 h p s)
    = ∑ r : Fin 8192, if s ≤ p then Gate.dweight (line x1) (line x2) (line x5) (wt x3) (bt x4) (wide x0 (chunkOf r)) (cot x6 (chunkOf r)) h p s (placeOf r) else 0 := by
  pointwise [val_main_call1_cst, val_main_v56_2, val_main_call2_cst, val_main_call2_v0, val_main_v113, val_main_v114, val_main_v117, val_main_v118, val_main_v169]
  rw [mask_at]
  simp only [dparts_at h0 h1 h2 h3 h4 h5 h6, parts_at x1 x2 h0]
  rw [← sum_rows]
  simp only [chunk_spot, place_spot]
  split
  · rfl
  · simp only [Finset.sum_const_zero]

theorem dbs_eq (h : Fin 8) (p s : Fin 128) : val_main_v172 (F := Ideal) x0 x1 x2 x3 x4 x5 x6 (ix3 h p s)
    = ∑ q : Fin 128, ∑ k : Fin 64, Gate.dmix (line x1) (line x2) (line x5) (wt x3) (bt x4) (wide x0 k) (cot x6 k) p (col h q) := by
  have sum1 : val_main_v108 (F := Ideal) x0 x1 x2 x3 x4 x5 x6 (ix2 p h)
      = ∑ k : Fin 64, ∑ q : Fin 128, Gate.dmix (line x1) (line x2) (line x5) (wt x3) (bt x4) (wide x0 k) (cot x6 k) p (col h q) := by
    refine (congrArg (_ + ·) (sum_ends reducesTo_S64x128x8x128_S128x8_d0_3 (val_main_v107 (F := Ideal) x0 x1 x2 x3 x4 x5 x6) p h)).trans ?_
    pointwise [val_main_cst_22]
    simp only [dparts_at h0 h1 h2 h3 h4 h5 h6]
  have sum2 : val_main_v110 (F := Ideal) x0 x1 x2 x3 x4 x5 x6 (ix2 p h) = val_main_v108 (F := Ideal) x0 x1 x2 x3 x4 x5 x6 (ix2 p h) := by
    refine (congrArg (_ + ·) (sum_ends reducesTo_S1x128x8x1_S128x8_d0_3 (val_main_v109 (F := Ideal) x0 x1 x2 x3 x4 x5 x6) p h)).trans ?_
    pointwise [val_main_cst_23, val_main_v109]
    simp only [Fin.sum_univ_one]
  pointwise [val_main_v111, val_main_v112, val_main_v170, val_main_v171, val_main_v172]
  rw [sum2, sum1, Finset.sum_comm]

theorem halves_at (k : Fin 64) (p : Fin 128) (j : Fin 2048) : val_main_v153 (F := Ideal) x0 x1 x2 x3 x4 x5 x6 (ix2 (spot k p) j)
    = if h : j.1 < 1024 then Gate.dgate (line x1) (line x2) (line x5) (wt x3) (bt x4) (wide x0 k) (cot x6 k) p ⟨j.1, h⟩
      else Gate.dvalue (line x1) (line x2) (line x5) (wt x3) (bt x4) (wide x0 k) (cot x6 k) p ⟨j.1 - 1024, by omega⟩ := by
  have eg (j) := dgate_at h0 h1 h2 h3 h4 h5 h6 k p j
  have ev (j) := dvalue_at h0 h1 h2 h3 h4 h5 h6 k p j
  pointwise [val_main_v153]
  simp only [← eg, ← ev]

theorem wide_eq (k : Fin 64) (p : Fin 128) (j : Fin 2048) : val_main_v165 (F := Ideal) x0 x1 x2 x3 x4 x5 x6 (ix2 (spot k p) j)
    = Gate.dwide (line x1) (line x2) (line x5) (wt x3) (bt x4) (wide x0 k) (cot x6 k) p j := by
  have es := share_at x0 (spot k p) j
  have et := turn_at x0 (spot k p) j
  have eq := square_at x0 (spot k p) j
  pointwise [val_main_v0, val_main_v154, val_main_v155, val_main_cst_34, val_main_v156, val_main_v157, val_main_v158, val_main_cst_35, val_main_v159, val_main_v160,
    val_main_v161, val_main_cst_36, val_main_v162, val_main_v163, val_main_v164, val_main_v165]
  rw [es, et, eq, halves_at h0 h1 h2 h3 h4 h5 h6]
  exact Gate.actBack_eq (h0 _) (Gate.halves_real (vg := line x1) (vb := line x2) (og := line x5) (w := wt x3) (b := bt x4) (P := wide x0 k) (Y := cot x6 k)
    (fun _ => h1 _) (fun _ => h2 _) (fun _ => h5 _) (fun _ _ _ => h3 _) (fun _ _ _ => h4 _) (fun _ _ => h0 _) (fun _ _ => h6 _) p j)

theorem dp_eq (r : Fin 8192) (j : Fin 2048) : val_main_v168 (F := Ideal) x0 x1 x2 x3 x4 x5 x6 (ix2 r ⟨j.1, by omega⟩)
    = Gate.dwide (line x1) (line x2) (line x5) (wt x3) (bt x4) (wide x0 (chunkOf r)) (cot x6 (chunkOf r)) (placeOf r) j := by
  rw [← wide_eq h0 h1 h2 h3 h4 h5 h6, spot_of]
  pointwise [val_main_v167, val_main_v168]

end Real

end Cert.GmRefIdeal.Entries

end
-- ==== Proof.GmClaim.lean ====
/- The value claim of the gated unit's backward call: both programs run, and end with the same arrays where the call writes. -/
module

public import proofs.«01_k».proof.Defs
public import proofs.«01_k».proof.Proof.GmEq
public import proofs.«01_k».proof.Proof.Gen.GmRefIdeal.Run
public import proofs.«01_k».proof.Proof.Gen.Pre_gm_finite
public import proofs.«01_k».proof.Proof.Gen.On_gm_written

@[expose] public section

set_option maxRecDepth 16384

noncomputable section

open Idealize.ShloMosaic Idealize.ShloMosaic.TcCoe Idealize.SL.Sem

namespace Cert.GmClaim

open Cert.Reals Cert.GmIdeal.Blocks Cert.GmIdeal.Fold Cert.GmRefIdeal.Read
open Cert.GmIdeal (cfg0)
open Cert.GmIdeal.Gen (dats)

variable {m : (ℓ : Loc Cert.GmIdeal.nD Cert.GmIdeal.τ Cert.GmIdeal.sig) → Buf (Elt Ideal) ℓ}

/-- The precondition read at the arrays. -/
theorem finite (h : Cert.Pre_GmIdeal_gm_finite (hPre_gm_finite := Cert.Pre_gm_finite.Gen.facts) m) (c : Dev Cert.GmIdeal.nD) :
    (∀ i, IsReal (ps m c i)) ∧ (∀ i, IsReal (vgs m c i)) ∧ (∀ i, IsReal (vbs m c i)) ∧ (∀ i, IsReal (wss m c i)) ∧ (∀ i, IsReal (bss m c i))
      ∧ (∀ i, IsReal (ogs m c i)) ∧ ∀ i, IsReal (ys m c i) := by
  obtain ⟨h0, h1, h2, h3, h4, h5, h6⟩ := h c
  exact ⟨isReal_of_mask _ _ h0, isReal_of_mask _ _ h1, isReal_of_mask _ _ h2, isReal_of_mask _ _ h3, isReal_of_mask _ _ h4, isReal_of_mask _ _ h5,
    isReal_of_mask _ _ h6⟩

/-- The columns that the mask selects. -/
theorem written (j : Fin 4096) (h : IntOp.cmpi .slt (BitVec.ofNat 32 j.1) 2048#32 = 1#1) : j.1 < 2048 := by
  by_contra hn
  have e : BitVec.slt (BitVec.ofNat 32 j.1) 2048#32 = false := by
    rw [BitVec.slt_eq_decide, BitVec.toInt_eq_toNat_of_lt (by rw [BitVec.toNat_ofNat]; omega), BitVec.toNat_ofNat]
    exact decide_eq_false (by show ¬ ((j.1 % 2 ^ 32 : ℕ) : ℤ) < 2048; omega)
  rw [show IntOp.cmpi .slt (BitVec.ofNat 32 j.1) 2048#32 = BitVec.ofBool (BitVec.slt (BitVec.ofNat 32 j.1) 2048#32) from rfl, e] at h
  exact absurd h (by decide)

theorem value : Cert.algebraic_GmIdeal_GmRefIdeal_on_gm_written_pre_gm_finite (hGmIdeal := Cert.GmIdeal.Gen.facts)
    (hGmRefIdeal := Cert.GmRefIdeal.Gen.facts) (hPre_gm_finite := Cert.Pre_gm_finite.Gen.facts) (hOn_gm_written := Cert.On_gm_written.Gen.facts) := by
  intro m g m' g' hp hm
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N, ?_, ?_⟩
  · refine (θ_run _ _ _).mono (fun r h c => ?_) (Cert.GmIdeal.Value.run_blocks m g)
    obtain ⟨e0, e1, e2, e3, e4, e5, ha⟩ := h c
    exact ⟨fun i _ => congrFun e0 i, fun i _ => congrFun e1 i, fun i _ => congrFun e2 i, fun i _ => congrFun e3 i, fun i _ => congrFun e4 i,
      fun i _ => congrFun e5 i, ha⟩
  refine (θ_run _ _ _).mono (fun r h c => ?_) (Cert.GmRefIdeal.Value.run (F := Ideal) m' g')
  obtain ⟨e0, e1, e2, e3, e4, e5, ha⟩ := h c
  obtain ⟨a0, a1, a2, a3, a4, a5, a6⟩ := hm c
  obtain ⟨h0, h1, h2, h3, h4, h5, h6⟩ := finite hp c
  have b0 : StableHlo.launchContents m' c (Proc.devRef .tc Cert.GmRefIdeal.main_arg0) = ps m c := a0
  have b1 : StableHlo.launchContents m' c (Proc.devRef .tc Cert.GmRefIdeal.main_arg1) = vgs m c := a1
  have b2 : StableHlo.launchContents m' c (Proc.devRef .tc Cert.GmRefIdeal.main_arg2) = vbs m c := a2
  have b3 : StableHlo.launchContents m' c (Proc.devRef .tc Cert.GmRefIdeal.main_arg3) = wss m c := a3
  have b4 : StableHlo.launchContents m' c (Proc.devRef .tc Cert.GmRefIdeal.main_arg4) = bss m c := a4
  have b5 : StableHlo.launchContents m' c (Proc.devRef .tc Cert.GmRefIdeal.main_arg5) = ogs m c := a5
  have b6 : StableHlo.launchContents m' c (Proc.devRef .tc Cert.GmRefIdeal.main_arg6) = ys m c := a6
  replace e0 := e0.trans (val_main_v168_eq _)
  replace e1 := e1.trans (val_main_v152_eq _)
  replace e2 := e2.trans (val_main_v151_eq _)
  replace e3 := e3.trans (val_main_v169_eq _)
  replace e4 := e4.trans (val_main_v172_eq _)
  replace e5 := e5.trans (val_main_v104_eq _)
  rw [b0, b1, b2, b3, b4, b5, b6] at e0 e1 e2 e3 e4
  rw [b0, b1, b2, b3, b4, b6] at e5
  refine ⟨fun i hi => (congrFun e0 i).trans ?_, fun i _ => (congrFun e1 i).trans ?_, fun i _ => (congrFun e2 i).trans ?_,
    fun i _ => (congrFun e3 i).trans ?_, fun i _ => (congrFun e4 i).trans ?_, fun i _ => (congrFun e5 i).trans ?_, ha⟩
  · obtain ⟨r, j, rfl⟩ : ∃ (r : Fin 8192) (j : Fin 4096), i = ix2 r j := ⟨i 0, i 1, eq_ix2 i⟩
    have hj : j.1 < 2048 := written j hi
    exact (Cert.GmRefIdeal.Entries.dp_eq h0 h1 h2 h3 h4 h5 h6 r ⟨j.1, hj⟩).trans (array_wide m c r ⟨j.1, hj⟩).symm
  · obtain ⟨j, rfl⟩ : ∃ j : Fin 1024, i = ix2 0 j := ⟨i 1, (eq_ix2 i).trans (congrArg (fun z : Fin 1 => ix2 z (i 1)) (Subsingleton.elim _ _))⟩
    exact (Cert.GmRefIdeal.Entries.dvg_eq h0 h1 h2 h3 h4 h5 h6 j).trans (congrFun (array_vg m c) (ix2 0 j)).symm
  · obtain ⟨j, rfl⟩ : ∃ j : Fin 1024, i = ix2 0 j := ⟨i 1, (eq_ix2 i).trans (congrArg (fun z : Fin 1 => ix2 z (i 1)) (Subsingleton.elim _ _))⟩
    exact (Cert.GmRefIdeal.Entries.dvb_eq h0 h1 h2 h3 h4 h5 h6 j).trans (congrFun (array_vb m c) (ix2 0 j)).symm
  · obtain ⟨h, p, s, rfl⟩ : ∃ (h : Fin 8) (p s : Fin 128), i = ix3 h p s := ⟨i 0, i 1, i 2, eq_ix3 i⟩
    exact (Cert.GmRefIdeal.Entries.dws_eq h0 h1 h2 h3 h4 h5 h6 h p s).trans (congrFun (array_ws m c) (ix3 h p s)).symm
  · obtain ⟨h, p, s, rfl⟩ : ∃ (h : Fin 8) (p s : Fin 128), i = ix3 h p s := ⟨i 0, i 1, i 2, eq_ix3 i⟩
    exact (Cert.GmRefIdeal.Entries.dbs_eq h0 h1 h2 h3 h4 h5 h6 h p s).trans (congrFun (array_bs m c) (ix3 h p s)).symm
  · obtain ⟨j, rfl⟩ : ∃ j : Fin 1024, i = ix2 0 j := ⟨i 1, (eq_ix2 i).trans (congrArg (fun z : Fin 1 => ix2 z (i 1)) (Subsingleton.elim _ _))⟩
    exact (Cert.GmRefIdeal.Entries.dog_eq h0 j).trans (congrFun (array_og m c) (ix2 0 j)).symm

theorem frame_ref : Cert.quiescent_GmRefIdeal (hGmRefIdeal := Cert.GmRefIdeal.Gen.facts) := fun m g _ =>
  (θ_run _ _ _).mono (fun r h => ⟨fun c => (h c).2.2.2.2.2.2, sem_eq_zero_of_no_sems (by decide) r.2⟩) (Cert.GmRefIdeal.Value.run m g)

end Cert.GmClaim

end
-- ==== Proof.Shifts.lean ====
/- Shifting a column of 8192 entries by whole rows: back, where row `r` reads row `r − n` and the rows above the first read
   zero, and ahead, where row `r` reads row `r + n` and the rows below the last read zero; and a tile's view of either, from
   512 rows and 8 more. -/
module

public import Idealize.ShloMosaic.Lib.Pointwise

@[expose] public section
noncomputable section
namespace Cert.Shifts

/-- The column moved down by `n` rows, and up by `n` rows. -/
def back (n : ℕ) (x : Fin 8192 → EReal) (r : Fin 8192) : EReal := if n ≤ r.1 then x ⟨r.1 - n, by omega⟩ else 0
def ahead (n : ℕ) (x : Fin 8192 → EReal) (r : Fin 8192) : EReal := if h : r.1 + n < 8192 then x ⟨r.1 + n, h⟩ else 0

/-- The 8 rows before tile `i` and its 512 rows; its 512 rows and the 8 rows after them. -/
def before (i : ℕ) (hi : i < 16) (x : Fin 8192 → EReal) (a : Fin 520) : EReal :=
  if 8 ≤ 512 * i + a.1 then x ⟨512 * i + a.1 - 8, by omega⟩ else 0
def after (i : ℕ) (x : Fin 8192 → EReal) (a : Fin 520) : EReal := if h : 512 * i + a.1 < 8192 then x ⟨512 * i + a.1, h⟩ else 0

theorem back_zero (x : Fin 8192 → EReal) (r : Fin 8192) : back 0 x r = x r := if_pos (Nat.zero_le _)
theorem ahead_zero (x : Fin 8192 → EReal) (r : Fin 8192) : ahead 0 x r = x r := dif_pos r.2

theorem before_eq (i : ℕ) (hi : i < 16) (x : Fin 8192 → EReal) (n : ℕ) (hn : n ≤ 8) (a : Fin 512) (b : Fin 520) (hb : b.1 = 8 + a.1 - n) :
    before i hi x b = back n x ⟨512 * i + a.1, by omega⟩ := by
  unfold before back
  by_cases h : n ≤ 512 * i + a.1
  · rw [if_pos (by omega), if_pos h]
    exact congrArg x (Fin.ext (by dsimp only; omega))
  · rw [if_neg (by omega), if_neg h]

theorem after_eq (i : ℕ) (hi : i < 16) (x : Fin 8192 → EReal) (n : ℕ) (hn : n ≤ 8) (a : Fin 512) (b : Fin 520) (hb : b.1 = a.1 + n) :
    after i x b = ahead n x ⟨512 * i + a.1, by omega⟩ := by
  unfold after ahead
  by_cases h : 512 * i + a.1 + n < 8192
  · rw [dif_pos (by omega), dif_pos h]
    exact congrArg x (Fin.ext (by dsimp only; omega))
  · rw [dif_neg (by omega), dif_neg h]

/-- Row by row products with a column moved down are, in all, the products of the column with the other one moved up. -/
theorem sum_back (n : ℕ) (x y : Fin 8192 → EReal) : ∑ r, back n x r * y r = ∑ r, x r * ahead n y r := by
  have h1 (r : Fin 8192) : back n x r * y r = ∑ s : Fin 8192, if s.1 + n = r.1 then x s * y r else 0 := by
    unfold back
    by_cases h : n ≤ r.1
    · rw [if_pos h, Finset.sum_eq_single ⟨r.1 - n, by omega⟩ (fun s _ hs => if_neg fun e => hs (Fin.ext (by dsimp only; omega)))
        (fun e => absurd (Finset.mem_univ _) e), if_pos (by dsimp only; omega)]
    · rw [if_neg h, zero_mul, Finset.sum_eq_zero fun s _ => if_neg (by omega)]
  have h2 (s : Fin 8192) : x s * ahead n y s = ∑ r : Fin 8192, if s.1 + n = r.1 then x s * y r else 0 := by
    unfold ahead
    by_cases h : s.1 + n < 8192
    · rw [dif_pos h, Finset.sum_eq_single ⟨s.1 + n, h⟩ (fun r _ hr => if_neg fun e => hr (Fin.ext e.symm))
        (fun e => absurd (Finset.mem_univ _) e), if_pos rfl]
    · rw [dif_neg h, mul_zero, Finset.sum_eq_zero fun r _ => if_neg (by omega)]
  simp only [h1, h2]
  exact Finset.sum_comm

end Cert.Shifts

end
-- ==== Proof.FfnTile.lean ====
/- The feed-forward network's tiles, payload by payload: a tile of the forward pass is 512 rows and the 8 rows before them,
   a tile of the backward pass is 512 rows and the 8 rows after them. -/
module

public import proofs.«01_k».proof.Proof.Gen.FfnIdeal.Frame
public import proofs.«01_k».proof.Proof.Gate
public import proofs.«01_k».proof.Proof.Shifts
public import Idealize.ShloMosaic.Lib.Pipeline.ValueKit
public import Idealize.ShloMosaic.Lib.Pointwise
public import Idealize.ShloMosaic.Lib.Tactic

@[expose] public section
set_option maxRecDepth 16384
noncomputable section
open Idealize.ShloMosaic Idealize.ShloMosaic.TcCoe Idealize.SL.Sem
namespace Cert.FfnIdeal.Tile
open Cert.FfnIdeal Cert.FfnIdeal.Gen Cert.Shifts

/-! ## Rows moved inside a tile -/

/-- Row `a` of tile `n`, and of the 16 rows before it. -/
abbrev tileRow (n : ℕ) (hn : n < 16) (a : Fin 512) : Fin 8192 := ⟨512 * n + a.1, by omega⟩
abbrev tilePrev (n : ℕ) (hn : n < 16) (a : Fin 16) : Fin 8192 := ⟨512 * n - 16 + a.1, by omega⟩

section Moves
variable (y : FVec Ideal S520x1536 .f32) (a : Fin 512) (k : Fin 1536)

theorem down1 : extractStridedSlice S512x1536 ![8, 0] (dynamicRotate 0 1#32 none y rotates_S520x1536_d0) slices_S520x1536_o8_0_S512x1536 (ix2 a k)
    = y (ix2 ⟨7 + a.1, by omega⟩ k) := by
  pointwise []
  exact congrArg (fun b => y (ix2 b k)) (Fin.ext (by dsimp only; omega))
theorem down2 : extractStridedSlice S512x1536 ![8, 0] (dynamicRotate 0 2#32 none y rotates_S520x1536_d0) slices_S520x1536_o8_0_S512x1536 (ix2 a k)
    = y (ix2 ⟨6 + a.1, by omega⟩ k) := by
  pointwise []
  exact congrArg (fun b => y (ix2 b k)) (Fin.ext (by dsimp only; omega))
theorem up1 : extractStridedSlice S512x1536 ![0, 0] (dynamicRotate 0 519#32 none y rotates_S520x1536_d0) slices_S520x1536_o0_0_S512x1536 (ix2 a k)
    = y (ix2 ⟨a.1 + 1, by omega⟩ k) := by
  pointwise []
  exact congrArg (fun b => y (ix2 b k)) (Fin.ext (by dsimp only; omega))
theorem up2 : extractStridedSlice S512x1536 ![0, 0] (dynamicRotate 0 518#32 none y rotates_S520x1536_d0) slices_S520x1536_o0_0_S512x1536 (ix2 a k)
    = y (ix2 ⟨a.1 + 2, by omega⟩ k) := by
  pointwise []
  exact congrArg (fun b => y (ix2 b k)) (Fin.ext (by dsimp only; omega))

end Moves

/-! ## Constants -/

/-- The two folded constants of the activation. -/
theorem rootCube_eq : Named.named (F := Ideal) κ "root_cube" (φ := .f32) 1024598649#32 = Gate.rootCube :=
  IdealRules.named_const.ideal_named_scalar _ _ _ _ rfl
theorem sixRootCube_eq : Named.named (F := Ideal) κ "six_root_cube" (φ := .f32) 1046164406#32 = Gate.sixRootCube :=
  IdealRules.named_const.ideal_named_scalar _ _ _ _ rfl

/-! ## A tile of the forward pass -/

section Forward
variable (prev : Vec Ideal S16x2048 .bf16) (own : Vec Ideal S512x2048 .bf16) (w : Vec Ideal S1x2048x1536 .bf16)
  (k : Fin 1536)

/-- The product's column over a tile's own rows. -/
theorem own_at (a : Fin 512) : k0_pay6 (F := Ideal) prev own w (ix2 ⟨16 + a.1, by omega⟩ k) = ∑ x, own (ix2 a x) * w (ix3 0 x k) := by
  pointwise [k0_pay6, k0_pay5]
theorem prev_at (a : Fin 16) : k0_pay6 (F := Ideal) prev own w (ix2 ⟨a.1, by omega⟩ k) = ∑ x, prev (ix2 a x) * w (ix3 0 x k) := by
  pointwise [k0_pay6, k0_pay5]

variable {i : grid0.Coords} (hi : (i 0).val < 16) (U : Fin 8192 → EReal)

include hi in
/-- The rows before the first tile are kept out. -/
theorem keep_at (x : EReal) : Scalar.select (Scalar.cmpi CmpIPredicate.eq (BitVec.ofNat 32 (i 0).val) 0#32) 0 x = if (i 0).val = 0 then 0 else x := by
  have e : ∀ n : Fin 16, Scalar.cmpi CmpIPredicate.eq (BitVec.ofNat 32 n.1) 0#32 = BitVec.ofBool (decide (n.1 = 0)) := by decide
  rw [show Scalar.cmpi CmpIPredicate.eq (BitVec.ofNat 32 (i 0).val) 0#32 = BitVec.ofBool (decide ((i 0).val = 0)) from e ⟨(i 0).val, hi⟩]
  by_cases h : (i 0).val = 0 <;> simp [h, Scalar.select]

variable (hown : ∀ a : Fin 512, ∑ x, own (ix2 a x) * w (ix3 0 x k) = U (tileRow (i 0).val hi a))
  (hprev : (i 0).val ≠ 0 → ∀ a : Fin 16, ∑ x, prev (ix2 a x) * w (ix3 0 x k) = U (tilePrev (i 0).val hi a))
include hown hprev

theorem rows_at (a : Fin 520) : k0_pay15 (F := Ideal) i prev own w (ix2 a k) = before (i 0).val hi U a := by
  pointwise [k0_pay15, k0_pay9, k0_pay10, k0_pay4]
  unfold before
  by_cases ha : a.1 < 8
  · rw [dif_pos ha]
    refine (keep_at hi _).trans ?_
    by_cases h0 : (i 0).val = 0
    · rw [if_pos h0, if_neg (by omega)]
    · rw [if_neg h0, if_pos (by omega)]
      refine (prev_at prev own w k ⟨8 + a.1, by omega⟩).trans ((hprev h0 _).trans (congrArg U (Fin.ext ?_)))
      dsimp only; omega
  · rw [dif_neg ha]
    refine Eq.trans ?_ (if_pos (by omega)).symm
    refine (own_at prev own w k ⟨a.1 - 8, by omega⟩).trans ((hown _).trans (congrArg U (Fin.ext ?_)))
    dsimp only; omega

theorem own0 (a : Fin 512) : k0_pay10 (F := Ideal) prev own w (ix2 a k) = back 0 U (tileRow (i 0).val hi a) := by
  rw [back_zero, ← hown a, ← own_at prev own w k a]
  pointwise [k0_pay10]
theorem own2 (a : Fin 512) : extractStridedSlice S512x1536 ![8, 0] (dynamicRotate 0 2#32 none (k0_pay15 (F := Ideal) i prev own w) rotates_S520x1536_d0)
    slices_S520x1536_o8_0_S512x1536 (ix2 a k) = back 2 U (tileRow (i 0).val hi a) :=
  (down2 _ a k).trans <| (rows_at prev own w k hi U hown hprev _).trans (before_eq _ hi U 2 (by omega) a _ (by dsimp only; omega))
theorem own1 (a : Fin 512) : k0_pay14 (F := Ideal) i prev own w (ix2 a k) = back 1 U (tileRow (i 0).val hi a) :=
  (down1 (k0_pay15 i prev own w) a k).trans <| (rows_at prev own w k hi U hown hprev _).trans (before_eq _ hi U 1 (by omega) a _ (by dsimp only; omega))

variable (taps : Vec Ideal S3x1536 .f32) (shift : Vec Ideal S1x1536 .f32)

omit hown hprev in
/-- The convolution's block, from the rows' product and the taps. -/
abbrev conv (i : grid0.Coords) (prev : Vec Ideal S16x2048 .bf16) (own : Vec Ideal S512x2048 .bf16) (w : Vec Ideal S1x2048x1536 .bf16)
    (taps : Vec Ideal S3x1536 .f32) (shift : Vec Ideal S1x1536 .f32) : FVec Ideal S1x512x1536 .bf16 :=
  k0_pay17 (k0_pay10 prev own w) (k0_pay11 (View.ld taps r0_4)) (k0_pay12 (View.ld taps r0_5)) (k0_pay13 (View.ld taps r0_6))
    (k0_pay14 i prev own w) (k0_pay15 i prev own w) shift

theorem conv_at (a : Fin 512) : conv i prev own w taps shift (ix3 0 a k)
    = ((taps (ix2 2 k) * back 0 U (tileRow (i 0).val hi a) + taps (ix2 1 k) * back 1 U (tileRow (i 0).val hi a))
      + taps (ix2 0 k) * back 2 U (tileRow (i 0).val hi a)) + shift (ix2 0 k) := by
  rw [← own0 prev own w k hi U hown hprev, ← own1 prev own w k hi U hown hprev, ← own2 prev own w k hi U hown hprev]
  pointwise [conv, k0_pay17, k0_pay16, k0_pay11, k0_pay12, k0_pay13]

omit hown hprev in
/-- The gated product's block: the gate's convolution activated, times the value's. -/
theorem gated_at (g : FVec Ideal S512x1536 .f32) (p n : Vec Ideal S1x1536 .f32) (b1 b2 b3 b4 : FVec Ideal S512x1536 .f32) (a : Fin 512) :
    k0_pay3 (F := Ideal) g p b1 b2 b3 b4 n (ix2 a k) = Gate.act (g (ix2 a k)) * k0_pay2 (F := Ideal) p b1 b2 b3 b4 n (ix3 0 a k) := by
  pointwise [k0_pay3, k0_pay2]
  rw [rootCube_eq]
  rfl

omit hown hprev in
/-- The gate's convolution before it is rounded. -/
theorem kept_at (b1 b2 : FVec Ideal S512x1536 .f32) (t0 t1 t2 : FVec Ideal S1x1536 .f32) (y : FVec Ideal S520x1536 .f32) (n : Vec Ideal S1x1536 .f32) (a : Fin 512) :
    k0_pay16 (F := Ideal) b1 t0 t1 t2 b2 y n (ix2 a k) = k0_pay17 (F := Ideal) b1 t0 t1 t2 b2 y n (ix3 0 a k) := by
  pointwise [k0_pay17]

end Forward

/-! ## A tile of the backward pass -/

/-- What a tile's blocks hold, in one column: the gradient of the gate's output, and the convolution's two columns. -/
structure Holds (i : grid1.Coords) (hi : (i 1).val < 16) (next : Vec Ideal S16x2048 .bf16) (own : Vec Ideal S512x2048 .bf16) (w : Vec Ideal S1536x2048 .bf16)
    (ownG ownV : Vec Ideal S1x512x1536 .bf16) (nextG nextV : Vec Ideal S1x16x1536 .bf16) (k : Fin 1536) (D G V : Fin 8192 → EReal) : Prop where
  own : ∀ a : Fin 512, ∑ x, own (ix2 a x) * w (ix2 k x) = D ⟨512 * (i 1).val + a.1, by omega⟩
  next : ∀ h : (i 1).val ≠ 15, ∀ a : Fin 16, ∑ x, next (ix2 a x) * w (ix2 k x) = D ⟨512 * (i 1).val + 512 + a.1, by omega⟩
  ownG : ∀ a : Fin 512, ownG (ix3 0 a k) = G ⟨512 * (i 1).val + a.1, by omega⟩
  nextG : ∀ h : (i 1).val ≠ 15, ∀ a : Fin 16, nextG (ix3 0 a k) = G ⟨512 * (i 1).val + 512 + a.1, by omega⟩
  ownV : ∀ a : Fin 512, ownV (ix3 0 a k) = V ⟨512 * (i 1).val + a.1, by omega⟩
  nextV : ∀ h : (i 1).val ≠ 15, ∀ a : Fin 16, nextV (ix3 0 a k) = V ⟨512 * (i 1).val + 512 + a.1, by omega⟩

section Backward
variable (next : Vec Ideal S16x2048 .bf16) (own : Vec Ideal S512x2048 .bf16) (w : Vec Ideal S1536x2048 .bf16)
  (ownG ownV : Vec Ideal S1x512x1536 .bf16) (nextG nextV : Vec Ideal S1x16x1536 .bf16) (k : Fin 1536)

variable {i : grid1.Coords} (hi : (i 1).val < 16) (D G V : Fin 8192 → EReal)

include hi in
/-- The rows after the last tile are kept out. -/
theorem last_at (x : EReal) : Scalar.select (Scalar.cmpi CmpIPredicate.eq (BitVec.ofNat 32 (i 1).val) 15#32) 0 x = if (i 1).val = 15 then 0 else x := by
  have e : ∀ n : Fin 16, Scalar.cmpi CmpIPredicate.eq (BitVec.ofNat 32 n.1) 15#32 = BitVec.ofBool (decide (n.1 = 15)) := by decide
  rw [show Scalar.cmpi CmpIPredicate.eq (BitVec.ofNat 32 (i 1).val) 15#32 = BitVec.ofBool (decide ((i 1).val = 15)) from e ⟨(i 1).val, hi⟩]
  by_cases h : (i 1).val = 15 <;> simp [h, Scalar.select]

variable (h : Holds i hi next own w ownG ownV nextG nextV k D G V)
include h

theorem dout_at (a : Fin 520) : k1_pay8 (F := Ideal) i next own w (ix2 a k) = Shifts.after (i 1).val D a := by
  pointwise [k1_pay8]
  unfold Shifts.after
  by_cases ha : a.1 < 512
  · refine Eq.trans ?_ (dif_pos (by omega)).symm
    refine Eq.trans (Finset.sum_congr rfl fun x _ => congrArg (· * _) (dif_pos ha)) (h.own ⟨a.1, ha⟩)
  · by_cases h0 : (i 1).val = 15
    · refine Eq.trans ?_ (dif_neg (by omega)).symm
      refine Finset.sum_eq_zero fun x _ => ?_
      rw [dif_neg ha]
      refine Eq.trans (congrArg (· * _) ((last_at hi _).trans (if_pos h0))) (zero_mul _)
    · refine Eq.trans ?_ (dif_pos (by omega)).symm
      refine Eq.trans (Finset.sum_congr rfl fun x _ => congrArg (· * _) ((dif_neg ha).trans ((last_at hi _).trans (if_neg h0))))
        ((h.next h0 ⟨a.1 - 512, by omega⟩).trans (congrArg D (Fin.ext ?_)))
      dsimp only; omega

theorem gate_at (a : Fin 520) (ha' : 512 * (i 1).val + a.1 < 8192) : k1_pay9 (F := Ideal) ownG nextG (ix2 a k) = G ⟨512 * (i 1).val + a.1, ha'⟩ := by
  pointwise [k1_pay9]
  by_cases ha : a.1 < 512
  · rw [dif_pos ha]; exact h.ownG ⟨a.1, ha⟩
  · rw [dif_neg ha]
    refine (h.nextG (by omega) ⟨a.1 - 512, by omega⟩).trans (congrArg G (Fin.ext ?_))
    dsimp only; omega

/-- The gradient that reaches the gate's column, and the one that reaches the value's. -/
theorem dgate_at (a : Fin 520) :
    k1_pay15 (F := Ideal) (k1_pay8 i next own w) (k1_pay9 ownG nextG) (k1_pay10 ownV) (k1_pay11 nextV) (ix2 a k)
      = Shifts.after (i 1).val (fun r => (D r * V r) * Gate.slope (G r)) a := by
  have e : k1_pay15 (F := Ideal) (k1_pay8 i next own w) (k1_pay9 ownG nextG) (k1_pay10 ownV) (k1_pay11 nextV) (ix2 a k)
      = (k1_pay8 (F := Ideal) i next own w (ix2 a k) * (if h : a.1 < 512 then ownV (ix3 0 ⟨a.1, h⟩ k) else nextV (ix3 0 ⟨a.1 - 512, by omega⟩ k)))
        * Gate.slope (k1_pay9 (F := Ideal) ownG nextG (ix2 a k)) := by
    pointwise [k1_pay15, k1_pay14, k1_pay13, k1_pay12, k1_pay10, k1_pay11]
    rw [rootCube_eq, sixRootCube_eq]
    rfl
  rw [e, dout_at next own w ownG ownV nextG nextV k hi D G V h]
  unfold Shifts.after
  by_cases ha' : 512 * (i 1).val + a.1 < 8192
  · rw [dif_pos ha', dif_pos ha', gate_at next own w ownG ownV nextG nextV k hi D G V h a ha']
    refine congrArg (fun z => D _ * z * _) ?_
    by_cases ha : a.1 < 512
    · rw [dif_pos ha]; exact h.ownV ⟨a.1, ha⟩
    · rw [dif_neg ha]
      refine (h.nextV (by omega) ⟨a.1 - 512, by omega⟩).trans (congrArg V (Fin.ext ?_))
      dsimp only; omega
  · rw [dif_neg ha', dif_neg ha', zero_mul, zero_mul]

theorem dvalue_at (a : Fin 520) :
    k1_pay26 (F := Ideal) (k1_pay8 i next own w) (k1_pay14 (k1_pay9 ownG nextG)) (ix2 a k)
      = Shifts.after (i 1).val (fun r => D r * Gate.act (G r)) a := by
  have e : k1_pay26 (F := Ideal) (k1_pay8 i next own w) (k1_pay14 (k1_pay9 ownG nextG)) (ix2 a k)
      = k1_pay8 (F := Ideal) i next own w (ix2 a k) * Gate.act (k1_pay9 (F := Ideal) ownG nextG (ix2 a k)) := by
    pointwise [k1_pay26, k1_pay14, k1_pay13, k1_pay12]
    rw [rootCube_eq]
    rfl
  rw [e, dout_at next own w ownG ownV nextG nextV k hi D G V h]
  unfold Shifts.after
  by_cases ha' : 512 * (i 1).val + a.1 < 8192
  · rw [dif_pos ha', dif_pos ha', gate_at next own w ownG ownV nextG nextV k hi D G V h a ha']
  · rw [dif_neg ha', dif_neg ha', zero_mul]

end Backward

/-! ### A gradient's column moved up, the convolution's adjoint and the tap sums, from the 520 rows of either gradient -/

section Adjoint
variable {n : ℕ} (hn : n < 16) (y : FVec Ideal S520x1536 .f32) (k : Fin 1536) (E : Fin 8192 → EReal) (hy : ∀ a, y (ix2 a k) = Shifts.after n E a)

/-- The rows of the gradient, and the gradient one and two rows further on. -/
abbrev at0 (y : FVec Ideal S520x1536 .f32) : FVec Ideal S512x1536 .f32 := extractStridedSlice S512x1536 ![0, 0] y slices_S520x1536_o0_0_S512x1536
abbrev at1 (y : FVec Ideal S520x1536 .f32) : FVec Ideal S512x1536 .f32 :=
  extractStridedSlice S512x1536 ![0, 0] (dynamicRotate 0 519#32 none y rotates_S520x1536_d0) slices_S520x1536_o0_0_S512x1536
abbrev at2 (y : FVec Ideal S520x1536 .f32) : FVec Ideal S512x1536 .f32 :=
  extractStridedSlice S512x1536 ![0, 0] (dynamicRotate 0 518#32 none y rotates_S520x1536_d0) slices_S520x1536_o0_0_S512x1536

include hy hn
theorem at0_eq (a : Fin 512) : at0 y (ix2 a k) = ahead 0 E ⟨512 * n + a.1, by omega⟩ := by
  refine Eq.trans ?_ ((hy ⟨a.1, by omega⟩).trans (after_eq n hn E 0 (by omega) a _ rfl))
  pointwise []
theorem at1_eq (a : Fin 512) : at1 y (ix2 a k) = ahead 1 E ⟨512 * n + a.1, by omega⟩ :=
  (up1 y a k).trans ((hy _).trans (after_eq n hn E 1 (by omega) a _ rfl))
theorem at2_eq (a : Fin 512) : at2 y (ix2 a k) = ahead 2 E ⟨512 * n + a.1, by omega⟩ :=
  (up2 y a k).trans ((hy _).trans (after_eq n hn E 2 (by omega) a _ rfl))

end Adjoint

end Cert.FfnIdeal.Tile
-- ==== Proof.FfnCases.lean ====
/- What the grid points of the feed-forward network's backward pass leave behind: the gradient's block, and the running sums
   of the taps' and the shift's gradients, for the gate's columns and for the value's. -/
module

public import proofs.«01_k».proof.Proof.FfnTile
public import Idealize.ShloMosaic.Lib.Pipeline.Value
public import Idealize.ShloMosaic.Lib.StableHlo.Run

@[expose] public section
set_option maxRecDepth 16384
noncomputable section
open Idealize.ShloMosaic Idealize.ShloMosaic.TcCoe Idealize.SL.Sem
namespace Cert.FfnIdeal.Cases
open Cert.FfnIdeal Cert.FfnIdeal.Gen Cert.FfnIdeal.Tile

/-- Zero offsets. -/
theorem off2 : (![0, 0] : Fin 2 → Nat) = fun _ => 0 := funext fun a => by fin_cases a <;> rfl
theorem off3 : (![0, 0, 0] : Fin 3 → Nat) = fun _ => 0 := funext fun a => by fin_cases a <;> rfl

theorem zero3 (q : S3x1536.Idx) : k1_pay4 (F := Ideal) q = 0 := by
  pointwise [k1_pay4]
theorem zero1 (q : S1x1536.Idx) : k1_pay6 (F := Ideal) q = 0 := by
  pointwise [k1_pay6]

/-! ## The stored blocks -/

/-- The gradients' 520 rows, of the gate's columns and of the value's, from a tile's blocks. -/
abbrev dgate (i : grid1.Coords) (next : Vec Ideal S16x2048 .bf16) (own : Vec Ideal S512x2048 .bf16) (w : Vec Ideal S1536x2048 .bf16)
    (ownG ownV : Vec Ideal S1x512x1536 .bf16) (nextG nextV : Vec Ideal S1x16x1536 .bf16) : FVec Ideal S520x1536 .f32 :=
  k1_pay15 (k1_pay8 i next own w) (k1_pay9 ownG nextG) (k1_pay10 ownV) (k1_pay11 nextV)
abbrev dvalue (i : grid1.Coords) (next : Vec Ideal S16x2048 .bf16) (own : Vec Ideal S512x2048 .bf16) (w : Vec Ideal S1536x2048 .bf16)
    (ownG : Vec Ideal S1x512x1536 .bf16) (nextG : Vec Ideal S1x16x1536 .bf16) : FVec Ideal S520x1536 .f32 :=
  k1_pay26 (k1_pay8 i next own w) (k1_pay14 (k1_pay9 ownG nextG))

/-- Row `r` of a gradient, moved up by as many rows as tap `t` looks back. -/
abbrev moved (y : FVec Ideal S520x1536 .f32) (t : Fin 3) (r : Fin 512) (k : Fin 1536) : EReal :=
  match t with
  | 0 => at2 y (ix2 r k)
  | 1 => at1 y (ix2 r k)
  | 2 => at0 y (ix2 r k)

/-- The convolution's adjoint at a row. -/
abbrev adjoint (y : FVec Ideal S520x1536 .f32) (tap : Vec Ideal S3x1536 .f32) (r : Fin 512) (k : Fin 1536) : EReal :=
  (tap (ix2 2 k) * moved y 2 r k + tap (ix2 1 k) * moved y 1 r k) + tap (ix2 0 k) * moved y 0 r k

/-- The gradient's block: the gate's columns, then the value's. -/
def blocks (yG yV : FVec Ideal S520x1536 .f32) (tapG tapV : Vec Ideal S3x1536 .f32) : Vec Ideal S2x512x1536 .bf16 := fun q =>
  if (q 0).val = 0 then adjoint yG tapG (q 1) (q 2) else adjoint yV tapV (q 1) (q 2)
/-- The taps' sums and the shift's, each over what it held. -/
def taps (y : FVec Ideal S520x1536 .f32) (up : Vec Ideal S1x512x1536 .bf16) (o : Vec Ideal S3x1536 .f32) : Vec Ideal S3x1536 .f32 := fun q =>
  o q + ∑ r : Fin 512, up (ix3 0 r (q 1)) * moved y (q 0) r (q 1)
def shifts (y : FVec Ideal S520x1536 .f32) (o : Vec Ideal S1x1536 .f32) : Vec Ideal S1x1536 .f32 := fun q =>
  o q + ∑ r : Fin 512, moved y 2 r (q 1)

theorem pay22_at (z : FVec Ideal S512x1536 .f32) (up : Vec Ideal S1x512x1536 .bf16) (o : Vec Ideal S1x1536 .f32) (k : Fin 1536) :
    k1_pay22 z up o (ix2 0 k) = o (ix2 0 k) + ∑ r : Fin 512, up (ix3 0 r k) * z (ix2 r k) := by
  pointwise [k1_pay22, k1_pay21]
theorem pay25_at (z : FVec Ideal S512x1536 .f32) (o : Vec Ideal S1x1536 .f32) (k : Fin 1536) :
    k1_pay25 z o (ix2 0 k) = o (ix2 0 k) + ∑ r : Fin 512, z (ix2 r k) := by
  pointwise [k1_pay25]

/-- The adjoint's block at an entry, from the gradient and the three rows of taps. -/
theorem adjoint_at (y : FVec Ideal S520x1536 .f32) (tap : Vec Ideal S3x1536 .f32) (i0 i1 i2) (r : Fin 512) (k : Fin 1536) :
    shapeCast S1x512x1536 (truncf (F := Ideal) .bf16 (addf (addf
      (mulf (broadcastTo S512x1536 (shapeCast S1x1536 (View.ld tap (Rect.unit (s := S3x1536) ![2, 0] ![1, 1536] i2)) shapeCasts_S1x1536_S1x1536) broadcasts_S1x1536_S512x1536) (at0 y))
      (mulf (broadcastTo S512x1536 (shapeCast S1x1536 (View.ld tap (Rect.unit (s := S3x1536) ![1, 0] ![1, 1536] i1)) shapeCasts_S1x1536_S1x1536) broadcasts_S1x1536_S512x1536) (at1 y)))
      (mulf (broadcastTo S512x1536 (shapeCast S1x1536 (View.ld tap (Rect.unit (s := S3x1536) ![0, 0] ![1, 1536] i0)) shapeCasts_S1x1536_S1x1536) broadcasts_S1x1536_S512x1536) (at2 y)))
      bitsLt_bf16_f32) shapeCasts_S512x1536_S1x512x1536 (ix3 0 r k) = adjoint y tap r k := by
  generalize h0 : at0 y = z0
  generalize h1 : at1 y = z1
  generalize h2 : at2 y = z2
  unfold adjoint moved
  rw [h0, h1, h2]
  pointwise []

theorem half_hit (s : Fin 2) {o : ℕ} (ho : o = s.1) (inb) (p : FVec Ideal S1x512x1536 .bf16) (L : List (View.Piece (Elt Ideal) S2x512x1536 .bf16)) (r : Fin 512)
    (k : Fin 1536) : View.canon (⟨Rect.unit (s := S2x512x1536) ![o, 0, 0] ![1, 512, 1536] inb, p⟩ :: L) (ix3 s r k) = p (ix3 0 r k) := by
  subst ho
  have e : (Rect.unit (s := S2x512x1536) ![s.1, 0, 0] ![1, 512, 1536] inb).emb (ix3 (0 : Fin 1) r k) = ix3 s r k := funext fun a => Fin.ext (by
    match a with
    | ⟨0, _⟩ => show s.1 + 1 * 0 = s.1; omega
    | ⟨1, _⟩ => show 0 + 1 * r.1 = r.1; omega
    | ⟨2, _⟩ => show 0 + 1 * k.1 = k.1; omega)
  rw [← e]
  exact View.canon_cons_emb _ _ _ _

theorem half_miss (s : Fin 2) {o : ℕ} (ho : o ≠ s.1) (inb) (p : FVec Ideal S1x512x1536 .bf16) (L : List (View.Piece (Elt Ideal) S2x512x1536 .bf16)) (r : Fin 512)
    (k : Fin 1536) : View.canon (⟨Rect.unit (s := S2x512x1536) ![o, 0, 0] ![1, 512, 1536] inb, p⟩ :: L) (ix3 s r k) = View.canon L (ix3 s r k) := by
  refine View.canon_cons_of_not_mem _ _ fun hm => ?_
  rw [Rect.mem_set_unit] at hm
  have h : o ≤ s.1 ∧ s.1 < o + 1 := hm 0
  omega

theorem blocks_eq (yG yV : FVec Ideal S520x1536 .f32) (tapG tapV : Vec Ideal S3x1536 .f32) (pG pV : FVec Ideal S1x512x1536 .bf16)
    (hG : ∀ r k, pG (ix3 0 r k) = adjoint yG tapG r k) (hV : ∀ r k, pV (ix3 0 r k) = adjoint yV tapV r k) (iV iG) :
    View.canon [⟨Rect.unit (s := S2x512x1536) ![1, 0, 0] ![1, 512, 1536] iV, pV⟩, ⟨Rect.unit ![0, 0, 0] ![1, 512, 1536] iG, pG⟩]
      = blocks yG yV tapG tapV := by
  funext q
  obtain ⟨s, r, k, rfl⟩ : ∃ (s : Fin 2) (r : Fin 512) (k : Fin 1536), q = ix3 s r k := ⟨q 0, q 1, q 2, eq_ix3 q⟩
  match s with
  | 0 => exact (half_miss 0 (by decide) _ _ _ r k).trans ((half_hit 0 rfl _ _ _ r k).trans (hG r k))
  | 1 => exact (half_hit 1 rfl _ _ _ r k).trans (hV r k)

/-! ### Rows of the tap sums -/

section Stored

theorem row_hit (t : Fin 3) {o : ℕ} (ho : o = t.1) (inb) (p : FVec Ideal S1x1536 .f32) (L : List (View.Piece (Elt Ideal) S3x1536 .f32)) (k : Fin 1536) :
    View.canon (⟨Rect.unit (s := S3x1536) ![o, 0] ![1, 1536] inb, p⟩ :: L) (ix2 t k) = p (ix2 0 k) := by
  subst ho
  have e : (Rect.unit (s := S3x1536) ![t.1, 0] ![1, 1536] inb).emb (ix2 (0 : Fin 1) k) = ix2 t k := funext fun a => Fin.ext (by
    match a with
    | ⟨0, _⟩ => show t.1 + 1 * 0 = t.1; omega
    | ⟨1, _⟩ => show 0 + 1 * k.1 = k.1; omega)
  rw [← e]
  exact View.canon_cons_emb _ _ _ _

theorem row_miss (t : Fin 3) {o : ℕ} (ho : o ≠ t.1) (inb) (p : FVec Ideal S1x1536 .f32) (L : List (View.Piece (Elt Ideal) S3x1536 .f32)) (k : Fin 1536) :
    View.canon (⟨Rect.unit (s := S3x1536) ![o, 0] ![1, 1536] inb, p⟩ :: L) (ix2 t k) = View.canon L (ix2 t k) := by
  refine View.canon_cons_of_not_mem _ _ fun hm => ?_
  rw [Rect.mem_set_unit] at hm
  have h : o ≤ t.1 ∧ t.1 < o + 1 := hm 0
  omega

theorem row_load (o : Vec Ideal S3x1536 .f32) (t : Fin 3) {n : ℕ} (hn : n = t.1) (inb) (k : Fin 1536) :
    View.ld o (Rect.unit (s := S3x1536) ![n, 0] ![1, 1536] inb) (ix2 0 k) = o (ix2 t k) := by
  subst hn
  refine congrArg o (funext fun a => Fin.ext ?_)
  match a with
  | ⟨0, _⟩ => show t.1 + 1 * 0 = t.1; omega
  | ⟨1, _⟩ => show 0 + 1 * k.1 = k.1; omega

theorem row_cov {κ : Kind} {sp : Space} (v : View sig κ sp S3x1536 .f32) (L : List (View.Piece (Elt Ideal) S3x1536 .f32)) (t : Fin 3) {n : ℕ} (hn : n = t.1) (inb) (k : Fin 1536) :
    v.readCov L (Rect.unit (s := S3x1536) ![n, 0] ![1, 1536] inb).toLoadRect (ix2 0 k) = View.canon L (ix2 t k) := by
  rw [View.readCov_eq_canon']
  exact row_load (View.canon L) t hn inb k

variable (y : FVec Ideal S520x1536 .f32) (up : Vec Ideal S1x512x1536 .bf16)

theorem stored_later (o : Vec Ideal S3x1536 .f32) (p0 p1 p2 : FVec Ideal S1x1536 .f32)
    (i0 i1 i2)
    (h0 : p0 = k1_pay24 (at2 y) up (View.ld o (Rect.unit (s := S3x1536) ![0, 0] ![1, 1536] i0)))
    (h1 : p1 = k1_pay23 (at1 y) up (View.ld o (Rect.unit (s := S3x1536) ![1, 0] ![1, 1536] i1)))
    (h2 : p2 = k1_pay22 (at0 y) up (View.ld o (Rect.unit (s := S3x1536) ![2, 0] ![1, 1536] i2))) :
    View.canon [⟨Rect.unit (s := S3x1536) ![0, 0] ![1, 1536] i0, p0⟩, ⟨Rect.unit ![1, 0] ![1, 1536] i1, p1⟩, ⟨Rect.unit ![2, 0] ![1, 1536] i2, p2⟩]
      = taps y up o := by
  subst h0 h1 h2
  funext q
  obtain ⟨t, k, rfl⟩ : ∃ (t : Fin 3) (k : Fin 1536), q = ix2 t k := ⟨q 0, q 1, eq_ix2 q⟩
  match t with
  | 0 =>
    refine (row_hit 0 rfl _ _ _ k).trans ((pay22_at (at2 y) up _ k).trans (congrArg (· + _) (row_load o 0 rfl _ k)))
  | 1 =>
    refine (row_miss 1 (by decide) _ _ _ k).trans ((row_hit 1 rfl _ _ _ k).trans ((pay22_at (at1 y) up _ k).trans (congrArg (· + _) (row_load o 1 rfl _ k))))
  | 2 =>
    refine (row_miss 2 (by decide) _ _ _ k).trans ((row_miss 2 (by decide) _ _ _ k).trans ((row_hit 2 rfl _ _ _ k).trans
      ((pay22_at (at0 y) up _ k).trans (congrArg (· + _) (row_load o 2 rfl _ k)))))

theorem stored_first {κ : Kind} {sp : Space} (v : View sig κ sp S3x1536 .f32) (z : FVec Ideal S3x1536 .f32) (hz : z = fun _ => 0) (p0 p1 p2 : FVec Ideal S1x1536 .f32)
    (i0 i1 i2 iz)
    (h0 : p0 = k1_pay24 (at2 y) up (v.readCov [⟨Rect.unit (s := S3x1536) ![1, 0] ![1, 1536] i1, p1⟩, ⟨Rect.unit ![2, 0] ![1, 1536] i2, p2⟩, ⟨Rect.unit ![0, 0] ![3, 1536] iz, z⟩]
      (Rect.unit (s := S3x1536) ![0, 0] ![1, 1536] i0).toLoadRect))
    (h1 : p1 = k1_pay23 (at1 y) up (v.readCov [⟨Rect.unit (s := S3x1536) ![2, 0] ![1, 1536] i2, p2⟩, ⟨Rect.unit ![0, 0] ![3, 1536] iz, z⟩]
      (Rect.unit (s := S3x1536) ![1, 0] ![1, 1536] i1).toLoadRect))
    (h2 : p2 = k1_pay22 (at0 y) up (v.readCov [⟨Rect.unit (s := S3x1536) ![0, 0] ![3, 1536] iz, z⟩]
      (Rect.unit (s := S3x1536) ![2, 0] ![1, 1536] i2).toLoadRect)) :
    View.canon [⟨Rect.unit (s := S3x1536) ![0, 0] ![1, 1536] i0, p0⟩, ⟨Rect.unit ![1, 0] ![1, 1536] i1, p1⟩, ⟨Rect.unit ![2, 0] ![1, 1536] i2, p2⟩,
      ⟨Rect.unit ![0, 0] ![3, 1536] iz, z⟩] = taps y up fun _ => 0 := by
  have hw (q) : View.canon ([⟨Rect.unit (s := S3x1536) ![0, 0] ![3, 1536] iz, z⟩] :
      List (View.Piece (Elt Ideal) S3x1536 .f32)) q = 0 := by
    rw [View.canon_unit_zero (S := S3x1536) off2]
    exact congrFun hz q
  funext q
  obtain ⟨t, k, rfl⟩ : ∃ (t : Fin 3) (k : Fin 1536), q = ix2 t k := ⟨q 0, q 1, eq_ix2 q⟩
  match t with
  | 0 =>
    refine (row_hit 0 rfl _ _ _ k).trans ?_
    rw [h0]
    refine (pay22_at (at2 y) up _ k).trans (congrArg (· + _) ((row_cov v _ 0 rfl _ k).trans ?_))
    exact (row_miss 0 (by decide) _ _ _ k).trans ((row_miss 0 (by decide) _ _ _ k).trans (hw _))
  | 1 =>
    refine (row_miss 1 (by decide) _ _ _ k).trans ((row_hit 1 rfl _ _ _ k).trans ?_)
    rw [h1]
    refine (pay22_at (at1 y) up _ k).trans (congrArg (· + _) ((row_cov v _ 1 rfl _ k).trans ?_))
    exact (row_miss 1 (by decide) _ _ _ k).trans (hw _)
  | 2 =>
    refine (row_miss 2 (by decide) _ _ _ k).trans ((row_miss 2 (by decide) _ _ _ k).trans ((row_hit 2 rfl _ _ _ k).trans ?_))
    rw [h2]
    exact (pay22_at (at0 y) up _ k).trans (congrArg (· + _) ((row_cov v _ 2 rfl _ k).trans (hw _)))

theorem shift_later (o : Vec Ideal S1x1536 .f32) (p : FVec Ideal S1x1536 .f32) (hp : p = k1_pay25 (at0 y) o) (inb) :
    View.canon [⟨Rect.unit (s := S1x1536) ![0, 0] ![1, 1536] inb, p⟩] = shifts y o := by
  rw [View.canon_unit_zero (S := S1x1536) off2, hp]
  funext q
  obtain ⟨k, rfl⟩ : ∃ k : Fin 1536, q = ix2 0 k := ⟨q 1, (eq_ix2 q).trans (congrArg (fun z : Fin 1 => ix2 z (q 1)) (Subsingleton.elim _ _))⟩
  exact pay25_at _ _ _

theorem shift_first {κ : Kind} {sp : Space} (v : View sig κ sp S1x1536 .f32) (z p : FVec Ideal S1x1536 .f32) (hz : z = fun _ => 0) (inb iz)
    (hp : p = k1_pay25 (at0 y) (v.readCov [⟨Rect.unit (s := S1x1536) ![0, 0] ![1, 1536] iz, z⟩] (Rect.unit (s := S1x1536) ![0, 0] ![1, 1536] inb).toLoadRect)) :
    View.canon [⟨Rect.unit (s := S1x1536) ![0, 0] ![1, 1536] inb, p⟩, ⟨Rect.unit ![0, 0] ![1, 1536] iz, z⟩] = shifts y fun _ => 0 := by
  rw [View.canon_cons_unit_zero (S := S1x1536) off2, hp, View.readCov_unit_zero (S := S1x1536) _ off2, hz, ← shift_later y _ _ rfl inb,
    View.canon_unit_zero (S := S1x1536) off2]

end Stored

/-! ## A point of the forward pass -/

section Forward

variable (i : grid0.Coords) (x0 : Vec Ideal S512x2048 .bf16) (x1 : Vec Ideal S16x2048 .bf16) (x2 x3 : Vec Ideal S1x2048x1536 .bf16) (x4 x5 : Vec Ideal S3x1536 .f32)
  (x6 x7 : Vec Ideal S1x1536 .f32) (r : Fin 512) (k : Fin 1536)

theorem own_eq (w : Vec Ideal S1x2048x1536 .bf16) :
    k0_pay8 (F := Ideal) x1 x0 w (ix3 0 r k) = ∑ x, x0 (ix2 r x) * w (ix3 0 x k) := by
  rw [← own_at x1 x0 w k r]
  pointwise [k0_pay8]

theorem forward_gate : out0_8 i x0 x1 x2 x3 x4 x5 x6 x7 (ix3 0 r k) = ∑ x, x0 (ix2 r x) * x2 (ix3 0 x k) := by
  unfold out0_8 k0_pay26
  refine (half_miss 0 (by decide) _ _ _ r k).trans ((half_hit 0 rfl _ _ _ r k).trans ?_)
  rw [View.ld_unit_zero (S := S16x2048) off2, View.ld_unit_zero (S := S512x2048) off2, View.ld_unit_zero (S := S1x2048x1536) off3]
  exact own_eq x0 x1 r k x2

theorem forward_value : out0_8 i x0 x1 x2 x3 x4 x5 x6 x7 (ix3 1 r k) = ∑ x, x0 (ix2 r x) * x3 (ix3 0 x k) := by
  unfold out0_8 k0_pay26
  refine (half_hit 1 rfl _ _ _ r k).trans ?_
  rw [View.ld_unit_zero (S := S16x2048) off2, View.ld_unit_zero (S := S512x2048) off2, View.ld_unit_zero (S := S1x2048x1536) off3]
  exact own_eq x0 x1 r k x3

theorem conv_gate : out0_9 i x0 x1 x2 x3 x4 x5 x6 x7 (ix3 0 r k) = conv i x1 x0 x2 x4 x6 (ix3 0 r k) := by
  unfold_out out0_9
  refine (half_miss 0 (by decide) _ _ _ r k).trans ((half_hit 0 rfl _ _ _ r k).trans ?_)
  rw [View.ld_unit_zero (S := S16x2048) off2, View.ld_unit_zero (S := S512x2048) off2, View.ld_unit_zero (S := S1x2048x1536) off3,
    View.ld_unit_zero (S := S1x1536) off2]

theorem conv_value : out0_9 i x0 x1 x2 x3 x4 x5 x6 x7 (ix3 1 r k) = conv i x1 x0 x3 x5 x7 (ix3 0 r k) := by
  unfold_out out0_9
  refine (half_hit 1 rfl _ _ _ r k).trans ?_
  rw [View.ld_unit_zero (S := S16x2048) off2, View.ld_unit_zero (S := S512x2048) off2, View.ld_unit_zero (S := S1x2048x1536) off3,
    View.ld_unit_zero (S := S1x1536) off2]
  rfl

theorem forward_out : out0_10 i x0 x1 x2 x3 x4 x5 x6 x7 (ix2 r k)
    = Gate.act (conv i x1 x0 x2 x4 x6 (ix3 0 r k)) * conv i x1 x0 x3 x5 x7 (ix3 0 r k) := by
  unfold_out out0_10
  rw [View.canon_unit_zero (S := S512x1536) off2]
  refine (gated_at k _ _ _ _ _ _ _ r).trans ?_
  rw [kept_at, View.ld_unit_zero (S := S16x2048) off2, View.ld_unit_zero (S := S512x2048) off2, View.ld_unit_zero (S := S1x2048x1536) off3,
    View.ld_unit_zero (S := S1x2048x1536) off3, View.ld_unit_zero (S := S1x1536) off2, View.ld_unit_zero (S := S1x1536) off2]
  exact congrArg₂ (fun a b : EReal => Gate.act a * b) rfl rfl

end Forward

/-! ## A point of the backward pass, of either case -/

section Points

variable (c : Dev nD) (a2 : Memref sig .tc .vmem S512x2048 .bf16) (h2 : a2.IsWhole) (a3 : Memref sig .tc .vmem S16x2048 .bf16) (h3 : a3.IsWhole) (a4 : Memref sig .tc .vmem S1536x2048 .bf16) (h4 : a4.IsWhole) (a5 : Memref sig .tc .vmem S1x512x1536 .bf16) (h5 : a5.IsWhole) (a6 : Memref sig .tc .vmem S1x512x1536 .bf16) (h6 : a6.IsWhole) (a7 : Memref sig .tc .vmem S1x512x1536 .bf16) (h7 : a7.IsWhole) (a8 : Memref sig .tc .vmem S1x512x1536 .bf16) (h8 : a8.IsWhole) (a9 : Memref sig .tc .vmem S1x16x1536 .bf16) (h9 : a9.IsWhole) (a10 : Memref sig .tc .vmem S1x16x1536 .bf16) (h10 : a10.IsWhole) (a11 : Memref sig .tc .vmem S3x1536 .f32) (h11 : a11.IsWhole) (a12 : Memref sig .tc .vmem S3x1536 .f32) (h12 : a12.IsWhole) (a13 : Memref sig .tc .vmem S2x512x1536 .bf16) (h13 : a13.IsWhole) (a14 : Memref sig .tc .vmem S3x1536 .f32) (h14 : a14.IsWhole) (a15 : Memref sig .tc .vmem S3x1536 .f32) (h15 : a15.IsWhole) (a16 : Memref sig .tc .vmem S1x1536 .f32) (h16 : a16.IsWhole) (a17 : Memref sig .tc .vmem S1x1536 .f32) (h17 : a17.IsWhole)
    (x0 : Vec Ideal S512x2048 .bf16) (x1 : Vec Ideal S16x2048 .bf16) (x2 : Vec Ideal S1536x2048 .bf16) (x3 : Vec Ideal S1x512x1536 .bf16) (x4 : Vec Ideal S1x512x1536 .bf16) (x5 : Vec Ideal S1x512x1536 .bf16) (x6 : Vec Ideal S1x512x1536 .bf16) (x7 : Vec Ideal S1x16x1536 .bf16) (x8 : Vec Ideal S1x16x1536 .bf16) (x9 : Vec Ideal S3x1536 .f32) (x10 : Vec Ideal S3x1536 .f32)
    (o12 o13 : Vec Ideal S3x1536 .f32) (o14 o15 : Vec Ideal S1x1536 .f32)

/-- The first point of a column leaves the gradient of its rows. -/
theorem dup_A (i : grid1.Coords) (hc : cond1_0 i) :
    out1_A_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10
      = blocks (dgate i x1 x0 x2 x5 x6 x7 x8) (dvalue i x1 x0 x2 x5 x7) x9 x10 := by
  unfold out1_A_11
  rw [View.read_writes_eq_canon _ _ _ (cover1_A_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun1_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact blocks_eq (dgate i x1 x0 x2 x5 x6 x7 x8) (dvalue i x1 x0 x2 x5 x7) x9 x10 _ _ (adjoint_at (dgate i x1 x0 x2 x5 x6 x7 x8) x9 _ _ _) (adjoint_at (dvalue i x1 x0 x2 x5 x7) x10 _ _ _) _ _

/-- The first point of a column starts the gate's tap sums from zero. -/
theorem tapG_A (i : grid1.Coords) (hc : cond1_0 i) :
    out1_A_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10
      = taps (dgate i x1 x0 x2 x5 x6 x7 x8) x3 (fun _ => 0) := by
  unfold out1_A_12
  rw [View.read_writes_eq_canon _ _ _ (cover1_A_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun1_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact stored_first (dgate i x1 x0 x2 x5 x6 x7 x8) x3 _ _ (funext fun q => zero3 q) _ _ _ _ _ _ _ rfl rfl rfl

/-- The first point of a column starts the value's tap sums from zero. -/
theorem tapV_A (i : grid1.Coords) (hc : cond1_0 i) :
    out1_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10
      = taps (dvalue i x1 x0 x2 x5 x7) x4 (fun _ => 0) := by
  unfold out1_A_13
  rw [View.read_writes_eq_canon _ _ _ (cover1_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun1_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact stored_first (dvalue i x1 x0 x2 x5 x7) x4 _ _ (funext fun q => zero3 q) _ _ _ _ _ _ _ rfl rfl rfl

/-- The first point of a column starts the gate's shift sum from zero. -/
theorem shiftG_A (i : grid1.Coords) (hc : cond1_0 i) :
    out1_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10
      = shifts (dgate i x1 x0 x2 x5 x6 x7 x8) (fun _ => 0) := by
  unfold out1_A_14
  rw [View.read_writes_eq_canon _ _ _ (cover1_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun1_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact shift_first (dgate i x1 x0 x2 x5 x6 x7 x8) _ _ _ (funext fun q => zero1 q) _ _ rfl

/-- The first point of a column starts the value's shift sum from zero. -/
theorem shiftV_A (i : grid1.Coords) (hc : cond1_0 i) :
    out1_A_15 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10
      = shifts (dvalue i x1 x0 x2 x5 x7) (fun _ => 0) := by
  unfold out1_A_15
  rw [View.read_writes_eq_canon _ _ _ (cover1_A_15 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun1_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact shift_first (dvalue i x1 x0 x2 x5 x7) _ _ _ (funext fun q => zero1 q) _ _ rfl

/-- A later point leaves the gradient of its rows. -/
theorem dup_B (i : grid1.Coords) (hc : ¬cond1_0 i) :
    out1_B_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15
      = blocks (dgate i x1 x0 x2 x5 x6 x7 x8) (dvalue i x1 x0 x2 x5 x7) x9 x10 := by
  unfold out1_B_11
  rw [View.read_writes_eq_canon _ _ _ (cover1_B_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15)]
  unfold kernelRun1_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact blocks_eq (dgate i x1 x0 x2 x5 x6 x7 x8) (dvalue i x1 x0 x2 x5 x7) x9 x10 _ _ (adjoint_at (dgate i x1 x0 x2 x5 x6 x7 x8) x9 _ _ _) (adjoint_at (dvalue i x1 x0 x2 x5 x7) x10 _ _ _) _ _

/-- A later point adds its rows' terms to the gate's tap sums. -/
theorem tapG_B (i : grid1.Coords) (hc : ¬cond1_0 i) :
    out1_B_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15
      = taps (dgate i x1 x0 x2 x5 x6 x7 x8) x3 o12 := by
  unfold out1_B_12
  rw [View.read_writes_eq_canon _ _ _ (cover1_B_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15)]
  unfold kernelRun1_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact stored_later (dgate i x1 x0 x2 x5 x6 x7 x8) x3 o12 _ _ _ _ _ _ rfl rfl rfl

/-- A later point adds its rows' terms to the value's tap sums. -/
theorem tapV_B (i : grid1.Coords) (hc : ¬cond1_0 i) :
    out1_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15
      = taps (dvalue i x1 x0 x2 x5 x7) x4 o13 := by
  unfold out1_B_13
  rw [View.read_writes_eq_canon _ _ _ (cover1_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15)]
  unfold kernelRun1_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact stored_later (dvalue i x1 x0 x2 x5 x7) x4 o13 _ _ _ _ _ _ rfl rfl rfl

/-- A later point adds its rows' terms to the gate's shift sum. -/
theorem shiftG_B (i : grid1.Coords) (hc : ¬cond1_0 i) :
    out1_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15
      = shifts (dgate i x1 x0 x2 x5 x6 x7 x8) o14 := by
  unfold out1_B_14
  rw [View.read_writes_eq_canon _ _ _ (cover1_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15)]
  unfold kernelRun1_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact shift_later (dgate i x1 x0 x2 x5 x6 x7 x8) o14 _ rfl _

/-- A later point adds its rows' terms to the value's shift sum. -/
theorem shiftV_B (i : grid1.Coords) (hc : ¬cond1_0 i) :
    out1_B_15 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15
      = shifts (dvalue i x1 x0 x2 x5 x7) o15 := by
  unfold out1_B_15
  rw [View.read_writes_eq_canon _ _ _ (cover1_B_15 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 o12 o13 o14 o15)]
  unfold kernelRun1_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread,
    View.ld_unit_zero (S := S16x2048) off2, View.ld_unit_zero (S := S512x2048) off2, View.ld_unit_zero (S := S1536x2048) off2,
    View.ld_unit_zero (S := S1x512x1536) off3, View.ld_unit_zero (S := S1x16x1536) off3, View.ld_unit_zero (S := S1x1536) off2]
  exact shift_later (dvalue i x1 x0 x2 x5 x7) o15 _ rfl _

end Points

end Cert.FfnIdeal.Cases

end
-- ==== Proof.FfnFold.lean ====
/- The two regions of the feed-forward block in closed form: what each point's blocks hold, the product and the convolution
   that the first region's points leave, and the gradients that the second region's points leave. The gradients of the
   taps and of the shifts run over the sixteen row tiles of a column block. -/
module

public import proofs.«01_k».proof.Proof.Sums
public import proofs.«01_k».proof.Proof.FfnCases
public import Idealize.ShloMosaic.Lib.Pointwise

@[expose] public section

set_option maxRecDepth 16384

noncomputable section

open Idealize.ShloMosaic Idealize.ShloMosaic.TcCoe Idealize.SL.Sem

namespace Cert.FfnIdeal.Fold

open Cert.FfnIdeal Cert.FfnIdeal.Gen Cert.FfnIdeal.Cases Cert.Sums Cert.Shifts

variable (m : (ℓ : Loc nD τ sig) → Buf (Elt Ideal) ℓ) (c : Dev nD)

/-- The argument arrays, at their shapes: the rows, the upward weight, the taps, the shifts, the downward weight, the
    incoming gradient. -/
abbrev hs : FVec Ideal S8192x2048 .f32 := m ((c : Thread nD τ).loc main_arg0)
abbrev wu : FVec Ideal S1x2048x12288 .f32 := m ((c : Thread nD τ).loc main_arg1)
abbrev tp : FVec Ideal S1x3x12288 .f32 := m ((c : Thread nD τ).loc main_arg2)
abbrev sh : FVec Ideal S1x12288 .f32 := m ((c : Thread nD τ).loc main_arg3)
abbrev wd : FVec Ideal S1x6144x2048 .f32 := m ((c : Thread nD τ).loc main_arg4)
abbrev cts : FVec Ideal S8192x2048 .f32 := m ((c : Thread nD τ).loc main_arg5)

/-- Column `k` of the gate (`s = 0`) or of the value (`s = 1`), among all columns. -/
abbrev col (s : Fin 2) (k : Fin 6144) : Fin 12288 := ⟨6144 * s.val + k.val, by omega⟩

/-- A column of the upward product, and of its convolution. -/
def up (q : Fin 12288) (r : Fin 8192) : EReal := ∑ x : Fin 2048, hs m c (ix2 r x) * wu m c (ix3 0 x q)
def conv (q : Fin 12288) (r : Fin 8192) : EReal :=
  ((tp m c (ix3 0 2 q) * back 0 (up m c q) r + tp m c (ix3 0 1 q) * back 1 (up m c q) r) + tp m c (ix3 0 0 q) * back 2 (up m c q) r) + sh m c (ix2 0 q)
/-- The block's output before the downward product: the gate's convolution activated, times the value's. -/
def out (k : Fin 6144) (r : Fin 8192) : EReal := Gate.act (conv m c (col 0 k) r) * conv m c (col 1 k) r

/-- A column of the gradient that reaches the gated product, and of those that reach the gate and the value. -/
def dout (k : Fin 6144) (r : Fin 8192) : EReal := ∑ x : Fin 2048, cts m c (ix2 r x) * wd m c (ix3 0 k x)
def grad (s : Fin 2) (k : Fin 6144) (r : Fin 8192) : EReal :=
  match s with
  | 0 => (dout m c k r * conv m c (col 1 k) r) * Gate.slope (conv m c (col 0 k) r)
  | 1 => dout m c k r * Gate.act (conv m c (col 0 k) r)

/-- The gradient of the upward product, of a tap, and of a shift. -/
def dup (s : Fin 2) (k : Fin 6144) (r : Fin 8192) : EReal :=
  (tp m c (ix3 0 2 (col s k)) * ahead 0 (grad m c s k) r + tp m c (ix3 0 1 (col s k)) * ahead 1 (grad m c s k) r)
    + tp m c (ix3 0 0 (col s k)) * ahead 2 (grad m c s k) r
def dtap (s : Fin 2) (t : Fin 3) (k : Fin 6144) (r : Fin 8192) : EReal := up m c (col s k) r * ahead (2 - t.val) (grad m c s k) r
def dshift (s : Fin 2) (k : Fin 6144) (r : Fin 8192) : EReal := ahead 0 (grad m c s k) r

/-- A tile's rows, or the 16 rows before them, times a column block of the weight; a tile's part of a tap's gradient. -/
abbrev product (a : Vec Ideal S512x2048 .bf16) (w : Vec Ideal S1x2048x1536 .bf16) (r : Fin 512) (k : Fin 1536) : EReal := ∑ x, a (ix2 r x) * w (ix3 0 x k)
abbrev product' (a : Vec Ideal S16x2048 .bf16) (w : Vec Ideal S1x2048x1536 .bf16) (r : Fin 16) (k : Fin 1536) : EReal := ∑ x, a (ix2 r x) * w (ix3 0 x k)
abbrev met (up : Vec Ideal S1x512x1536 .bf16) (y : FVec Ideal S520x1536 .f32) (u : Fin 3) (k : Fin 1536) : EReal := ∑ r : Fin 512, up (ix3 0 r k) * moved y u r k

/-! ## The points -/

theorem coords0 : ∀ t : Fin cfg0.N, (grid0.coords t 0).val < 16 ∧ (grid0.coords t 1).val < 4
    ∧ t.val = 4 * (grid0.coords t 0).val + (grid0.coords t 1).val := by decide +kernel
theorem coords1 : ∀ t : Fin cfg1.N, (grid1.coords t 0).val < 4 ∧ (grid1.coords t 1).val < 16
    ∧ t.val = 16 * (grid1.coords t 0).val + (grid1.coords t 1).val := by decide +kernel

/-- Row `r` and column `k` of point `t`'s tile, in the first region and in the second. -/
abbrev row0 (t : Fin cfg0.N) (r : Fin 512) : Fin 8192 := ⟨512 * (grid0.coords t 0).val + r.val, by have := coords0 t; omega⟩
abbrev row1 (t : Fin cfg1.N) (r : Fin 512) : Fin 8192 := ⟨512 * (grid1.coords t 1).val + r.val, by have := coords1 t; omega⟩
abbrev col0 (t : Fin cfg0.N) (k : Fin 1536) : Fin 6144 := ⟨1536 * (grid0.coords t 1).val + k.val, by have := coords0 t; omega⟩
abbrev col1 (t : Fin cfg1.N) (k : Fin 1536) : Fin 6144 := ⟨1536 * (grid1.coords t 0).val + k.val, by have := coords1 t; omega⟩

variable {V : (c : Dev nD) → (b : Ref sig .tc) → Buf (Elt Ideal) ((c : Thread nD τ).loc b)}

/-- What each region finds in the arrays that its input windows read. -/
structure Entry0 (V : (c : Dev nD) → (b : Ref sig .tc) → Buf (Elt Ideal) ((c : Thread nD τ).loc b)) : Prop where
  rows : ∀ (r : Fin 8192) (x : Fin 2048), (V c main_v4 : FVec Ideal S8192x2048 .bf16) (ix2 r x) = hs m c (ix2 r x)
  wt : ∀ (g : Fin 8) (x : Fin 2048) (k : Fin 1536), (V c main_v3 : FVec Ideal S8x2048x1536 .bf16) (ix3 g x k)
    = wu m c (ix3 0 x ⟨1536 * g.val + k.val, by omega⟩)
  tap : ∀ (t : Fin 3) (q : Fin 12288), (V c main_v5 : FVec Ideal S3x12288 .f32) (ix2 t q) = tp m c (ix3 0 t q)
  shift : ∀ q : Fin 12288, (V c main_arg3 : FVec Ideal S1x12288 .f32) (ix2 0 q) = sh m c (ix2 0 q)
structure Entry1 (V : (c : Dev nD) → (b : Ref sig .tc) → Buf (Elt Ideal) ((c : Thread nD τ).loc b)) : Prop where
  ct : ∀ (r : Fin 8192) (x : Fin 2048), (V c main_v7 : FVec Ideal S8192x2048 .bf16) (ix2 r x) = cts m c (ix2 r x)
  wt : ∀ (k : Fin 6144) (x : Fin 2048), (V c main_v9 : FVec Ideal S6144x2048 .bf16) (ix2 k x) = wd m c (ix3 0 k x)
  up : ∀ (s : Fin 2) (r : Fin 8192) (k : Fin 6144), (V c main_v6_0 : FVec Ideal S2x8192x6144 .bf16) (ix3 s r k) = up m c (col s k) r
  conv : ∀ (s : Fin 2) (r : Fin 8192) (k : Fin 6144), (V c main_v6_1 : FVec Ideal S2x8192x6144 .bf16) (ix3 s r k) = conv m c (col s k) r
  tap : ∀ (t : Fin 3) (q : Fin 12288), (V c main_v10 : FVec Ideal S3x12288 .f32) (ix2 t q) = tp m c (ix3 0 t q)

section First
variable {m c} (h : Entry0 m c V)
include h

theorem block0_0 (t : Fin cfg0.N) (r : Fin 512) (x : Fin 2048) : (iblk0 V c 0 t : Vec Ideal S512x2048 .bf16) (ix2 r x)
    = hs m c (ix2 (row0 t r) x) := by
  have e : ∀ t : Fin cfg0.N, win0_0.index t 0 = (grid0.coords t 0).val ∧ win0_0.index t 1 = 0 := by decide +kernel
  obtain ⟨e0, e1⟩ := e t
  have b := coords0 t
  refine Eq.trans ?_ ((h.rows _ _ : V c main_v4 (ix2 (row0 t r) x) = _).trans (congrArg (hs m c) ?_))
  · unfold iblk0
    rw [View.read_apply]
    show V c main_v4 _ = _
    refine congrArg (V c main_v4) (funext fun a => Fin.ext ?_)
    match a with
    | ⟨0, _⟩ => show win0_0.index t 0 * 512 + 1 * r.val = 512 * (grid0.coords t 0).val + r.val; omega
    | ⟨1, _⟩ => show win0_0.index t 1 * 2048 + 1 * x.val = x.val; omega
  · rfl

theorem block0_1 (t : Fin cfg0.N) (hne : (grid0.coords t 0).val ≠ 0) (r : Fin 16) (x : Fin 2048) : (iblk0 V c 1 t : Vec Ideal S16x2048 .bf16) (ix2 r x)
    = hs m c (ix2 ⟨512 * (grid0.coords t 0).val - 16 + r.val, by have := coords0 t; omega⟩ x) := by
  have e : ∀ t : Fin cfg0.N, (grid0.coords t 0).val ≠ 0 → win0_1.index t 0 = 32 * (grid0.coords t 0).val - 1 ∧ win0_1.index t 1 = 0 := by decide +kernel
  obtain ⟨e0, e1⟩ := e t hne
  have b := coords0 t
  refine Eq.trans ?_ ((h.rows _ _ : V c main_v4 (ix2 ⟨512 * (grid0.coords t 0).val - 16 + r.val, by omega⟩ x) = _).trans (congrArg (hs m c) ?_))
  · unfold iblk0
    rw [View.read_apply]
    show V c main_v4 _ = _
    refine congrArg (V c main_v4) (funext fun a => Fin.ext ?_)
    match a with
    | ⟨0, _⟩ => show win0_1.index t 0 * 16 + 1 * r.val = 512 * (grid0.coords t 0).val - 16 + r.val; omega
    | ⟨1, _⟩ => show win0_1.index t 1 * 2048 + 1 * x.val = x.val; omega
  · rfl

theorem block0_2 (t : Fin cfg0.N) (x : Fin 2048) (k : Fin 1536) : (iblk0 V c 2 t : Vec Ideal S1x2048x1536 .bf16) (ix3 0 x k)
    = wu m c (ix3 0 x (col 0 (col0 t k))) := by
  have e : ∀ t : Fin cfg0.N, win0_2.index t 0 = (grid0.coords t 1).val ∧ win0_2.index t 1 = 0 ∧ win0_2.index t 2 = 0 := by decide +kernel
  obtain ⟨e0, e1, e2⟩ := e t
  have b := coords0 t
  refine Eq.trans ?_ ((h.wt ⟨(grid0.coords t 1).val, by omega⟩ x k : V c main_v3 (ix3 ⟨(grid0.coords t 1).val, by omega⟩ x k) = _).trans (congrArg (wu m c) ?_))
  · unfold iblk0
    rw [View.read_apply]
    show V c main_v3 _ = _
    refine congrArg (V c main_v3) (funext fun a => Fin.ext ?_)
    match a with
    | ⟨0, _⟩ => show win0_2.index t 0 * 1 + 1 * 0 = (grid0.coords t 1).val; omega
    | ⟨1, _⟩ => show win0_2.index t 1 * 2048 + 1 * x.val = x.val; omega
    | ⟨2, _⟩ => show win0_2.index t 2 * 1536 + 1 * k.val = k.val; omega
  · exact congrArg (ix3 0 x) (Fin.ext (by dsimp only; omega))

theorem block0_3 (t : Fin cfg0.N) (x : Fin 2048) (k : Fin 1536) : (iblk0 V c 3 t : Vec Ideal S1x2048x1536 .bf16) (ix3 0 x k)
    = wu m c (ix3 0 x (col 1 (col0 t k))) := by
  have e : ∀ t : Fin cfg0.N, win0_3.index t 0 = (grid0.coords t 1).val + 4 ∧ win0_3.index t 1 = 0 ∧ win0_3.index t 2 = 0 := by decide +kernel
  obtain ⟨e0, e1, e2⟩ := e t
  have b := coords0 t
  refine Eq.trans ?_ ((h.wt ⟨4 + (grid0.coords t 1).val, by omega⟩ x k : V c main_v3 (ix3 ⟨4 + (grid0.coords t 1).val, by omega⟩ x k) = _).trans (congrArg (wu m c) ?_))
  · unfold iblk0
    rw [View.read_apply]
    show V c main_v3 _ = _
    refine congrArg (V c main_v3) (funext fun a => Fin.ext ?_)
    match a with
    | ⟨0, _⟩ => show win0_3.index t 0 * 1 + 1 * 0 = 4 + (grid0.coords t 1).val; omega
    | ⟨1, _⟩ => show win0_3.index t 1 * 2048 + 1 * x.val = x.val; omega
    | ⟨2, _⟩ => show win0_3.index t 2 * 1536 + 1 * k.val = k.val; omega
  · exact congrArg (ix3 0 x) (Fin.ext (by dsimp only; omega))

theorem block0_4 (t : Fin cfg0.N) (u : Fin 3) (k : Fin 1536) : (iblk0 V c 4 t : Vec Ideal S3x1536 .f32) (ix2 u k)
    = tp m c (ix3 0 u (col 0 (col0 t k))) := by
  have e : ∀ t : Fin cfg0.N, win0_4.index t 0 = 0 ∧ win0_4.index t 1 = (grid0.coords t 1).val := by decide +kernel
  obtain ⟨e0, e1⟩ := e t
  have b := coords0 t
  refine Eq.trans ?_ ((h.tap _ _ : V c main_v5 (ix2 u (col 0 (col0 t k))) = _).trans (congrArg (tp m c) ?_))
  · unfold iblk0
    rw [View.read_apply]
    show V c main_v5 _ = _
    refine congrArg (V c main_v5) (funext fun a => Fin.ext ?_)
    match a with
    | ⟨0, _⟩ => show win0_4.index t 0 * 3 + 1 * u.val = u.val; omega
    | ⟨1, _⟩ => show win0_4.index t 1 * 1536 + 1 * k.val = 6144 * 0 + (1536 * (grid0.coords t 1).val + k.val); omega
  · rfl

theorem block0_5 (t : Fin cfg0.N) (u : Fin 3) (k : Fin 1536) : (iblk0 V c 5 t : Vec Ideal S3x1536 .f32) (ix2 u k)
    = tp m c (ix3 0 u (col 1 (col0 t k))) := by
  have e : ∀ t : Fin cfg0.N, win0_5.index t 0 = 0 ∧ win0_5.index t 1 = (grid0.coords t 1).val + 4 := by decide +kernel
  obtain ⟨e0, e1⟩ := e t
  have b := coords0 t
  refine Eq.trans ?_ ((h.tap _ _ : V c main_v5 (ix2 u (col 1 (col0 t k))) = _).trans (congrArg (tp m c) ?_))
  · unfold iblk0
    rw [View.read_apply]
    show V c main_v5 _ = _
    refine congrArg (V c main_v5) (funext fun a => Fin.ext ?_)
    match a with
    | ⟨0, _⟩ => show win0_5.index t 0 * 3 + 1 * u.val = u.val; omega
    | ⟨1, _⟩ => show win0_5.index t 1 * 1536 + 1 * k.val = 6144 * 1 + (1536 * (grid0.coords t 1).val + k.val); omega
  · rfl

theorem block0_6 (t : Fin cfg0.N) (k : Fin 1536) : (iblk0 V c 6 t : Vec Ideal S1x1536 .f32) (ix2 0 k)
    = sh m c (ix2 0 (col 0 (col0 t k))) := by
  have e : ∀ t : Fin cfg0.N, win0_6.index t 0 = 0 ∧ win0_6.index t 1 = (grid0.coords t 1).val := by decide +kernel
  obtain ⟨e0, e1⟩ := e t
  have b := coords0 t
  refine Eq.trans ?_ ((h.shift _ : V c main_arg3 (ix2 0 (col 0 (col0 t k))) = _).trans (congrArg (sh m c) ?_))
  · unfold iblk0
    rw [View.read_apply]
    show V c main_arg3 _ = _
    refine congrArg (V c main_arg3) (funext fun a => Fin.ext ?_)
    match a with
    | ⟨0, _⟩ => show win0_6.index t 0 * 1 + 1 * 0 = 0; omega
    | ⟨1, _⟩ => show win0_6.index t 1 * 1536 + 1 * k.val = 6144 * 0 + (1536 * (grid0.coords t 1).val + k.val); omega
  · rfl

theorem block0_7 (t : Fin cfg0.N) (k : Fin 1536) : (iblk0 V c 7 t : Vec Ideal S1x1536 .f32) (ix2 0 k)
    = sh m c (ix2 0 (col 1 (col0 t k))) := by
  have e : ∀ t : Fin cfg0.N, win0_7.index t 0 = 0 ∧ win0_7.index t 1 = (grid0.coords t 1).val + 4 := by decide +kernel
  obtain ⟨e0, e1⟩ := e t
  have b := coords0 t
  refine Eq.trans ?_ ((h.shift _ : V c main_arg3 (ix2 0 (col 1 (col0 t k))) = _).trans (congrArg (sh m c) ?_))
  · unfold iblk0
    rw [View.read_apply]
    show V c main_arg3 _ = _
    refine congrArg (V c main_arg3) (funext fun a => Fin.ext ?_)
    match a with
    | ⟨0, _⟩ => show win0_7.index t 0 * 1 + 1 * 0 = 0; omega
    | ⟨1, _⟩ => show win0_7.index t 1 * 1536 + 1 * k.val = 6144 * 1 + (1536 * (grid0.coords t 1).val + k.val); omega
  · rfl

/-- The gate's columns of a tile's product, on the tile's rows and on the 16 rows before them. -/
theorem own_gate (t : Fin cfg0.N) (k : Fin 1536) (r : Fin 512) :
    product (iblk0 V c 0 t) (iblk0 V c 2 t) r k
      = up m c (col 0 (col0 t k)) (row0 t r) :=
  Finset.sum_congr rfl fun x _ => congrArg₂ (· * ·) (block0_0 h t r x) (block0_2 h t x k)

theorem prev_gate (t : Fin cfg0.N) (hne : (grid0.coords t 0).val ≠ 0) (k : Fin 1536) (r : Fin 16) :
    product' (iblk0 V c 1 t) (iblk0 V c 2 t) r k
      = up m c (col 0 (col0 t k)) ⟨512 * (grid0.coords t 0).val - 16 + r.val, by have := coords0 t; omega⟩ :=
  Finset.sum_congr rfl fun x _ => congrArg₂ (· * ·) (block0_1 h t hne r x) (block0_2 h t x k)

/-- A point leaves the gate's product and its convolution. -/
theorem up_gate (t : Fin cfg0.N) (r : Fin 512) (k : Fin 1536) : ((dat0 V c).after 8 t : Vec Ideal S2x512x1536 .bf16) (ix3 0 r k)
    = up m c (col 0 (col0 t k)) (row0 t r) := by
  rw [after0_8]
  exact (forward_gate _ _ _ _ _ _ _ _ _ r k).trans (own_gate h t k r)

theorem conv_gate (t : Fin cfg0.N) (r : Fin 512) (k : Fin 1536) : ((dat0 V c).after 9 t : Vec Ideal S2x512x1536 .bf16) (ix3 0 r k)
    = conv m c (col 0 (col0 t k)) (row0 t r) := by
  rw [after0_9]
  refine (Cases.conv_gate _ _ _ _ _ _ _ _ _ r k).trans ?_
  refine (Tile.conv_at _ _ _ k (coords0 t).1 (up m c (col 0 (col0 t k))) (own_gate h t k) (fun hne => prev_gate h t hne k) _ _ r).trans ?_
  unfold conv
  rw [block0_4 h t 0 k, block0_4 h t 1 k, block0_4 h t 2 k, block0_6 h t k]

/-- The value's columns of a tile's product, on the tile's rows and on the 16 rows before them. -/
theorem own_value (t : Fin cfg0.N) (k : Fin 1536) (r : Fin 512) :
    product (iblk0 V c 0 t) (iblk0 V c 3 t) r k
      = up m c (col 1 (col0 t k)) (row0 t r) :=
  Finset.sum_congr rfl fun x _ => congrArg₂ (· * ·) (block0_0 h t r x) (block0_3 h t x k)

theorem prev_value (t : Fin cfg0.N) (hne : (grid0.coords t 0).val ≠ 0) (k : Fin 1536) (r : Fin 16) :
    product' (iblk0 V c 1 t) (iblk0 V c 3 t) r k
      = up m c (col 1 (col0 t k)) ⟨512 * (grid0.coords t 0).val - 16 + r.val, by have := coords0 t; omega⟩ :=
  Finset.sum_congr rfl fun x _ => congrArg₂ (· * ·) (block0_1 h t hne r x) (block0_3 h t x k)

/-- A point leaves the value's product and its convolution. -/
theorem up_value (t : Fin cfg0.N) (r : Fin 512) (k : Fin 1536) : ((dat0 V c).after 8 t : Vec Ideal S2x512x1536 .bf16) (ix3 1 r k)
    = up m c (col 1 (col0 t k)) (row0 t r) := by
  rw [after0_8]
  exact (forward_value _ _ _ _ _ _ _ _ _ r k).trans (own_value h t k r)

theorem conv_value (t : Fin cfg0.N) (r : Fin 512) (k : Fin 1536) : ((dat0 V c).after 9 t : Vec Ideal S2x512x1536 .bf16) (ix3 1 r k)
    = conv m c (col 1 (col0 t k)) (row0 t r) := by
  rw [after0_9]
  refine (Cases.conv_value _ _ _ _ _ _ _ _ _ r k).trans ?_
  refine (Tile.conv_at _ _ _ k (coords0 t).1 (up m c (col 1 (col0 t k))) (own_value h t k) (fun hne => prev_value h t hne k) _ _ r).trans ?_
  unfold conv
  rw [block0_5 h t 0 k, block0_5 h t 1 k, block0_5 h t 2 k, block0_7 h t k]

/-- A point leaves the block's output: the gate activated, times the value. -/
theorem out_at (t : Fin cfg0.N) (r : Fin 512) (k : Fin 1536) : ((dat0 V c).after 10 t : Vec Ideal S512x1536 .bf16) (ix2 r k)
    = out m c (col0 t k) (row0 t r) := by
  have eg := conv_gate h t r k
  have ev := conv_value h t r k
  rw [after0_9] at eg ev
  rw [after0_10]
  refine (forward_out _ _ _ _ _ _ _ _ _ r k).trans (congrArg₂ (fun a b => Gate.act a * b) ?_ ?_)
  · exact (Cases.conv_gate _ _ _ _ _ _ _ _ _ r k).symm.trans eg
  · exact (Cases.conv_value _ _ _ _ _ _ _ _ _ r k).symm.trans ev

end First

section Second
variable {m c} (h : Entry1 m c V)
include h

theorem block1_0 (t : Fin cfg1.N) (r : Fin 512) (x : Fin 2048) : (iblk1 V c 0 t : Vec Ideal S512x2048 .bf16) (ix2 r x)
    = cts m c (ix2 (row1 t r) x) := by
  have e : ∀ t : Fin cfg1.N, win1_0.index t 0 = (grid1.coords t 1).val ∧ win1_0.index t 1 = 0 := by decide +kernel
  obtain ⟨e0, e1⟩ := e t
  have b := coords1 t
  refine Eq.trans ?_ ((h.ct _ _ : V c main_v7 (ix2 (row1 t r) x) = _).trans (congrArg (cts m c) ?_))
  · unfold iblk1
    rw [View.read_apply]
    show V c main_v7 _ = _
    refine congrArg (V c main_v7) (funext fun a => Fin.ext ?_)
    match a with
    | ⟨0, _⟩ => show win1_0.index t 0 * 512 + 1 * r.val = 512 * (grid1.coords t 1).val + r.val; omega
    | ⟨1, _⟩ => show win1_0.index t 1 * 2048 + 1 * x.val = x.val; omega
  · rfl

theorem block1_1 (t : Fin cfg1.N) (hne : (grid1.coords t 1).val ≠ 15) (r : Fin 16) (x : Fin 2048) : (iblk1 V c 1 t : Vec Ideal S16x2048 .bf16) (ix2 r x)
    = cts m c (ix2 ⟨512 * (grid1.coords t 1).val + 512 + r.val, by have := coords1 t; omega⟩ x) := by
  have e : ∀ t : Fin cfg1.N, (grid1.coords t 1).val ≠ 15 → win1_1.index t 0 = 32 * ((grid1.coords t 1).val + 1) ∧ win1_1.index t 1 = 0 := by decide +kernel
  obtain ⟨e0, e1⟩ := e t hne
  have b := coords1 t
  refine Eq.trans ?_ ((h.ct _ _ : V c main_v7 (ix2 ⟨512 * (grid1.coords t 1).val + 512 + r.val, by omega⟩ x) = _).trans (congrArg (cts m c) ?_))
  · unfold iblk1
    rw [View.read_apply]
    show V c main_v7 _ = _
    refine congrArg (V c main_v7) (funext fun a => Fin.ext ?_)
    match a with
    | ⟨0, _⟩ => show win1_1.index t 0 * 16 + 1 * r.val = 512 * (grid1.coords t 1).val + 512 + r.val; omega
    | ⟨1, _⟩ => show win1_1.index t 1 * 2048 + 1 * x.val = x.val; omega
  · rfl

theorem block1_2 (t : Fin cfg1.N) (k : Fin 1536) (x : Fin 2048) : (iblk1 V c 2 t : Vec Ideal S1536x2048 .bf16) (ix2 k x)
    = wd m c (ix3 0 (col1 t k) x) := by
  have e : ∀ t : Fin cfg1.N, win1_2.index t 0 = (grid1.coords t 0).val ∧ win1_2.index t 1 = 0 := by decide +kernel
  obtain ⟨e0, e1⟩ := e t
  have b := coords1 t
  refine Eq.trans ?_ ((h.wt _ _ : V c main_v9 (ix2 (col1 t k) x) = _).trans (congrArg (wd m c) ?_))
  · unfold iblk1
    rw [View.read_apply]
    show V c main_v9 _ = _
    refine congrArg (V c main_v9) (funext fun a => Fin.ext ?_)
    match a with
    | ⟨0, _⟩ => show win1_2.index t 0 * 1536 + 1 * k.val = 1536 * (grid1.coords t 0).val + k.val; omega
    | ⟨1, _⟩ => show win1_2.index t 1 * 2048 + 1 * x.val = x.val; omega
  · rfl

theorem block1_3 (t : Fin cfg1.N) (r : Fin 512) (k : Fin 1536) : (iblk1 V c 3 t : Vec Ideal S1x512x1536 .bf16) (ix3 0 r k)
    = up m c (col 0 (col1 t k)) (row1 t r) := by
  have e : ∀ t : Fin cfg1.N, win1_3.index t 0 = 0 ∧ win1_3.index t 1 = (grid1.coords t 1).val ∧ win1_3.index t 2 = (grid1.coords t 0).val := by decide +kernel
  obtain ⟨e0, e1, e2⟩ := e t
  have b := coords1 t
  refine Eq.trans ?_ ((h.up _ _ _ : V c main_v6_0 (ix3 0 (row1 t r) (col1 t k)) = _).trans (congrArg (up m c _) ?_))
  · unfold iblk1
    rw [View.read_apply]
    show V c main_v6_0 _ = _
    refine congrArg (V c main_v6_0) (funext fun a => Fin.ext ?_)
    match a with
    | ⟨0, _⟩ => show win1_3.index t 0 * 1 + 1 * 0 = 0; omega
    | ⟨1, _⟩ => show win1_3.index t 1 * 512 + 1 * r.val = 512 * (grid1.coords t 1).val + r.val; omega
    | ⟨2, _⟩ => show win1_3.index t 2 * 1536 + 1 * k.val = 1536 * (grid1.coords t 0).val + k.val; omega
  · rfl

theorem block1_4 (t : Fin cfg1.N) (r : Fin 512) (k : Fin 1536) : (iblk1 V c 4 t : Vec Ideal S1x512x1536 .bf16) (ix3 0 r k)
    = up m c (col 1 (col1 t k)) (row1 t r) := by
  have e : ∀ t : Fin cfg1.N, win1_4.index t 0 = 1 ∧ win1_4.index t 1 = (grid1.coords t 1).val ∧ win1_4.index t 2 = (grid1.coords t 0).val := by decide +kernel
  obtain ⟨e0, e1, e2⟩ := e t
  have b := coords1 t
  refine Eq.trans ?_ ((h.up _ _ _ : V c main_v6_0 (ix3 1 (row1 t r) (col1 t k)) = _).trans (congrArg (up m c _) ?_))
  · unfold iblk1
    rw [View.read_apply]
    show V c main_v6_0 _ = _
    refine congrArg (V c main_v6_0) (funext fun a => Fin.ext ?_)
    match a with
    | ⟨0, _⟩ => show win1_4.index t 0 * 1 + 1 * 0 = 1; omega
    | ⟨1, _⟩ => show win1_4.index t 1 * 512 + 1 * r.val = 512 * (grid1.coords t 1).val + r.val; omega
    | ⟨2, _⟩ => show win1_4.index t 2 * 1536 + 1 * k.val = 1536 * (grid1.coords t 0).val + k.val; omega
  · rfl

theorem block1_5 (t : Fin cfg1.N) (r : Fin 512) (k : Fin 1536) : (iblk1 V c 5 t : Vec Ideal S1x512x1536 .bf16) (ix3 0 r k)
    = conv m c (col 0 (col1 t k)) (row1 t r) := by
  have e : ∀ t : Fin cfg1.N, win1_5.index t 0 = 0 ∧ win1_5.index t 1 = (grid1.coords t 1).val ∧ win1_5.index t 2 = (grid1.coords t 0).val := by decide +kernel
  obtain ⟨e0, e1, e2⟩ := e t
  have b := coords1 t
  refine Eq.trans ?_ ((h.conv _ _ _ : V c main_v6_1 (ix3 0 (row1 t r) (col1 t k)) = _).trans (congrArg (conv m c _) ?_))
  · unfold iblk1
    rw [View.read_apply]
    show V c main_v6_1 _ = _
    refine congrArg (V c main_v6_1) (funext fun a => Fin.ext ?_)
    match a with
    | ⟨0, _⟩ => show win1_5.index t 0 * 1 + 1 * 0 = 0; omega
    | ⟨1, _⟩ => show win1_5.index t 1 * 512 + 1 * r.val = 512 * (grid1.coords t 1).val + r.val; omega
    | ⟨2, _⟩ => show win1_5.index t 2 * 1536 + 1 * k.val = 1536 * (grid1.coords t 0).val + k.val; omega
  · rfl

theorem block1_6 (t : Fin cfg1.N) (r : Fin 512) (k : Fin 1536) : (iblk1 V c 6 t : Vec Ideal S1x512x1536 .bf16) (ix3 0 r k)
    = conv m c (col 1 (col1 t k)) (row1 t r) := by
  have e : ∀ t : Fin cfg1.N, win1_6.index t 0 = 1 ∧ win1_6.index t 1 = (grid1.coords t 1).val ∧ win1_6.index t 2 = (grid1.coords t 0).val := by decide +kernel
  obtain ⟨e0, e1, e2⟩ := e t
  have b := coords1 t
  refine Eq.trans ?_ ((h.conv _ _ _ : V c main_v6_1 (ix3 1 (row1 t r) (col1 t k)) = _).trans (congrArg (conv m c _) ?_))
  · unfold iblk1
    rw [View.read_apply]
    show V c main_v6_1 _ = _
    refine congrArg (V c main_v6_1) (funext fun a => Fin.ext ?_)
    match a with
    | ⟨0, _⟩ => show win1_6.index t 0 * 1 + 1 * 0 = 1; omega
    | ⟨1, _⟩ => show win1_6.index t 1 * 512 + 1 * r.val = 512 * (grid1.coords t 1).val + r.val; omega
    | ⟨2, _⟩ => show win1_6.index t 2 * 1536 + 1 * k.val = 1536 * (grid1.coords t 0).val + k.val; omega
  · rfl

theorem block1_7 (t : Fin cfg1.N) (hne : (grid1.coords t 1).val ≠ 15) (r : Fin 16) (k : Fin 1536) : (iblk1 V c 7 t : Vec Ideal S1x16x1536 .bf16) (ix3 0 r k)
    = conv m c (col 0 (col1 t k)) ⟨512 * (grid1.coords t 1).val + 512 + r.val, by have := coords1 t; omega⟩ := by
  have e : ∀ t : Fin cfg1.N, (grid1.coords t 1).val ≠ 15 → win1_7.index t 0 = 0 ∧ win1_7.index t 1 = 32 * ((grid1.coords t 1).val + 1) ∧ win1_7.index t 2 = (grid1.coords t 0).val := by decide +kernel
  obtain ⟨e0, e1, e2⟩ := e t hne
  have b := coords1 t
  refine Eq.trans ?_ ((h.conv _ _ _ : V c main_v6_1 (ix3 0 ⟨512 * (grid1.coords t 1).val + 512 + r.val, by omega⟩ (col1 t k)) = _).trans (congrArg (conv m c _) ?_))
  · unfold iblk1
    rw [View.read_apply]
    show V c main_v6_1 _ = _
    refine congrArg (V c main_v6_1) (funext fun a => Fin.ext ?_)
    match a with
    | ⟨0, _⟩ => show win1_7.index t 0 * 1 + 1 * 0 = 0; omega
    | ⟨1, _⟩ => show win1_7.index t 1 * 16 + 1 * r.val = 512 * (grid1.coords t 1).val + 512 + r.val; omega
    | ⟨2, _⟩ => show win1_7.index t 2 * 1536 + 1 * k.val = 1536 * (grid1.coords t 0).val + k.val; omega
  · rfl

theorem block1_8 (t : Fin cfg1.N) (hne : (grid1.coords t 1).val ≠ 15) (r : Fin 16) (k : Fin 1536) : (iblk1 V c 8 t : Vec Ideal S1x16x1536 .bf16) (ix3 0 r k)
    = conv m c (col 1 (col1 t k)) ⟨512 * (grid1.coords t 1).val + 512 + r.val, by have := coords1 t; omega⟩ := by
  have e : ∀ t : Fin cfg1.N, (grid1.coords t 1).val ≠ 15 → win1_8.index t 0 = 1 ∧ win1_8.index t 1 = 32 * ((grid1.coords t 1).val + 1) ∧ win1_8.index t 2 = (grid1.coords t 0).val := by decide +kernel
  obtain ⟨e0, e1, e2⟩ := e t hne
  have b := coords1 t
  refine Eq.trans ?_ ((h.conv _ _ _ : V c main_v6_1 (ix3 1 ⟨512 * (grid1.coords t 1).val + 512 + r.val, by omega⟩ (col1 t k)) = _).trans (congrArg (conv m c _) ?_))
  · unfold iblk1
    rw [View.read_apply]
    show V c main_v6_1 _ = _
    refine congrArg (V c main_v6_1) (funext fun a => Fin.ext ?_)
    match a with
    | ⟨0, _⟩ => show win1_8.index t 0 * 1 + 1 * 0 = 1; omega
    | ⟨1, _⟩ => show win1_8.index t 1 * 16 + 1 * r.val = 512 * (grid1.coords t 1).val + 512 + r.val; omega
    | ⟨2, _⟩ => show win1_8.index t 2 * 1536 + 1 * k.val = 1536 * (grid1.coords t 0).val + k.val; omega
  · rfl

theorem block1_9 (t : Fin cfg1.N) (u : Fin 3) (k : Fin 1536) : (iblk1 V c 9 t : Vec Ideal S3x1536 .f32) (ix2 u k)
    = tp m c (ix3 0 u (col 0 (col1 t k))) := by
  have e : ∀ t : Fin cfg1.N, win1_9.index t 0 = 0 ∧ win1_9.index t 1 = (grid1.coords t 0).val := by decide +kernel
  obtain ⟨e0, e1⟩ := e t
  have b := coords1 t
  refine Eq.trans ?_ ((h.tap _ _ : V c main_v10 (ix2 u (col 0 (col1 t k))) = _).trans (congrArg (tp m c) ?_))
  · unfold iblk1
    rw [View.read_apply]
    show V c main_v10 _ = _
    refine congrArg (V c main_v10) (funext fun a => Fin.ext ?_)
    match a with
    | ⟨0, _⟩ => show win1_9.index t 0 * 3 + 1 * u.val = u.val; omega
    | ⟨1, _⟩ => show win1_9.index t 1 * 1536 + 1 * k.val = 6144 * 0 + (1536 * (grid1.coords t 0).val + k.val); omega
  · rfl

theorem block1_10 (t : Fin cfg1.N) (u : Fin 3) (k : Fin 1536) : (iblk1 V c 10 t : Vec Ideal S3x1536 .f32) (ix2 u k)
    = tp m c (ix3 0 u (col 1 (col1 t k))) := by
  have e : ∀ t : Fin cfg1.N, win1_10.index t 0 = 0 ∧ win1_10.index t 1 = (grid1.coords t 0).val + 4 := by decide +kernel
  obtain ⟨e0, e1⟩ := e t
  have b := coords1 t
  refine Eq.trans ?_ ((h.tap _ _ : V c main_v10 (ix2 u (col 1 (col1 t k))) = _).trans (congrArg (tp m c) ?_))
  · unfold iblk1
    rw [View.read_apply]
    show V c main_v10 _ = _
    refine congrArg (V c main_v10) (funext fun a => Fin.ext ?_)
    match a with
    | ⟨0, _⟩ => show win1_10.index t 0 * 3 + 1 * u.val = u.val; omega
    | ⟨1, _⟩ => show win1_10.index t 1 * 1536 + 1 * k.val = 6144 * 1 + (1536 * (grid1.coords t 0).val + k.val); omega
  · rfl

/-- The blocks of a point hold its rows and the 16 rows after them. -/
theorem holds (t : Fin cfg1.N) (k : Fin 1536) :
    Tile.Holds (grid1.coords t) (coords1 t).2.1 (iblk1 V c 1 t) (iblk1 V c 0 t) (iblk1 V c 2 t) (iblk1 V c 5 t) (iblk1 V c 6 t) (iblk1 V c 7 t) (iblk1 V c 8 t)
      k (dout m c (col1 t k)) (conv m c (col 0 (col1 t k))) (conv m c (col 1 (col1 t k))) where
  own a := Finset.sum_congr rfl fun x _ => congrArg₂ (· * ·) (block1_0 h t a x) (block1_2 h t k x)
  next hne a := Finset.sum_congr rfl fun x _ => congrArg₂ (· * ·) (block1_1 h t hne a x) (block1_2 h t k x)
  ownG a := block1_5 h t a k
  nextG hne a := block1_7 h t hne a k
  ownV a := block1_6 h t a k
  nextV hne a := block1_8 h t hne a k

/-- The gate's and the value's gradients at a point. -/
abbrev gateAt (V : (c : Dev nD) → (b : Ref sig .tc) → Buf (Elt Ideal) ((c : Thread nD τ).loc b)) (c : Dev nD) (t : Fin cfg1.N) : FVec Ideal S520x1536 .f32 :=
  dgate (grid1.coords t) (iblk1 V c 1 t) (iblk1 V c 0 t) (iblk1 V c 2 t) (iblk1 V c 5 t) (iblk1 V c 6 t) (iblk1 V c 7 t) (iblk1 V c 8 t)
abbrev valueAt (V : (c : Dev nD) → (b : Ref sig .tc) → Buf (Elt Ideal) ((c : Thread nD τ).loc b)) (c : Dev nD) (t : Fin cfg1.N) : FVec Ideal S520x1536 .f32 :=
  dvalue (grid1.coords t) (iblk1 V c 1 t) (iblk1 V c 0 t) (iblk1 V c 2 t) (iblk1 V c 5 t) (iblk1 V c 7 t)

theorem gate_eq (t : Fin cfg1.N) (k : Fin 1536) (a : Fin 520) :
    gateAt V c t (ix2 a k) = Shifts.after (grid1.coords t 1).val (grad m c 0 (col1 t k)) a :=
  Tile.dgate_at _ _ _ _ _ _ _ k _ _ _ _ (holds h t k) a

theorem value_eq (t : Fin cfg1.N) (k : Fin 1536) (a : Fin 520) :
    valueAt V c t (ix2 a k) = Shifts.after (grid1.coords t 1).val (grad m c 1 (col1 t k)) a :=
  Tile.dvalue_at _ _ _ _ _ _ _ k _ _ _ _ (holds h t k) a

omit h in
/-- The rows that a tap meets are those of the gradient so many rows ahead. -/
theorem moved_eq (t : Fin cfg1.N) (y : FVec Ideal S520x1536 .f32) (k : Fin 1536) (E : Fin 8192 → EReal)
    (hy : ∀ a, y (ix2 a k) = Shifts.after (grid1.coords t 1).val E a) (u : Fin 3) (r : Fin 512) : moved y u r k = ahead (2 - u.val) E (row1 t r) := by
  match u with
  | 0 => exact Tile.at2_eq (coords1 t).2.1 y k E hy r
  | 1 => exact Tile.at1_eq (coords1 t).2.1 y k E hy r
  | 2 => exact Tile.at0_eq (coords1 t).2.1 y k E hy r

/-- The gradient of the gate's product at a point. -/
theorem adjoint_gate (t : Fin cfg1.N) (r : Fin 512) (k : Fin 1536) :
    adjoint (gateAt V c t) (iblk1 V c 9 t) r k = dup m c 0 (col1 t k) (row1 t r) := by
  unfold adjoint dup
  rw [moved_eq t _ k _ (gate_eq h t k) 0 r, moved_eq t _ k _ (gate_eq h t k) 1 r, moved_eq t _ k _ (gate_eq h t k) 2 r,
    block1_9 h t 0 k, block1_9 h t 1 k, block1_9 h t 2 k]
  rfl

/-- The gradient of the value's product at a point. -/
theorem adjoint_value (t : Fin cfg1.N) (r : Fin 512) (k : Fin 1536) :
    adjoint (valueAt V c t) (iblk1 V c 10 t) r k = dup m c 1 (col1 t k) (row1 t r) := by
  unfold adjoint dup
  rw [moved_eq t _ k _ (value_eq h t k) 0 r, moved_eq t _ k _ (value_eq h t k) 1 r, moved_eq t _ k _ (value_eq h t k) 2 r,
    block1_10 h t 0 k, block1_10 h t 1 k, block1_10 h t 2 k]
  rfl

/-- A point leaves the gradient of its rows' product. -/
theorem dup_at (t : Fin cfg1.N) (s : Fin 2) (r : Fin 512) (k : Fin 1536) : ((dat1 V c).after 11 t : Vec Ideal S2x512x1536 .bf16) (ix3 s r k)
    = dup m c s (col1 t k) (row1 t r) := by
  have e : ((dat1 V c).after 11 t : Vec Ideal S2x512x1536 .bf16) = blocks (gateAt V c t) (valueAt V c t) (iblk1 V c 9 t) (iblk1 V c 10 t) := by
    rw [after1_11]
    by_cases h0 : t.val % 16 = 0
    · rw [outsAt1_A V c t h0]; dsimp only; exact dup_A ..
    · rw [outsAt1_B V c t h0]; dsimp only; exact dup_B ..
  rw [e]
  match s with
  | 0 => exact adjoint_gate h t r k
  | 1 => exact adjoint_value h t r k

end Second

/-! ## The running gradients -/

/-- A value that starts anew at every sixteenth point and gains 512 rows of `g` at each point holds the rows met so far. -/
theorem running (g : (n : ℕ) → n < cfg1.N → Fin 8192 → EReal) (a : (n : ℕ) → n < cfg1.N → EReal)
    (hg : ∀ n hn, (n + 1) % 16 ≠ 0 → g (n + 1) hn = g n (Nat.lt_of_succ_lt hn))
    (h0 : ∀ n hn, n % 16 = 0 → a n hn = 0 + ∑ r : Fin 512, g n hn (row1 ⟨n, hn⟩ r))
    (h1 : ∀ n hn, (n + 1) % 16 ≠ 0 → a (n + 1) hn = a n (Nat.lt_of_succ_lt hn) + ∑ r : Fin 512, g (n + 1) hn (row1 ⟨n + 1, hn⟩ r)) :
    ∀ (n : ℕ) (hn : n < cfg1.N), a n hn = upto (g n hn) (512 * (n % 16) + 512) := by
  have next (n : ℕ) (hn : n < cfg1.N) (f : Fin 8192 → EReal) :
      upto f (512 * (n % 16)) + ∑ r : Fin 512, f (row1 ⟨n, hn⟩ r) = upto f (512 * (n % 16) + 512) := by
    rw [upto_add f (512 * (n % 16)) 512 (by omega)]
    refine congrArg₂ (· + ·) rfl (Finset.sum_congr rfl fun r _ => congrArg f (Fin.ext ?_))
    have := coords1 ⟨n, hn⟩
    dsimp only at this ⊢
    omega
  have first (n : ℕ) (hn : n < cfg1.N) (hz : n % 16 = 0) : a n hn = upto (g n hn) (512 * (n % 16) + 512) := by
    rw [h0 n hn hz, ← next n hn, hz]
    rfl
  intro n
  induction n with
  | zero => exact fun hn => first 0 hn rfl
  | succ n ih =>
    intro hn
    by_cases hz : (n + 1) % 16 = 0
    · exact first _ hn hz
    · rw [h1 n hn hz, ih, ← next (n + 1) hn, ← hg n hn hz, show 512 * (n % 16) + 512 = 512 * ((n + 1) % 16) by omega]

theorem col1_next (n : ℕ) (hn : n + 1 < cfg1.N) (hz : (n + 1) % 16 ≠ 0) (k : Fin 1536) :
    col1 ⟨n + 1, hn⟩ k = col1 ⟨n, Nat.lt_of_succ_lt hn⟩ k := by
  have h1 := coords1 ⟨n + 1, hn⟩
  have h2 := coords1 ⟨n, Nat.lt_of_succ_lt hn⟩
  refine Fin.ext ?_
  dsimp only at h1 h2 ⊢
  omega

section Running
variable {m c} (h : Entry1 m c V)
include h

/-- The gradient of the gate's taps, over the rows met so far. -/
theorem tap_gate (u : Fin 3) (k : Fin 1536) : ∀ (n : ℕ) (hn : n < cfg1.N), (outsAt1 V c n hn).2.1 (ix2 u k)
    = upto (dtap m c 0 u (col1 ⟨n, hn⟩ k)) (512 * (n % 16) + 512) := by
  have part (t : Fin cfg1.N) : met (iblk1 V c 3 t) (gateAt V c t) u k
      = ∑ r : Fin 512, dtap m c 0 u (col1 t k) (row1 t r) :=
    Finset.sum_congr rfl fun r _ => congrArg₂ (· * ·) (block1_3 h t r k) (moved_eq t _ k _ (gate_eq h t k) u r)
  refine running (fun n hn => dtap m c 0 u (col1 ⟨n, hn⟩ k)) _ (fun n hn hz => ?_) (fun n hn hz => ?_) fun n hn hz => ?_
  · exact congrArg (dtap m c 0 u) (col1_next n hn hz k)
  · have e : (outsAt1 V c n hn).2.1 = taps (gateAt V c ⟨n, hn⟩) (iblk1 V c 3 ⟨n, hn⟩) (fun _ => 0) := by
      rw [outsAt1_A V c ⟨n, hn⟩ hz]; dsimp only; exact tapG_A ..
    rw [e]
    exact congrArg (0 + ·) (part ⟨n, hn⟩)
  · have e : (outsAt1 V c (n + 1) hn).2.1 = taps (gateAt V c ⟨n + 1, hn⟩) (iblk1 V c 3 ⟨n + 1, hn⟩) (outsAt1 V c n (Nat.lt_of_succ_lt hn)).2.1 := by
      rw [outsAt1_B V c ⟨n + 1, hn⟩ hz]; dsimp only; exact tapG_B ..
    rw [e]
    exact congrArg ((outsAt1 V c n (Nat.lt_of_succ_lt hn)).2.1 (ix2 u k) + ·) (part ⟨n + 1, hn⟩)

/-- The gradient of the value's taps, over the rows met so far. -/
theorem tap_value (u : Fin 3) (k : Fin 1536) : ∀ (n : ℕ) (hn : n < cfg1.N), (outsAt1 V c n hn).2.2.1 (ix2 u k)
    = upto (dtap m c 1 u (col1 ⟨n, hn⟩ k)) (512 * (n % 16) + 512) := by
  have part (t : Fin cfg1.N) : met (iblk1 V c 4 t) (valueAt V c t) u k
      = ∑ r : Fin 512, dtap m c 1 u (col1 t k) (row1 t r) :=
    Finset.sum_congr rfl fun r _ => congrArg₂ (· * ·) (block1_4 h t r k) (moved_eq t _ k _ (value_eq h t k) u r)
  refine running (fun n hn => dtap m c 1 u (col1 ⟨n, hn⟩ k)) _ (fun n hn hz => ?_) (fun n hn hz => ?_) fun n hn hz => ?_
  · exact congrArg (dtap m c 1 u) (col1_next n hn hz k)
  · have e : (outsAt1 V c n hn).2.2.1 = taps (valueAt V c ⟨n, hn⟩) (iblk1 V c 4 ⟨n, hn⟩) (fun _ => 0) := by
      rw [outsAt1_A V c ⟨n, hn⟩ hz]; dsimp only; exact tapV_A ..
    rw [e]
    exact congrArg (0 + ·) (part ⟨n, hn⟩)
  · have e : (outsAt1 V c (n + 1) hn).2.2.1 = taps (valueAt V c ⟨n + 1, hn⟩) (iblk1 V c 4 ⟨n + 1, hn⟩) (outsAt1 V c n (Nat.lt_of_succ_lt hn)).2.2.1 := by
      rw [outsAt1_B V c ⟨n + 1, hn⟩ hz]; dsimp only; exact tapV_B ..
    rw [e]
    exact congrArg ((outsAt1 V c n (Nat.lt_of_succ_lt hn)).2.2.1 (ix2 u k) + ·) (part ⟨n + 1, hn⟩)

/-- The gradient of the gate's shift, over the rows met so far. -/
theorem shift_gate (k : Fin 1536) : ∀ (n : ℕ) (hn : n < cfg1.N), (outsAt1 V c n hn).2.2.2.1 (ix2 0 k)
    = upto (dshift m c 0 (col1 ⟨n, hn⟩ k)) (512 * (n % 16) + 512) := by
  have part (t : Fin cfg1.N) : ∑ r : Fin 512, Tile.at0 (gateAt V c t) (ix2 r k) = ∑ r : Fin 512, dshift m c 0 (col1 t k) (row1 t r) :=
    Finset.sum_congr rfl fun r _ => Tile.at0_eq (coords1 t).2.1 _ k _ (gate_eq h t k) r
  refine running (fun n hn => dshift m c 0 (col1 ⟨n, hn⟩ k)) _ (fun n hn hz => ?_) (fun n hn hz => ?_) fun n hn hz => ?_
  · exact congrArg (dshift m c 0) (col1_next n hn hz k)
  · have e : (outsAt1 V c n hn).2.2.2.1 = shifts (gateAt V c ⟨n, hn⟩) (fun _ => 0) := by
      rw [outsAt1_A V c ⟨n, hn⟩ hz]; dsimp only; exact shiftG_A ..
    rw [e]
    exact congrArg (0 + ·) (part ⟨n, hn⟩)
  · have e : (outsAt1 V c (n + 1) hn).2.2.2.1 = shifts (gateAt V c ⟨n + 1, hn⟩) (outsAt1 V c n (Nat.lt_of_succ_lt hn)).2.2.2.1 := by
      rw [outsAt1_B V c ⟨n + 1, hn⟩ hz]; dsimp only; exact shiftG_B ..
    rw [e]
    exact congrArg ((outsAt1 V c n (Nat.lt_of_succ_lt hn)).2.2.2.1 (ix2 0 k) + ·) (part ⟨n + 1, hn⟩)

/-- The gradient of the value's shift, over the rows met so far. -/
theorem shift_value (k : Fin 1536) : ∀ (n : ℕ) (hn : n < cfg1.N), (outsAt1 V c n hn).2.2.2.2 (ix2 0 k)
    = upto (dshift m c 1 (col1 ⟨n, hn⟩ k)) (512 * (n % 16) + 512) := by
  have part (t : Fin cfg1.N) : ∑ r : Fin 512, Tile.at0 (valueAt V c t) (ix2 r k) = ∑ r : Fin 512, dshift m c 1 (col1 t k) (row1 t r) :=
    Finset.sum_congr rfl fun r _ => Tile.at0_eq (coords1 t).2.1 _ k _ (value_eq h t k) r
  refine running (fun n hn => dshift m c 1 (col1 ⟨n, hn⟩ k)) _ (fun n hn hz => ?_) (fun n hn hz => ?_) fun n hn hz => ?_
  · exact congrArg (dshift m c 1) (col1_next n hn hz k)
  · have e : (outsAt1 V c n hn).2.2.2.2 = shifts (valueAt V c ⟨n, hn⟩) (fun _ => 0) := by
      rw [outsAt1_A V c ⟨n, hn⟩ hz]; dsimp only; exact shiftV_A ..
    rw [e]
    exact congrArg (0 + ·) (part ⟨n, hn⟩)
  · have e : (outsAt1 V c (n + 1) hn).2.2.2.2 = shifts (valueAt V c ⟨n + 1, hn⟩) (outsAt1 V c n (Nat.lt_of_succ_lt hn)).2.2.2.2 := by
      rw [outsAt1_B V c ⟨n + 1, hn⟩ hz]; dsimp only; exact shiftV_B ..
    rw [e]
    exact congrArg ((outsAt1 V c n (Nat.lt_of_succ_lt hn)).2.2.2.2 (ix2 0 k) + ·) (part ⟨n + 1, hn⟩)

end Running

end Cert.FfnIdeal.Fold

end
-- ==== Proof.FfnRun.lean ====
/- The two regions of the feed-forward block, one after the other: the arrays that the first leaves for the second, and the
   arrays that the program ends with. -/
module

public import proofs.«01_k».proof.Proof.FfnFold

@[expose] public section

set_option maxRecDepth 16384

noncomputable section

open Idealize.ShloMosaic Idealize.ShloMosaic.TcCoe Idealize.SL.Sem

namespace Cert.FfnIdeal.Run

open Cert.FfnIdeal Cert.FfnIdeal.Gen Cert.FfnIdeal.Fold Cert.Sums
open Idealize Idealize.ShloMosaic.StableHlo Idealize.SL

/-- The arrays that the regions leave: the product, its convolution, the gated product, and the gradients. -/
abbrev upAll (m : (ℓ : Loc nD τ sig) → Buf (Elt Ideal) ℓ) (c : Dev nD) : FVec Ideal S2x8192x6144 .bf16 := fun i => up m c (col (i 0) (i 2)) (i 1)
abbrev convAll (m : (ℓ : Loc nD τ sig) → Buf (Elt Ideal) ℓ) (c : Dev nD) : FVec Ideal S2x8192x6144 .bf16 := fun i => conv m c (col (i 0) (i 2)) (i 1)
abbrev outAll (m : (ℓ : Loc nD τ sig) → Buf (Elt Ideal) ℓ) (c : Dev nD) : FVec Ideal S8192x6144 .bf16 := fun i => out m c (i 1) (i 0)
abbrev dupAll (m : (ℓ : Loc nD τ sig) → Buf (Elt Ideal) ℓ) (c : Dev nD) : FVec Ideal S2x8192x6144 .bf16 := fun i => dup m c (i 0) (i 2) (i 1)
abbrev tapAll (m : (ℓ : Loc nD τ sig) → Buf (Elt Ideal) ℓ) (c : Dev nD) (s : Fin 2) : FVec Ideal S3x6144 .f32 := fun i =>
  ∑ r : Fin 8192, dtap m c s (i 0) (i 1) r
abbrev shiftAll (m : (ℓ : Loc nD τ sig) → Buf (Elt Ideal) ℓ) (c : Dev nD) (s : Fin 2) : FVec Ideal S1x6144 .f32 := fun i =>
  ∑ r : Fin 8192, dshift m c s (i 1) r

theorem index0_8 : ∀ t : Fin cfg0.N, win0_8.index t 0 = 0 ∧ win0_8.index t 1 = (grid0.coords t 0).val ∧ win0_8.index t 2 = (grid0.coords t 1).val := by decide +kernel
theorem index0_9 : ∀ t : Fin cfg0.N, win0_9.index t 0 = 0 ∧ win0_9.index t 1 = (grid0.coords t 0).val ∧ win0_9.index t 2 = (grid0.coords t 1).val := by decide +kernel
theorem index0_10 : ∀ t : Fin cfg0.N, win0_10.index t 0 = (grid0.coords t 0).val ∧ win0_10.index t 1 = (grid0.coords t 1).val := by decide +kernel
theorem index1_11 : ∀ t : Fin cfg1.N, win1_11.index t 0 = 0 ∧ win1_11.index t 1 = (grid1.coords t 1).val ∧ win1_11.index t 2 = (grid1.coords t 0).val := by decide +kernel
theorem index1_12 : ∀ t : Fin cfg1.N, win1_12.index t 0 = 0 ∧ win1_12.index t 1 = (grid1.coords t 0).val := by decide +kernel
theorem index1_13 : ∀ t : Fin cfg1.N, win1_13.index t 0 = 0 ∧ win1_13.index t 1 = (grid1.coords t 0).val := by decide +kernel
theorem index1_14 : ∀ t : Fin cfg1.N, win1_14.index t 0 = 0 ∧ win1_14.index t 1 = (grid1.coords t 0).val := by decide +kernel
theorem index1_15 : ∀ t : Fin cfg1.N, win1_15.index t 0 = 0 ∧ win1_15.index t 1 = (grid1.coords t 0).val := by decide +kernel

section Region

variable {m : (ℓ : Loc nD τ sig) → Buf (Elt Ideal) ℓ} {c : Dev nD}
variable {V : (c : Dev nD) → (b : Ref sig .tc) → Buf (Elt Ideal) ((c : Thread nD τ).loc b)}

/-- What the first region leaves. -/
theorem array0_8 (h : Entry0 m c V) : (dat0 V c).arrAt 8 cfg0.N = upAll m c := by
  refine (dat0 V c).arrAt_eq_of_cover 8 (upAll m c) (fun t _ => ?_) fun i => ?_
  · show (cfg0.win 8).cut (grid0.coords t) ((dat0 V c).after 8 t) = _
    obtain ⟨e0, e1, e2⟩ := index0_8 t
    funext y
    rw [View.read_apply]
    have hl : (cfg0.win 8).xinj (grid0.coords t) y = ix3 (y 0) (y 1) (y 2) := funext fun a => match a with
      | ⟨0, _⟩ => rfl
      | ⟨1, _⟩ => rfl
      | ⟨2, _⟩ => rfl
    have hr : ((cfg0.win 8).blk t).view.emb y = ix3 (y 0) (row0 t (y 1)) (col0 t (y 2)) := funext fun a => Fin.ext <| match a with
      | ⟨0, _⟩ => by show win0_8.index t 0 * 2 + 1 * (y 0).val = (y 0).val; omega
      | ⟨1, _⟩ => by show win0_8.index t 1 * 512 + 1 * (y 1).val = 512 * (grid0.coords t 0).val + (y 1).val; omega
      | ⟨2, _⟩ => by show win0_8.index t 2 * 1536 + 1 * (y 2).val = 1536 * (grid0.coords t 1).val + (y 2).val; omega
    show (dat0 V c).after 8 t ((cfg0.win 8).xinj (grid0.coords t) y) = upAll m c (((cfg0.win 8).blk t).view.emb y)
    rw [hl, hr]
    obtain hs | hs : y 0 = (0 : Fin 2) ∨ y 0 = (1 : Fin 2) := by
      have hy : (y 0).val < 2 := (y 0).isLt
      rcases (by omega : (y 0).val = 0 ∨ (y 0).val = 1) with e | e
      · exact .inl (Fin.ext e)
      · exact .inr (Fin.ext e)
    · rw [hs]; exact up_gate h t (y 1) (y 2)
    · rw [hs]; exact up_value h t (y 1) (y 2)
  · have h0 : (i 0).val < 2 := (i 0).isLt
    have h1 : (i 1).val < 8192 := (i 1).isLt
    have h2 : (i 2).val < 6144 := (i 2).isLt
    have ht : 4 * ((i 1).val / 512) + (i 2).val / 1536 < cfg0.N := lt_of_lt_of_eq (by omega) N_0.symm
    obtain ⟨t, hv⟩ : ∃ t : Fin cfg0.N, t.val = 4 * ((i 1).val / 512) + (i 2).val / 1536 := ⟨⟨_, ht⟩, rfl⟩
    obtain ⟨e0, e1, e2⟩ := index0_8 t
    have b := coords0 t
    refine ⟨t, flush0_8 t, ?_⟩
    show i ∈ ((View.whole main_v6_0).slice (win0_8.rect t)).set
    rw [View.set_slice_whole, Rect.mem_set_unit]
    intro a
    match a with
    | ⟨0, _⟩ => show win0_8.index t 0 * 2 ≤ (i 0).val ∧ (i 0).val < win0_8.index t 0 * 2 + 2; omega
    | ⟨1, _⟩ => show win0_8.index t 1 * 512 ≤ (i 1).val ∧ (i 1).val < win0_8.index t 1 * 512 + 512; omega
    | ⟨2, _⟩ => show win0_8.index t 2 * 1536 ≤ (i 2).val ∧ (i 2).val < win0_8.index t 2 * 1536 + 1536; omega

theorem array0_9 (h : Entry0 m c V) : (dat0 V c).arrAt 9 cfg0.N = convAll m c := by
  refine (dat0 V c).arrAt_eq_of_cover 9 (convAll m c) (fun t _ => ?_) fun i => ?_
  · show (cfg0.win 9).cut (grid0.coords t) ((dat0 V c).after 9 t) = _
    obtain ⟨e0, e1, e2⟩ := index0_9 t
    funext y
    rw [View.read_apply]
    have hl : (cfg0.win 9).xinj (grid0.coords t) y = ix3 (y 0) (y 1) (y 2) := funext fun a => match a with
      | ⟨0, _⟩ => rfl
      | ⟨1, _⟩ => rfl
      | ⟨2, _⟩ => rfl
    have hr : ((cfg0.win 9).blk t).view.emb y = ix3 (y 0) (row0 t (y 1)) (col0 t (y 2)) := funext fun a => Fin.ext <| match a with
      | ⟨0, _⟩ => by show win0_9.index t 0 * 2 + 1 * (y 0).val = (y 0).val; omega
      | ⟨1, _⟩ => by show win0_9.index t 1 * 512 + 1 * (y 1).val = 512 * (grid0.coords t 0).val + (y 1).val; omega
      | ⟨2, _⟩ => by show win0_9.index t 2 * 1536 + 1 * (y 2).val = 1536 * (grid0.coords t 1).val + (y 2).val; omega
    show (dat0 V c).after 9 t ((cfg0.win 9).xinj (grid0.coords t) y) = convAll m c (((cfg0.win 9).blk t).view.emb y)
    rw [hl, hr]
    obtain hs | hs : y 0 = (0 : Fin 2) ∨ y 0 = (1 : Fin 2) := by
      have hy : (y 0).val < 2 := (y 0).isLt
      rcases (by omega : (y 0).val = 0 ∨ (y 0).val = 1) with e | e
      · exact .inl (Fin.ext e)
      · exact .inr (Fin.ext e)
    · rw [hs]; exact conv_gate h t (y 1) (y 2)
    · rw [hs]; exact conv_value h t (y 1) (y 2)
  · have h0 : (i 0).val < 2 := (i 0).isLt
    have h1 : (i 1).val < 8192 := (i 1).isLt
    have h2 : (i 2).val < 6144 := (i 2).isLt
    have ht : 4 * ((i 1).val / 512) + (i 2).val / 1536 < cfg0.N := lt_of_lt_of_eq (by omega) N_0.symm
    obtain ⟨t, hv⟩ : ∃ t : Fin cfg0.N, t.val = 4 * ((i 1).val / 512) + (i 2).val / 1536 := ⟨⟨_, ht⟩, rfl⟩
    obtain ⟨e0, e1, e2⟩ := index0_9 t
    have b := coords0 t
    refine ⟨t, flush0_9 t, ?_⟩
    show i ∈ ((View.whole main_v6_1).slice (win0_9.rect t)).set
    rw [View.set_slice_whole, Rect.mem_set_unit]
    intro a
    match a with
    | ⟨0, _⟩ => show win0_9.index t 0 * 2 ≤ (i 0).val ∧ (i 0).val < win0_9.index t 0 * 2 + 2; omega
    | ⟨1, _⟩ => show win0_9.index t 1 * 512 ≤ (i 1).val ∧ (i 1).val < win0_9.index t 1 * 512 + 512; omega
    | ⟨2, _⟩ => show win0_9.index t 2 * 1536 ≤ (i 2).val ∧ (i 2).val < win0_9.index t 2 * 1536 + 1536; omega

theorem array0_10 (h : Entry0 m c V) : (dat0 V c).arrAt 10 cfg0.N = outAll m c := by
  refine (dat0 V c).arrAt_eq_of_cover 10 (outAll m c) (fun t _ => ?_) fun i => ?_
  · show (cfg0.win 10).cut (grid0.coords t) ((dat0 V c).after 10 t) = _
    obtain ⟨e0, e1⟩ := index0_10 t
    funext y
    rw [View.read_apply]
    have hl : (cfg0.win 10).xinj (grid0.coords t) y = ix2 (y 0) (y 1) := Shape.idx_ext₂ rfl rfl
    have hr : ((cfg0.win 10).blk t).view.emb y = ix2 (row0 t (y 0)) (col0 t (y 1)) := funext fun a => Fin.ext <| match a with
      | ⟨0, _⟩ => by show win0_10.index t 0 * 512 + 1 * (y 0).val = 512 * (grid0.coords t 0).val + (y 0).val; omega
      | ⟨1, _⟩ => by show win0_10.index t 1 * 1536 + 1 * (y 1).val = 1536 * (grid0.coords t 1).val + (y 1).val; omega
    show (dat0 V c).after 10 t ((cfg0.win 10).xinj (grid0.coords t) y) = outAll m c (((cfg0.win 10).blk t).view.emb y)
    rw [hl, hr]
    exact out_at h t (y 0) (y 1)
  · have h0 : (i 0).val < 8192 := (i 0).isLt
    have h1 : (i 1).val < 6144 := (i 1).isLt
    have ht : 4 * ((i 0).val / 512) + (i 1).val / 1536 < cfg0.N := lt_of_lt_of_eq (by omega) N_0.symm
    obtain ⟨t, hv⟩ : ∃ t : Fin cfg0.N, t.val = 4 * ((i 0).val / 512) + (i 1).val / 1536 := ⟨⟨_, ht⟩, rfl⟩
    obtain ⟨e0, e1⟩ := index0_10 t
    have b := coords0 t
    refine ⟨t, flush0_10 t, ?_⟩
    show i ∈ ((View.whole main_v6_2).slice (win0_10.rect t)).set
    rw [View.set_slice_whole, Rect.mem_set_unit]
    intro a
    match a with
    | ⟨0, _⟩ => show win0_10.index t 0 * 512 ≤ (i 0).val ∧ (i 0).val < win0_10.index t 0 * 512 + 512; omega
    | ⟨1, _⟩ => show win0_10.index t 1 * 1536 ≤ (i 1).val ∧ (i 1).val < win0_10.index t 1 * 1536 + 1536; omega

/-- What the second region leaves. -/
theorem array1_11 (h : Entry1 m c V) : (dat1 V c).arrAt 11 cfg1.N = dupAll m c := by
  refine (dat1 V c).arrAt_eq_of_cover 11 (dupAll m c) (fun t _ => ?_) fun i => ?_
  · show (cfg1.win 11).cut (grid1.coords t) ((dat1 V c).after 11 t) = _
    obtain ⟨e0, e1, e2⟩ := index1_11 t
    funext y
    rw [View.read_apply]
    have hl : (cfg1.win 11).xinj (grid1.coords t) y = ix3 (y 0) (y 1) (y 2) := funext fun a => match a with
      | ⟨0, _⟩ => rfl
      | ⟨1, _⟩ => rfl
      | ⟨2, _⟩ => rfl
    have hr : ((cfg1.win 11).blk t).view.emb y = ix3 (y 0) (row1 t (y 1)) (col1 t (y 2)) := funext fun a => Fin.ext <| match a with
      | ⟨0, _⟩ => by show win1_11.index t 0 * 2 + 1 * (y 0).val = (y 0).val; omega
      | ⟨1, _⟩ => by show win1_11.index t 1 * 512 + 1 * (y 1).val = 512 * (grid1.coords t 1).val + (y 1).val; omega
      | ⟨2, _⟩ => by show win1_11.index t 2 * 1536 + 1 * (y 2).val = 1536 * (grid1.coords t 0).val + (y 2).val; omega
    show (dat1 V c).after 11 t ((cfg1.win 11).xinj (grid1.coords t) y) = dupAll m c (((cfg1.win 11).blk t).view.emb y)
    rw [hl, hr]
    exact dup_at h t (y 0) (y 1) (y 2)
  · have h0 : (i 0).val < 2 := (i 0).isLt
    have h1 : (i 1).val < 8192 := (i 1).isLt
    have h2 : (i 2).val < 6144 := (i 2).isLt
    have ht : 16 * ((i 2).val / 1536) + (i 1).val / 512 < cfg1.N := lt_of_lt_of_eq (by omega) N_1.symm
    obtain ⟨t, hv⟩ : ∃ t : Fin cfg1.N, t.val = 16 * ((i 2).val / 1536) + (i 1).val / 512 := ⟨⟨_, ht⟩, rfl⟩
    obtain ⟨e0, e1, e2⟩ := index1_11 t
    have b := coords1 t
    refine ⟨t, flush1_11 t, ?_⟩
    show i ∈ ((View.whole main_v11_0).slice (win1_11.rect t)).set
    rw [View.set_slice_whole, Rect.mem_set_unit]
    intro a
    match a with
    | ⟨0, _⟩ => show win1_11.index t 0 * 2 ≤ (i 0).val ∧ (i 0).val < win1_11.index t 0 * 2 + 2; omega
    | ⟨1, _⟩ => show win1_11.index t 1 * 512 ≤ (i 1).val ∧ (i 1).val < win1_11.index t 1 * 512 + 512; omega
    | ⟨2, _⟩ => show win1_11.index t 2 * 1536 ≤ (i 2).val ∧ (i 2).val < win1_11.index t 2 * 1536 + 1536; omega

theorem array1_12 (h : Entry1 m c V) : (dat1 V c).arrAt 12 cfg1.N = tapAll m c 0 := by
  refine (dat1 V c).arrAt_eq_of_cover 12 (tapAll m c 0) (fun t hf => ?_) fun i => ?_
  · show (cfg1.win 12).cut (grid1.coords t) ((dat1 V c).after 12 t) = _
    rw [after1_12]
    have hm : t.val % 16 = 15 := (flush1_12 t).mp hf
    obtain ⟨e0, e1⟩ := index1_12 t
    funext y
    rw [View.read_apply]
    have y0 : (y 0).val < 3 := (y 0).isLt
    have hl : (cfg1.win 12).xinj (grid1.coords t) y = ix2 (y 0) (y 1) := Shape.idx_ext₂ rfl rfl
    have hr : ((cfg1.win 12).blk t).view.emb y = ix2 (y 0) (col1 t (y 1)) := funext fun a => Fin.ext <| match a with
      | ⟨0, _⟩ => by show win1_12.index t 0 * 3 + 1 * (y 0).val = (y 0).val; omega
      | ⟨1, _⟩ => by show win1_12.index t 1 * 1536 + 1 * (y 1).val = 1536 * (grid1.coords t 0).val + (y 1).val; omega
    show (outsAt1 V c t.val t.isLt).2.1 ((cfg1.win 12).xinj (grid1.coords t) y) = tapAll m c 0 (((cfg1.win 12).blk t).view.emb y)
    rw [hl, hr]
    refine (tap_gate h (y 0) (y 1) t.val t.isLt).trans ?_
    rw [show 512 * (t.val % 16) + 512 = 8192 by omega]
    exact upto_all _
  · have h0 : (i 0).val < 3 := (i 0).isLt
    have h1 : (i 1).val < 6144 := (i 1).isLt
    have ht : 16 * ((i 1).val / 1536) + 15 < cfg1.N := lt_of_lt_of_eq (by omega) N_1.symm
    obtain ⟨t, hv⟩ : ∃ t : Fin cfg1.N, t.val = 16 * ((i 1).val / 1536) + 15 := ⟨⟨_, ht⟩, rfl⟩
    obtain ⟨e0, e1⟩ := index1_12 t
    have b := coords1 t
    refine ⟨t, (flush1_12 t).mpr (by omega), ?_⟩
    show i ∈ ((View.whole main_v11_1).slice (win1_12.rect t)).set
    rw [View.set_slice_whole, Rect.mem_set_unit]
    intro a
    match a with
    | ⟨0, _⟩ => show win1_12.index t 0 * 3 ≤ (i 0).val ∧ (i 0).val < win1_12.index t 0 * 3 + 3; omega
    | ⟨1, _⟩ => show win1_12.index t 1 * 1536 ≤ (i 1).val ∧ (i 1).val < win1_12.index t 1 * 1536 + 1536; omega

theorem array1_13 (h : Entry1 m c V) : (dat1 V c).arrAt 13 cfg1.N = tapAll m c 1 := by
  refine (dat1 V c).arrAt_eq_of_cover 13 (tapAll m c 1) (fun t hf => ?_) fun i => ?_
  · show (cfg1.win 13).cut (grid1.coords t) ((dat1 V c).after 13 t) = _
    rw [after1_13]
    have hm : t.val % 16 = 15 := (flush1_13 t).mp hf
    obtain ⟨e0, e1⟩ := index1_13 t
    funext y
    rw [View.read_apply]
    have y0 : (y 0).val < 3 := (y 0).isLt
    have hl : (cfg1.win 13).xinj (grid1.coords t) y = ix2 (y 0) (y 1) := Shape.idx_ext₂ rfl rfl
    have hr : ((cfg1.win 13).blk t).view.emb y = ix2 (y 0) (col1 t (y 1)) := funext fun a => Fin.ext <| match a with
      | ⟨0, _⟩ => by show win1_13.index t 0 * 3 + 1 * (y 0).val = (y 0).val; omega
      | ⟨1, _⟩ => by show win1_13.index t 1 * 1536 + 1 * (y 1).val = 1536 * (grid1.coords t 0).val + (y 1).val; omega
    show (outsAt1 V c t.val t.isLt).2.2.1 ((cfg1.win 13).xinj (grid1.coords t) y) = tapAll m c 1 (((cfg1.win 13).blk t).view.emb y)
    rw [hl, hr]
    refine (tap_value h (y 0) (y 1) t.val t.isLt).trans ?_
    rw [show 512 * (t.val % 16) + 512 = 8192 by omega]
    exact upto_all _
  · have h0 : (i 0).val < 3 := (i 0).isLt
    have h1 : (i 1).val < 6144 := (i 1).isLt
    have ht : 16 * ((i 1).val / 1536) + 15 < cfg1.N := lt_of_lt_of_eq (by omega) N_1.symm
    obtain ⟨t, hv⟩ : ∃ t : Fin cfg1.N, t.val = 16 * ((i 1).val / 1536) + 15 := ⟨⟨_, ht⟩, rfl⟩
    obtain ⟨e0, e1⟩ := index1_13 t
    have b := coords1 t
    refine ⟨t, (flush1_13 t).mpr (by omega), ?_⟩
    show i ∈ ((View.whole main_v11_2).slice (win1_13.rect t)).set
    rw [View.set_slice_whole, Rect.mem_set_unit]
    intro a
    match a with
    | ⟨0, _⟩ => show win1_13.index t 0 * 3 ≤ (i 0).val ∧ (i 0).val < win1_13.index t 0 * 3 + 3; omega
    | ⟨1, _⟩ => show win1_13.index t 1 * 1536 ≤ (i 1).val ∧ (i 1).val < win1_13.index t 1 * 1536 + 1536; omega

theorem array1_14 (h : Entry1 m c V) : (dat1 V c).arrAt 14 cfg1.N = shiftAll m c 0 := by
  refine (dat1 V c).arrAt_eq_of_cover 14 (shiftAll m c 0) (fun t hf => ?_) fun i => ?_
  · show (cfg1.win 14).cut (grid1.coords t) ((dat1 V c).after 14 t) = _
    rw [after1_14]
    have hm : t.val % 16 = 15 := (flush1_14 t).mp hf
    obtain ⟨e0, e1⟩ := index1_14 t
    funext y
    rw [View.read_apply]
    have y0 : (y 0).val < 1 := (y 0).isLt
    have hl : (cfg1.win 14).xinj (grid1.coords t) y = ix2 0 (y 1) := Shape.idx_ext₂ (by show (y 0).val = 0; omega) rfl
    have hr : ((cfg1.win 14).blk t).view.emb y = ix2 0 (col1 t (y 1)) := funext fun a => Fin.ext <| match a with
      | ⟨0, _⟩ => by show win1_14.index t 0 * 1 + 1 * (y 0).val = 0; omega
      | ⟨1, _⟩ => by show win1_14.index t 1 * 1536 + 1 * (y 1).val = 1536 * (grid1.coords t 0).val + (y 1).val; omega
    show (outsAt1 V c t.val t.isLt).2.2.2.1 ((cfg1.win 14).xinj (grid1.coords t) y) = shiftAll m c 0 (((cfg1.win 14).blk t).view.emb y)
    rw [hl, hr]
    refine (shift_gate h (y 1) t.val t.isLt).trans ?_
    rw [show 512 * (t.val % 16) + 512 = 8192 by omega]
    exact upto_all _
  · have h0 : (i 0).val < 1 := (i 0).isLt
    have h1 : (i 1).val < 6144 := (i 1).isLt
    have ht : 16 * ((i 1).val / 1536) + 15 < cfg1.N := lt_of_lt_of_eq (by omega) N_1.symm
    obtain ⟨t, hv⟩ : ∃ t : Fin cfg1.N, t.val = 16 * ((i 1).val / 1536) + 15 := ⟨⟨_, ht⟩, rfl⟩
    obtain ⟨e0, e1⟩ := index1_14 t
    have b := coords1 t
    refine ⟨t, (flush1_14 t).mpr (by omega), ?_⟩
    show i ∈ ((View.whole main_v11_3).slice (win1_14.rect t)).set
    rw [View.set_slice_whole, Rect.mem_set_unit]
    intro a
    match a with
    | ⟨0, _⟩ => show win1_14.index t 0 * 1 ≤ (i 0).val ∧ (i 0).val < win1_14.index t 0 * 1 + 1; omega
    | ⟨1, _⟩ => show win1_14.index t 1 * 1536 ≤ (i 1).val ∧ (i 1).val < win1_14.index t 1 * 1536 + 1536; omega

theorem array1_15 (h : Entry1 m c V) : (dat1 V c).arrAt 15 cfg1.N = shiftAll m c 1 := by
  refine (dat1 V c).arrAt_eq_of_cover 15 (shiftAll m c 1) (fun t hf => ?_) fun i => ?_
  · show (cfg1.win 15).cut (grid1.coords t) ((dat1 V c).after 15 t) = _
    rw [after1_15]
    have hm : t.val % 16 = 15 := (flush1_15 t).mp hf
    obtain ⟨e0, e1⟩ := index1_15 t
    funext y
    rw [View.read_apply]
    have y0 : (y 0).val < 1 := (y 0).isLt
    have hl : (cfg1.win 15).xinj (grid1.coords t) y = ix2 0 (y 1) := Shape.idx_ext₂ (by show (y 0).val = 0; omega) rfl
    have hr : ((cfg1.win 15).blk t).view.emb y = ix2 0 (col1 t (y 1)) := funext fun a => Fin.ext <| match a with
      | ⟨0, _⟩ => by show win1_15.index t 0 * 1 + 1 * (y 0).val = 0; omega
      | ⟨1, _⟩ => by show win1_15.index t 1 * 1536 + 1 * (y 1).val = 1536 * (grid1.coords t 0).val + (y 1).val; omega
    show (outsAt1 V c t.val t.isLt).2.2.2.2 ((cfg1.win 15).xinj (grid1.coords t) y) = shiftAll m c 1 (((cfg1.win 15).blk t).view.emb y)
    rw [hl, hr]
    refine (shift_value h (y 1) t.val t.isLt).trans ?_
    rw [show 512 * (t.val % 16) + 512 = 8192 by omega]
    exact upto_all _
  · have h0 : (i 0).val < 1 := (i 0).isLt
    have h1 : (i 1).val < 6144 := (i 1).isLt
    have ht : 16 * ((i 1).val / 1536) + 15 < cfg1.N := lt_of_lt_of_eq (by omega) N_1.symm
    obtain ⟨t, hv⟩ : ∃ t : Fin cfg1.N, t.val = 16 * ((i 1).val / 1536) + 15 := ⟨⟨_, ht⟩, rfl⟩
    obtain ⟨e0, e1⟩ := index1_15 t
    have b := coords1 t
    refine ⟨t, (flush1_15 t).mpr (by omega), ?_⟩
    show i ∈ ((View.whole main_v11_4).slice (win1_15.rect t)).set
    rw [View.set_slice_whole, Rect.mem_set_unit]
    intro a
    match a with
    | ⟨0, _⟩ => show win1_15.index t 0 * 1 ≤ (i 0).val ∧ (i 0).val < win1_15.index t 0 * 1 + 1; omega
    | ⟨1, _⟩ => show win1_15.index t 1 * 1536 ≤ (i 1).val ∧ (i 1).val < win1_15.index t 1 * 1536 + 1536; omega

end Region

variable (m : (ℓ : Loc nD τ sig) → Buf (Elt Ideal) ℓ) (ρ : Dev nD → PrngReg) (c : Dev nD)

/-! ## What each region finds -/

theorem entry0 : Entry0 m c (V1 m ρ) where
  rows r x := by
    have e : V1 m ρ c main_v4 = truncf .bf16 (hs m c) bitsLt_bf16_f32 := by
      show StableHlo.after hostOps0 _ (Proc.devRef .tc main_v4) = _
      after_results
    rw [e]
    pointwise []
  wt g x k := by
    have e : V1 m ρ c main_v3 = truncf .bf16 (transpose S8x2048x1536 [1, 0, 2] (shapeCast S2048x8x1536
        (shapeCast S2048x12288 (wu m c) shapeCasts_S1x2048x12288_S2048x12288) shapeCasts_S2048x12288_S2048x8x1536) transposes_S2048x8x1536_S8x2048x1536_1_0_2)
          bitsLt_bf16_f32 := by
      show StableHlo.after hostOps0 _ (Proc.devRef .tc main_v3) = _
      after_results
      rfl
    rw [e]
    pointwise []
    exact congrArg (fun q => wu m c (ix3 0 x q)) (Fin.ext (by dsimp only; omega))
  tap t q := by
    have e : V1 m ρ c main_v5 = shapeCast S3x12288 (tp m c) shapeCasts_S1x3x12288_S3x12288 := by
      show StableHlo.after hostOps0 _ (Proc.devRef .tc main_v5) = _
      after_results
      rfl
    rw [e]
    pointwise []
  shift q := congrFun (W1_args m ρ c main_arg3 (by decide)) (ix2 0 q)

/-- The arguments are the same when the second region is entered. -/
theorem kept (r : Ref sig .tc) (h : r ∈ argRefs) : W2 m ρ c (Proc.devRef .tc r) = m ((c : Thread nD τ).loc r) := W2_args m ρ c r h

theorem entry1 : Entry1 m c (V3 m ρ) where
  ct r x := by
    have e : V3 m ρ c main_v7 = truncf .bf16 (cts m c) bitsLt_bf16_f32 := by
      rw [show cts m c = W2 m ρ c (Proc.devRef .tc main_arg5) from (kept m ρ c main_arg5 (by decide)).symm]
      show StableHlo.after hostOps1 _ (Proc.devRef .tc main_v7) = _
      after_results
    rw [e]
    pointwise []
  wt k x := by
    have e : V3 m ρ c main_v9 = truncf .bf16 (shapeCast S6144x2048 (wd m c) shapeCasts_S1x6144x2048_S6144x2048) bitsLt_bf16_f32 := by
      rw [show wd m c = W2 m ρ c (Proc.devRef .tc main_arg4) from (kept m ρ c main_arg4 (by decide)).symm]
      show StableHlo.after hostOps1 _ (Proc.devRef .tc main_v9) = _
      after_results
      rfl
    rw [e]
    pointwise []
  up s r k := congrFun ((W3_of m ρ c main_v6_0 (by decide)).trans ((W2_arr m ρ c 8).trans (array0_8 (entry0 m ρ c)))) (ix3 s r k)
  conv s r k := congrFun ((W3_of m ρ c main_v6_1 (by decide)).trans ((W2_arr m ρ c 9).trans (array0_9 (entry0 m ρ c)))) (ix3 s r k)
  tap t q := by
    have e : V3 m ρ c main_v10 = shapeCast S3x12288 (tp m c) shapeCasts_S1x3x12288_S3x12288 := by
      rw [show tp m c = W2 m ρ c (Proc.devRef .tc main_arg2) from (kept m ρ c main_arg2 (by decide)).symm]
      show StableHlo.after hostOps1 _ (Proc.devRef .tc main_v10) = _
      after_results
      rfl
    rw [e]
    pointwise []

/-! ## What the program leaves -/

theorem final_dup : W4 m ρ c (Proc.devRef .tc main_v11_0) = dupAll m c := (W4_arr m ρ c 11).trans (array1_11 (entry1 m ρ c))
theorem final_tapG : W4 m ρ c (Proc.devRef .tc main_v11_1) = tapAll m c 0 := (W4_arr m ρ c 12).trans (array1_12 (entry1 m ρ c))
theorem final_tapV : W4 m ρ c (Proc.devRef .tc main_v11_2) = tapAll m c 1 := (W4_arr m ρ c 13).trans (array1_13 (entry1 m ρ c))
theorem final_shiftG : W4 m ρ c (Proc.devRef .tc main_v11_3) = shiftAll m c 0 := (W4_arr m ρ c 14).trans (array1_14 (entry1 m ρ c))
theorem final_shiftV : W4 m ρ c (Proc.devRef .tc main_v11_4) = shiftAll m c 1 := (W4_arr m ρ c 15).trans (array1_15 (entry1 m ρ c))
/-- The second region leaves the first one's output as it was. -/
theorem final_out : W4 m ρ c (Proc.devRef .tc main_v6_2) = outAll m c :=
  (W4_of m ρ c main_v6_2 (by decide)).trans ((W3_of m ρ c main_v6_2 (by decide)).trans ((W2_arr m ρ c 10).trans (array0_10 (entry0 m ρ c))))

end Cert.FfnIdeal.Run

end
-- ==== Proof.FfnEq.lean ====
/- The reference of the feed-forward block read at an entry: the convolution, the gradients that reach the gate and the
   value, and the gradients of the product, of the taps and of the shifts. They are the kernel's closed forms. -/
module

public import proofs.«01_k».proof.Proof.GateEq
public import proofs.«01_k».proof.Proof.FfnFold
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.Entries

open Cert.FfnRefIdeal Cert.FfnRefIdeal.Read Cert.Shifts Cert.Reals Cert.Gate
open Cert.FfnIdeal.Fold

variable (m : (ℓ : Loc Cert.FfnIdeal.nD Cert.FfnIdeal.τ Cert.FfnIdeal.sig) → Buf (Elt Ideal) ℓ) (c : Dev Cert.FfnIdeal.nD)

/-! ## The forward lines -/

theorem up_apply (r : Fin 8192) (q : Fin 12288) : val_main_v1 (F := Ideal) (hs m c) (wu m c) (ix2 r q) = up m c q r := by
  unfold up
  pointwise [val_main_v1, val_main_v0]

theorem rows_apply (a : Fin 8194) (q : Fin 12288) : val_main_v5 (F := Ideal) (hs m c) (wu m c) (ix2 a q)
    = if h : a.1 < 2 then 0 else up m c q ⟨a.1 - 2, by omega⟩ := by
  have e : val_main_v5 (F := Ideal) (hs m c) (wu m c) (ix2 a q)
      = if h : a.1 < 2 then 0 else val_main_v1 (F := Ideal) (hs m c) (wu m c) (ix2 ⟨a.1 - 2, by omega⟩ q) := by
    pointwise [val_main_v5, val_main_v4, val_main_cst]
  rw [e]
  split <;> first | rfl | exact up_apply m c _ q

/-- A slice of the padded rows holds the rows so many before. -/
theorem back_apply (n : ℕ) (hn : n ≤ 2) (r : Fin 8192) (q : Fin 12288) (a : Fin 8194) (ha : a.1 + n = r.1 + 2) :
    val_main_v5 (F := Ideal) (hs m c) (wu m c) (ix2 a q) = back n (up m c q) r := by
  rw [rows_apply]
  unfold back
  by_cases h : n ≤ r.1
  · rw [if_pos h, dif_neg (by omega)]
    exact congrArg (up m c q) (Fin.ext (by dsimp only; omega))
  · rw [if_neg h, dif_pos (by omega)]

theorem back2 (r : Fin 8192) (q : Fin 12288) : val_main_v7 (F := Ideal) (hs m c) (wu m c) (ix2 r q) = back 2 (up m c q) r := by
  refine Eq.trans ?_ (back_apply m c 2 (by omega) r q ⟨r.1, by omega⟩ rfl)
  pointwise [val_main_v7]
theorem back1 (r : Fin 8192) (q : Fin 12288) : val_main_v16 (F := Ideal) (hs m c) (wu m c) (ix2 r q) = back 1 (up m c q) r := by
  refine Eq.trans ?_ (back_apply m c 1 (by omega) r q ⟨1 + r.1, by omega⟩ (by dsimp only; omega))
  pointwise [val_main_v16]
theorem back0 (r : Fin 8192) (q : Fin 12288) : val_main_v23 (F := Ideal) (hs m c) (wu m c) (ix2 r q) = back 0 (up m c q) r := by
  refine Eq.trans ?_ (back_apply m c 0 (by omega) r q ⟨2 + r.1, by omega⟩ (by dsimp only; omega))
  pointwise [val_main_v23]

/-- The four terms of the convolution, summed in the one order and in the other. -/
theorem reorder (b p0 p1 p2 t0 t1 t2 : EReal) : ((b + p2 * t0) + p1 * t1) + p0 * t2 = ((t2 * p0 + t1 * p1) + t0 * p2) + b := by
  rw [mul_comm p2, mul_comm p1, mul_comm p0]
  abel

theorem conv_apply (r : Fin 8192) (q : Fin 12288) : val_main_v29 (F := Ideal) (hs m c) (wu m c) (tp m c) (sh m c) (ix2 r q) = conv m c q r := by
  unfold conv
  rw [← back0, ← back1, ← back2, ← reorder]
  pointwise [val_main_v29, val_main_v28, val_main_v27, val_main_v26, val_main_v25, val_main_v24, val_main_v22, val_main_v21, val_main_v20, val_main_v19,
    val_main_v18, val_main_v17, val_main_v15, val_main_v14, val_main_v13, val_main_v12, val_main_v11, val_main_v10, val_main_v9, val_main_v8, val_main_v3, val_main_v2]

theorem gate_apply (r : Fin 8192) (k : Fin 6144) : val_main_v30 (F := Ideal) (hs m c) (wu m c) (tp m c) (sh m c) (ix2 r k) = conv m c (col 0 k) r := by
  refine Eq.trans ?_ (conv_apply m c r (col 0 k))
  pointwise [val_main_v30]
  exact congrArg (fun q => val_main_v29 (F := Ideal) (hs m c) (wu m c) (tp m c) (sh m c) (ix2 r q)) (Fin.ext (by show k.1 = 6144 * 0 + k.1; omega))
theorem value_apply (r : Fin 8192) (k : Fin 6144) : val_main_v31 (F := Ideal) (hs m c) (wu m c) (tp m c) (sh m c) (ix2 r k) = conv m c (col 1 k) r := by
  refine Eq.trans ?_ (conv_apply m c r (col 1 k))
  pointwise [val_main_v31]
  exact congrArg (fun q => val_main_v29 (F := Ideal) (hs m c) (wu m c) (tp m c) (sh m c) (ix2 r q)) (Fin.ext (by show 6144 + k.1 = 6144 * 1 + k.1; omega))
theorem dout_apply (r : Fin 8192) (k : Fin 6144) : val_main_v56 (F := Ideal) (wd m c) (cts m c) (ix2 r k) = dout m c k r := by
  unfold dout
  pointwise [val_main_v56, val_main_v54]

/-! ## The gradients that reach the gate and the value -/

variable (h0 : ∀ i, IsReal (hs m c i)) (h1 : ∀ i, IsReal (wu m c i)) (h2 : ∀ i, IsReal (tp m c i)) (h3 : ∀ i, IsReal (sh m c i))
variable (h4 : ∀ i, IsReal (wd m c i)) (h5 : ∀ i, IsReal (cts m c i))

include h0 h1 in
theorem up_real (q : Fin 12288) (r : Fin 8192) : IsReal (up m c q r) := IsReal.sum fun _ => (h0 _).mul (h1 _)

theorem back_real (n : ℕ) {x : Fin 8192 → EReal} (hx : ∀ r, IsReal (x r)) (r : Fin 8192) : IsReal (back n x r) := by
  unfold back
  split
  · exact hx _
  · exact isReal_coe 0

include h0 h1 h2 h3 in
theorem conv_real (q : Fin 12288) (r : Fin 8192) : IsReal (conv m c q r) :=
  have hb (n : ℕ) := back_real n (up_real m c h0 h1 q) r
  (((h2 _).mul (hb 0)).add ((h2 _).mul (hb 1)) |>.add ((h2 _).mul (hb 2))).add (h3 _)

include h0 h1 h2 h3 in
/-- The gate, activated. -/
theorem active_apply (r : Fin 8192) (k : Fin 6144) :
    val_main_v52 (F := Ideal) (hs m c) (wu m c) (tp m c) (sh m c) (ix2 r k) = act (conv m c (col 0 k) r) := by
  have e : val_main_v52 (F := Ideal) (hs m c) (wu m c) (tp m c) (sh m c) (ix2 r k)
      = act' (val_main_v30 (F := Ideal) (hs m c) (wu m c) (tp m c) (sh m c) (ix2 r k)) := by
    pointwise [val_main_v52, val_main_v51, val_main_v50, val_main_v49, val_main_v48,
      val_main_v42, val_main_v41, val_main_v40, val_main_v39, val_main_v38, val_main_v37, val_main_v33,
      val_main_v32, val_main_cst_2, val_main_cst_3, val_main_cst_6, val_main_cst_7]
    rfl
  rw [e, gate_apply, act_eq (conv_real m c h0 h1 h2 h3 _ _)]

include h4 h5 in
theorem dout_real (k : Fin 6144) (r : Fin 8192) : IsReal (dout m c k r) := IsReal.sum fun _ => (h5 _).mul (h4 _)

include h0 h1 h2 h3 h4 h5

theorem dgate_apply (r : Fin 8192) (k : Fin 6144) :
    val_main_v70 (F := Ideal) (hs m c) (wu m c) (tp m c) (sh m c) (wd m c) (cts m c) (ix2 r k) = grad m c 0 k r := by
  have e : val_main_v70 (F := Ideal) (hs m c) (wu m c) (tp m c) (sh m c) (wd m c) (cts m c) (ix2 r k)
      = actBack (val_main_v30 (F := Ideal) (hs m c) (wu m c) (tp m c) (sh m c) (ix2 r k))
        (val_main_v56 (F := Ideal) (wd m c) (cts m c) (ix2 r k) * val_main_v31 (F := Ideal) (hs m c) (wu m c) (tp m c) (sh m c) (ix2 r k)) := by
    pointwise [val_main_v70, val_main_v69, val_main_v68, val_main_v67, val_main_v66, val_main_v65, val_main_v64, val_main_v63, val_main_v62, val_main_v61,
      val_main_v60, val_main_v59, val_main_v58, val_main_v51, val_main_v50, val_main_v49, val_main_v48, val_main_v47, val_main_v46, val_main_v45, val_main_v44,
      val_main_v43, val_main_v42, val_main_v41, val_main_v40, val_main_v39, val_main_v38, val_main_v37, val_main_v36, val_main_v35, val_main_v34, val_main_v33,
      val_main_v32, val_main_cst_1, val_main_cst_2, val_main_cst_3, val_main_cst_4, val_main_cst_5, val_main_cst_6, val_main_cst_7, val_main_cst_8,
      val_main_cst_9, val_main_cst_10]
    rfl
  rw [e, gate_apply, value_apply, dout_apply]
  exact actBack_eq (conv_real m c h0 h1 h2 h3 _ _) ((dout_real m c h4 h5 _ _).mul (conv_real m c h0 h1 h2 h3 _ _))

theorem dvalue_apply (r : Fin 8192) (k : Fin 6144) :
    val_main_v57 (F := Ideal) (hs m c) (wu m c) (tp m c) (sh m c) (wd m c) (cts m c) (ix2 r k) = grad m c 1 k r := by
  have e : val_main_v57 (F := Ideal) (hs m c) (wu m c) (tp m c) (sh m c) (wd m c) (cts m c) (ix2 r k)
      = val_main_v52 (F := Ideal) (hs m c) (wu m c) (tp m c) (sh m c) (ix2 r k) * val_main_v56 (F := Ideal) (wd m c) (cts m c) (ix2 r k) := by
    pointwise [val_main_v57]
  rw [e, active_apply m c h0 h1 h2 h3, dout_apply, mul_comm]
  rfl

/-- Both halves' gradient, side by side. -/
theorem grad_apply (r : Fin 8192) (s : Fin 2) (k : Fin 6144) :
    val_main_v71 (F := Ideal) (hs m c) (wu m c) (tp m c) (sh m c) (wd m c) (cts m c) (ix2 r (col s k)) = grad m c s k r := by
  match s with
  | 0 =>
    refine Eq.trans ?_ (dgate_apply m c h0 h1 h2 h3 h4 h5 r k)
    pointwise [val_main_v71]
  | 1 =>
    refine Eq.trans ?_ (dvalue_apply m c h0 h1 h2 h3 h4 h5 r k)
    pointwise [val_main_v71]

/-! ## The results -/

omit h0 h1 h2 h3 h4 h5

/-- The gradient of a tap: a row sum of the product so many rows before, times the gradient. -/
theorem tap_entry (u : Fin 3) (q : Fin 12288) :
    val_main_v103 (F := Ideal) (hs m c) (wu m c) (tp m c) (sh m c) (wd m c) (cts m c) (ix2 u q)
      = ∑ r, back (2 - u.val) (up m c q) r * val_main_v71 (F := Ideal) (hs m c) (wu m c) (tp m c) (sh m c) (wd m c) (cts m c) (ix2 r q) := by
  match u with
  | 0 =>
    refine Eq.trans ?_ (Finset.sum_congr rfl fun r _ => congrArg (· * _) (back2 m c r q))
    pointwise [val_main_v103, val_main_v102, val_main_v101, val_main_v100, val_main_v97, val_main_v96, val_main_v95, val_main_v89, val_main_v88, val_main_v79,
      val_main_cst_13, val_main_cst_17, val_main_cst_21, val_main_cst_22, val_main_cst_23]
    simp [q.isLt]
  | 1 =>
    refine Eq.trans ?_ (Finset.sum_congr rfl fun r _ => congrArg (· * _) (back1 m c r q))
    pointwise [val_main_v103, val_main_v102, val_main_v89, val_main_v88, val_main_v87, val_main_v86, val_main_v83, val_main_v82, val_main_v81, val_main_v79,
      val_main_cst_13, val_main_cst_15, val_main_cst_16, val_main_cst_17, val_main_cst_23]
    simp [q.isLt]
  | 2 =>
    refine Eq.trans ?_ (Finset.sum_congr rfl fun r _ => congrArg (· * _) (back0 m c r q))
    pointwise [val_main_v103, val_main_v102, val_main_v89, val_main_v88, val_main_v79, val_main_v78, val_main_v77, val_main_v74, val_main_v73, val_main_v72,
      val_main_cst_11, val_main_cst_12, val_main_cst_13, val_main_cst_17, val_main_cst_23]
    simp [q.isLt]

/-- The gradient of a shift: the row sum of the gradient. -/
theorem shift_entry (q : Fin 12288) :
    val_main_v94 (F := Ideal) (hs m c) (wu m c) (tp m c) (sh m c) (wd m c) (cts m c) (ix1 q)
      = ∑ r, val_main_v71 (F := Ideal) (hs m c) (wu m c) (tp m c) (sh m c) (wd m c) (cts m c) (ix2 r q) := by
  pointwise [val_main_v94, val_main_v93, val_main_v92, val_main_cst_19, val_main_cst_20]
  simp

/-- A row of the product's gradient: the gradient of this row and of the next two, at the three taps. -/
theorem moved_entry (q : Fin 12288) (r : Fin 8192) (E : Fin 8192 → EReal)
    (hE : ∀ r, val_main_v71 (F := Ideal) (hs m c) (wu m c) (tp m c) (sh m c) (wd m c) (cts m c) (ix2 r q) = E r) :
    val_main_v107 (F := Ideal) (hs m c) (wu m c) (tp m c) (sh m c) (wd m c) (cts m c) (ix2 r q)
      = (tp m c (ix3 0 2 q) * ahead 0 E r + tp m c (ix3 0 1 q) * ahead 1 E r) + tp m c (ix3 0 0 q) * ahead 2 E r := by
  have one (n : ℕ) (t : EReal) : (if h : n + r.1 < 8192 then
      val_main_v71 (F := Ideal) (hs m c) (wu m c) (tp m c) (sh m c) (wd m c) (cts m c) (ix2 ⟨n + r.1, h⟩ q) * t else 0) = t * ahead n E r := by
    unfold ahead
    by_cases h : n + r.1 < 8192
    · rw [dif_pos h, dif_pos (by omega), hE, mul_comm]
      exact congrArg (t * E ·) (Fin.ext (Nat.add_comm _ _))
    · rw [dif_neg h, dif_neg (by omega), mul_zero]
  have low : 1 ≤ 2 + r.1 := by omega
  rw [← one, ← one, ← one]
  pointwise [val_main_v107, val_main_v105, val_main_v104, val_main_v99, val_main_v98, val_main_v91, val_main_v90, val_main_v85, val_main_v84, val_main_v80,
      val_main_v76, val_main_v75, val_main_v26, val_main_v25, val_main_v24, val_main_v19, val_main_v18, val_main_v17, val_main_v10, val_main_v9, val_main_v8, val_main_v2,
      val_main_cst_14, val_main_cst_18, val_main_cst_24]
  simp [q.isLt, low]

include h0 h1 h2 h3 h4 h5

/-- The gradients of the product, of the taps and of the shifts, in the kernel's form. -/
theorem tap_apply (s : Fin 2) (u : Fin 3) (k : Fin 6144) :
    val_main_v103 (F := Ideal) (hs m c) (wu m c) (tp m c) (sh m c) (wd m c) (cts m c) (ix2 u (col s k)) = ∑ r, dtap m c s u k r := by
  unfold dtap
  rw [← sum_back, tap_entry]
  exact Finset.sum_congr rfl fun r _ => congrArg (_ * ·) (grad_apply m c h0 h1 h2 h3 h4 h5 r s k)

theorem shift_apply (s : Fin 2) (k : Fin 6144) :
    val_main_v94 (F := Ideal) (hs m c) (wu m c) (tp m c) (sh m c) (wd m c) (cts m c) (ix1 (col s k)) = ∑ r, dshift m c s k r := by
  rw [shift_entry]
  exact Finset.sum_congr rfl fun r _ => (grad_apply m c h0 h1 h2 h3 h4 h5 r s k).trans (ahead_zero _ r).symm

theorem moved_apply (s : Fin 2) (k : Fin 6144) (r : Fin 8192) :
    val_main_v107 (F := Ideal) (hs m c) (wu m c) (tp m c) (sh m c) (wd m c) (cts m c) (ix2 r (col s k)) = dup m c s k r :=
  moved_entry m c (col s k) r (grad m c s k) fun r => grad_apply m c h0 h1 h2 h3 h4 h5 r s k

theorem dup_eq (s : Fin 2) (r : Fin 8192) (k : Fin 6144) :
    val_main_v112 (F := Ideal) (hs m c) (wu m c) (tp m c) (sh m c) (wd m c) (cts m c) (ix3 s r k) = dup m c s k r := by
  refine Eq.trans ?_ (moved_apply m c h0 h1 h2 h3 h4 h5 s k r)
  pointwise [val_main_v112, val_main_v111, val_main_v110]
  exact congrArg (fun q => val_main_v107 (F := Ideal) (hs m c) (wu m c) (tp m c) (sh m c) (wd m c) (cts m c) (ix2 r q)) (Fin.ext (by dsimp only; omega))

theorem tapG_eq (u : Fin 3) (k : Fin 6144) :
    val_main_v114 (F := Ideal) (hs m c) (wu m c) (tp m c) (sh m c) (wd m c) (cts m c) (ix2 u k) = ∑ r, dtap m c 0 u k r := by
  refine Eq.trans ?_ (tap_apply m c h0 h1 h2 h3 h4 h5 0 u k)
  pointwise [val_main_v114, val_main_v113, val_main_v109]
  exact congrArg (fun q => val_main_v103 (F := Ideal) (hs m c) (wu m c) (tp m c) (sh m c) (wd m c) (cts m c) (ix2 u q)) (Fin.ext (by show k.1 = 6144 * 0 + k.1; omega))

theorem tapV_eq (u : Fin 3) (k : Fin 6144) :
    val_main_v116 (F := Ideal) (hs m c) (wu m c) (tp m c) (sh m c) (wd m c) (cts m c) (ix2 u k) = ∑ r, dtap m c 1 u k r := by
  refine Eq.trans ?_ (tap_apply m c h0 h1 h2 h3 h4 h5 1 u k)
  pointwise [val_main_v116, val_main_v115, val_main_v109]
  exact congrArg (fun q => val_main_v103 (F := Ideal) (hs m c) (wu m c) (tp m c) (sh m c) (wd m c) (cts m c) (ix2 u q)) (Fin.ext (by show 6144 + k.1 = 6144 * 1 + k.1; omega))

theorem shiftG_eq (k : Fin 6144) :
    val_main_v117 (F := Ideal) (hs m c) (wu m c) (tp m c) (sh m c) (wd m c) (cts m c) (ix2 0 k) = ∑ r, dshift m c 0 k r := by
  refine Eq.trans ?_ (shift_apply m c h0 h1 h2 h3 h4 h5 0 k)
  pointwise [val_main_v117, val_main_v108]
  exact congrArg (fun q => val_main_v94 (F := Ideal) (hs m c) (wu m c) (tp m c) (sh m c) (wd m c) (cts m c) (ix1 q)) (Fin.ext (by show k.1 = 6144 * 0 + k.1; omega))

theorem shiftV_eq (k : Fin 6144) :
    val_main_v118 (F := Ideal) (hs m c) (wu m c) (tp m c) (sh m c) (wd m c) (cts m c) (ix2 0 k) = ∑ r, dshift m c 1 k r := by
  refine Eq.trans ?_ (shift_apply m c h0 h1 h2 h3 h4 h5 1 k)
  pointwise [val_main_v118, val_main_v108]
  exact congrArg (fun q => val_main_v94 (F := Ideal) (hs m c) (wu m c) (tp m c) (sh m c) (wd m c) (cts m c) (ix1 q)) (Fin.ext (by show 6144 + k.1 = 6144 * 1 + k.1; omega))

omit h4 h5

theorem out_eq (r : Fin 8192) (k : Fin 6144) :
    val_main_v119 (F := Ideal) (hs m c) (wu m c) (tp m c) (sh m c) (ix2 r k) = out m c k r := by
  have e : val_main_v119 (F := Ideal) (hs m c) (wu m c) (tp m c) (sh m c) (ix2 r k)
      = val_main_v52 (F := Ideal) (hs m c) (wu m c) (tp m c) (sh m c) (ix2 r k)
        * val_main_v31 (F := Ideal) (hs m c) (wu m c) (tp m c) (sh m c) (ix2 r k) := by
    pointwise [val_main_v119, val_main_v53]
  rw [e, active_apply m c h0 h1 h2 h3, value_apply]
  rfl

end Cert.FfnRefIdeal.Entries

end
-- ==== Proof.FfnClaim.lean ====
/- The claims of the feed-forward block's gradient: both programs run, and end with the same six arrays. -/
module

public import proofs.«01_k».proof.Defs
public import proofs.«01_k».proof.Proof.FfnRun
public import proofs.«01_k».proof.Proof.FfnEq
public import proofs.«01_k».proof.Proof.Gen.FfnRefIdeal.Run
public import proofs.«01_k».proof.Proof.Gen.Pre_ffn_finite

@[expose] public section

set_option maxRecDepth 16384

noncomputable section

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource model of the run. -/
abbrev Model := MT nD τ sig Unit (Elt Ideal) ℕ (UR sig nD τ) ℕ

variable (m : (ℓ : Loc nD τ sig) → Buf (Elt Ideal) ℓ) (ρ : Dev nD → PrngReg)

set_option backward.isDefEq.respectTransparency.types false in
/-- The frame's launch, read at the results as well: each result array ends with what the last boundary holds. -/
theorem run : θ_run defs (onTc (τ := τ) (main (F := Ideal))) ⟨m, fun _ => 0, ρ⟩ (fun r => ∀ c : Dev nD,
      r.2.mem ((c.tc : Thread nD τ).loc main_v11_0) = W4 m ρ c (Proc.devRef .tc main_v11_0)
      ∧ r.2.mem ((c.tc : Thread nD τ).loc main_v11_1) = W4 m ρ c (Proc.devRef .tc main_v11_1)
      ∧ r.2.mem ((c.tc : Thread nD τ).loc main_v11_2) = W4 m ρ c (Proc.devRef .tc main_v11_2)
      ∧ r.2.mem ((c.tc : Thread nD τ).loc main_v11_3) = W4 m ρ c (Proc.devRef .tc main_v11_3)
      ∧ r.2.mem ((c.tc : Thread nD τ).loc main_v11_4) = W4 m ρ c (Proc.devRef .tc main_v11_4)
      ∧ r.2.mem ((c.tc : Thread nD τ).loc main_v6_2) = W4 m ρ c (Proc.devRef .tc main_v6_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Model)
            ⊢ BI.own (emb₁ (initOf (Pipeline.cells cfgs cellOf_inj) (Pipeline.launchToks cfgs cellOf_inj))) from .rfl)
        iexact Hu
      iapply (show (BI.emp : sProp Model) ⊢ bigSep Finset.univ (fun _ : Dev nD => (BI.emp : sProp Model)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v11_0 (by decide)), h c _ (mem_uc main_v11_1 (by decide)), h c _ (mem_uc main_v11_2 (by decide)), h c _ (mem_uc main_v11_3 (by decide)), h c _ (mem_uc main_v11_4 (by decide)), h c _ (mem_uc main_v6_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.FfnIdeal.Run

open Idealize.ShloMosaic Idealize.ShloMosaic.TcCoe Idealize.SL.Sem

namespace Cert.FfnClaim

open Cert.Reals Cert.FfnIdeal.Fold Cert.FfnIdeal.Run Cert.FfnRefIdeal.Read Cert.FfnRefIdeal.Entries

variable {m : (ℓ : Loc Cert.FfnIdeal.nD Cert.FfnIdeal.τ Cert.FfnIdeal.sig) → Buf (Elt Ideal) ℓ}

/-- The precondition read at the arrays. -/
theorem finite (h : Cert.Pre_FfnIdeal_ffn_finite (hPre_ffn_finite := Cert.Pre_ffn_finite.Gen.facts) m) (c : Dev Cert.FfnIdeal.nD) :
    (∀ i, IsReal (hs m c i)) ∧ (∀ i, IsReal (wu m c i)) ∧ (∀ i, IsReal (tp m c i)) ∧ (∀ i, IsReal (sh m c i)) ∧ (∀ i, IsReal (wd m c i))
      ∧ ∀ i, IsReal (cts m c i) := by
  obtain ⟨h0, h1, h2, h3, h4, h5⟩ := h c
  exact ⟨isReal_of_mask _ _ h0, isReal_of_mask _ _ h1, isReal_of_mask _ _ h2, isReal_of_mask _ _ h3, isReal_of_mask _ _ h4, isReal_of_mask _ _ h5⟩

theorem value : Cert.algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  intro m g m' g' hp hm
  refine ⟨fun c => Cert.FfnIdeal.Gen.W4 m g c _, fun c => Cert.FfnIdeal.Gen.W4 m g c _, fun c => Cert.FfnIdeal.Gen.W4 m g c _,
    fun c => Cert.FfnIdeal.Gen.W4 m g c _, fun c => Cert.FfnIdeal.Gen.W4 m g c _, fun c => Cert.FfnIdeal.Gen.W4 m g c _, Cert.FfnIdeal.Run.run m g, ?_⟩
  refine (θ_run _ _ _).mono (fun r h c => ?_) (Cert.FfnRefIdeal.Value.run (F := Ideal) m' g')
  obtain ⟨e0, e1, e2, e3, e4, e5, ha⟩ := h c
  obtain ⟨a0, a1, a2, a3, a4, a5⟩ := hm c
  obtain ⟨h0, h1, h2, h3, h4, h5⟩ := finite hp c
  have b0 : StableHlo.launchContents m' c (Proc.devRef .tc Cert.FfnRefIdeal.main_arg0) = hs m c := a0
  have b1 : StableHlo.launchContents m' c (Proc.devRef .tc Cert.FfnRefIdeal.main_arg1) = wu m c := a1
  have b2 : StableHlo.launchContents m' c (Proc.devRef .tc Cert.FfnRefIdeal.main_arg2) = tp m c := a2
  have b3 : StableHlo.launchContents m' c (Proc.devRef .tc Cert.FfnRefIdeal.main_arg3) = sh m c := a3
  have b4 : StableHlo.launchContents m' c (Proc.devRef .tc Cert.FfnRefIdeal.main_arg4) = wd m c := a4
  have b5 : StableHlo.launchContents m' c (Proc.devRef .tc Cert.FfnRefIdeal.main_arg5) = cts m c := a5
  replace e0 := e0.trans (val_main_v112_eq _)
  replace e1 := e1.trans (val_main_v114_eq _)
  replace e2 := e2.trans (val_main_v116_eq _)
  replace e3 := e3.trans (val_main_v117_eq _)
  replace e4 := e4.trans (val_main_v118_eq _)
  replace e5 := e5.trans (val_main_v119_eq _)
  rw [b0, b1, b2, b3, b4, b5] at e0 e1 e2 e3 e4
  rw [b0, b1, b2, b3] at e5
  refine ⟨e0.trans ?_, e1.trans ?_, e2.trans ?_, e3.trans ?_, e4.trans ?_, e5.trans ?_, ha⟩
  · refine Eq.trans (funext fun i => ?_) (final_dup m g c).symm
    obtain ⟨s, r, k, rfl⟩ : ∃ (s : Fin 2) (r : Fin 8192) (k : Fin 6144), i = ix3 s r k := ⟨i 0, i 1, i 2, eq_ix3 i⟩
    exact dup_eq m c h0 h1 h2 h3 h4 h5 s r k
  · refine Eq.trans (funext fun i => ?_) (final_tapG m g c).symm
    obtain ⟨u, k, rfl⟩ : ∃ (u : Fin 3) (k : Fin 6144), i = ix2 u k := ⟨i 0, i 1, eq_ix2 i⟩
    exact tapG_eq m c h0 h1 h2 h3 h4 h5 u k
  · refine Eq.trans (funext fun i => ?_) (final_tapV m g c).symm
    obtain ⟨u, k, rfl⟩ : ∃ (u : Fin 3) (k : Fin 6144), i = ix2 u k := ⟨i 0, i 1, eq_ix2 i⟩
    exact tapV_eq m c h0 h1 h2 h3 h4 h5 u k
  · refine Eq.trans (funext fun i => ?_) (final_shiftG m g c).symm
    obtain ⟨k, rfl⟩ : ∃ k : Fin 6144, i = ix2 0 k := ⟨i 1, (eq_ix2 i).trans (congrArg (fun z : Fin 1 => ix2 z (i 1)) (Subsingleton.elim _ _))⟩
    exact shiftG_eq m c h0 h1 h2 h3 h4 h5 k
  · refine Eq.trans (funext fun i => ?_) (final_shiftV m g c).symm
    obtain ⟨k, rfl⟩ : ∃ k : Fin 6144, i = ix2 0 k := ⟨i 1, (eq_ix2 i).trans (congrArg (fun z : Fin 1 => ix2 z (i 1)) (Subsingleton.elim _ _))⟩
    exact shiftV_eq m c h0 h1 h2 h3 h4 h5 k
  · refine Eq.trans (funext fun i => ?_) (final_out m g c).symm
    obtain ⟨r, k, rfl⟩ : ∃ (r : Fin 8192) (k : Fin 6144), i = ix2 r k := ⟨i 0, i 1, eq_ix2 i⟩
    exact out_eq m c h0 h1 h2 h3 r k

theorem frame_ref : Cert.quiescent_FfnRefIdeal (hFfnRefIdeal := Cert.FfnRefIdeal.Gen.facts) := fun m g _ =>
  (θ_run _ _ _).mono (fun r h => ⟨fun c => (h c).2.2.2.2.2.2, sem_eq_zero_of_no_sems (by decide) r.2⟩) (Cert.FfnRefIdeal.Value.run m g)

end Cert.FfnClaim

end
-- ==== Proof.GmFwdEq.lean ====
/- The gated unit's forward call: the entries of the reference's values, row by row, in the unit's formulas. They hold of every
   array, whatever its entries: the two ways of writing the activation agree at the infinities too. -/
module

public import proofs.«01_k».proof.Proof.GmEntries
public import proofs.«01_k».proof.Proof.Gen.GmFwdRefIdeal.Read
public import Idealize.ShloMosaic.Lib.Pointwise

@[expose] public section

set_option maxRecDepth 16384

noncomputable section

open Idealize.ShloMosaic Idealize.ShloMosaic.TcCoe Idealize.SL.Sem

namespace Cert.GmFwdRefIdeal.Entries

open Cert.GmFwdRefIdeal Cert.GmFwdRefIdeal.Gen Cert.GmFwdRefIdeal.Read Cert.Reals
open Cert.GmIdeal.Cases (masked)
open Cert.GmRefIdeal.Entries (spot wide line wt bt col_eq split_eq col_split)
open Cert.Gate (half root cube rootCube act act' bend share share' col)

/-! ## The activation -/

theorem act_top : act' ⊤ = act ⊤ := by
  have hr : (0 : ℝ) < 6693141 / 8388608 := by norm_num
  have hc : (0 : ℝ) < 12003091 / 268435456 := by norm_num
  have e1 : bend ⊤ = 1 := by
    unfold bend
    rw [Gate.lit_root, Gate.lit_cube, EReal.top_mul_top, EReal.top_mul_top, EReal.coe_mul_top_of_pos hc, EReal.top_add_top, EReal.coe_mul_top_of_pos hr,
      Ideal.tanh_top]
  have e2 : Ideal.tanh (⊤ * (rootCube * (⊤ * ⊤) + root)) = 1 := by
    rw [EReal.top_mul_top, Gate.lit_root, show rootCube = (((6693141 / 8388608) * (12003091 / 268435456) : ℝ) : EReal) from rfl,
      EReal.coe_mul_top_of_pos (mul_pos hr hc), EReal.top_add_coe, EReal.top_mul_top, Ideal.tanh_top]
  unfold act' act share' share
  rw [e1, e2, show half = _ from lit_half, show (1 : EReal) = ((1 : ℝ) : EReal) from rfl]
  simp only [← EReal.coe_mul, ← EReal.coe_add]
  norm_num

theorem act_bot : act' ⊥ = act ⊥ := by
  have hr : (0 : ℝ) < 6693141 / 8388608 := by norm_num
  have hc : (0 : ℝ) < 12003091 / 268435456 := by norm_num
  have e1 : bend ⊥ = -1 := by
    unfold bend
    rw [Gate.lit_root, Gate.lit_cube, EReal.bot_mul_bot, EReal.top_mul_bot, EReal.coe_mul_bot_of_pos hc, EReal.bot_add, EReal.coe_mul_bot_of_pos hr,
      Ideal.tanh_bot]
  have e2 : Ideal.tanh (⊥ * (rootCube * (⊥ * ⊥) + root)) = -1 := by
    rw [EReal.bot_mul_bot, Gate.lit_root, show rootCube = (((6693141 / 8388608) * (12003091 / 268435456) : ℝ) : EReal) from rfl,
      EReal.coe_mul_top_of_pos (mul_pos hr hc), EReal.top_add_coe, EReal.bot_mul_top, Ideal.tanh_bot]
  unfold act' act share' share
  rw [e1, e2, show half = _ from lit_half, show (-1 : EReal) = ((-1 : ℝ) : EReal) from rfl, show (1 : EReal) = ((1 : ℝ) : EReal) from rfl]
  simp only [← EReal.coe_mul, ← EReal.coe_add]
  norm_num

theorem act_all (z : EReal) : act' z = act z := by
  induction z with
  | bot => exact act_bot
  | top => exact act_top
  | coe z => exact Gate.act_eq (isReal_coe z)

variable (x0 : FVec Ideal S8192x4096 .f32) (x1 x2 : FVec Ideal S1x1024 .f32) (x3 : FVec Ideal S1x8x128x128 .f32)
  (x4 : FVec Ideal S1x8x128 .f32) (x5 : FVec Ideal S1x1024 .f32)

theorem act_at (r : Fin 8192) (j : Fin 2048) : val_main_v13 (F := Ideal) x0 (ix2 r j) = act (x0 (ix2 r ⟨j.1, by omega⟩)) := by
  rw [← act_all]
  pointwise [val_main_v0, val_main_v1, val_main_v2, val_main_cst, val_main_v3, val_main_v4, val_main_v5, val_main_cst_0, val_main_v6, val_main_v7,
    val_main_v8, val_main_cst_1, val_main_v9, val_main_v10, val_main_cst_2, val_main_v11, val_main_v12, val_main_v13]
  rfl

theorem gate_at (k : Fin 64) (p : Fin 128) (j : Fin 1024) : val_main_v14 (F := Ideal) x0 (ix2 (spot k p) j) = Gate.gate (wide x0 k p) j := by
  have e := act_at x0 (spot k p) ⟨j.1, by omega⟩
  pointwise [val_main_v14]
  exact e

theorem value_at (k : Fin 64) (p : Fin 128) (j : Fin 1024) : val_main_v15 (F := Ideal) x0 (ix2 (spot k p) j) = Gate.value (wide x0 k p) j := by
  have e := act_at x0 (spot k p) (Gate.right j)
  pointwise [val_main_v15]
  exact e

/-! ## The row normalisation and the mixing -/

theorem center_at (k : Fin 64) (p : Fin 128) (j : Fin 1024) :
    val_main_v23 (F := Ideal) x0 (ix2 (spot k p) j) = Gate.center Gate.width (Gate.value (wide x0 k p)) j := by
  pointwise [val_main_cst_3, val_main_v18, val_main_v19, val_main_cst_4, val_main_v20, val_main_v21, val_main_v22, val_main_v23]
  simp only [value_at]
  rfl

theorem recip_at (k : Fin 64) (p : Fin 128) :
    val_main_v31 (F := Ideal) x0 (ix2 (spot k p) 0) = Gate.recip Gate.width Gate.epsL (Gate.value (wide x0 k p)) := by
  pointwise [val_main_v24, val_main_cst_5, val_main_v25, val_main_v26, val_main_cst_6, val_main_v27, val_main_v28, val_main_cst_7, val_main_v29, val_main_v30,
    val_main_v31]
  simp only [center_at]
  rfl

theorem normed_at (k : Fin 64) (p : Fin 128) (j : Fin 1024) :
    val_main_v39 (F := Ideal) x0 x1 x2 (ix2 (spot k p) j) = Gate.normed (line x1) (line x2) (wide x0 k p) j := by
  pointwise [val_main_v16, val_main_v17, val_main_v32, val_main_v33, val_main_v34, val_main_v35, val_main_v36, val_main_v37, val_main_v38, val_main_v39]
  rw [recip_at, center_at]
  rfl

theorem parts_at (k : Fin 64) (p : Fin 128) (h : Fin 8) (q : Fin 128) :
    val_main_v40 (F := Ideal) x0 x1 x2 (ix4 k p h q) = Gate.normed (line x1) (line x2) (wide x0 k p) (col h q) := by
  rw [val_main_v40_apply, col_eq k p h q (idx_main_v40 (ix4 k p h q)) rfl rfl, normed_at]

/-- The causal mask, and the masked weights. -/
theorem mask_at (h : Fin 8) (p s : Fin 128) (x y : EReal) :
    Scalar.select (val_main_call1_v0 (F := Ideal) (ix3 h p s)) x y = if s ≤ p then x else y := by
  pointwise [val_main_c, val_main_v41, val_main_call0_v0, val_main_call0_c, val_main_call0_v1, val_main_call0_v2, val_main_call0_v3, val_main_call0_v4,
    val_main_call0_c_0, val_main_call0_v5, val_main_v42, val_main_v43, val_main_call1_v0]
  rw [show IntOp.addi (BitVec.ofNat 32 p.1) 0#32 = BitVec.ofNat 32 p.1 from BitVec.add_zero _, ← masked p s x y]
  generalize IntOp.cmpi CmpIPredicate.sge (BitVec.ofNat 32 p.1) (BitVec.ofNat 32 s.1) = c
  rcases BitVec.eq_zero_or_eq_one c with rfl | rfl <;> rfl

theorem weight_at (h : Fin 8) (p s : Fin 128) : val_main_v45 (F := Ideal) x3 (ix3 h p s) = if s ≤ p then wt x3 h p s else 0 := by
  have e := mask_at h p s (wt x3 h p s) 0
  pointwise [val_main_v44, val_main_cst_8, val_main_call1_v1, val_main_v45]
  exact e

theorem mixed_at (k : Fin 64) (p : Fin 128) (j : Fin 1024) :
    val_main_v53 (F := Ideal) x0 x1 x2 x3 x4 (ix2 (spot k p) j) = Gate.mixed (line x1) (line x2) (wt x3) (bt x4) (wide x0 k) p j := by
  rw [val_main_v53_apply, split_eq k p j (idx_main_v53 (ix2 (spot k p) j)) rfl rfl rfl rfl]
  pointwise [val_main_v46, val_main_v47, val_main_v48, val_main_v49, val_main_v50, val_main_v51, val_main_v52]
  simp only [parts_at, weight_at, col_split, mul_ite, mul_zero]
  refine congrArg (· + _) (Finset.sum_congr rfl fun s _ => ?_)
  rw [mul_comm]

theorem gated_at (k : Fin 64) (p : Fin 128) (j : Fin 1024) :
    val_main_v54 (F := Ideal) x0 x1 x2 x3 x4 (ix2 (spot k p) j) = Gate.gated (line x1) (line x2) (wt x3) (bt x4) (wide x0 k) p j := by
  pointwise [val_main_v54]
  rw [gate_at, mixed_at]
  rfl

theorem rrms_at (k : Fin 64) (p : Fin 128) : val_main_v63 (F := Ideal) x0 x1 x2 x3 x4 (ix2 (spot k p) 0)
    = RowNorm.rrms Gate.width Gate.epsR (Gate.gated (line x1) (line x2) (wt x3) (bt x4) (wide x0 k) p) := by
  pointwise [val_main_v56, val_main_cst_9, val_main_v57, val_main_v58, val_main_cst_10, val_main_v59, val_main_v60, val_main_cst_11, val_main_v61, val_main_v62,
    val_main_v63]
  simp only [gated_at]
  rfl

/-- The written half of the result: the gated rows, normalised and scaled. -/
theorem out_at (k : Fin 64) (p : Fin 128) (j : Fin 1024) : val_main_v71 (F := Ideal) x0 x1 x2 x3 x4 x5 (ix2 (spot k p) ⟨j.1, by omega⟩)
    = Gate.gated (line x1) (line x2) (wt x3) (bt x4) (wide x0 k) p j
      * RowNorm.rrms Gate.width Gate.epsR (Gate.gated (line x1) (line x2) (wt x3) (bt x4) (wide x0 k) p) * line x5 j := by
  have hj := j.2
  pointwise [val_main_v55, val_main_v64, val_main_v65, val_main_v66, val_main_v67, val_main_v68, val_main_v70, val_main_v71]
  rw [gated_at, rrms_at]
  rfl

end Cert.GmFwdRefIdeal.Entries

end
-- ==== Proof.GmFwdTile.lean ====
/- A tile of the gated unit's forward call, read from the body's own run values at an index: the gate, the normalised values, the
   mixed values it keeps in its scratch, and the gated rows it leaves, normalised and scaled. -/
module

public import proofs.«01_k».proof.Proof.GmTile
public import proofs.«01_k».proof.Proof.Gen.GmFwdIdeal.Value
public import Idealize.ShloMosaic.Lib.Tactic

@[expose] public section
set_option maxRecDepth 16384
noncomputable section
open Idealize.ShloMosaic Idealize.ShloMosaic.TcCoe Idealize.SL.Sem
namespace Cert.GmFwdIdeal.Cases
open Cert.GmFwdIdeal Cert.GmFwdIdeal.Gen
open Cert.GmIdeal.Cases (off2 at4 chunk place at4_chunk chunk_at4 place_at4 rows line heads whole2 head_load masked whole_cov)

/-- The activation's folded constant. -/
theorem rootCube_eq : Named.named (F := Ideal) κ "root_cube" (φ := .f32) 1024598649#32 = Gate.rootCube :=
  IdealRules.named_const.ideal_named_scalar _ _ _ _ rfl

section Tile

variable (c : Dev nD) (a1 : Memref sig .tc .vmem S512x2048 .f32) (h1 : a1.IsWhole) (a2 : Memref sig .tc .vmem S1x1024 .f32) (h2 : a2.IsWhole)
  (a3 : Memref sig .tc .vmem S1x1024 .f32) (h3 : a3.IsWhole) (a4 : Memref sig .tc .vmem S8x128x128 .f32) (h4 : a4.IsWhole)
  (a5 : Memref sig .tc .vmem S8x128x128 .f32) (h5 : a5.IsWhole) (a6 : Memref sig .tc .vmem S1x1024 .f32) (h6 : a6.IsWhole)
  (a7 : Memref sig .tc .vmem S512x1024 .bf16) (h7 : a7.IsWhole) (a8 : Memref sig .tc .vmem S512x1024 .f32) (h8 : a8.IsWhole)
  (x0 : Vec Ideal S512x2048 .f32) (x1 x2 : Vec Ideal S1x1024 .f32) (x3 x4 : Vec Ideal S8x128x128 .f32) (x5 : Vec Ideal S1x1024 .f32)

theorem gate_at (a : Fin 512) (j : Fin 1024) : kernelRun0_A.sl.r (F := Ideal) c a1 h1 x0 (ix2 a j) = Gate.gate (fun k => x0 (ix2 a k)) j := by
  unfold kernelRun0_A.sl.r
  rw [whole2 a1 h1 x0 _ off2]
  pointwise [k0_pay2, k0_pay3]
  rw [rootCube_eq]
  rfl

theorem normed_at (a : Fin 512) (j : Fin 1024) :
    kernelRun0_A.sl.r_1 (F := Ideal) c a1 h1 a2 h2 a3 h3 x0 x1 x2 (ix2 a j) = Gate.normed (line x1) (line x2) (fun k => x0 (ix2 a k)) j := by
  unfold kernelRun0_A.sl.r_1
  rw [whole2 a1 h1 x0 _ off2, whole2 a2 h2 x1 _ off2, whole2 a3 h3 x2 _ off2]
  pointwise [k0_pay2, k0_pay4]
  rw [rootCube_eq]
  rfl

theorem normed_row (a : Fin 512) (j : Fin 1024) (k : Fin 4) (s : Fin 128) (u : Fin 1024) (ha : a.1 = 128 * k.1 + s.1) (hj : j.1 = u.1) :
    kernelRun0_A.sl.r_1 (F := Ideal) c a1 h1 a2 h2 a3 h3 x0 x1 x2 (ix2 a j) = Gate.normed (line x1) (line x2) (rows x0 k s) u := by
  obtain rfl : a = at4 k s := Fin.ext ha
  obtain rfl : j = u := Fin.ext hj
  exact normed_at ..

set_option maxHeartbeats 4000000 in
/-- The scratch the mixing fills holds, at every row and column, the mixed value of that row's chunk. -/
theorem mixed_canon (y : S512x1024.Idx) :
    View.canon (kernelRun0_A.sl.HS0_32 (F := Ideal) c a1 h1 a2 h2 a3 h3 a4 h4 a5 h5 x0 x1 x2 x3 x4) y
      = Gate.mixed (line x1) (line x2) (heads x3) (heads x4) (rows x0 (chunk (y 0))) (place (y 0)) (y 1) := by
  unfold kernelRun0_A.sl.HS0_32
  canon_tiles z hz
  all_goals
    obtain ⟨p, q, rfl⟩ : ∃ p q, z = ix2 p q := ⟨z 0, z 1, eq_ix2 z⟩
    have e0 : (ix2 p q 0).1 = p.1 := rfl
    have e1 : (ix2 p q 1).1 = q.1 := rfl
    pointwise [k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, kernelRun0_A.sl.cst_156,
      kernelRun0_A.sl.r_2, kernelRun0_A.sl.r_3, kernelRun0_A.sl.r_4, kernelRun0_A.sl.r_5, kernelRun0_A.sl.r_6, kernelRun0_A.sl.r_7,
      kernelRun0_A.sl.r_8, kernelRun0_A.sl.r_9, kernelRun0_A.sl.r_10, kernelRun0_A.sl.r_11, kernelRun0_A.sl.r_12, kernelRun0_A.sl.r_13,
      kernelRun0_A.sl.r_14, kernelRun0_A.sl.r_15, kernelRun0_A.sl.r_16, kernelRun0_A.sl.v180]
    have hp : place (y 0) = p := Fin.ext (by show (y 0).1 % 128 = p.1; omega)
    have hq : Gate.lane (y 1) = q := Fin.ext (by show (y 1).1 % 128 = q.1; omega)
    rw [head_load a5 h5 x4 (Gate.head (y 1)) (by show (y 1).1 / 128 = _; omega)]
    unfold Gate.mixed
    rw [hp, hq]
    refine congrArg₂ (· + ·) ?_ rfl
    refine Finset.sum_congr rfl fun s _ => ?_
    rw [masked, head_load a4 h4 x3 (Gate.head (y 1)) (by show (y 1).1 / 128 = _; omega)]
    by_cases hs : s ≤ p
    · rw [if_pos hs, if_pos hs]
      refine congrArg₂ (· * ·) rfl ?_
      (try split_ifs) <;> first
        | (exfalso; omega)
        | exact normed_row _ _ _ _ _ _ _ _ _ _ _ _ _ _ _ (by show _ = 128 * ((y 0).1 / 128) + s.1; dsimp only; omega) (by dsimp only; omega)
    · rw [if_neg hs, if_neg hs]

theorem gated_at (k : Fin 4) (p : Fin 128) (j : Fin 1024) :
    kernelRun0_A.sl.r (F := Ideal) c a1 h1 x0 (ix2 (at4 k p) j)
        * kernelRun0_A.sl.v353 (F := Ideal) c a1 h1 a2 h2 a3 h3 a4 h4 a5 h5 a8 x0 x1 x2 x3 x4 (ix2 (at4 k p) j)
      = Gate.gated (line x1) (line x2) (heads x3) (heads x4) (rows x0 k) p j := by
  unfold kernelRun0_A.sl.v353
  rw [whole_cov, mixed_canon, gate_at]
  show _ * Gate.mixed _ _ _ _ (rows x0 (chunk (at4 k p))) (place (at4 k p)) j = _
  rw [chunk_at4, place_at4]
  rfl

/-- What a point leaves: its gated rows, normalised and scaled. -/
theorem out_at (i : grid0.Coords) (k : Fin 4) (p : Fin 128) (j : Fin 1024) :
    out0_A_6 (F := Ideal) c i a1 h1 a2 h2 a3 h3 a4 h4 a5 h5 a6 h6 a7 h7 a8 h8 x0 x1 x2 x3 x4 x5 (ix2 (at4 k p) j)
      = Gate.gated (line x1) (line x2) (heads x3) (heads x4) (rows x0 k) p j
        * RowNorm.rrms Gate.width Gate.epsR (Gate.gated (line x1) (line x2) (heads x3) (heads x4) (rows x0 k) p) * line x5 j := by
  unfold out0_A_6
  rw [View.read_writes_eq_canon _ _ _ (cover0_A_6 c i a1 h1 a2 h2 a3 h3 a4 h4 a5 h5 a6 h6 a7 h7 a8 h8 x0 x1 x2 x3 x4 x5)]
  unfold kernelRun0_A
  dsimp only
  rw [View.canon_unit_zero (S := S512x1024) off2, whole2 a6 h6 x5 _ off2]
  pointwise [k0_pay1]
  rw [funext fun j => (gated_at c a1 h1 a2 h2 a3 h3 a4 h4 a5 h5 a8 x0 x1 x2 x3 x4 k p j).symm]
  rfl

end Tile

end Cert.GmFwdIdeal.Cases

end
-- ==== Proof.GmFwdBlocks.lean ====
/- What the input blocks of the gated unit's forward call hold, and what its array holds at the end: at grid point `t` the rows of
   the wide input are rows `512 t` to `512 t + 511` of the array the program is given, the weights are the arrays whole, and the
   point writes its gated rows to those rows of the first columns. -/
module

public import proofs.«01_k».proof.Proof.GmEntries
public import proofs.«01_k».proof.Proof.GmFwdTile
public import Idealize.ShloMosaic.Lib.Pointwise

@[expose] public section
set_option maxRecDepth 16384
noncomputable section
open Idealize.ShloMosaic Idealize.ShloMosaic.TcCoe Idealize.SL.Sem

namespace Cert.GmFwdIdeal.Blocks

open Cert.GmFwdIdeal Cert.GmFwdIdeal.Gen Cert.GmFwdIdeal.Cases
open Cert.GmRefIdeal.Entries (spot)
open Cert.GmIdeal.Cases (at4 chunk place at4_chunk rows line heads)

variable (m : (ℓ : Loc Cert.GmFwdIdeal.nD Cert.GmFwdIdeal.τ Cert.GmFwdIdeal.sig) → Buf (Elt Ideal) ℓ) (c : Dev Cert.GmFwdIdeal.nD)

/-- The argument arrays, at their shapes: the wide input, the scale and shift of the row normalisation, the mixing weights
    and shifts, the scale of the gated rows' normalisation. -/
abbrev ps : FVec Ideal S8192x4096 .f32 := m ((c : Thread nD τ).loc main_arg0)
abbrev vgs : FVec Ideal S1x1024 .f32 := m ((c : Thread nD τ).loc main_arg1)
abbrev vbs : FVec Ideal S1x1024 .f32 := m ((c : Thread nD τ).loc main_arg2)
abbrev wss : FVec Ideal S1x8x128x128 .f32 := m ((c : Thread nD τ).loc main_arg3)
abbrev bss : FVec Ideal S1x8x128 .f32 := m ((c : Thread nD τ).loc main_arg4)
abbrev ogs : FVec Ideal S1x1024 .f32 := m ((c : Thread nD τ).loc main_arg5)

/-- Entry `j` of row `p` of chunk `k` of the gated rows, normalised and scaled. -/
def outRow (k : Fin 64) (p : Fin 128) (j : Fin 1024) : EReal :=
  Gate.gated (Cert.GmRefIdeal.Entries.line (vgs m c)) (Cert.GmRefIdeal.Entries.line (vbs m c)) (Cert.GmRefIdeal.Entries.wt (wss m c)) (Cert.GmRefIdeal.Entries.bt (bss m c)) (Cert.GmRefIdeal.Entries.wide (ps m c) k) p j
    * RowNorm.rrms Gate.width Gate.epsR
      (Gate.gated (Cert.GmRefIdeal.Entries.line (vgs m c)) (Cert.GmRefIdeal.Entries.line (vbs m c)) (Cert.GmRefIdeal.Entries.wt (wss m c)) (Cert.GmRefIdeal.Entries.bt (bss m c)) (Cert.GmRefIdeal.Entries.wide (ps m c) k) p)
    * Cert.GmRefIdeal.Entries.line (ogs m c) j

variable (t : Fin cfg0.N)

theorem point_lt : t.val < 16 := N_0 ▸ t.isLt

/-- Chunk `k` of point `t`'s tile among all chunks. -/
abbrev tileChunk (k : Fin 4) : Fin 64 := ⟨4 * t.val + k.1, by have := point_lt t; omega⟩

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 ∧ win0_3.index t 2 = 0 := by decide +kernel
theorem index4 : ∀ t : Fin cfg0.N, win0_4.index t 0 = 0 ∧ win0_4.index t 1 = 0 ∧ win0_4.index t 2 = 0 := by decide +kernel
theorem index5 : ∀ t : Fin cfg0.N, win0_5.index t 0 = 0 ∧ win0_5.index t 1 = 0 := by decide +kernel
theorem index6 : ∀ t : Fin cfg0.N, (cfg0.win 6).flush t = true ∧ win0_6.index t 0 = t.val ∧ win0_6.index t 1 = 0 := by decide +kernel

/-- The mixing weights and shifts as the region finds them. -/
theorem given_ws (h : Fin 8) (p s : Fin 128) : V m c main_v3 (ix3 h p s) = Cert.GmRefIdeal.Entries.wt (wss m c) h p s := by
  have e : V m c main_v3 = shapeCast S8x128x128 (wss m c) shapeCasts_S1x8x128x128_S8x128x128 := by
    show StableHlo.after hostOps0 _ (Proc.devRef .tc main_v3) = _
    after_results
    rfl
  rw [e]
  pointwise []
  rfl

theorem given_bs (h : Fin 8) (p q : Fin 128) : V m c main_v2 (ix3 h p q) = Cert.GmRefIdeal.Entries.bt (bss m c) h p q := by
  have e : ∃ h1 h2 h3, V m c main_v2 = broadcastInDim S8x128x128 ![0, 1, 2] h1
      (broadcastInDim S8x128x1 ![0, 1] h2 (shapeCast S8x128 (bss m c) h3)) := by
    refine ⟨?_, ?_, ?_, ?_⟩
    rotate_left 3
    · show StableHlo.after hostOps0 _ (Proc.devRef .tc main_v2) = _
      after_results
      rfl
  obtain ⟨h1, h2, h3, e⟩ := e
  rw [e]
  pointwise []
  rfl

theorem rows0 (k : Fin 4) : rows (iblk m c 0 t) k = Cert.GmRefIdeal.Entries.wide (ps m c) (tileChunk t k) := by
  obtain ⟨e0, e1⟩ := index0 t
  funext p j
  show iblk m c 0 t (ix2 (at4 k p) j) = _
  unfold iblk
  rw [View.read_apply]
  show V m c main_arg0 _ = _
  rw [V_main_arg0]
  refine congrArg (ps m c) (funext fun a => Fin.ext ?_)
  match a with
  | ⟨0, _⟩ => show win0_0.index t 0 * 512 + 1 * (128 * k.1 + p.1) = 128 * (4 * t.val + k.1) + p.1; rw [e0]; omega
  | ⟨1, _⟩ => show win0_0.index t 1 * 2048 + 1 * j.1 = j.1; rw [e1]; omega

theorem line1 : line (iblk m c 1 t) = Cert.GmRefIdeal.Entries.line (vgs m c) := by
  obtain ⟨e0, e1⟩ := index1 t
  funext j
  show iblk m c 1 t (ix2 0 j) = _
  unfold iblk
  rw [View.read_apply]
  show V m c main_arg1 _ = _
  rw [V_main_arg1]
  refine congrArg (vgs m c) (funext fun a => Fin.ext ?_)
  match a with
  | ⟨0, _⟩ => show win0_1.index t 0 * 1 + 1 * 0 = 0; rw [e0]
  | ⟨1, _⟩ => show win0_1.index t 1 * 1024 + 1 * j.1 = j.1; rw [e1]; omega

theorem line2 : line (iblk m c 2 t) = Cert.GmRefIdeal.Entries.line (vbs m c) := by
  obtain ⟨e0, e1⟩ := index2 t
  funext j
  show iblk m c 2 t (ix2 0 j) = _
  unfold iblk
  rw [View.read_apply]
  show V m c main_arg2 _ = _
  rw [V_main_arg2]
  refine congrArg (vbs m c) (funext fun a => Fin.ext ?_)
  match a with
  | ⟨0, _⟩ => show win0_2.index t 0 * 1 + 1 * 0 = 0; rw [e0]
  | ⟨1, _⟩ => show win0_2.index t 1 * 1024 + 1 * j.1 = j.1; rw [e1]; omega

theorem line5 : line (iblk m c 5 t) = Cert.GmRefIdeal.Entries.line (ogs m c) := by
  obtain ⟨e0, e1⟩ := index5 t
  funext j
  show iblk m c 5 t (ix2 0 j) = _
  unfold iblk
  rw [View.read_apply]
  show V m c main_arg5 _ = _
  rw [V_main_arg5]
  refine congrArg (ogs m c) (funext fun a => Fin.ext ?_)
  match a with
  | ⟨0, _⟩ => show win0_5.index t 0 * 1 + 1 * 0 = 0; rw [e0]
  | ⟨1, _⟩ => show win0_5.index t 1 * 1024 + 1 * j.1 = j.1; rw [e1]; omega

theorem heads3 : heads (iblk m c 3 t) = Cert.GmRefIdeal.Entries.wt (wss m c) := by
  obtain ⟨e0, e1, e2⟩ := index3 t
  funext h p s
  rw [← given_ws]
  show iblk m c 3 t (ix3 h p s) = _
  unfold iblk
  rw [View.read_apply]
  show V m c main_v3 _ = _
  refine congrArg (V m c main_v3) (funext fun a => Fin.ext ?_)
  match a with
  | ⟨0, _⟩ => show win0_3.index t 0 * 8 + 1 * h.1 = h.1; rw [e0]; omega
  | ⟨1, _⟩ => show win0_3.index t 1 * 128 + 1 * p.1 = p.1; rw [e1]; omega
  | ⟨2, _⟩ => show win0_3.index t 2 * 128 + 1 * s.1 = s.1; rw [e2]; omega

theorem heads4 : heads (iblk m c 4 t) = Cert.GmRefIdeal.Entries.bt (bss m c) := by
  obtain ⟨e0, e1, e2⟩ := index4 t
  funext h p s
  rw [← given_bs]
  show iblk m c 4 t (ix3 h p s) = _
  unfold iblk
  rw [View.read_apply]
  show V m c main_v2 _ = _
  refine congrArg (V m c main_v2) (funext fun a => Fin.ext ?_)
  match a with
  | ⟨0, _⟩ => show win0_4.index t 0 * 8 + 1 * h.1 = h.1; rw [e0]; omega
  | ⟨1, _⟩ => show win0_4.index t 1 * 128 + 1 * p.1 = p.1; rw [e1]; omega
  | ⟨2, _⟩ => show win0_4.index t 2 * 128 + 1 * s.1 = s.1; rw [e2]; omega

/-- What point `t` leaves in its block. -/
theorem point_out (k : Fin 4) (p : Fin 128) (j : Fin 1024) : outsAt0 m c t (ix2 (at4 k p) j) = outRow m c (tileChunk t k) p j := by
  refine (out_at c _ _ _ _ _ _ _ _ _ _ _ _ _ _ _ _ _ _ _ _ _ _ _ k p j).trans ?_
  rw [line1, line2, line5, heads3, heads4, rows0]
  rfl

/-- The array at the end, in the columns the call writes. -/
theorem array_out (k : Fin 64) (p : Fin 128) (j : Fin 1024) :
    (dats m 0 c).arrAt 6 cfg0.N (ix2 (spot k p) ⟨j.1, by omega⟩) = outRow m c k p j := by
  have ht : k.1 / 4 < cfg0.N := lt_of_lt_of_eq (by omega : k.1 / 4 < 16) N_0.symm
  obtain ⟨hf, e0, e1⟩ := index6 ⟨k.1 / 4, ht⟩
  have e := congrFun (Value.blocks6 m c ⟨k.1 / 4, ht⟩ hf) (ix2 (at4 ⟨k.1 % 4, by omega⟩ p) j)
  rw [View.read_apply, Value.flushed6] at e
  refine Eq.trans (congrArg ((dats m 0 c).arrAt 6 cfg0.N) (funext fun a => Fin.ext ?_)) (e.trans ?_)
  · match a with
    | ⟨0, _⟩ =>
      show 128 * k.1 + p.1 = win0_6.index ⟨k.1 / 4, ht⟩ 0 * 512 + 1 * (128 * (k.1 % 4) + p.1)
      rw [e0]; dsimp only; omega
    | ⟨1, _⟩ => show j.1 = win0_6.index ⟨k.1 / 4, ht⟩ 1 * 1024 + 1 * j.1; rw [e1]; omega
  · refine (point_out m c ⟨k.1 / 4, ht⟩ ⟨k.1 % 4, by omega⟩ p j).trans (congrArg (outRow m c · p j) (Fin.ext ?_))
    show 4 * (k.1 / 4) + k.1 % 4 = k.1
    omega

end Cert.GmFwdIdeal.Blocks

end
-- ==== Proof.GmFwdClaim.lean ====
/- The value claim of the gated unit's forward call: both programs run, and end with the same array where the call writes. -/
module

public import proofs.«01_k».proof.Defs
public import proofs.«01_k».proof.Proof.GmFwdEq
public import proofs.«01_k».proof.Proof.GmFwdBlocks
public import proofs.«01_k».proof.Proof.Gen.GmFwdRefIdeal.Run
public import proofs.«01_k».proof.Proof.Gen.On_gm_fwd_written

@[expose] public section

set_option maxRecDepth 16384

noncomputable section

open Idealize.ShloMosaic Idealize.ShloMosaic.TcCoe Idealize.SL.Sem

namespace Cert.GmFwdClaim

open Cert.GmFwdIdeal.Blocks Cert.GmFwdRefIdeal.Read
open Cert.GmFwdIdeal (cfg0)
open Cert.GmFwdIdeal.Gen (dats)
open Cert.GmRefIdeal.Entries (spot)

/-- The columns that the mask selects. -/
theorem written (j : Fin 2048) (h : IntOp.cmpi .slt (BitVec.ofNat 32 j.1) 1024#32 = 1#1) : j.1 < 1024 := by
  by_contra hn
  have e : BitVec.slt (BitVec.ofNat 32 j.1) 1024#32 = false := by
    rw [BitVec.slt_eq_decide, BitVec.toInt_eq_toNat_of_lt (by rw [BitVec.toNat_ofNat]; omega), BitVec.toNat_ofNat]
    exact decide_eq_false (by show ¬ ((j.1 % 2 ^ 32 : ℕ) : ℤ) < 1024; omega)
  rw [show IntOp.cmpi .slt (BitVec.ofNat 32 j.1) 1024#32 = BitVec.ofBool (BitVec.slt (BitVec.ofNat 32 j.1) 1024#32) from rfl, e] at h
  exact absurd h (by decide)

theorem value : Cert.algebraic_GmFwdIdeal_GmFwdRefIdeal_on_gm_fwd_written (hGmFwdIdeal := Cert.GmFwdIdeal.Gen.facts)
    (hGmFwdRefIdeal := Cert.GmFwdRefIdeal.Gen.facts) (hOn_gm_fwd_written := Cert.On_gm_fwd_written.Gen.facts) := by
  intro m g m' g' _ hm
  refine ⟨fun c => (dats m 0 c).arrAt 6 cfg0.N, ?_, ?_⟩
  · refine (θ_run _ _ _).mono (fun r h c => ?_) (Cert.GmFwdIdeal.Value.run_blocks m g)
    obtain ⟨e0, ha⟩ := h c
    exact ⟨fun i _ => congrFun e0 i, ha⟩
  refine (θ_run _ _ _).mono (fun r h c => ?_) (Cert.GmFwdRefIdeal.Value.run (F := Ideal) m' g')
  obtain ⟨e0, ha⟩ := h c
  obtain ⟨a0, a1, a2, a3, a4, a5⟩ := hm c
  replace e0 := e0.trans (val_main_v71_eq m' c)
  rw [a0, a1, a2, a3, a4, a5] at e0
  refine ⟨fun i hi => (congrFun e0 i).trans ?_, ha⟩
  obtain ⟨r, j, rfl⟩ : ∃ (r : Fin 8192) (j : Fin 2048), i = ix2 r j := ⟨i 0, i 1, eq_ix2 i⟩
  have hj : j.1 < 1024 := written j hi
  obtain ⟨k, p, rfl⟩ : ∃ (k : Fin 64) (p : Fin 128), r = spot k p :=
    ⟨⟨r.1 / 128, by omega⟩, ⟨r.1 % 128, by omega⟩, Fin.ext (Nat.div_add_mod r.1 128).symm⟩
  exact (Cert.GmFwdRefIdeal.Entries.out_at _ _ _ _ _ _ k p ⟨j.1, hj⟩).trans (array_out m c k p ⟨j.1, hj⟩).symm

theorem frame_ref : Cert.quiescent_GmFwdRefIdeal (hGmFwdRefIdeal := Cert.GmFwdRefIdeal.Gen.facts) := fun m g _ =>
  (θ_run _ _ _).mono (fun r h => ⟨fun c => (h c).2, sem_eq_zero_of_no_sems (by decide) r.2⟩) (Cert.GmFwdRefIdeal.Value.run m g)

end Cert.GmFwdClaim

end
-- ==== Proof.NormClaim.lean ====
/- The value claim of the row normalisation's forward call: both programs run, and end with the same array. -/
module

public import proofs.«01_k».proof.Defs
public import proofs.«01_k».proof.Proof.RowNorm
public import proofs.«01_k».proof.Proof.GmTile
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise

@[expose] public section

set_option maxRecDepth 16384

noncomputable section

open Idealize.ShloMosaic Idealize.ShloMosaic.TcCoe Idealize.SL.Sem

namespace Cert.NormClaim

open Cert.NormIdeal Cert.NormIdeal.Gen
open Cert.RowNorm (width eps)

/-- Entry `k` of a row, normalised and scaled. -/
def normed (x g : Fin 2048 → EReal) (k : Fin 2048) : EReal := x k * RowNorm.rrms width eps x * g k

/-- What a point leaves: its rows, normalised and scaled. -/
theorem out_at (x : Vec Ideal S512x2048 .f32) (g : Vec Ideal S1x2048 .f32) (r : Fin 512) (k : Fin 2048) :
    out0_2 (F := Ideal) x g (ix2 r k) = normed (fun j => x (ix2 r j)) (fun j => g (ix2 0 j)) k := by
  unfold out0_2
  rw [View.canon_unit_zero (S := S512x2048) Cert.GmIdeal.Cases.off2, View.ld_unit_zero (S := S512x2048) Cert.GmIdeal.Cases.off2,
    View.ld_unit_zero (S := S1x2048) Cert.GmIdeal.Cases.off2]
  pointwise [k0_pay1]
  rfl

section
open Cert.NormRefIdeal.Read

/-- The reference's result at an entry. -/
theorem ref_at (x : FVec Ideal S8192x2048 .f32) (g : FVec Ideal S1x2048 .f32) (r : Fin 8192) (k : Fin 2048) :
    val_main_v14 (F := Ideal) x g (ix2 r k) = normed (fun j => x (ix2 r j)) (fun j => g (ix2 0 j)) k := by
  pointwise [val_main_v0, val_main_v1, val_main_cst, val_main_v2, val_main_v3, val_main_cst_0, val_main_v4, val_main_v5, val_main_cst_1, val_main_v6,
    val_main_v7, val_main_v8, val_main_v9, val_main_v10, val_main_v11, val_main_v12, val_main_v13, val_main_v14]
  rfl

end

variable (m : (ℓ : Loc nD τ sig) → Buf (Elt Ideal) ℓ) (c : Dev nD)

/-- The argument arrays, at their shapes: the rows and the scale. -/
abbrev xs : FVec Ideal S8192x2048 .f32 := m ((c : Thread nD τ).loc main_arg0)
abbrev gs : FVec Ideal S1x2048 .f32 := m ((c : Thread nD τ).loc main_arg1)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, (cfg0.win 2).flush t = true ∧ win0_2.index t 0 = t.val ∧ win0_2.index t 1 = 0 := by decide +kernel

theorem row0 (t : Fin cfg0.N) (r : Fin 512) (r' : Fin 8192) (h : r'.1 = 512 * t.val + r.1) (j : Fin 2048) :
    iblk m c 0 t (ix2 r j) = xs m c (ix2 r' j) := by
  obtain ⟨e0, e1⟩ := index0 t
  unfold iblk
  rw [View.read_apply]
  show V m c main_arg0 _ = _
  rw [V_main_arg0]
  refine congrArg (xs m c) (funext fun a => Fin.ext ?_)
  match a with
  | ⟨0, _⟩ => show win0_0.index t 0 * 512 + 1 * r.1 = r'.1; rw [e0, h]; omega
  | ⟨1, _⟩ => show win0_0.index t 1 * 2048 + 1 * j.1 = j.1; rw [e1]; omega

theorem scale1 (t : Fin cfg0.N) (j : Fin 2048) : iblk m c 1 t (ix2 0 j) = gs m c (ix2 0 j) := by
  obtain ⟨e0, e1⟩ := index1 t
  unfold iblk
  rw [View.read_apply]
  show V m c main_arg1 _ = _
  rw [V_main_arg1]
  refine congrArg (gs m c) (funext fun a => Fin.ext ?_)
  match a with
  | ⟨0, _⟩ => show win0_1.index t 0 * 1 + 1 * 0 = 0; rw [e0]
  | ⟨1, _⟩ => show win0_1.index t 1 * 2048 + 1 * j.1 = j.1; rw [e1]; omega

/-- The array at the end. -/
theorem array_out (r : Fin 8192) (k : Fin 2048) :
    (dats m 0 c).arrAt 2 cfg0.N (ix2 r k) = normed (fun j => xs m c (ix2 r j)) (fun j => gs m c (ix2 0 j)) k := by
  have ht : r.1 / 512 < cfg0.N := lt_of_lt_of_eq (by omega : r.1 / 512 < 16) N_0.symm
  obtain ⟨hf, e0, e1⟩ := index2 ⟨r.1 / 512, ht⟩
  have e := congrFun (Cert.NormIdeal.Value.blocks2 m c ⟨r.1 / 512, ht⟩ hf) (ix2 (⟨r.1 % 512, by omega⟩ : Fin 512) k)
  rw [View.read_apply, Cert.NormIdeal.Value.flushed2] at e
  refine Eq.trans (congrArg ((dats m 0 c).arrAt 2 cfg0.N) (funext fun a => Fin.ext ?_)) (e.trans ?_)
  · match a with
    | ⟨0, _⟩ => show r.1 = win0_2.index ⟨r.1 / 512, ht⟩ 0 * 512 + 1 * (r.1 % 512); rw [e0]; dsimp only; omega
    | ⟨1, _⟩ => show k.1 = win0_2.index ⟨r.1 / 512, ht⟩ 1 * 2048 + 1 * k.1; rw [e1]; omega
  · refine (out_at _ _ ⟨r.1 % 512, by omega⟩ k).trans ?_
    rw [funext fun j => row0 m c ⟨r.1 / 512, ht⟩ ⟨r.1 % 512, by omega⟩ r (Nat.div_add_mod r.1 512).symm j,
      funext fun j => scale1 m c ⟨r.1 / 512, ht⟩ j]

theorem value : Cert.algebraic_NormIdeal_NormRefIdeal (hNormIdeal := Cert.NormIdeal.Gen.facts) (hNormRefIdeal := Cert.NormRefIdeal.Gen.facts) := by
  intro m g m' g' _ hm
  refine ⟨fun c => (dats m 0 c).arrAt 2 cfg0.N, Cert.NormIdeal.Value.run_blocks m g, ?_⟩
  refine (θ_run _ _ _).mono (fun r h c => ?_) (Cert.NormRefIdeal.Value.run (F := Ideal) m' g')
  obtain ⟨e0, ha⟩ := h c
  obtain ⟨a0, a1⟩ := hm c
  replace e0 := e0.trans (Cert.NormRefIdeal.Read.val_main_v14_eq _ _)
  rw [a0, a1] at e0
  refine ⟨e0.trans (funext fun i => ?_), ha⟩
  obtain ⟨r, k, rfl⟩ : ∃ (r : Fin 8192) (k : Fin 2048), i = ix2 r k := ⟨i 0, i 1, eq_ix2 i⟩
  exact (ref_at _ _ r k).trans (array_out m c r k).symm

theorem frame_ref : Cert.quiescent_NormRefIdeal (hNormRefIdeal := Cert.NormRefIdeal.Gen.facts) := fun m g _ =>
  (θ_run _ _ _).mono (fun r h => ⟨fun c => (h c).2, sem_eq_zero_of_no_sems (by decide) r.2⟩) (Cert.NormRefIdeal.Value.run m g)

end Cert.NormClaim

end
-- ==== Proof.AdamClaim.lean ====
/- The value claim of the optimiser's step: both programs run, and end with the same four arrays. -/
module

public import proofs.«01_k».proof.Defs
public import proofs.«01_k».proof.Proof.FfnCases
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pointwise

@[expose] public section

set_option maxRecDepth 16384

noncomputable section

open Idealize.ShloMosaic Idealize.ShloMosaic.TcCoe Idealize.SL.Sem

namespace Cert.AdamClaim

open Cert.AdamIdeal Cert.AdamIdeal.Gen
open Cert.FfnIdeal.Cases (off2 off3)

/-- A whole load reads the block. -/
theorem ld2 (x : Vec Ideal S64x1536 .f32) : View.ld x r0_0 = x := View.ld_unit_zero (S := S64x1536) off2 ..
theorem ld3 (x : Vec Ideal S1x64x1536 .bf16) : View.ld x r0_1 = x := View.ld_unit_zero (S := S1x64x1536) off3 ..

/-- The blocks' entries at `(r, k)` are the arrays' at `(r', k)`. -/
structure Same (x0 x1 x2 x3 : Vec Ideal S64x1536 .f32) (x4 x5 x6 : Vec Ideal S1x64x1536 .bf16) (y0 y1 y2 y3 : FVec Ideal S2048x1536 .f32)
    (y4 : FVec Ideal S3x2048x1536 .bf16) (r : Fin 64) (r' : Fin 2048) (k : Fin 1536) : Prop where
  e0 : x0 (ix2 r k) = y0 (ix2 r' k)
  e1 : x1 (ix2 r k) = y1 (ix2 r' k)
  e2 : x2 (ix2 r k) = y2 (ix2 r' k)
  e3 : x3 (ix2 r k) = y3 (ix2 r' k)
  e4 : x4 (ix3 0 r k) = y4 (ix3 0 r' k)
  e5 : x5 (ix3 0 r k) = y4 (ix3 1 r' k)
  e6 : x6 (ix3 0 r k) = y4 (ix3 2 r' k)

section
open Cert.AdamRefIdeal.Read

variable {x0 x1 x2 x3 : Vec Ideal S64x1536 .f32} {x4 x5 x6 : Vec Ideal S1x64x1536 .bf16} {y0 y1 y2 y3 : FVec Ideal S2048x1536 .f32}
  {y4 : FVec Ideal S3x2048x1536 .bf16} {r : Fin 64} {r' : Fin 2048} {k : Fin 1536} (h : Same x0 x1 x2 x3 x4 x5 x6 y0 y1 y2 y3 y4 r r' k)
include h

/-- The gradient: the device's own part and the three that arrived. -/
theorem out7_at : out0_7 (F := Ideal) x0 x1 x2 x3 x4 x5 x6 (ix2 r k) = val_main_v11 (F := Ideal) y3 y4 (ix2 r' k) := by
  unfold out0_7
  simp only [ld2, ld3, View.canon_unit_zero (S := S64x1536) off2]
  pointwise [k0_pay2, val_main_v0, val_main_v1, val_main_v2, val_main_v3, val_main_v4, val_main_v5, val_main_v6, val_main_v7, val_main_v8, val_main_v9, val_main_v10, val_main_v11, val_main_cst, val_main_cst_0, val_main_cst_1, val_main_cst_2, val_main_cst_3, val_main_cst_4, val_main_cst_5, val_main_cst_6, val_main_cst_7]
  simp only [h.e0, h.e1, h.e2, h.e3, h.e4, h.e5, h.e6]

/-- The first moment. -/
theorem out9_at : out0_9 (F := Ideal) x0 x1 x2 x3 x4 x5 x6 (ix2 r k) = val_main_v16 (F := Ideal) y1 y3 y4 (ix2 r' k) := by
  unfold out0_9
  simp only [ld2, ld3, View.canon_unit_zero (S := S64x1536) off2]
  pointwise [k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7]
  simp only [h.e0, h.e1, h.e2, h.e3, h.e4, h.e5, h.e6]

/-- The second moment. -/
theorem out10_at : out0_10 (F := Ideal) x0 x1 x2 x3 x4 x5 x6 (ix2 r k) = val_main_v22 (F := Ideal) y2 y3 y4 (ix2 r' k) := by
  unfold out0_10
  simp only [ld2, ld3, View.canon_unit_zero (S := S64x1536) off2]
  pointwise [k0_pay2, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, val_main_cst_3, val_main_cst_4, val_main_cst_5, val_main_cst_6, val_main_cst_7]
  simp only [h.e0, h.e1, h.e2, h.e3, h.e4, h.e5, h.e6]

/-- The change of the weight. -/
theorem out8_at : out0_8 (F := Ideal) x0 x1 x2 x3 x4 x5 x6 (ix2 r k) = val_main_v35 (F := Ideal) y0 y1 y2 y3 y4 (ix2 r' k) := by
  unfold out0_8
  simp only [ld2, ld3, View.canon_unit_zero (S := S64x1536) off2]
  pointwise [k0_pay1, k0_pay2, k0_pay3, k0_pay4, k0_pay5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5, val_main_cst_6, val_main_cst_7]
  simp only [h.e0, h.e1, h.e2, h.e3, h.e4, h.e5, h.e6]

end

variable (m : (ℓ : Loc nD τ sig) → Buf (Elt Ideal) ℓ) (c : Dev nD)

/-- An argument array of the weight's shape, and the parts that arrived. -/
abbrev arr (b : Ref sig .tc) : Buf (Elt Ideal) ((c : Thread nD τ).loc b) := m ((c : Thread nD τ).loc b)
abbrev parts : FVec Ideal S3x2048x1536 .bf16 := m ((c : Thread nD τ).loc main_arg4)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = t.val ∧ win0_4.index t 2 = 0 := by decide +kernel
theorem index5 : ∀ t : Fin cfg0.N, win0_5.index t 0 = 1 ∧ win0_5.index t 1 = t.val ∧ win0_5.index t 2 = 0 := by decide +kernel
theorem index6 : ∀ t : Fin cfg0.N, win0_6.index t 0 = 2 ∧ win0_6.index t 1 = t.val ∧ win0_6.index t 2 = 0 := by decide +kernel
theorem index7 : ∀ t : Fin cfg0.N, (cfg0.win 7).flush t = true ∧ win0_7.index t 0 = t.val ∧ win0_7.index t 1 = 0 := by decide +kernel
theorem index8 : ∀ t : Fin cfg0.N, (cfg0.win 8).flush t = true ∧ win0_8.index t 0 = t.val ∧ win0_8.index t 1 = 0 := by decide +kernel
theorem index9 : ∀ t : Fin cfg0.N, (cfg0.win 9).flush t = true ∧ win0_9.index t 0 = t.val ∧ win0_9.index t 1 = 0 := by decide +kernel
theorem index10 : ∀ t : Fin cfg0.N, (cfg0.win 10).flush t = true ∧ win0_10.index t 0 = t.val ∧ win0_10.index t 1 = 0 := by decide +kernel

/-- An index with row `64 t + r` and column `k` is `(r', k)`. -/
theorem at_rows (t : Fin cfg0.N) (r : Fin 64) (r' : Fin 2048) (h : r'.1 = 64 * t.val + r.1) (k : Fin 1536) (i : S2048x1536.Idx)
    (h0 : (i 0).1 = t.val * 64 + 1 * r.1) (h1 : (i 1).1 = 0 * 1536 + 1 * k.1) : i = ix2 r' k :=
  funext fun a => Fin.ext (match a with
    | ⟨0, _⟩ => h0.trans (by show _ = r'.1; omega)
    | ⟨1, _⟩ => h1.trans (by show _ = k.1; omega))

theorem rows0 (t : Fin cfg0.N) (r : Fin 64) (r' : Fin 2048) (h : r'.1 = 64 * t.val + r.1) (k : Fin 1536) :
    iblk m c 0 t (ix2 r k) = arr m c main_arg0 (ix2 r' k) := by
  unfold iblk
  rw [View.read_apply]
  show V m c main_arg0 _ = _
  rw [V_main_arg0]
  exact congrArg (arr m c main_arg0) (at_rows t r r' h k _ ((congrArg (· * 64 + 1 * r.1) (index0 t).1).trans rfl)
    ((congrArg (· * 1536 + 1 * k.1) (index0 t).2).trans rfl))

theorem rows1 (t : Fin cfg0.N) (r : Fin 64) (r' : Fin 2048) (h : r'.1 = 64 * t.val + r.1) (k : Fin 1536) :
    iblk m c 1 t (ix2 r k) = arr m c main_arg1 (ix2 r' k) := by
  unfold iblk
  rw [View.read_apply]
  show V m c main_arg1 _ = _
  rw [V_main_arg1]
  exact congrArg (arr m c main_arg1) (at_rows t r r' h k _ ((congrArg (· * 64 + 1 * r.1) (index1 t).1).trans rfl)
    ((congrArg (· * 1536 + 1 * k.1) (index1 t).2).trans rfl))

theorem rows2 (t : Fin cfg0.N) (r : Fin 64) (r' : Fin 2048) (h : r'.1 = 64 * t.val + r.1) (k : Fin 1536) :
    iblk m c 2 t (ix2 r k) = arr m c main_arg2 (ix2 r' k) := by
  unfold iblk
  rw [View.read_apply]
  show V m c main_arg2 _ = _
  rw [V_main_arg2]
  exact congrArg (arr m c main_arg2) (at_rows t r r' h k _ ((congrArg (· * 64 + 1 * r.1) (index2 t).1).trans rfl)
    ((congrArg (· * 1536 + 1 * k.1) (index2 t).2).trans rfl))

theorem rows3 (t : Fin cfg0.N) (r : Fin 64) (r' : Fin 2048) (h : r'.1 = 64 * t.val + r.1) (k : Fin 1536) :
    iblk m c 3 t (ix2 r k) = arr m c main_arg3 (ix2 r' k) := by
  unfold iblk
  rw [View.read_apply]
  show V m c main_arg3 _ = _
  rw [V_main_arg3]
  exact congrArg (arr m c main_arg3) (at_rows t r r' h k _ ((congrArg (· * 64 + 1 * r.1) (index3 t).1).trans rfl)
    ((congrArg (· * 1536 + 1 * k.1) (index3 t).2).trans rfl))

theorem part4 (t : Fin cfg0.N) (r : Fin 64) (r' : Fin 2048) (h : r'.1 = 64 * t.val + r.1) (k : Fin 1536) :
    iblk m c 4 t (ix3 0 r k) = parts m c (ix3 0 r' k) := by
  obtain ⟨e0, e1, e2⟩ := index4 t
  unfold iblk
  rw [View.read_apply]
  show V m c main_arg4 _ = _
  rw [V_main_arg4]
  refine congrArg (parts m c) (funext fun a => Fin.ext ?_)
  match a with
  | ⟨0, _⟩ => show win0_4.index t 0 * 1 + 1 * 0 = 0; rw [e0]
  | ⟨1, _⟩ => show win0_4.index t 1 * 64 + 1 * r.1 = r'.1; rw [e1, h]; omega
  | ⟨2, _⟩ => show win0_4.index t 2 * 1536 + 1 * k.1 = k.1; rw [e2]; omega

theorem part5 (t : Fin cfg0.N) (r : Fin 64) (r' : Fin 2048) (h : r'.1 = 64 * t.val + r.1) (k : Fin 1536) :
    iblk m c 5 t (ix3 0 r k) = parts m c (ix3 1 r' k) := by
  obtain ⟨e0, e1, e2⟩ := index5 t
  unfold iblk
  rw [View.read_apply]
  show V m c main_arg4 _ = _
  rw [V_main_arg4]
  refine congrArg (parts m c) (funext fun a => Fin.ext ?_)
  match a with
  | ⟨0, _⟩ => show win0_5.index t 0 * 1 + 1 * 0 = 1; rw [e0]
  | ⟨1, _⟩ => show win0_5.index t 1 * 64 + 1 * r.1 = r'.1; rw [e1, h]; omega
  | ⟨2, _⟩ => show win0_5.index t 2 * 1536 + 1 * k.1 = k.1; rw [e2]; omega

theorem part6 (t : Fin cfg0.N) (r : Fin 64) (r' : Fin 2048) (h : r'.1 = 64 * t.val + r.1) (k : Fin 1536) :
    iblk m c 6 t (ix3 0 r k) = parts m c (ix3 2 r' k) := by
  obtain ⟨e0, e1, e2⟩ := index6 t
  unfold iblk
  rw [View.read_apply]
  show V m c main_arg4 _ = _
  rw [V_main_arg4]
  refine congrArg (parts m c) (funext fun a => Fin.ext ?_)
  match a with
  | ⟨0, _⟩ => show win0_6.index t 0 * 1 + 1 * 0 = 2; rw [e0]
  | ⟨1, _⟩ => show win0_6.index t 1 * 64 + 1 * r.1 = r'.1; rw [e1, h]; omega
  | ⟨2, _⟩ => show win0_6.index t 2 * 1536 + 1 * k.1 = k.1; rw [e2]; omega

/-- The point that writes row `r`. -/
def point (r : Fin 2048) : Fin cfg0.N := ⟨r.1 / 64, lt_of_lt_of_eq (by omega : r.1 / 64 < 32) N_0.symm⟩

theorem sames (r : Fin 2048) (k : Fin 1536) : Same (iblk m c 0 (point r)) (iblk m c 1 (point r)) (iblk m c 2 (point r)) (iblk m c 3 (point r))
    (iblk m c 4 (point r)) (iblk m c 5 (point r)) (iblk m c 6 (point r)) (arr m c main_arg0) (arr m c main_arg1) (arr m c main_arg2)
    (arr m c main_arg3) (parts m c) ⟨r.1 % 64, by omega⟩ r k :=
  have h : r.1 = 64 * (point r).val + r.1 % 64 := (Nat.div_add_mod r.1 64).symm
  ⟨rows0 m c _ _ r h k, rows1 m c _ _ r h k, rows2 m c _ _ r h k, rows3 m c _ _ r h k, part4 m c _ _ r h k, part5 m c _ _ r h k,
    part6 m c _ _ r h k⟩

section
open Cert.AdamRefIdeal.Read

/-! The arrays at the end. -/

theorem array7 (i : S2048x1536.Idx) : (dats m 0 c).arrAt 7 cfg0.N i
    = val_main_v11 (F := Ideal) (arr m c main_arg3) (parts m c) i := by
  obtain ⟨r, k, rfl⟩ : ∃ (r : Fin 2048) (k : Fin 1536), i = ix2 r k := ⟨i 0, i 1, eq_ix2 i⟩
  obtain ⟨hf, e0, e1⟩ := index7 (point r)
  have e := congrFun (Cert.AdamIdeal.Value.blocks7 m c (point r) hf) (ix2 (⟨r.1 % 64, by omega⟩ : Fin 64) k)
  rw [View.read_apply, Cert.AdamIdeal.Value.flushed7] at e
  refine Eq.trans (congrArg ((dats m 0 c).arrAt 7 cfg0.N) (funext fun a => Fin.ext ?_)) (e.trans (out7_at (sames m c r k)))
  match a with
  | ⟨0, _⟩ => show r.1 = win0_7.index (point r) 0 * 64 + 1 * (r.1 % 64); rw [e0]; dsimp only [point]; omega
  | ⟨1, _⟩ => show k.1 = win0_7.index (point r) 1 * 1536 + 1 * k.1; rw [e1]; omega

theorem array8 (i : S2048x1536.Idx) : (dats m 0 c).arrAt 8 cfg0.N i
    = val_main_v35 (F := Ideal) (arr m c main_arg0) (arr m c main_arg1) (arr m c main_arg2) (arr m c main_arg3) (parts m c) i := by
  obtain ⟨r, k, rfl⟩ : ∃ (r : Fin 2048) (k : Fin 1536), i = ix2 r k := ⟨i 0, i 1, eq_ix2 i⟩
  obtain ⟨hf, e0, e1⟩ := index8 (point r)
  have e := congrFun (Cert.AdamIdeal.Value.blocks8 m c (point r) hf) (ix2 (⟨r.1 % 64, by omega⟩ : Fin 64) k)
  rw [View.read_apply, Cert.AdamIdeal.Value.flushed8] at e
  refine Eq.trans (congrArg ((dats m 0 c).arrAt 8 cfg0.N) (funext fun a => Fin.ext ?_)) (e.trans (out8_at (sames m c r k)))
  match a with
  | ⟨0, _⟩ => show r.1 = win0_8.index (point r) 0 * 64 + 1 * (r.1 % 64); rw [e0]; dsimp only [point]; omega
  | ⟨1, _⟩ => show k.1 = win0_8.index (point r) 1 * 1536 + 1 * k.1; rw [e1]; omega

theorem array9 (i : S2048x1536.Idx) : (dats m 0 c).arrAt 9 cfg0.N i
    = val_main_v16 (F := Ideal) (arr m c main_arg1) (arr m c main_arg3) (parts m c) i := by
  obtain ⟨r, k, rfl⟩ : ∃ (r : Fin 2048) (k : Fin 1536), i = ix2 r k := ⟨i 0, i 1, eq_ix2 i⟩
  obtain ⟨hf, e0, e1⟩ := index9 (point r)
  have e := congrFun (Cert.AdamIdeal.Value.blocks9 m c (point r) hf) (ix2 (⟨r.1 % 64, by omega⟩ : Fin 64) k)
  rw [View.read_apply, Cert.AdamIdeal.Value.flushed9] at e
  refine Eq.trans (congrArg ((dats m 0 c).arrAt 9 cfg0.N) (funext fun a => Fin.ext ?_)) (e.trans (out9_at (sames m c r k)))
  match a with
  | ⟨0, _⟩ => show r.1 = win0_9.index (point r) 0 * 64 + 1 * (r.1 % 64); rw [e0]; dsimp only [point]; omega
  | ⟨1, _⟩ => show k.1 = win0_9.index (point r) 1 * 1536 + 1 * k.1; rw [e1]; omega

theorem array10 (i : S2048x1536.Idx) : (dats m 0 c).arrAt 10 cfg0.N i
    = val_main_v22 (F := Ideal) (arr m c main_arg2) (arr m c main_arg3) (parts m c) i := by
  obtain ⟨r, k, rfl⟩ : ∃ (r : Fin 2048) (k : Fin 1536), i = ix2 r k := ⟨i 0, i 1, eq_ix2 i⟩
  obtain ⟨hf, e0, e1⟩ := index10 (point r)
  have e := congrFun (Cert.AdamIdeal.Value.blocks10 m c (point r) hf) (ix2 (⟨r.1 % 64, by omega⟩ : Fin 64) k)
  rw [View.read_apply, Cert.AdamIdeal.Value.flushed10] at e
  refine Eq.trans (congrArg ((dats m 0 c).arrAt 10 cfg0.N) (funext fun a => Fin.ext ?_)) (e.trans (out10_at (sames m c r k)))
  match a with
  | ⟨0, _⟩ => show r.1 = win0_10.index (point r) 0 * 64 + 1 * (r.1 % 64); rw [e0]; dsimp only [point]; omega
  | ⟨1, _⟩ => show k.1 = win0_10.index (point r) 1 * 1536 + 1 * k.1; rw [e1]; omega

end

theorem value : Cert.algebraic_AdamIdeal_AdamRefIdeal (hAdamIdeal := Cert.AdamIdeal.Gen.facts) (hAdamRefIdeal := Cert.AdamRefIdeal.Gen.facts) := by
  intro m g m' g' _ hm
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamIdeal.Value.run_blocks m g, ?_⟩
  refine (θ_run _ _ _).mono (fun r h c => ?_) (Cert.AdamRefIdeal.Value.run (F := Ideal) m' g')
  obtain ⟨e0, e1, e2, e3, ha⟩ := h c
  obtain ⟨a0, a1, a2, a3, a4⟩ := hm c
  replace e0 := e0.trans (Cert.AdamRefIdeal.Read.val_main_v11_eq ..)
  replace e1 := e1.trans (Cert.AdamRefIdeal.Read.val_main_v35_eq ..)
  replace e2 := e2.trans (Cert.AdamRefIdeal.Read.val_main_v16_eq ..)
  replace e3 := e3.trans (Cert.AdamRefIdeal.Read.val_main_v22_eq ..)
  rw [a3, a4] at e0
  rw [a0, a1, a2, a3, a4] at e1
  rw [a1, a3, a4] at e2
  rw [a2, a3, a4] at e3
  exact ⟨e0.trans (funext fun i => (array7 m c i).symm), e1.trans (funext fun i => (array8 m c i).symm),
    e2.trans (funext fun i => (array9 m c i).symm), e3.trans (funext fun i => (array10 m c i).symm), ha⟩

theorem frame_ref : Cert.quiescent_AdamRefIdeal (hAdamRefIdeal := Cert.AdamRefIdeal.Gen.facts) := fun m g _ =>
  (θ_run _ _ _).mono (fun r h => ⟨fun c => (h c).2.2.2.2, sem_eq_zero_of_no_sems (by decide) r.2⟩) (Cert.AdamRefIdeal.Value.run m g)

end Cert.AdamClaim

end
-- ==== Proof.DownDwClaim.lean ====
/- The value claim of the down-projection's weight gradient: both programs run, and end with the same array. -/
module

public import proofs.«01_k».proof.Defs
public import proofs.«01_k».proof.Proof.Sums
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pointwise

@[expose] public section

set_option maxRecDepth 16384

noncomputable section

open Idealize.ShloMosaic Idealize.ShloMosaic.TcCoe Idealize.SL.Sem

namespace Cert.DownDwClaim

open Cert.DownDwIdeal Cert.DownDwIdeal.Gen
open Cert.DownDwIdeal.Value (reset2 step2 G2 run2Of loc2Of)
open Cert.Sums (upto)

/-- One grid point: the block's 2048 rows are added to what the block holds. -/
theorem step_at (acc : Vec Ideal S768x2048 .f32) (a : Vec Ideal S2048x768 .bf16) (b : Vec Ideal S2048x2048 .bf16) (p : Fin 768) (d : Fin 2048) :
    k0_pay2 (F := Ideal) acc a b (ix2 p d) = acc (ix2 p d) + ∑ x : Fin 2048, a (ix2 x p) * b (ix2 x d) := by
  pointwise [k0_pay2]
theorem zero_at (p : Fin 768) (d : Fin 2048) : k0_pay1 (F := Ideal) (ix2 p d) = 0 := by
  pointwise [k0_pay1]

theorem index0 : ∀ t : Fin cfg0.N, win0_0.index t 0 = t.val % 4 ∧ win0_0.index t 1 = t.val / 4 :=
  (by decide +kernel : ∀ t : Fin grid0.N, _)
theorem index1 : ∀ t : Fin cfg0.N, win0_1.index t 0 = t.val % 4 ∧ win0_1.index t 1 = 0 :=
  (by decide +kernel : ∀ t : Fin grid0.N, _)

section
variable (m : (ℓ : Loc nD τ sig) → Buf (Elt Ideal) ℓ) (c : Dev nD)

abbrev act : FVec Ideal S8192x6144 .bf16 := m ((c.tc : Thread nD τ).loc main_arg0)
abbrev ct : FVec Ideal S8192x2048 .bf16 := m ((c.tc : Thread nD τ).loc main_arg1)

theorem rows0 (t : Fin cfg0.N) (x : Fin 2048) (p : Fin 768) (x' : Fin 8192) (p' : Fin 6144) (hx : x'.1 = 2048 * (t.val % 4) + x.1)
    (hp : p'.1 = 768 * (t.val / 4) + p.1) : iblk m c 0 t (ix2 x p) = act m c (ix2 x' p') := by
  obtain ⟨e0, e1⟩ := index0 t
  unfold iblk
  rw [View.read_apply]
  show V m c main_arg0 _ = _
  rw [V_main_arg0]
  refine congrArg (act m c) (funext fun a => Fin.ext ?_)
  match a with
  | ⟨0, _⟩ => show win0_0.index t 0 * 2048 + 1 * x.1 = x'.1; rw [e0, hx]; omega
  | ⟨1, _⟩ => show win0_0.index t 1 * 768 + 1 * p.1 = p'.1; rw [e1, hp]; omega

theorem rows1 (t : Fin cfg0.N) (x d : Fin 2048) (x' : Fin 8192) (hx : x'.1 = 2048 * (t.val % 4) + x.1) :
    iblk m c 1 t (ix2 x d) = ct m c (ix2 x' d) := by
  obtain ⟨e0, e1⟩ := index1 t
  unfold iblk
  rw [View.read_apply]
  show V m c main_arg1 _ = _
  rw [V_main_arg1]
  refine congrArg (ct m c) (funext fun a => Fin.ext ?_)
  match a with
  | ⟨0, _⟩ => show win0_1.index t 0 * 2048 + 1 * x.1 = x'.1; rw [e0, hx]; omega
  | ⟨1, _⟩ => show win0_1.index t 1 * 2048 + 1 * d.1 = d.1; rw [e1]; omega

/-- The terms of the product's entry at `(e, d)`. -/
def term (e : Fin 6144) (d : Fin 2048) (x : Fin 8192) : Ideal .f32 := act m c (ix2 x e) * ct m c (ix2 x d)

/-- The rows that point `4 q + n` adds. -/
theorem block_at (q n : ℕ) (hn : n < 4) (h : 4 * q + n < cfg0.N) (acc : Vec Ideal S768x2048 .f32) (p : Fin 768) (d : Fin 2048) (e : Fin 6144)
    (he : e.1 = 768 * q + p.1) (ha : acc (ix2 p d) = upto (term m c e d) (2048 * n)) :
    k0_pay2 (F := Ideal) acc (iblk m c 0 ⟨4 * q + n, h⟩) (iblk m c 1 ⟨4 * q + n, h⟩) (ix2 p d) = upto (term m c e d) (2048 * (n + 1)) := by
  refine (step_at ..).trans ?_
  rw [ha, Nat.mul_succ, Cert.Sums.upto_add _ _ _ (by omega)]
  refine congrArg _ (Finset.sum_congr rfl fun x _ => ?_)
  rw [rows0 m c ⟨4 * q + n, h⟩ x p ⟨2048 * n + x.1, by omega⟩ e (by dsimp only; omega) (by dsimp only; omega),
    rows1 m c ⟨4 * q + n, h⟩ x d ⟨2048 * n + x.1, by omega⟩ (by dsimp only; omega)]
  rfl

/-- What a block holds after `n + 1` of its four points. -/
theorem fold_at (q : ℕ) (p : Fin 768) (d : Fin 2048) (e : Fin 6144) (he : e.1 = 768 * q + p.1) : ∀ (n : ℕ) (_ : n < 4) (h : 4 * q + n < cfg0.N),
    Pipeline.accAt (reset2 m c) (step2 m c) (4 * q) n h (ix2 p d) = upto (term m c e d) (2048 * (n + 1))
  | 0, hn, h => block_at m c q 0 hn h _ p d e he (zero_at p d)
  | n + 1, hn, h => block_at m c q (n + 1) hn h _ p d e he (fold_at q p d e he n (by omega) (by omega))

theorem array_at (e : Fin 6144) (d : Fin 2048) : G2 m c (ix2 e d) = ∑ x, term m c e d x := by
  have hN : cfg0.N = 32 := rfl
  have hr : run2Of (ix2 e d) = e.1 / 768 := by
    show 1 * (e.1 / 768 - 0) + 1 * (d.1 / 2048 - 0) = _
    omega
  have hl : loc2Of (ix2 e d) = ix2 (⟨e.1 % 768, by omega⟩ : Fin 768) d := funext fun a => Fin.ext (match a with
    | ⟨0, _⟩ => rfl
    | ⟨1, _⟩ => Nat.mod_eq_of_lt d.2)
  unfold G2
  rw [dif_pos (by rw [hr, hN]; omega), hl]
  refine (fold_at m c _ _ d e ?_ 3 (by omega) _).trans (Cert.Sums.upto_all (term m c e d))
  rw [hr]
  dsimp only
  omega

end

section
open Cert.DownDwRefIdeal.Read

theorem ref_at (a : FVec Ideal S8192x6144 .bf16) (b : FVec Ideal S8192x2048 .bf16) (e : Fin 6144) (d : Fin 2048) :
    val_main_v5 (F := Ideal) a b (ix2 e d) = ∑ x : Fin 8192, a (ix2 x e) * b (ix2 x d) := by
  rw [val_main_v5_apply, val_main_v4_apply]
  exact Finset.sum_congr rfl fun x _ => (mul_comm _ _).trans (congrArg₂ (· * ·) (congrArg a (eq_ix2 _)) (congrArg b (eq_ix2 _)))

end

theorem value : Cert.algebraic_DownDwIdeal_DownDwRefIdeal (hDownDwIdeal := Cert.DownDwIdeal.Gen.facts) (hDownDwRefIdeal := Cert.DownDwRefIdeal.Gen.facts) := by
  intro m g m' g' _ hm
  refine ⟨fun c => G2 m c, Cert.DownDwIdeal.Value.run m g, ?_⟩
  refine (θ_run _ _ _).mono (fun r h c => ?_) (Cert.DownDwRefIdeal.Value.run (F := Ideal) m' g')
  obtain ⟨e0, ha⟩ := h c
  obtain ⟨a0, a1⟩ := hm c
  replace e0 := e0.trans (Cert.DownDwRefIdeal.Read.val_main_v5_eq ..)
  rw [a0, a1] at e0
  refine ⟨e0.trans (funext fun i => ?_), ha⟩
  obtain ⟨e, d, rfl⟩ : ∃ (e : Fin 6144) (d : Fin 2048), i = ix2 e d := ⟨i 0, i 1, eq_ix2 i⟩
  exact (ref_at _ _ e d).trans (array_at m c e d).symm

theorem frame_ref : Cert.quiescent_DownDwRefIdeal (hDownDwRefIdeal := Cert.DownDwRefIdeal.Gen.facts) := fun m g _ =>
  (θ_run _ _ _).mono (fun r h => ⟨fun c => (h c).2, sem_eq_zero_of_no_sems (by decide) r.2⟩) (Cert.DownDwRefIdeal.Value.run m g)

end Cert.DownDwClaim

end
-- ==== Proof.UpDwClaim.lean ====
/- The value claim of the up-projection's weight gradient: both programs run, and end with the same array. -/
module

public import proofs.«01_k».proof.Defs
public import proofs.«01_k».proof.Proof.Sums
public import proofs.«01_k».proof.Proof.Gen.UpDwIdeal.Value
public import proofs.«01_k».proof.Proof.Gen.UpDwRefIdeal.Run
public import proofs.«01_k».proof.Proof.Gen.UpDwRefIdeal.Read
public import Idealize.ShloMosaic.Lib.Pointwise

@[expose] public section

set_option maxRecDepth 16384

noncomputable section

open Idealize.ShloMosaic Idealize.ShloMosaic.TcCoe Idealize.SL.Sem

namespace Cert.UpDwClaim

open Cert.UpDwIdeal Cert.UpDwIdeal.Gen
open Cert.UpDwIdeal.Value (reset2 step2 G2 run2Of loc2Of)
open Cert.Sums (upto)

/-- One grid point: the block's 2048 rows are added to what the block holds. -/
theorem step_at (acc : Vec Ideal S1x2048x768 .f32) (a : Vec Ideal S2048x2048 .bf16) (b : Vec Ideal S1x2048x768 .bf16) (d : Fin 2048) (p : Fin 768) :
    k0_pay2 (F := Ideal) acc a b (ix3 0 d p) = acc (ix3 0 d p) + ∑ x : Fin 2048, a (ix2 x d) * b (ix3 0 x p) := by
  pointwise [k0_pay2]
theorem zero_at (d : Fin 2048) (p : Fin 768) : k0_pay1 (F := Ideal) (ix3 0 d p) = 0 := by
  pointwise [k0_pay1]

theorem index0 : ∀ t : Fin cfg0.N, win0_0.index t 0 = t.val % 4 ∧ win0_0.index t 1 = 0 :=
  (by decide +kernel : ∀ t : Fin grid0.N, _)
theorem index1 : ∀ t : Fin cfg0.N, win0_1.index t 0 = t.val / 32 ∧ win0_1.index t 1 = t.val % 4 ∧ win0_1.index t 2 = t.val / 4 % 8 :=
  (by decide +kernel : ∀ t : Fin grid0.N, _)

section
variable (m : (ℓ : Loc nD τ sig) → Buf (Elt Ideal) ℓ) (c : Dev nD)

abbrev act : FVec Ideal S8192x2048 .bf16 := m ((c.tc : Thread nD τ).loc main_arg0)
abbrev ct : FVec Ideal S2x8192x6144 .bf16 := m ((c.tc : Thread nD τ).loc main_arg1)

theorem rows0 (t : Fin cfg0.N) (x d : Fin 2048) (x' : Fin 8192) (hx : x'.1 = 2048 * (t.val % 4) + x.1) :
    iblk m c 0 t (ix2 x d) = act m c (ix2 x' d) := by
  obtain ⟨e0, e1⟩ := index0 t
  unfold iblk
  rw [View.read_apply]
  show V m c main_arg0 _ = _
  rw [V_main_arg0]
  refine congrArg (act m c) (funext fun a => Fin.ext ?_)
  match a with
  | ⟨0, _⟩ => show win0_0.index t 0 * 2048 + 1 * x.1 = x'.1; rw [e0, hx]; omega
  | ⟨1, _⟩ => show win0_0.index t 1 * 2048 + 1 * d.1 = d.1; rw [e1]; omega

theorem rows1 (t : Fin cfg0.N) (x : Fin 2048) (p : Fin 768) (s : Fin 2) (x' : Fin 8192) (p' : Fin 6144) (hs : s.1 = t.val / 32)
    (hx : x'.1 = 2048 * (t.val % 4) + x.1) (hp : p'.1 = 768 * (t.val / 4 % 8) + p.1) :
    iblk m c 1 t (ix3 0 x p) = ct m c (ix3 s x' p') := by
  obtain ⟨e0, e1, e2⟩ := index1 t
  unfold iblk
  rw [View.read_apply]
  show V m c main_arg1 _ = _
  rw [V_main_arg1]
  refine congrArg (ct m c) (funext fun a => Fin.ext ?_)
  match a with
  | ⟨0, _⟩ => show win0_1.index t 0 * 1 + 1 * 0 = s.1; rw [e0, hs]; omega
  | ⟨1, _⟩ => show win0_1.index t 1 * 2048 + 1 * x.1 = x'.1; rw [e1, hx]; omega
  | ⟨2, _⟩ => show win0_1.index t 2 * 768 + 1 * p.1 = p'.1; rw [e2, hp]; omega

/-- The terms of the product's entry at row `d` and column `col` of the two halves side by side. -/
def term (a : FVec Ideal S8192x2048 .bf16) (b : FVec Ideal S2x8192x6144 .bf16) (d : Fin 2048) (col : Fin 12288) (x : Fin 8192) : Ideal .f32 :=
  a (ix2 x d) * b (ix3 ⟨col.1 / 6144, by omega⟩ x ⟨col.1 % 6144, by omega⟩)

/-- The rows that point `4 q + n` adds. -/
theorem block_at (q n : ℕ) (hn : n < 4) (h : 4 * q + n < cfg0.N) (acc : Vec Ideal S1x2048x768 .f32) (d : Fin 2048) (p : Fin 768) (col : Fin 12288)
    (hc : col.1 = 768 * q + p.1) (ha : acc (ix3 0 d p) = upto (term (act m c) (ct m c) d col) (2048 * n)) :
    k0_pay2 (F := Ideal) acc (iblk m c 0 ⟨4 * q + n, h⟩) (iblk m c 1 ⟨4 * q + n, h⟩) (ix3 0 d p) = upto (term (act m c) (ct m c) d col) (2048 * (n + 1)) := by
  refine (step_at ..).trans ?_
  rw [ha, Nat.mul_succ, Cert.Sums.upto_add _ _ _ (by omega)]
  refine congrArg _ (Finset.sum_congr rfl fun x _ => ?_)
  rw [rows0 m c ⟨4 * q + n, h⟩ x d ⟨2048 * n + x.1, by omega⟩ (by dsimp only; omega),
    rows1 m c ⟨4 * q + n, h⟩ x p ⟨col.1 / 6144, by omega⟩ ⟨2048 * n + x.1, by omega⟩ ⟨col.1 % 6144, by omega⟩ (by dsimp only; omega)
      (by dsimp only; omega) (by dsimp only; omega)]
  rfl

/-- What a block holds after `n + 1` of its four points. -/
theorem fold_at (q : ℕ) (d : Fin 2048) (p : Fin 768) (col : Fin 12288) (hc : col.1 = 768 * q + p.1) : ∀ (n : ℕ) (_ : n < 4) (h : 4 * q + n < cfg0.N),
    Pipeline.accAt (reset2 m c) (step2 m c) (4 * q) n h (ix3 0 d p) = upto (term (act m c) (ct m c) d col) (2048 * (n + 1))
  | 0, hn, h => block_at m c q 0 hn h _ d p col hc (zero_at d p)
  | n + 1, hn, h => block_at m c q (n + 1) hn h _ d p col hc (fold_at q d p col hc n (by omega) (by omega))

theorem array_at (s : Fin 8) (d : Fin 2048) (k : Fin 1536) :
    G2 m c (ix3 s d k) = ∑ x, term (act m c) (ct m c) d ⟨1536 * s.1 + k.1, by omega⟩ x := by
  have hN : cfg0.N = 64 := rfl
  have hr : run2Of (ix3 s d k) = 2 * s.1 + k.1 / 768 := by
    show 2 * (s.1 / 1 - 0) + 2 * (d.1 / 2048 - 0) + 1 * (k.1 / 768 - 0) = _
    omega
  have hl : loc2Of (ix3 s d k) = ix3 0 d (⟨k.1 % 768, by omega⟩ : Fin 768) := funext fun a => Fin.ext (match a with
    | ⟨0, _⟩ => Nat.mod_one _
    | ⟨1, _⟩ => Nat.mod_eq_of_lt d.2
    | ⟨2, _⟩ => rfl)
  unfold G2
  rw [dif_pos (by rw [hr, hN]; omega), hl]
  refine (fold_at m c _ d _ ⟨1536 * s.1 + k.1, by omega⟩ ?_ 3 (by omega) _).trans (Cert.Sums.upto_all _)
  rw [hr]
  dsimp only
  omega

end

section
open Cert.UpDwRefIdeal.Read

/-- The two halves side by side. -/
theorem halves_at (b : FVec Ideal S2x8192x6144 .bf16) (x : Fin 8192) (col : Fin 12288) :
    val_main_v8 (F := Ideal) b (ix2 x col) = b (ix3 ⟨col.1 / 6144, by omega⟩ x ⟨col.1 % 6144, by omega⟩) := by
  pointwise [val_main_v8, val_main_v7, val_main_v4, val_main_v3, val_main_v6, val_main_v5]
  split
  · refine congrArg b (funext fun z => Fin.ext ?_)
    match z with
    | ⟨0, _⟩ => show 0 = col.1 / 6144; omega
    | ⟨1, _⟩ => rfl
    | ⟨2, _⟩ => show col.1 = col.1 % 6144; omega
  · refine congrArg b (funext fun z => Fin.ext ?_)
    match z with
    | ⟨0, _⟩ => show 1 = col.1 / 6144; omega
    | ⟨1, _⟩ => rfl
    | ⟨2, _⟩ => show col.1 - 6144 = col.1 % 6144; omega

theorem ref_at (a : FVec Ideal S8192x2048 .bf16) (b : FVec Ideal S2x8192x6144 .bf16) (s : Fin 8) (d : Fin 2048) (k : Fin 1536) :
    val_main_v12 (F := Ideal) a b (ix3 s d k) = ∑ x, term a b d ⟨1536 * s.1 + k.1, by omega⟩ x := by
  rw [val_main_v12_apply, val_main_v11_apply, val_main_v10_apply, val_main_v9_apply]
  refine Finset.sum_congr rfl fun x _ => (mul_comm _ _).trans (congrArg₂ (· * ·) (congrArg a (funext fun z => Fin.ext ?_))
    ((congrArg (val_main_v8 (F := Ideal) b) (funext fun z => Fin.ext ?_)).trans (halves_at b x ⟨1536 * s.1 + k.1, by omega⟩)))
  · match z with
    | ⟨0, _⟩ => rfl
    | ⟨1, _⟩ => show _ = d.1; dsimp [idx_main_v12, idx_main_v11, idx_main_v10]; omega
  · match z with
    | ⟨0, _⟩ => rfl
    | ⟨1, _⟩ => show _ = 1536 * s.1 + k.1; dsimp [idx_main_v12, idx_main_v11, idx_main_v10]; omega

end

theorem value : Cert.algebraic_UpDwIdeal_UpDwRefIdeal (hUpDwIdeal := Cert.UpDwIdeal.Gen.facts) (hUpDwRefIdeal := Cert.UpDwRefIdeal.Gen.facts) := by
  intro m g m' g' _ hm
  refine ⟨fun c => G2 m c, Cert.UpDwIdeal.Value.run m g, ?_⟩
  refine (θ_run _ _ _).mono (fun r h c => ?_) (Cert.UpDwRefIdeal.Value.run (F := Ideal) m' g')
  obtain ⟨e0, ha⟩ := h c
  obtain ⟨a0, a1⟩ := hm c
  replace e0 := e0.trans (Cert.UpDwRefIdeal.Read.val_main_v12_eq ..)
  rw [a0, a1] at e0
  refine ⟨e0.trans (funext fun i => ?_), ha⟩
  obtain ⟨s, d, k, rfl⟩ : ∃ (s : Fin 8) (d : Fin 2048) (k : Fin 1536), i = ix3 s d k := ⟨i 0, i 1, i 2, eq_ix3 i⟩
  exact (ref_at _ _ s d k).trans (array_at m c s d k).symm

theorem frame_ref : Cert.quiescent_UpDwRefIdeal (hUpDwRefIdeal := Cert.UpDwRefIdeal.Gen.facts) := fun m g _ =>
  (θ_run _ _ _).mono (fun r h => ⟨fun c => (h c).2, sem_eq_zero_of_no_sems (by decide) r.2⟩) (Cert.UpDwRefIdeal.Value.run m g)

end Cert.UpDwClaim

end
-- ==== Proof.LruIdealFrame.lean ====
/- The frame of the idealized recurrence's backward call, by hand. -/
module

public import proofs.«01_k».proof.Proof.Gen.LruIdeal.Frame
public import proofs.«01_k».proof.Proof.Gen.LruIdeal.Loops
public import proofs.«01_k».proof.Defs

@[expose] public section

set_option maxRecDepth 16384

noncomputable section

namespace Cert.LruIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.LruIdeal.Gen

variable {F : FTy → Type} [FloatOps F] [Named F]

local notation "𝕄" => MT nD τ sig Unit (Elt F) ℕ (UR sig nD τ) ℕ

/-- The condition of the body's first branch: the first grid point. -/
abbrev first (i : grid0.Coords) : Prop :=
  (Scalar.cmpi .ne (Scalar.extui (Scalar.cmpi .eq (BitVec.ofNat 32 (i 0).val) 0#32)) 0#32) = 1#1

/-- The condition of the body's last branch: the last grid point. -/
abbrev last (i : grid0.Coords) : Prop :=
  (Scalar.cmpi .ne (Scalar.extui (Scalar.cmpi .eq (BitVec.ofNat 32 (i 0).val) 31#32)) 0#32) = 1#1

set_option maxHeartbeats 16000000 in
/-- The body at any grid point, from its input blocks and from anything in its output blocks and its scratch buffers:
    it ends, the inputs are as they were, and the outputs and the scratch buffers hold something. -/
theorem body_runs (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S6x256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S4x1024 .f32) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .hbm S8192x4096 .bf16) (harg12 : arg12.IsWhole) (arg13 : Memref sig .tc .vmem S256x2048 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x128 .f32) (harg16 : arg16.IsWhole) (arg17 : Memref sig .tc .vmem S1x1024 .f32) (harg17 : arg17.IsWhole) (arg18 : Memref sig .tc .vmem S8x128x128 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x1024 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S256x1024 .f32) (harg25 : arg25.IsWhole) (arg26 : Memref sig .tc .vmem S256x1024 .f32) (harg26 : arg26.IsWhole) (arg27 : Memref sig .tc .vmem S256x1024 .f32) (harg27 : arg27.IsWhole) (arg28 : Memref sig .tc .vmem S256x1024 .f32) (harg28 : arg28.IsWhole) (arg29 : Memref sig .tc .vmem S256x1024 .bf16) (harg29 : arg29.IsWhole) (arg30 : Memref sig .tc .vmem S256x1024 .bf16) (harg30 : arg30.IsWhole) (arg31 : Memref sig .tc .vmem S4x16x1024 .f32) (harg31 : arg31.IsWhole)
    (x0 : Vec F S256x1024 .f32) (x1 : Vec F S256x1024 .f32) (x2 : Vec F S6x256x1024 .f32) (x3 : Vec F S256x1024 .f32) (x4 : Vec F S8x1024 .f32) (x5 : Vec F S256x1024 .f32) (x6 : Vec F S4x1024 .f32) (x7 : Vec F S8x128x128 .f32) (x8 : Vec F S8x128x128 .f32) (x9 : Vec F S1x1024 .f32) (x10 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_lru_bwd_eq_skeleton]; unfold cc0_lru_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  rcases Classical.em (first i) with hc | hc <;> rcases Classical.em (last i) with hd | hd
  all_goals sl_exec (disch := first | sl_exact hc | sl_exact hd)
  all_goals sl_step
  all_goals iapply Hk
  all_goals isplitl [H0]
  any_goals (iexists _; isplitr; (ipureintro; exact harg1.read_unread _); iexact H0)
  all_goals isplitl [H1]
  any_goals (iexists _; isplitr; (ipureintro; exact harg2.read_unread _); iexact H1)
  all_goals isplitl [H2]
  any_goals (iexists _; isplitr; (ipureintro; exact harg3.read_unread _); iexact H2)
  all_goals isplitl [H3]
  any_goals (iexists _; isplitr; (ipureintro; exact harg4.read_unread _); iexact H3)
  all_goals isplitl [H4]
  any_goals (iexists _; isplitr; (ipureintro; exact harg5.read_unread _); iexact H4)
  all_goals isplitl [H5]
  any_goals (iexists _; isplitr; (ipureintro; exact harg6.read_unread _); iexact H5)
  all_goals isplitl [H6]
  any_goals (iexists _; isplitr; (ipureintro; exact harg7.read_unread _); iexact H6)
  all_goals isplitl [H7]
  any_goals (iexists _; isplitr; (ipureintro; exact harg8.read_unread _); iexact H7)
  all_goals isplitl [H8]
  any_goals (iexists _; isplitr; (ipureintro; exact harg9.read_unread _); iexact H8)
  all_goals isplitl [H9]
  any_goals (iexists _; isplitr; (ipureintro; exact harg10.read_unread _); iexact H9)
  all_goals isplitl [H10]
  any_goals (iexists _; isplitr; (ipureintro; exact harg11.read_unread _); iexact H10)
  all_goals isplitl [H11]
  any_goals (iexists _; iexists _; isplitr; swap; iexact H11; ipureintro; rfl)
  all_goals isplitl [H12]
  any_goals (iexists _; iexists _; isplitr; swap; iexact H12; ipureintro; rfl)
  all_goals isplitl [H13]
  any_goals (iexists _; iexists _; isplitr; swap; iexact H13; ipureintro; rfl)
  all_goals isplitl [H14]
  any_goals (iexists _; iexists _; isplitr; swap; iexact H14; ipureintro; rfl)
  all_goals isplitl [H15]
  any_goals (iexists _; iexists _; isplitr; swap; iexact H15; ipureintro; rfl)
  all_goals isplitl [H16]
  any_goals (iexists _; iexists _; isplitr; swap; iexact H16; ipureintro; rfl)
  all_goals isplitl [H17]
  any_goals (iexists _; iexists _; isplitr; swap; iexact H17; ipureintro; rfl)
  all_goals isplitl [H18]
  any_goals (iexists _; iexists _; isplitr; swap; iexact H18; ipureintro; rfl)
  all_goals isplitl [H19]
  any_goals (iexists _; iexists _; isplitr; swap; iexact H19; ipureintro; rfl)
  all_goals isplitl [HS0]
  any_goals (iexists _; iexists _; isplitr; swap; iexact HS0; ipureintro; rfl)
  all_goals isplitl [HS1]
  any_goals (iexists _; iexists _; isplitr; swap; iexact HS1; ipureintro; rfl)
  all_goals isplitl [HS2]
  any_goals (iexists _; iexists _; isplitr; swap; iexact HS2; ipureintro; rfl)
  all_goals isplitl [HS3]
  any_goals (iexists _; iexists _; isplitr; swap; iexact HS3; ipureintro; rfl)
  all_goals isplitl [HS4]
  any_goals (iexists _; iexists _; isplitr; swap; iexact HS4; ipureintro; rfl)
  all_goals isplitl [HS5]
  any_goals (iexists _; iexists _; isplitr; swap; iexact HS5; ipureintro; rfl)
  all_goals isplitl [HS6]
  any_goals (iexists _; iexists _; isplitr; swap; iexact HS6; ipureintro; rfl)
  all_goals isplitl [HS7]
  any_goals (iexists _; iexists _; isplitr; swap; iexact HS7; ipureintro; rfl)
  all_goals isplitl [HS8]
  any_goals (iexists _; iexists _; isplitr; swap; iexact HS8; ipureintro; rfl)
  all_goals (iexists _; iexists _; isplitr; swap; iexact HS9; ipureintro; rfl)

variable (m : (ℓ : Loc nD τ sig) → Buf (Elt F) ℓ) (ρ : Dev nD → PrngReg)

/-- What is said of the windows: an input's buffer holds its block. Of an output's nothing is said below, so that any
    contents serve here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨n + 20, h⟩ => absurd h (Nat.not_lt.mpr (Nat.le_add_left 20 n))
  Φ _ := Pipeline.ΦA spec0 c
  q w := Pipeline.shareOf spec0 w
  owed _ := 0

/-- The output windows, whose contents the frame does not speak of. -/
def outputs (w : Fin cfg0.W) : Bool := decide (11 ≤ w.val)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- The invariant between the points, opened: every scratch buffer at some contents, and the generator's register. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

set_option maxHeartbeats 4000000 in
/-- The body at a point of the grid: `body_runs` at the blocks, the scratch buffers lent by the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA_eq]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18, H19⟩
  iapply (body_runs c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, H19, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option maxHeartbeats 4000000 in
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body meets what the pipeline asks of it at every point. -/
theorem body_obligation (c : Dev nD) :
    BodyObligation (dats (F := F) m 0 c) (defs₀ (F := F)) Variants.none () Set.univ outputs := fun t => by
  rw [bigSep_W0, bigSep_W0, defs₀_row]
  exact triple_restated (sound_body m c t) rfl .rfl fun _ => .rfl

set_option backward.isDefEq.respectTransparency.types false in
set_option maxHeartbeats 800000 in
/-- The run of @main: it ends, every array that no output window writes holds what it held when the call began, and
    every counter is at zero. -/
theorem run : θ_run defs (onTc (τ := τ) (main (F := F))) (s₀ m ρ)
    (fun r => Pipeline.RDat.FramePost cfg0 (fun c => (dats m 0 c).toRForget outputs) (V m) r ∧ r.2.sem = fun _ => 0) :=
  Pipeline.θ_run_frame_forget_shared (Q' := _) cfgs (dats m) (0 : Fin 1) launch₀0 defs₀ Variants.none outputs m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

set_option maxHeartbeats 4000000 in
/-- The frame: the run ends, the arguments are as they were, the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      (h.1.arr_in c 1 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (h.1.arr_in c 9 rfl).trans (V_main_arg7 m c),
      (h.1.arr_in c 10 rfl).trans (V_main_arg8 m c),
      (h.1.arr_in c 5 rfl).trans (V_main_arg9 m c)⟩, h.2⟩) (run m ρ)

end Cert.LruIdeal.Body

end
-- ==== Proof.LruRef.lean ====
/- The frame of the reference of the recurrence's backward call. -/
module

public import proofs.«01_k».proof.Proof.Gen.LruRefIdeal.Run
public import proofs.«01_k».proof.Defs

@[expose] public section

noncomputable section

namespace Cert.LruRef

open Idealize.ShloMosaic Idealize.SL.Sem

/-- The reference ends, its arguments are as they were, and every counter is at zero: it has no counter. -/
theorem frame_ref : Cert.quiescent_LruRefIdeal (hLruRefIdeal := Cert.LruRefIdeal.Gen.facts) := fun m g _ =>
  (θ_run _ _ _).mono (fun r h => ⟨fun c => (h c).2.2.2.2.2.2.2.2.2, sem_eq_zero_of_no_sems (by decide) r.2⟩) (Cert.LruRefIdeal.Value.run m g)

end Cert.LruRef

end
-- ==== Proof.LruFwdIdealFrame.lean ====
/- The frame of the forward call of the recurrence, over the reals. -/
module

public import proofs.«01_k».proof.Proof.Gen.LruFwdIdeal.Frame
public import proofs.«01_k».proof.Proof.Gen.LruFwdIdeal.Loops
public import proofs.«01_k».proof.Defs

@[expose] public section

set_option maxRecDepth 16384

noncomputable section

namespace Cert.LruFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.LruFwdIdeal.Gen

variable {F : FTy → Type} [FloatOps F] [Named F]

local notation "𝕄" => MT nD τ sig Unit (Elt F) ℕ (UR sig nD τ) ℕ

/-- The condition of the body's branch: the first grid point. -/
abbrev first (i : grid0.Coords) : Prop :=
  (Scalar.cmpi .ne (Scalar.extui (Scalar.cmpi .eq (BitVec.ofNat 32 (i 0).val) 0#32)) 0#32) = 1#1

set_option maxHeartbeats 4000000 in
/-- The body at any grid point, from its input blocks and from anything in its output blocks and its scratch buffers:
    it ends, the inputs are as they were, and the outputs and the scratch buffers hold something. -/
theorem body_runs (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S1x1024 .f32) (harg6 : arg6.IsWhole) (arg7 : Memref sig .tc .vmem S8x128x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .hbm S8192x2048 .bf16) (harg11 : arg11.IsWhole) (arg12 : Memref sig .tc .vmem S256x1024 .bf16) (harg12 : arg12.IsWhole) (arg13 : Memref sig .tc .vmem S256x1024 .f32) (harg13 : arg13.IsWhole) (arg14 : Memref sig .tc .vmem S6x256x1024 .f32) (harg14 : arg14.IsWhole) (arg15 : Memref sig .tc .vmem S8x1024 .f32) (harg15 : arg15.IsWhole) (arg16 : Memref sig .tc .vmem S8x1024 .f32) (harg16 : arg16.IsWhole) (arg17 : Memref sig .tc .vmem S256x1024 .f32) (harg17 : arg17.IsWhole) (arg18 : Memref sig .tc .vmem S256x1024 .f32) (harg18 : arg18.IsWhole)
    (x0 : Vec F S256x1024 .f32) (x1 : Vec F S256x1024 .f32) (x2 : Vec F S4x1024 .f32) (x3 : Vec F S1x1024 .f32) (x4 : Vec F S8x128x128 .f32) (x5 : Vec F S1x1024 .f32) (x6 : Vec F S8x128x128 .f32) (x7 : Vec F S1x1024 .f32) (x8 : Vec F S1x1024 .f32) (x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_lru_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_lru_fwd_eq_skeleton]; unfold cc0_lru_fwd_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  rcases Classical.em (first i) with hc | hc
  all_goals sl_exec (disch := sl_exact hc)
  all_goals sl_step
  all_goals iapply Hk
  all_goals isplitl [H0]
  any_goals (iexists _; isplitr; (ipureintro; exact harg1.read_unread _); iexact H0)
  all_goals isplitl [H1]
  any_goals (iexists _; isplitr; (ipureintro; exact harg2.read_unread _); iexact H1)
  all_goals isplitl [H2]
  any_goals (iexists _; isplitr; (ipureintro; exact harg3.read_unread _); iexact H2)
  all_goals isplitl [H3]
  any_goals (iexists _; isplitr; (ipureintro; exact harg4.read_unread _); iexact H3)
  all_goals isplitl [H4]
  any_goals (iexists _; isplitr; (ipureintro; exact harg5.read_unread _); iexact H4)
  all_goals isplitl [H5]
  any_goals (iexists _; isplitr; (ipureintro; exact harg6.read_unread _); iexact H5)
  all_goals isplitl [H6]
  any_goals (iexists _; isplitr; (ipureintro; exact harg7.read_unread _); iexact H6)
  all_goals isplitl [H7]
  any_goals (iexists _; isplitr; (ipureintro; exact harg8.read_unread _); iexact H7)
  all_goals isplitl [H8]
  any_goals (iexists _; isplitr; (ipureintro; exact harg9.read_unread _); iexact H8)
  all_goals isplitl [H9]
  any_goals (iexists _; isplitr; (ipureintro; exact harg10.read_unread _); iexact H9)
  all_goals isplitl [H10]
  any_goals (iexists _; iexists _; isplitr; swap; iexact H10; ipureintro; rfl)
  all_goals isplitl [H11]
  any_goals (iexists _; iexists _; isplitr; swap; iexact H11; ipureintro; rfl)
  all_goals isplitl [H12]
  any_goals (iexists _; iexists _; isplitr; swap; iexact H12; ipureintro; rfl)
  all_goals isplitl [HS0]
  any_goals (iexists _; iexists _; isplitr; swap; iexact HS0; ipureintro; rfl)
  all_goals isplitl [HS1]
  any_goals (iexists _; iexists _; isplitr; swap; iexact HS1; ipureintro; rfl)
  all_goals isplitl [HS2]
  any_goals (iexists _; iexists _; isplitr; swap; iexact HS2; ipureintro; rfl)
  all_goals (iexists _; iexists _; isplitr; swap; iexact HS3; ipureintro; rfl)

variable (m : (ℓ : Loc nD τ sig) → Buf (Elt F) ℓ) (ρ : Dev nD → PrngReg)

/-- What is said of the windows: an input's buffer holds its block. Of an output's nothing is said below, so that any
    contents serve here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
  Φ _ := Pipeline.ΦA spec0 c
  q w := Pipeline.shareOf spec0 w
  owed _ := 0

/-- The output windows, whose contents the frame does not speak of. -/
def outputs (w : Fin cfg0.W) : Bool := decide (10 ≤ w.val)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The invariant between the points, opened: every scratch buffer at some contents, and the generator's register. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare d)
    ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ (∃ d, owns (c : Thread nD τ) (st0_11 t) fullShare d)
    ∗ (∃ d, owns (c : Thread nD τ) (st0_12 t) fullShare d))

set_option maxHeartbeats 4000000 in
/-- The body at a point of the grid: `body_runs` at the blocks, the scratch buffers lent by the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12⟩
  iapply (body_runs c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ outputs := fun t => by
  rw [bigSep_W0, bigSep_W0, defs₀_row]
  exact triple_restated (sound_body m c t) rfl .rfl fun _ => .rfl

set_option backward.isDefEq.respectTransparency.types false in
set_option maxHeartbeats 800000 in
/-- The run of @main: it ends, every array that no output window writes holds what it held when the call began, and
    every counter is at zero. -/
theorem run : θ_run defs (onTc (τ := τ) (main (F := F))) (s₀ m ρ)
    (fun r => Pipeline.RDat.FramePost cfg0 (fun c => (dats m 0 c).toRForget outputs) (V m) r ∧ r.2.sem = fun _ => 0) :=
  Pipeline.θ_run_frame_forget_shared (Q' := _) cfgs (dats m) (0 : Fin 1) launch₀0 defs₀ Variants.none outputs m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

/-- The frame: the run ends, the arguments are as they were, the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
      (h.1.arr_in c 1 rfl).trans (V_main_arg0 m c),
      ((h.1 c).2 main_arg1 (Pipeline.mem_restRefs_of main_arg1 (by decide) (by decide))).trans (V_main_arg1 m c),
      (h.1.arr_in c 3 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (h.1.arr_in c 8 rfl).trans (V_main_arg7 m c),
      (h.1.arr_in c 9 rfl).trans (V_main_arg8 m c)⟩, h.2⟩) (run m ρ)

end Cert.LruFwdIdeal.Body

end
-- ==== Proof.LruFwdRef.lean ====
/- The frame of the reference of the recurrence's forward call. -/
module

public import proofs.«01_k».proof.Proof.Gen.LruFwdRefIdeal.Run
public import proofs.«01_k».proof.Defs

@[expose] public section

noncomputable section

namespace Cert.LruFwdRef

open Idealize.ShloMosaic Idealize.SL.Sem

/-- The reference ends, its arguments are as they were, and every counter is at zero: it has no counter. -/
theorem frame_ref : Cert.quiescent_LruFwdRefIdeal (hLruFwdRefIdeal := Cert.LruFwdRefIdeal.Gen.facts) := fun m g _ =>
  (θ_run _ _ _).mono (fun r h => ⟨fun c => (h c).2.2, sem_eq_zero_of_no_sems (by decide) r.2⟩) (Cert.LruFwdRefIdeal.Value.run m g)

end Cert.LruFwdRef

end
-- ==== Proof.lean ====
module

public import proofs.«01_k».proof.Defs
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.Pre_up_dx_finite
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.Pre_in_dx_finite
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Gen.Gm
public import proofs.«01_k».proof.Proof.Gen.Gm.Skeleton
public import proofs.«01_k».proof.Proof.Gen.Gm.Launch
public import proofs.«01_k».proof.Proof.Gen.Gm.Points
public import proofs.«01_k».proof.Proof.Gen.Gm.Frame
public import proofs.«01_k».proof.Proof.Gen.GmIdeal
public import proofs.«01_k».proof.Proof.Gen.GmIdeal.Skeleton
public import proofs.«01_k».proof.Proof.Gen.GmIdeal.Launch
public import proofs.«01_k».proof.Proof.Gen.GmIdeal.Points
public import proofs.«01_k».proof.Proof.Gen.GmIdeal.Frame
public import proofs.«01_k».proof.Proof.Gen.GmIdeal.Value
public import proofs.«01_k».proof.Proof.Gen.GmRefIdeal
public import proofs.«01_k».proof.Proof.Gen.GmRefIdeal.Run
public import proofs.«01_k».proof.Proof.Gen.GmRefIdeal.Read
public import proofs.«01_k».proof.Proof.Gen.Pre_gm_finite
public import proofs.«01_k».proof.Proof.Gen.On_gm_written
public import proofs.«01_k».proof.Proof.Gen.InDxRefIdeal.Run
public import proofs.«01_k».proof.Proof.Gen.InDxRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.GmFwd
public import proofs.«01_k».proof.Proof.Gen.GmFwd.Skeleton
public import proofs.«01_k».proof.Proof.Gen.GmFwd.Launch
public import proofs.«01_k».proof.Proof.Gen.GmFwd.Points
public import proofs.«01_k».proof.Proof.Gen.GmFwd.Frame
public import proofs.«01_k».proof.Proof.Gen.GmFwdIdeal
public import proofs.«01_k».proof.Proof.Gen.GmFwdIdeal.Skeleton
public import proofs.«01_k».proof.Proof.Gen.GmFwdIdeal.Launch
public import proofs.«01_k».proof.Proof.Gen.GmFwdIdeal.Points
public import proofs.«01_k».proof.Proof.Gen.GmFwdIdeal.Frame
public import proofs.«01_k».proof.Proof.Gen.GmFwdIdeal.Value
public import proofs.«01_k».proof.Proof.Gen.GmFwdRefIdeal
public import proofs.«01_k».proof.Proof.Gen.GmFwdRefIdeal.Run
public import proofs.«01_k».proof.Proof.Gen.GmFwdRefIdeal.Read
public import proofs.«01_k».proof.Proof.Gen.On_gm_fwd_written
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Loops
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Loops
public import proofs.«01_k».proof.Proof.Gen.LruIdeal.Frame
public import proofs.«01_k».proof.Proof.Gen.LruRefIdeal
public import proofs.«01_k».proof.Proof.Gen.LruRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.LruFwd
public import proofs.«01_k».proof.Proof.Gen.LruFwd.Skeleton
public import proofs.«01_k».proof.Proof.Gen.LruFwd.Launch
public import proofs.«01_k».proof.Proof.Gen.LruFwd.Points
public import proofs.«01_k».proof.Proof.Gen.LruFwd.Loops
public import proofs.«01_k».proof.Proof.Gen.LruFwd.Frame
public import proofs.«01_k».proof.Proof.Gen.LruFwdIdeal
public import proofs.«01_k».proof.Proof.Gen.LruFwdIdeal.Skeleton
public import proofs.«01_k».proof.Proof.Gen.LruFwdIdeal.Launch
public import proofs.«01_k».proof.Proof.Gen.LruFwdIdeal.Points
public import proofs.«01_k».proof.Proof.Gen.LruFwdIdeal.Loops
public import proofs.«01_k».proof.Proof.Gen.LruFwdIdeal.Frame
public import proofs.«01_k».proof.Proof.Gen.LruFwdRefIdeal
public import proofs.«01_k».proof.Proof.Gen.LruFwdRefIdeal.Run
public import proofs.«01_k».proof.Proof.UpDxClaim
public import proofs.«01_k».proof.Proof.InDxClaim
public import proofs.«01_k».proof.Proof.LossClaim
public import proofs.«01_k».proof.Proof.GmClaim
public import proofs.«01_k».proof.Proof.FfnClaim
public import proofs.«01_k».proof.Proof.GmFwdClaim
public import proofs.«01_k».proof.Proof.NormClaim
public import proofs.«01_k».proof.Proof.AdamClaim
public import proofs.«01_k».proof.Proof.DownDwClaim
public import proofs.«01_k».proof.Proof.UpDwClaim
public import proofs.«01_k».proof.Proof.LruFrame
public import proofs.«01_k».proof.Proof.LruIdealFrame
public import proofs.«01_k».proof.Proof.LruRef
public import proofs.«01_k».proof.Proof.LruFwdFrame
public import proofs.«01_k».proof.Proof.LruFwdIdealFrame
public import proofs.«01_k».proof.Proof.LruFwdRef
public import Idealize.ShloMosaic.Adequacy
public import Idealize.ShloMosaic.Init

@[expose] public section

noncomputable section

namespace Cert.Proof

open Idealize.ShloMosaic Idealize.SL.Sem Cert.UpDx

theorem claim : Cert.Claim := ⟨Cert.UpDx.Gen.facts, Cert.UpDxIdeal.Gen.facts, Cert.UpDxRefIdeal.Gen.facts, Cert.InDx.Gen.facts, Cert.InDxIdeal.Gen.facts,
  Cert.InDxRefIdeal.Gen.facts, Cert.Loss.Gen.facts, Cert.LossIdeal.Gen.facts, Cert.LossRefIdeal.Gen.facts,
  Cert.Gm.Gen.facts, Cert.GmIdeal.Gen.facts, Cert.GmRefIdeal.Gen.facts,
  Cert.Ffn.Gen.facts, Cert.FfnIdeal.Gen.facts, Cert.FfnRefIdeal.Gen.facts,
  Cert.GmFwd.Gen.facts, Cert.GmFwdIdeal.Gen.facts, Cert.GmFwdRefIdeal.Gen.facts,
  Cert.Norm.Gen.facts, Cert.NormIdeal.Gen.facts, Cert.NormRefIdeal.Gen.facts,
  Cert.LruFwd.Gen.facts, Cert.LruFwdIdeal.Gen.facts, Cert.LruFwdRefIdeal.Gen.facts,
  Cert.Lru.Gen.facts, Cert.LruIdeal.Gen.facts, Cert.LruRefIdeal.Gen.facts,
  Cert.Adam.Gen.facts, Cert.AdamIdeal.Gen.facts, Cert.AdamRefIdeal.Gen.facts,
  Cert.DownDw.Gen.facts, Cert.DownDwIdeal.Gen.facts, Cert.DownDwRefIdeal.Gen.facts,
  Cert.UpDw.Gen.facts, Cert.UpDwIdeal.Gen.facts, Cert.UpDwRefIdeal.Gen.facts,
  Cert.Pre_up_dx_finite.Gen.facts, Cert.Pre_in_dx_finite.Gen.facts, Cert.Pre_loss_finite.Gen.facts, Cert.Pre_gm_finite.Gen.facts, Cert.Pre_ffn_finite.Gen.facts,
  Cert.On_gm_written.Gen.facts, Cert.On_gm_fwd_written.Gen.facts,
  fun m g _ => Cert.UpDx.Gen.frame m g, fun m g _ => Cert.UpDxIdeal.Gen.frame m g, fun m g _ => Cert.UpDxIdeal.Gen.frame m g,
  UpDxClaim.frame_ref, fun m g _ => UpDxClaim.frame_ref m g trivial,
  fun m g _ => Cert.InDx.Gen.frame m g, fun m g _ => Cert.InDxIdeal.Gen.frame m g, fun m g _ => Cert.InDxIdeal.Gen.frame m g,
  InDxClaim.frame_ref, fun m g _ => InDxClaim.frame_ref m g trivial,
  fun m g _ => Cert.Loss.Gen.frame m g, fun m g _ => Cert.LossIdeal.Gen.frame m g, fun m g _ => Cert.LossIdeal.Gen.frame m g,
  LossClaim.frame_ref, fun m g _ => LossClaim.frame_ref m g trivial,
  fun m g _ => Cert.Gm.Gen.frame m g, fun m g _ => Cert.GmIdeal.Gen.frame m g, fun m g _ => Cert.GmIdeal.Gen.frame m g,
  GmClaim.frame_ref, fun m g _ => GmClaim.frame_ref m g trivial,
  fun m g _ => Cert.Ffn.Gen.frame m g, fun m g _ => Cert.FfnIdeal.Gen.frame m g, fun m g _ => Cert.FfnIdeal.Gen.frame m g,
  FfnClaim.frame_ref, fun m g _ => FfnClaim.frame_ref m g trivial,
  fun m g _ => Cert.GmFwd.Gen.frame m g, fun m g _ => Cert.GmFwdIdeal.Gen.frame m g, GmFwdClaim.frame_ref,
  fun m g _ => Cert.Norm.Gen.frame m g, fun m g _ => Cert.NormIdeal.Gen.frame m g, NormClaim.frame_ref,
  fun m g _ => Cert.LruFwd.Body.frame m g, fun m g _ => Cert.LruFwdIdeal.Body.frame m g, LruFwdRef.frame_ref,
  fun m g _ => Cert.Lru.Body.frame m g, fun m g _ => Cert.LruIdeal.Body.frame m g, LruRef.frame_ref,
  fun m g _ => Cert.Adam.Gen.frame m g, fun m g _ => Cert.AdamIdeal.Gen.frame m g, AdamClaim.frame_ref,
  fun m g _ => Cert.DownDw.Gen.frame m g, fun m g _ => Cert.DownDwIdeal.Gen.frame m g, DownDwClaim.frame_ref,
  fun m g _ => Cert.UpDw.Gen.frame m g, fun m g _ => Cert.UpDwIdeal.Gen.frame m g, UpDwClaim.frame_ref,
  trivial, UpDxClaim.value, trivial, InDxClaim.value, trivial, LossClaim.value, ⟨IdealRules.named_const.statement _ _ _ _ _ rfl, IdealRules.named_const.statement _ _ _ _ _ rfl⟩, GmClaim.value,
  ⟨IdealRules.named_const.statement _ _ _ _ _ rfl, IdealRules.named_const.statement _ _ _ _ _ rfl⟩,
  FfnClaim.value, IdealRules.named_const.statement _ _ _ _ _ rfl, GmFwdClaim.value, trivial, NormClaim.value,
  IdealRules.named_const.statement _ _ _ _ _ rfl,
  ⟨IdealRules.named_const.statement _ _ _ _ _ rfl, IdealRules.named_const.statement _ _ _ _ _ rfl⟩,
  trivial, AdamClaim.value, trivial, DownDwClaim.value, trivial, UpDwClaim.value⟩

end Cert.Proof

end
